-- ==== Defs.lean ====
def Pre_CpKernel (m : (ℓ : Loc Cert.CpKernel.nD Cert.CpKernel.τ Cert.CpKernel.sig) → Buf (Elt Bits) ℓ) : Prop :=
  True

def Pre_CpKernelIdeal (m : (ℓ : Loc Cert.CpKernelIdeal.nD Cert.CpKernelIdeal.τ Cert.CpKernelIdeal.sig) → Buf (Elt Ideal) ℓ) : Prop :=
  True

def Pre_CpKernelIdeal_finite_cp [hPre_finite_cp : Cert.Pre_finite_cp.Facts] (m : (ℓ : Loc Cert.CpKernelIdeal.nD Cert.CpKernelIdeal.τ Cert.CpKernelIdeal.sig) → Buf (Elt Ideal) ℓ) : Prop :=
  ∀ c : Dev Cert.CpKernelIdeal.nD,
    (Cert.Pre_finite_cp.fn (F := Ideal) (m ((c.tc : Thread Cert.CpKernelIdeal.nD Cert.CpKernelIdeal.τ).loc Cert.CpKernelIdeal.main_arg0)) (m ((c.tc : Thread Cert.CpKernelIdeal.nD Cert.CpKernelIdeal.τ).loc Cert.CpKernelIdeal.main_arg1)) (m ((c.tc : Thread Cert.CpKernelIdeal.nD Cert.CpKernelIdeal.τ).loc Cert.CpKernelIdeal.main_arg2)) (m ((c.tc : Thread Cert.CpKernelIdeal.nD Cert.CpKernelIdeal.τ).loc Cert.CpKernelIdeal.main_arg3)) (m ((c.tc : Thread Cert.CpKernelIdeal.nD Cert.CpKernelIdeal.τ).loc Cert.CpKernelIdeal.main_arg4)) (m ((c.tc : Thread Cert.CpKernelIdeal.nD Cert.CpKernelIdeal.τ).loc Cert.CpKernelIdeal.main_arg5)) (m ((c.tc : Thread Cert.CpKernelIdeal.nD Cert.CpKernelIdeal.τ).loc Cert.CpKernelIdeal.main_arg6)) (m ((c.tc : Thread Cert.CpKernelIdeal.nD Cert.CpKernelIdeal.τ).loc Cert.CpKernelIdeal.main_arg7)) (m ((c.tc : Thread Cert.CpKernelIdeal.nD Cert.CpKernelIdeal.τ).loc Cert.CpKernelIdeal.main_arg8))) = (fun _ => 1#1)

def Pre_CpReferenceIdeal (m : (ℓ : Loc Cert.CpReferenceIdeal.nD Cert.CpReferenceIdeal.τ Cert.CpReferenceIdeal.sig) → Buf (Elt Ideal) ℓ) : Prop :=
  True

def Pre_CpReferenceIdeal_finite_cp [hPre_finite_cp : Cert.Pre_finite_cp.Facts] (m : (ℓ : Loc Cert.CpReferenceIdeal.nD Cert.CpReferenceIdeal.τ Cert.CpReferenceIdeal.sig) → Buf (Elt Ideal) ℓ) : Prop :=
  ∀ c : Dev Cert.CpReferenceIdeal.nD,
    (Cert.Pre_finite_cp.fn (F := Ideal) (m ((c.tc : Thread Cert.CpReferenceIdeal.nD Cert.CpReferenceIdeal.τ).loc Cert.CpReferenceIdeal.main_arg0)) (m ((c.tc : Thread Cert.CpReferenceIdeal.nD Cert.CpReferenceIdeal.τ).loc Cert.CpReferenceIdeal.main_arg1)) (m ((c.tc : Thread Cert.CpReferenceIdeal.nD Cert.CpReferenceIdeal.τ).loc Cert.CpReferenceIdeal.main_arg2)) (m ((c.tc : Thread Cert.CpReferenceIdeal.nD Cert.CpReferenceIdeal.τ).loc Cert.CpReferenceIdeal.main_arg3)) (m ((c.tc : Thread Cert.CpReferenceIdeal.nD Cert.CpReferenceIdeal.τ).loc Cert.CpReferenceIdeal.main_arg4)) (m ((c.tc : Thread Cert.CpReferenceIdeal.nD Cert.CpReferenceIdeal.τ).loc Cert.CpReferenceIdeal.main_arg5)) (m ((c.tc : Thread Cert.CpReferenceIdeal.nD Cert.CpReferenceIdeal.τ).loc Cert.CpReferenceIdeal.main_arg6)) (m ((c.tc : Thread Cert.CpReferenceIdeal.nD Cert.CpReferenceIdeal.τ).loc Cert.CpReferenceIdeal.main_arg7)) (m ((c.tc : Thread Cert.CpReferenceIdeal.nD Cert.CpReferenceIdeal.τ).loc Cert.CpReferenceIdeal.main_arg8))) = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_HeadKernel (m : (ℓ : Loc Cert.HeadKernel.nD Cert.HeadKernel.τ Cert.HeadKernel.sig) → Buf (Elt Bits) ℓ) : Prop :=
  True

def Pre_HeadKernelIdeal (m : (ℓ : Loc Cert.HeadKernelIdeal.nD Cert.HeadKernelIdeal.τ Cert.HeadKernelIdeal.sig) → Buf (Elt Ideal) ℓ) : Prop :=
  True

def Pre_HeadReferenceIdeal (m : (ℓ : Loc Cert.HeadReferenceIdeal.nD Cert.HeadReferenceIdeal.τ Cert.HeadReferenceIdeal.sig) → Buf (Elt Ideal) ℓ) : Prop :=
  True

def Pre_RestKernel (m : (ℓ : Loc Cert.RestKernel.nD Cert.RestKernel.τ Cert.RestKernel.sig) → Buf (Elt Bits) ℓ) : Prop :=
  True

def Pre_RestKernelIdeal (m : (ℓ : Loc Cert.RestKernelIdeal.nD Cert.RestKernelIdeal.τ Cert.RestKernelIdeal.sig) → Buf (Elt Ideal) ℓ) : Prop :=
  True

def Pre_RestReferenceIdeal (m : (ℓ : Loc Cert.RestReferenceIdeal.nD Cert.RestReferenceIdeal.τ Cert.RestReferenceIdeal.sig) → Buf (Elt Ideal) ℓ) : Prop :=
  True

def Pre_WgradKernel (m : (ℓ : Loc Cert.WgradKernel.nD Cert.WgradKernel.τ Cert.WgradKernel.sig) → Buf (Elt Bits) ℓ) : Prop :=
  True

def Pre_WgradKernelIdeal (m : (ℓ : Loc Cert.WgradKernelIdeal.nD Cert.WgradKernelIdeal.τ Cert.WgradKernelIdeal.sig) → Buf (Elt Ideal) ℓ) : Prop :=
  True

def Pre_WgradReferenceIdeal (m : (ℓ : Loc Cert.WgradReferenceIdeal.nD Cert.WgradReferenceIdeal.τ Cert.WgradReferenceIdeal.sig) → Buf (Elt Ideal) ℓ) : Prop :=
  True

def Pre_GlafKernel (m : (ℓ : Loc Cert.GlafKernel.nD Cert.GlafKernel.τ Cert.GlafKernel.sig) → Buf (Elt Bits) ℓ) : Prop :=
  True

def Pre_GlafKernelIdeal (m : (ℓ : Loc Cert.GlafKernelIdeal.nD Cert.GlafKernelIdeal.τ Cert.GlafKernelIdeal.sig) → Buf (Elt Ideal) ℓ) : Prop :=
  True

def Pre_GlafReferenceIdeal (m : (ℓ : Loc Cert.GlafReferenceIdeal.nD Cert.GlafReferenceIdeal.τ Cert.GlafReferenceIdeal.sig) → Buf (Elt Ideal) ℓ) : Prop :=
  True

def Pre_CpfKernel (m : (ℓ : Loc Cert.CpfKernel.nD Cert.CpfKernel.τ Cert.CpfKernel.sig) → Buf (Elt Bits) ℓ) : Prop :=
  True

def Pre_CpfKernelIdeal (m : (ℓ : Loc Cert.CpfKernelIdeal.nD Cert.CpfKernelIdeal.τ Cert.CpfKernelIdeal.sig) → Buf (Elt Ideal) ℓ) : Prop :=
  True

def Pre_CpfKernelIdeal_finite_cpf [hPre_finite_cpf : Cert.Pre_finite_cpf.Facts] (m : (ℓ : Loc Cert.CpfKernelIdeal.nD Cert.CpfKernelIdeal.τ Cert.CpfKernelIdeal.sig) → Buf (Elt Ideal) ℓ) : Prop :=
  ∀ c : Dev Cert.CpfKernelIdeal.nD,
    (Cert.Pre_finite_cpf.fn (F := Ideal) (m ((c.tc : Thread Cert.CpfKernelIdeal.nD Cert.CpfKernelIdeal.τ).loc Cert.CpfKernelIdeal.main_arg0)) (m ((c.tc : Thread Cert.CpfKernelIdeal.nD Cert.CpfKernelIdeal.τ).loc Cert.CpfKernelIdeal.main_arg1)) (m ((c.tc : Thread Cert.CpfKernelIdeal.nD Cert.CpfKernelIdeal.τ).loc Cert.CpfKernelIdeal.main_arg2)) (m ((c.tc : Thread Cert.CpfKernelIdeal.nD Cert.CpfKernelIdeal.τ).loc Cert.CpfKernelIdeal.main_arg3)) (m ((c.tc : Thread Cert.CpfKernelIdeal.nD Cert.CpfKernelIdeal.τ).loc Cert.CpfKernelIdeal.main_arg4)) (m ((c.tc : Thread Cert.CpfKernelIdeal.nD Cert.CpfKernelIdeal.τ).loc Cert.CpfKernelIdeal.main_arg5)) (m ((c.tc : Thread Cert.CpfKernelIdeal.nD Cert.CpfKernelIdeal.τ).loc Cert.CpfKernelIdeal.main_arg6))) = (fun _ => 1#1)

def Pre_CpfReferenceIdeal (m : (ℓ : Loc Cert.CpfReferenceIdeal.nD Cert.CpfReferenceIdeal.τ Cert.CpfReferenceIdeal.sig) → Buf (Elt Ideal) ℓ) : Prop :=
  True

def Pre_CpfReferenceIdeal_finite_cpf [hPre_finite_cpf : Cert.Pre_finite_cpf.Facts] (m : (ℓ : Loc Cert.CpfReferenceIdeal.nD Cert.CpfReferenceIdeal.τ Cert.CpfReferenceIdeal.sig) → Buf (Elt Ideal) ℓ) : Prop :=
  ∀ c : Dev Cert.CpfReferenceIdeal.nD,
    (Cert.Pre_finite_cpf.fn (F := Ideal) (m ((c.tc : Thread Cert.CpfReferenceIdeal.nD Cert.CpfReferenceIdeal.τ).loc Cert.CpfReferenceIdeal.main_arg0)) (m ((c.tc : Thread Cert.CpfReferenceIdeal.nD Cert.CpfReferenceIdeal.τ).loc Cert.CpfReferenceIdeal.main_arg1)) (m ((c.tc : Thread Cert.CpfReferenceIdeal.nD Cert.CpfReferenceIdeal.τ).loc Cert.CpfReferenceIdeal.main_arg2)) (m ((c.tc : Thread Cert.CpfReferenceIdeal.nD Cert.CpfReferenceIdeal.τ).loc Cert.CpfReferenceIdeal.main_arg3)) (m ((c.tc : Thread Cert.CpfReferenceIdeal.nD Cert.CpfReferenceIdeal.τ).loc Cert.CpfReferenceIdeal.main_arg4)) (m ((c.tc : Thread Cert.CpfReferenceIdeal.nD Cert.CpfReferenceIdeal.τ).loc Cert.CpfReferenceIdeal.main_arg5)) (m ((c.tc : Thread Cert.CpfReferenceIdeal.nD Cert.CpfReferenceIdeal.τ).loc Cert.CpfReferenceIdeal.main_arg6))) = (fun _ => 1#1)

def Pre_NmKernel (m : (ℓ : Loc Cert.NmKernel.nD Cert.NmKernel.τ Cert.NmKernel.sig) → Buf (Elt Bits) ℓ) : Prop :=
  True

def Pre_NmKernelIdeal (m : (ℓ : Loc Cert.NmKernelIdeal.nD Cert.NmKernelIdeal.τ Cert.NmKernelIdeal.sig) → Buf (Elt Ideal) ℓ) : Prop :=
  True

def Pre_NmReferenceIdeal (m : (ℓ : Loc Cert.NmReferenceIdeal.nD Cert.NmReferenceIdeal.τ Cert.NmReferenceIdeal.sig) → Buf (Elt Ideal) ℓ) : Prop :=
  True

def Pre_NcKernel (m : (ℓ : Loc Cert.NcKernel.nD Cert.NcKernel.τ Cert.NcKernel.sig) → Buf (Elt Bits) ℓ) : Prop :=
  True

def Pre_NcKernelIdeal (m : (ℓ : Loc Cert.NcKernelIdeal.nD Cert.NcKernelIdeal.τ Cert.NcKernelIdeal.sig) → Buf (Elt Ideal) ℓ) : Prop :=
  True

def Pre_NcReferenceIdeal (m : (ℓ : Loc Cert.NcReferenceIdeal.nD Cert.NcReferenceIdeal.τ Cert.NcReferenceIdeal.sig) → Buf (Elt Ideal) ℓ) : Prop :=
  True

def Pre_FfKernel (m : (ℓ : Loc Cert.FfKernel.nD Cert.FfKernel.τ Cert.FfKernel.sig) → Buf (Elt Bits) ℓ) : Prop :=
  True

def Pre_FfKernelIdeal (m : (ℓ : Loc Cert.FfKernelIdeal.nD Cert.FfKernelIdeal.τ Cert.FfKernelIdeal.sig) → Buf (Elt Ideal) ℓ) : Prop :=
  True

def Pre_FfReferenceIdeal (m : (ℓ : Loc Cert.FfReferenceIdeal.nD Cert.FfReferenceIdeal.τ Cert.FfReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_WplainKernel (m : (ℓ : Loc Cert.WplainKernel.nD Cert.WplainKernel.τ Cert.WplainKernel.sig) → Buf (Elt Bits) ℓ) : Prop :=
  True

def Pre_WplainKernelIdeal (m : (ℓ : Loc Cert.WplainKernelIdeal.nD Cert.WplainKernelIdeal.τ Cert.WplainKernelIdeal.sig) → Buf (Elt Ideal) ℓ) : Prop :=
  True

def Pre_WplainReferenceIdeal (m : (ℓ : Loc Cert.WplainReferenceIdeal.nD Cert.WplainReferenceIdeal.τ Cert.WplainReferenceIdeal.sig) → Buf (Elt Ideal) ℓ) : Prop :=
  True

def Pre_SlotsKernel (m : (ℓ : Loc Cert.SlotsKernel.nD Cert.SlotsKernel.τ Cert.SlotsKernel.sig) → Buf (Elt Bits) ℓ) : Prop :=
  True

def Pre_SlotsKernelIdeal (m : (ℓ : Loc Cert.SlotsKernelIdeal.nD Cert.SlotsKernelIdeal.τ Cert.SlotsKernelIdeal.sig) → Buf (Elt Ideal) ℓ) : Prop :=
  True

def Pre_SlotsReferenceIdeal (m : (ℓ : Loc Cert.SlotsReferenceIdeal.nD Cert.SlotsReferenceIdeal.τ Cert.SlotsReferenceIdeal.sig) → Buf (Elt Ideal) ℓ) : Prop :=
  True

def Pre_TwoKernel (m : (ℓ : Loc Cert.TwoKernel.nD Cert.TwoKernel.τ Cert.TwoKernel.sig) → Buf (Elt Bits) ℓ) : Prop :=
  True

def Pre_TwoKernelIdeal (m : (ℓ : Loc Cert.TwoKernelIdeal.nD Cert.TwoKernelIdeal.τ Cert.TwoKernelIdeal.sig) → Buf (Elt Ideal) ℓ) : Prop :=
  True

def Pre_TwoReferenceIdeal (m : (ℓ : Loc Cert.TwoReferenceIdeal.nD Cert.TwoReferenceIdeal.τ Cert.TwoReferenceIdeal.sig) → Buf (Elt Ideal) ℓ) : Prop :=
  True

def Pre_SmallKernel (m : (ℓ : Loc Cert.SmallKernel.nD Cert.SmallKernel.τ Cert.SmallKernel.sig) → Buf (Elt Bits) ℓ) : Prop :=
  True

def Pre_SmallKernelIdeal (m : (ℓ : Loc Cert.SmallKernelIdeal.nD Cert.SmallKernelIdeal.τ Cert.SmallKernelIdeal.sig) → Buf (Elt Ideal) ℓ) : Prop :=
  True

def Pre_SmallReferenceIdeal (m : (ℓ : Loc Cert.SmallReferenceIdeal.nD Cert.SmallReferenceIdeal.τ Cert.SmallReferenceIdeal.sig) → Buf (Elt Ideal) ℓ) : Prop :=
  True

def Pre_OwnKernel (m : (ℓ : Loc Cert.OwnKernel.nD Cert.OwnKernel.τ Cert.OwnKernel.sig) → Buf (Elt Bits) ℓ) : Prop :=
  True

def Pre_OwnKernelIdeal (m : (ℓ : Loc Cert.OwnKernelIdeal.nD Cert.OwnKernelIdeal.τ Cert.OwnKernelIdeal.sig) → Buf (Elt Ideal) ℓ) : Prop :=
  True

def Pre_OwnReferenceIdeal (m : (ℓ : Loc Cert.OwnReferenceIdeal.nD Cert.OwnReferenceIdeal.τ Cert.OwnReferenceIdeal.sig) → Buf (Elt Ideal) ℓ) : Prop :=
  True

def Pre_StepKernel (m : (ℓ : Loc Cert.StepKernel.nD Cert.StepKernel.τ Cert.StepKernel.sig) → Buf (Elt Bits) ℓ) : Prop :=
  True

def Pre_StepKernelIdeal (m : (ℓ : Loc Cert.StepKernelIdeal.nD Cert.StepKernelIdeal.τ Cert.StepKernelIdeal.sig) → Buf (Elt Ideal) ℓ) : Prop :=
  True

def Pre_StepReferenceIdeal (m : (ℓ : Loc Cert.StepReferenceIdeal.nD Cert.StepReferenceIdeal.τ Cert.StepReferenceIdeal.sig) → Buf (Elt Ideal) ℓ) : Prop :=
  True

def quiescent_CpKernel [hCpKernel : Cert.CpKernel.Facts] : Prop :=
  ∀ (m : (ℓ : Loc Cert.CpKernel.nD Cert.CpKernel.τ Cert.CpKernel.sig) → Buf (Elt Bits) ℓ) (g : Dev Cert.CpKernel.nD → PrngReg), Pre_CpKernel m →
    θ_run (Cert.CpKernel.defs (F := Bits)) (onTc (τ := Cert.CpKernel.τ) (Cert.CpKernel.main (F := Bits))) ⟨m, fun _ => 0, g⟩ (fun r => (∀ c : Dev Cert.CpKernel.nD,
      r.2.mem ((c.tc : Thread Cert.CpKernel.nD Cert.CpKernel.τ).loc Cert.CpKernel.main_arg0) = m ((c.tc : Thread Cert.CpKernel.nD Cert.CpKernel.τ).loc Cert.CpKernel.main_arg0)
      ∧ r.2.mem ((c.tc : Thread Cert.CpKernel.nD Cert.CpKernel.τ).loc Cert.CpKernel.main_arg1) = m ((c.tc : Thread Cert.CpKernel.nD Cert.CpKernel.τ).loc Cert.CpKernel.main_arg1)
      ∧ r.2.mem ((c.tc : Thread Cert.CpKernel.nD Cert.CpKernel.τ).loc Cert.CpKernel.main_arg2) = m ((c.tc : Thread Cert.CpKernel.nD Cert.CpKernel.τ).loc Cert.CpKernel.main_arg2)
      ∧ r.2.mem ((c.tc : Thread Cert.CpKernel.nD Cert.CpKernel.τ).loc Cert.CpKernel.main_arg3) = m ((c.tc : Thread Cert.CpKernel.nD Cert.CpKernel.τ).loc Cert.CpKernel.main_arg3)
      ∧ r.2.mem ((c.tc : Thread Cert.CpKernel.nD Cert.CpKernel.τ).loc Cert.CpKernel.main_arg4) = m ((c.tc : Thread Cert.CpKernel.nD Cert.CpKernel.τ).loc Cert.CpKernel.main_arg4)
      ∧ r.2.mem ((c.tc : Thread Cert.CpKernel.nD Cert.CpKernel.τ).loc Cert.CpKernel.main_arg5) = m ((c.tc : Thread Cert.CpKernel.nD Cert.CpKernel.τ).loc Cert.CpKernel.main_arg5)
      ∧ r.2.mem ((c.tc : Thread Cert.CpKernel.nD Cert.CpKernel.τ).loc Cert.CpKernel.main_arg6) = m ((c.tc : Thread Cert.CpKernel.nD Cert.CpKernel.τ).loc Cert.CpKernel.main_arg6)
      ∧ r.2.mem ((c.tc : Thread Cert.CpKernel.nD Cert.CpKernel.τ).loc Cert.CpKernel.main_arg7) = m ((c.tc : Thread Cert.CpKernel.nD Cert.CpKernel.τ).loc Cert.CpKernel.main_arg7)
      ∧ r.2.mem ((c.tc : Thread Cert.CpKernel.nD Cert.CpKernel.τ).loc Cert.CpKernel.main_arg8) = m ((c.tc : Thread Cert.CpKernel.nD Cert.CpKernel.τ).loc Cert.CpKernel.main_arg8))
      ∧ r.2.sem = fun _ => 0)

def quiescent_CpKernelIdeal [hCpKernelIdeal : Cert.CpKernelIdeal.Facts] : Prop :=
  ∀ (m : (ℓ : Loc Cert.CpKernelIdeal.nD Cert.CpKernelIdeal.τ Cert.CpKernelIdeal.sig) → Buf (Elt Ideal) ℓ) (g : Dev Cert.CpKernelIdeal.nD → PrngReg), Pre_CpKernelIdeal m →
    θ_run (Cert.CpKernelIdeal.defs (F := Ideal)) (onTc (τ := Cert.CpKernelIdeal.τ) (Cert.CpKernelIdeal.main (F := Ideal))) ⟨m, fun _ => 0, g⟩ (fun r => (∀ c : Dev Cert.CpKernelIdeal.nD,
      r.2.mem ((c.tc : Thread Cert.CpKernelIdeal.nD Cert.CpKernelIdeal.τ).loc Cert.CpKernelIdeal.main_arg0) = m ((c.tc : Thread Cert.CpKernelIdeal.nD Cert.CpKernelIdeal.τ).loc Cert.CpKernelIdeal.main_arg0)
      ∧ r.2.mem ((c.tc : Thread Cert.CpKernelIdeal.nD Cert.CpKernelIdeal.τ).loc Cert.CpKernelIdeal.main_arg1) = m ((c.tc : Thread Cert.CpKernelIdeal.nD Cert.CpKernelIdeal.τ).loc Cert.CpKernelIdeal.main_arg1)
      ∧ r.2.mem ((c.tc : Thread Cert.CpKernelIdeal.nD Cert.CpKernelIdeal.τ).loc Cert.CpKernelIdeal.main_arg2) = m ((c.tc : Thread Cert.CpKernelIdeal.nD Cert.CpKernelIdeal.τ).loc Cert.CpKernelIdeal.main_arg2)
      ∧ r.2.mem ((c.tc : Thread Cert.CpKernelIdeal.nD Cert.CpKernelIdeal.τ).loc Cert.CpKernelIdeal.main_arg3) = m ((c.tc : Thread Cert.CpKernelIdeal.nD Cert.CpKernelIdeal.τ).loc Cert.CpKernelIdeal.main_arg3)
      ∧ r.2.mem ((c.tc : Thread Cert.CpKernelIdeal.nD Cert.CpKernelIdeal.τ).loc Cert.CpKernelIdeal.main_arg4) = m ((c.tc : Thread Cert.CpKernelIdeal.nD Cert.CpKernelIdeal.τ).loc Cert.CpKernelIdeal.main_arg4)
      ∧ r.2.mem ((c.tc : Thread Cert.CpKernelIdeal.nD Cert.CpKernelIdeal.τ).loc Cert.CpKernelIdeal.main_arg5) = m ((c.tc : Thread Cert.CpKernelIdeal.nD Cert.CpKernelIdeal.τ).loc Cert.CpKernelIdeal.main_arg5)
      ∧ r.2.mem ((c.tc : Thread Cert.CpKernelIdeal.nD Cert.CpKernelIdeal.τ).loc Cert.CpKernelIdeal.main_arg6) = m ((c.tc : Thread Cert.CpKernelIdeal.nD Cert.CpKernelIdeal.τ).loc Cert.CpKernelIdeal.main_arg6)
      ∧ r.2.mem ((c.tc : Thread Cert.CpKernelIdeal.nD Cert.CpKernelIdeal.τ).loc Cert.CpKernelIdeal.main_arg7) = m ((c.tc : Thread Cert.CpKernelIdeal.nD Cert.CpKernelIdeal.τ).loc Cert.CpKernelIdeal.main_arg7)
      ∧ r.2.mem ((c.tc : Thread Cert.CpKernelIdeal.nD Cert.CpKernelIdeal.τ).loc Cert.CpKernelIdeal.main_arg8) = m ((c.tc : Thread Cert.CpKernelIdeal.nD Cert.CpKernelIdeal.τ).loc Cert.CpKernelIdeal.main_arg8))
      ∧ r.2.sem = fun _ => 0)

def quiescent_CpKernelIdeal_pre_finite_cp [hCpKernelIdeal : Cert.CpKernelIdeal.Facts] [hPre_finite_cp : Cert.Pre_finite_cp.Facts] : Prop :=
  ∀ (m : (ℓ : Loc Cert.CpKernelIdeal.nD Cert.CpKernelIdeal.τ Cert.CpKernelIdeal.sig) → Buf (Elt Ideal) ℓ) (g : Dev Cert.CpKernelIdeal.nD → PrngReg), Pre_CpKernelIdeal_finite_cp m →
    θ_run (Cert.CpKernelIdeal.defs (F := Ideal)) (onTc (τ := Cert.CpKernelIdeal.τ) (Cert.CpKernelIdeal.main (F := Ideal))) ⟨m, fun _ => 0, g⟩ (fun r => (∀ c : Dev Cert.CpKernelIdeal.nD,
      r.2.mem ((c.tc : Thread Cert.CpKernelIdeal.nD Cert.CpKernelIdeal.τ).loc Cert.CpKernelIdeal.main_arg0) = m ((c.tc : Thread Cert.CpKernelIdeal.nD Cert.CpKernelIdeal.τ).loc Cert.CpKernelIdeal.main_arg0)
      ∧ r.2.mem ((c.tc : Thread Cert.CpKernelIdeal.nD Cert.CpKernelIdeal.τ).loc Cert.CpKernelIdeal.main_arg1) = m ((c.tc : Thread Cert.CpKernelIdeal.nD Cert.CpKernelIdeal.τ).loc Cert.CpKernelIdeal.main_arg1)
      ∧ r.2.mem ((c.tc : Thread Cert.CpKernelIdeal.nD Cert.CpKernelIdeal.τ).loc Cert.CpKernelIdeal.main_arg2) = m ((c.tc : Thread Cert.CpKernelIdeal.nD Cert.CpKernelIdeal.τ).loc Cert.CpKernelIdeal.main_arg2)
      ∧ r.2.mem ((c.tc : Thread Cert.CpKernelIdeal.nD Cert.CpKernelIdeal.τ).loc Cert.CpKernelIdeal.main_arg3) = m ((c.tc : Thread Cert.CpKernelIdeal.nD Cert.CpKernelIdeal.τ).loc Cert.CpKernelIdeal.main_arg3)
      ∧ r.2.mem ((c.tc : Thread Cert.CpKernelIdeal.nD Cert.CpKernelIdeal.τ).loc Cert.CpKernelIdeal.main_arg4) = m ((c.tc : Thread Cert.CpKernelIdeal.nD Cert.CpKernelIdeal.τ).loc Cert.CpKernelIdeal.main_arg4)
      ∧ r.2.mem ((c.tc : Thread Cert.CpKernelIdeal.nD Cert.CpKernelIdeal.τ).loc Cert.CpKernelIdeal.main_arg5) = m ((c.tc : Thread Cert.CpKernelIdeal.nD Cert.CpKernelIdeal.τ).loc Cert.CpKernelIdeal.main_arg5)
      ∧ r.2.mem ((c.tc : Thread Cert.CpKernelIdeal.nD Cert.CpKernelIdeal.τ).loc Cert.CpKernelIdeal.main_arg6) = m ((c.tc : Thread Cert.CpKernelIdeal.nD Cert.CpKernelIdeal.τ).loc Cert.CpKernelIdeal.main_arg6)
      ∧ r.2.mem ((c.tc : Thread Cert.CpKernelIdeal.nD Cert.CpKernelIdeal.τ).loc Cert.CpKernelIdeal.main_arg7) = m ((c.tc : Thread Cert.CpKernelIdeal.nD Cert.CpKernelIdeal.τ).loc Cert.CpKernelIdeal.main_arg7)
      ∧ r.2.mem ((c.tc : Thread Cert.CpKernelIdeal.nD Cert.CpKernelIdeal.τ).loc Cert.CpKernelIdeal.main_arg8) = m ((c.tc : Thread Cert.CpKernelIdeal.nD Cert.CpKernelIdeal.τ).loc Cert.CpKernelIdeal.main_arg8))
      ∧ r.2.sem = fun _ => 0)

def quiescent_CpReferenceIdeal [hCpReferenceIdeal : Cert.CpReferenceIdeal.Facts] : Prop :=
  ∀ (m : (ℓ : Loc Cert.CpReferenceIdeal.nD Cert.CpReferenceIdeal.τ Cert.CpReferenceIdeal.sig) → Buf (Elt Ideal) ℓ) (g : Dev Cert.CpReferenceIdeal.nD → PrngReg), Pre_CpReferenceIdeal m →
    θ_run (Cert.CpReferenceIdeal.defs (F := Ideal)) (onTc (τ := Cert.CpReferenceIdeal.τ) (Cert.CpReferenceIdeal.main (F := Ideal))) ⟨m, fun _ => 0, g⟩ (fun r => (∀ c : Dev Cert.CpReferenceIdeal.nD,
      r.2.mem ((c.tc : Thread Cert.CpReferenceIdeal.nD Cert.CpReferenceIdeal.τ).loc Cert.CpReferenceIdeal.main_arg0) = m ((c.tc : Thread Cert.CpReferenceIdeal.nD Cert.CpReferenceIdeal.τ).loc Cert.CpReferenceIdeal.main_arg0)
      ∧ r.2.mem ((c.tc : Thread Cert.CpReferenceIdeal.nD Cert.CpReferenceIdeal.τ).loc Cert.CpReferenceIdeal.main_arg1) = m ((c.tc : Thread Cert.CpReferenceIdeal.nD Cert.CpReferenceIdeal.τ).loc Cert.CpReferenceIdeal.main_arg1)
      ∧ r.2.mem ((c.tc : Thread Cert.CpReferenceIdeal.nD Cert.CpReferenceIdeal.τ).loc Cert.CpReferenceIdeal.main_arg2) = m ((c.tc : Thread Cert.CpReferenceIdeal.nD Cert.CpReferenceIdeal.τ).loc Cert.CpReferenceIdeal.main_arg2)
      ∧ r.2.mem ((c.tc : Thread Cert.CpReferenceIdeal.nD Cert.CpReferenceIdeal.τ).loc Cert.CpReferenceIdeal.main_arg3) = m ((c.tc : Thread Cert.CpReferenceIdeal.nD Cert.CpReferenceIdeal.τ).loc Cert.CpReferenceIdeal.main_arg3)
      ∧ r.2.mem ((c.tc : Thread Cert.CpReferenceIdeal.nD Cert.CpReferenceIdeal.τ).loc Cert.CpReferenceIdeal.main_arg4) = m ((c.tc : Thread Cert.CpReferenceIdeal.nD Cert.CpReferenceIdeal.τ).loc Cert.CpReferenceIdeal.main_arg4)
      ∧ r.2.mem ((c.tc : Thread Cert.CpReferenceIdeal.nD Cert.CpReferenceIdeal.τ).loc Cert.CpReferenceIdeal.main_arg5) = m ((c.tc : Thread Cert.CpReferenceIdeal.nD Cert.CpReferenceIdeal.τ).loc Cert.CpReferenceIdeal.main_arg5)
      ∧ r.2.mem ((c.tc : Thread Cert.CpReferenceIdeal.nD Cert.CpReferenceIdeal.τ).loc Cert.CpReferenceIdeal.main_arg6) = m ((c.tc : Thread Cert.CpReferenceIdeal.nD Cert.CpReferenceIdeal.τ).loc Cert.CpReferenceIdeal.main_arg6)
      ∧ r.2.mem ((c.tc : Thread Cert.CpReferenceIdeal.nD Cert.CpReferenceIdeal.τ).loc Cert.CpReferenceIdeal.main_arg7) = m ((c.tc : Thread Cert.CpReferenceIdeal.nD Cert.CpReferenceIdeal.τ).loc Cert.CpReferenceIdeal.main_arg7)
      ∧ r.2.mem ((c.tc : Thread Cert.CpReferenceIdeal.nD Cert.CpReferenceIdeal.τ).loc Cert.CpReferenceIdeal.main_arg8) = m ((c.tc : Thread Cert.CpReferenceIdeal.nD Cert.CpReferenceIdeal.τ).loc Cert.CpReferenceIdeal.main_arg8))
      ∧ r.2.sem = fun _ => 0)

def quiescent_CpReferenceIdeal_pre_finite_cp [hCpReferenceIdeal : Cert.CpReferenceIdeal.Facts] [hPre_finite_cp : Cert.Pre_finite_cp.Facts] : Prop :=
  ∀ (m : (ℓ : Loc Cert.CpReferenceIdeal.nD Cert.CpReferenceIdeal.τ Cert.CpReferenceIdeal.sig) → Buf (Elt Ideal) ℓ) (g : Dev Cert.CpReferenceIdeal.nD → PrngReg), Pre_CpReferenceIdeal_finite_cp m →
    θ_run (Cert.CpReferenceIdeal.defs (F := Ideal)) (onTc (τ := Cert.CpReferenceIdeal.τ) (Cert.CpReferenceIdeal.main (F := Ideal))) ⟨m, fun _ => 0, g⟩ (fun r => (∀ c : Dev Cert.CpReferenceIdeal.nD,
      r.2.mem ((c.tc : Thread Cert.CpReferenceIdeal.nD Cert.CpReferenceIdeal.τ).loc Cert.CpReferenceIdeal.main_arg0) = m ((c.tc : Thread Cert.CpReferenceIdeal.nD Cert.CpReferenceIdeal.τ).loc Cert.CpReferenceIdeal.main_arg0)
      ∧ r.2.mem ((c.tc : Thread Cert.CpReferenceIdeal.nD Cert.CpReferenceIdeal.τ).loc Cert.CpReferenceIdeal.main_arg1) = m ((c.tc : Thread Cert.CpReferenceIdeal.nD Cert.CpReferenceIdeal.τ).loc Cert.CpReferenceIdeal.main_arg1)
      ∧ r.2.mem ((c.tc : Thread Cert.CpReferenceIdeal.nD Cert.CpReferenceIdeal.τ).loc Cert.CpReferenceIdeal.main_arg2) = m ((c.tc : Thread Cert.CpReferenceIdeal.nD Cert.CpReferenceIdeal.τ).loc Cert.CpReferenceIdeal.main_arg2)
      ∧ r.2.mem ((c.tc : Thread Cert.CpReferenceIdeal.nD Cert.CpReferenceIdeal.τ).loc Cert.CpReferenceIdeal.main_arg3) = m ((c.tc : Thread Cert.CpReferenceIdeal.nD Cert.CpReferenceIdeal.τ).loc Cert.CpReferenceIdeal.main_arg3)
      ∧ r.2.mem ((c.tc : Thread Cert.CpReferenceIdeal.nD Cert.CpReferenceIdeal.τ).loc Cert.CpReferenceIdeal.main_arg4) = m ((c.tc : Thread Cert.CpReferenceIdeal.nD Cert.CpReferenceIdeal.τ).loc Cert.CpReferenceIdeal.main_arg4)
      ∧ r.2.mem ((c.tc : Thread Cert.CpReferenceIdeal.nD Cert.CpReferenceIdeal.τ).loc Cert.CpReferenceIdeal.main_arg5) = m ((c.tc : Thread Cert.CpReferenceIdeal.nD Cert.CpReferenceIdeal.τ).loc Cert.CpReferenceIdeal.main_arg5)
      ∧ r.2.mem ((c.tc : Thread Cert.CpReferenceIdeal.nD Cert.CpReferenceIdeal.τ).loc Cert.CpReferenceIdeal.main_arg6) = m ((c.tc : Thread Cert.CpReferenceIdeal.nD Cert.CpReferenceIdeal.τ).loc Cert.CpReferenceIdeal.main_arg6)
      ∧ r.2.mem ((c.tc : Thread Cert.CpReferenceIdeal.nD Cert.CpReferenceIdeal.τ).loc Cert.CpReferenceIdeal.main_arg7) = m ((c.tc : Thread Cert.CpReferenceIdeal.nD Cert.CpReferenceIdeal.τ).loc Cert.CpReferenceIdeal.main_arg7)
      ∧ r.2.mem ((c.tc : Thread Cert.CpReferenceIdeal.nD Cert.CpReferenceIdeal.τ).loc Cert.CpReferenceIdeal.main_arg8) = m ((c.tc : Thread Cert.CpReferenceIdeal.nD Cert.CpReferenceIdeal.τ).loc Cert.CpReferenceIdeal.main_arg8))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1)
      ∧ r.2.mem ((c.tc : Thread Cert.NormKernel.nD Cert.NormKernel.τ).loc Cert.NormKernel.main_arg2) = m ((c.tc : Thread Cert.NormKernel.nD Cert.NormKernel.τ).loc Cert.NormKernel.main_arg2)
      ∧ r.2.mem ((c.tc : Thread Cert.NormKernel.nD Cert.NormKernel.τ).loc Cert.NormKernel.main_arg3) = m ((c.tc : Thread Cert.NormKernel.nD Cert.NormKernel.τ).loc Cert.NormKernel.main_arg3)
      ∧ r.2.mem ((c.tc : Thread Cert.NormKernel.nD Cert.NormKernel.τ).loc Cert.NormKernel.main_arg4) = m ((c.tc : Thread Cert.NormKernel.nD Cert.NormKernel.τ).loc Cert.NormKernel.main_arg4))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
      ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_HeadKernel [hHeadKernel : Cert.HeadKernel.Facts] : Prop :=
  ∀ (m : (ℓ : Loc Cert.HeadKernel.nD Cert.HeadKernel.τ Cert.HeadKernel.sig) → Buf (Elt Bits) ℓ) (g : Dev Cert.HeadKernel.nD → PrngReg), Pre_HeadKernel m →
    θ_run (Cert.HeadKernel.defs (F := Bits)) (onTc (τ := Cert.HeadKernel.τ) (Cert.HeadKernel.main (F := Bits))) ⟨m, fun _ => 0, g⟩ (fun r => (∀ c : Dev Cert.HeadKernel.nD,
      r.2.mem ((c.tc : Thread Cert.HeadKernel.nD Cert.HeadKernel.τ).loc Cert.HeadKernel.main_arg0) = m ((c.tc : Thread Cert.HeadKernel.nD Cert.HeadKernel.τ).loc Cert.HeadKernel.main_arg0)
      ∧ r.2.mem ((c.tc : Thread Cert.HeadKernel.nD Cert.HeadKernel.τ).loc Cert.HeadKernel.main_arg1) = m ((c.tc : Thread Cert.HeadKernel.nD Cert.HeadKernel.τ).loc Cert.HeadKernel.main_arg1)
      ∧ r.2.mem ((c.tc : Thread Cert.HeadKernel.nD Cert.HeadKernel.τ).loc Cert.HeadKernel.main_arg2) = m ((c.tc : Thread Cert.HeadKernel.nD Cert.HeadKernel.τ).loc Cert.HeadKernel.main_arg2)
      ∧ r.2.mem ((c.tc : Thread Cert.HeadKernel.nD Cert.HeadKernel.τ).loc Cert.HeadKernel.main_arg3) = m ((c.tc : Thread Cert.HeadKernel.nD Cert.HeadKernel.τ).loc Cert.HeadKernel.main_arg3)
      ∧ r.2.mem ((c.tc : Thread Cert.HeadKernel.nD Cert.HeadKernel.τ).loc Cert.HeadKernel.main_arg4) = m ((c.tc : Thread Cert.HeadKernel.nD Cert.HeadKernel.τ).loc Cert.HeadKernel.main_arg4))
      ∧ r.2.sem = fun _ => 0)

def quiescent_HeadKernelIdeal [hHeadKernelIdeal : Cert.HeadKernelIdeal.Facts] : Prop :=
  ∀ (m : (ℓ : Loc Cert.HeadKernelIdeal.nD Cert.HeadKernelIdeal.τ Cert.HeadKernelIdeal.sig) → Buf (Elt Ideal) ℓ) (g : Dev Cert.HeadKernelIdeal.nD → PrngReg), Pre_HeadKernelIdeal m →
    θ_run (Cert.HeadKernelIdeal.defs (F := Ideal)) (onTc (τ := Cert.HeadKernelIdeal.τ) (Cert.HeadKernelIdeal.main (F := Ideal))) ⟨m, fun _ => 0, g⟩ (fun r => (∀ c : Dev Cert.HeadKernelIdeal.nD,
      r.2.mem ((c.tc : Thread Cert.HeadKernelIdeal.nD Cert.HeadKernelIdeal.τ).loc Cert.HeadKernelIdeal.main_arg0) = m ((c.tc : Thread Cert.HeadKernelIdeal.nD Cert.HeadKernelIdeal.τ).loc Cert.HeadKernelIdeal.main_arg0)
      ∧ r.2.mem ((c.tc : Thread Cert.HeadKernelIdeal.nD Cert.HeadKernelIdeal.τ).loc Cert.HeadKernelIdeal.main_arg1) = m ((c.tc : Thread Cert.HeadKernelIdeal.nD Cert.HeadKernelIdeal.τ).loc Cert.HeadKernelIdeal.main_arg1)
      ∧ r.2.mem ((c.tc : Thread Cert.HeadKernelIdeal.nD Cert.HeadKernelIdeal.τ).loc Cert.HeadKernelIdeal.main_arg2) = m ((c.tc : Thread Cert.HeadKernelIdeal.nD Cert.HeadKernelIdeal.τ).loc Cert.HeadKernelIdeal.main_arg2)
      ∧ r.2.mem ((c.tc : Thread Cert.HeadKernelIdeal.nD Cert.HeadKernelIdeal.τ).loc Cert.HeadKernelIdeal.main_arg3) = m ((c.tc : Thread Cert.HeadKernelIdeal.nD Cert.HeadKernelIdeal.τ).loc Cert.HeadKernelIdeal.main_arg3)
      ∧ r.2.mem ((c.tc : Thread Cert.HeadKernelIdeal.nD Cert.HeadKernelIdeal.τ).loc Cert.HeadKernelIdeal.main_arg4) = m ((c.tc : Thread Cert.HeadKernelIdeal.nD Cert.HeadKernelIdeal.τ).loc Cert.HeadKernelIdeal.main_arg4))
      ∧ r.2.sem = fun _ => 0)

def quiescent_HeadReferenceIdeal [hHeadReferenceIdeal : Cert.HeadReferenceIdeal.Facts] : Prop :=
  ∀ (m : (ℓ : Loc Cert.HeadReferenceIdeal.nD Cert.HeadReferenceIdeal.τ Cert.HeadReferenceIdeal.sig) → Buf (Elt Ideal) ℓ) (g : Dev Cert.HeadReferenceIdeal.nD → PrngReg), Pre_HeadReferenceIdeal m →
    θ_run (Cert.HeadReferenceIdeal.defs (F := Ideal)) (onTc (τ := Cert.HeadReferenceIdeal.τ) (Cert.HeadReferenceIdeal.main (F := Ideal))) ⟨m, fun _ => 0, g⟩ (fun r => (∀ c : Dev Cert.HeadReferenceIdeal.nD,
      r.2.mem ((c.tc : Thread Cert.HeadReferenceIdeal.nD Cert.HeadReferenceIdeal.τ).loc Cert.HeadReferenceIdeal.main_arg0) = m ((c.tc : Thread Cert.HeadReferenceIdeal.nD Cert.HeadReferenceIdeal.τ).loc Cert.HeadReferenceIdeal.main_arg0)
      ∧ r.2.mem ((c.tc : Thread Cert.HeadReferenceIdeal.nD Cert.HeadReferenceIdeal.τ).loc Cert.HeadReferenceIdeal.main_arg1) = m ((c.tc : Thread Cert.HeadReferenceIdeal.nD Cert.HeadReferenceIdeal.τ).loc Cert.HeadReferenceIdeal.main_arg1)
      ∧ r.2.mem ((c.tc : Thread Cert.HeadReferenceIdeal.nD Cert.HeadReferenceIdeal.τ).loc Cert.HeadReferenceIdeal.main_arg2) = m ((c.tc : Thread Cert.HeadReferenceIdeal.nD Cert.HeadReferenceIdeal.τ).loc Cert.HeadReferenceIdeal.main_arg2)
      ∧ r.2.mem ((c.tc : Thread Cert.HeadReferenceIdeal.nD Cert.HeadReferenceIdeal.τ).loc Cert.HeadReferenceIdeal.main_arg3) = m ((c.tc : Thread Cert.HeadReferenceIdeal.nD Cert.HeadReferenceIdeal.τ).loc Cert.HeadReferenceIdeal.main_arg3)
      ∧ r.2.mem ((c.tc : Thread Cert.HeadReferenceIdeal.nD Cert.HeadReferenceIdeal.τ).loc Cert.HeadReferenceIdeal.main_arg4) = m ((c.tc : Thread Cert.HeadReferenceIdeal.nD Cert.HeadReferenceIdeal.τ).loc Cert.HeadReferenceIdeal.main_arg4))
      ∧ r.2.sem = fun _ => 0)

def quiescent_RestKernel [hRestKernel : Cert.RestKernel.Facts] : Prop :=
  ∀ (m : (ℓ : Loc Cert.RestKernel.nD Cert.RestKernel.τ Cert.RestKernel.sig) → Buf (Elt Bits) ℓ) (g : Dev Cert.RestKernel.nD → PrngReg), Pre_RestKernel m →
    θ_run (Cert.RestKernel.defs (F := Bits)) (onTc (τ := Cert.RestKernel.τ) (Cert.RestKernel.main (F := Bits))) ⟨m, fun _ => 0, g⟩ (fun r => (∀ c : Dev Cert.RestKernel.nD,
      r.2.mem ((c.tc : Thread Cert.RestKernel.nD Cert.RestKernel.τ).loc Cert.RestKernel.main_arg0) = m ((c.tc : Thread Cert.RestKernel.nD Cert.RestKernel.τ).loc Cert.RestKernel.main_arg0)
      ∧ r.2.mem ((c.tc : Thread Cert.RestKernel.nD Cert.RestKernel.τ).loc Cert.RestKernel.main_arg1) = m ((c.tc : Thread Cert.RestKernel.nD Cert.RestKernel.τ).loc Cert.RestKernel.main_arg1)
      ∧ r.2.mem ((c.tc : Thread Cert.RestKernel.nD Cert.RestKernel.τ).loc Cert.RestKernel.main_arg2) = m ((c.tc : Thread Cert.RestKernel.nD Cert.RestKernel.τ).loc Cert.RestKernel.main_arg2)
      ∧ r.2.mem ((c.tc : Thread Cert.RestKernel.nD Cert.RestKernel.τ).loc Cert.RestKernel.main_arg3) = m ((c.tc : Thread Cert.RestKernel.nD Cert.RestKernel.τ).loc Cert.RestKernel.main_arg3)
      ∧ r.2.mem ((c.tc : Thread Cert.RestKernel.nD Cert.RestKernel.τ).loc Cert.RestKernel.main_arg4) = m ((c.tc : Thread Cert.RestKernel.nD Cert.RestKernel.τ).loc Cert.RestKernel.main_arg4)
      ∧ r.2.mem ((c.tc : Thread Cert.RestKernel.nD Cert.RestKernel.τ).loc Cert.RestKernel.main_arg5) = m ((c.tc : Thread Cert.RestKernel.nD Cert.RestKernel.τ).loc Cert.RestKernel.main_arg5))
      ∧ r.2.sem = fun _ => 0)

def quiescent_RestKernelIdeal [hRestKernelIdeal : Cert.RestKernelIdeal.Facts] : Prop :=
  ∀ (m : (ℓ : Loc Cert.RestKernelIdeal.nD Cert.RestKernelIdeal.τ Cert.RestKernelIdeal.sig) → Buf (Elt Ideal) ℓ) (g : Dev Cert.RestKernelIdeal.nD → PrngReg), Pre_RestKernelIdeal m →
    θ_run (Cert.RestKernelIdeal.defs (F := Ideal)) (onTc (τ := Cert.RestKernelIdeal.τ) (Cert.RestKernelIdeal.main (F := Ideal))) ⟨m, fun _ => 0, g⟩ (fun r => (∀ c : Dev Cert.RestKernelIdeal.nD,
      r.2.mem ((c.tc : Thread Cert.RestKernelIdeal.nD Cert.RestKernelIdeal.τ).loc Cert.RestKernelIdeal.main_arg0) = m ((c.tc : Thread Cert.RestKernelIdeal.nD Cert.RestKernelIdeal.τ).loc Cert.RestKernelIdeal.main_arg0)
      ∧ r.2.mem ((c.tc : Thread Cert.RestKernelIdeal.nD Cert.RestKernelIdeal.τ).loc Cert.RestKernelIdeal.main_arg1) = m ((c.tc : Thread Cert.RestKernelIdeal.nD Cert.RestKernelIdeal.τ).loc Cert.RestKernelIdeal.main_arg1)
      ∧ r.2.mem ((c.tc : Thread Cert.RestKernelIdeal.nD Cert.RestKernelIdeal.τ).loc Cert.RestKernelIdeal.main_arg2) = m ((c.tc : Thread Cert.RestKernelIdeal.nD Cert.RestKernelIdeal.τ).loc Cert.RestKernelIdeal.main_arg2)
      ∧ r.2.mem ((c.tc : Thread Cert.RestKernelIdeal.nD Cert.RestKernelIdeal.τ).loc Cert.RestKernelIdeal.main_arg3) = m ((c.tc : Thread Cert.RestKernelIdeal.nD Cert.RestKernelIdeal.τ).loc Cert.RestKernelIdeal.main_arg3)
      ∧ r.2.mem ((c.tc : Thread Cert.RestKernelIdeal.nD Cert.RestKernelIdeal.τ).loc Cert.RestKernelIdeal.main_arg4) = m ((c.tc : Thread Cert.RestKernelIdeal.nD Cert.RestKernelIdeal.τ).loc Cert.RestKernelIdeal.main_arg4)
      ∧ r.2.mem ((c.tc : Thread Cert.RestKernelIdeal.nD Cert.RestKernelIdeal.τ).loc Cert.RestKernelIdeal.main_arg5) = m ((c.tc : Thread Cert.RestKernelIdeal.nD Cert.RestKernelIdeal.τ).loc Cert.RestKernelIdeal.main_arg5))
      ∧ r.2.sem = fun _ => 0)

def quiescent_RestReferenceIdeal [hRestReferenceIdeal : Cert.RestReferenceIdeal.Facts] : Prop :=
  ∀ (m : (ℓ : Loc Cert.RestReferenceIdeal.nD Cert.RestReferenceIdeal.τ Cert.RestReferenceIdeal.sig) → Buf (Elt Ideal) ℓ) (g : Dev Cert.RestReferenceIdeal.nD → PrngReg), Pre_RestReferenceIdeal m →
    θ_run (Cert.RestReferenceIdeal.defs (F := Ideal)) (onTc (τ := Cert.RestReferenceIdeal.τ) (Cert.RestReferenceIdeal.main (F := Ideal))) ⟨m, fun _ => 0, g⟩ (fun r => (∀ c : Dev Cert.RestReferenceIdeal.nD,
      r.2.mem ((c.tc : Thread Cert.RestReferenceIdeal.nD Cert.RestReferenceIdeal.τ).loc Cert.RestReferenceIdeal.main_arg0) = m ((c.tc : Thread Cert.RestReferenceIdeal.nD Cert.RestReferenceIdeal.τ).loc Cert.RestReferenceIdeal.main_arg0)
      ∧ r.2.mem ((c.tc : Thread Cert.RestReferenceIdeal.nD Cert.RestReferenceIdeal.τ).loc Cert.RestReferenceIdeal.main_arg1) = m ((c.tc : Thread Cert.RestReferenceIdeal.nD Cert.RestReferenceIdeal.τ).loc Cert.RestReferenceIdeal.main_arg1)
      ∧ r.2.mem ((c.tc : Thread Cert.RestReferenceIdeal.nD Cert.RestReferenceIdeal.τ).loc Cert.RestReferenceIdeal.main_arg2) = m ((c.tc : Thread Cert.RestReferenceIdeal.nD Cert.RestReferenceIdeal.τ).loc Cert.RestReferenceIdeal.main_arg2)
      ∧ r.2.mem ((c.tc : Thread Cert.RestReferenceIdeal.nD Cert.RestReferenceIdeal.τ).loc Cert.RestReferenceIdeal.main_arg3) = m ((c.tc : Thread Cert.RestReferenceIdeal.nD Cert.RestReferenceIdeal.τ).loc Cert.RestReferenceIdeal.main_arg3)
      ∧ r.2.mem ((c.tc : Thread Cert.RestReferenceIdeal.nD Cert.RestReferenceIdeal.τ).loc Cert.RestReferenceIdeal.main_arg4) = m ((c.tc : Thread Cert.RestReferenceIdeal.nD Cert.RestReferenceIdeal.τ).loc Cert.RestReferenceIdeal.main_arg4)
      ∧ r.2.mem ((c.tc : Thread Cert.RestReferenceIdeal.nD Cert.RestReferenceIdeal.τ).loc Cert.RestReferenceIdeal.main_arg5) = m ((c.tc : Thread Cert.RestReferenceIdeal.nD Cert.RestReferenceIdeal.τ).loc Cert.RestReferenceIdeal.main_arg5))
      ∧ r.2.sem = fun _ => 0)

def quiescent_WgradKernel [hWgradKernel : Cert.WgradKernel.Facts] : Prop :=
  ∀ (m : (ℓ : Loc Cert.WgradKernel.nD Cert.WgradKernel.τ Cert.WgradKernel.sig) → Buf (Elt Bits) ℓ) (g : Dev Cert.WgradKernel.nD → PrngReg), Pre_WgradKernel m →
    θ_run (Cert.WgradKernel.defs (F := Bits)) (onTc (τ := Cert.WgradKernel.τ) (Cert.WgradKernel.main (F := Bits))) ⟨m, fun _ => 0, g⟩ (fun r => (∀ c : Dev Cert.WgradKernel.nD,
      r.2.mem ((c.tc : Thread Cert.WgradKernel.nD Cert.WgradKernel.τ).loc Cert.WgradKernel.main_arg0) = m ((c.tc : Thread Cert.WgradKernel.nD Cert.WgradKernel.τ).loc Cert.WgradKernel.main_arg0)
      ∧ r.2.mem ((c.tc : Thread Cert.WgradKernel.nD Cert.WgradKernel.τ).loc Cert.WgradKernel.main_arg1) = m ((c.tc : Thread Cert.WgradKernel.nD Cert.WgradKernel.τ).loc Cert.WgradKernel.main_arg1)
      ∧ r.2.mem ((c.tc : Thread Cert.WgradKernel.nD Cert.WgradKernel.τ).loc Cert.WgradKernel.main_arg2) = m ((c.tc : Thread Cert.WgradKernel.nD Cert.WgradKernel.τ).loc Cert.WgradKernel.main_arg2)
      ∧ r.2.mem ((c.tc : Thread Cert.WgradKernel.nD Cert.WgradKernel.τ).loc Cert.WgradKernel.main_arg3) = m ((c.tc : Thread Cert.WgradKernel.nD Cert.WgradKernel.τ).loc Cert.WgradKernel.main_arg3))
      ∧ r.2.sem = fun _ => 0)

def quiescent_WgradKernelIdeal [hWgradKernelIdeal : Cert.WgradKernelIdeal.Facts] : Prop :=
  ∀ (m : (ℓ : Loc Cert.WgradKernelIdeal.nD Cert.WgradKernelIdeal.τ Cert.WgradKernelIdeal.sig) → Buf (Elt Ideal) ℓ) (g : Dev Cert.WgradKernelIdeal.nD → PrngReg), Pre_WgradKernelIdeal m →
    θ_run (Cert.WgradKernelIdeal.defs (F := Ideal)) (onTc (τ := Cert.WgradKernelIdeal.τ) (Cert.WgradKernelIdeal.main (F := Ideal))) ⟨m, fun _ => 0, g⟩ (fun r => (∀ c : Dev Cert.WgradKernelIdeal.nD,
      r.2.mem ((c.tc : Thread Cert.WgradKernelIdeal.nD Cert.WgradKernelIdeal.τ).loc Cert.WgradKernelIdeal.main_arg0) = m ((c.tc : Thread Cert.WgradKernelIdeal.nD Cert.WgradKernelIdeal.τ).loc Cert.WgradKernelIdeal.main_arg0)
      ∧ r.2.mem ((c.tc : Thread Cert.WgradKernelIdeal.nD Cert.WgradKernelIdeal.τ).loc Cert.WgradKernelIdeal.main_arg1) = m ((c.tc : Thread Cert.WgradKernelIdeal.nD Cert.WgradKernelIdeal.τ).loc Cert.WgradKernelIdeal.main_arg1)
      ∧ r.2.mem ((c.tc : Thread Cert.WgradKernelIdeal.nD Cert.WgradKernelIdeal.τ).loc Cert.WgradKernelIdeal.main_arg2) = m ((c.tc : Thread Cert.WgradKernelIdeal.nD Cert.WgradKernelIdeal.τ).loc Cert.WgradKernelIdeal.main_arg2)
      ∧ r.2.mem ((c.tc : Thread Cert.WgradKernelIdeal.nD Cert.WgradKernelIdeal.τ).loc Cert.WgradKernelIdeal.main_arg3) = m ((c.tc : Thread Cert.WgradKernelIdeal.nD Cert.WgradKernelIdeal.τ).loc Cert.WgradKernelIdeal.main_arg3))
      ∧ r.2.sem = fun _ => 0)

def quiescent_WgradReferenceIdeal [hWgradReferenceIdeal : Cert.WgradReferenceIdeal.Facts] : Prop :=
  ∀ (m : (ℓ : Loc Cert.WgradReferenceIdeal.nD Cert.WgradReferenceIdeal.τ Cert.WgradReferenceIdeal.sig) → Buf (Elt Ideal) ℓ) (g : Dev Cert.WgradReferenceIdeal.nD → PrngReg), Pre_WgradReferenceIdeal m →
    θ_run (Cert.WgradReferenceIdeal.defs (F := Ideal)) (onTc (τ := Cert.WgradReferenceIdeal.τ) (Cert.WgradReferenceIdeal.main (F := Ideal))) ⟨m, fun _ => 0, g⟩ (fun r => (∀ c : Dev Cert.WgradReferenceIdeal.nD,
      r.2.mem ((c.tc : Thread Cert.WgradReferenceIdeal.nD Cert.WgradReferenceIdeal.τ).loc Cert.WgradReferenceIdeal.main_arg0) = m ((c.tc : Thread Cert.WgradReferenceIdeal.nD Cert.WgradReferenceIdeal.τ).loc Cert.WgradReferenceIdeal.main_arg0)
      ∧ r.2.mem ((c.tc : Thread Cert.WgradReferenceIdeal.nD Cert.WgradReferenceIdeal.τ).loc Cert.WgradReferenceIdeal.main_arg1) = m ((c.tc : Thread Cert.WgradReferenceIdeal.nD Cert.WgradReferenceIdeal.τ).loc Cert.WgradReferenceIdeal.main_arg1)
      ∧ r.2.mem ((c.tc : Thread Cert.WgradReferenceIdeal.nD Cert.WgradReferenceIdeal.τ).loc Cert.WgradReferenceIdeal.main_arg2) = m ((c.tc : Thread Cert.WgradReferenceIdeal.nD Cert.WgradReferenceIdeal.τ).loc Cert.WgradReferenceIdeal.main_arg2)
      ∧ r.2.mem ((c.tc : Thread Cert.WgradReferenceIdeal.nD Cert.WgradReferenceIdeal.τ).loc Cert.WgradReferenceIdeal.main_arg3) = m ((c.tc : Thread Cert.WgradReferenceIdeal.nD Cert.WgradReferenceIdeal.τ).loc Cert.WgradReferenceIdeal.main_arg3))
      ∧ r.2.sem = fun _ => 0)

def quiescent_GlafKernel [hGlafKernel : Cert.GlafKernel.Facts] : Prop :=
  ∀ (m : (ℓ : Loc Cert.GlafKernel.nD Cert.GlafKernel.τ Cert.GlafKernel.sig) → Buf (Elt Bits) ℓ) (g : Dev Cert.GlafKernel.nD → PrngReg), Pre_GlafKernel m →
    θ_run (Cert.GlafKernel.defs (F := Bits)) (onTc (τ := Cert.GlafKernel.τ) (Cert.GlafKernel.main (F := Bits))) ⟨m, fun _ => 0, g⟩ (fun r => (∀ c : Dev Cert.GlafKernel.nD,
      r.2.mem ((c.tc : Thread Cert.GlafKernel.nD Cert.GlafKernel.τ).loc Cert.GlafKernel.main_arg0) = m ((c.tc : Thread Cert.GlafKernel.nD Cert.GlafKernel.τ).loc Cert.GlafKernel.main_arg0)
      ∧ r.2.mem ((c.tc : Thread Cert.GlafKernel.nD Cert.GlafKernel.τ).loc Cert.GlafKernel.main_arg1) = m ((c.tc : Thread Cert.GlafKernel.nD Cert.GlafKernel.τ).loc Cert.GlafKernel.main_arg1)
      ∧ r.2.mem ((c.tc : Thread Cert.GlafKernel.nD Cert.GlafKernel.τ).loc Cert.GlafKernel.main_arg2) = m ((c.tc : Thread Cert.GlafKernel.nD Cert.GlafKernel.τ).loc Cert.GlafKernel.main_arg2)
      ∧ r.2.mem ((c.tc : Thread Cert.GlafKernel.nD Cert.GlafKernel.τ).loc Cert.GlafKernel.main_arg3) = m ((c.tc : Thread Cert.GlafKernel.nD Cert.GlafKernel.τ).loc Cert.GlafKernel.main_arg3)
      ∧ r.2.mem ((c.tc : Thread Cert.GlafKernel.nD Cert.GlafKernel.τ).loc Cert.GlafKernel.main_arg4) = m ((c.tc : Thread Cert.GlafKernel.nD Cert.GlafKernel.τ).loc Cert.GlafKernel.main_arg4)
      ∧ r.2.mem ((c.tc : Thread Cert.GlafKernel.nD Cert.GlafKernel.τ).loc Cert.GlafKernel.main_arg5) = m ((c.tc : Thread Cert.GlafKernel.nD Cert.GlafKernel.τ).loc Cert.GlafKernel.main_arg5))
      ∧ r.2.sem = fun _ => 0)

def quiescent_GlafKernelIdeal [hGlafKernelIdeal : Cert.GlafKernelIdeal.Facts] : Prop :=
  ∀ (m : (ℓ : Loc Cert.GlafKernelIdeal.nD Cert.GlafKernelIdeal.τ Cert.GlafKernelIdeal.sig) → Buf (Elt Ideal) ℓ) (g : Dev Cert.GlafKernelIdeal.nD → PrngReg), Pre_GlafKernelIdeal m →
    θ_run (Cert.GlafKernelIdeal.defs (F := Ideal)) (onTc (τ := Cert.GlafKernelIdeal.τ) (Cert.GlafKernelIdeal.main (F := Ideal))) ⟨m, fun _ => 0, g⟩ (fun r => (∀ c : Dev Cert.GlafKernelIdeal.nD,
      r.2.mem ((c.tc : Thread Cert.GlafKernelIdeal.nD Cert.GlafKernelIdeal.τ).loc Cert.GlafKernelIdeal.main_arg0) = m ((c.tc : Thread Cert.GlafKernelIdeal.nD Cert.GlafKernelIdeal.τ).loc Cert.GlafKernelIdeal.main_arg0)
      ∧ r.2.mem ((c.tc : Thread Cert.GlafKernelIdeal.nD Cert.GlafKernelIdeal.τ).loc Cert.GlafKernelIdeal.main_arg1) = m ((c.tc : Thread Cert.GlafKernelIdeal.nD Cert.GlafKernelIdeal.τ).loc Cert.GlafKernelIdeal.main_arg1)
      ∧ r.2.mem ((c.tc : Thread Cert.GlafKernelIdeal.nD Cert.GlafKernelIdeal.τ).loc Cert.GlafKernelIdeal.main_arg2) = m ((c.tc : Thread Cert.GlafKernelIdeal.nD Cert.GlafKernelIdeal.τ).loc Cert.GlafKernelIdeal.main_arg2)
      ∧ r.2.mem ((c.tc : Thread Cert.GlafKernelIdeal.nD Cert.GlafKernelIdeal.τ).loc Cert.GlafKernelIdeal.main_arg3) = m ((c.tc : Thread Cert.GlafKernelIdeal.nD Cert.GlafKernelIdeal.τ).loc Cert.GlafKernelIdeal.main_arg3)
      ∧ r.2.mem ((c.tc : Thread Cert.GlafKernelIdeal.nD Cert.GlafKernelIdeal.τ).loc Cert.GlafKernelIdeal.main_arg4) = m ((c.tc : Thread Cert.GlafKernelIdeal.nD Cert.GlafKernelIdeal.τ).loc Cert.GlafKernelIdeal.main_arg4)
      ∧ r.2.mem ((c.tc : Thread Cert.GlafKernelIdeal.nD Cert.GlafKernelIdeal.τ).loc Cert.GlafKernelIdeal.main_arg5) = m ((c.tc : Thread Cert.GlafKernelIdeal.nD Cert.GlafKernelIdeal.τ).loc Cert.GlafKernelIdeal.main_arg5))
      ∧ r.2.sem = fun _ => 0)

def quiescent_GlafReferenceIdeal [hGlafReferenceIdeal : Cert.GlafReferenceIdeal.Facts] : Prop :=
  ∀ (m : (ℓ : Loc Cert.GlafReferenceIdeal.nD Cert.GlafReferenceIdeal.τ Cert.GlafReferenceIdeal.sig) → Buf (Elt Ideal) ℓ) (g : Dev Cert.GlafReferenceIdeal.nD → PrngReg), Pre_GlafReferenceIdeal m →
    θ_run (Cert.GlafReferenceIdeal.defs (F := Ideal)) (onTc (τ := Cert.GlafReferenceIdeal.τ) (Cert.GlafReferenceIdeal.main (F := Ideal))) ⟨m, fun _ => 0, g⟩ (fun r => (∀ c : Dev Cert.GlafReferenceIdeal.nD,
      r.2.mem ((c.tc : Thread Cert.GlafReferenceIdeal.nD Cert.GlafReferenceIdeal.τ).loc Cert.GlafReferenceIdeal.main_arg0) = m ((c.tc : Thread Cert.GlafReferenceIdeal.nD Cert.GlafReferenceIdeal.τ).loc Cert.GlafReferenceIdeal.main_arg0)
      ∧ r.2.mem ((c.tc : Thread Cert.GlafReferenceIdeal.nD Cert.GlafReferenceIdeal.τ).loc Cert.GlafReferenceIdeal.main_arg1) = m ((c.tc : Thread Cert.GlafReferenceIdeal.nD Cert.GlafReferenceIdeal.τ).loc Cert.GlafReferenceIdeal.main_arg1)
      ∧ r.2.mem ((c.tc : Thread Cert.GlafReferenceIdeal.nD Cert.GlafReferenceIdeal.τ).loc Cert.GlafReferenceIdeal.main_arg2) = m ((c.tc : Thread Cert.GlafReferenceIdeal.nD Cert.GlafReferenceIdeal.τ).loc Cert.GlafReferenceIdeal.main_arg2)
      ∧ r.2.mem ((c.tc : Thread Cert.GlafReferenceIdeal.nD Cert.GlafReferenceIdeal.τ).loc Cert.GlafReferenceIdeal.main_arg3) = m ((c.tc : Thread Cert.GlafReferenceIdeal.nD Cert.GlafReferenceIdeal.τ).loc Cert.GlafReferenceIdeal.main_arg3)
      ∧ r.2.mem ((c.tc : Thread Cert.GlafReferenceIdeal.nD Cert.GlafReferenceIdeal.τ).loc Cert.GlafReferenceIdeal.main_arg4) = m ((c.tc : Thread Cert.GlafReferenceIdeal.nD Cert.GlafReferenceIdeal.τ).loc Cert.GlafReferenceIdeal.main_arg4)
      ∧ r.2.mem ((c.tc : Thread Cert.GlafReferenceIdeal.nD Cert.GlafReferenceIdeal.τ).loc Cert.GlafReferenceIdeal.main_arg5) = m ((c.tc : Thread Cert.GlafReferenceIdeal.nD Cert.GlafReferenceIdeal.τ).loc Cert.GlafReferenceIdeal.main_arg5))
      ∧ r.2.sem = fun _ => 0)

def quiescent_CpfKernel [hCpfKernel : Cert.CpfKernel.Facts] : Prop :=
  ∀ (m : (ℓ : Loc Cert.CpfKernel.nD Cert.CpfKernel.τ Cert.CpfKernel.sig) → Buf (Elt Bits) ℓ) (g : Dev Cert.CpfKernel.nD → PrngReg), Pre_CpfKernel m →
    θ_run (Cert.CpfKernel.defs (F := Bits)) (onTc (τ := Cert.CpfKernel.τ) (Cert.CpfKernel.main (F := Bits))) ⟨m, fun _ => 0, g⟩ (fun r => (∀ c : Dev Cert.CpfKernel.nD,
      r.2.mem ((c.tc : Thread Cert.CpfKernel.nD Cert.CpfKernel.τ).loc Cert.CpfKernel.main_arg0) = m ((c.tc : Thread Cert.CpfKernel.nD Cert.CpfKernel.τ).loc Cert.CpfKernel.main_arg0)
      ∧ r.2.mem ((c.tc : Thread Cert.CpfKernel.nD Cert.CpfKernel.τ).loc Cert.CpfKernel.main_arg1) = m ((c.tc : Thread Cert.CpfKernel.nD Cert.CpfKernel.τ).loc Cert.CpfKernel.main_arg1)
      ∧ r.2.mem ((c.tc : Thread Cert.CpfKernel.nD Cert.CpfKernel.τ).loc Cert.CpfKernel.main_arg2) = m ((c.tc : Thread Cert.CpfKernel.nD Cert.CpfKernel.τ).loc Cert.CpfKernel.main_arg2)
      ∧ r.2.mem ((c.tc : Thread Cert.CpfKernel.nD Cert.CpfKernel.τ).loc Cert.CpfKernel.main_arg3) = m ((c.tc : Thread Cert.CpfKernel.nD Cert.CpfKernel.τ).loc Cert.CpfKernel.main_arg3)
      ∧ r.2.mem ((c.tc : Thread Cert.CpfKernel.nD Cert.CpfKernel.τ).loc Cert.CpfKernel.main_arg4) = m ((c.tc : Thread Cert.CpfKernel.nD Cert.CpfKernel.τ).loc Cert.CpfKernel.main_arg4)
      ∧ r.2.mem ((c.tc : Thread Cert.CpfKernel.nD Cert.CpfKernel.τ).loc Cert.CpfKernel.main_arg5) = m ((c.tc : Thread Cert.CpfKernel.nD Cert.CpfKernel.τ).loc Cert.CpfKernel.main_arg5)
      ∧ r.2.mem ((c.tc : Thread Cert.CpfKernel.nD Cert.CpfKernel.τ).loc Cert.CpfKernel.main_arg6) = m ((c.tc : Thread Cert.CpfKernel.nD Cert.CpfKernel.τ).loc Cert.CpfKernel.main_arg6))
      ∧ r.2.sem = fun _ => 0)

def quiescent_CpfKernelIdeal [hCpfKernelIdeal : Cert.CpfKernelIdeal.Facts] : Prop :=
  ∀ (m : (ℓ : Loc Cert.CpfKernelIdeal.nD Cert.CpfKernelIdeal.τ Cert.CpfKernelIdeal.sig) → Buf (Elt Ideal) ℓ) (g : Dev Cert.CpfKernelIdeal.nD → PrngReg), Pre_CpfKernelIdeal m →
    θ_run (Cert.CpfKernelIdeal.defs (F := Ideal)) (onTc (τ := Cert.CpfKernelIdeal.τ) (Cert.CpfKernelIdeal.main (F := Ideal))) ⟨m, fun _ => 0, g⟩ (fun r => (∀ c : Dev Cert.CpfKernelIdeal.nD,
      r.2.mem ((c.tc : Thread Cert.CpfKernelIdeal.nD Cert.CpfKernelIdeal.τ).loc Cert.CpfKernelIdeal.main_arg0) = m ((c.tc : Thread Cert.CpfKernelIdeal.nD Cert.CpfKernelIdeal.τ).loc Cert.CpfKernelIdeal.main_arg0)
      ∧ r.2.mem ((c.tc : Thread Cert.CpfKernelIdeal.nD Cert.CpfKernelIdeal.τ).loc Cert.CpfKernelIdeal.main_arg1) = m ((c.tc : Thread Cert.CpfKernelIdeal.nD Cert.CpfKernelIdeal.τ).loc Cert.CpfKernelIdeal.main_arg1)
      ∧ r.2.mem ((c.tc : Thread Cert.CpfKernelIdeal.nD Cert.CpfKernelIdeal.τ).loc Cert.CpfKernelIdeal.main_arg2) = m ((c.tc : Thread Cert.CpfKernelIdeal.nD Cert.CpfKernelIdeal.τ).loc Cert.CpfKernelIdeal.main_arg2)
      ∧ r.2.mem ((c.tc : Thread Cert.CpfKernelIdeal.nD Cert.CpfKernelIdeal.τ).loc Cert.CpfKernelIdeal.main_arg3) = m ((c.tc : Thread Cert.CpfKernelIdeal.nD Cert.CpfKernelIdeal.τ).loc Cert.CpfKernelIdeal.main_arg3)
      ∧ r.2.mem ((c.tc : Thread Cert.CpfKernelIdeal.nD Cert.CpfKernelIdeal.τ).loc Cert.CpfKernelIdeal.main_arg4) = m ((c.tc : Thread Cert.CpfKernelIdeal.nD Cert.CpfKernelIdeal.τ).loc Cert.CpfKernelIdeal.main_arg4)
      ∧ r.2.mem ((c.tc : Thread Cert.CpfKernelIdeal.nD Cert.CpfKernelIdeal.τ).loc Cert.CpfKernelIdeal.main_arg5) = m ((c.tc : Thread Cert.CpfKernelIdeal.nD Cert.CpfKernelIdeal.τ).loc Cert.CpfKernelIdeal.main_arg5)
      ∧ r.2.mem ((c.tc : Thread Cert.CpfKernelIdeal.nD Cert.CpfKernelIdeal.τ).loc Cert.CpfKernelIdeal.main_arg6) = m ((c.tc : Thread Cert.CpfKernelIdeal.nD Cert.CpfKernelIdeal.τ).loc Cert.CpfKernelIdeal.main_arg6))
      ∧ r.2.sem = fun _ => 0)

def quiescent_CpfKernelIdeal_pre_finite_cpf [hCpfKernelIdeal : Cert.CpfKernelIdeal.Facts] [hPre_finite_cpf : Cert.Pre_finite_cpf.Facts] : Prop :=
  ∀ (m : (ℓ : Loc Cert.CpfKernelIdeal.nD Cert.CpfKernelIdeal.τ Cert.CpfKernelIdeal.sig) → Buf (Elt Ideal) ℓ) (g : Dev Cert.CpfKernelIdeal.nD → PrngReg), Pre_CpfKernelIdeal_finite_cpf m →
    θ_run (Cert.CpfKernelIdeal.defs (F := Ideal)) (onTc (τ := Cert.CpfKernelIdeal.τ) (Cert.CpfKernelIdeal.main (F := Ideal))) ⟨m, fun _ => 0, g⟩ (fun r => (∀ c : Dev Cert.CpfKernelIdeal.nD,
      r.2.mem ((c.tc : Thread Cert.CpfKernelIdeal.nD Cert.CpfKernelIdeal.τ).loc Cert.CpfKernelIdeal.main_arg0) = m ((c.tc : Thread Cert.CpfKernelIdeal.nD Cert.CpfKernelIdeal.τ).loc Cert.CpfKernelIdeal.main_arg0)
      ∧ r.2.mem ((c.tc : Thread Cert.CpfKernelIdeal.nD Cert.CpfKernelIdeal.τ).loc Cert.CpfKernelIdeal.main_arg1) = m ((c.tc : Thread Cert.CpfKernelIdeal.nD Cert.CpfKernelIdeal.τ).loc Cert.CpfKernelIdeal.main_arg1)
      ∧ r.2.mem ((c.tc : Thread Cert.CpfKernelIdeal.nD Cert.CpfKernelIdeal.τ).loc Cert.CpfKernelIdeal.main_arg2) = m ((c.tc : Thread Cert.CpfKernelIdeal.nD Cert.CpfKernelIdeal.τ).loc Cert.CpfKernelIdeal.main_arg2)
      ∧ r.2.mem ((c.tc : Thread Cert.CpfKernelIdeal.nD Cert.CpfKernelIdeal.τ).loc Cert.CpfKernelIdeal.main_arg3) = m ((c.tc : Thread Cert.CpfKernelIdeal.nD Cert.CpfKernelIdeal.τ).loc Cert.CpfKernelIdeal.main_arg3)
      ∧ r.2.mem ((c.tc : Thread Cert.CpfKernelIdeal.nD Cert.CpfKernelIdeal.τ).loc Cert.CpfKernelIdeal.main_arg4) = m ((c.tc : Thread Cert.CpfKernelIdeal.nD Cert.CpfKernelIdeal.τ).loc Cert.CpfKernelIdeal.main_arg4)
      ∧ r.2.mem ((c.tc : Thread Cert.CpfKernelIdeal.nD Cert.CpfKernelIdeal.τ).loc Cert.CpfKernelIdeal.main_arg5) = m ((c.tc : Thread Cert.CpfKernelIdeal.nD Cert.CpfKernelIdeal.τ).loc Cert.CpfKernelIdeal.main_arg5)
      ∧ r.2.mem ((c.tc : Thread Cert.CpfKernelIdeal.nD Cert.CpfKernelIdeal.τ).loc Cert.CpfKernelIdeal.main_arg6) = m ((c.tc : Thread Cert.CpfKernelIdeal.nD Cert.CpfKernelIdeal.τ).loc Cert.CpfKernelIdeal.main_arg6))
      ∧ r.2.sem = fun _ => 0)

def quiescent_CpfReferenceIdeal [hCpfReferenceIdeal : Cert.CpfReferenceIdeal.Facts] : Prop :=
  ∀ (m : (ℓ : Loc Cert.CpfReferenceIdeal.nD Cert.CpfReferenceIdeal.τ Cert.CpfReferenceIdeal.sig) → Buf (Elt Ideal) ℓ) (g : Dev Cert.CpfReferenceIdeal.nD → PrngReg), Pre_CpfReferenceIdeal m →
    θ_run (Cert.CpfReferenceIdeal.defs (F := Ideal)) (onTc (τ := Cert.CpfReferenceIdeal.τ) (Cert.CpfReferenceIdeal.main (F := Ideal))) ⟨m, fun _ => 0, g⟩ (fun r => (∀ c : Dev Cert.CpfReferenceIdeal.nD,
      r.2.mem ((c.tc : Thread Cert.CpfReferenceIdeal.nD Cert.CpfReferenceIdeal.τ).loc Cert.CpfReferenceIdeal.main_arg0) = m ((c.tc : Thread Cert.CpfReferenceIdeal.nD Cert.CpfReferenceIdeal.τ).loc Cert.CpfReferenceIdeal.main_arg0)
      ∧ r.2.mem ((c.tc : Thread Cert.CpfReferenceIdeal.nD Cert.CpfReferenceIdeal.τ).loc Cert.CpfReferenceIdeal.main_arg1) = m ((c.tc : Thread Cert.CpfReferenceIdeal.nD Cert.CpfReferenceIdeal.τ).loc Cert.CpfReferenceIdeal.main_arg1)
      ∧ r.2.mem ((c.tc : Thread Cert.CpfReferenceIdeal.nD Cert.CpfReferenceIdeal.τ).loc Cert.CpfReferenceIdeal.main_arg2) = m ((c.tc : Thread Cert.CpfReferenceIdeal.nD Cert.CpfReferenceIdeal.τ).loc Cert.CpfReferenceIdeal.main_arg2)
      ∧ r.2.mem ((c.tc : Thread Cert.CpfReferenceIdeal.nD Cert.CpfReferenceIdeal.τ).loc Cert.CpfReferenceIdeal.main_arg3) = m ((c.tc : Thread Cert.CpfReferenceIdeal.nD Cert.CpfReferenceIdeal.τ).loc Cert.CpfReferenceIdeal.main_arg3)
      ∧ r.2.mem ((c.tc : Thread Cert.CpfReferenceIdeal.nD Cert.CpfReferenceIdeal.τ).loc Cert.CpfReferenceIdeal.main_arg4) = m ((c.tc : Thread Cert.CpfReferenceIdeal.nD Cert.CpfReferenceIdeal.τ).loc Cert.CpfReferenceIdeal.main_arg4)
      ∧ r.2.mem ((c.tc : Thread Cert.CpfReferenceIdeal.nD Cert.CpfReferenceIdeal.τ).loc Cert.CpfReferenceIdeal.main_arg5) = m ((c.tc : Thread Cert.CpfReferenceIdeal.nD Cert.CpfReferenceIdeal.τ).loc Cert.CpfReferenceIdeal.main_arg5)
      ∧ r.2.mem ((c.tc : Thread Cert.CpfReferenceIdeal.nD Cert.CpfReferenceIdeal.τ).loc Cert.CpfReferenceIdeal.main_arg6) = m ((c.tc : Thread Cert.CpfReferenceIdeal.nD Cert.CpfReferenceIdeal.τ).loc Cert.CpfReferenceIdeal.main_arg6))
      ∧ r.2.sem = fun _ => 0)

def quiescent_CpfReferenceIdeal_pre_finite_cpf [hCpfReferenceIdeal : Cert.CpfReferenceIdeal.Facts] [hPre_finite_cpf : Cert.Pre_finite_cpf.Facts] : Prop :=
  ∀ (m : (ℓ : Loc Cert.CpfReferenceIdeal.nD Cert.CpfReferenceIdeal.τ Cert.CpfReferenceIdeal.sig) → Buf (Elt Ideal) ℓ) (g : Dev Cert.CpfReferenceIdeal.nD → PrngReg), Pre_CpfReferenceIdeal_finite_cpf m →
    θ_run (Cert.CpfReferenceIdeal.defs (F := Ideal)) (onTc (τ := Cert.CpfReferenceIdeal.τ) (Cert.CpfReferenceIdeal.main (F := Ideal))) ⟨m, fun _ => 0, g⟩ (fun r => (∀ c : Dev Cert.CpfReferenceIdeal.nD,
      r.2.mem ((c.tc : Thread Cert.CpfReferenceIdeal.nD Cert.CpfReferenceIdeal.τ).loc Cert.CpfReferenceIdeal.main_arg0) = m ((c.tc : Thread Cert.CpfReferenceIdeal.nD Cert.CpfReferenceIdeal.τ).loc Cert.CpfReferenceIdeal.main_arg0)
      ∧ r.2.mem ((c.tc : Thread Cert.CpfReferenceIdeal.nD Cert.CpfReferenceIdeal.τ).loc Cert.CpfReferenceIdeal.main_arg1) = m ((c.tc : Thread Cert.CpfReferenceIdeal.nD Cert.CpfReferenceIdeal.τ).loc Cert.CpfReferenceIdeal.main_arg1)
      ∧ r.2.mem ((c.tc : Thread Cert.CpfReferenceIdeal.nD Cert.CpfReferenceIdeal.τ).loc Cert.CpfReferenceIdeal.main_arg2) = m ((c.tc : Thread Cert.CpfReferenceIdeal.nD Cert.CpfReferenceIdeal.τ).loc Cert.CpfReferenceIdeal.main_arg2)
      ∧ r.2.mem ((c.tc : Thread Cert.CpfReferenceIdeal.nD Cert.CpfReferenceIdeal.τ).loc Cert.CpfReferenceIdeal.main_arg3) = m ((c.tc : Thread Cert.CpfReferenceIdeal.nD Cert.CpfReferenceIdeal.τ).loc Cert.CpfReferenceIdeal.main_arg3)
      ∧ r.2.mem ((c.tc : Thread Cert.CpfReferenceIdeal.nD Cert.CpfReferenceIdeal.τ).loc Cert.CpfReferenceIdeal.main_arg4) = m ((c.tc : Thread Cert.CpfReferenceIdeal.nD Cert.CpfReferenceIdeal.τ).loc Cert.CpfReferenceIdeal.main_arg4)
      ∧ r.2.mem ((c.tc : Thread Cert.CpfReferenceIdeal.nD Cert.CpfReferenceIdeal.τ).loc Cert.CpfReferenceIdeal.main_arg5) = m ((c.tc : Thread Cert.CpfReferenceIdeal.nD Cert.CpfReferenceIdeal.τ).loc Cert.CpfReferenceIdeal.main_arg5)
      ∧ r.2.mem ((c.tc : Thread Cert.CpfReferenceIdeal.nD Cert.CpfReferenceIdeal.τ).loc Cert.CpfReferenceIdeal.main_arg6) = m ((c.tc : Thread Cert.CpfReferenceIdeal.nD Cert.CpfReferenceIdeal.τ).loc Cert.CpfReferenceIdeal.main_arg6))
      ∧ r.2.sem = fun _ => 0)

def quiescent_NmKernel [hNmKernel : Cert.NmKernel.Facts] : Prop :=
  ∀ (m : (ℓ : Loc Cert.NmKernel.nD Cert.NmKernel.τ Cert.NmKernel.sig) → Buf (Elt Bits) ℓ) (g : Dev Cert.NmKernel.nD → PrngReg), Pre_NmKernel m →
    θ_run (Cert.NmKernel.defs (F := Bits)) (onTc (τ := Cert.NmKernel.τ) (Cert.NmKernel.main (F := Bits))) ⟨m, fun _ => 0, g⟩ (fun r => (∀ c : Dev Cert.NmKernel.nD,
      r.2.mem ((c.tc : Thread Cert.NmKernel.nD Cert.NmKernel.τ).loc Cert.NmKernel.main_arg0) = m ((c.tc : Thread Cert.NmKernel.nD Cert.NmKernel.τ).loc Cert.NmKernel.main_arg0)
      ∧ r.2.mem ((c.tc : Thread Cert.NmKernel.nD Cert.NmKernel.τ).loc Cert.NmKernel.main_arg1) = m ((c.tc : Thread Cert.NmKernel.nD Cert.NmKernel.τ).loc Cert.NmKernel.main_arg1)
      ∧ r.2.mem ((c.tc : Thread Cert.NmKernel.nD Cert.NmKernel.τ).loc Cert.NmKernel.main_arg2) = m ((c.tc : Thread Cert.NmKernel.nD Cert.NmKernel.τ).loc Cert.NmKernel.main_arg2))
      ∧ r.2.sem = fun _ => 0)

def quiescent_NmKernelIdeal [hNmKernelIdeal : Cert.NmKernelIdeal.Facts] : Prop :=
  ∀ (m : (ℓ : Loc Cert.NmKernelIdeal.nD Cert.NmKernelIdeal.τ Cert.NmKernelIdeal.sig) → Buf (Elt Ideal) ℓ) (g : Dev Cert.NmKernelIdeal.nD → PrngReg), Pre_NmKernelIdeal m →
    θ_run (Cert.NmKernelIdeal.defs (F := Ideal)) (onTc (τ := Cert.NmKernelIdeal.τ) (Cert.NmKernelIdeal.main (F := Ideal))) ⟨m, fun _ => 0, g⟩ (fun r => (∀ c : Dev Cert.NmKernelIdeal.nD,
      r.2.mem ((c.tc : Thread Cert.NmKernelIdeal.nD Cert.NmKernelIdeal.τ).loc Cert.NmKernelIdeal.main_arg0) = m ((c.tc : Thread Cert.NmKernelIdeal.nD Cert.NmKernelIdeal.τ).loc Cert.NmKernelIdeal.main_arg0)
      ∧ r.2.mem ((c.tc : Thread Cert.NmKernelIdeal.nD Cert.NmKernelIdeal.τ).loc Cert.NmKernelIdeal.main_arg1) = m ((c.tc : Thread Cert.NmKernelIdeal.nD Cert.NmKernelIdeal.τ).loc Cert.NmKernelIdeal.main_arg1)
      ∧ r.2.mem ((c.tc : Thread Cert.NmKernelIdeal.nD Cert.NmKernelIdeal.τ).loc Cert.NmKernelIdeal.main_arg2) = m ((c.tc : Thread Cert.NmKernelIdeal.nD Cert.NmKernelIdeal.τ).loc Cert.NmKernelIdeal.main_arg2))
      ∧ r.2.sem = fun _ => 0)

def quiescent_NmReferenceIdeal [hNmReferenceIdeal : Cert.NmReferenceIdeal.Facts] : Prop :=
  ∀ (m : (ℓ : Loc Cert.NmReferenceIdeal.nD Cert.NmReferenceIdeal.τ Cert.NmReferenceIdeal.sig) → Buf (Elt Ideal) ℓ) (g : Dev Cert.NmReferenceIdeal.nD → PrngReg), Pre_NmReferenceIdeal m →
    θ_run (Cert.NmReferenceIdeal.defs (F := Ideal)) (onTc (τ := Cert.NmReferenceIdeal.τ) (Cert.NmReferenceIdeal.main (F := Ideal))) ⟨m, fun _ => 0, g⟩ (fun r => (∀ c : Dev Cert.NmReferenceIdeal.nD,
      r.2.mem ((c.tc : Thread Cert.NmReferenceIdeal.nD Cert.NmReferenceIdeal.τ).loc Cert.NmReferenceIdeal.main_arg0) = m ((c.tc : Thread Cert.NmReferenceIdeal.nD Cert.NmReferenceIdeal.τ).loc Cert.NmReferenceIdeal.main_arg0)
      ∧ r.2.mem ((c.tc : Thread Cert.NmReferenceIdeal.nD Cert.NmReferenceIdeal.τ).loc Cert.NmReferenceIdeal.main_arg1) = m ((c.tc : Thread Cert.NmReferenceIdeal.nD Cert.NmReferenceIdeal.τ).loc Cert.NmReferenceIdeal.main_arg1)
      ∧ r.2.mem ((c.tc : Thread Cert.NmReferenceIdeal.nD Cert.NmReferenceIdeal.τ).loc Cert.NmReferenceIdeal.main_arg2) = m ((c.tc : Thread Cert.NmReferenceIdeal.nD Cert.NmReferenceIdeal.τ).loc Cert.NmReferenceIdeal.main_arg2))
      ∧ r.2.sem = fun _ => 0)

def quiescent_NcKernel [hNcKernel : Cert.NcKernel.Facts] : Prop :=
  ∀ (m : (ℓ : Loc Cert.NcKernel.nD Cert.NcKernel.τ Cert.NcKernel.sig) → Buf (Elt Bits) ℓ) (g : Dev Cert.NcKernel.nD → PrngReg), Pre_NcKernel m →
    θ_run (Cert.NcKernel.defs (F := Bits)) (onTc (τ := Cert.NcKernel.τ) (Cert.NcKernel.main (F := Bits))) ⟨m, fun _ => 0, g⟩ (fun r => (∀ c : Dev Cert.NcKernel.nD,
      r.2.mem ((c.tc : Thread Cert.NcKernel.nD Cert.NcKernel.τ).loc Cert.NcKernel.main_arg0) = m ((c.tc : Thread Cert.NcKernel.nD Cert.NcKernel.τ).loc Cert.NcKernel.main_arg0)
      ∧ r.2.mem ((c.tc : Thread Cert.NcKernel.nD Cert.NcKernel.τ).loc Cert.NcKernel.main_arg1) = m ((c.tc : Thread Cert.NcKernel.nD Cert.NcKernel.τ).loc Cert.NcKernel.main_arg1)
      ∧ r.2.mem ((c.tc : Thread Cert.NcKernel.nD Cert.NcKernel.τ).loc Cert.NcKernel.main_arg2) = m ((c.tc : Thread Cert.NcKernel.nD Cert.NcKernel.τ).loc Cert.NcKernel.main_arg2))
      ∧ r.2.sem = fun _ => 0)

def quiescent_NcKernelIdeal [hNcKernelIdeal : Cert.NcKernelIdeal.Facts] : Prop :=
  ∀ (m : (ℓ : Loc Cert.NcKernelIdeal.nD Cert.NcKernelIdeal.τ Cert.NcKernelIdeal.sig) → Buf (Elt Ideal) ℓ) (g : Dev Cert.NcKernelIdeal.nD → PrngReg), Pre_NcKernelIdeal m →
    θ_run (Cert.NcKernelIdeal.defs (F := Ideal)) (onTc (τ := Cert.NcKernelIdeal.τ) (Cert.NcKernelIdeal.main (F := Ideal))) ⟨m, fun _ => 0, g⟩ (fun r => (∀ c : Dev Cert.NcKernelIdeal.nD,
      r.2.mem ((c.tc : Thread Cert.NcKernelIdeal.nD Cert.NcKernelIdeal.τ).loc Cert.NcKernelIdeal.main_arg0) = m ((c.tc : Thread Cert.NcKernelIdeal.nD Cert.NcKernelIdeal.τ).loc Cert.NcKernelIdeal.main_arg0)
      ∧ r.2.mem ((c.tc : Thread Cert.NcKernelIdeal.nD Cert.NcKernelIdeal.τ).loc Cert.NcKernelIdeal.main_arg1) = m ((c.tc : Thread Cert.NcKernelIdeal.nD Cert.NcKernelIdeal.τ).loc Cert.NcKernelIdeal.main_arg1)
      ∧ r.2.mem ((c.tc : Thread Cert.NcKernelIdeal.nD Cert.NcKernelIdeal.τ).loc Cert.NcKernelIdeal.main_arg2) = m ((c.tc : Thread Cert.NcKernelIdeal.nD Cert.NcKernelIdeal.τ).loc Cert.NcKernelIdeal.main_arg2))
      ∧ r.2.sem = fun _ => 0)

def quiescent_NcReferenceIdeal [hNcReferenceIdeal : Cert.NcReferenceIdeal.Facts] : Prop :=
  ∀ (m : (ℓ : Loc Cert.NcReferenceIdeal.nD Cert.NcReferenceIdeal.τ Cert.NcReferenceIdeal.sig) → Buf (Elt Ideal) ℓ) (g : Dev Cert.NcReferenceIdeal.nD → PrngReg), Pre_NcReferenceIdeal m →
    θ_run (Cert.NcReferenceIdeal.defs (F := Ideal)) (onTc (τ := Cert.NcReferenceIdeal.τ) (Cert.NcReferenceIdeal.main (F := Ideal))) ⟨m, fun _ => 0, g⟩ (fun r => (∀ c : Dev Cert.NcReferenceIdeal.nD,
      r.2.mem ((c.tc : Thread Cert.NcReferenceIdeal.nD Cert.NcReferenceIdeal.τ).loc Cert.NcReferenceIdeal.main_arg0) = m ((c.tc : Thread Cert.NcReferenceIdeal.nD Cert.NcReferenceIdeal.τ).loc Cert.NcReferenceIdeal.main_arg0)
      ∧ r.2.mem ((c.tc : Thread Cert.NcReferenceIdeal.nD Cert.NcReferenceIdeal.τ).loc Cert.NcReferenceIdeal.main_arg1) = m ((c.tc : Thread Cert.NcReferenceIdeal.nD Cert.NcReferenceIdeal.τ).loc Cert.NcReferenceIdeal.main_arg1)
      ∧ r.2.mem ((c.tc : Thread Cert.NcReferenceIdeal.nD Cert.NcReferenceIdeal.τ).loc Cert.NcReferenceIdeal.main_arg2) = m ((c.tc : Thread Cert.NcReferenceIdeal.nD Cert.NcReferenceIdeal.τ).loc Cert.NcReferenceIdeal.main_arg2))
      ∧ r.2.sem = fun _ => 0)

def quiescent_FfKernel [hFfKernel : Cert.FfKernel.Facts] : Prop :=
  ∀ (m : (ℓ : Loc Cert.FfKernel.nD Cert.FfKernel.τ Cert.FfKernel.sig) → Buf (Elt Bits) ℓ) (g : Dev Cert.FfKernel.nD → PrngReg), Pre_FfKernel m →
    θ_run (Cert.FfKernel.defs (F := Bits)) (onTc (τ := Cert.FfKernel.τ) (Cert.FfKernel.main (F := Bits))) ⟨m, fun _ => 0, g⟩ (fun r => (∀ c : Dev Cert.FfKernel.nD,
      r.2.mem ((c.tc : Thread Cert.FfKernel.nD Cert.FfKernel.τ).loc Cert.FfKernel.main_arg0) = m ((c.tc : Thread Cert.FfKernel.nD Cert.FfKernel.τ).loc Cert.FfKernel.main_arg0)
      ∧ r.2.mem ((c.tc : Thread Cert.FfKernel.nD Cert.FfKernel.τ).loc Cert.FfKernel.main_arg1) = m ((c.tc : Thread Cert.FfKernel.nD Cert.FfKernel.τ).loc Cert.FfKernel.main_arg1)
      ∧ r.2.mem ((c.tc : Thread Cert.FfKernel.nD Cert.FfKernel.τ).loc Cert.FfKernel.main_arg2) = m ((c.tc : Thread Cert.FfKernel.nD Cert.FfKernel.τ).loc Cert.FfKernel.main_arg2)
      ∧ r.2.mem ((c.tc : Thread Cert.FfKernel.nD Cert.FfKernel.τ).loc Cert.FfKernel.main_arg3) = m ((c.tc : Thread Cert.FfKernel.nD Cert.FfKernel.τ).loc Cert.FfKernel.main_arg3))
      ∧ r.2.sem = fun _ => 0)

def quiescent_FfKernelIdeal [hFfKernelIdeal : Cert.FfKernelIdeal.Facts] : Prop :=
  ∀ (m : (ℓ : Loc Cert.FfKernelIdeal.nD Cert.FfKernelIdeal.τ Cert.FfKernelIdeal.sig) → Buf (Elt Ideal) ℓ) (g : Dev Cert.FfKernelIdeal.nD → PrngReg), Pre_FfKernelIdeal m →
    θ_run (Cert.FfKernelIdeal.defs (F := Ideal)) (onTc (τ := Cert.FfKernelIdeal.τ) (Cert.FfKernelIdeal.main (F := Ideal))) ⟨m, fun _ => 0, g⟩ (fun r => (∀ c : Dev Cert.FfKernelIdeal.nD,
      r.2.mem ((c.tc : Thread Cert.FfKernelIdeal.nD Cert.FfKernelIdeal.τ).loc Cert.FfKernelIdeal.main_arg0) = m ((c.tc : Thread Cert.FfKernelIdeal.nD Cert.FfKernelIdeal.τ).loc Cert.FfKernelIdeal.main_arg0)
      ∧ r.2.mem ((c.tc : Thread Cert.FfKernelIdeal.nD Cert.FfKernelIdeal.τ).loc Cert.FfKernelIdeal.main_arg1) = m ((c.tc : Thread Cert.FfKernelIdeal.nD Cert.FfKernelIdeal.τ).loc Cert.FfKernelIdeal.main_arg1)
      ∧ r.2.mem ((c.tc : Thread Cert.FfKernelIdeal.nD Cert.FfKernelIdeal.τ).loc Cert.FfKernelIdeal.main_arg2) = m ((c.tc : Thread Cert.FfKernelIdeal.nD Cert.FfKernelIdeal.τ).loc Cert.FfKernelIdeal.main_arg2)
      ∧ r.2.mem ((c.tc : Thread Cert.FfKernelIdeal.nD Cert.FfKernelIdeal.τ).loc Cert.FfKernelIdeal.main_arg3) = m ((c.tc : Thread Cert.FfKernelIdeal.nD Cert.FfKernelIdeal.τ).loc Cert.FfKernelIdeal.main_arg3))
      ∧ r.2.sem = fun _ => 0)

def quiescent_FfReferenceIdeal [hFfReferenceIdeal : Cert.FfReferenceIdeal.Facts] : Prop :=
  ∀ (m : (ℓ : Loc Cert.FfReferenceIdeal.nD Cert.FfReferenceIdeal.τ Cert.FfReferenceIdeal.sig) → Buf (Elt Ideal) ℓ) (g : Dev Cert.FfReferenceIdeal.nD → PrngReg), Pre_FfReferenceIdeal m →
    θ_run (Cert.FfReferenceIdeal.defs (F := Ideal)) (onTc (τ := Cert.FfReferenceIdeal.τ) (Cert.FfReferenceIdeal.main (F := Ideal))) ⟨m, fun _ => 0, g⟩ (fun r => (∀ c : Dev Cert.FfReferenceIdeal.nD,
      r.2.mem ((c.tc : Thread Cert.FfReferenceIdeal.nD Cert.FfReferenceIdeal.τ).loc Cert.FfReferenceIdeal.main_arg0) = m ((c.tc : Thread Cert.FfReferenceIdeal.nD Cert.FfReferenceIdeal.τ).loc Cert.FfReferenceIdeal.main_arg0)
      ∧ r.2.mem ((c.tc : Thread Cert.FfReferenceIdeal.nD Cert.FfReferenceIdeal.τ).loc Cert.FfReferenceIdeal.main_arg1) = m ((c.tc : Thread Cert.FfReferenceIdeal.nD Cert.FfReferenceIdeal.τ).loc Cert.FfReferenceIdeal.main_arg1)
      ∧ r.2.mem ((c.tc : Thread Cert.FfReferenceIdeal.nD Cert.FfReferenceIdeal.τ).loc Cert.FfReferenceIdeal.main_arg2) = m ((c.tc : Thread Cert.FfReferenceIdeal.nD Cert.FfReferenceIdeal.τ).loc Cert.FfReferenceIdeal.main_arg2)
      ∧ r.2.mem ((c.tc : Thread Cert.FfReferenceIdeal.nD Cert.FfReferenceIdeal.τ).loc Cert.FfReferenceIdeal.main_arg3) = m ((c.tc : Thread Cert.FfReferenceIdeal.nD Cert.FfReferenceIdeal.τ).loc Cert.FfReferenceIdeal.main_arg3))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_WplainKernel [hWplainKernel : Cert.WplainKernel.Facts] : Prop :=
  ∀ (m : (ℓ : Loc Cert.WplainKernel.nD Cert.WplainKernel.τ Cert.WplainKernel.sig) → Buf (Elt Bits) ℓ) (g : Dev Cert.WplainKernel.nD → PrngReg), Pre_WplainKernel m →
    θ_run (Cert.WplainKernel.defs (F := Bits)) (onTc (τ := Cert.WplainKernel.τ) (Cert.WplainKernel.main (F := Bits))) ⟨m, fun _ => 0, g⟩ (fun r => (∀ c : Dev Cert.WplainKernel.nD,
      r.2.mem ((c.tc : Thread Cert.WplainKernel.nD Cert.WplainKernel.τ).loc Cert.WplainKernel.main_arg0) = m ((c.tc : Thread Cert.WplainKernel.nD Cert.WplainKernel.τ).loc Cert.WplainKernel.main_arg0)
      ∧ r.2.mem ((c.tc : Thread Cert.WplainKernel.nD Cert.WplainKernel.τ).loc Cert.WplainKernel.main_arg1) = m ((c.tc : Thread Cert.WplainKernel.nD Cert.WplainKernel.τ).loc Cert.WplainKernel.main_arg1))
      ∧ r.2.sem = fun _ => 0)

def quiescent_WplainKernelIdeal [hWplainKernelIdeal : Cert.WplainKernelIdeal.Facts] : Prop :=
  ∀ (m : (ℓ : Loc Cert.WplainKernelIdeal.nD Cert.WplainKernelIdeal.τ Cert.WplainKernelIdeal.sig) → Buf (Elt Ideal) ℓ) (g : Dev Cert.WplainKernelIdeal.nD → PrngReg), Pre_WplainKernelIdeal m →
    θ_run (Cert.WplainKernelIdeal.defs (F := Ideal)) (onTc (τ := Cert.WplainKernelIdeal.τ) (Cert.WplainKernelIdeal.main (F := Ideal))) ⟨m, fun _ => 0, g⟩ (fun r => (∀ c : Dev Cert.WplainKernelIdeal.nD,
      r.2.mem ((c.tc : Thread Cert.WplainKernelIdeal.nD Cert.WplainKernelIdeal.τ).loc Cert.WplainKernelIdeal.main_arg0) = m ((c.tc : Thread Cert.WplainKernelIdeal.nD Cert.WplainKernelIdeal.τ).loc Cert.WplainKernelIdeal.main_arg0)
      ∧ r.2.mem ((c.tc : Thread Cert.WplainKernelIdeal.nD Cert.WplainKernelIdeal.τ).loc Cert.WplainKernelIdeal.main_arg1) = m ((c.tc : Thread Cert.WplainKernelIdeal.nD Cert.WplainKernelIdeal.τ).loc Cert.WplainKernelIdeal.main_arg1))
      ∧ r.2.sem = fun _ => 0)

def quiescent_WplainReferenceIdeal [hWplainReferenceIdeal : Cert.WplainReferenceIdeal.Facts] : Prop :=
  ∀ (m : (ℓ : Loc Cert.WplainReferenceIdeal.nD Cert.WplainReferenceIdeal.τ Cert.WplainReferenceIdeal.sig) → Buf (Elt Ideal) ℓ) (g : Dev Cert.WplainReferenceIdeal.nD → PrngReg), Pre_WplainReferenceIdeal m →
    θ_run (Cert.WplainReferenceIdeal.defs (F := Ideal)) (onTc (τ := Cert.WplainReferenceIdeal.τ) (Cert.WplainReferenceIdeal.main (F := Ideal))) ⟨m, fun _ => 0, g⟩ (fun r => (∀ c : Dev Cert.WplainReferenceIdeal.nD,
      r.2.mem ((c.tc : Thread Cert.WplainReferenceIdeal.nD Cert.WplainReferenceIdeal.τ).loc Cert.WplainReferenceIdeal.main_arg0) = m ((c.tc : Thread Cert.WplainReferenceIdeal.nD Cert.WplainReferenceIdeal.τ).loc Cert.WplainReferenceIdeal.main_arg0)
      ∧ r.2.mem ((c.tc : Thread Cert.WplainReferenceIdeal.nD Cert.WplainReferenceIdeal.τ).loc Cert.WplainReferenceIdeal.main_arg1) = m ((c.tc : Thread Cert.WplainReferenceIdeal.nD Cert.WplainReferenceIdeal.τ).loc Cert.WplainReferenceIdeal.main_arg1))
      ∧ r.2.sem = fun _ => 0)

def quiescent_SlotsKernel [hSlotsKernel : Cert.SlotsKernel.Facts] : Prop :=
  ∀ (m : (ℓ : Loc Cert.SlotsKernel.nD Cert.SlotsKernel.τ Cert.SlotsKernel.sig) → Buf (Elt Bits) ℓ) (g : Dev Cert.SlotsKernel.nD → PrngReg), Pre_SlotsKernel m →
    θ_run (Cert.SlotsKernel.defs (F := Bits)) (onTc (τ := Cert.SlotsKernel.τ) (Cert.SlotsKernel.main (F := Bits))) ⟨m, fun _ => 0, g⟩ (fun r => (∀ c : Dev Cert.SlotsKernel.nD,
      r.2.mem ((c.tc : Thread Cert.SlotsKernel.nD Cert.SlotsKernel.τ).loc Cert.SlotsKernel.main_arg0) = m ((c.tc : Thread Cert.SlotsKernel.nD Cert.SlotsKernel.τ).loc Cert.SlotsKernel.main_arg0))
      ∧ r.2.sem = fun _ => 0)

def quiescent_SlotsKernelIdeal [hSlotsKernelIdeal : Cert.SlotsKernelIdeal.Facts] : Prop :=
  ∀ (m : (ℓ : Loc Cert.SlotsKernelIdeal.nD Cert.SlotsKernelIdeal.τ Cert.SlotsKernelIdeal.sig) → Buf (Elt Ideal) ℓ) (g : Dev Cert.SlotsKernelIdeal.nD → PrngReg), Pre_SlotsKernelIdeal m →
    θ_run (Cert.SlotsKernelIdeal.defs (F := Ideal)) (onTc (τ := Cert.SlotsKernelIdeal.τ) (Cert.SlotsKernelIdeal.main (F := Ideal))) ⟨m, fun _ => 0, g⟩ (fun r => (∀ c : Dev Cert.SlotsKernelIdeal.nD,
      r.2.mem ((c.tc : Thread Cert.SlotsKernelIdeal.nD Cert.SlotsKernelIdeal.τ).loc Cert.SlotsKernelIdeal.main_arg0) = m ((c.tc : Thread Cert.SlotsKernelIdeal.nD Cert.SlotsKernelIdeal.τ).loc Cert.SlotsKernelIdeal.main_arg0))
      ∧ r.2.sem = fun _ => 0)

def quiescent_SlotsReferenceIdeal [hSlotsReferenceIdeal : Cert.SlotsReferenceIdeal.Facts] : Prop :=
  ∀ (m : (ℓ : Loc Cert.SlotsReferenceIdeal.nD Cert.SlotsReferenceIdeal.τ Cert.SlotsReferenceIdeal.sig) → Buf (Elt Ideal) ℓ) (g : Dev Cert.SlotsReferenceIdeal.nD → PrngReg), Pre_SlotsReferenceIdeal m →
    θ_run (Cert.SlotsReferenceIdeal.defs (F := Ideal)) (onTc (τ := Cert.SlotsReferenceIdeal.τ) (Cert.SlotsReferenceIdeal.main (F := Ideal))) ⟨m, fun _ => 0, g⟩ (fun r => (∀ c : Dev Cert.SlotsReferenceIdeal.nD,
      r.2.mem ((c.tc : Thread Cert.SlotsReferenceIdeal.nD Cert.SlotsReferenceIdeal.τ).loc Cert.SlotsReferenceIdeal.main_arg0) = m ((c.tc : Thread Cert.SlotsReferenceIdeal.nD Cert.SlotsReferenceIdeal.τ).loc Cert.SlotsReferenceIdeal.main_arg0))
      ∧ r.2.sem = fun _ => 0)

def quiescent_TwoKernel [hTwoKernel : Cert.TwoKernel.Facts] : Prop :=
  ∀ (m : (ℓ : Loc Cert.TwoKernel.nD Cert.TwoKernel.τ Cert.TwoKernel.sig) → Buf (Elt Bits) ℓ) (g : Dev Cert.TwoKernel.nD → PrngReg), Pre_TwoKernel m →
    θ_run (Cert.TwoKernel.defs (F := Bits)) (onTc (τ := Cert.TwoKernel.τ) (Cert.TwoKernel.main (F := Bits))) ⟨m, fun _ => 0, g⟩ (fun r => (∀ c : Dev Cert.TwoKernel.nD,
      r.2.mem ((c.tc : Thread Cert.TwoKernel.nD Cert.TwoKernel.τ).loc Cert.TwoKernel.main_arg0) = m ((c.tc : Thread Cert.TwoKernel.nD Cert.TwoKernel.τ).loc Cert.TwoKernel.main_arg0)
      ∧ r.2.mem ((c.tc : Thread Cert.TwoKernel.nD Cert.TwoKernel.τ).loc Cert.TwoKernel.main_arg1) = m ((c.tc : Thread Cert.TwoKernel.nD Cert.TwoKernel.τ).loc Cert.TwoKernel.main_arg1))
      ∧ r.2.sem = fun _ => 0)

def quiescent_TwoKernelIdeal [hTwoKernelIdeal : Cert.TwoKernelIdeal.Facts] : Prop :=
  ∀ (m : (ℓ : Loc Cert.TwoKernelIdeal.nD Cert.TwoKernelIdeal.τ Cert.TwoKernelIdeal.sig) → Buf (Elt Ideal) ℓ) (g : Dev Cert.TwoKernelIdeal.nD → PrngReg), Pre_TwoKernelIdeal m →
    θ_run (Cert.TwoKernelIdeal.defs (F := Ideal)) (onTc (τ := Cert.TwoKernelIdeal.τ) (Cert.TwoKernelIdeal.main (F := Ideal))) ⟨m, fun _ => 0, g⟩ (fun r => (∀ c : Dev Cert.TwoKernelIdeal.nD,
      r.2.mem ((c.tc : Thread Cert.TwoKernelIdeal.nD Cert.TwoKernelIdeal.τ).loc Cert.TwoKernelIdeal.main_arg0) = m ((c.tc : Thread Cert.TwoKernelIdeal.nD Cert.TwoKernelIdeal.τ).loc Cert.TwoKernelIdeal.main_arg0)
      ∧ r.2.mem ((c.tc : Thread Cert.TwoKernelIdeal.nD Cert.TwoKernelIdeal.τ).loc Cert.TwoKernelIdeal.main_arg1) = m ((c.tc : Thread Cert.TwoKernelIdeal.nD Cert.TwoKernelIdeal.τ).loc Cert.TwoKernelIdeal.main_arg1))
      ∧ r.2.sem = fun _ => 0)

def quiescent_TwoReferenceIdeal [hTwoReferenceIdeal : Cert.TwoReferenceIdeal.Facts] : Prop :=
  ∀ (m : (ℓ : Loc Cert.TwoReferenceIdeal.nD Cert.TwoReferenceIdeal.τ Cert.TwoReferenceIdeal.sig) → Buf (Elt Ideal) ℓ) (g : Dev Cert.TwoReferenceIdeal.nD → PrngReg), Pre_TwoReferenceIdeal m →
    θ_run (Cert.TwoReferenceIdeal.defs (F := Ideal)) (onTc (τ := Cert.TwoReferenceIdeal.τ) (Cert.TwoReferenceIdeal.main (F := Ideal))) ⟨m, fun _ => 0, g⟩ (fun r => (∀ c : Dev Cert.TwoReferenceIdeal.nD,
      r.2.mem ((c.tc : Thread Cert.TwoReferenceIdeal.nD Cert.TwoReferenceIdeal.τ).loc Cert.TwoReferenceIdeal.main_arg0) = m ((c.tc : Thread Cert.TwoReferenceIdeal.nD Cert.TwoReferenceIdeal.τ).loc Cert.TwoReferenceIdeal.main_arg0)
      ∧ r.2.mem ((c.tc : Thread Cert.TwoReferenceIdeal.nD Cert.TwoReferenceIdeal.τ).loc Cert.TwoReferenceIdeal.main_arg1) = m ((c.tc : Thread Cert.TwoReferenceIdeal.nD Cert.TwoReferenceIdeal.τ).loc Cert.TwoReferenceIdeal.main_arg1))
      ∧ r.2.sem = fun _ => 0)

def quiescent_SmallKernel [hSmallKernel : Cert.SmallKernel.Facts] : Prop :=
  ∀ (m : (ℓ : Loc Cert.SmallKernel.nD Cert.SmallKernel.τ Cert.SmallKernel.sig) → Buf (Elt Bits) ℓ) (g : Dev Cert.SmallKernel.nD → PrngReg), Pre_SmallKernel m →
    θ_run (Cert.SmallKernel.defs (F := Bits)) (onTc (τ := Cert.SmallKernel.τ) (Cert.SmallKernel.main (F := Bits))) ⟨m, fun _ => 0, g⟩ (fun r => (∀ c : Dev Cert.SmallKernel.nD,
      r.2.mem ((c.tc : Thread Cert.SmallKernel.nD Cert.SmallKernel.τ).loc Cert.SmallKernel.main_arg0) = m ((c.tc : Thread Cert.SmallKernel.nD Cert.SmallKernel.τ).loc Cert.SmallKernel.main_arg0)
      ∧ r.2.mem ((c.tc : Thread Cert.SmallKernel.nD Cert.SmallKernel.τ).loc Cert.SmallKernel.main_arg1) = m ((c.tc : Thread Cert.SmallKernel.nD Cert.SmallKernel.τ).loc Cert.SmallKernel.main_arg1)
      ∧ r.2.mem ((c.tc : Thread Cert.SmallKernel.nD Cert.SmallKernel.τ).loc Cert.SmallKernel.main_arg2) = m ((c.tc : Thread Cert.SmallKernel.nD Cert.SmallKernel.τ).loc Cert.SmallKernel.main_arg2)
      ∧ r.2.mem ((c.tc : Thread Cert.SmallKernel.nD Cert.SmallKernel.τ).loc Cert.SmallKernel.main_arg3) = m ((c.tc : Thread Cert.SmallKernel.nD Cert.SmallKernel.τ).loc Cert.SmallKernel.main_arg3)
      ∧ r.2.mem ((c.tc : Thread Cert.SmallKernel.nD Cert.SmallKernel.τ).loc Cert.SmallKernel.main_arg4) = m ((c.tc : Thread Cert.SmallKernel.nD Cert.SmallKernel.τ).loc Cert.SmallKernel.main_arg4)
      ∧ r.2.mem ((c.tc : Thread Cert.SmallKernel.nD Cert.SmallKernel.τ).loc Cert.SmallKernel.main_arg5) = m ((c.tc : Thread Cert.SmallKernel.nD Cert.SmallKernel.τ).loc Cert.SmallKernel.main_arg5)
      ∧ r.2.mem ((c.tc : Thread Cert.SmallKernel.nD Cert.SmallKernel.τ).loc Cert.SmallKernel.main_arg6) = m ((c.tc : Thread Cert.SmallKernel.nD Cert.SmallKernel.τ).loc Cert.SmallKernel.main_arg6)
      ∧ r.2.mem ((c.tc : Thread Cert.SmallKernel.nD Cert.SmallKernel.τ).loc Cert.SmallKernel.main_arg7) = m ((c.tc : Thread Cert.SmallKernel.nD Cert.SmallKernel.τ).loc Cert.SmallKernel.main_arg7)
      ∧ r.2.mem ((c.tc : Thread Cert.SmallKernel.nD Cert.SmallKernel.τ).loc Cert.SmallKernel.main_arg8) = m ((c.tc : Thread Cert.SmallKernel.nD Cert.SmallKernel.τ).loc Cert.SmallKernel.main_arg8)
      ∧ r.2.mem ((c.tc : Thread Cert.SmallKernel.nD Cert.SmallKernel.τ).loc Cert.SmallKernel.main_arg9) = m ((c.tc : Thread Cert.SmallKernel.nD Cert.SmallKernel.τ).loc Cert.SmallKernel.main_arg9)
      ∧ r.2.mem ((c.tc : Thread Cert.SmallKernel.nD Cert.SmallKernel.τ).loc Cert.SmallKernel.main_arg10) = m ((c.tc : Thread Cert.SmallKernel.nD Cert.SmallKernel.τ).loc Cert.SmallKernel.main_arg10)
      ∧ r.2.mem ((c.tc : Thread Cert.SmallKernel.nD Cert.SmallKernel.τ).loc Cert.SmallKernel.main_arg11) = m ((c.tc : Thread Cert.SmallKernel.nD Cert.SmallKernel.τ).loc Cert.SmallKernel.main_arg11)
      ∧ r.2.mem ((c.tc : Thread Cert.SmallKernel.nD Cert.SmallKernel.τ).loc Cert.SmallKernel.main_arg12) = m ((c.tc : Thread Cert.SmallKernel.nD Cert.SmallKernel.τ).loc Cert.SmallKernel.main_arg12)
      ∧ r.2.mem ((c.tc : Thread Cert.SmallKernel.nD Cert.SmallKernel.τ).loc Cert.SmallKernel.main_arg13) = m ((c.tc : Thread Cert.SmallKernel.nD Cert.SmallKernel.τ).loc Cert.SmallKernel.main_arg13)
      ∧ r.2.mem ((c.tc : Thread Cert.SmallKernel.nD Cert.SmallKernel.τ).loc Cert.SmallKernel.main_arg14) = m ((c.tc : Thread Cert.SmallKernel.nD Cert.SmallKernel.τ).loc Cert.SmallKernel.main_arg14)
      ∧ r.2.mem ((c.tc : Thread Cert.SmallKernel.nD Cert.SmallKernel.τ).loc Cert.SmallKernel.main_arg15) = m ((c.tc : Thread Cert.SmallKernel.nD Cert.SmallKernel.τ).loc Cert.SmallKernel.main_arg15))
      ∧ r.2.sem = fun _ => 0)

def quiescent_SmallKernelIdeal [hSmallKernelIdeal : Cert.SmallKernelIdeal.Facts] : Prop :=
  ∀ (m : (ℓ : Loc Cert.SmallKernelIdeal.nD Cert.SmallKernelIdeal.τ Cert.SmallKernelIdeal.sig) → Buf (Elt Ideal) ℓ) (g : Dev Cert.SmallKernelIdeal.nD → PrngReg), Pre_SmallKernelIdeal m →
    θ_run (Cert.SmallKernelIdeal.defs (F := Ideal)) (onTc (τ := Cert.SmallKernelIdeal.τ) (Cert.SmallKernelIdeal.main (F := Ideal))) ⟨m, fun _ => 0, g⟩ (fun r => (∀ c : Dev Cert.SmallKernelIdeal.nD,
      r.2.mem ((c.tc : Thread Cert.SmallKernelIdeal.nD Cert.SmallKernelIdeal.τ).loc Cert.SmallKernelIdeal.main_arg0) = m ((c.tc : Thread Cert.SmallKernelIdeal.nD Cert.SmallKernelIdeal.τ).loc Cert.SmallKernelIdeal.main_arg0)
      ∧ r.2.mem ((c.tc : Thread Cert.SmallKernelIdeal.nD Cert.SmallKernelIdeal.τ).loc Cert.SmallKernelIdeal.main_arg1) = m ((c.tc : Thread Cert.SmallKernelIdeal.nD Cert.SmallKernelIdeal.τ).loc Cert.SmallKernelIdeal.main_arg1)
      ∧ r.2.mem ((c.tc : Thread Cert.SmallKernelIdeal.nD Cert.SmallKernelIdeal.τ).loc Cert.SmallKernelIdeal.main_arg2) = m ((c.tc : Thread Cert.SmallKernelIdeal.nD Cert.SmallKernelIdeal.τ).loc Cert.SmallKernelIdeal.main_arg2)
      ∧ r.2.mem ((c.tc : Thread Cert.SmallKernelIdeal.nD Cert.SmallKernelIdeal.τ).loc Cert.SmallKernelIdeal.main_arg3) = m ((c.tc : Thread Cert.SmallKernelIdeal.nD Cert.SmallKernelIdeal.τ).loc Cert.SmallKernelIdeal.main_arg3)
      ∧ r.2.mem ((c.tc : Thread Cert.SmallKernelIdeal.nD Cert.SmallKernelIdeal.τ).loc Cert.SmallKernelIdeal.main_arg4) = m ((c.tc : Thread Cert.SmallKernelIdeal.nD Cert.SmallKernelIdeal.τ).loc Cert.SmallKernelIdeal.main_arg4)
      ∧ r.2.mem ((c.tc : Thread Cert.SmallKernelIdeal.nD Cert.SmallKernelIdeal.τ).loc Cert.SmallKernelIdeal.main_arg5) = m ((c.tc : Thread Cert.SmallKernelIdeal.nD Cert.SmallKernelIdeal.τ).loc Cert.SmallKernelIdeal.main_arg5)
      ∧ r.2.mem ((c.tc : Thread Cert.SmallKernelIdeal.nD Cert.SmallKernelIdeal.τ).loc Cert.SmallKernelIdeal.main_arg6) = m ((c.tc : Thread Cert.SmallKernelIdeal.nD Cert.SmallKernelIdeal.τ).loc Cert.SmallKernelIdeal.main_arg6)
      ∧ r.2.mem ((c.tc : Thread Cert.SmallKernelIdeal.nD Cert.SmallKernelIdeal.τ).loc Cert.SmallKernelIdeal.main_arg7) = m ((c.tc : Thread Cert.SmallKernelIdeal.nD Cert.SmallKernelIdeal.τ).loc Cert.SmallKernelIdeal.main_arg7)
      ∧ r.2.mem ((c.tc : Thread Cert.SmallKernelIdeal.nD Cert.SmallKernelIdeal.τ).loc Cert.SmallKernelIdeal.main_arg8) = m ((c.tc : Thread Cert.SmallKernelIdeal.nD Cert.SmallKernelIdeal.τ).loc Cert.SmallKernelIdeal.main_arg8)
      ∧ r.2.mem ((c.tc : Thread Cert.SmallKernelIdeal.nD Cert.SmallKernelIdeal.τ).loc Cert.SmallKernelIdeal.main_arg9) = m ((c.tc : Thread Cert.SmallKernelIdeal.nD Cert.SmallKernelIdeal.τ).loc Cert.SmallKernelIdeal.main_arg9)
      ∧ r.2.mem ((c.tc : Thread Cert.SmallKernelIdeal.nD Cert.SmallKernelIdeal.τ).loc Cert.SmallKernelIdeal.main_arg10) = m ((c.tc : Thread Cert.SmallKernelIdeal.nD Cert.SmallKernelIdeal.τ).loc Cert.SmallKernelIdeal.main_arg10)
      ∧ r.2.mem ((c.tc : Thread Cert.SmallKernelIdeal.nD Cert.SmallKernelIdeal.τ).loc Cert.SmallKernelIdeal.main_arg11) = m ((c.tc : Thread Cert.SmallKernelIdeal.nD Cert.SmallKernelIdeal.τ).loc Cert.SmallKernelIdeal.main_arg11)
      ∧ r.2.mem ((c.tc : Thread Cert.SmallKernelIdeal.nD Cert.SmallKernelIdeal.τ).loc Cert.SmallKernelIdeal.main_arg12) = m ((c.tc : Thread Cert.SmallKernelIdeal.nD Cert.SmallKernelIdeal.τ).loc Cert.SmallKernelIdeal.main_arg12)
      ∧ r.2.mem ((c.tc : Thread Cert.SmallKernelIdeal.nD Cert.SmallKernelIdeal.τ).loc Cert.SmallKernelIdeal.main_arg13) = m ((c.tc : Thread Cert.SmallKernelIdeal.nD Cert.SmallKernelIdeal.τ).loc Cert.SmallKernelIdeal.main_arg13)
      ∧ r.2.mem ((c.tc : Thread Cert.SmallKernelIdeal.nD Cert.SmallKernelIdeal.τ).loc Cert.SmallKernelIdeal.main_arg14) = m ((c.tc : Thread Cert.SmallKernelIdeal.nD Cert.SmallKernelIdeal.τ).loc Cert.SmallKernelIdeal.main_arg14)
      ∧ r.2.mem ((c.tc : Thread Cert.SmallKernelIdeal.nD Cert.SmallKernelIdeal.τ).loc Cert.SmallKernelIdeal.main_arg15) = m ((c.tc : Thread Cert.SmallKernelIdeal.nD Cert.SmallKernelIdeal.τ).loc Cert.SmallKernelIdeal.main_arg15))
      ∧ r.2.sem = fun _ => 0)

def quiescent_SmallReferenceIdeal [hSmallReferenceIdeal : Cert.SmallReferenceIdeal.Facts] : Prop :=
  ∀ (m : (ℓ : Loc Cert.SmallReferenceIdeal.nD Cert.SmallReferenceIdeal.τ Cert.SmallReferenceIdeal.sig) → Buf (Elt Ideal) ℓ) (g : Dev Cert.SmallReferenceIdeal.nD → PrngReg), Pre_SmallReferenceIdeal m →
    θ_run (Cert.SmallReferenceIdeal.defs (F := Ideal)) (onTc (τ := Cert.SmallReferenceIdeal.τ) (Cert.SmallReferenceIdeal.main (F := Ideal))) ⟨m, fun _ => 0, g⟩ (fun r => (∀ c : Dev Cert.SmallReferenceIdeal.nD,
      r.2.mem ((c.tc : Thread Cert.SmallReferenceIdeal.nD Cert.SmallReferenceIdeal.τ).loc Cert.SmallReferenceIdeal.main_arg0) = m ((c.tc : Thread Cert.SmallReferenceIdeal.nD Cert.SmallReferenceIdeal.τ).loc Cert.SmallReferenceIdeal.main_arg0)
      ∧ r.2.mem ((c.tc : Thread Cert.SmallReferenceIdeal.nD Cert.SmallReferenceIdeal.τ).loc Cert.SmallReferenceIdeal.main_arg1) = m ((c.tc : Thread Cert.SmallReferenceIdeal.nD Cert.SmallReferenceIdeal.τ).loc Cert.SmallReferenceIdeal.main_arg1)
      ∧ r.2.mem ((c.tc : Thread Cert.SmallReferenceIdeal.nD Cert.SmallReferenceIdeal.τ).loc Cert.SmallReferenceIdeal.main_arg2) = m ((c.tc : Thread Cert.SmallReferenceIdeal.nD Cert.SmallReferenceIdeal.τ).loc Cert.SmallReferenceIdeal.main_arg2)
      ∧ r.2.mem ((c.tc : Thread Cert.SmallReferenceIdeal.nD Cert.SmallReferenceIdeal.τ).loc Cert.SmallReferenceIdeal.main_arg3) = m ((c.tc : Thread Cert.SmallReferenceIdeal.nD Cert.SmallReferenceIdeal.τ).loc Cert.SmallReferenceIdeal.main_arg3)
      ∧ r.2.mem ((c.tc : Thread Cert.SmallReferenceIdeal.nD Cert.SmallReferenceIdeal.τ).loc Cert.SmallReferenceIdeal.main_arg4) = m ((c.tc : Thread Cert.SmallReferenceIdeal.nD Cert.SmallReferenceIdeal.τ).loc Cert.SmallReferenceIdeal.main_arg4)
      ∧ r.2.mem ((c.tc : Thread Cert.SmallReferenceIdeal.nD Cert.SmallReferenceIdeal.τ).loc Cert.SmallReferenceIdeal.main_arg5) = m ((c.tc : Thread Cert.SmallReferenceIdeal.nD Cert.SmallReferenceIdeal.τ).loc Cert.SmallReferenceIdeal.main_arg5)
      ∧ r.2.mem ((c.tc : Thread Cert.SmallReferenceIdeal.nD Cert.SmallReferenceIdeal.τ).loc Cert.SmallReferenceIdeal.main_arg6) = m ((c.tc : Thread Cert.SmallReferenceIdeal.nD Cert.SmallReferenceIdeal.τ).loc Cert.SmallReferenceIdeal.main_arg6)
      ∧ r.2.mem ((c.tc : Thread Cert.SmallReferenceIdeal.nD Cert.SmallReferenceIdeal.τ).loc Cert.SmallReferenceIdeal.main_arg7) = m ((c.tc : Thread Cert.SmallReferenceIdeal.nD Cert.SmallReferenceIdeal.τ).loc Cert.SmallReferenceIdeal.main_arg7)
      ∧ r.2.mem ((c.tc : Thread Cert.SmallReferenceIdeal.nD Cert.SmallReferenceIdeal.τ).loc Cert.SmallReferenceIdeal.main_arg8) = m ((c.tc : Thread Cert.SmallReferenceIdeal.nD Cert.SmallReferenceIdeal.τ).loc Cert.SmallReferenceIdeal.main_arg8)
      ∧ r.2.mem ((c.tc : Thread Cert.SmallReferenceIdeal.nD Cert.SmallReferenceIdeal.τ).loc Cert.SmallReferenceIdeal.main_arg9) = m ((c.tc : Thread Cert.SmallReferenceIdeal.nD Cert.SmallReferenceIdeal.τ).loc Cert.SmallReferenceIdeal.main_arg9)
      ∧ r.2.mem ((c.tc : Thread Cert.SmallReferenceIdeal.nD Cert.SmallReferenceIdeal.τ).loc Cert.SmallReferenceIdeal.main_arg10) = m ((c.tc : Thread Cert.SmallReferenceIdeal.nD Cert.SmallReferenceIdeal.τ).loc Cert.SmallReferenceIdeal.main_arg10)
      ∧ r.2.mem ((c.tc : Thread Cert.SmallReferenceIdeal.nD Cert.SmallReferenceIdeal.τ).loc Cert.SmallReferenceIdeal.main_arg11) = m ((c.tc : Thread Cert.SmallReferenceIdeal.nD Cert.SmallReferenceIdeal.τ).loc Cert.SmallReferenceIdeal.main_arg11)
      ∧ r.2.mem ((c.tc : Thread Cert.SmallReferenceIdeal.nD Cert.SmallReferenceIdeal.τ).loc Cert.SmallReferenceIdeal.main_arg12) = m ((c.tc : Thread Cert.SmallReferenceIdeal.nD Cert.SmallReferenceIdeal.τ).loc Cert.SmallReferenceIdeal.main_arg12)
      ∧ r.2.mem ((c.tc : Thread Cert.SmallReferenceIdeal.nD Cert.SmallReferenceIdeal.τ).loc Cert.SmallReferenceIdeal.main_arg13) = m ((c.tc : Thread Cert.SmallReferenceIdeal.nD Cert.SmallReferenceIdeal.τ).loc Cert.SmallReferenceIdeal.main_arg13)
      ∧ r.2.mem ((c.tc : Thread Cert.SmallReferenceIdeal.nD Cert.SmallReferenceIdeal.τ).loc Cert.SmallReferenceIdeal.main_arg14) = m ((c.tc : Thread Cert.SmallReferenceIdeal.nD Cert.SmallReferenceIdeal.τ).loc Cert.SmallReferenceIdeal.main_arg14)
      ∧ r.2.mem ((c.tc : Thread Cert.SmallReferenceIdeal.nD Cert.SmallReferenceIdeal.τ).loc Cert.SmallReferenceIdeal.main_arg15) = m ((c.tc : Thread Cert.SmallReferenceIdeal.nD Cert.SmallReferenceIdeal.τ).loc Cert.SmallReferenceIdeal.main_arg15))
      ∧ r.2.sem = fun _ => 0)

def quiescent_OwnKernel [hOwnKernel : Cert.OwnKernel.Facts] : Prop :=
  ∀ (m : (ℓ : Loc Cert.OwnKernel.nD Cert.OwnKernel.τ Cert.OwnKernel.sig) → Buf (Elt Bits) ℓ) (g : Dev Cert.OwnKernel.nD → PrngReg), Pre_OwnKernel m →
    θ_run (Cert.OwnKernel.defs (F := Bits)) (onTc (τ := Cert.OwnKernel.τ) (Cert.OwnKernel.main (F := Bits))) ⟨m, fun _ => 0, g⟩ (fun r => (∀ c : Dev Cert.OwnKernel.nD,
      r.2.mem ((c.tc : Thread Cert.OwnKernel.nD Cert.OwnKernel.τ).loc Cert.OwnKernel.main_arg0) = m ((c.tc : Thread Cert.OwnKernel.nD Cert.OwnKernel.τ).loc Cert.OwnKernel.main_arg0)
      ∧ r.2.mem ((c.tc : Thread Cert.OwnKernel.nD Cert.OwnKernel.τ).loc Cert.OwnKernel.main_arg1) = m ((c.tc : Thread Cert.OwnKernel.nD Cert.OwnKernel.τ).loc Cert.OwnKernel.main_arg1))
      ∧ r.2.sem = fun _ => 0)

def quiescent_OwnKernelIdeal [hOwnKernelIdeal : Cert.OwnKernelIdeal.Facts] : Prop :=
  ∀ (m : (ℓ : Loc Cert.OwnKernelIdeal.nD Cert.OwnKernelIdeal.τ Cert.OwnKernelIdeal.sig) → Buf (Elt Ideal) ℓ) (g : Dev Cert.OwnKernelIdeal.nD → PrngReg), Pre_OwnKernelIdeal m →
    θ_run (Cert.OwnKernelIdeal.defs (F := Ideal)) (onTc (τ := Cert.OwnKernelIdeal.τ) (Cert.OwnKernelIdeal.main (F := Ideal))) ⟨m, fun _ => 0, g⟩ (fun r => (∀ c : Dev Cert.OwnKernelIdeal.nD,
      r.2.mem ((c.tc : Thread Cert.OwnKernelIdeal.nD Cert.OwnKernelIdeal.τ).loc Cert.OwnKernelIdeal.main_arg0) = m ((c.tc : Thread Cert.OwnKernelIdeal.nD Cert.OwnKernelIdeal.τ).loc Cert.OwnKernelIdeal.main_arg0)
      ∧ r.2.mem ((c.tc : Thread Cert.OwnKernelIdeal.nD Cert.OwnKernelIdeal.τ).loc Cert.OwnKernelIdeal.main_arg1) = m ((c.tc : Thread Cert.OwnKernelIdeal.nD Cert.OwnKernelIdeal.τ).loc Cert.OwnKernelIdeal.main_arg1))
      ∧ r.2.sem = fun _ => 0)

def quiescent_OwnReferenceIdeal [hOwnReferenceIdeal : Cert.OwnReferenceIdeal.Facts] : Prop :=
  ∀ (m : (ℓ : Loc Cert.OwnReferenceIdeal.nD Cert.OwnReferenceIdeal.τ Cert.OwnReferenceIdeal.sig) → Buf (Elt Ideal) ℓ) (g : Dev Cert.OwnReferenceIdeal.nD → PrngReg), Pre_OwnReferenceIdeal m →
    θ_run (Cert.OwnReferenceIdeal.defs (F := Ideal)) (onTc (τ := Cert.OwnReferenceIdeal.τ) (Cert.OwnReferenceIdeal.main (F := Ideal))) ⟨m, fun _ => 0, g⟩ (fun r => (∀ c : Dev Cert.OwnReferenceIdeal.nD,
      r.2.mem ((c.tc : Thread Cert.OwnReferenceIdeal.nD Cert.OwnReferenceIdeal.τ).loc Cert.OwnReferenceIdeal.main_arg0) = m ((c.tc : Thread Cert.OwnReferenceIdeal.nD Cert.OwnReferenceIdeal.τ).loc Cert.OwnReferenceIdeal.main_arg0)
      ∧ r.2.mem ((c.tc : Thread Cert.OwnReferenceIdeal.nD Cert.OwnReferenceIdeal.τ).loc Cert.OwnReferenceIdeal.main_arg1) = m ((c.tc : Thread Cert.OwnReferenceIdeal.nD Cert.OwnReferenceIdeal.τ).loc Cert.OwnReferenceIdeal.main_arg1))
      ∧ r.2.sem = fun _ => 0)

def quiescent_StepKernel [hStepKernel : Cert.StepKernel.Facts] : Prop :=
  ∀ (m : (ℓ : Loc Cert.StepKernel.nD Cert.StepKernel.τ Cert.StepKernel.sig) → Buf (Elt Bits) ℓ) (g : Dev Cert.StepKernel.nD → PrngReg), Pre_StepKernel m →
    θ_run (Cert.StepKernel.defs (F := Bits)) (onTc (τ := Cert.StepKernel.τ) (Cert.StepKernel.main (F := Bits))) ⟨m, fun _ => 0, g⟩ (fun r => (∀ c : Dev Cert.StepKernel.nD,
      r.2.mem ((c.tc : Thread Cert.StepKernel.nD Cert.StepKernel.τ).loc Cert.StepKernel.main_arg0) = m ((c.tc : Thread Cert.StepKernel.nD Cert.StepKernel.τ).loc Cert.StepKernel.main_arg0)
      ∧ r.2.mem ((c.tc : Thread Cert.StepKernel.nD Cert.StepKernel.τ).loc Cert.StepKernel.main_arg1) = m ((c.tc : Thread Cert.StepKernel.nD Cert.StepKernel.τ).loc Cert.StepKernel.main_arg1)
      ∧ r.2.mem ((c.tc : Thread Cert.StepKernel.nD Cert.StepKernel.τ).loc Cert.StepKernel.main_arg2) = m ((c.tc : Thread Cert.StepKernel.nD Cert.StepKernel.τ).loc Cert.StepKernel.main_arg2)
      ∧ r.2.mem ((c.tc : Thread Cert.StepKernel.nD Cert.StepKernel.τ).loc Cert.StepKernel.main_arg3) = m ((c.tc : Thread Cert.StepKernel.nD Cert.StepKernel.τ).loc Cert.StepKernel.main_arg3)
      ∧ r.2.mem ((c.tc : Thread Cert.StepKernel.nD Cert.StepKernel.τ).loc Cert.StepKernel.main_arg4) = m ((c.tc : Thread Cert.StepKernel.nD Cert.StepKernel.τ).loc Cert.StepKernel.main_arg4)
      ∧ r.2.mem ((c.tc : Thread Cert.StepKernel.nD Cert.StepKernel.τ).loc Cert.StepKernel.main_arg5) = m ((c.tc : Thread Cert.StepKernel.nD Cert.StepKernel.τ).loc Cert.StepKernel.main_arg5)
      ∧ r.2.mem ((c.tc : Thread Cert.StepKernel.nD Cert.StepKernel.τ).loc Cert.StepKernel.main_arg6) = m ((c.tc : Thread Cert.StepKernel.nD Cert.StepKernel.τ).loc Cert.StepKernel.main_arg6)
      ∧ r.2.mem ((c.tc : Thread Cert.StepKernel.nD Cert.StepKernel.τ).loc Cert.StepKernel.main_arg7) = m ((c.tc : Thread Cert.StepKernel.nD Cert.StepKernel.τ).loc Cert.StepKernel.main_arg7)
      ∧ r.2.mem ((c.tc : Thread Cert.StepKernel.nD Cert.StepKernel.τ).loc Cert.StepKernel.main_arg8) = m ((c.tc : Thread Cert.StepKernel.nD Cert.StepKernel.τ).loc Cert.StepKernel.main_arg8))
      ∧ r.2.sem = fun _ => 0)

def quiescent_StepKernelIdeal [hStepKernelIdeal : Cert.StepKernelIdeal.Facts] : Prop :=
  ∀ (m : (ℓ : Loc Cert.StepKernelIdeal.nD Cert.StepKernelIdeal.τ Cert.StepKernelIdeal.sig) → Buf (Elt Ideal) ℓ) (g : Dev Cert.StepKernelIdeal.nD → PrngReg), Pre_StepKernelIdeal m →
    θ_run (Cert.StepKernelIdeal.defs (F := Ideal)) (onTc (τ := Cert.StepKernelIdeal.τ) (Cert.StepKernelIdeal.main (F := Ideal))) ⟨m, fun _ => 0, g⟩ (fun r => (∀ c : Dev Cert.StepKernelIdeal.nD,
      r.2.mem ((c.tc : Thread Cert.StepKernelIdeal.nD Cert.StepKernelIdeal.τ).loc Cert.StepKernelIdeal.main_arg0) = m ((c.tc : Thread Cert.StepKernelIdeal.nD Cert.StepKernelIdeal.τ).loc Cert.StepKernelIdeal.main_arg0)
      ∧ r.2.mem ((c.tc : Thread Cert.StepKernelIdeal.nD Cert.StepKernelIdeal.τ).loc Cert.StepKernelIdeal.main_arg1) = m ((c.tc : Thread Cert.StepKernelIdeal.nD Cert.StepKernelIdeal.τ).loc Cert.StepKernelIdeal.main_arg1)
      ∧ r.2.mem ((c.tc : Thread Cert.StepKernelIdeal.nD Cert.StepKernelIdeal.τ).loc Cert.StepKernelIdeal.main_arg2) = m ((c.tc : Thread Cert.StepKernelIdeal.nD Cert.StepKernelIdeal.τ).loc Cert.StepKernelIdeal.main_arg2)
      ∧ r.2.mem ((c.tc : Thread Cert.StepKernelIdeal.nD Cert.StepKernelIdeal.τ).loc Cert.StepKernelIdeal.main_arg3) = m ((c.tc : Thread Cert.StepKernelIdeal.nD Cert.StepKernelIdeal.τ).loc Cert.StepKernelIdeal.main_arg3)
      ∧ r.2.mem ((c.tc : Thread Cert.StepKernelIdeal.nD Cert.StepKernelIdeal.τ).loc Cert.StepKernelIdeal.main_arg4) = m ((c.tc : Thread Cert.StepKernelIdeal.nD Cert.StepKernelIdeal.τ).loc Cert.StepKernelIdeal.main_arg4)
      ∧ r.2.mem ((c.tc : Thread Cert.StepKernelIdeal.nD Cert.StepKernelIdeal.τ).loc Cert.StepKernelIdeal.main_arg5) = m ((c.tc : Thread Cert.StepKernelIdeal.nD Cert.StepKernelIdeal.τ).loc Cert.StepKernelIdeal.main_arg5)
      ∧ r.2.mem ((c.tc : Thread Cert.StepKernelIdeal.nD Cert.StepKernelIdeal.τ).loc Cert.StepKernelIdeal.main_arg6) = m ((c.tc : Thread Cert.StepKernelIdeal.nD Cert.StepKernelIdeal.τ).loc Cert.StepKernelIdeal.main_arg6)
      ∧ r.2.mem ((c.tc : Thread Cert.StepKernelIdeal.nD Cert.StepKernelIdeal.τ).loc Cert.StepKernelIdeal.main_arg7) = m ((c.tc : Thread Cert.StepKernelIdeal.nD Cert.StepKernelIdeal.τ).loc Cert.StepKernelIdeal.main_arg7)
      ∧ r.2.mem ((c.tc : Thread Cert.StepKernelIdeal.nD Cert.StepKernelIdeal.τ).loc Cert.StepKernelIdeal.main_arg8) = m ((c.tc : Thread Cert.StepKernelIdeal.nD Cert.StepKernelIdeal.τ).loc Cert.StepKernelIdeal.main_arg8))
      ∧ r.2.sem = fun _ => 0)

def quiescent_StepReferenceIdeal [hStepReferenceIdeal : Cert.StepReferenceIdeal.Facts] : Prop :=
  ∀ (m : (ℓ : Loc Cert.StepReferenceIdeal.nD Cert.StepReferenceIdeal.τ Cert.StepReferenceIdeal.sig) → Buf (Elt Ideal) ℓ) (g : Dev Cert.StepReferenceIdeal.nD → PrngReg), Pre_StepReferenceIdeal m →
    θ_run (Cert.StepReferenceIdeal.defs (F := Ideal)) (onTc (τ := Cert.StepReferenceIdeal.τ) (Cert.StepReferenceIdeal.main (F := Ideal))) ⟨m, fun _ => 0, g⟩ (fun r => (∀ c : Dev Cert.StepReferenceIdeal.nD,
      r.2.mem ((c.tc : Thread Cert.StepReferenceIdeal.nD Cert.StepReferenceIdeal.τ).loc Cert.StepReferenceIdeal.main_arg0) = m ((c.tc : Thread Cert.StepReferenceIdeal.nD Cert.StepReferenceIdeal.τ).loc Cert.StepReferenceIdeal.main_arg0)
      ∧ r.2.mem ((c.tc : Thread Cert.StepReferenceIdeal.nD Cert.StepReferenceIdeal.τ).loc Cert.StepReferenceIdeal.main_arg1) = m ((c.tc : Thread Cert.StepReferenceIdeal.nD Cert.StepReferenceIdeal.τ).loc Cert.StepReferenceIdeal.main_arg1)
      ∧ r.2.mem ((c.tc : Thread Cert.StepReferenceIdeal.nD Cert.StepReferenceIdeal.τ).loc Cert.StepReferenceIdeal.main_arg2) = m ((c.tc : Thread Cert.StepReferenceIdeal.nD Cert.StepReferenceIdeal.τ).loc Cert.StepReferenceIdeal.main_arg2)
      ∧ r.2.mem ((c.tc : Thread Cert.StepReferenceIdeal.nD Cert.StepReferenceIdeal.τ).loc Cert.StepReferenceIdeal.main_arg3) = m ((c.tc : Thread Cert.StepReferenceIdeal.nD Cert.StepReferenceIdeal.τ).loc Cert.StepReferenceIdeal.main_arg3)
      ∧ r.2.mem ((c.tc : Thread Cert.StepReferenceIdeal.nD Cert.StepReferenceIdeal.τ).loc Cert.StepReferenceIdeal.main_arg4) = m ((c.tc : Thread Cert.StepReferenceIdeal.nD Cert.StepReferenceIdeal.τ).loc Cert.StepReferenceIdeal.main_arg4)
      ∧ r.2.mem ((c.tc : Thread Cert.StepReferenceIdeal.nD Cert.StepReferenceIdeal.τ).loc Cert.StepReferenceIdeal.main_arg5) = m ((c.tc : Thread Cert.StepReferenceIdeal.nD Cert.StepReferenceIdeal.τ).loc Cert.StepReferenceIdeal.main_arg5)
      ∧ r.2.mem ((c.tc : Thread Cert.StepReferenceIdeal.nD Cert.StepReferenceIdeal.τ).loc Cert.StepReferenceIdeal.main_arg6) = m ((c.tc : Thread Cert.StepReferenceIdeal.nD Cert.StepReferenceIdeal.τ).loc Cert.StepReferenceIdeal.main_arg6)
      ∧ r.2.mem ((c.tc : Thread Cert.StepReferenceIdeal.nD Cert.StepReferenceIdeal.τ).loc Cert.StepReferenceIdeal.main_arg7) = m ((c.tc : Thread Cert.StepReferenceIdeal.nD Cert.StepReferenceIdeal.τ).loc Cert.StepReferenceIdeal.main_arg7)
      ∧ r.2.mem ((c.tc : Thread Cert.StepReferenceIdeal.nD Cert.StepReferenceIdeal.τ).loc Cert.StepReferenceIdeal.main_arg8) = m ((c.tc : Thread Cert.StepReferenceIdeal.nD Cert.StepReferenceIdeal.τ).loc Cert.StepReferenceIdeal.main_arg8))
      ∧ r.2.sem = fun _ => 0)

def preserves_CpKernel_CpKernelIdeal : Prop :=
  True

def algebraic_CpKernelIdeal_CpReferenceIdeal_pre_finite_cp [hCpKernelIdeal : Cert.CpKernelIdeal.Facts] [hCpReferenceIdeal : Cert.CpReferenceIdeal.Facts] [hPre_finite_cp : Cert.Pre_finite_cp.Facts] : Prop :=
  ∀ (m : (ℓ : Loc Cert.CpKernelIdeal.nD Cert.CpKernelIdeal.τ Cert.CpKernelIdeal.sig) → Buf (Elt Ideal) ℓ) (g : Dev Cert.CpKernelIdeal.nD → PrngReg)
    (m' : (ℓ : Loc Cert.CpReferenceIdeal.nD Cert.CpReferenceIdeal.τ Cert.CpReferenceIdeal.sig) → Buf (Elt Ideal) ℓ) (g' : Dev Cert.CpReferenceIdeal.nD → PrngReg), Pre_CpKernelIdeal_finite_cp m →
    (∀ c : Dev Cert.CpKernelIdeal.nD,
      m' ((c.tc : Thread Cert.CpReferenceIdeal.nD Cert.CpReferenceIdeal.τ).loc Cert.CpReferenceIdeal.main_arg0) = m ((c.tc : Thread Cert.CpKernelIdeal.nD Cert.CpKernelIdeal.τ).loc Cert.CpKernelIdeal.main_arg0)
      ∧ m' ((c.tc : Thread Cert.CpReferenceIdeal.nD Cert.CpReferenceIdeal.τ).loc Cert.CpReferenceIdeal.main_arg1) = m ((c.tc : Thread Cert.CpKernelIdeal.nD Cert.CpKernelIdeal.τ).loc Cert.CpKernelIdeal.main_arg1)
      ∧ m' ((c.tc : Thread Cert.CpReferenceIdeal.nD Cert.CpReferenceIdeal.τ).loc Cert.CpReferenceIdeal.main_arg2) = m ((c.tc : Thread Cert.CpKernelIdeal.nD Cert.CpKernelIdeal.τ).loc Cert.CpKernelIdeal.main_arg2)
      ∧ m' ((c.tc : Thread Cert.CpReferenceIdeal.nD Cert.CpReferenceIdeal.τ).loc Cert.CpReferenceIdeal.main_arg3) = m ((c.tc : Thread Cert.CpKernelIdeal.nD Cert.CpKernelIdeal.τ).loc Cert.CpKernelIdeal.main_arg3)
      ∧ m' ((c.tc : Thread Cert.CpReferenceIdeal.nD Cert.CpReferenceIdeal.τ).loc Cert.CpReferenceIdeal.main_arg4) = m ((c.tc : Thread Cert.CpKernelIdeal.nD Cert.CpKernelIdeal.τ).loc Cert.CpKernelIdeal.main_arg4)
      ∧ m' ((c.tc : Thread Cert.CpReferenceIdeal.nD Cert.CpReferenceIdeal.τ).loc Cert.CpReferenceIdeal.main_arg5) = m ((c.tc : Thread Cert.CpKernelIdeal.nD Cert.CpKernelIdeal.τ).loc Cert.CpKernelIdeal.main_arg5)
      ∧ m' ((c.tc : Thread Cert.CpReferenceIdeal.nD Cert.CpReferenceIdeal.τ).loc Cert.CpReferenceIdeal.main_arg6) = m ((c.tc : Thread Cert.CpKernelIdeal.nD Cert.CpKernelIdeal.τ).loc Cert.CpKernelIdeal.main_arg6)
      ∧ m' ((c.tc : Thread Cert.CpReferenceIdeal.nD Cert.CpReferenceIdeal.τ).loc Cert.CpReferenceIdeal.main_arg7) = m ((c.tc : Thread Cert.CpKernelIdeal.nD Cert.CpKernelIdeal.τ).loc Cert.CpKernelIdeal.main_arg7)
      ∧ m' ((c.tc : Thread Cert.CpReferenceIdeal.nD Cert.CpReferenceIdeal.τ).loc Cert.CpReferenceIdeal.main_arg8) = m ((c.tc : Thread Cert.CpKernelIdeal.nD Cert.CpKernelIdeal.τ).loc Cert.CpKernelIdeal.main_arg8)) →
    ∃ (v0 : (c : Dev Cert.CpKernelIdeal.nD) → Buf (Elt Ideal) ((c.tc : Thread Cert.CpKernelIdeal.nD Cert.CpKernelIdeal.τ).loc Cert.CpKernelIdeal.main_v160_0)) (v1 : (c : Dev Cert.CpKernelIdeal.nD) → Buf (Elt Ideal) ((c.tc : Thread Cert.CpKernelIdeal.nD Cert.CpKernelIdeal.τ).loc Cert.CpKernelIdeal.main_v160_1)) (v2 : (c : Dev Cert.CpKernelIdeal.nD) → Buf (Elt Ideal) ((c.tc : Thread Cert.CpKernelIdeal.nD Cert.CpKernelIdeal.τ).loc Cert.CpKernelIdeal.main_v160_2)) (v3 : (c : Dev Cert.CpKernelIdeal.nD) → Buf (Elt Ideal) ((c.tc : Thread Cert.CpKernelIdeal.nD Cert.CpKernelIdeal.τ).loc Cert.CpKernelIdeal.main_v160_3)),
      θ_run (Cert.CpKernelIdeal.defs (F := Ideal)) (onTc (τ := Cert.CpKernelIdeal.τ) (Cert.CpKernelIdeal.main (F := Ideal))) ⟨m, fun _ => 0, g⟩ (fun r => ∀ c : Dev Cert.CpKernelIdeal.nD,
          r.2.mem ((c.tc : Thread Cert.CpKernelIdeal.nD Cert.CpKernelIdeal.τ).loc Cert.CpKernelIdeal.main_v160_0) = v0 c
          ∧ r.2.mem ((c.tc : Thread Cert.CpKernelIdeal.nD Cert.CpKernelIdeal.τ).loc Cert.CpKernelIdeal.main_v160_1) = v1 c
          ∧ r.2.mem ((c.tc : Thread Cert.CpKernelIdeal.nD Cert.CpKernelIdeal.τ).loc Cert.CpKernelIdeal.main_v160_2) = v2 c
          ∧ r.2.mem ((c.tc : Thread Cert.CpKernelIdeal.nD Cert.CpKernelIdeal.τ).loc Cert.CpKernelIdeal.main_v160_3) = v3 c
          ∧ r.2.mem ((c.tc : Thread Cert.CpKernelIdeal.nD Cert.CpKernelIdeal.τ).loc Cert.CpKernelIdeal.main_arg0) = m ((c.tc : Thread Cert.CpKernelIdeal.nD Cert.CpKernelIdeal.τ).loc Cert.CpKernelIdeal.main_arg0)
          ∧ r.2.mem ((c.tc : Thread Cert.CpKernelIdeal.nD Cert.CpKernelIdeal.τ).loc Cert.CpKernelIdeal.main_arg1) = m ((c.tc : Thread Cert.CpKernelIdeal.nD Cert.CpKernelIdeal.τ).loc Cert.CpKernelIdeal.main_arg1)
          ∧ r.2.mem ((c.tc : Thread Cert.CpKernelIdeal.nD Cert.CpKernelIdeal.τ).loc Cert.CpKernelIdeal.main_arg2) = m ((c.tc : Thread Cert.CpKernelIdeal.nD Cert.CpKernelIdeal.τ).loc Cert.CpKernelIdeal.main_arg2)
          ∧ r.2.mem ((c.tc : Thread Cert.CpKernelIdeal.nD Cert.CpKernelIdeal.τ).loc Cert.CpKernelIdeal.main_arg3) = m ((c.tc : Thread Cert.CpKernelIdeal.nD Cert.CpKernelIdeal.τ).loc Cert.CpKernelIdeal.main_arg3)
          ∧ r.2.mem ((c.tc : Thread Cert.CpKernelIdeal.nD Cert.CpKernelIdeal.τ).loc Cert.CpKernelIdeal.main_arg4) = m ((c.tc : Thread Cert.CpKernelIdeal.nD Cert.CpKernelIdeal.τ).loc Cert.CpKernelIdeal.main_arg4)
          ∧ r.2.mem ((c.tc : Thread Cert.CpKernelIdeal.nD Cert.CpKernelIdeal.τ).loc Cert.CpKernelIdeal.main_arg5) = m ((c.tc : Thread Cert.CpKernelIdeal.nD Cert.CpKernelIdeal.τ).loc Cert.CpKernelIdeal.main_arg5)
          ∧ r.2.mem ((c.tc : Thread Cert.CpKernelIdeal.nD Cert.CpKernelIdeal.τ).loc Cert.CpKernelIdeal.main_arg6) = m ((c.tc : Thread Cert.CpKernelIdeal.nD Cert.CpKernelIdeal.τ).loc Cert.CpKernelIdeal.main_arg6)
          ∧ r.2.mem ((c.tc : Thread Cert.CpKernelIdeal.nD Cert.CpKernelIdeal.τ).loc Cert.CpKernelIdeal.main_arg7) = m ((c.tc : Thread Cert.CpKernelIdeal.nD Cert.CpKernelIdeal.τ).loc Cert.CpKernelIdeal.main_arg7)
          ∧ r.2.mem ((c.tc : Thread Cert.CpKernelIdeal.nD Cert.CpKernelIdeal.τ).loc Cert.CpKernelIdeal.main_arg8) = m ((c.tc : Thread Cert.CpKernelIdeal.nD Cert.CpKernelIdeal.τ).loc Cert.CpKernelIdeal.main_arg8))
      ∧ θ_run (Cert.CpReferenceIdeal.defs (F := Ideal)) (onTc (τ := Cert.CpReferenceIdeal.τ) (Cert.CpReferenceIdeal.main (F := Ideal))) ⟨m', fun _ => 0, g'⟩ (fun r => ∀ c : Dev Cert.CpReferenceIdeal.nD,
          r.2.mem ((c.tc : Thread Cert.CpReferenceIdeal.nD Cert.CpReferenceIdeal.τ).loc Cert.CpReferenceIdeal.main_v437) = v0 c
          ∧ r.2.mem ((c.tc : Thread Cert.CpReferenceIdeal.nD Cert.CpReferenceIdeal.τ).loc Cert.CpReferenceIdeal.main_v439) = v1 c
          ∧ r.2.mem ((c.tc : Thread Cert.CpReferenceIdeal.nD Cert.CpReferenceIdeal.τ).loc Cert.CpReferenceIdeal.main_v436) = v2 c
          ∧ r.2.mem ((c.tc : Thread Cert.CpReferenceIdeal.nD Cert.CpReferenceIdeal.τ).loc Cert.CpReferenceIdeal.main_v203) = v3 c
          ∧ r.2.mem ((c.tc : Thread Cert.CpReferenceIdeal.nD Cert.CpReferenceIdeal.τ).loc Cert.CpReferenceIdeal.main_arg0) = m' ((c.tc : Thread Cert.CpReferenceIdeal.nD Cert.CpReferenceIdeal.τ).loc Cert.CpReferenceIdeal.main_arg0)
          ∧ r.2.mem ((c.tc : Thread Cert.CpReferenceIdeal.nD Cert.CpReferenceIdeal.τ).loc Cert.CpReferenceIdeal.main_arg1) = m' ((c.tc : Thread Cert.CpReferenceIdeal.nD Cert.CpReferenceIdeal.τ).loc Cert.CpReferenceIdeal.main_arg1)
          ∧ r.2.mem ((c.tc : Thread Cert.CpReferenceIdeal.nD Cert.CpReferenceIdeal.τ).loc Cert.CpReferenceIdeal.main_arg2) = m' ((c.tc : Thread Cert.CpReferenceIdeal.nD Cert.CpReferenceIdeal.τ).loc Cert.CpReferenceIdeal.main_arg2)
          ∧ r.2.mem ((c.tc : Thread Cert.CpReferenceIdeal.nD Cert.CpReferenceIdeal.τ).loc Cert.CpReferenceIdeal.main_arg3) = m' ((c.tc : Thread Cert.CpReferenceIdeal.nD Cert.CpReferenceIdeal.τ).loc Cert.CpReferenceIdeal.main_arg3)
          ∧ r.2.mem ((c.tc : Thread Cert.CpReferenceIdeal.nD Cert.CpReferenceIdeal.τ).loc Cert.CpReferenceIdeal.main_arg4) = m' ((c.tc : Thread Cert.CpReferenceIdeal.nD Cert.CpReferenceIdeal.τ).loc Cert.CpReferenceIdeal.main_arg4)
          ∧ r.2.mem ((c.tc : Thread Cert.CpReferenceIdeal.nD Cert.CpReferenceIdeal.τ).loc Cert.CpReferenceIdeal.main_arg5) = m' ((c.tc : Thread Cert.CpReferenceIdeal.nD Cert.CpReferenceIdeal.τ).loc Cert.CpReferenceIdeal.main_arg5)
          ∧ r.2.mem ((c.tc : Thread Cert.CpReferenceIdeal.nD Cert.CpReferenceIdeal.τ).loc Cert.CpReferenceIdeal.main_arg6) = m' ((c.tc : Thread Cert.CpReferenceIdeal.nD Cert.CpReferenceIdeal.τ).loc Cert.CpReferenceIdeal.main_arg6)
          ∧ r.2.mem ((c.tc : Thread Cert.CpReferenceIdeal.nD Cert.CpReferenceIdeal.τ).loc Cert.CpReferenceIdeal.main_arg7) = m' ((c.tc : Thread Cert.CpReferenceIdeal.nD Cert.CpReferenceIdeal.τ).loc Cert.CpReferenceIdeal.main_arg7)
          ∧ r.2.mem ((c.tc : Thread Cert.CpReferenceIdeal.nD Cert.CpReferenceIdeal.τ).loc Cert.CpReferenceIdeal.main_arg8) = m' ((c.tc : Thread Cert.CpReferenceIdeal.nD Cert.CpReferenceIdeal.τ).loc Cert.CpReferenceIdeal.main_arg8))

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)) →
    ∃ (v0 : (c : Dev Cert.LossKernelIdeal.nD) → Buf (Elt Ideal) ((c.tc : Thread Cert.LossKernelIdeal.nD Cert.LossKernelIdeal.τ).loc Cert.LossKernelIdeal.main_v3_0)) (v1 : (c : Dev Cert.LossKernelIdeal.nD) → Buf (Elt Ideal) ((c.tc : Thread Cert.LossKernelIdeal.nD Cert.LossKernelIdeal.τ).loc Cert.LossKernelIdeal.main_v3_1)) (v2 : (c : Dev Cert.LossKernelIdeal.nD) → Buf (Elt Ideal) ((c.tc : Thread Cert.LossKernelIdeal.nD Cert.LossKernelIdeal.τ).loc Cert.LossKernelIdeal.main_v3_2)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v3_0) = v0 c
          ∧ r.2.mem ((c.tc : Thread Cert.LossKernelIdeal.nD Cert.LossKernelIdeal.τ).loc Cert.LossKernelIdeal.main_v3_1) = v1 c
          ∧ r.2.mem ((c.tc : Thread Cert.LossKernelIdeal.nD Cert.LossKernelIdeal.τ).loc Cert.LossKernelIdeal.main_v3_2) = v2 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v53) = v0 c
          ∧ r.2.mem ((c.tc : Thread Cert.LossReferenceIdeal.nD Cert.LossReferenceIdeal.τ).loc Cert.LossReferenceIdeal.main_v54) = v1 c
          ∧ r.2.mem ((c.tc : Thread Cert.LossReferenceIdeal.nD Cert.LossReferenceIdeal.τ).loc Cert.LossReferenceIdeal.main_v55) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)
      ∧ m' ((c.tc : Thread Cert.NormReferenceIdeal.nD Cert.NormReferenceIdeal.τ).loc Cert.NormReferenceIdeal.main_arg2) = m ((c.tc : Thread Cert.NormKernelIdeal.nD Cert.NormKernelIdeal.τ).loc Cert.NormKernelIdeal.main_arg2)
      ∧ m' ((c.tc : Thread Cert.NormReferenceIdeal.nD Cert.NormReferenceIdeal.τ).loc Cert.NormReferenceIdeal.main_arg3) = m ((c.tc : Thread Cert.NormKernelIdeal.nD Cert.NormKernelIdeal.τ).loc Cert.NormKernelIdeal.main_arg3)
      ∧ m' ((c.tc : Thread Cert.NormReferenceIdeal.nD Cert.NormReferenceIdeal.τ).loc Cert.NormReferenceIdeal.main_arg4) = m ((c.tc : Thread Cert.NormKernelIdeal.nD Cert.NormKernelIdeal.τ).loc Cert.NormKernelIdeal.main_arg4)) →
    ∃ (v0 : (c : Dev Cert.NormKernelIdeal.nD) → Buf (Elt Ideal) ((c.tc : Thread Cert.NormKernelIdeal.nD Cert.NormKernelIdeal.τ).loc Cert.NormKernelIdeal.main_v13_0)) (v1 : (c : Dev Cert.NormKernelIdeal.nD) → Buf (Elt Ideal) ((c.tc : Thread Cert.NormKernelIdeal.nD Cert.NormKernelIdeal.τ).loc Cert.NormKernelIdeal.main_v13_1)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v13_0) = v0 c
          ∧ r.2.mem ((c.tc : Thread Cert.NormKernelIdeal.nD Cert.NormKernelIdeal.τ).loc Cert.NormKernelIdeal.main_v13_1) = v1 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
          ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
          ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
          ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v39) = v0 c
          ∧ r.2.mem ((c.tc : Thread Cert.NormReferenceIdeal.nD Cert.NormReferenceIdeal.τ).loc Cert.NormReferenceIdeal.main_v40) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3)
          ∧ r.2.mem ((c.tc : Thread Cert.NormReferenceIdeal.nD Cert.NormReferenceIdeal.τ).loc Cert.NormReferenceIdeal.main_arg4) = m' ((c.tc : Thread Cert.NormReferenceIdeal.nD Cert.NormReferenceIdeal.τ).loc Cert.NormReferenceIdeal.main_arg4))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)) →
    ∃ (v0 : (c : Dev Cert.FfnKernelIdeal.nD) → Buf (Elt Ideal) ((c.tc : Thread Cert.FfnKernelIdeal.nD Cert.FfnKernelIdeal.τ).loc Cert.FfnKernelIdeal.main_v27_0)) (v1 : (c : Dev Cert.FfnKernelIdeal.nD) → Buf (Elt Ideal) ((c.tc : Thread Cert.FfnKernelIdeal.nD Cert.FfnKernelIdeal.τ).loc Cert.FfnKernelIdeal.main_v27_1)) (v2 : (c : Dev Cert.FfnKernelIdeal.nD) → Buf (Elt Ideal) ((c.tc : Thread Cert.FfnKernelIdeal.nD Cert.FfnKernelIdeal.τ).loc Cert.FfnKernelIdeal.main_v27_2)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v27_0) = v0 c
          ∧ r.2.mem ((c.tc : Thread Cert.FfnKernelIdeal.nD Cert.FfnKernelIdeal.τ).loc Cert.FfnKernelIdeal.main_v27_1) = v1 c
          ∧ r.2.mem ((c.tc : Thread Cert.FfnKernelIdeal.nD Cert.FfnKernelIdeal.τ).loc Cert.FfnKernelIdeal.main_v27_2) = v2 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v52) = v0 c
          ∧ r.2.mem ((c.tc : Thread Cert.FfnReferenceIdeal.nD Cert.FfnReferenceIdeal.τ).loc Cert.FfnReferenceIdeal.main_v55) = v1 c
          ∧ r.2.mem ((c.tc : Thread Cert.FfnReferenceIdeal.nD Cert.FfnReferenceIdeal.τ).loc Cert.FfnReferenceIdeal.main_v56) = v2 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_HeadKernel_HeadKernelIdeal : Prop :=
  True

def algebraic_HeadKernelIdeal_HeadReferenceIdeal [hHeadKernelIdeal : Cert.HeadKernelIdeal.Facts] [hHeadReferenceIdeal : Cert.HeadReferenceIdeal.Facts] : Prop :=
  ∀ (m : (ℓ : Loc Cert.HeadKernelIdeal.nD Cert.HeadKernelIdeal.τ Cert.HeadKernelIdeal.sig) → Buf (Elt Ideal) ℓ) (g : Dev Cert.HeadKernelIdeal.nD → PrngReg)
    (m' : (ℓ : Loc Cert.HeadReferenceIdeal.nD Cert.HeadReferenceIdeal.τ Cert.HeadReferenceIdeal.sig) → Buf (Elt Ideal) ℓ) (g' : Dev Cert.HeadReferenceIdeal.nD → PrngReg), Pre_HeadKernelIdeal m →
    (∀ c : Dev Cert.HeadKernelIdeal.nD,
      m' ((c.tc : Thread Cert.HeadReferenceIdeal.nD Cert.HeadReferenceIdeal.τ).loc Cert.HeadReferenceIdeal.main_arg0) = m ((c.tc : Thread Cert.HeadKernelIdeal.nD Cert.HeadKernelIdeal.τ).loc Cert.HeadKernelIdeal.main_arg0)
      ∧ m' ((c.tc : Thread Cert.HeadReferenceIdeal.nD Cert.HeadReferenceIdeal.τ).loc Cert.HeadReferenceIdeal.main_arg1) = m ((c.tc : Thread Cert.HeadKernelIdeal.nD Cert.HeadKernelIdeal.τ).loc Cert.HeadKernelIdeal.main_arg1)
      ∧ m' ((c.tc : Thread Cert.HeadReferenceIdeal.nD Cert.HeadReferenceIdeal.τ).loc Cert.HeadReferenceIdeal.main_arg2) = m ((c.tc : Thread Cert.HeadKernelIdeal.nD Cert.HeadKernelIdeal.τ).loc Cert.HeadKernelIdeal.main_arg2)
      ∧ m' ((c.tc : Thread Cert.HeadReferenceIdeal.nD Cert.HeadReferenceIdeal.τ).loc Cert.HeadReferenceIdeal.main_arg3) = m ((c.tc : Thread Cert.HeadKernelIdeal.nD Cert.HeadKernelIdeal.τ).loc Cert.HeadKernelIdeal.main_arg3)
      ∧ m' ((c.tc : Thread Cert.HeadReferenceIdeal.nD Cert.HeadReferenceIdeal.τ).loc Cert.HeadReferenceIdeal.main_arg4) = m ((c.tc : Thread Cert.HeadKernelIdeal.nD Cert.HeadKernelIdeal.τ).loc Cert.HeadKernelIdeal.main_arg4)) →
    ∃ (v0 : (c : Dev Cert.HeadKernelIdeal.nD) → Buf (Elt Ideal) ((c.tc : Thread Cert.HeadKernelIdeal.nD Cert.HeadKernelIdeal.τ).loc Cert.HeadKernelIdeal.main_v9_0)) (v1 : (c : Dev Cert.HeadKernelIdeal.nD) → Buf (Elt Ideal) ((c.tc : Thread Cert.HeadKernelIdeal.nD Cert.HeadKernelIdeal.τ).loc Cert.HeadKernelIdeal.main_v9_1)),
      θ_run (Cert.HeadKernelIdeal.defs (F := Ideal)) (onTc (τ := Cert.HeadKernelIdeal.τ) (Cert.HeadKernelIdeal.main (F := Ideal))) ⟨m, fun _ => 0, g⟩ (fun r => ∀ c : Dev Cert.HeadKernelIdeal.nD,
          r.2.mem ((c.tc : Thread Cert.HeadKernelIdeal.nD Cert.HeadKernelIdeal.τ).loc Cert.HeadKernelIdeal.main_v9_0) = v0 c
          ∧ r.2.mem ((c.tc : Thread Cert.HeadKernelIdeal.nD Cert.HeadKernelIdeal.τ).loc Cert.HeadKernelIdeal.main_v9_1) = v1 c
          ∧ r.2.mem ((c.tc : Thread Cert.HeadKernelIdeal.nD Cert.HeadKernelIdeal.τ).loc Cert.HeadKernelIdeal.main_arg0) = m ((c.tc : Thread Cert.HeadKernelIdeal.nD Cert.HeadKernelIdeal.τ).loc Cert.HeadKernelIdeal.main_arg0)
          ∧ r.2.mem ((c.tc : Thread Cert.HeadKernelIdeal.nD Cert.HeadKernelIdeal.τ).loc Cert.HeadKernelIdeal.main_arg1) = m ((c.tc : Thread Cert.HeadKernelIdeal.nD Cert.HeadKernelIdeal.τ).loc Cert.HeadKernelIdeal.main_arg1)
          ∧ r.2.mem ((c.tc : Thread Cert.HeadKernelIdeal.nD Cert.HeadKernelIdeal.τ).loc Cert.HeadKernelIdeal.main_arg2) = m ((c.tc : Thread Cert.HeadKernelIdeal.nD Cert.HeadKernelIdeal.τ).loc Cert.HeadKernelIdeal.main_arg2)
          ∧ r.2.mem ((c.tc : Thread Cert.HeadKernelIdeal.nD Cert.HeadKernelIdeal.τ).loc Cert.HeadKernelIdeal.main_arg3) = m ((c.tc : Thread Cert.HeadKernelIdeal.nD Cert.HeadKernelIdeal.τ).loc Cert.HeadKernelIdeal.main_arg3)
          ∧ r.2.mem ((c.tc : Thread Cert.HeadKernelIdeal.nD Cert.HeadKernelIdeal.τ).loc Cert.HeadKernelIdeal.main_arg4) = m ((c.tc : Thread Cert.HeadKernelIdeal.nD Cert.HeadKernelIdeal.τ).loc Cert.HeadKernelIdeal.main_arg4))
      ∧ θ_run (Cert.HeadReferenceIdeal.defs (F := Ideal)) (onTc (τ := Cert.HeadReferenceIdeal.τ) (Cert.HeadReferenceIdeal.main (F := Ideal))) ⟨m', fun _ => 0, g'⟩ (fun r => ∀ c : Dev Cert.HeadReferenceIdeal.nD,
          r.2.mem ((c.tc : Thread Cert.HeadReferenceIdeal.nD Cert.HeadReferenceIdeal.τ).loc Cert.HeadReferenceIdeal.main_v43) = v0 c
          ∧ r.2.mem ((c.tc : Thread Cert.HeadReferenceIdeal.nD Cert.HeadReferenceIdeal.τ).loc Cert.HeadReferenceIdeal.main_v44) = v1 c
          ∧ r.2.mem ((c.tc : Thread Cert.HeadReferenceIdeal.nD Cert.HeadReferenceIdeal.τ).loc Cert.HeadReferenceIdeal.main_arg0) = m' ((c.tc : Thread Cert.HeadReferenceIdeal.nD Cert.HeadReferenceIdeal.τ).loc Cert.HeadReferenceIdeal.main_arg0)
          ∧ r.2.mem ((c.tc : Thread Cert.HeadReferenceIdeal.nD Cert.HeadReferenceIdeal.τ).loc Cert.HeadReferenceIdeal.main_arg1) = m' ((c.tc : Thread Cert.HeadReferenceIdeal.nD Cert.HeadReferenceIdeal.τ).loc Cert.HeadReferenceIdeal.main_arg1)
          ∧ r.2.mem ((c.tc : Thread Cert.HeadReferenceIdeal.nD Cert.HeadReferenceIdeal.τ).loc Cert.HeadReferenceIdeal.main_arg2) = m' ((c.tc : Thread Cert.HeadReferenceIdeal.nD Cert.HeadReferenceIdeal.τ).loc Cert.HeadReferenceIdeal.main_arg2)
          ∧ r.2.mem ((c.tc : Thread Cert.HeadReferenceIdeal.nD Cert.HeadReferenceIdeal.τ).loc Cert.HeadReferenceIdeal.main_arg3) = m' ((c.tc : Thread Cert.HeadReferenceIdeal.nD Cert.HeadReferenceIdeal.τ).loc Cert.HeadReferenceIdeal.main_arg3)
          ∧ r.2.mem ((c.tc : Thread Cert.HeadReferenceIdeal.nD Cert.HeadReferenceIdeal.τ).loc Cert.HeadReferenceIdeal.main_arg4) = m' ((c.tc : Thread Cert.HeadReferenceIdeal.nD Cert.HeadReferenceIdeal.τ).loc Cert.HeadReferenceIdeal.main_arg4))

def preserves_RestKernel_RestKernelIdeal : Prop :=
  True

def algebraic_RestKernelIdeal_RestReferenceIdeal [hRestKernelIdeal : Cert.RestKernelIdeal.Facts] [hRestReferenceIdeal : Cert.RestReferenceIdeal.Facts] : Prop :=
  ∀ (m : (ℓ : Loc Cert.RestKernelIdeal.nD Cert.RestKernelIdeal.τ Cert.RestKernelIdeal.sig) → Buf (Elt Ideal) ℓ) (g : Dev Cert.RestKernelIdeal.nD → PrngReg)
    (m' : (ℓ : Loc Cert.RestReferenceIdeal.nD Cert.RestReferenceIdeal.τ Cert.RestReferenceIdeal.sig) → Buf (Elt Ideal) ℓ) (g' : Dev Cert.RestReferenceIdeal.nD → PrngReg), Pre_RestKernelIdeal m →
    (∀ c : Dev Cert.RestKernelIdeal.nD,
      m' ((c.tc : Thread Cert.RestReferenceIdeal.nD Cert.RestReferenceIdeal.τ).loc Cert.RestReferenceIdeal.main_arg0) = m ((c.tc : Thread Cert.RestKernelIdeal.nD Cert.RestKernelIdeal.τ).loc Cert.RestKernelIdeal.main_arg0)
      ∧ m' ((c.tc : Thread Cert.RestReferenceIdeal.nD Cert.RestReferenceIdeal.τ).loc Cert.RestReferenceIdeal.main_arg1) = m ((c.tc : Thread Cert.RestKernelIdeal.nD Cert.RestKernelIdeal.τ).loc Cert.RestKernelIdeal.main_arg1)
      ∧ m' ((c.tc : Thread Cert.RestReferenceIdeal.nD Cert.RestReferenceIdeal.τ).loc Cert.RestReferenceIdeal.main_arg2) = m ((c.tc : Thread Cert.RestKernelIdeal.nD Cert.RestKernelIdeal.τ).loc Cert.RestKernelIdeal.main_arg2)
      ∧ m' ((c.tc : Thread Cert.RestReferenceIdeal.nD Cert.RestReferenceIdeal.τ).loc Cert.RestReferenceIdeal.main_arg3) = m ((c.tc : Thread Cert.RestKernelIdeal.nD Cert.RestKernelIdeal.τ).loc Cert.RestKernelIdeal.main_arg3)
      ∧ m' ((c.tc : Thread Cert.RestReferenceIdeal.nD Cert.RestReferenceIdeal.τ).loc Cert.RestReferenceIdeal.main_arg4) = m ((c.tc : Thread Cert.RestKernelIdeal.nD Cert.RestKernelIdeal.τ).loc Cert.RestKernelIdeal.main_arg4)
      ∧ m' ((c.tc : Thread Cert.RestReferenceIdeal.nD Cert.RestReferenceIdeal.τ).loc Cert.RestReferenceIdeal.main_arg5) = m ((c.tc : Thread Cert.RestKernelIdeal.nD Cert.RestKernelIdeal.τ).loc Cert.RestKernelIdeal.main_arg5)) →
    ∃ (v0 : (c : Dev Cert.RestKernelIdeal.nD) → Buf (Elt Ideal) ((c.tc : Thread Cert.RestKernelIdeal.nD Cert.RestKernelIdeal.τ).loc Cert.RestKernelIdeal.main_v10_0)) (v1 : (c : Dev Cert.RestKernelIdeal.nD) → Buf (Elt Ideal) ((c.tc : Thread Cert.RestKernelIdeal.nD Cert.RestKernelIdeal.τ).loc Cert.RestKernelIdeal.main_v10_1)),
      θ_run (Cert.RestKernelIdeal.defs (F := Ideal)) (onTc (τ := Cert.RestKernelIdeal.τ) (Cert.RestKernelIdeal.main (F := Ideal))) ⟨m, fun _ => 0, g⟩ (fun r => ∀ c : Dev Cert.RestKernelIdeal.nD,
          r.2.mem ((c.tc : Thread Cert.RestKernelIdeal.nD Cert.RestKernelIdeal.τ).loc Cert.RestKernelIdeal.main_v10_0) = v0 c
          ∧ r.2.mem ((c.tc : Thread Cert.RestKernelIdeal.nD Cert.RestKernelIdeal.τ).loc Cert.RestKernelIdeal.main_v10_1) = v1 c
          ∧ r.2.mem ((c.tc : Thread Cert.RestKernelIdeal.nD Cert.RestKernelIdeal.τ).loc Cert.RestKernelIdeal.main_arg0) = m ((c.tc : Thread Cert.RestKernelIdeal.nD Cert.RestKernelIdeal.τ).loc Cert.RestKernelIdeal.main_arg0)
          ∧ r.2.mem ((c.tc : Thread Cert.RestKernelIdeal.nD Cert.RestKernelIdeal.τ).loc Cert.RestKernelIdeal.main_arg1) = m ((c.tc : Thread Cert.RestKernelIdeal.nD Cert.RestKernelIdeal.τ).loc Cert.RestKernelIdeal.main_arg1)
          ∧ r.2.mem ((c.tc : Thread Cert.RestKernelIdeal.nD Cert.RestKernelIdeal.τ).loc Cert.RestKernelIdeal.main_arg2) = m ((c.tc : Thread Cert.RestKernelIdeal.nD Cert.RestKernelIdeal.τ).loc Cert.RestKernelIdeal.main_arg2)
          ∧ r.2.mem ((c.tc : Thread Cert.RestKernelIdeal.nD Cert.RestKernelIdeal.τ).loc Cert.RestKernelIdeal.main_arg3) = m ((c.tc : Thread Cert.RestKernelIdeal.nD Cert.RestKernelIdeal.τ).loc Cert.RestKernelIdeal.main_arg3)
          ∧ r.2.mem ((c.tc : Thread Cert.RestKernelIdeal.nD Cert.RestKernelIdeal.τ).loc Cert.RestKernelIdeal.main_arg4) = m ((c.tc : Thread Cert.RestKernelIdeal.nD Cert.RestKernelIdeal.τ).loc Cert.RestKernelIdeal.main_arg4)
          ∧ r.2.mem ((c.tc : Thread Cert.RestKernelIdeal.nD Cert.RestKernelIdeal.τ).loc Cert.RestKernelIdeal.main_arg5) = m ((c.tc : Thread Cert.RestKernelIdeal.nD Cert.RestKernelIdeal.τ).loc Cert.RestKernelIdeal.main_arg5))
      ∧ θ_run (Cert.RestReferenceIdeal.defs (F := Ideal)) (onTc (τ := Cert.RestReferenceIdeal.τ) (Cert.RestReferenceIdeal.main (F := Ideal))) ⟨m', fun _ => 0, g'⟩ (fun r => ∀ c : Dev Cert.RestReferenceIdeal.nD,
          r.2.mem ((c.tc : Thread Cert.RestReferenceIdeal.nD Cert.RestReferenceIdeal.τ).loc Cert.RestReferenceIdeal.main_v41) = v0 c
          ∧ r.2.mem ((c.tc : Thread Cert.RestReferenceIdeal.nD Cert.RestReferenceIdeal.τ).loc Cert.RestReferenceIdeal.main_v43) = v1 c
          ∧ r.2.mem ((c.tc : Thread Cert.RestReferenceIdeal.nD Cert.RestReferenceIdeal.τ).loc Cert.RestReferenceIdeal.main_arg0) = m' ((c.tc : Thread Cert.RestReferenceIdeal.nD Cert.RestReferenceIdeal.τ).loc Cert.RestReferenceIdeal.main_arg0)
          ∧ r.2.mem ((c.tc : Thread Cert.RestReferenceIdeal.nD Cert.RestReferenceIdeal.τ).loc Cert.RestReferenceIdeal.main_arg1) = m' ((c.tc : Thread Cert.RestReferenceIdeal.nD Cert.RestReferenceIdeal.τ).loc Cert.RestReferenceIdeal.main_arg1)
          ∧ r.2.mem ((c.tc : Thread Cert.RestReferenceIdeal.nD Cert.RestReferenceIdeal.τ).loc Cert.RestReferenceIdeal.main_arg2) = m' ((c.tc : Thread Cert.RestReferenceIdeal.nD Cert.RestReferenceIdeal.τ).loc Cert.RestReferenceIdeal.main_arg2)
          ∧ r.2.mem ((c.tc : Thread Cert.RestReferenceIdeal.nD Cert.RestReferenceIdeal.τ).loc Cert.RestReferenceIdeal.main_arg3) = m' ((c.tc : Thread Cert.RestReferenceIdeal.nD Cert.RestReferenceIdeal.τ).loc Cert.RestReferenceIdeal.main_arg3)
          ∧ r.2.mem ((c.tc : Thread Cert.RestReferenceIdeal.nD Cert.RestReferenceIdeal.τ).loc Cert.RestReferenceIdeal.main_arg4) = m' ((c.tc : Thread Cert.RestReferenceIdeal.nD Cert.RestReferenceIdeal.τ).loc Cert.RestReferenceIdeal.main_arg4)
          ∧ r.2.mem ((c.tc : Thread Cert.RestReferenceIdeal.nD Cert.RestReferenceIdeal.τ).loc Cert.RestReferenceIdeal.main_arg5) = m' ((c.tc : Thread Cert.RestReferenceIdeal.nD Cert.RestReferenceIdeal.τ).loc Cert.RestReferenceIdeal.main_arg5))

def preserves_WgradKernel_WgradKernelIdeal : Prop :=
  True

def algebraic_WgradKernelIdeal_WgradReferenceIdeal [hWgradKernelIdeal : Cert.WgradKernelIdeal.Facts] [hWgradReferenceIdeal : Cert.WgradReferenceIdeal.Facts] : Prop :=
  ∀ (m : (ℓ : Loc Cert.WgradKernelIdeal.nD Cert.WgradKernelIdeal.τ Cert.WgradKernelIdeal.sig) → Buf (Elt Ideal) ℓ) (g : Dev Cert.WgradKernelIdeal.nD → PrngReg)
    (m' : (ℓ : Loc Cert.WgradReferenceIdeal.nD Cert.WgradReferenceIdeal.τ Cert.WgradReferenceIdeal.sig) → Buf (Elt Ideal) ℓ) (g' : Dev Cert.WgradReferenceIdeal.nD → PrngReg), Pre_WgradKernelIdeal m →
    (∀ c : Dev Cert.WgradKernelIdeal.nD,
      m' ((c.tc : Thread Cert.WgradReferenceIdeal.nD Cert.WgradReferenceIdeal.τ).loc Cert.WgradReferenceIdeal.main_arg0) = m ((c.tc : Thread Cert.WgradKernelIdeal.nD Cert.WgradKernelIdeal.τ).loc Cert.WgradKernelIdeal.main_arg0)
      ∧ m' ((c.tc : Thread Cert.WgradReferenceIdeal.nD Cert.WgradReferenceIdeal.τ).loc Cert.WgradReferenceIdeal.main_arg1) = m ((c.tc : Thread Cert.WgradKernelIdeal.nD Cert.WgradKernelIdeal.τ).loc Cert.WgradKernelIdeal.main_arg1)
      ∧ m' ((c.tc : Thread Cert.WgradReferenceIdeal.nD Cert.WgradReferenceIdeal.τ).loc Cert.WgradReferenceIdeal.main_arg2) = m ((c.tc : Thread Cert.WgradKernelIdeal.nD Cert.WgradKernelIdeal.τ).loc Cert.WgradKernelIdeal.main_arg2)
      ∧ m' ((c.tc : Thread Cert.WgradReferenceIdeal.nD Cert.WgradReferenceIdeal.τ).loc Cert.WgradReferenceIdeal.main_arg3) = m ((c.tc : Thread Cert.WgradKernelIdeal.nD Cert.WgradKernelIdeal.τ).loc Cert.WgradKernelIdeal.main_arg3)) →
    ∃ (v0 : (c : Dev Cert.WgradKernelIdeal.nD) → Buf (Elt Ideal) ((c.tc : Thread Cert.WgradKernelIdeal.nD Cert.WgradKernelIdeal.τ).loc Cert.WgradKernelIdeal.main_v19)),
      θ_run (Cert.WgradKernelIdeal.defs (F := Ideal)) (onTc (τ := Cert.WgradKernelIdeal.τ) (Cert.WgradKernelIdeal.main (F := Ideal))) ⟨m, fun _ => 0, g⟩ (fun r => ∀ c : Dev Cert.WgradKernelIdeal.nD,
          r.2.mem ((c.tc : Thread Cert.WgradKernelIdeal.nD Cert.WgradKernelIdeal.τ).loc Cert.WgradKernelIdeal.main_v19) = v0 c
          ∧ r.2.mem ((c.tc : Thread Cert.WgradKernelIdeal.nD Cert.WgradKernelIdeal.τ).loc Cert.WgradKernelIdeal.main_arg0) = m ((c.tc : Thread Cert.WgradKernelIdeal.nD Cert.WgradKernelIdeal.τ).loc Cert.WgradKernelIdeal.main_arg0)
          ∧ r.2.mem ((c.tc : Thread Cert.WgradKernelIdeal.nD Cert.WgradKernelIdeal.τ).loc Cert.WgradKernelIdeal.main_arg1) = m ((c.tc : Thread Cert.WgradKernelIdeal.nD Cert.WgradKernelIdeal.τ).loc Cert.WgradKernelIdeal.main_arg1)
          ∧ r.2.mem ((c.tc : Thread Cert.WgradKernelIdeal.nD Cert.WgradKernelIdeal.τ).loc Cert.WgradKernelIdeal.main_arg2) = m ((c.tc : Thread Cert.WgradKernelIdeal.nD Cert.WgradKernelIdeal.τ).loc Cert.WgradKernelIdeal.main_arg2)
          ∧ r.2.mem ((c.tc : Thread Cert.WgradKernelIdeal.nD Cert.WgradKernelIdeal.τ).loc Cert.WgradKernelIdeal.main_arg3) = m ((c.tc : Thread Cert.WgradKernelIdeal.nD Cert.WgradKernelIdeal.τ).loc Cert.WgradKernelIdeal.main_arg3))
      ∧ θ_run (Cert.WgradReferenceIdeal.defs (F := Ideal)) (onTc (τ := Cert.WgradReferenceIdeal.τ) (Cert.WgradReferenceIdeal.main (F := Ideal))) ⟨m', fun _ => 0, g'⟩ (fun r => ∀ c : Dev Cert.WgradReferenceIdeal.nD,
          r.2.mem ((c.tc : Thread Cert.WgradReferenceIdeal.nD Cert.WgradReferenceIdeal.τ).loc Cert.WgradReferenceIdeal.main_v21) = v0 c
          ∧ r.2.mem ((c.tc : Thread Cert.WgradReferenceIdeal.nD Cert.WgradReferenceIdeal.τ).loc Cert.WgradReferenceIdeal.main_arg0) = m' ((c.tc : Thread Cert.WgradReferenceIdeal.nD Cert.WgradReferenceIdeal.τ).loc Cert.WgradReferenceIdeal.main_arg0)
          ∧ r.2.mem ((c.tc : Thread Cert.WgradReferenceIdeal.nD Cert.WgradReferenceIdeal.τ).loc Cert.WgradReferenceIdeal.main_arg1) = m' ((c.tc : Thread Cert.WgradReferenceIdeal.nD Cert.WgradReferenceIdeal.τ).loc Cert.WgradReferenceIdeal.main_arg1)
          ∧ r.2.mem ((c.tc : Thread Cert.WgradReferenceIdeal.nD Cert.WgradReferenceIdeal.τ).loc Cert.WgradReferenceIdeal.main_arg2) = m' ((c.tc : Thread Cert.WgradReferenceIdeal.nD Cert.WgradReferenceIdeal.τ).loc Cert.WgradReferenceIdeal.main_arg2)
          ∧ r.2.mem ((c.tc : Thread Cert.WgradReferenceIdeal.nD Cert.WgradReferenceIdeal.τ).loc Cert.WgradReferenceIdeal.main_arg3) = m' ((c.tc : Thread Cert.WgradReferenceIdeal.nD Cert.WgradReferenceIdeal.τ).loc Cert.WgradReferenceIdeal.main_arg3))

def preserves_GlafKernel_GlafKernelIdeal : Prop :=
  True

def preserves_CpfKernel_CpfKernelIdeal : Prop :=
  True

def algebraic_CpfKernelIdeal_CpfReferenceIdeal_pre_finite_cpf [hCpfKernelIdeal : Cert.CpfKernelIdeal.Facts] [hCpfReferenceIdeal : Cert.CpfReferenceIdeal.Facts] [hPre_finite_cpf : Cert.Pre_finite_cpf.Facts] : Prop :=
  ∀ (m : (ℓ : Loc Cert.CpfKernelIdeal.nD Cert.CpfKernelIdeal.τ Cert.CpfKernelIdeal.sig) → Buf (Elt Ideal) ℓ) (g : Dev Cert.CpfKernelIdeal.nD → PrngReg)
    (m' : (ℓ : Loc Cert.CpfReferenceIdeal.nD Cert.CpfReferenceIdeal.τ Cert.CpfReferenceIdeal.sig) → Buf (Elt Ideal) ℓ) (g' : Dev Cert.CpfReferenceIdeal.nD → PrngReg), Pre_CpfKernelIdeal_finite_cpf m →
    (∀ c : Dev Cert.CpfKernelIdeal.nD,
      m' ((c.tc : Thread Cert.CpfReferenceIdeal.nD Cert.CpfReferenceIdeal.τ).loc Cert.CpfReferenceIdeal.main_arg0) = m ((c.tc : Thread Cert.CpfKernelIdeal.nD Cert.CpfKernelIdeal.τ).loc Cert.CpfKernelIdeal.main_arg0)
      ∧ m' ((c.tc : Thread Cert.CpfReferenceIdeal.nD Cert.CpfReferenceIdeal.τ).loc Cert.CpfReferenceIdeal.main_arg1) = m ((c.tc : Thread Cert.CpfKernelIdeal.nD Cert.CpfKernelIdeal.τ).loc Cert.CpfKernelIdeal.main_arg1)
      ∧ m' ((c.tc : Thread Cert.CpfReferenceIdeal.nD Cert.CpfReferenceIdeal.τ).loc Cert.CpfReferenceIdeal.main_arg2) = m ((c.tc : Thread Cert.CpfKernelIdeal.nD Cert.CpfKernelIdeal.τ).loc Cert.CpfKernelIdeal.main_arg2)
      ∧ m' ((c.tc : Thread Cert.CpfReferenceIdeal.nD Cert.CpfReferenceIdeal.τ).loc Cert.CpfReferenceIdeal.main_arg3) = m ((c.tc : Thread Cert.CpfKernelIdeal.nD Cert.CpfKernelIdeal.τ).loc Cert.CpfKernelIdeal.main_arg3)
      ∧ m' ((c.tc : Thread Cert.CpfReferenceIdeal.nD Cert.CpfReferenceIdeal.τ).loc Cert.CpfReferenceIdeal.main_arg4) = m ((c.tc : Thread Cert.CpfKernelIdeal.nD Cert.CpfKernelIdeal.τ).loc Cert.CpfKernelIdeal.main_arg4)
      ∧ m' ((c.tc : Thread Cert.CpfReferenceIdeal.nD Cert.CpfReferenceIdeal.τ).loc Cert.CpfReferenceIdeal.main_arg5) = m ((c.tc : Thread Cert.CpfKernelIdeal.nD Cert.CpfKernelIdeal.τ).loc Cert.CpfKernelIdeal.main_arg5)
      ∧ m' ((c.tc : Thread Cert.CpfReferenceIdeal.nD Cert.CpfReferenceIdeal.τ).loc Cert.CpfReferenceIdeal.main_arg6) = m ((c.tc : Thread Cert.CpfKernelIdeal.nD Cert.CpfKernelIdeal.τ).loc Cert.CpfKernelIdeal.main_arg6)) →
    ∃ (v0 : (c : Dev Cert.CpfKernelIdeal.nD) → Buf (Elt Ideal) ((c.tc : Thread Cert.CpfKernelIdeal.nD Cert.CpfKernelIdeal.τ).loc Cert.CpfKernelIdeal.main_v7_0)) (v1 : (c : Dev Cert.CpfKernelIdeal.nD) → Buf (Elt Ideal) ((c.tc : Thread Cert.CpfKernelIdeal.nD Cert.CpfKernelIdeal.τ).loc Cert.CpfKernelIdeal.main_v7_1)) (v2 : (c : Dev Cert.CpfKernelIdeal.nD) → Buf (Elt Ideal) ((c.tc : Thread Cert.CpfKernelIdeal.nD Cert.CpfKernelIdeal.τ).loc Cert.CpfKernelIdeal.main_v7_2)),
      θ_run (Cert.CpfKernelIdeal.defs (F := Ideal)) (onTc (τ := Cert.CpfKernelIdeal.τ) (Cert.CpfKernelIdeal.main (F := Ideal))) ⟨m, fun _ => 0, g⟩ (fun r => ∀ c : Dev Cert.CpfKernelIdeal.nD,
          r.2.mem ((c.tc : Thread Cert.CpfKernelIdeal.nD Cert.CpfKernelIdeal.τ).loc Cert.CpfKernelIdeal.main_v7_0) = v0 c
          ∧ r.2.mem ((c.tc : Thread Cert.CpfKernelIdeal.nD Cert.CpfKernelIdeal.τ).loc Cert.CpfKernelIdeal.main_v7_1) = v1 c
          ∧ r.2.mem ((c.tc : Thread Cert.CpfKernelIdeal.nD Cert.CpfKernelIdeal.τ).loc Cert.CpfKernelIdeal.main_v7_2) = v2 c
          ∧ r.2.mem ((c.tc : Thread Cert.CpfKernelIdeal.nD Cert.CpfKernelIdeal.τ).loc Cert.CpfKernelIdeal.main_arg0) = m ((c.tc : Thread Cert.CpfKernelIdeal.nD Cert.CpfKernelIdeal.τ).loc Cert.CpfKernelIdeal.main_arg0)
          ∧ r.2.mem ((c.tc : Thread Cert.CpfKernelIdeal.nD Cert.CpfKernelIdeal.τ).loc Cert.CpfKernelIdeal.main_arg1) = m ((c.tc : Thread Cert.CpfKernelIdeal.nD Cert.CpfKernelIdeal.τ).loc Cert.CpfKernelIdeal.main_arg1)
          ∧ r.2.mem ((c.tc : Thread Cert.CpfKernelIdeal.nD Cert.CpfKernelIdeal.τ).loc Cert.CpfKernelIdeal.main_arg2) = m ((c.tc : Thread Cert.CpfKernelIdeal.nD Cert.CpfKernelIdeal.τ).loc Cert.CpfKernelIdeal.main_arg2)
          ∧ r.2.mem ((c.tc : Thread Cert.CpfKernelIdeal.nD Cert.CpfKernelIdeal.τ).loc Cert.CpfKernelIdeal.main_arg3) = m ((c.tc : Thread Cert.CpfKernelIdeal.nD Cert.CpfKernelIdeal.τ).loc Cert.CpfKernelIdeal.main_arg3)
          ∧ r.2.mem ((c.tc : Thread Cert.CpfKernelIdeal.nD Cert.CpfKernelIdeal.τ).loc Cert.CpfKernelIdeal.main_arg4) = m ((c.tc : Thread Cert.CpfKernelIdeal.nD Cert.CpfKernelIdeal.τ).loc Cert.CpfKernelIdeal.main_arg4)
          ∧ r.2.mem ((c.tc : Thread Cert.CpfKernelIdeal.nD Cert.CpfKernelIdeal.τ).loc Cert.CpfKernelIdeal.main_arg5) = m ((c.tc : Thread Cert.CpfKernelIdeal.nD Cert.CpfKernelIdeal.τ).loc Cert.CpfKernelIdeal.main_arg5)
          ∧ r.2.mem ((c.tc : Thread Cert.CpfKernelIdeal.nD Cert.CpfKernelIdeal.τ).loc Cert.CpfKernelIdeal.main_arg6) = m ((c.tc : Thread Cert.CpfKernelIdeal.nD Cert.CpfKernelIdeal.τ).loc Cert.CpfKernelIdeal.main_arg6))
      ∧ θ_run (Cert.CpfReferenceIdeal.defs (F := Ideal)) (onTc (τ := Cert.CpfReferenceIdeal.τ) (Cert.CpfReferenceIdeal.main (F := Ideal))) ⟨m', fun _ => 0, g'⟩ (fun r => ∀ c : Dev Cert.CpfReferenceIdeal.nD,
          r.2.mem ((c.tc : Thread Cert.CpfReferenceIdeal.nD Cert.CpfReferenceIdeal.τ).loc Cert.CpfReferenceIdeal.main_v183) = v0 c
          ∧ r.2.mem ((c.tc : Thread Cert.CpfReferenceIdeal.nD Cert.CpfReferenceIdeal.τ).loc Cert.CpfReferenceIdeal.main_v187) = v1 c
          ∧ r.2.mem ((c.tc : Thread Cert.CpfReferenceIdeal.nD Cert.CpfReferenceIdeal.τ).loc Cert.CpfReferenceIdeal.main_v190) = v2 c
          ∧ r.2.mem ((c.tc : Thread Cert.CpfReferenceIdeal.nD Cert.CpfReferenceIdeal.τ).loc Cert.CpfReferenceIdeal.main_arg0) = m' ((c.tc : Thread Cert.CpfReferenceIdeal.nD Cert.CpfReferenceIdeal.τ).loc Cert.CpfReferenceIdeal.main_arg0)
          ∧ r.2.mem ((c.tc : Thread Cert.CpfReferenceIdeal.nD Cert.CpfReferenceIdeal.τ).loc Cert.CpfReferenceIdeal.main_arg1) = m' ((c.tc : Thread Cert.CpfReferenceIdeal.nD Cert.CpfReferenceIdeal.τ).loc Cert.CpfReferenceIdeal.main_arg1)
          ∧ r.2.mem ((c.tc : Thread Cert.CpfReferenceIdeal.nD Cert.CpfReferenceIdeal.τ).loc Cert.CpfReferenceIdeal.main_arg2) = m' ((c.tc : Thread Cert.CpfReferenceIdeal.nD Cert.CpfReferenceIdeal.τ).loc Cert.CpfReferenceIdeal.main_arg2)
          ∧ r.2.mem ((c.tc : Thread Cert.CpfReferenceIdeal.nD Cert.CpfReferenceIdeal.τ).loc Cert.CpfReferenceIdeal.main_arg3) = m' ((c.tc : Thread Cert.CpfReferenceIdeal.nD Cert.CpfReferenceIdeal.τ).loc Cert.CpfReferenceIdeal.main_arg3)
          ∧ r.2.mem ((c.tc : Thread Cert.CpfReferenceIdeal.nD Cert.CpfReferenceIdeal.τ).loc Cert.CpfReferenceIdeal.main_arg4) = m' ((c.tc : Thread Cert.CpfReferenceIdeal.nD Cert.CpfReferenceIdeal.τ).loc Cert.CpfReferenceIdeal.main_arg4)
          ∧ r.2.mem ((c.tc : Thread Cert.CpfReferenceIdeal.nD Cert.CpfReferenceIdeal.τ).loc Cert.CpfReferenceIdeal.main_arg5) = m' ((c.tc : Thread Cert.CpfReferenceIdeal.nD Cert.CpfReferenceIdeal.τ).loc Cert.CpfReferenceIdeal.main_arg5)
          ∧ r.2.mem ((c.tc : Thread Cert.CpfReferenceIdeal.nD Cert.CpfReferenceIdeal.τ).loc Cert.CpfReferenceIdeal.main_arg6) = m' ((c.tc : Thread Cert.CpfReferenceIdeal.nD Cert.CpfReferenceIdeal.τ).loc Cert.CpfReferenceIdeal.main_arg6))

def preserves_NmKernel_NmKernelIdeal : Prop :=
  True

def algebraic_NmKernelIdeal_NmReferenceIdeal [hNmKernelIdeal : Cert.NmKernelIdeal.Facts] [hNmReferenceIdeal : Cert.NmReferenceIdeal.Facts] : Prop :=
  ∀ (m : (ℓ : Loc Cert.NmKernelIdeal.nD Cert.NmKernelIdeal.τ Cert.NmKernelIdeal.sig) → Buf (Elt Ideal) ℓ) (g : Dev Cert.NmKernelIdeal.nD → PrngReg)
    (m' : (ℓ : Loc Cert.NmReferenceIdeal.nD Cert.NmReferenceIdeal.τ Cert.NmReferenceIdeal.sig) → Buf (Elt Ideal) ℓ) (g' : Dev Cert.NmReferenceIdeal.nD → PrngReg), Pre_NmKernelIdeal m →
    (∀ c : Dev Cert.NmKernelIdeal.nD,
      m' ((c.tc : Thread Cert.NmReferenceIdeal.nD Cert.NmReferenceIdeal.τ).loc Cert.NmReferenceIdeal.main_arg0) = m ((c.tc : Thread Cert.NmKernelIdeal.nD Cert.NmKernelIdeal.τ).loc Cert.NmKernelIdeal.main_arg0)
      ∧ m' ((c.tc : Thread Cert.NmReferenceIdeal.nD Cert.NmReferenceIdeal.τ).loc Cert.NmReferenceIdeal.main_arg1) = m ((c.tc : Thread Cert.NmKernelIdeal.nD Cert.NmKernelIdeal.τ).loc Cert.NmKernelIdeal.main_arg1)
      ∧ m' ((c.tc : Thread Cert.NmReferenceIdeal.nD Cert.NmReferenceIdeal.τ).loc Cert.NmReferenceIdeal.main_arg2) = m ((c.tc : Thread Cert.NmKernelIdeal.nD Cert.NmKernelIdeal.τ).loc Cert.NmKernelIdeal.main_arg2)) →
    ∃ (v0 : (c : Dev Cert.NmKernelIdeal.nD) → Buf (Elt Ideal) ((c.tc : Thread Cert.NmKernelIdeal.nD Cert.NmKernelIdeal.τ).loc Cert.NmKernelIdeal.main_v6_0)) (v1 : (c : Dev Cert.NmKernelIdeal.nD) → Buf (Elt Ideal) ((c.tc : Thread Cert.NmKernelIdeal.nD Cert.NmKernelIdeal.τ).loc Cert.NmKernelIdeal.main_v6_1)),
      θ_run (Cert.NmKernelIdeal.defs (F := Ideal)) (onTc (τ := Cert.NmKernelIdeal.τ) (Cert.NmKernelIdeal.main (F := Ideal))) ⟨m, fun _ => 0, g⟩ (fun r => ∀ c : Dev Cert.NmKernelIdeal.nD,
          r.2.mem ((c.tc : Thread Cert.NmKernelIdeal.nD Cert.NmKernelIdeal.τ).loc Cert.NmKernelIdeal.main_v6_0) = v0 c
          ∧ r.2.mem ((c.tc : Thread Cert.NmKernelIdeal.nD Cert.NmKernelIdeal.τ).loc Cert.NmKernelIdeal.main_v6_1) = v1 c
          ∧ r.2.mem ((c.tc : Thread Cert.NmKernelIdeal.nD Cert.NmKernelIdeal.τ).loc Cert.NmKernelIdeal.main_arg0) = m ((c.tc : Thread Cert.NmKernelIdeal.nD Cert.NmKernelIdeal.τ).loc Cert.NmKernelIdeal.main_arg0)
          ∧ r.2.mem ((c.tc : Thread Cert.NmKernelIdeal.nD Cert.NmKernelIdeal.τ).loc Cert.NmKernelIdeal.main_arg1) = m ((c.tc : Thread Cert.NmKernelIdeal.nD Cert.NmKernelIdeal.τ).loc Cert.NmKernelIdeal.main_arg1)
          ∧ r.2.mem ((c.tc : Thread Cert.NmKernelIdeal.nD Cert.NmKernelIdeal.τ).loc Cert.NmKernelIdeal.main_arg2) = m ((c.tc : Thread Cert.NmKernelIdeal.nD Cert.NmKernelIdeal.τ).loc Cert.NmKernelIdeal.main_arg2))
      ∧ θ_run (Cert.NmReferenceIdeal.defs (F := Ideal)) (onTc (τ := Cert.NmReferenceIdeal.τ) (Cert.NmReferenceIdeal.main (F := Ideal))) ⟨m', fun _ => 0, g'⟩ (fun r => ∀ c : Dev Cert.NmReferenceIdeal.nD,
          r.2.mem ((c.tc : Thread Cert.NmReferenceIdeal.nD Cert.NmReferenceIdeal.τ).loc Cert.NmReferenceIdeal.main_v18) = v0 c
          ∧ r.2.mem ((c.tc : Thread Cert.NmReferenceIdeal.nD Cert.NmReferenceIdeal.τ).loc Cert.NmReferenceIdeal.main_v21) = v1 c
          ∧ r.2.mem ((c.tc : Thread Cert.NmReferenceIdeal.nD Cert.NmReferenceIdeal.τ).loc Cert.NmReferenceIdeal.main_arg0) = m' ((c.tc : Thread Cert.NmReferenceIdeal.nD Cert.NmReferenceIdeal.τ).loc Cert.NmReferenceIdeal.main_arg0)
          ∧ r.2.mem ((c.tc : Thread Cert.NmReferenceIdeal.nD Cert.NmReferenceIdeal.τ).loc Cert.NmReferenceIdeal.main_arg1) = m' ((c.tc : Thread Cert.NmReferenceIdeal.nD Cert.NmReferenceIdeal.τ).loc Cert.NmReferenceIdeal.main_arg1)
          ∧ r.2.mem ((c.tc : Thread Cert.NmReferenceIdeal.nD Cert.NmReferenceIdeal.τ).loc Cert.NmReferenceIdeal.main_arg2) = m' ((c.tc : Thread Cert.NmReferenceIdeal.nD Cert.NmReferenceIdeal.τ).loc Cert.NmReferenceIdeal.main_arg2))

def preserves_NcKernel_NcKernelIdeal : Prop :=
  True

def algebraic_NcKernelIdeal_NcReferenceIdeal [hNcKernelIdeal : Cert.NcKernelIdeal.Facts] [hNcReferenceIdeal : Cert.NcReferenceIdeal.Facts] : Prop :=
  ∀ (m : (ℓ : Loc Cert.NcKernelIdeal.nD Cert.NcKernelIdeal.τ Cert.NcKernelIdeal.sig) → Buf (Elt Ideal) ℓ) (g : Dev Cert.NcKernelIdeal.nD → PrngReg)
    (m' : (ℓ : Loc Cert.NcReferenceIdeal.nD Cert.NcReferenceIdeal.τ Cert.NcReferenceIdeal.sig) → Buf (Elt Ideal) ℓ) (g' : Dev Cert.NcReferenceIdeal.nD → PrngReg), Pre_NcKernelIdeal m →
    (∀ c : Dev Cert.NcKernelIdeal.nD,
      m' ((c.tc : Thread Cert.NcReferenceIdeal.nD Cert.NcReferenceIdeal.τ).loc Cert.NcReferenceIdeal.main_arg0) = m ((c.tc : Thread Cert.NcKernelIdeal.nD Cert.NcKernelIdeal.τ).loc Cert.NcKernelIdeal.main_arg0)
      ∧ m' ((c.tc : Thread Cert.NcReferenceIdeal.nD Cert.NcReferenceIdeal.τ).loc Cert.NcReferenceIdeal.main_arg1) = m ((c.tc : Thread Cert.NcKernelIdeal.nD Cert.NcKernelIdeal.τ).loc Cert.NcKernelIdeal.main_arg1)
      ∧ m' ((c.tc : Thread Cert.NcReferenceIdeal.nD Cert.NcReferenceIdeal.τ).loc Cert.NcReferenceIdeal.main_arg2) = m ((c.tc : Thread Cert.NcKernelIdeal.nD Cert.NcKernelIdeal.τ).loc Cert.NcKernelIdeal.main_arg2)) →
    ∃ (v0 : (c : Dev Cert.NcKernelIdeal.nD) → Buf (Elt Ideal) ((c.tc : Thread Cert.NcKernelIdeal.nD Cert.NcKernelIdeal.τ).loc Cert.NcKernelIdeal.main_v4_0)) (v1 : (c : Dev Cert.NcKernelIdeal.nD) → Buf (Elt Ideal) ((c.tc : Thread Cert.NcKernelIdeal.nD Cert.NcKernelIdeal.τ).loc Cert.NcKernelIdeal.main_v4_1)),
      θ_run (Cert.NcKernelIdeal.defs (F := Ideal)) (onTc (τ := Cert.NcKernelIdeal.τ) (Cert.NcKernelIdeal.main (F := Ideal))) ⟨m, fun _ => 0, g⟩ (fun r => ∀ c : Dev Cert.NcKernelIdeal.nD,
          r.2.mem ((c.tc : Thread Cert.NcKernelIdeal.nD Cert.NcKernelIdeal.τ).loc Cert.NcKernelIdeal.main_v4_0) = v0 c
          ∧ r.2.mem ((c.tc : Thread Cert.NcKernelIdeal.nD Cert.NcKernelIdeal.τ).loc Cert.NcKernelIdeal.main_v4_1) = v1 c
          ∧ r.2.mem ((c.tc : Thread Cert.NcKernelIdeal.nD Cert.NcKernelIdeal.τ).loc Cert.NcKernelIdeal.main_arg0) = m ((c.tc : Thread Cert.NcKernelIdeal.nD Cert.NcKernelIdeal.τ).loc Cert.NcKernelIdeal.main_arg0)
          ∧ r.2.mem ((c.tc : Thread Cert.NcKernelIdeal.nD Cert.NcKernelIdeal.τ).loc Cert.NcKernelIdeal.main_arg1) = m ((c.tc : Thread Cert.NcKernelIdeal.nD Cert.NcKernelIdeal.τ).loc Cert.NcKernelIdeal.main_arg1)
          ∧ r.2.mem ((c.tc : Thread Cert.NcKernelIdeal.nD Cert.NcKernelIdeal.τ).loc Cert.NcKernelIdeal.main_arg2) = m ((c.tc : Thread Cert.NcKernelIdeal.nD Cert.NcKernelIdeal.τ).loc Cert.NcKernelIdeal.main_arg2))
      ∧ θ_run (Cert.NcReferenceIdeal.defs (F := Ideal)) (onTc (τ := Cert.NcReferenceIdeal.τ) (Cert.NcReferenceIdeal.main (F := Ideal))) ⟨m', fun _ => 0, g'⟩ (fun r => ∀ c : Dev Cert.NcReferenceIdeal.nD,
          r.2.mem ((c.tc : Thread Cert.NcReferenceIdeal.nD Cert.NcReferenceIdeal.τ).loc Cert.NcReferenceIdeal.main_v16) = v0 c
          ∧ r.2.mem ((c.tc : Thread Cert.NcReferenceIdeal.nD Cert.NcReferenceIdeal.τ).loc Cert.NcReferenceIdeal.main_v19) = v1 c
          ∧ r.2.mem ((c.tc : Thread Cert.NcReferenceIdeal.nD Cert.NcReferenceIdeal.τ).loc Cert.NcReferenceIdeal.main_arg0) = m' ((c.tc : Thread Cert.NcReferenceIdeal.nD Cert.NcReferenceIdeal.τ).loc Cert.NcReferenceIdeal.main_arg0)
          ∧ r.2.mem ((c.tc : Thread Cert.NcReferenceIdeal.nD Cert.NcReferenceIdeal.τ).loc Cert.NcReferenceIdeal.main_arg1) = m' ((c.tc : Thread Cert.NcReferenceIdeal.nD Cert.NcReferenceIdeal.τ).loc Cert.NcReferenceIdeal.main_arg1)
          ∧ r.2.mem ((c.tc : Thread Cert.NcReferenceIdeal.nD Cert.NcReferenceIdeal.τ).loc Cert.NcReferenceIdeal.main_arg2) = m' ((c.tc : Thread Cert.NcReferenceIdeal.nD Cert.NcReferenceIdeal.τ).loc Cert.NcReferenceIdeal.main_arg2))

def preserves_FfKernel_FfKernelIdeal : Prop :=
  True

def algebraic_FfKernelIdeal_FfReferenceIdeal [hFfKernelIdeal : Cert.FfKernelIdeal.Facts] [hFfReferenceIdeal : Cert.FfReferenceIdeal.Facts] : Prop :=
  ∀ (m : (ℓ : Loc Cert.FfKernelIdeal.nD Cert.FfKernelIdeal.τ Cert.FfKernelIdeal.sig) → Buf (Elt Ideal) ℓ) (g : Dev Cert.FfKernelIdeal.nD → PrngReg)
    (m' : (ℓ : Loc Cert.FfReferenceIdeal.nD Cert.FfReferenceIdeal.τ Cert.FfReferenceIdeal.sig) → Buf (Elt Ideal) ℓ) (g' : Dev Cert.FfReferenceIdeal.nD → PrngReg), Pre_FfKernelIdeal m →
    (∀ c : Dev Cert.FfKernelIdeal.nD,
      m' ((c.tc : Thread Cert.FfReferenceIdeal.nD Cert.FfReferenceIdeal.τ).loc Cert.FfReferenceIdeal.main_arg0) = m ((c.tc : Thread Cert.FfKernelIdeal.nD Cert.FfKernelIdeal.τ).loc Cert.FfKernelIdeal.main_arg0)
      ∧ m' ((c.tc : Thread Cert.FfReferenceIdeal.nD Cert.FfReferenceIdeal.τ).loc Cert.FfReferenceIdeal.main_arg1) = m ((c.tc : Thread Cert.FfKernelIdeal.nD Cert.FfKernelIdeal.τ).loc Cert.FfKernelIdeal.main_arg1)
      ∧ m' ((c.tc : Thread Cert.FfReferenceIdeal.nD Cert.FfReferenceIdeal.τ).loc Cert.FfReferenceIdeal.main_arg2) = m ((c.tc : Thread Cert.FfKernelIdeal.nD Cert.FfKernelIdeal.τ).loc Cert.FfKernelIdeal.main_arg2)
      ∧ m' ((c.tc : Thread Cert.FfReferenceIdeal.nD Cert.FfReferenceIdeal.τ).loc Cert.FfReferenceIdeal.main_arg3) = m ((c.tc : Thread Cert.FfKernelIdeal.nD Cert.FfKernelIdeal.τ).loc Cert.FfKernelIdeal.main_arg3)) →
    ∃ (v0 : (c : Dev Cert.FfKernelIdeal.nD) → Buf (Elt Ideal) ((c.tc : Thread Cert.FfKernelIdeal.nD Cert.FfKernelIdeal.τ).loc Cert.FfKernelIdeal.main_v8_0)) (v1 : (c : Dev Cert.FfKernelIdeal.nD) → Buf (Elt Ideal) ((c.tc : Thread Cert.FfKernelIdeal.nD Cert.FfKernelIdeal.τ).loc Cert.FfKernelIdeal.main_v8_1)) (v2 : (c : Dev Cert.FfKernelIdeal.nD) → Buf (Elt Ideal) ((c.tc : Thread Cert.FfKernelIdeal.nD Cert.FfKernelIdeal.τ).loc Cert.FfKernelIdeal.main_v8_2)),
      θ_run (Cert.FfKernelIdeal.defs (F := Ideal)) (onTc (τ := Cert.FfKernelIdeal.τ) (Cert.FfKernelIdeal.main (F := Ideal))) ⟨m, fun _ => 0, g⟩ (fun r => ∀ c : Dev Cert.FfKernelIdeal.nD,
          r.2.mem ((c.tc : Thread Cert.FfKernelIdeal.nD Cert.FfKernelIdeal.τ).loc Cert.FfKernelIdeal.main_v8_0) = v0 c
          ∧ r.2.mem ((c.tc : Thread Cert.FfKernelIdeal.nD Cert.FfKernelIdeal.τ).loc Cert.FfKernelIdeal.main_v8_1) = v1 c
          ∧ r.2.mem ((c.tc : Thread Cert.FfKernelIdeal.nD Cert.FfKernelIdeal.τ).loc Cert.FfKernelIdeal.main_v8_2) = v2 c
          ∧ r.2.mem ((c.tc : Thread Cert.FfKernelIdeal.nD Cert.FfKernelIdeal.τ).loc Cert.FfKernelIdeal.main_arg0) = m ((c.tc : Thread Cert.FfKernelIdeal.nD Cert.FfKernelIdeal.τ).loc Cert.FfKernelIdeal.main_arg0)
          ∧ r.2.mem ((c.tc : Thread Cert.FfKernelIdeal.nD Cert.FfKernelIdeal.τ).loc Cert.FfKernelIdeal.main_arg1) = m ((c.tc : Thread Cert.FfKernelIdeal.nD Cert.FfKernelIdeal.τ).loc Cert.FfKernelIdeal.main_arg1)
          ∧ r.2.mem ((c.tc : Thread Cert.FfKernelIdeal.nD Cert.FfKernelIdeal.τ).loc Cert.FfKernelIdeal.main_arg2) = m ((c.tc : Thread Cert.FfKernelIdeal.nD Cert.FfKernelIdeal.τ).loc Cert.FfKernelIdeal.main_arg2)
          ∧ r.2.mem ((c.tc : Thread Cert.FfKernelIdeal.nD Cert.FfKernelIdeal.τ).loc Cert.FfKernelIdeal.main_arg3) = m ((c.tc : Thread Cert.FfKernelIdeal.nD Cert.FfKernelIdeal.τ).loc Cert.FfKernelIdeal.main_arg3))
      ∧ θ_run (Cert.FfReferenceIdeal.defs (F := Ideal)) (onTc (τ := Cert.FfReferenceIdeal.τ) (Cert.FfReferenceIdeal.main (F := Ideal))) ⟨m', fun _ => 0, g'⟩ (fun r => ∀ c : Dev Cert.FfReferenceIdeal.nD,
          r.2.mem ((c.tc : Thread Cert.FfReferenceIdeal.nD Cert.FfReferenceIdeal.τ).loc Cert.FfReferenceIdeal.main_v19) = v0 c
          ∧ r.2.mem ((c.tc : Thread Cert.FfReferenceIdeal.nD Cert.FfReferenceIdeal.τ).loc Cert.FfReferenceIdeal.main_v22) = v1 c
          ∧ r.2.mem ((c.tc : Thread Cert.FfReferenceIdeal.nD Cert.FfReferenceIdeal.τ).loc Cert.FfReferenceIdeal.main_v25) = v2 c
          ∧ r.2.mem ((c.tc : Thread Cert.FfReferenceIdeal.nD Cert.FfReferenceIdeal.τ).loc Cert.FfReferenceIdeal.main_arg0) = m' ((c.tc : Thread Cert.FfReferenceIdeal.nD Cert.FfReferenceIdeal.τ).loc Cert.FfReferenceIdeal.main_arg0)
          ∧ r.2.mem ((c.tc : Thread Cert.FfReferenceIdeal.nD Cert.FfReferenceIdeal.τ).loc Cert.FfReferenceIdeal.main_arg1) = m' ((c.tc : Thread Cert.FfReferenceIdeal.nD Cert.FfReferenceIdeal.τ).loc Cert.FfReferenceIdeal.main_arg1)
          ∧ r.2.mem ((c.tc : Thread Cert.FfReferenceIdeal.nD Cert.FfReferenceIdeal.τ).loc Cert.FfReferenceIdeal.main_arg2) = m' ((c.tc : Thread Cert.FfReferenceIdeal.nD Cert.FfReferenceIdeal.τ).loc Cert.FfReferenceIdeal.main_arg2)
          ∧ r.2.mem ((c.tc : Thread Cert.FfReferenceIdeal.nD Cert.FfReferenceIdeal.τ).loc Cert.FfReferenceIdeal.main_arg3) = m' ((c.tc : Thread Cert.FfReferenceIdeal.nD Cert.FfReferenceIdeal.τ).loc Cert.FfReferenceIdeal.main_arg3))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)) →
    ∃ (v0 : (c : Dev Cert.OutKernelIdeal.nD) → Buf (Elt Ideal) ((c.tc : Thread Cert.OutKernelIdeal.nD Cert.OutKernelIdeal.τ).loc Cert.OutKernelIdeal.main_v6)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v6) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_WplainKernel_WplainKernelIdeal : Prop :=
  True

def algebraic_WplainKernelIdeal_WplainReferenceIdeal [hWplainKernelIdeal : Cert.WplainKernelIdeal.Facts] [hWplainReferenceIdeal : Cert.WplainReferenceIdeal.Facts] : Prop :=
  ∀ (m : (ℓ : Loc Cert.WplainKernelIdeal.nD Cert.WplainKernelIdeal.τ Cert.WplainKernelIdeal.sig) → Buf (Elt Ideal) ℓ) (g : Dev Cert.WplainKernelIdeal.nD → PrngReg)
    (m' : (ℓ : Loc Cert.WplainReferenceIdeal.nD Cert.WplainReferenceIdeal.τ Cert.WplainReferenceIdeal.sig) → Buf (Elt Ideal) ℓ) (g' : Dev Cert.WplainReferenceIdeal.nD → PrngReg), Pre_WplainKernelIdeal m →
    (∀ c : Dev Cert.WplainKernelIdeal.nD,
      m' ((c.tc : Thread Cert.WplainReferenceIdeal.nD Cert.WplainReferenceIdeal.τ).loc Cert.WplainReferenceIdeal.main_arg0) = m ((c.tc : Thread Cert.WplainKernelIdeal.nD Cert.WplainKernelIdeal.τ).loc Cert.WplainKernelIdeal.main_arg0)
      ∧ m' ((c.tc : Thread Cert.WplainReferenceIdeal.nD Cert.WplainReferenceIdeal.τ).loc Cert.WplainReferenceIdeal.main_arg1) = m ((c.tc : Thread Cert.WplainKernelIdeal.nD Cert.WplainKernelIdeal.τ).loc Cert.WplainKernelIdeal.main_arg1)) →
    ∃ (v0 : (c : Dev Cert.WplainKernelIdeal.nD) → Buf (Elt Ideal) ((c.tc : Thread Cert.WplainKernelIdeal.nD Cert.WplainKernelIdeal.τ).loc Cert.WplainKernelIdeal.main_v6)),
      θ_run (Cert.WplainKernelIdeal.defs (F := Ideal)) (onTc (τ := Cert.WplainKernelIdeal.τ) (Cert.WplainKernelIdeal.main (F := Ideal))) ⟨m, fun _ => 0, g⟩ (fun r => ∀ c : Dev Cert.WplainKernelIdeal.nD,
          r.2.mem ((c.tc : Thread Cert.WplainKernelIdeal.nD Cert.WplainKernelIdeal.τ).loc Cert.WplainKernelIdeal.main_v6) = v0 c
          ∧ r.2.mem ((c.tc : Thread Cert.WplainKernelIdeal.nD Cert.WplainKernelIdeal.τ).loc Cert.WplainKernelIdeal.main_arg0) = m ((c.tc : Thread Cert.WplainKernelIdeal.nD Cert.WplainKernelIdeal.τ).loc Cert.WplainKernelIdeal.main_arg0)
          ∧ r.2.mem ((c.tc : Thread Cert.WplainKernelIdeal.nD Cert.WplainKernelIdeal.τ).loc Cert.WplainKernelIdeal.main_arg1) = m ((c.tc : Thread Cert.WplainKernelIdeal.nD Cert.WplainKernelIdeal.τ).loc Cert.WplainKernelIdeal.main_arg1))
      ∧ θ_run (Cert.WplainReferenceIdeal.defs (F := Ideal)) (onTc (τ := Cert.WplainReferenceIdeal.τ) (Cert.WplainReferenceIdeal.main (F := Ideal))) ⟨m', fun _ => 0, g'⟩ (fun r => ∀ c : Dev Cert.WplainReferenceIdeal.nD,
          r.2.mem ((c.tc : Thread Cert.WplainReferenceIdeal.nD Cert.WplainReferenceIdeal.τ).loc Cert.WplainReferenceIdeal.main_v6) = v0 c
          ∧ r.2.mem ((c.tc : Thread Cert.WplainReferenceIdeal.nD Cert.WplainReferenceIdeal.τ).loc Cert.WplainReferenceIdeal.main_arg0) = m' ((c.tc : Thread Cert.WplainReferenceIdeal.nD Cert.WplainReferenceIdeal.τ).loc Cert.WplainReferenceIdeal.main_arg0)
          ∧ r.2.mem ((c.tc : Thread Cert.WplainReferenceIdeal.nD Cert.WplainReferenceIdeal.τ).loc Cert.WplainReferenceIdeal.main_arg1) = m' ((c.tc : Thread Cert.WplainReferenceIdeal.nD Cert.WplainReferenceIdeal.τ).loc Cert.WplainReferenceIdeal.main_arg1))

def preserves_SlotsKernel_SlotsKernelIdeal : Prop :=
  True

def algebraic_SlotsKernelIdeal_SlotsReferenceIdeal [hSlotsKernelIdeal : Cert.SlotsKernelIdeal.Facts] [hSlotsReferenceIdeal : Cert.SlotsReferenceIdeal.Facts] : Prop :=
  ∀ (m : (ℓ : Loc Cert.SlotsKernelIdeal.nD Cert.SlotsKernelIdeal.τ Cert.SlotsKernelIdeal.sig) → Buf (Elt Ideal) ℓ) (g : Dev Cert.SlotsKernelIdeal.nD → PrngReg)
    (m' : (ℓ : Loc Cert.SlotsReferenceIdeal.nD Cert.SlotsReferenceIdeal.τ Cert.SlotsReferenceIdeal.sig) → Buf (Elt Ideal) ℓ) (g' : Dev Cert.SlotsReferenceIdeal.nD → PrngReg), Pre_SlotsKernelIdeal m →
    (∀ c : Dev Cert.SlotsKernelIdeal.nD,
      m' ((c.tc : Thread Cert.SlotsReferenceIdeal.nD Cert.SlotsReferenceIdeal.τ).loc Cert.SlotsReferenceIdeal.main_arg0) = m ((c.tc : Thread Cert.SlotsKernelIdeal.nD Cert.SlotsKernelIdeal.τ).loc Cert.SlotsKernelIdeal.main_arg0)) →
    ∃ (v0 : (c : Dev Cert.SlotsKernelIdeal.nD) → Buf (Elt Ideal) ((c.tc : Thread Cert.SlotsKernelIdeal.nD Cert.SlotsKernelIdeal.τ).loc Cert.SlotsKernelIdeal.main_v0)),
      θ_run (Cert.SlotsKernelIdeal.defs (F := Ideal)) (onTc (τ := Cert.SlotsKernelIdeal.τ) (Cert.SlotsKernelIdeal.main (F := Ideal))) ⟨m, fun _ => 0, g⟩ (fun r => ∀ c : Dev Cert.SlotsKernelIdeal.nD,
          r.2.mem ((c.tc : Thread Cert.SlotsKernelIdeal.nD Cert.SlotsKernelIdeal.τ).loc Cert.SlotsKernelIdeal.main_v0) = v0 c
          ∧ r.2.mem ((c.tc : Thread Cert.SlotsKernelIdeal.nD Cert.SlotsKernelIdeal.τ).loc Cert.SlotsKernelIdeal.main_arg0) = m ((c.tc : Thread Cert.SlotsKernelIdeal.nD Cert.SlotsKernelIdeal.τ).loc Cert.SlotsKernelIdeal.main_arg0))
      ∧ θ_run (Cert.SlotsReferenceIdeal.defs (F := Ideal)) (onTc (τ := Cert.SlotsReferenceIdeal.τ) (Cert.SlotsReferenceIdeal.main (F := Ideal))) ⟨m', fun _ => 0, g'⟩ (fun r => ∀ c : Dev Cert.SlotsReferenceIdeal.nD,
          r.2.mem ((c.tc : Thread Cert.SlotsReferenceIdeal.nD Cert.SlotsReferenceIdeal.τ).loc Cert.SlotsReferenceIdeal.main_v0) = v0 c
          ∧ r.2.mem ((c.tc : Thread Cert.SlotsReferenceIdeal.nD Cert.SlotsReferenceIdeal.τ).loc Cert.SlotsReferenceIdeal.main_arg0) = m' ((c.tc : Thread Cert.SlotsReferenceIdeal.nD Cert.SlotsReferenceIdeal.τ).loc Cert.SlotsReferenceIdeal.main_arg0))

def preserves_TwoKernel_TwoKernelIdeal : Prop :=
  True

def algebraic_TwoKernelIdeal_TwoReferenceIdeal [hTwoKernelIdeal : Cert.TwoKernelIdeal.Facts] [hTwoReferenceIdeal : Cert.TwoReferenceIdeal.Facts] : Prop :=
  ∀ (m : (ℓ : Loc Cert.TwoKernelIdeal.nD Cert.TwoKernelIdeal.τ Cert.TwoKernelIdeal.sig) → Buf (Elt Ideal) ℓ) (g : Dev Cert.TwoKernelIdeal.nD → PrngReg)
    (m' : (ℓ : Loc Cert.TwoReferenceIdeal.nD Cert.TwoReferenceIdeal.τ Cert.TwoReferenceIdeal.sig) → Buf (Elt Ideal) ℓ) (g' : Dev Cert.TwoReferenceIdeal.nD → PrngReg), Pre_TwoKernelIdeal m →
    (∀ c : Dev Cert.TwoKernelIdeal.nD,
      m' ((c.tc : Thread Cert.TwoReferenceIdeal.nD Cert.TwoReferenceIdeal.τ).loc Cert.TwoReferenceIdeal.main_arg0) = m ((c.tc : Thread Cert.TwoKernelIdeal.nD Cert.TwoKernelIdeal.τ).loc Cert.TwoKernelIdeal.main_arg0)
      ∧ m' ((c.tc : Thread Cert.TwoReferenceIdeal.nD Cert.TwoReferenceIdeal.τ).loc Cert.TwoReferenceIdeal.main_arg1) = m ((c.tc : Thread Cert.TwoKernelIdeal.nD Cert.TwoKernelIdeal.τ).loc Cert.TwoKernelIdeal.main_arg1)) →
    ∃ (v0 : (c : Dev Cert.TwoKernelIdeal.nD) → Buf (Elt Ideal) ((c.tc : Thread Cert.TwoKernelIdeal.nD Cert.TwoKernelIdeal.τ).loc Cert.TwoKernelIdeal.main_v0)),
      θ_run (Cert.TwoKernelIdeal.defs (F := Ideal)) (onTc (τ := Cert.TwoKernelIdeal.τ) (Cert.TwoKernelIdeal.main (F := Ideal))) ⟨m, fun _ => 0, g⟩ (fun r => ∀ c : Dev Cert.TwoKernelIdeal.nD,
          r.2.mem ((c.tc : Thread Cert.TwoKernelIdeal.nD Cert.TwoKernelIdeal.τ).loc Cert.TwoKernelIdeal.main_v0) = v0 c
          ∧ r.2.mem ((c.tc : Thread Cert.TwoKernelIdeal.nD Cert.TwoKernelIdeal.τ).loc Cert.TwoKernelIdeal.main_arg0) = m ((c.tc : Thread Cert.TwoKernelIdeal.nD Cert.TwoKernelIdeal.τ).loc Cert.TwoKernelIdeal.main_arg0)
          ∧ r.2.mem ((c.tc : Thread Cert.TwoKernelIdeal.nD Cert.TwoKernelIdeal.τ).loc Cert.TwoKernelIdeal.main_arg1) = m ((c.tc : Thread Cert.TwoKernelIdeal.nD Cert.TwoKernelIdeal.τ).loc Cert.TwoKernelIdeal.main_arg1))
      ∧ θ_run (Cert.TwoReferenceIdeal.defs (F := Ideal)) (onTc (τ := Cert.TwoReferenceIdeal.τ) (Cert.TwoReferenceIdeal.main (F := Ideal))) ⟨m', fun _ => 0, g'⟩ (fun r => ∀ c : Dev Cert.TwoReferenceIdeal.nD,
          r.2.mem ((c.tc : Thread Cert.TwoReferenceIdeal.nD Cert.TwoReferenceIdeal.τ).loc Cert.TwoReferenceIdeal.main_v0) = v0 c
          ∧ r.2.mem ((c.tc : Thread Cert.TwoReferenceIdeal.nD Cert.TwoReferenceIdeal.τ).loc Cert.TwoReferenceIdeal.main_arg0) = m' ((c.tc : Thread Cert.TwoReferenceIdeal.nD Cert.TwoReferenceIdeal.τ).loc Cert.TwoReferenceIdeal.main_arg0)
          ∧ r.2.mem ((c.tc : Thread Cert.TwoReferenceIdeal.nD Cert.TwoReferenceIdeal.τ).loc Cert.TwoReferenceIdeal.main_arg1) = m' ((c.tc : Thread Cert.TwoReferenceIdeal.nD Cert.TwoReferenceIdeal.τ).loc Cert.TwoReferenceIdeal.main_arg1))

def preserves_SmallKernel_SmallKernelIdeal : Prop :=
  True

def algebraic_SmallKernelIdeal_SmallReferenceIdeal [hSmallKernelIdeal : Cert.SmallKernelIdeal.Facts] [hSmallReferenceIdeal : Cert.SmallReferenceIdeal.Facts] : Prop :=
  ∀ (m : (ℓ : Loc Cert.SmallKernelIdeal.nD Cert.SmallKernelIdeal.τ Cert.SmallKernelIdeal.sig) → Buf (Elt Ideal) ℓ) (g : Dev Cert.SmallKernelIdeal.nD → PrngReg)
    (m' : (ℓ : Loc Cert.SmallReferenceIdeal.nD Cert.SmallReferenceIdeal.τ Cert.SmallReferenceIdeal.sig) → Buf (Elt Ideal) ℓ) (g' : Dev Cert.SmallReferenceIdeal.nD → PrngReg), Pre_SmallKernelIdeal m →
    (∀ c : Dev Cert.SmallKernelIdeal.nD,
      m' ((c.tc : Thread Cert.SmallReferenceIdeal.nD Cert.SmallReferenceIdeal.τ).loc Cert.SmallReferenceIdeal.main_arg0) = m ((c.tc : Thread Cert.SmallKernelIdeal.nD Cert.SmallKernelIdeal.τ).loc Cert.SmallKernelIdeal.main_arg0)
      ∧ m' ((c.tc : Thread Cert.SmallReferenceIdeal.nD Cert.SmallReferenceIdeal.τ).loc Cert.SmallReferenceIdeal.main_arg1) = m ((c.tc : Thread Cert.SmallKernelIdeal.nD Cert.SmallKernelIdeal.τ).loc Cert.SmallKernelIdeal.main_arg1)
      ∧ m' ((c.tc : Thread Cert.SmallReferenceIdeal.nD Cert.SmallReferenceIdeal.τ).loc Cert.SmallReferenceIdeal.main_arg2) = m ((c.tc : Thread Cert.SmallKernelIdeal.nD Cert.SmallKernelIdeal.τ).loc Cert.SmallKernelIdeal.main_arg2)
      ∧ m' ((c.tc : Thread Cert.SmallReferenceIdeal.nD Cert.SmallReferenceIdeal.τ).loc Cert.SmallReferenceIdeal.main_arg3) = m ((c.tc : Thread Cert.SmallKernelIdeal.nD Cert.SmallKernelIdeal.τ).loc Cert.SmallKernelIdeal.main_arg3)
      ∧ m' ((c.tc : Thread Cert.SmallReferenceIdeal.nD Cert.SmallReferenceIdeal.τ).loc Cert.SmallReferenceIdeal.main_arg4) = m ((c.tc : Thread Cert.SmallKernelIdeal.nD Cert.SmallKernelIdeal.τ).loc Cert.SmallKernelIdeal.main_arg4)
      ∧ m' ((c.tc : Thread Cert.SmallReferenceIdeal.nD Cert.SmallReferenceIdeal.τ).loc Cert.SmallReferenceIdeal.main_arg5) = m ((c.tc : Thread Cert.SmallKernelIdeal.nD Cert.SmallKernelIdeal.τ).loc Cert.SmallKernelIdeal.main_arg5)
      ∧ m' ((c.tc : Thread Cert.SmallReferenceIdeal.nD Cert.SmallReferenceIdeal.τ).loc Cert.SmallReferenceIdeal.main_arg6) = m ((c.tc : Thread Cert.SmallKernelIdeal.nD Cert.SmallKernelIdeal.τ).loc Cert.SmallKernelIdeal.main_arg6)
      ∧ m' ((c.tc : Thread Cert.SmallReferenceIdeal.nD Cert.SmallReferenceIdeal.τ).loc Cert.SmallReferenceIdeal.main_arg7) = m ((c.tc : Thread Cert.SmallKernelIdeal.nD Cert.SmallKernelIdeal.τ).loc Cert.SmallKernelIdeal.main_arg7)
      ∧ m' ((c.tc : Thread Cert.SmallReferenceIdeal.nD Cert.SmallReferenceIdeal.τ).loc Cert.SmallReferenceIdeal.main_arg8) = m ((c.tc : Thread Cert.SmallKernelIdeal.nD Cert.SmallKernelIdeal.τ).loc Cert.SmallKernelIdeal.main_arg8)
      ∧ m' ((c.tc : Thread Cert.SmallReferenceIdeal.nD Cert.SmallReferenceIdeal.τ).loc Cert.SmallReferenceIdeal.main_arg9) = m ((c.tc : Thread Cert.SmallKernelIdeal.nD Cert.SmallKernelIdeal.τ).loc Cert.SmallKernelIdeal.main_arg9)
      ∧ m' ((c.tc : Thread Cert.SmallReferenceIdeal.nD Cert.SmallReferenceIdeal.τ).loc Cert.SmallReferenceIdeal.main_arg10) = m ((c.tc : Thread Cert.SmallKernelIdeal.nD Cert.SmallKernelIdeal.τ).loc Cert.SmallKernelIdeal.main_arg10)
      ∧ m' ((c.tc : Thread Cert.SmallReferenceIdeal.nD Cert.SmallReferenceIdeal.τ).loc Cert.SmallReferenceIdeal.main_arg11) = m ((c.tc : Thread Cert.SmallKernelIdeal.nD Cert.SmallKernelIdeal.τ).loc Cert.SmallKernelIdeal.main_arg11)
      ∧ m' ((c.tc : Thread Cert.SmallReferenceIdeal.nD Cert.SmallReferenceIdeal.τ).loc Cert.SmallReferenceIdeal.main_arg12) = m ((c.tc : Thread Cert.SmallKernelIdeal.nD Cert.SmallKernelIdeal.τ).loc Cert.SmallKernelIdeal.main_arg12)
      ∧ m' ((c.tc : Thread Cert.SmallReferenceIdeal.nD Cert.SmallReferenceIdeal.τ).loc Cert.SmallReferenceIdeal.main_arg13) = m ((c.tc : Thread Cert.SmallKernelIdeal.nD Cert.SmallKernelIdeal.τ).loc Cert.SmallKernelIdeal.main_arg13)
      ∧ m' ((c.tc : Thread Cert.SmallReferenceIdeal.nD Cert.SmallReferenceIdeal.τ).loc Cert.SmallReferenceIdeal.main_arg14) = m ((c.tc : Thread Cert.SmallKernelIdeal.nD Cert.SmallKernelIdeal.τ).loc Cert.SmallKernelIdeal.main_arg14)
      ∧ m' ((c.tc : Thread Cert.SmallReferenceIdeal.nD Cert.SmallReferenceIdeal.τ).loc Cert.SmallReferenceIdeal.main_arg15) = m ((c.tc : Thread Cert.SmallKernelIdeal.nD Cert.SmallKernelIdeal.τ).loc Cert.SmallKernelIdeal.main_arg15)) →
    ∃ (v0 : (c : Dev Cert.SmallKernelIdeal.nD) → Buf (Elt Ideal) ((c.tc : Thread Cert.SmallKernelIdeal.nD Cert.SmallKernelIdeal.τ).loc Cert.SmallKernelIdeal.main_v0_0)) (v1 : (c : Dev Cert.SmallKernelIdeal.nD) → Buf (Elt Ideal) ((c.tc : Thread Cert.SmallKernelIdeal.nD Cert.SmallKernelIdeal.τ).loc Cert.SmallKernelIdeal.main_v0_1)) (v2 : (c : Dev Cert.SmallKernelIdeal.nD) → Buf (Elt Ideal) ((c.tc : Thread Cert.SmallKernelIdeal.nD Cert.SmallKernelIdeal.τ).loc Cert.SmallKernelIdeal.main_v0_2)) (v3 : (c : Dev Cert.SmallKernelIdeal.nD) → Buf (Elt Ideal) ((c.tc : Thread Cert.SmallKernelIdeal.nD Cert.SmallKernelIdeal.τ).loc Cert.SmallKernelIdeal.main_v0_3)) (v4 : (c : Dev Cert.SmallKernelIdeal.nD) → Buf (Elt Ideal) ((c.tc : Thread Cert.SmallKernelIdeal.nD Cert.SmallKernelIdeal.τ).loc Cert.SmallKernelIdeal.main_v0_4)) (v5 : (c : Dev Cert.SmallKernelIdeal.nD) → Buf (Elt Ideal) ((c.tc : Thread Cert.SmallKernelIdeal.nD Cert.SmallKernelIdeal.τ).loc Cert.SmallKernelIdeal.main_v0_5)) (v6 : (c : Dev Cert.SmallKernelIdeal.nD) → Buf (Elt Ideal) ((c.tc : Thread Cert.SmallKernelIdeal.nD Cert.SmallKernelIdeal.τ).loc Cert.SmallKernelIdeal.main_v0_6)) (v7 : (c : Dev Cert.SmallKernelIdeal.nD) → Buf (Elt Ideal) ((c.tc : Thread Cert.SmallKernelIdeal.nD Cert.SmallKernelIdeal.τ).loc Cert.SmallKernelIdeal.main_v0_7)) (v8 : (c : Dev Cert.SmallKernelIdeal.nD) → Buf (Elt Ideal) ((c.tc : Thread Cert.SmallKernelIdeal.nD Cert.SmallKernelIdeal.τ).loc Cert.SmallKernelIdeal.main_v0_8)) (v9 : (c : Dev Cert.SmallKernelIdeal.nD) → Buf (Elt Ideal) ((c.tc : Thread Cert.SmallKernelIdeal.nD Cert.SmallKernelIdeal.τ).loc Cert.SmallKernelIdeal.main_v0_9)) (v10 : (c : Dev Cert.SmallKernelIdeal.nD) → Buf (Elt Ideal) ((c.tc : Thread Cert.SmallKernelIdeal.nD Cert.SmallKernelIdeal.τ).loc Cert.SmallKernelIdeal.main_v0_10)) (v11 : (c : Dev Cert.SmallKernelIdeal.nD) → Buf (Elt Ideal) ((c.tc : Thread Cert.SmallKernelIdeal.nD Cert.SmallKernelIdeal.τ).loc Cert.SmallKernelIdeal.main_v0_11)),
      θ_run (Cert.SmallKernelIdeal.defs (F := Ideal)) (onTc (τ := Cert.SmallKernelIdeal.τ) (Cert.SmallKernelIdeal.main (F := Ideal))) ⟨m, fun _ => 0, g⟩ (fun r => ∀ c : Dev Cert.SmallKernelIdeal.nD,
          r.2.mem ((c.tc : Thread Cert.SmallKernelIdeal.nD Cert.SmallKernelIdeal.τ).loc Cert.SmallKernelIdeal.main_v0_0) = v0 c
          ∧ r.2.mem ((c.tc : Thread Cert.SmallKernelIdeal.nD Cert.SmallKernelIdeal.τ).loc Cert.SmallKernelIdeal.main_v0_1) = v1 c
          ∧ r.2.mem ((c.tc : Thread Cert.SmallKernelIdeal.nD Cert.SmallKernelIdeal.τ).loc Cert.SmallKernelIdeal.main_v0_2) = v2 c
          ∧ r.2.mem ((c.tc : Thread Cert.SmallKernelIdeal.nD Cert.SmallKernelIdeal.τ).loc Cert.SmallKernelIdeal.main_v0_3) = v3 c
          ∧ r.2.mem ((c.tc : Thread Cert.SmallKernelIdeal.nD Cert.SmallKernelIdeal.τ).loc Cert.SmallKernelIdeal.main_v0_4) = v4 c
          ∧ r.2.mem ((c.tc : Thread Cert.SmallKernelIdeal.nD Cert.SmallKernelIdeal.τ).loc Cert.SmallKernelIdeal.main_v0_5) = v5 c
          ∧ r.2.mem ((c.tc : Thread Cert.SmallKernelIdeal.nD Cert.SmallKernelIdeal.τ).loc Cert.SmallKernelIdeal.main_v0_6) = v6 c
          ∧ r.2.mem ((c.tc : Thread Cert.SmallKernelIdeal.nD Cert.SmallKernelIdeal.τ).loc Cert.SmallKernelIdeal.main_v0_7) = v7 c
          ∧ r.2.mem ((c.tc : Thread Cert.SmallKernelIdeal.nD Cert.SmallKernelIdeal.τ).loc Cert.SmallKernelIdeal.main_v0_8) = v8 c
          ∧ r.2.mem ((c.tc : Thread Cert.SmallKernelIdeal.nD Cert.SmallKernelIdeal.τ).loc Cert.SmallKernelIdeal.main_v0_9) = v9 c
          ∧ r.2.mem ((c.tc : Thread Cert.SmallKernelIdeal.nD Cert.SmallKernelIdeal.τ).loc Cert.SmallKernelIdeal.main_v0_10) = v10 c
          ∧ r.2.mem ((c.tc : Thread Cert.SmallKernelIdeal.nD Cert.SmallKernelIdeal.τ).loc Cert.SmallKernelIdeal.main_v0_11) = v11 c
          ∧ r.2.mem ((c.tc : Thread Cert.SmallKernelIdeal.nD Cert.SmallKernelIdeal.τ).loc Cert.SmallKernelIdeal.main_arg0) = m ((c.tc : Thread Cert.SmallKernelIdeal.nD Cert.SmallKernelIdeal.τ).loc Cert.SmallKernelIdeal.main_arg0)
          ∧ r.2.mem ((c.tc : Thread Cert.SmallKernelIdeal.nD Cert.SmallKernelIdeal.τ).loc Cert.SmallKernelIdeal.main_arg1) = m ((c.tc : Thread Cert.SmallKernelIdeal.nD Cert.SmallKernelIdeal.τ).loc Cert.SmallKernelIdeal.main_arg1)
          ∧ r.2.mem ((c.tc : Thread Cert.SmallKernelIdeal.nD Cert.SmallKernelIdeal.τ).loc Cert.SmallKernelIdeal.main_arg2) = m ((c.tc : Thread Cert.SmallKernelIdeal.nD Cert.SmallKernelIdeal.τ).loc Cert.SmallKernelIdeal.main_arg2)
          ∧ r.2.mem ((c.tc : Thread Cert.SmallKernelIdeal.nD Cert.SmallKernelIdeal.τ).loc Cert.SmallKernelIdeal.main_arg3) = m ((c.tc : Thread Cert.SmallKernelIdeal.nD Cert.SmallKernelIdeal.τ).loc Cert.SmallKernelIdeal.main_arg3)
          ∧ r.2.mem ((c.tc : Thread Cert.SmallKernelIdeal.nD Cert.SmallKernelIdeal.τ).loc Cert.SmallKernelIdeal.main_arg4) = m ((c.tc : Thread Cert.SmallKernelIdeal.nD Cert.SmallKernelIdeal.τ).loc Cert.SmallKernelIdeal.main_arg4)
          ∧ r.2.mem ((c.tc : Thread Cert.SmallKernelIdeal.nD Cert.SmallKernelIdeal.τ).loc Cert.SmallKernelIdeal.main_arg5) = m ((c.tc : Thread Cert.SmallKernelIdeal.nD Cert.SmallKernelIdeal.τ).loc Cert.SmallKernelIdeal.main_arg5)
          ∧ r.2.mem ((c.tc : Thread Cert.SmallKernelIdeal.nD Cert.SmallKernelIdeal.τ).loc Cert.SmallKernelIdeal.main_arg6) = m ((c.tc : Thread Cert.SmallKernelIdeal.nD Cert.SmallKernelIdeal.τ).loc Cert.SmallKernelIdeal.main_arg6)
          ∧ r.2.mem ((c.tc : Thread Cert.SmallKernelIdeal.nD Cert.SmallKernelIdeal.τ).loc Cert.SmallKernelIdeal.main_arg7) = m ((c.tc : Thread Cert.SmallKernelIdeal.nD Cert.SmallKernelIdeal.τ).loc Cert.SmallKernelIdeal.main_arg7)
          ∧ r.2.mem ((c.tc : Thread Cert.SmallKernelIdeal.nD Cert.SmallKernelIdeal.τ).loc Cert.SmallKernelIdeal.main_arg8) = m ((c.tc : Thread Cert.SmallKernelIdeal.nD Cert.SmallKernelIdeal.τ).loc Cert.SmallKernelIdeal.main_arg8)
          ∧ r.2.mem ((c.tc : Thread Cert.SmallKernelIdeal.nD Cert.SmallKernelIdeal.τ).loc Cert.SmallKernelIdeal.main_arg9) = m ((c.tc : Thread Cert.SmallKernelIdeal.nD Cert.SmallKernelIdeal.τ).loc Cert.SmallKernelIdeal.main_arg9)
          ∧ r.2.mem ((c.tc : Thread Cert.SmallKernelIdeal.nD Cert.SmallKernelIdeal.τ).loc Cert.SmallKernelIdeal.main_arg10) = m ((c.tc : Thread Cert.SmallKernelIdeal.nD Cert.SmallKernelIdeal.τ).loc Cert.SmallKernelIdeal.main_arg10)
          ∧ r.2.mem ((c.tc : Thread Cert.SmallKernelIdeal.nD Cert.SmallKernelIdeal.τ).loc Cert.SmallKernelIdeal.main_arg11) = m ((c.tc : Thread Cert.SmallKernelIdeal.nD Cert.SmallKernelIdeal.τ).loc Cert.SmallKernelIdeal.main_arg11)
          ∧ r.2.mem ((c.tc : Thread Cert.SmallKernelIdeal.nD Cert.SmallKernelIdeal.τ).loc Cert.SmallKernelIdeal.main_arg12) = m ((c.tc : Thread Cert.SmallKernelIdeal.nD Cert.SmallKernelIdeal.τ).loc Cert.SmallKernelIdeal.main_arg12)
          ∧ r.2.mem ((c.tc : Thread Cert.SmallKernelIdeal.nD Cert.SmallKernelIdeal.τ).loc Cert.SmallKernelIdeal.main_arg13) = m ((c.tc : Thread Cert.SmallKernelIdeal.nD Cert.SmallKernelIdeal.τ).loc Cert.SmallKernelIdeal.main_arg13)
          ∧ r.2.mem ((c.tc : Thread Cert.SmallKernelIdeal.nD Cert.SmallKernelIdeal.τ).loc Cert.SmallKernelIdeal.main_arg14) = m ((c.tc : Thread Cert.SmallKernelIdeal.nD Cert.SmallKernelIdeal.τ).loc Cert.SmallKernelIdeal.main_arg14)
          ∧ r.2.mem ((c.tc : Thread Cert.SmallKernelIdeal.nD Cert.SmallKernelIdeal.τ).loc Cert.SmallKernelIdeal.main_arg15) = m ((c.tc : Thread Cert.SmallKernelIdeal.nD Cert.SmallKernelIdeal.τ).loc Cert.SmallKernelIdeal.main_arg15))
      ∧ θ_run (Cert.SmallReferenceIdeal.defs (F := Ideal)) (onTc (τ := Cert.SmallReferenceIdeal.τ) (Cert.SmallReferenceIdeal.main (F := Ideal))) ⟨m', fun _ => 0, g'⟩ (fun r => ∀ c : Dev Cert.SmallReferenceIdeal.nD,
          r.2.mem ((c.tc : Thread Cert.SmallReferenceIdeal.nD Cert.SmallReferenceIdeal.τ).loc Cert.SmallReferenceIdeal.main_v23) = v0 c
          ∧ r.2.mem ((c.tc : Thread Cert.SmallReferenceIdeal.nD Cert.SmallReferenceIdeal.τ).loc Cert.SmallReferenceIdeal.main_v47) = v1 c
          ∧ r.2.mem ((c.tc : Thread Cert.SmallReferenceIdeal.nD Cert.SmallReferenceIdeal.τ).loc Cert.SmallReferenceIdeal.main_v71) = v2 c
          ∧ r.2.mem ((c.tc : Thread Cert.SmallReferenceIdeal.nD Cert.SmallReferenceIdeal.τ).loc Cert.SmallReferenceIdeal.main_v95) = v3 c
          ∧ r.2.mem ((c.tc : Thread Cert.SmallReferenceIdeal.nD Cert.SmallReferenceIdeal.τ).loc Cert.SmallReferenceIdeal.main_v4) = v4 c
          ∧ r.2.mem ((c.tc : Thread Cert.SmallReferenceIdeal.nD Cert.SmallReferenceIdeal.τ).loc Cert.SmallReferenceIdeal.main_v28) = v5 c
          ∧ r.2.mem ((c.tc : Thread Cert.SmallReferenceIdeal.nD Cert.SmallReferenceIdeal.τ).loc Cert.SmallReferenceIdeal.main_v52) = v6 c
          ∧ r.2.mem ((c.tc : Thread Cert.SmallReferenceIdeal.nD Cert.SmallReferenceIdeal.τ).loc Cert.SmallReferenceIdeal.main_v76) = v7 c
          ∧ r.2.mem ((c.tc : Thread Cert.SmallReferenceIdeal.nD Cert.SmallReferenceIdeal.τ).loc Cert.SmallReferenceIdeal.main_v10) = v8 c
          ∧ r.2.mem ((c.tc : Thread Cert.SmallReferenceIdeal.nD Cert.SmallReferenceIdeal.τ).loc Cert.SmallReferenceIdeal.main_v34) = v9 c
          ∧ r.2.mem ((c.tc : Thread Cert.SmallReferenceIdeal.nD Cert.SmallReferenceIdeal.τ).loc Cert.SmallReferenceIdeal.main_v58) = v10 c
          ∧ r.2.mem ((c.tc : Thread Cert.SmallReferenceIdeal.nD Cert.SmallReferenceIdeal.τ).loc Cert.SmallReferenceIdeal.main_v82) = v11 c
          ∧ r.2.mem ((c.tc : Thread Cert.SmallReferenceIdeal.nD Cert.SmallReferenceIdeal.τ).loc Cert.SmallReferenceIdeal.main_arg0) = m' ((c.tc : Thread Cert.SmallReferenceIdeal.nD Cert.SmallReferenceIdeal.τ).loc Cert.SmallReferenceIdeal.main_arg0)
          ∧ r.2.mem ((c.tc : Thread Cert.SmallReferenceIdeal.nD Cert.SmallReferenceIdeal.τ).loc Cert.SmallReferenceIdeal.main_arg1) = m' ((c.tc : Thread Cert.SmallReferenceIdeal.nD Cert.SmallReferenceIdeal.τ).loc Cert.SmallReferenceIdeal.main_arg1)
          ∧ r.2.mem ((c.tc : Thread Cert.SmallReferenceIdeal.nD Cert.SmallReferenceIdeal.τ).loc Cert.SmallReferenceIdeal.main_arg2) = m' ((c.tc : Thread Cert.SmallReferenceIdeal.nD Cert.SmallReferenceIdeal.τ).loc Cert.SmallReferenceIdeal.main_arg2)
          ∧ r.2.mem ((c.tc : Thread Cert.SmallReferenceIdeal.nD Cert.SmallReferenceIdeal.τ).loc Cert.SmallReferenceIdeal.main_arg3) = m' ((c.tc : Thread Cert.SmallReferenceIdeal.nD Cert.SmallReferenceIdeal.τ).loc Cert.SmallReferenceIdeal.main_arg3)
          ∧ r.2.mem ((c.tc : Thread Cert.SmallReferenceIdeal.nD Cert.SmallReferenceIdeal.τ).loc Cert.SmallReferenceIdeal.main_arg4) = m' ((c.tc : Thread Cert.SmallReferenceIdeal.nD Cert.SmallReferenceIdeal.τ).loc Cert.SmallReferenceIdeal.main_arg4)
          ∧ r.2.mem ((c.tc : Thread Cert.SmallReferenceIdeal.nD Cert.SmallReferenceIdeal.τ).loc Cert.SmallReferenceIdeal.main_arg5) = m' ((c.tc : Thread Cert.SmallReferenceIdeal.nD Cert.SmallReferenceIdeal.τ).loc Cert.SmallReferenceIdeal.main_arg5)
          ∧ r.2.mem ((c.tc : Thread Cert.SmallReferenceIdeal.nD Cert.SmallReferenceIdeal.τ).loc Cert.SmallReferenceIdeal.main_arg6) = m' ((c.tc : Thread Cert.SmallReferenceIdeal.nD Cert.SmallReferenceIdeal.τ).loc Cert.SmallReferenceIdeal.main_arg6)
          ∧ r.2.mem ((c.tc : Thread Cert.SmallReferenceIdeal.nD Cert.SmallReferenceIdeal.τ).loc Cert.SmallReferenceIdeal.main_arg7) = m' ((c.tc : Thread Cert.SmallReferenceIdeal.nD Cert.SmallReferenceIdeal.τ).loc Cert.SmallReferenceIdeal.main_arg7)
          ∧ r.2.mem ((c.tc : Thread Cert.SmallReferenceIdeal.nD Cert.SmallReferenceIdeal.τ).loc Cert.SmallReferenceIdeal.main_arg8) = m' ((c.tc : Thread Cert.SmallReferenceIdeal.nD Cert.SmallReferenceIdeal.τ).loc Cert.SmallReferenceIdeal.main_arg8)
          ∧ r.2.mem ((c.tc : Thread Cert.SmallReferenceIdeal.nD Cert.SmallReferenceIdeal.τ).loc Cert.SmallReferenceIdeal.main_arg9) = m' ((c.tc : Thread Cert.SmallReferenceIdeal.nD Cert.SmallReferenceIdeal.τ).loc Cert.SmallReferenceIdeal.main_arg9)
          ∧ r.2.mem ((c.tc : Thread Cert.SmallReferenceIdeal.nD Cert.SmallReferenceIdeal.τ).loc Cert.SmallReferenceIdeal.main_arg10) = m' ((c.tc : Thread Cert.SmallReferenceIdeal.nD Cert.SmallReferenceIdeal.τ).loc Cert.SmallReferenceIdeal.main_arg10)
          ∧ r.2.mem ((c.tc : Thread Cert.SmallReferenceIdeal.nD Cert.SmallReferenceIdeal.τ).loc Cert.SmallReferenceIdeal.main_arg11) = m' ((c.tc : Thread Cert.SmallReferenceIdeal.nD Cert.SmallReferenceIdeal.τ).loc Cert.SmallReferenceIdeal.main_arg11)
          ∧ r.2.mem ((c.tc : Thread Cert.SmallReferenceIdeal.nD Cert.SmallReferenceIdeal.τ).loc Cert.SmallReferenceIdeal.main_arg12) = m' ((c.tc : Thread Cert.SmallReferenceIdeal.nD Cert.SmallReferenceIdeal.τ).loc Cert.SmallReferenceIdeal.main_arg12)
          ∧ r.2.mem ((c.tc : Thread Cert.SmallReferenceIdeal.nD Cert.SmallReferenceIdeal.τ).loc Cert.SmallReferenceIdeal.main_arg13) = m' ((c.tc : Thread Cert.SmallReferenceIdeal.nD Cert.SmallReferenceIdeal.τ).loc Cert.SmallReferenceIdeal.main_arg13)
          ∧ r.2.mem ((c.tc : Thread Cert.SmallReferenceIdeal.nD Cert.SmallReferenceIdeal.τ).loc Cert.SmallReferenceIdeal.main_arg14) = m' ((c.tc : Thread Cert.SmallReferenceIdeal.nD Cert.SmallReferenceIdeal.τ).loc Cert.SmallReferenceIdeal.main_arg14)
          ∧ r.2.mem ((c.tc : Thread Cert.SmallReferenceIdeal.nD Cert.SmallReferenceIdeal.τ).loc Cert.SmallReferenceIdeal.main_arg15) = m' ((c.tc : Thread Cert.SmallReferenceIdeal.nD Cert.SmallReferenceIdeal.τ).loc Cert.SmallReferenceIdeal.main_arg15))

def preserves_OwnKernel_OwnKernelIdeal : Prop :=
  True

def algebraic_OwnKernelIdeal_OwnReferenceIdeal [hOwnKernelIdeal : Cert.OwnKernelIdeal.Facts] [hOwnReferenceIdeal : Cert.OwnReferenceIdeal.Facts] : Prop :=
  ∀ (m : (ℓ : Loc Cert.OwnKernelIdeal.nD Cert.OwnKernelIdeal.τ Cert.OwnKernelIdeal.sig) → Buf (Elt Ideal) ℓ) (g : Dev Cert.OwnKernelIdeal.nD → PrngReg)
    (m' : (ℓ : Loc Cert.OwnReferenceIdeal.nD Cert.OwnReferenceIdeal.τ Cert.OwnReferenceIdeal.sig) → Buf (Elt Ideal) ℓ) (g' : Dev Cert.OwnReferenceIdeal.nD → PrngReg), Pre_OwnKernelIdeal m →
    (∀ c : Dev Cert.OwnKernelIdeal.nD,
      m' ((c.tc : Thread Cert.OwnReferenceIdeal.nD Cert.OwnReferenceIdeal.τ).loc Cert.OwnReferenceIdeal.main_arg0) = m ((c.tc : Thread Cert.OwnKernelIdeal.nD Cert.OwnKernelIdeal.τ).loc Cert.OwnKernelIdeal.main_arg0)
      ∧ m' ((c.tc : Thread Cert.OwnReferenceIdeal.nD Cert.OwnReferenceIdeal.τ).loc Cert.OwnReferenceIdeal.main_arg1) = m ((c.tc : Thread Cert.OwnKernelIdeal.nD Cert.OwnKernelIdeal.τ).loc Cert.OwnKernelIdeal.main_arg1)) →
    ∃ (v0 : (c : Dev Cert.OwnKernelIdeal.nD) → Buf (Elt Ideal) ((c.tc : Thread Cert.OwnKernelIdeal.nD Cert.OwnKernelIdeal.τ).loc Cert.OwnKernelIdeal.main_v1)),
      θ_run (Cert.OwnKernelIdeal.defs (F := Ideal)) (onTc (τ := Cert.OwnKernelIdeal.τ) (Cert.OwnKernelIdeal.main (F := Ideal))) ⟨m, fun _ => 0, g⟩ (fun r => ∀ c : Dev Cert.OwnKernelIdeal.nD,
          r.2.mem ((c.tc : Thread Cert.OwnKernelIdeal.nD Cert.OwnKernelIdeal.τ).loc Cert.OwnKernelIdeal.main_v1) = v0 c
          ∧ r.2.mem ((c.tc : Thread Cert.OwnKernelIdeal.nD Cert.OwnKernelIdeal.τ).loc Cert.OwnKernelIdeal.main_arg0) = m ((c.tc : Thread Cert.OwnKernelIdeal.nD Cert.OwnKernelIdeal.τ).loc Cert.OwnKernelIdeal.main_arg0)
          ∧ r.2.mem ((c.tc : Thread Cert.OwnKernelIdeal.nD Cert.OwnKernelIdeal.τ).loc Cert.OwnKernelIdeal.main_arg1) = m ((c.tc : Thread Cert.OwnKernelIdeal.nD Cert.OwnKernelIdeal.τ).loc Cert.OwnKernelIdeal.main_arg1))
      ∧ θ_run (Cert.OwnReferenceIdeal.defs (F := Ideal)) (onTc (τ := Cert.OwnReferenceIdeal.τ) (Cert.OwnReferenceIdeal.main (F := Ideal))) ⟨m', fun _ => 0, g'⟩ (fun r => ∀ c : Dev Cert.OwnReferenceIdeal.nD,
          r.2.mem ((c.tc : Thread Cert.OwnReferenceIdeal.nD Cert.OwnReferenceIdeal.τ).loc Cert.OwnReferenceIdeal.main_v6) = v0 c
          ∧ r.2.mem ((c.tc : Thread Cert.OwnReferenceIdeal.nD Cert.OwnReferenceIdeal.τ).loc Cert.OwnReferenceIdeal.main_arg0) = m' ((c.tc : Thread Cert.OwnReferenceIdeal.nD Cert.OwnReferenceIdeal.τ).loc Cert.OwnReferenceIdeal.main_arg0)
          ∧ r.2.mem ((c.tc : Thread Cert.OwnReferenceIdeal.nD Cert.OwnReferenceIdeal.τ).loc Cert.OwnReferenceIdeal.main_arg1) = m' ((c.tc : Thread Cert.OwnReferenceIdeal.nD Cert.OwnReferenceIdeal.τ).loc Cert.OwnReferenceIdeal.main_arg1))

def preserves_StepKernel_StepKernelIdeal : Prop :=
  True

def algebraic_StepKernelIdeal_StepReferenceIdeal [hStepKernelIdeal : Cert.StepKernelIdeal.Facts] [hStepReferenceIdeal : Cert.StepReferenceIdeal.Facts] : Prop :=
  ∀ (m : (ℓ : Loc Cert.StepKernelIdeal.nD Cert.StepKernelIdeal.τ Cert.StepKernelIdeal.sig) → Buf (Elt Ideal) ℓ) (g : Dev Cert.StepKernelIdeal.nD → PrngReg)
    (m' : (ℓ : Loc Cert.StepReferenceIdeal.nD Cert.StepReferenceIdeal.τ Cert.StepReferenceIdeal.sig) → Buf (Elt Ideal) ℓ) (g' : Dev Cert.StepReferenceIdeal.nD → PrngReg), Pre_StepKernelIdeal m →
    (∀ c : Dev Cert.StepKernelIdeal.nD,
      m' ((c.tc : Thread Cert.StepReferenceIdeal.nD Cert.StepReferenceIdeal.τ).loc Cert.StepReferenceIdeal.main_arg0) = m ((c.tc : Thread Cert.StepKernelIdeal.nD Cert.StepKernelIdeal.τ).loc Cert.StepKernelIdeal.main_arg0)
      ∧ m' ((c.tc : Thread Cert.StepReferenceIdeal.nD Cert.StepReferenceIdeal.τ).loc Cert.StepReferenceIdeal.main_arg1) = m ((c.tc : Thread Cert.StepKernelIdeal.nD Cert.StepKernelIdeal.τ).loc Cert.StepKernelIdeal.main_arg1)
      ∧ m' ((c.tc : Thread Cert.StepReferenceIdeal.nD Cert.StepReferenceIdeal.τ).loc Cert.StepReferenceIdeal.main_arg2) = m ((c.tc : Thread Cert.StepKernelIdeal.nD Cert.StepKernelIdeal.τ).loc Cert.StepKernelIdeal.main_arg2)
      ∧ m' ((c.tc : Thread Cert.StepReferenceIdeal.nD Cert.StepReferenceIdeal.τ).loc Cert.StepReferenceIdeal.main_arg3) = m ((c.tc : Thread Cert.StepKernelIdeal.nD Cert.StepKernelIdeal.τ).loc Cert.StepKernelIdeal.main_arg3)
      ∧ m' ((c.tc : Thread Cert.StepReferenceIdeal.nD Cert.StepReferenceIdeal.τ).loc Cert.StepReferenceIdeal.main_arg4) = m ((c.tc : Thread Cert.StepKernelIdeal.nD Cert.StepKernelIdeal.τ).loc Cert.StepKernelIdeal.main_arg4)
      ∧ m' ((c.tc : Thread Cert.StepReferenceIdeal.nD Cert.StepReferenceIdeal.τ).loc Cert.StepReferenceIdeal.main_arg5) = m ((c.tc : Thread Cert.StepKernelIdeal.nD Cert.StepKernelIdeal.τ).loc Cert.StepKernelIdeal.main_arg5)
      ∧ m' ((c.tc : Thread Cert.StepReferenceIdeal.nD Cert.StepReferenceIdeal.τ).loc Cert.StepReferenceIdeal.main_arg6) = m ((c.tc : Thread Cert.StepKernelIdeal.nD Cert.StepKernelIdeal.τ).loc Cert.StepKernelIdeal.main_arg6)
      ∧ m' ((c.tc : Thread Cert.StepReferenceIdeal.nD Cert.StepReferenceIdeal.τ).loc Cert.StepReferenceIdeal.main_arg7) = m ((c.tc : Thread Cert.StepKernelIdeal.nD Cert.StepKernelIdeal.τ).loc Cert.StepKernelIdeal.main_arg7)
      ∧ m' ((c.tc : Thread Cert.StepReferenceIdeal.nD Cert.StepReferenceIdeal.τ).loc Cert.StepReferenceIdeal.main_arg8) = m ((c.tc : Thread Cert.StepKernelIdeal.nD Cert.StepKernelIdeal.τ).loc Cert.StepKernelIdeal.main_arg8)) →
    ∃ (v0 : (c : Dev Cert.StepKernelIdeal.nD) → Buf (Elt Ideal) ((c.tc : Thread Cert.StepKernelIdeal.nD Cert.StepKernelIdeal.τ).loc Cert.StepKernelIdeal.main_v4_0)) (v1 : (c : Dev Cert.StepKernelIdeal.nD) → Buf (Elt Ideal) ((c.tc : Thread Cert.StepKernelIdeal.nD Cert.StepKernelIdeal.τ).loc Cert.StepKernelIdeal.main_v4_1)) (v2 : (c : Dev Cert.StepKernelIdeal.nD) → Buf (Elt Ideal) ((c.tc : Thread Cert.StepKernelIdeal.nD Cert.StepKernelIdeal.τ).loc Cert.StepKernelIdeal.main_v4_2)) (v3 : (c : Dev Cert.StepKernelIdeal.nD) → Buf (Elt Ideal) ((c.tc : Thread Cert.StepKernelIdeal.nD Cert.StepKernelIdeal.τ).loc Cert.StepKernelIdeal.main_v4_3)),
      θ_run (Cert.StepKernelIdeal.defs (F := Ideal)) (onTc (τ := Cert.StepKernelIdeal.τ) (Cert.StepKernelIdeal.main (F := Ideal))) ⟨m, fun _ => 0, g⟩ (fun r => ∀ c : Dev Cert.StepKernelIdeal.nD,
          r.2.mem ((c.tc : Thread Cert.StepKernelIdeal.nD Cert.StepKernelIdeal.τ).loc Cert.StepKernelIdeal.main_v4_0) = v0 c
          ∧ r.2.mem ((c.tc : Thread Cert.StepKernelIdeal.nD Cert.StepKernelIdeal.τ).loc Cert.StepKernelIdeal.main_v4_1) = v1 c
          ∧ r.2.mem ((c.tc : Thread Cert.StepKernelIdeal.nD Cert.StepKernelIdeal.τ).loc Cert.StepKernelIdeal.main_v4_2) = v2 c
          ∧ r.2.mem ((c.tc : Thread Cert.StepKernelIdeal.nD Cert.StepKernelIdeal.τ).loc Cert.StepKernelIdeal.main_v4_3) = v3 c
          ∧ r.2.mem ((c.tc : Thread Cert.StepKernelIdeal.nD Cert.StepKernelIdeal.τ).loc Cert.StepKernelIdeal.main_arg0) = m ((c.tc : Thread Cert.StepKernelIdeal.nD Cert.StepKernelIdeal.τ).loc Cert.StepKernelIdeal.main_arg0)
          ∧ r.2.mem ((c.tc : Thread Cert.StepKernelIdeal.nD Cert.StepKernelIdeal.τ).loc Cert.StepKernelIdeal.main_arg1) = m ((c.tc : Thread Cert.StepKernelIdeal.nD Cert.StepKernelIdeal.τ).loc Cert.StepKernelIdeal.main_arg1)
          ∧ r.2.mem ((c.tc : Thread Cert.StepKernelIdeal.nD Cert.StepKernelIdeal.τ).loc Cert.StepKernelIdeal.main_arg2) = m ((c.tc : Thread Cert.StepKernelIdeal.nD Cert.StepKernelIdeal.τ).loc Cert.StepKernelIdeal.main_arg2)
          ∧ r.2.mem ((c.tc : Thread Cert.StepKernelIdeal.nD Cert.StepKernelIdeal.τ).loc Cert.StepKernelIdeal.main_arg3) = m ((c.tc : Thread Cert.StepKernelIdeal.nD Cert.StepKernelIdeal.τ).loc Cert.StepKernelIdeal.main_arg3)
          ∧ r.2.mem ((c.tc : Thread Cert.StepKernelIdeal.nD Cert.StepKernelIdeal.τ).loc Cert.StepKernelIdeal.main_arg4) = m ((c.tc : Thread Cert.StepKernelIdeal.nD Cert.StepKernelIdeal.τ).loc Cert.StepKernelIdeal.main_arg4)
          ∧ r.2.mem ((c.tc : Thread Cert.StepKernelIdeal.nD Cert.StepKernelIdeal.τ).loc Cert.StepKernelIdeal.main_arg5) = m ((c.tc : Thread Cert.StepKernelIdeal.nD Cert.StepKernelIdeal.τ).loc Cert.StepKernelIdeal.main_arg5)
          ∧ r.2.mem ((c.tc : Thread Cert.StepKernelIdeal.nD Cert.StepKernelIdeal.τ).loc Cert.StepKernelIdeal.main_arg6) = m ((c.tc : Thread Cert.StepKernelIdeal.nD Cert.StepKernelIdeal.τ).loc Cert.StepKernelIdeal.main_arg6)
          ∧ r.2.mem ((c.tc : Thread Cert.StepKernelIdeal.nD Cert.StepKernelIdeal.τ).loc Cert.StepKernelIdeal.main_arg7) = m ((c.tc : Thread Cert.StepKernelIdeal.nD Cert.StepKernelIdeal.τ).loc Cert.StepKernelIdeal.main_arg7)
          ∧ r.2.mem ((c.tc : Thread Cert.StepKernelIdeal.nD Cert.StepKernelIdeal.τ).loc Cert.StepKernelIdeal.main_arg8) = m ((c.tc : Thread Cert.StepKernelIdeal.nD Cert.StepKernelIdeal.τ).loc Cert.StepKernelIdeal.main_arg8))
      ∧ θ_run (Cert.StepReferenceIdeal.defs (F := Ideal)) (onTc (τ := Cert.StepReferenceIdeal.τ) (Cert.StepReferenceIdeal.main (F := Ideal))) ⟨m', fun _ => 0, g'⟩ (fun r => ∀ c : Dev Cert.StepReferenceIdeal.nD,
          r.2.mem ((c.tc : Thread Cert.StepReferenceIdeal.nD Cert.StepReferenceIdeal.τ).loc Cert.StepReferenceIdeal.main_v34) = v0 c
          ∧ r.2.mem ((c.tc : Thread Cert.StepReferenceIdeal.nD Cert.StepReferenceIdeal.τ).loc Cert.StepReferenceIdeal.main_v39) = v1 c
          ∧ r.2.mem ((c.tc : Thread Cert.StepReferenceIdeal.nD Cert.StepReferenceIdeal.τ).loc Cert.StepReferenceIdeal.main_v44) = v2 c
          ∧ r.2.mem ((c.tc : Thread Cert.StepReferenceIdeal.nD Cert.StepReferenceIdeal.τ).loc Cert.StepReferenceIdeal.main_v49) = v3 c
          ∧ r.2.mem ((c.tc : Thread Cert.StepReferenceIdeal.nD Cert.StepReferenceIdeal.τ).loc Cert.StepReferenceIdeal.main_arg0) = m' ((c.tc : Thread Cert.StepReferenceIdeal.nD Cert.StepReferenceIdeal.τ).loc Cert.StepReferenceIdeal.main_arg0)
          ∧ r.2.mem ((c.tc : Thread Cert.StepReferenceIdeal.nD Cert.StepReferenceIdeal.τ).loc Cert.StepReferenceIdeal.main_arg1) = m' ((c.tc : Thread Cert.StepReferenceIdeal.nD Cert.StepReferenceIdeal.τ).loc Cert.StepReferenceIdeal.main_arg1)
          ∧ r.2.mem ((c.tc : Thread Cert.StepReferenceIdeal.nD Cert.StepReferenceIdeal.τ).loc Cert.StepReferenceIdeal.main_arg2) = m' ((c.tc : Thread Cert.StepReferenceIdeal.nD Cert.StepReferenceIdeal.τ).loc Cert.StepReferenceIdeal.main_arg2)
          ∧ r.2.mem ((c.tc : Thread Cert.StepReferenceIdeal.nD Cert.StepReferenceIdeal.τ).loc Cert.StepReferenceIdeal.main_arg3) = m' ((c.tc : Thread Cert.StepReferenceIdeal.nD Cert.StepReferenceIdeal.τ).loc Cert.StepReferenceIdeal.main_arg3)
          ∧ r.2.mem ((c.tc : Thread Cert.StepReferenceIdeal.nD Cert.StepReferenceIdeal.τ).loc Cert.StepReferenceIdeal.main_arg4) = m' ((c.tc : Thread Cert.StepReferenceIdeal.nD Cert.StepReferenceIdeal.τ).loc Cert.StepReferenceIdeal.main_arg4)
          ∧ r.2.mem ((c.tc : Thread Cert.StepReferenceIdeal.nD Cert.StepReferenceIdeal.τ).loc Cert.StepReferenceIdeal.main_arg5) = m' ((c.tc : Thread Cert.StepReferenceIdeal.nD Cert.StepReferenceIdeal.τ).loc Cert.StepReferenceIdeal.main_arg5)
          ∧ r.2.mem ((c.tc : Thread Cert.StepReferenceIdeal.nD Cert.StepReferenceIdeal.τ).loc Cert.StepReferenceIdeal.main_arg6) = m' ((c.tc : Thread Cert.StepReferenceIdeal.nD Cert.StepReferenceIdeal.τ).loc Cert.StepReferenceIdeal.main_arg6)
          ∧ r.2.mem ((c.tc : Thread Cert.StepReferenceIdeal.nD Cert.StepReferenceIdeal.τ).loc Cert.StepReferenceIdeal.main_arg7) = m' ((c.tc : Thread Cert.StepReferenceIdeal.nD Cert.StepReferenceIdeal.τ).loc Cert.StepReferenceIdeal.main_arg7)
          ∧ r.2.mem ((c.tc : Thread Cert.StepReferenceIdeal.nD Cert.StepReferenceIdeal.τ).loc Cert.StepReferenceIdeal.main_arg8) = m' ((c.tc : Thread Cert.StepReferenceIdeal.nD Cert.StepReferenceIdeal.τ).loc Cert.StepReferenceIdeal.main_arg8))

def Claim : Prop :=
  ∃ (hCpKernel : Cert.CpKernel.Facts) (hCpKernelIdeal : Cert.CpKernelIdeal.Facts) (hCpReferenceIdeal : Cert.CpReferenceIdeal.Facts) (hLossKernel : Cert.LossKernel.Facts) (hLossKernelIdeal : Cert.LossKernelIdeal.Facts) (hLossReferenceIdeal : Cert.LossReferenceIdeal.Facts) (hNormKernel : Cert.NormKernel.Facts) (hNormKernelIdeal : Cert.NormKernelIdeal.Facts) (hNormReferenceIdeal : Cert.NormReferenceIdeal.Facts) (hFfnKernel : Cert.FfnKernel.Facts) (hFfnKernelIdeal : Cert.FfnKernelIdeal.Facts) (hFfnReferenceIdeal : Cert.FfnReferenceIdeal.Facts) (hHeadKernel : Cert.HeadKernel.Facts) (hHeadKernelIdeal : Cert.HeadKernelIdeal.Facts) (hHeadReferenceIdeal : Cert.HeadReferenceIdeal.Facts) (hRestKernel : Cert.RestKernel.Facts) (hRestKernelIdeal : Cert.RestKernelIdeal.Facts) (hRestReferenceIdeal : Cert.RestReferenceIdeal.Facts) (hWgradKernel : Cert.WgradKernel.Facts) (hWgradKernelIdeal : Cert.WgradKernelIdeal.Facts) (hWgradReferenceIdeal : Cert.WgradReferenceIdeal.Facts) (hGlafKernel : Cert.GlafKernel.Facts) (hGlafKernelIdeal : Cert.GlafKernelIdeal.Facts) (hGlafReferenceIdeal : Cert.GlafReferenceIdeal.Facts) (hCpfKernel : Cert.CpfKernel.Facts) (hCpfKernelIdeal : Cert.CpfKernelIdeal.Facts) (hCpfReferenceIdeal : Cert.CpfReferenceIdeal.Facts) (hNmKernel : Cert.NmKernel.Facts) (hNmKernelIdeal : Cert.NmKernelIdeal.Facts) (hNmReferenceIdeal : Cert.NmReferenceIdeal.Facts) (hNcKernel : Cert.NcKernel.Facts) (hNcKernelIdeal : Cert.NcKernelIdeal.Facts) (hNcReferenceIdeal : Cert.NcReferenceIdeal.Facts) (hFfKernel : Cert.FfKernel.Facts) (hFfKernelIdeal : Cert.FfKernelIdeal.Facts) (hFfReferenceIdeal : Cert.FfReferenceIdeal.Facts) (hOutKernel : Cert.OutKernel.Facts) (hOutKernelIdeal : Cert.OutKernelIdeal.Facts) (hOutReferenceIdeal : Cert.OutReferenceIdeal.Facts) (hWplainKernel : Cert.WplainKernel.Facts) (hWplainKernelIdeal : Cert.WplainKernelIdeal.Facts) (hWplainReferenceIdeal : Cert.WplainReferenceIdeal.Facts) (hSlotsKernel : Cert.SlotsKernel.Facts) (hSlotsKernelIdeal : Cert.SlotsKernelIdeal.Facts) (hSlotsReferenceIdeal : Cert.SlotsReferenceIdeal.Facts) (hTwoKernel : Cert.TwoKernel.Facts) (hTwoKernelIdeal : Cert.TwoKernelIdeal.Facts) (hTwoReferenceIdeal : Cert.TwoReferenceIdeal.Facts) (hSmallKernel : Cert.SmallKernel.Facts) (hSmallKernelIdeal : Cert.SmallKernelIdeal.Facts) (hSmallReferenceIdeal : Cert.SmallReferenceIdeal.Facts) (hOwnKernel : Cert.OwnKernel.Facts) (hOwnKernelIdeal : Cert.OwnKernelIdeal.Facts) (hOwnReferenceIdeal : Cert.OwnReferenceIdeal.Facts) (hStepKernel : Cert.StepKernel.Facts) (hStepKernelIdeal : Cert.StepKernelIdeal.Facts) (hStepReferenceIdeal : Cert.StepReferenceIdeal.Facts) (hPre_finite_cp : Cert.Pre_finite_cp.Facts) (hPre_finite_cpf : Cert.Pre_finite_cpf.Facts),
    quiescent_CpKernel (hCpKernel := hCpKernel)
    ∧ quiescent_CpKernelIdeal (hCpKernelIdeal := hCpKernelIdeal)
    ∧ quiescent_CpKernelIdeal_pre_finite_cp (hCpKernelIdeal := hCpKernelIdeal) (hPre_finite_cp := hPre_finite_cp)
    ∧ quiescent_CpReferenceIdeal (hCpReferenceIdeal := hCpReferenceIdeal)
    ∧ quiescent_CpReferenceIdeal_pre_finite_cp (hCpReferenceIdeal := hCpReferenceIdeal) (hPre_finite_cp := hPre_finite_cp)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_HeadKernel (hHeadKernel := hHeadKernel)
    ∧ quiescent_HeadKernelIdeal (hHeadKernelIdeal := hHeadKernelIdeal)
    ∧ quiescent_HeadReferenceIdeal (hHeadReferenceIdeal := hHeadReferenceIdeal)
    ∧ quiescent_RestKernel (hRestKernel := hRestKernel)
    ∧ quiescent_RestKernelIdeal (hRestKernelIdeal := hRestKernelIdeal)
    ∧ quiescent_RestReferenceIdeal (hRestReferenceIdeal := hRestReferenceIdeal)
    ∧ quiescent_WgradKernel (hWgradKernel := hWgradKernel)
    ∧ quiescent_WgradKernelIdeal (hWgradKernelIdeal := hWgradKernelIdeal)
    ∧ quiescent_WgradReferenceIdeal (hWgradReferenceIdeal := hWgradReferenceIdeal)
    ∧ quiescent_GlafKernel (hGlafKernel := hGlafKernel)
    ∧ quiescent_GlafKernelIdeal (hGlafKernelIdeal := hGlafKernelIdeal)
    ∧ quiescent_GlafReferenceIdeal (hGlafReferenceIdeal := hGlafReferenceIdeal)
    ∧ quiescent_CpfKernel (hCpfKernel := hCpfKernel)
    ∧ quiescent_CpfKernelIdeal (hCpfKernelIdeal := hCpfKernelIdeal)
    ∧ quiescent_CpfKernelIdeal_pre_finite_cpf (hCpfKernelIdeal := hCpfKernelIdeal) (hPre_finite_cpf := hPre_finite_cpf)
    ∧ quiescent_CpfReferenceIdeal (hCpfReferenceIdeal := hCpfReferenceIdeal)
    ∧ quiescent_CpfReferenceIdeal_pre_finite_cpf (hCpfReferenceIdeal := hCpfReferenceIdeal) (hPre_finite_cpf := hPre_finite_cpf)
    ∧ quiescent_NmKernel (hNmKernel := hNmKernel)
    ∧ quiescent_NmKernelIdeal (hNmKernelIdeal := hNmKernelIdeal)
    ∧ quiescent_NmReferenceIdeal (hNmReferenceIdeal := hNmReferenceIdeal)
    ∧ quiescent_NcKernel (hNcKernel := hNcKernel)
    ∧ quiescent_NcKernelIdeal (hNcKernelIdeal := hNcKernelIdeal)
    ∧ quiescent_NcReferenceIdeal (hNcReferenceIdeal := hNcReferenceIdeal)
    ∧ quiescent_FfKernel (hFfKernel := hFfKernel)
    ∧ quiescent_FfKernelIdeal (hFfKernelIdeal := hFfKernelIdeal)
    ∧ quiescent_FfReferenceIdeal (hFfReferenceIdeal := hFfReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_WplainKernel (hWplainKernel := hWplainKernel)
    ∧ quiescent_WplainKernelIdeal (hWplainKernelIdeal := hWplainKernelIdeal)
    ∧ quiescent_WplainReferenceIdeal (hWplainReferenceIdeal := hWplainReferenceIdeal)
    ∧ quiescent_SlotsKernel (hSlotsKernel := hSlotsKernel)
    ∧ quiescent_SlotsKernelIdeal (hSlotsKernelIdeal := hSlotsKernelIdeal)
    ∧ quiescent_SlotsReferenceIdeal (hSlotsReferenceIdeal := hSlotsReferenceIdeal)
    ∧ quiescent_TwoKernel (hTwoKernel := hTwoKernel)
    ∧ quiescent_TwoKernelIdeal (hTwoKernelIdeal := hTwoKernelIdeal)
    ∧ quiescent_TwoReferenceIdeal (hTwoReferenceIdeal := hTwoReferenceIdeal)
    ∧ quiescent_SmallKernel (hSmallKernel := hSmallKernel)
    ∧ quiescent_SmallKernelIdeal (hSmallKernelIdeal := hSmallKernelIdeal)
    ∧ quiescent_SmallReferenceIdeal (hSmallReferenceIdeal := hSmallReferenceIdeal)
    ∧ quiescent_OwnKernel (hOwnKernel := hOwnKernel)
    ∧ quiescent_OwnKernelIdeal (hOwnKernelIdeal := hOwnKernelIdeal)
    ∧ quiescent_OwnReferenceIdeal (hOwnReferenceIdeal := hOwnReferenceIdeal)
    ∧ quiescent_StepKernel (hStepKernel := hStepKernel)
    ∧ quiescent_StepKernelIdeal (hStepKernelIdeal := hStepKernelIdeal)
    ∧ quiescent_StepReferenceIdeal (hStepReferenceIdeal := hStepReferenceIdeal)
    ∧ preserves_CpKernel_CpKernelIdeal
    ∧ algebraic_CpKernelIdeal_CpReferenceIdeal_pre_finite_cp (hCpKernelIdeal := hCpKernelIdeal) (hCpReferenceIdeal := hCpReferenceIdeal) (hPre_finite_cp := hPre_finite_cp)
    ∧ preserves_LossKernel_LossKernelIdeal
    ∧ algebraic_LossKernelIdeal_LossReferenceIdeal (hLossKernelIdeal := hLossKernelIdeal) (hLossReferenceIdeal := hLossReferenceIdeal)
    ∧ preserves_NormKernel_NormKernelIdeal
    ∧ algebraic_NormKernelIdeal_NormReferenceIdeal (hNormKernelIdeal := hNormKernelIdeal) (hNormReferenceIdeal := hNormReferenceIdeal)
    ∧ preserves_FfnKernel_FfnKernelIdeal
    ∧ algebraic_FfnKernelIdeal_FfnReferenceIdeal (hFfnKernelIdeal := hFfnKernelIdeal) (hFfnReferenceIdeal := hFfnReferenceIdeal)
    ∧ preserves_HeadKernel_HeadKernelIdeal
    ∧ algebraic_HeadKernelIdeal_HeadReferenceIdeal (hHeadKernelIdeal := hHeadKernelIdeal) (hHeadReferenceIdeal := hHeadReferenceIdeal)
    ∧ preserves_RestKernel_RestKernelIdeal
    ∧ algebraic_RestKernelIdeal_RestReferenceIdeal (hRestKernelIdeal := hRestKernelIdeal) (hRestReferenceIdeal := hRestReferenceIdeal)
    ∧ preserves_WgradKernel_WgradKernelIdeal
    ∧ algebraic_WgradKernelIdeal_WgradReferenceIdeal (hWgradKernelIdeal := hWgradKernelIdeal) (hWgradReferenceIdeal := hWgradReferenceIdeal)
    ∧ preserves_GlafKernel_GlafKernelIdeal
    ∧ preserves_CpfKernel_CpfKernelIdeal
    ∧ algebraic_CpfKernelIdeal_CpfReferenceIdeal_pre_finite_cpf (hCpfKernelIdeal := hCpfKernelIdeal) (hCpfReferenceIdeal := hCpfReferenceIdeal) (hPre_finite_cpf := hPre_finite_cpf)
    ∧ preserves_NmKernel_NmKernelIdeal
    ∧ algebraic_NmKernelIdeal_NmReferenceIdeal (hNmKernelIdeal := hNmKernelIdeal) (hNmReferenceIdeal := hNmReferenceIdeal)
    ∧ preserves_NcKernel_NcKernelIdeal
    ∧ algebraic_NcKernelIdeal_NcReferenceIdeal (hNcKernelIdeal := hNcKernelIdeal) (hNcReferenceIdeal := hNcReferenceIdeal)
    ∧ preserves_FfKernel_FfKernelIdeal
    ∧ algebraic_FfKernelIdeal_FfReferenceIdeal (hFfKernelIdeal := hFfKernelIdeal) (hFfReferenceIdeal := hFfReferenceIdeal)
    ∧ preserves_OutKernel_OutKernelIdeal
    ∧ algebraic_OutKernelIdeal_OutReferenceIdeal (hOutKernelIdeal := hOutKernelIdeal) (hOutReferenceIdeal := hOutReferenceIdeal)
    ∧ preserves_WplainKernel_WplainKernelIdeal
    ∧ algebraic_WplainKernelIdeal_WplainReferenceIdeal (hWplainKernelIdeal := hWplainKernelIdeal) (hWplainReferenceIdeal := hWplainReferenceIdeal)
    ∧ preserves_SlotsKernel_SlotsKernelIdeal
    ∧ algebraic_SlotsKernelIdeal_SlotsReferenceIdeal (hSlotsKernelIdeal := hSlotsKernelIdeal) (hSlotsReferenceIdeal := hSlotsReferenceIdeal)
    ∧ preserves_TwoKernel_TwoKernelIdeal
    ∧ algebraic_TwoKernelIdeal_TwoReferenceIdeal (hTwoKernelIdeal := hTwoKernelIdeal) (hTwoReferenceIdeal := hTwoReferenceIdeal)
    ∧ preserves_SmallKernel_SmallKernelIdeal
    ∧ algebraic_SmallKernelIdeal_SmallReferenceIdeal (hSmallKernelIdeal := hSmallKernelIdeal) (hSmallReferenceIdeal := hSmallReferenceIdeal)
    ∧ preserves_OwnKernel_OwnKernelIdeal
    ∧ algebraic_OwnKernelIdeal_OwnReferenceIdeal (hOwnKernelIdeal := hOwnKernelIdeal) (hOwnReferenceIdeal := hOwnReferenceIdeal)
    ∧ preserves_StepKernel_StepKernelIdeal
    ∧ algebraic_StepKernelIdeal_StepReferenceIdeal (hStepKernelIdeal := hStepKernelIdeal) (hStepReferenceIdeal := hStepReferenceIdeal)
-- ==== Pre_finite_cp.lean ====
abbrev S4112x1536 : Shape := ⟨2, ![4112, 1536]⟩
abbrev S31x512 : Shape := ⟨2, ![31, 512]⟩
abbrev S512 : Shape := ⟨1, ![512]⟩
abbrev S4x128x128 : Shape := ⟨3, ![4, 128, 128]⟩
abbrev S1024x1024 : Shape := ⟨2, ![1024, 1024]⟩
abbrev S4112x1024 : Shape := ⟨2, ![4112, 1024]⟩
abbrev S_ : Shape := ⟨0, ![]⟩

class Facts : Prop where
  bcast_S_S4112x1536 : S_.BroadcastsInDim S4112x1536 (![] : Fin 0 → Fin S4112x1536.rank)
  reducesTo_S4112x1536_S_d0_1 : S4112x1536.ReducesTo [0, 1] S_
  h_S_ : 0 < S_.numel
  bcast_S_S31x512 : S_.BroadcastsInDim S31x512 (![] : Fin 0 → Fin S31x512.rank)
  reducesTo_S31x512_S_d0_1 : S31x512.ReducesTo [0, 1] S_
  bcast_S_S512 : S_.BroadcastsInDim S512 (![] : Fin 0 → Fin S512.rank)
  reducesTo_S512_S_d0 : S512.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S4112x1024 : S_.BroadcastsInDim S4112x1024 (![] : Fin 0 → Fin S4112x1024.rank)
  reducesTo_S4112x1024_S_d0_1 : S4112x1024.ReducesTo [0, 1] S_

variable [Facts]

def fn_part2 {F : FTy → Type} [FloatOps F] (main_arg8 : FVec F S4112x1024 .f32) (main_v33 : IVec S_ 1) : IVec S_ 1 :=
  let main_v34 : FVec F S4112x1024 .f32 := Host.absf main_arg8
  let main_cst_12 : FVec F S_ .f32 := constant S_ .f32 0x7F800000#32
  let main_v35 : FVec F S4112x1024 .f32 := broadcastInDim S4112x1024 ![] bcast_S_S4112x1024 main_cst_12
  let main_v36 : IVec S4112x1024 1 := cmpf .olt main_v34 main_v35
  let main_c_13 : IVec S_ 1 := constantI S_ 1 1#1
  let main_v37 : IVec S_ 1 := (fun x v => Host.reduce IntOp.andi x v reducesTo_S4112x1024_S_d0_1 h_S_) main_v36 main_c_13
  let main_v38 : IVec S_ 1 := andi main_v33 main_v37
  main_v38

def fn_part1 {F : FTy → Type} [FloatOps F] (main_arg5 : FVec F S4x128x128 .f32) (main_arg6 : FVec F S512 .f32) (main_arg7 : FVec F S1024x1024 .f32) (main_arg8 : FVec F S4112x1024 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S4x128x128 .f32 := Host.absf main_arg5
  let main_cst_6 : FVec F S_ .f32 := constant S_ .f32 0x7F800000#32
  let main_v20 : FVec F S4x128x128 .f32 := broadcastInDim S4x128x128 ![] bcast_S_S4x128x128 main_cst_6
  let main_v21 : IVec S4x128x128 1 := cmpf .olt main_v19 main_v20
  let main_c_7 : IVec S_ 1 := constantI S_ 1 1#1
  let main_v22 : IVec S_ 1 := (fun x v => Host.reduce IntOp.andi x v reducesTo_S4x128x128_S_d0_1_2 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S1024x1024 .f32 := Host.absf main_arg7
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg8 main_v33

def fn {F : FTy → Type} [FloatOps F] (main_arg0 : FVec F S4112x1536 .f32) (main_arg1 : FVec F S31x512 .f32) (main_arg2 : FVec F S512 .f32) (main_arg3 : FVec F S512 .f32) (main_arg4 : FVec F S512 .f32) (main_arg5 : FVec F S4x128x128 .f32) (main_arg6 : FVec F S512 .f32) (main_arg7 : FVec F S1024x1024 .f32) (main_arg8 : FVec F S4112x1024 .f32) : IVec S_ 1 :=
  let main_v0 : FVec F S4112x1536 .f32 := Host.absf main_arg0
  let main_cst : FVec F S_ .f32 := constant S_ .f32 0x7F800000#32
  let main_v1 : FVec F S4112x1536 .f32 := broadcastInDim S4112x1536 ![] bcast_S_S4112x1536 main_cst
  let main_v2 : IVec S4112x1536 1 := cmpf .olt main_v0 main_v1
  let main_c : IVec S_ 1 := constantI S_ 1 1#1
  let main_v3 : IVec S_ 1 := (fun x v => Host.reduce IntOp.andi x v reducesTo_S4112x1536_S_d0_1 h_S_) main_v2 main_c
  let main_v4 : FVec F S31x512 .f32 := Host.absf main_arg1
  let main_cst_0 : FVec F S_ .f32 := constant S_ .f32 0x7F800000#32
  let main_v5 : FVec F S31x512 .f32 := broadcastInDim S31x512 ![] bcast_S_S31x512 main_cst_0
  let main_v6 : IVec S31x512 1 := cmpf .olt main_v4 main_v5
  let main_c_1 : IVec S_ 1 := constantI S_ 1 1#1
  let main_v7 : IVec S_ 1 := (fun x v => Host.reduce IntOp.andi x v reducesTo_S31x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_v13 main_v16
-- ==== Pre_finite_cpf.lean ====
abbrev S4112x1536 : Shape := ⟨2, ![4112, 1536]⟩
abbrev S31x512 : Shape := ⟨2, ![31, 512]⟩
abbrev S512 : Shape := ⟨1, ![512]⟩
abbrev S4x128x128 : Shape := ⟨3, ![4, 128, 128]⟩
abbrev S_ : Shape := ⟨0, ![]⟩

class Facts : Prop where
  bcast_S_S4112x1536 : S_.BroadcastsInDim S4112x1536 (![] : Fin 0 → Fin S4112x1536.rank)
  reducesTo_S4112x1536_S_d0_1 : S4112x1536.ReducesTo [0, 1] S_
  h_S_ : 0 < S_.numel

variable [Facts]

def fn {F : FTy → Type} [FloatOps F] (main_arg0 : FVec F S4112x1536 .f32) (main_arg1 : FVec F S31x512 .f32) (main_arg2 : FVec F S512 .f32) (main_arg3 : FVec F S512 .f32) (main_arg4 : FVec F S512 .f32) (main_arg5 : FVec F S4x128x128 .f32) (main_arg6 : FVec F S512 .f32) : IVec S_ 1 :=
  let main_v0 : FVec F S4112x1536 .f32 := Host.absf main_arg0
  let main_cst : FVec F S_ .f32 := constant S_ .f32 0x7F800000#32
  let main_v1 : FVec F S4112x1536 .f32 := broadcastInDim S4112x1536 ![] bcast_S_S4112x1536 main_cst
  let main_v2 : IVec S4112x1536 1 := cmpf .olt main_v0 main_v1
  let main_c : IVec S_ 1 := constantI S_ 1 1#1
  let main_v3 : IVec S_ 1 := (fun x v => Host.reduce IntOp.andi x v reducesTo_S4112x1536_S_d0_1 h_S_) main_v2 main_c
  main_v3
-- ==== CpKernel.lean ====
abbrev S4112x1536 : Shape := ⟨2, ![4112, 1536]⟩
abbrev S31x512 : Shape := ⟨2, ![31, 512]⟩
abbrev S512 : Shape := ⟨1, ![512]⟩
abbrev S4x128x128 : Shape := ⟨3, ![4, 128, 128]⟩
abbrev S1024x1024 : Shape := ⟨2, ![1024, 1024]⟩
abbrev S4112x1024 : Shape := ⟨2, ![4112, 1024]⟩
abbrev S_ : Shape := ⟨0, ![]⟩
abbrev S48x1536 : Shape := ⟨2, ![48, 1536]⟩
abbrev S4160x1536 : Shape := ⟨2, ![4160, 1536]⟩
abbrev S4160x512 : Shape := ⟨2, ![4160, 512]⟩
abbrev S4112x512 : Shape := ⟨2, ![4112, 512]⟩
abbrev S1x4112x512 : Shape := ⟨3, ![1, 4112, 512]⟩
abbrev S16x4112x512 : Shape := ⟨3, ![16, 4112, 512]⟩
abbrev S15x4112x512 : Shape := ⟨3, ![15, 4112, 512]⟩
abbrev S31x4112x512 : Shape := ⟨3, ![31, 4112, 512]⟩
abbrev S31x1x512 : Shape := ⟨3, ![31, 1, 512]⟩
abbrev S1x512 : Shape := ⟨2, ![1, 512]⟩
abbrev S4160x128 : Shape := ⟨2, ![4160, 128]⟩
abbrev S4112 : Shape := ⟨1, ![4112]⟩
abbrev S4112x1 : Shape := ⟨2, ![4112, 1]⟩
abbrev S4112x128 : Shape := ⟨2, ![4112, 128]⟩
abbrev S48x1024 : Shape := ⟨2, ![48, 1024]⟩
abbrev S4160x1024 : Shape := ⟨2, ![4160, 1024]⟩
abbrev S48x512 : Shape := ⟨2, ![48, 512]⟩
abbrev S32x512 : Shape := ⟨2, ![32, 512]⟩
abbrev S8x512 : Shape := ⟨2, ![8, 512]⟩
abbrev S832x1024 : Shape := ⟨2, ![832, 1024]⟩
abbrev S832x1536 : Shape := ⟨2, ![832, 1536]⟩
abbrev S832x512 : Shape := ⟨2, ![832, 512]⟩
abbrev S864x512 : Shape := ⟨2, ![864, 512]⟩
abbrev S848x512 : Shape := ⟨2, ![848, 512]⟩
abbrev S32x8x512 : Shape := ⟨3, ![32, 8, 512]⟩
abbrev S16x512 : Shape := ⟨2, ![16, 512]⟩
abbrev S832x1 : Shape := ⟨2, ![832, 1]⟩
abbrev S832 : Shape := ⟨1, ![832]⟩
abbrev S64x512 : Shape := ⟨2, ![64, 512]⟩
abbrev S1x8x512 : Shape := ⟨3, ![1, 8, 512]⟩
abbrev S832x128 : Shape := ⟨2, ![832, 128]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩
abbrev S848x128 : Shape := ⟨2, ![848, 128]⟩
abbrev S4x512 : Shape := ⟨2, ![4, 512]⟩

abbrev nBuf : Space → Nat
  | .hbm => 196
  | .vmem => 24
  | .smem => 0
  | _ => 0

abbrev hbmTy0_0 (i : Nat) : BufTy := match i % 128 with
  | 0 => ⟨S4112x1536, .f32⟩
  | 1 => ⟨S31x512, .f32⟩
  | 2 => ⟨S512, .f32⟩
  | 3 => ⟨S512, .f32⟩
  | 4 => ⟨S512, .f32⟩
  | 5 => ⟨S4x128x128, .f32⟩
  | 6 => ⟨S512, .f32⟩
  | 7 => ⟨S1024x1024, .f32⟩
  | 8 => ⟨S4112x1024, .f32⟩
  | 9 => ⟨S_, .f32⟩
  | 10 => ⟨S48x1536, .f32⟩
  | 11 => ⟨S4160x1536, .f32⟩
  | 12 => ⟨S4160x512, .f32⟩
  | 13 => ⟨S4160x512, .f32⟩
  | 14 => ⟨S4160x512, .f32⟩
  | 15 => ⟨S4160x512, .f32⟩
  | 16 => ⟨S_, .f32⟩
  | 17 => ⟨S4160x512, .f32⟩
  | 18 => ⟨S4160x512, .f32⟩
  | 19 => ⟨S_, .f32⟩
  | 20 => ⟨S4160x512, .f32⟩
  | 21 => ⟨S4160x512, .f32⟩
  | 22 => ⟨S4160x512, .f32⟩
  | 23 => ⟨S4112x512, .f32⟩
  | 24 => ⟨S4112x512, .f32⟩
  | 25 => ⟨S4112x512, .f32⟩
  | 26 => ⟨S4112x512, .f32⟩
  | 27 => ⟨S4112x512, .f32⟩
  | 28 => ⟨S4112x512, .f32⟩
  | 29 => ⟨S4112x512, .f32⟩
  | 30 => ⟨S4112x512, .f32⟩
  | 31 => ⟨S4112x512, .f32⟩
  | 32 => ⟨S4112x512, .f32⟩
  | 33 => ⟨S4112x512, .f32⟩
  | 34 => ⟨S4112x512, .f32⟩
  | 35 => ⟨S4112x512, .f32⟩
  | 36 => ⟨S4112x512, .f32⟩
  | 37 => ⟨S4112x512, .f32⟩
  | 38 => ⟨S4112x512, .f32⟩
  | 39 => ⟨S4112x512, .f32⟩
  | 40 => ⟨S4112x512, .f32⟩
  | 41 => ⟨S4112x512, .f32⟩
  | 42 => ⟨S4112x512, .f32⟩
  | 43 => ⟨S4112x512, .f32⟩
  | 44 => ⟨S4112x512, .f32⟩
  | 45 => ⟨S4112x512, .f32⟩
  | 46 => ⟨S4112x512, .f32⟩
  | 47 => ⟨S4112x512, .f32⟩
  | 48 => ⟨S4112x512, .f32⟩
  | 49 => ⟨S4112x512, .f32⟩
  | 50 => ⟨S4112x512, .f32⟩
  | 51 => ⟨S4112x512, .f32⟩
  | 52 => ⟨S4112x512, .f32⟩
  | 53 => ⟨S4112x512, .f32⟩
  | 54 => ⟨S1x4112x512, .f32⟩
  | 55 => ⟨S1x4112x512, .f32⟩
  | 56 => ⟨S1x4112x512, .f32⟩
  | 57 => ⟨S1x4112x512, .f32⟩
  | 58 => ⟨S1x4112x512, .f32⟩
  | 59 => ⟨S1x4112x512, .f32⟩
  | 60 => ⟨S1x4112x512, .f32⟩
  | 61 => ⟨S1x4112x512, .f32⟩
  | 62 => ⟨S1x4112x512, .f32⟩
  | 63 => ⟨S1x4112x512, .f32⟩
  | 64 => ⟨S1x4112x512, .f32⟩
  | 65 => ⟨S1x4112x512, .f32⟩
  | 66 => ⟨S1x4112x512, .f32⟩
  | 67 => ⟨S1x4112x512, .f32⟩
  | 68 => ⟨S1x4112x512, .f32⟩
  | 69 => ⟨S1x4112x512, .f32⟩
  | 70 => ⟨S1x4112x512, .f32⟩
  | 71 => ⟨S1x4112x512, .f32⟩
  | 72 => ⟨S1x4112x512, .f32⟩
  | 73 => ⟨S1x4112x512, .f32⟩
  | 74 => ⟨S1x4112x512, .f32⟩
  | 75 => ⟨S1x4112x512, .f32⟩
  | 76 => ⟨S1x4112x512, .f32⟩
  | 77 => ⟨S1x4112x512, .f32⟩
  | 78 => ⟨S1x4112x512, .f32⟩
  | 79 => ⟨S1x4112x512, .f32⟩
  | 80 => ⟨S1x4112x512, .f32⟩
  | 81 => ⟨S1x4112x512, .f32⟩
  | 82 => ⟨S1x4112x512, .f32⟩
  | 83 => ⟨S1x4112x512, .f32⟩
  | 84 => ⟨S1x4112x512, .f32⟩
  | 85 => ⟨S16x4112x512, .f32⟩
  | 86 => ⟨S15x4112x512, .f32⟩
  | 87 => ⟨S31x4112x512, .f32⟩
  | 88 => ⟨S31x1x512, .f32⟩
  | 89 => ⟨S31x4112x512, .f32⟩
  | 90 => ⟨S31x4112x512, .f32⟩
  | 91 => ⟨S_, .f32⟩
  | 92 => ⟨S4112x512, .f32⟩
  | 93 => ⟨S1x512, .f32⟩
  | 94 => ⟨S4112x512, .f32⟩
  | 95 => ⟨S4112x512, .f32⟩
  | 96 => ⟨S4160x128, .f32⟩
  | 97 => ⟨S_, .f32⟩
  | 98 => ⟨S_, .f32⟩
  | 99 => ⟨S4160x128, .f32⟩
  | 100 => ⟨S4112, .i32⟩
  | 101 => ⟨S_, .i32⟩
  | 102 => ⟨S4112, .i32⟩
  | 103 => ⟨S4112, .i32⟩
  | 104 => ⟨S_, .i32⟩
  | 105 => ⟨S4112, .i32⟩
  | 106 => ⟨S4112, .i32⟩
  | 107 => ⟨S4112, .f32⟩
  | 108 => ⟨S4112x1, .f32⟩
  | 109 => ⟨S4112x128, .f32⟩
  | 110 => ⟨S4112x128, .f32⟩
  | 111 => ⟨S4112x128, .f32⟩
  | 112 => ⟨S4112x128, .f32⟩
  | 113 => ⟨S4112x128, .f32⟩
  | 114 => ⟨S4112x128, .f32⟩
  | 115 => ⟨S4112x128, .f32⟩
  | 116 => ⟨S4160x128, .f32⟩
  | 117 => ⟨S_, .f32⟩
  | 118 => ⟨S_, .f32⟩
  | 119 => ⟨S4160x128, .f32⟩
  | 120 => ⟨S4112, .i32⟩
  | 121 => ⟨S_, .i32⟩
  | 122 => ⟨S4112, .i32⟩
  | 123 => ⟨S4112, .i32⟩
  | 124 => ⟨S_, .i32⟩
  | 125 => ⟨S4112, .i32⟩
  | 126 => ⟨S4112, .i32⟩
  | 127 => ⟨S4112, .f32⟩
  | _ => ⟨S4112x1536, .f32⟩

abbrev hbmTy0_1 (i : Nat) : BufTy := match i % 128 with
  | 0 => ⟨S4112x1, .f32⟩
  | 1 => ⟨S4112x128, .f32⟩
  | 2 => ⟨S4112x128, .f32⟩
  | 3 => ⟨S4112x128, .f32⟩
  | 4 => ⟨S4112x128, .f32⟩
  | 5 => ⟨S4112x128, .f32⟩
  | 6 => ⟨S4112x128, .f32⟩
  | 7 => ⟨S4112x128, .f32⟩
  | 8 => ⟨S4160x128, .f32⟩
  | 9 => ⟨S_, .f32⟩
  | 10 => ⟨S_, .f32⟩
  | 11 => ⟨S4160x128, .f32⟩
  | 12 => ⟨S4112, .i32⟩
  | 13 => ⟨S_, .i32⟩
  | 14 => ⟨S4112, .i32⟩
  | 15 => ⟨S4112, .i32⟩
  | 16 => ⟨S_, .i32⟩
  | 17 => ⟨S4112, .i32⟩
  | 18 => ⟨S4112, .i32⟩
  | 19 => ⟨S4112, .f32⟩
  | 20 => ⟨S4112x1, .f32⟩
  | 21 => ⟨S4112x128, .f32⟩
  | 22 => ⟨S4112x128, .f32⟩
  | 23 => ⟨S4112x128, .f32⟩
  | 24 => ⟨S4112x128, .f32⟩
  | 25 => ⟨S4112x128, .f32⟩
  | 26 => ⟨S4112x128, .f32⟩
  | 27 => ⟨S4112x128, .f32⟩
  | 28 => ⟨S4160x128, .f32⟩
  | 29 => ⟨S_, .f32⟩
  | 30 => ⟨S_, .f32⟩
  | 31 => ⟨S4160x128, .f32⟩
  | 32 => ⟨S4112, .i32⟩
  | 33 => ⟨S_, .i32⟩
  | 34 => ⟨S4112, .i32⟩
  | 35 => ⟨S4112, .i32⟩
  | 36 => ⟨S_, .i32⟩
  | 37 => ⟨S4112, .i32⟩
  | 38 => ⟨S4112, .i32⟩
  | 39 => ⟨S4112, .f32⟩
  | 40 => ⟨S4112x1, .f32⟩
  | 41 => ⟨S4112x128, .f32⟩
  | 42 => ⟨S4112x128, .f32⟩
  | 43 => ⟨S4112x128, .f32⟩
  | 44 => ⟨S4112x128, .f32⟩
  | 45 => ⟨S4112x128, .f32⟩
  | 46 => ⟨S4112x128, .f32⟩
  | 47 => ⟨S4112x128, .f32⟩
  | 48 => ⟨S4112x512, .f32⟩
  | 49 => ⟨S_, .f32⟩
  | 50 => ⟨S48x1024, .f32⟩
  | 51 => ⟨S4160x1024, .f32⟩
  | 52 => ⟨S1024x1024, .bf16⟩
  | 53 => ⟨S4160x1536, .bf16⟩
  | 54 => ⟨S_, .f32⟩
  | 55 => ⟨S48x512, .f32⟩
  | 56 => ⟨S4160x512, .f32⟩
  | 57 => ⟨S_, .f32⟩
  | 58 => ⟨S48x512, .f32⟩
  | 59 => ⟨S4160x512, .f32⟩
  | 60 => ⟨S4160x512, .bf16⟩
  | 61 => ⟨S1x512, .f32⟩
  | 62 => ⟨S1x512, .f32⟩
  | 63 => ⟨S1x512, .f32⟩
  | 64 => ⟨S4160x1536, .bf16⟩
  | 65 => ⟨S32x512, .f32⟩
  | 66 => ⟨S8x512, .f32⟩
  | 67 => ⟨S4x128x128, .f32⟩
  | _ => ⟨S4112x1536, .f32⟩

abbrev hbmTy (i : Nat) : BufTy := match i / 128 with
  | 0 => hbmTy0_0 i
  | 1 => hbmTy0_1 i
  | _ => ⟨S4112x1536, .f32⟩

abbrev bufTy : (tb : Table) → Fin (tcTables nBuf tb) → BufTy
  | .hbm, ⟨i, _⟩ => hbmTy i
  | .local _ .vmem, ⟨0, _⟩ => ⟨S832x1024, .f32⟩
  | .local _ .vmem, ⟨1, _⟩ => ⟨S832x1024, .f32⟩
  | .local _ .vmem, ⟨2, _⟩ => ⟨S1024x1024, .bf16⟩
  | .local _ .vmem, ⟨3, _⟩ => ⟨S832x1536, .bf16⟩
  | .local _ .vmem, ⟨4, _⟩ => ⟨S832x1536, .bf16⟩
  | .local _ .vmem, ⟨5, _⟩ => ⟨S832x512, .f32⟩
  | .local _ .vmem, ⟨6, _⟩ => ⟨S832x512, .f32⟩
  | .local _ .vmem, ⟨7, _⟩ => ⟨S832x512, .bf16⟩
  | .local _ .vmem, ⟨8, _⟩ => ⟨S832x512, .bf16⟩
  | .local _ .vmem, ⟨9, _⟩ => ⟨S31x512, .f32⟩
  | .local _ .vmem, ⟨10, _⟩ => ⟨S1x512, .f32⟩
  | .local _ .vmem, ⟨11, _⟩ => ⟨S1x512, .f32⟩
  | .local _ .vmem, ⟨12, _⟩ => ⟨S4x128x128, .f32⟩
  | .local _ .vmem, ⟨13, _⟩ => ⟨S1x512, .f32⟩
  | .local _ .vmem, ⟨14, _⟩ => ⟨S832x1536, .bf16⟩
  | .local _ .vmem, ⟨15, _⟩ => ⟨S832x1536, .bf16⟩
  | .local _ .vmem, ⟨16, _⟩ => ⟨S32x512, .f32⟩
  | .local _ .vmem, ⟨17, _⟩ => ⟨S8x512, .f32⟩
  | .local _ .vmem, ⟨18, _⟩ => ⟨S4x128x128, .f32⟩
  | .local _ .vmem, ⟨19, _⟩ => ⟨S864x512, .f32⟩
  | .local _ .vmem, ⟨20, _⟩ => ⟨S848x512, .f32⟩
  | .local _ .vmem, ⟨21, _⟩ => ⟨S832x512, .f32⟩
  | .local _ .vmem, ⟨22, _⟩ => ⟨S32x8x512, .f32⟩
  | .local _ .vmem, ⟨23, _⟩ => ⟨S832x1024, .f32⟩
  | _, _ => ⟨S4112x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_cst_2 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_call0_call0_cst : Ref sig .tc := ⟨.hbm, 97, rfl⟩
abbrev main_call0_call0_v0 : Ref sig .tc := ⟨.hbm, 98, rfl⟩
abbrev main_v84 : Ref sig .tc := ⟨.hbm, 99, rfl⟩
abbrev main_v85 : Ref sig .tc := ⟨.hbm, 100, rfl⟩
abbrev main_c : Ref sig .tc := ⟨.hbm, 101, rfl⟩
abbrev main_v86 : Ref sig .tc := ⟨.hbm, 102, rfl⟩
abbrev main_v87 : Ref sig .tc := ⟨.hbm, 103, rfl⟩
abbrev main_c_3 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_call1_call0_cst : Ref sig .tc := ⟨.hbm, 117, rfl⟩
abbrev main_call1_call0_v0 : Ref sig .tc := ⟨.hbm, 118, rfl⟩
abbrev main_v100 : Ref sig .tc := ⟨.hbm, 119, rfl⟩
abbrev main_v101 : Ref sig .tc := ⟨.hbm, 120, rfl⟩
abbrev main_c_4 : Ref sig .tc := ⟨.hbm, 121, rfl⟩
abbrev main_v102 : Ref sig .tc := ⟨.hbm, 122, rfl⟩
abbrev main_v103 : Ref sig .tc := ⟨.hbm, 123, rfl⟩
abbrev main_c_5 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_call2_call0_cst : Ref sig .tc := ⟨.hbm, 137, rfl⟩
abbrev main_call2_call0_v0 : Ref sig .tc := ⟨.hbm, 138, rfl⟩
abbrev main_v116 : Ref sig .tc := ⟨.hbm, 139, rfl⟩
abbrev main_v117 : Ref sig .tc := ⟨.hbm, 140, rfl⟩
abbrev main_c_6 : Ref sig .tc := ⟨.hbm, 141, rfl⟩
abbrev main_v118 : Ref sig .tc := ⟨.hbm, 142, rfl⟩
abbrev main_v119 : Ref sig .tc := ⟨.hbm, 143, rfl⟩
abbrev main_c_7 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_call3_call0_cst : Ref sig .tc := ⟨.hbm, 157, rfl⟩
abbrev main_call3_call0_v0 : Ref sig .tc := ⟨.hbm, 158, rfl⟩
abbrev main_v132 : Ref sig .tc := ⟨.hbm, 159, rfl⟩
abbrev main_v133 : Ref sig .tc := ⟨.hbm, 160, rfl⟩
abbrev main_c_8 : Ref sig .tc := ⟨.hbm, 161, rfl⟩
abbrev main_v134 : Ref sig .tc := ⟨.hbm, 162, rfl⟩
abbrev main_v135 : Ref sig .tc := ⟨.hbm, 163, rfl⟩
abbrev main_c_9 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_cst_10 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_cst_11 : Ref sig .tc := ⟨.hbm, 182, rfl⟩
abbrev main_v152 : Ref sig .tc := ⟨.hbm, 183, rfl⟩
abbrev main_v153 : Ref sig .tc := ⟨.hbm, 184, rfl⟩
abbrev main_cst_12 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160_0 : Ref sig .tc := ⟨.hbm, 192, rfl⟩
abbrev main_v160_1 : Ref sig .tc := ⟨.hbm, 193, rfl⟩
abbrev main_v160_2 : Ref sig .tc := ⟨.hbm, 194, rfl⟩
abbrev main_v160_3 : Ref sig .tc := ⟨.hbm, 195, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem13_0 : DmaSem sig := 18

abbrev nD : Nat := 1
abbrev τ : Topo := Topo.v7x

variable {F : FTy → Type} [FloatOps F]

abbrev grid0 : Pipeline.Grid := ⟨1, ![5], ![false]⟩

@[reducible] def k0_t1_loop : Scf.Loop 32 :=
  let c0_i32_40 : BitVec 32 := 0#32
  let c26_i32 : BitVec 32 := 26#32
  let v102 : BitVec 32 := Scalar.addi c0_i32_40 c26_i32
  let c1_i32 : BitVec 32 := 1#32
  ⟨c0_i32_40, v102, c1_i32⟩
def k0_mult1 (k0_t1 : Fin k0_t1_loop.trips) : BitVec 32 :=
  let c0_i32_40 : BitVec 32 := 0#32
  let c1_i32 : BitVec 32 := 1#32
  let arg20 : BitVec 32 := Scf.iv c0_i32_40 c1_i32 k0_t1
  let c32_i32 : BitVec 32 := 32#32
  let v297 : BitVec 32 := Scalar.muli arg20 c32_i32
  v297
def k0_off1 (k0_t1 : Fin k0_t1_loop.trips) : Fin 2 → Nat :=
  let c0_i32_40 : BitVec 32 := 0#32
  let c1_i32 : BitVec 32 := 1#32
  let arg20 : BitVec 32 := Scf.iv c0_i32_40 c1_i32 k0_t1
  let c32_i32 : BitVec 32 := 32#32
  let v297 : BitVec 32 := Scalar.muli arg20 c32_i32
  let v298 : BitVec 32 := v297
  let v299 : Index := Scalar.indexCast v298
  let c0_159 : Index := 0#32
  ![v299.toNat, 0]
def k0_off2 (k0_t1 : Fin k0_t1_loop.trips) : Fin 2 → Nat :=
  let c0_i32_40 : BitVec 32 := 0#32
  let c1_i32 : BitVec 32 := 1#32
  let arg20 : BitVec 32 := Scf.iv c0_i32_40 c1_i32 k0_t1
  let c32_i32 : BitVec 32 := 32#32
  let v297 : BitVec 32 := Scalar.muli arg20 c32_i32
  let v298 : BitVec 32 := v297
  let v308 : Index := Scalar.indexCast v298
  let c0_160 : Index := 0#32
  ![v308.toNat, 0]
def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_5 : BitVec 32 := 0#32
  let v12 : BitVec 1 := Scalar.cmpi .ne v11 c0_i32_5
  v12

def k0_cond3 (i : grid0.Coords) : BitVec 1 :=
  let arg0 : BitVec 32 := BitVec.ofNat 32 (i 0).val
  let c4_i32_42 : BitVec 32 := 4#32
  let v103 : BitVec 1 := Scalar.cmpi .eq arg0 c4_i32_42
  let v104 : BitVec 32 := Scalar.extui v103
  let c0_i32_43 : BitVec 32 := 0#32
  let v105 : BitVec 1 := Scalar.cmpi .ne v104 c0_i32_43
  v105

def cc0_transform_0 (i : grid0.Coords) : Fin 2 → Nat :=
  let arg0 : BitVec 32 := BitVec.ofNat 32 (i 0).val
  let c4_i32 : BitVec 32 := 4#32
  let v0 : BitVec 32 := Scalar.subi c4_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c4_i32 : BitVec 32 := 4#32
  let v0 : BitVec 32 := Scalar.subi c4_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.subi c4_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c4_i32 : BitVec 32 := 4#32
  let v0 : BitVec 32 := Scalar.subi c4_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c4_i32 : BitVec 32 := 4#32
  let v0 : BitVec 32 := Scalar.subi c4_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S832x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S832x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S832x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S832x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S31x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S832x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S32x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== CpReferenceIdeal.lean ====
abbrev S4112x1536 : Shape := ⟨2, ![4112, 1536]⟩
abbrev S31x512 : Shape := ⟨2, ![31, 512]⟩
abbrev S512 : Shape := ⟨1, ![512]⟩
abbrev S4x128x128 : Shape := ⟨3, ![4, 128, 128]⟩
abbrev S1024x1024 : Shape := ⟨2, ![1024, 1024]⟩
abbrev S4112x1024 : Shape := ⟨2, ![4112, 1024]⟩
abbrev S_ : Shape := ⟨0, ![]⟩
abbrev S48x1536 : Shape := ⟨2, ![48, 1536]⟩
abbrev S4160x1536 : Shape := ⟨2, ![4160, 1536]⟩
abbrev S4160x512 : Shape := ⟨2, ![4160, 512]⟩
abbrev S4112x512 : Shape := ⟨2, ![4112, 512]⟩
abbrev S1x4112x512 : Shape := ⟨3, ![1, 4112, 512]⟩
abbrev S16x4112x512 : Shape := ⟨3, ![16, 4112, 512]⟩
abbrev S15x4112x512 : Shape := ⟨3, ![15, 4112, 512]⟩
abbrev S31x4112x512 : Shape := ⟨3, ![31, 4112, 512]⟩
abbrev S31x1x512 : Shape := ⟨3, ![31, 1, 512]⟩
abbrev S1x512 : Shape := ⟨2, ![1, 512]⟩
abbrev S4112 : Shape := ⟨1, ![4112]⟩
abbrev S4112x1 : Shape := ⟨2, ![4112, 1]⟩
abbrev S4160x128 : Shape := ⟨2, ![4160, 128]⟩
abbrev S4112x128 : Shape := ⟨2, ![4112, 128]⟩
abbrev S4112x1x128 : Shape := ⟨3, ![4112, 1, 128]⟩
abbrev S4112x4x128 : Shape := ⟨3, ![4112, 4, 128]⟩
abbrev S4x128x4112 : Shape := ⟨3, ![4, 128, 4112]⟩
abbrev S4x4112x128 : Shape := ⟨3, ![4, 4112, 128]⟩
abbrev S4x512 : Shape := ⟨2, ![4, 512]⟩
abbrev S8x512 : Shape := ⟨2, ![8, 512]⟩
abbrev S32x512 : Shape := ⟨2, ![32, 512]⟩

abbrev nBuf : Space → Nat
  | .hbm => 566
  | .vmem => 0
  | .smem => 0
  | _ => 0

abbrev hbmTy0_0 (i : Nat) : BufTy := match i % 128 with
  | 0 => ⟨S4112x1536, .f32⟩
  | 1 => ⟨S31x512, .f32⟩
  | 2 => ⟨S512, .f32⟩
  | 3 => ⟨S512, .f32⟩
  | 4 => ⟨S512, .f32⟩
  | 5 => ⟨S4x128x128, .f32⟩
  | 6 => ⟨S512, .f32⟩
  | 7 => ⟨S1024x1024, .f32⟩
  | 8 => ⟨S4112x1024, .f32⟩
  | 9 => ⟨S_, .f32⟩
  | 10 => ⟨S48x1536, .f32⟩
  | 11 => ⟨S4160x1536, .f32⟩
  | 12 => ⟨S4160x512, .f32⟩
  | 13 => ⟨S4160x512, .f32⟩
  | 14 => ⟨S4160x512, .f32⟩
  | 15 => ⟨S4160x512, .f32⟩
  | 16 => ⟨S_, .f32⟩
  | 17 => ⟨S4160x512, .f32⟩
  | 18 => ⟨S4160x512, .f32⟩
  | 19 => ⟨S_, .f32⟩
  | 20 => ⟨S4160x512, .f32⟩
  | 21 => ⟨S4160x512, .f32⟩
  | 22 => ⟨S_, .f32⟩
  | 23 => ⟨S4160x512, .f32⟩
  | 24 => ⟨S4160x512, .f32⟩
  | 25 => ⟨S4160x512, .f32⟩
  | 26 => ⟨S4160x512, .f32⟩
  | 27 => ⟨S4112x512, .f32⟩
  | 28 => ⟨S4112x512, .f32⟩
  | 29 => ⟨S4112x512, .f32⟩
  | 30 => ⟨S4112x512, .f32⟩
  | 31 => ⟨S4112x512, .f32⟩
  | 32 => ⟨S4112x512, .f32⟩
  | 33 => ⟨S4112x512, .f32⟩
  | 34 => ⟨S4112x512, .f32⟩
  | 35 => ⟨S4112x512, .f32⟩
  | 36 => ⟨S4112x512, .f32⟩
  | 37 => ⟨S4112x512, .f32⟩
  | 38 => ⟨S4112x512, .f32⟩
  | 39 => ⟨S4112x512, .f32⟩
  | 40 => ⟨S4112x512, .f32⟩
  | 41 => ⟨S4112x512, .f32⟩
  | 42 => ⟨S4112x512, .f32⟩
  | 43 => ⟨S4112x512, .f32⟩
  | 44 => ⟨S4112x512, .f32⟩
  | 45 => ⟨S4112x512, .f32⟩
  | 46 => ⟨S4112x512, .f32⟩
  | 47 => ⟨S4112x512, .f32⟩
  | 48 => ⟨S4112x512, .f32⟩
  | 49 => ⟨S4112x512, .f32⟩
  | 50 => ⟨S4112x512, .f32⟩
  | 51 => ⟨S4112x512, .f32⟩
  | 52 => ⟨S4112x512, .f32⟩
  | 53 => ⟨S4112x512, .f32⟩
  | 54 => ⟨S4112x512, .f32⟩
  | 55 => ⟨S4112x512, .f32⟩
  | 56 => ⟨S4112x512, .f32⟩
  | 57 => ⟨S4112x512, .f32⟩
  | 58 => ⟨S1x4112x512, .f32⟩
  | 59 => ⟨S1x4112x512, .f32⟩
  | 60 => ⟨S1x4112x512, .f32⟩
  | 61 => ⟨S1x4112x512, .f32⟩
  | 62 => ⟨S1x4112x512, .f32⟩
  | 63 => ⟨S1x4112x512, .f32⟩
  | 64 => ⟨S1x4112x512, .f32⟩
  | 65 => ⟨S1x4112x512, .f32⟩
  | 66 => ⟨S1x4112x512, .f32⟩
  | 67 => ⟨S1x4112x512, .f32⟩
  | 68 => ⟨S1x4112x512, .f32⟩
  | 69 => ⟨S1x4112x512, .f32⟩
  | 70 => ⟨S1x4112x512, .f32⟩
  | 71 => ⟨S1x4112x512, .f32⟩
  | 72 => ⟨S1x4112x512, .f32⟩
  | 73 => ⟨S1x4112x512, .f32⟩
  | 74 => ⟨S1x4112x512, .f32⟩
  | 75 => ⟨S1x4112x512, .f32⟩
  | 76 => ⟨S1x4112x512, .f32⟩
  | 77 => ⟨S1x4112x512, .f32⟩
  | 78 => ⟨S1x4112x512, .f32⟩
  | 79 => ⟨S1x4112x512, .f32⟩
  | 80 => ⟨S1x4112x512, .f32⟩
  | 81 => ⟨S1x4112x512, .f32⟩
  | 82 => ⟨S1x4112x512, .f32⟩
  | 83 => ⟨S1x4112x512, .f32⟩
  | 84 => ⟨S1x4112x512, .f32⟩
  | 85 => ⟨S1x4112x512, .f32⟩
  | 86 => ⟨S1x4112x512, .f32⟩
  | 87 => ⟨S1x4112x512, .f32⟩
  | 88 => ⟨S1x4112x512, .f32⟩
  | 89 => ⟨S16x4112x512, .f32⟩
  | 90 => ⟨S15x4112x512, .f32⟩
  | 91 => ⟨S31x4112x512, .f32⟩
  | 92 => ⟨S31x1x512, .f32⟩
  | 93 => ⟨S31x4112x512, .f32⟩
  | 94 => ⟨S31x4112x512, .f32⟩
  | 95 => ⟨S_, .f32⟩
  | 96 => ⟨S4112x512, .f32⟩
  | 97 => ⟨S1x512, .f32⟩
  | 98 => ⟨S4112x512, .f32⟩
  | 99 => ⟨S4112x512, .f32⟩
  | 100 => ⟨S_, .f32⟩
  | 101 => ⟨S4112, .f32⟩
  | 102 => ⟨S4112x1, .f32⟩
  | 103 => ⟨S_, .f32⟩
  | 104 => ⟨S4112x1, .f32⟩
  | 105 => ⟨S4112x1, .f32⟩
  | 106 => ⟨S4112x512, .f32⟩
  | 107 => ⟨S4112x512, .f32⟩
  | 108 => ⟨S4112x512, .f32⟩
  | 109 => ⟨S_, .f32⟩
  | 110 => ⟨S4112, .f32⟩
  | 111 => ⟨S4112x1, .f32⟩
  | 112 => ⟨S_, .f32⟩
  | 113 => ⟨S4112x1, .f32⟩
  | 114 => ⟨S4112x1, .f32⟩
  | 115 => ⟨S_, .f32⟩
  | 116 => ⟨S4112x1, .f32⟩
  | 117 => ⟨S4112x1, .f32⟩
  | 118 => ⟨S4112x1, .f32⟩
  | 119 => ⟨S4112x1, .f32⟩
  | 120 => ⟨S_, .f32⟩
  | 121 => ⟨S4112x1, .f32⟩
  | 122 => ⟨S4112x1, .f32⟩
  | 123 => ⟨S4112x512, .f32⟩
  | 124 => ⟨S4112x512, .f32⟩
  | 125 => ⟨S1x512, .f32⟩
  | 126 => ⟨S4112x512, .f32⟩
  | 127 => ⟨S4112x512, .f32⟩
  | _ => ⟨S4112x1536, .f32⟩

abbrev hbmTy0_1 (i : Nat) : BufTy := match i % 128 with
  | 0 => ⟨S1x512, .f32⟩
  | 1 => ⟨S4112x512, .f32⟩
  | 2 => ⟨S4112x512, .f32⟩
  | 3 => ⟨S4112x512, .f32⟩
  | 4 => ⟨S4112x512, .f32⟩
  | 5 => ⟨S_, .f32⟩
  | 6 => ⟨S4112x512, .f32⟩
  | 7 => ⟨S4112x512, .f32⟩
  | 8 => ⟨S_, .f32⟩
  | 9 => ⟨S4112x512, .f32⟩
  | 10 => ⟨S4112x512, .f32⟩
  | 11 => ⟨S_, .f32⟩
  | 12 => ⟨S4112x512, .f32⟩
  | 13 => ⟨S4112x512, .f32⟩
  | 14 => ⟨S4112x512, .f32⟩
  | 15 => ⟨S4112x512, .f32⟩
  | 16 => ⟨S4160x128, .f32⟩
  | 17 => ⟨S_, .f32⟩
  | 18 => ⟨S_, .f32⟩
  | 19 => ⟨S4160x128, .f32⟩
  | 20 => ⟨S4112, .i32⟩
  | 21 => ⟨S_, .i32⟩
  | 22 => ⟨S4112, .i32⟩
  | 23 => ⟨S4112, .i32⟩
  | 24 => ⟨S_, .i32⟩
  | 25 => ⟨S4112, .i32⟩
  | 26 => ⟨S4112, .i32⟩
  | 27 => ⟨S4112, .f32⟩
  | 28 => ⟨S4112x1, .f32⟩
  | 29 => ⟨S4112x128, .f32⟩
  | 30 => ⟨S4112x128, .f32⟩
  | 31 => ⟨S4112x128, .f32⟩
  | 32 => ⟨S4112x128, .f32⟩
  | 33 => ⟨S4112x128, .f32⟩
  | 34 => ⟨S4112x128, .f32⟩
  | 35 => ⟨S4112x128, .f32⟩
  | 36 => ⟨S4160x128, .f32⟩
  | 37 => ⟨S_, .f32⟩
  | 38 => ⟨S_, .f32⟩
  | 39 => ⟨S4160x128, .f32⟩
  | 40 => ⟨S4112, .i32⟩
  | 41 => ⟨S_, .i32⟩
  | 42 => ⟨S4112, .i32⟩
  | 43 => ⟨S4112, .i32⟩
  | 44 => ⟨S_, .i32⟩
  | 45 => ⟨S4112, .i32⟩
  | 46 => ⟨S4112, .i32⟩
  | 47 => ⟨S4112, .f32⟩
  | 48 => ⟨S4112x1, .f32⟩
  | 49 => ⟨S4112x128, .f32⟩
  | 50 => ⟨S4112x128, .f32⟩
  | 51 => ⟨S4112x128, .f32⟩
  | 52 => ⟨S4112x128, .f32⟩
  | 53 => ⟨S4112x128, .f32⟩
  | 54 => ⟨S4112x128, .f32⟩
  | 55 => ⟨S4112x128, .f32⟩
  | 56 => ⟨S4160x128, .f32⟩
  | 57 => ⟨S_, .f32⟩
  | 58 => ⟨S_, .f32⟩
  | 59 => ⟨S4160x128, .f32⟩
  | 60 => ⟨S4112, .i32⟩
  | 61 => ⟨S_, .i32⟩
  | 62 => ⟨S4112, .i32⟩
  | 63 => ⟨S4112, .i32⟩
  | 64 => ⟨S_, .i32⟩
  | 65 => ⟨S4112, .i32⟩
  | 66 => ⟨S4112, .i32⟩
  | 67 => ⟨S4112, .f32⟩
  | 68 => ⟨S4112x1, .f32⟩
  | 69 => ⟨S4112x128, .f32⟩
  | 70 => ⟨S4112x128, .f32⟩
  | 71 => ⟨S4112x128, .f32⟩
  | 72 => ⟨S4112x128, .f32⟩
  | 73 => ⟨S4112x128, .f32⟩
  | 74 => ⟨S4112x128, .f32⟩
  | 75 => ⟨S4112x128, .f32⟩
  | 76 => ⟨S4160x128, .f32⟩
  | 77 => ⟨S_, .f32⟩
  | 78 => ⟨S_, .f32⟩
  | 79 => ⟨S4160x128, .f32⟩
  | 80 => ⟨S4112, .i32⟩
  | 81 => ⟨S_, .i32⟩
  | 82 => ⟨S4112, .i32⟩
  | 83 => ⟨S4112, .i32⟩
  | 84 => ⟨S_, .i32⟩
  | 85 => ⟨S4112, .i32⟩
  | 86 => ⟨S4112, .i32⟩
  | 87 => ⟨S4112, .f32⟩
  | 88 => ⟨S4112x1, .f32⟩
  | 89 => ⟨S4112x128, .f32⟩
  | 90 => ⟨S4112x128, .f32⟩
  | 91 => ⟨S4112x128, .f32⟩
  | 92 => ⟨S4112x128, .f32⟩
  | 93 => ⟨S4112x128, .f32⟩
  | 94 => ⟨S4112x128, .f32⟩
  | 95 => ⟨S4112x128, .f32⟩
  | 96 => ⟨S4112x1x128, .f32⟩
  | 97 => ⟨S4112x1x128, .f32⟩
  | 98 => ⟨S4112x1x128, .f32⟩
  | 99 => ⟨S4112x1x128, .f32⟩
  | 100 => ⟨S4112x4x128, .f32⟩
  | 101 => ⟨S4x128x4112, .f32⟩
  | 102 => ⟨S4112x4x128, .f32⟩
  | 103 => ⟨S4112x512, .f32⟩
  | 104 => ⟨S1x512, .f32⟩
  | 105 => ⟨S4112x512, .f32⟩
  | 106 => ⟨S4112x512, .f32⟩
  | 107 => ⟨S4112x1024, .f32⟩
  | 108 => ⟨S4112x1024, .f32⟩
  | 109 => ⟨S4112x1024, .f32⟩
  | 110 => ⟨S4112x512, .f32⟩
  | 111 => ⟨S4112x512, .f32⟩
  | 112 => ⟨S4112x512, .f32⟩
  | 113 => ⟨S_, .f32⟩
  | 114 => ⟨S512, .f32⟩
  | 115 => ⟨S1x512, .f32⟩
  | 116 => ⟨S4112x512, .f32⟩
  | 117 => ⟨S4112x512, .f32⟩
  | 118 => ⟨S_, .f32⟩
  | 119 => ⟨S512, .f32⟩
  | 120 => ⟨S4112x4x128, .f32⟩
  | 121 => ⟨S4x128x4112, .f32⟩
  | 122 => ⟨S4x4112x128, .f32⟩
  | 123 => ⟨S4112x4x128, .f32⟩
  | 124 => ⟨S4x128x128, .f32⟩
  | 125 => ⟨S4x128x128, .f32⟩
  | 126 => ⟨S4112x1x128, .f32⟩
  | 127 => ⟨S4112x128, .f32⟩
  | _ => ⟨S4112x1536, .f32⟩

abbrev hbmTy0_2 (i : Nat) : BufTy := match i % 128 with
  | 0 => ⟨S4112x1x128, .f32⟩
  | 1 => ⟨S4112x128, .f32⟩
  | 2 => ⟨S4112x1x128, .f32⟩
  | 3 => ⟨S4112x128, .f32⟩
  | 4 => ⟨S4112x1x128, .f32⟩
  | 5 => ⟨S4112x128, .f32⟩
  | 6 => ⟨S4112x128, .f32⟩
  | 7 => ⟨S_, .f32⟩
  | 8 => ⟨S4160x128, .f32⟩
  | 9 => ⟨S4112x128, .f32⟩
  | 10 => ⟨S4112x128, .f32⟩
  | 11 => ⟨S4112x128, .f32⟩
  | 12 => ⟨S_, .f32⟩
  | 13 => ⟨S4160x128, .f32⟩
  | 14 => ⟨S_, .f32⟩
  | 15 => ⟨S4160x128, .f32⟩
  | 16 => ⟨S4160x128, .f32⟩
  | 17 => ⟨S_, .f32⟩
  | 18 => ⟨S_, .f32⟩
  | 19 => ⟨S4160x128, .f32⟩
  | 20 => ⟨S4160x128, .f32⟩
  | 21 => ⟨S_, .f32⟩
  | 22 => ⟨S4160x1536, .f32⟩
  | 23 => ⟨S4112x128, .f32⟩
  | 24 => ⟨S_, .f32⟩
  | 25 => ⟨S4160x128, .f32⟩
  | 26 => ⟨S4112x128, .f32⟩
  | 27 => ⟨S4112x128, .f32⟩
  | 28 => ⟨S4112x128, .f32⟩
  | 29 => ⟨S_, .f32⟩
  | 30 => ⟨S4160x128, .f32⟩
  | 31 => ⟨S_, .f32⟩
  | 32 => ⟨S4160x128, .f32⟩
  | 33 => ⟨S4160x128, .f32⟩
  | 34 => ⟨S_, .f32⟩
  | 35 => ⟨S_, .f32⟩
  | 36 => ⟨S4160x128, .f32⟩
  | 37 => ⟨S4160x128, .f32⟩
  | 38 => ⟨S_, .f32⟩
  | 39 => ⟨S4160x1536, .f32⟩
  | 40 => ⟨S4160x1536, .f32⟩
  | 41 => ⟨S4112x128, .f32⟩
  | 42 => ⟨S_, .f32⟩
  | 43 => ⟨S4160x128, .f32⟩
  | 44 => ⟨S4112x128, .f32⟩
  | 45 => ⟨S4112x128, .f32⟩
  | 46 => ⟨S4112x128, .f32⟩
  | 47 => ⟨S_, .f32⟩
  | 48 => ⟨S4160x128, .f32⟩
  | 49 => ⟨S_, .f32⟩
  | 50 => ⟨S4160x128, .f32⟩
  | 51 => ⟨S4160x128, .f32⟩
  | 52 => ⟨S_, .f32⟩
  | 53 => ⟨S_, .f32⟩
  | 54 => ⟨S4160x128, .f32⟩
  | 55 => ⟨S4160x128, .f32⟩
  | 56 => ⟨S_, .f32⟩
  | 57 => ⟨S4160x1536, .f32⟩
  | 58 => ⟨S4160x1536, .f32⟩
  | 59 => ⟨S4112x128, .f32⟩
  | 60 => ⟨S_, .f32⟩
  | 61 => ⟨S4160x128, .f32⟩
  | 62 => ⟨S4112x128, .f32⟩
  | 63 => ⟨S4112x128, .f32⟩
  | 64 => ⟨S4112x128, .f32⟩
  | 65 => ⟨S_, .f32⟩
  | 66 => ⟨S4160x128, .f32⟩
  | 67 => ⟨S_, .f32⟩
  | 68 => ⟨S4160x128, .f32⟩
  | 69 => ⟨S4160x128, .f32⟩
  | 70 => ⟨S_, .f32⟩
  | 71 => ⟨S_, .f32⟩
  | 72 => ⟨S4160x128, .f32⟩
  | 73 => ⟨S4160x128, .f32⟩
  | 74 => ⟨S_, .f32⟩
  | 75 => ⟨S4160x1536, .f32⟩
  | 76 => ⟨S4160x1536, .f32⟩
  | 77 => ⟨S4112x512, .f32⟩
  | 78 => ⟨S4112x512, .f32⟩
  | 79 => ⟨S4112x512, .f32⟩
  | 80 => ⟨S4112x512, .f32⟩
  | 81 => ⟨S_, .f32⟩
  | 82 => ⟨S512, .f32⟩
  | 83 => ⟨S1x512, .f32⟩
  | 84 => ⟨S_, .f32⟩
  | 85 => ⟨S512, .f32⟩
  | 86 => ⟨S4112x512, .f32⟩
  | 87 => ⟨S_, .f32⟩
  | 88 => ⟨S512, .f32⟩
  | 89 => ⟨S1x512, .f32⟩
  | 90 => ⟨S4112x512, .f32⟩
  | 91 => ⟨S4112x512, .f32⟩
  | 92 => ⟨S_, .f32⟩
  | 93 => ⟨S512, .f32⟩
  | 94 => ⟨S4112x512, .f32⟩
  | 95 => ⟨S_, .f32⟩
  | 96 => ⟨S4112, .f32⟩
  | 97 => ⟨S4112x1, .f32⟩
  | 98 => ⟨S4112x512, .f32⟩
  | 99 => ⟨S4112x512, .f32⟩
  | 100 => ⟨S4112x1, .f32⟩
  | 101 => ⟨S_, .f32⟩
  | 102 => ⟨S4112x1, .f32⟩
  | 103 => ⟨S4112x1, .f32⟩
  | 104 => ⟨S_, .f32⟩
  | 105 => ⟨S4112, .f32⟩
  | 106 => ⟨S4112x512, .f32⟩
  | 107 => ⟨S4112x512, .f32⟩
  | 108 => ⟨S4112x512, .f32⟩
  | 109 => ⟨S4112x512, .f32⟩
  | 110 => ⟨S4112x512, .f32⟩
  | 111 => ⟨S4112x512, .f32⟩
  | 112 => ⟨S_, .f32⟩
  | 113 => ⟨S4112, .f32⟩
  | 114 => ⟨S4112x1, .f32⟩
  | 115 => ⟨S_, .f32⟩
  | 116 => ⟨S4112x1, .f32⟩
  | 117 => ⟨S4112x1, .f32⟩
  | 118 => ⟨S_, .f32⟩
  | 119 => ⟨S4112, .f32⟩
  | 120 => ⟨S4112x512, .f32⟩
  | 121 => ⟨S4112x512, .f32⟩
  | 122 => ⟨S_, .f32⟩
  | 123 => ⟨S512, .f32⟩
  | 124 => ⟨S1x512, .f32⟩
  | 125 => ⟨S_, .f32⟩
  | 126 => ⟨S512, .f32⟩
  | 127 => ⟨S31x4112x512, .f32⟩
  | _ => ⟨S4112x1536, .f32⟩

abbrev hbmTy0_3 (i : Nat) : BufTy := match i % 128 with
  | 0 => ⟨S31x4112x512, .f32⟩
  | 1 => ⟨S_, .f32⟩
  | 2 => ⟨S31x512, .f32⟩
  | 3 => ⟨S31x1x512, .f32⟩
  | 4 => ⟨S31x4112x512, .f32⟩
  | 5 => ⟨S31x4112x512, .f32⟩
  | 6 => ⟨S_, .f32⟩
  | 7 => ⟨S31x512, .f32⟩
  | 8 => ⟨S1x4112x512, .f32⟩
  | 9 => ⟨S4112x512, .f32⟩
  | 10 => ⟨S1x4112x512, .f32⟩
  | 11 => ⟨S4112x512, .f32⟩
  | 12 => ⟨S1x4112x512, .f32⟩
  | 13 => ⟨S4112x512, .f32⟩
  | 14 => ⟨S1x4112x512, .f32⟩
  | 15 => ⟨S4112x512, .f32⟩
  | 16 => ⟨S1x4112x512, .f32⟩
  | 17 => ⟨S4112x512, .f32⟩
  | 18 => ⟨S1x4112x512, .f32⟩
  | 19 => ⟨S4112x512, .f32⟩
  | 20 => ⟨S1x4112x512, .f32⟩
  | 21 => ⟨S4112x512, .f32⟩
  | 22 => ⟨S1x4112x512, .f32⟩
  | 23 => ⟨S4112x512, .f32⟩
  | 24 => ⟨S1x4112x512, .f32⟩
  | 25 => ⟨S4112x512, .f32⟩
  | 26 => ⟨S1x4112x512, .f32⟩
  | 27 => ⟨S4112x512, .f32⟩
  | 28 => ⟨S1x4112x512, .f32⟩
  | 29 => ⟨S4112x512, .f32⟩
  | 30 => ⟨S1x4112x512, .f32⟩
  | 31 => ⟨S4112x512, .f32⟩
  | 32 => ⟨S1x4112x512, .f32⟩
  | 33 => ⟨S4112x512, .f32⟩
  | 34 => ⟨S1x4112x512, .f32⟩
  | 35 => ⟨S4112x512, .f32⟩
  | 36 => ⟨S1x4112x512, .f32⟩
  | 37 => ⟨S4112x512, .f32⟩
  | 38 => ⟨S1x4112x512, .f32⟩
  | 39 => ⟨S4112x512, .f32⟩
  | 40 => ⟨S1x4112x512, .f32⟩
  | 41 => ⟨S4112x512, .f32⟩
  | 42 => ⟨S1x4112x512, .f32⟩
  | 43 => ⟨S4112x512, .f32⟩
  | 44 => ⟨S1x4112x512, .f32⟩
  | 45 => ⟨S4112x512, .f32⟩
  | 46 => ⟨S1x4112x512, .f32⟩
  | 47 => ⟨S4112x512, .f32⟩
  | 48 => ⟨S1x4112x512, .f32⟩
  | 49 => ⟨S4112x512, .f32⟩
  | 50 => ⟨S1x4112x512, .f32⟩
  | 51 => ⟨S4112x512, .f32⟩
  | 52 => ⟨S1x4112x512, .f32⟩
  | 53 => ⟨S4112x512, .f32⟩
  | 54 => ⟨S1x4112x512, .f32⟩
  | 55 => ⟨S4112x512, .f32⟩
  | 56 => ⟨S1x4112x512, .f32⟩
  | 57 => ⟨S4112x512, .f32⟩
  | 58 => ⟨S1x4112x512, .f32⟩
  | 59 => ⟨S4112x512, .f32⟩
  | 60 => ⟨S1x4112x512, .f32⟩
  | 61 => ⟨S4112x512, .f32⟩
  | 62 => ⟨S1x4112x512, .f32⟩
  | 63 => ⟨S4112x512, .f32⟩
  | 64 => ⟨S1x4112x512, .f32⟩
  | 65 => ⟨S4112x512, .f32⟩
  | 66 => ⟨S1x4112x512, .f32⟩
  | 67 => ⟨S4112x512, .f32⟩
  | 68 => ⟨S1x4112x512, .f32⟩
  | 69 => ⟨S4112x512, .f32⟩
  | 70 => ⟨S_, .f32⟩
  | 71 => ⟨S4160x512, .f32⟩
  | 72 => ⟨S_, .f32⟩
  | 73 => ⟨S4160x512, .f32⟩
  | 74 => ⟨S4160x512, .f32⟩
  | 75 => ⟨S_, .f32⟩
  | 76 => ⟨S4160x512, .f32⟩
  | 77 => ⟨S4160x512, .f32⟩
  | 78 => ⟨S_, .f32⟩
  | 79 => ⟨S4160x512, .f32⟩
  | 80 => ⟨S4160x512, .f32⟩
  | 81 => ⟨S_, .f32⟩
  | 82 => ⟨S4160x512, .f32⟩
  | 83 => ⟨S4160x512, .f32⟩
  | 84 => ⟨S_, .f32⟩
  | 85 => ⟨S4160x512, .f32⟩
  | 86 => ⟨S4160x512, .f32⟩
  | 87 => ⟨S_, .f32⟩
  | 88 => ⟨S4160x512, .f32⟩
  | 89 => ⟨S4160x512, .f32⟩
  | 90 => ⟨S_, .f32⟩
  | 91 => ⟨S4160x512, .f32⟩
  | 92 => ⟨S4160x512, .f32⟩
  | 93 => ⟨S_, .f32⟩
  | 94 => ⟨S4160x512, .f32⟩
  | 95 => ⟨S4160x512, .f32⟩
  | 96 => ⟨S_, .f32⟩
  | 97 => ⟨S4160x512, .f32⟩
  | 98 => ⟨S4160x512, .f32⟩
  | 99 => ⟨S_, .f32⟩
  | 100 => ⟨S4160x512, .f32⟩
  | 101 => ⟨S4160x512, .f32⟩
  | 102 => ⟨S_, .f32⟩
  | 103 => ⟨S4160x512, .f32⟩
  | 104 => ⟨S4160x512, .f32⟩
  | 105 => ⟨S_, .f32⟩
  | 106 => ⟨S4160x512, .f32⟩
  | 107 => ⟨S4160x512, .f32⟩
  | 108 => ⟨S_, .f32⟩
  | 109 => ⟨S4160x512, .f32⟩
  | 110 => ⟨S4160x512, .f32⟩
  | 111 => ⟨S_, .f32⟩
  | 112 => ⟨S4160x512, .f32⟩
  | 113 => ⟨S4160x512, .f32⟩
  | 114 => ⟨S_, .f32⟩
  | 115 => ⟨S4160x512, .f32⟩
  | 116 => ⟨S4160x512, .f32⟩
  | 117 => ⟨S_, .f32⟩
  | 118 => ⟨S4160x512, .f32⟩
  | 119 => ⟨S4160x512, .f32⟩
  | 120 => ⟨S_, .f32⟩
  | 121 => ⟨S4160x512, .f32⟩
  | 122 => ⟨S4160x512, .f32⟩
  | 123 => ⟨S_, .f32⟩
  | 124 => ⟨S4160x512, .f32⟩
  | 125 => ⟨S4160x512, .f32⟩
  | 126 => ⟨S_, .f32⟩
  | 127 => ⟨S4160x512, .f32⟩
  | _ => ⟨S4112x1536, .f32⟩

abbrev hbmTy0_4 (i : Nat) : BufTy := match i % 128 with
  | 0 => ⟨S4160x512, .f32⟩
  | 1 => ⟨S_, .f32⟩
  | 2 => ⟨S4160x512, .f32⟩
  | 3 => ⟨S4160x512, .f32⟩
  | 4 => ⟨S_, .f32⟩
  | 5 => ⟨S4160x512, .f32⟩
  | 6 => ⟨S4160x512, .f32⟩
  | 7 => ⟨S_, .f32⟩
  | 8 => ⟨S4160x512, .f32⟩
  | 9 => ⟨S4160x512, .f32⟩
  | 10 => ⟨S_, .f32⟩
  | 11 => ⟨S4160x512, .f32⟩
  | 12 => ⟨S4160x512, .f32⟩
  | 13 => ⟨S_, .f32⟩
  | 14 => ⟨S4160x512, .f32⟩
  | 15 => ⟨S4160x512, .f32⟩
  | 16 => ⟨S_, .f32⟩
  | 17 => ⟨S4160x512, .f32⟩
  | 18 => ⟨S4160x512, .f32⟩
  | 19 => ⟨S_, .f32⟩
  | 20 => ⟨S4160x512, .f32⟩
  | 21 => ⟨S4160x512, .f32⟩
  | 22 => ⟨S_, .f32⟩
  | 23 => ⟨S4160x512, .f32⟩
  | 24 => ⟨S4160x512, .f32⟩
  | 25 => ⟨S_, .f32⟩
  | 26 => ⟨S4160x512, .f32⟩
  | 27 => ⟨S4160x512, .f32⟩
  | 28 => ⟨S_, .f32⟩
  | 29 => ⟨S4160x512, .f32⟩
  | 30 => ⟨S4160x512, .f32⟩
  | 31 => ⟨S_, .f32⟩
  | 32 => ⟨S4160x512, .f32⟩
  | 33 => ⟨S4160x512, .f32⟩
  | 34 => ⟨S4160x512, .f32⟩
  | 35 => ⟨S4160x512, .f32⟩
  | 36 => ⟨S4160x512, .f32⟩
  | 37 => ⟨S_, .f32⟩
  | 38 => ⟨S4160x1536, .f32⟩
  | 39 => ⟨S4160x1536, .f32⟩
  | 40 => ⟨S_, .f32⟩
  | 41 => ⟨S4160x1536, .f32⟩
  | 42 => ⟨S4160x1536, .f32⟩
  | 43 => ⟨S1x512, .f32⟩
  | 44 => ⟨S1x512, .f32⟩
  | 45 => ⟨S1x512, .f32⟩
  | 46 => ⟨S1x512, .f32⟩
  | 47 => ⟨S_, .f32⟩
  | 48 => ⟨S4x512, .f32⟩
  | 49 => ⟨S8x512, .f32⟩
  | 50 => ⟨S4160x1536, .bf16⟩
  | 51 => ⟨S_, .f32⟩
  | 52 => ⟨S1x512, .f32⟩
  | 53 => ⟨S32x512, .f32⟩
  | _ => ⟨S4112x1536, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4112x1536, .f32⟩

abbrev bufTy : (tb : Table) → Fin (tcTables nBuf tb) → BufTy
  | .hbm, ⟨i, _⟩ => hbmTy i
  | _, _ => ⟨S4112x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_cst_3 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_cst_4 : Ref sig .tc := ⟨.hbm, 100, rfl⟩
abbrev main_v86 : Ref sig .tc := ⟨.hbm, 101, rfl⟩
abbrev main_v87 : Ref sig .tc := ⟨.hbm, 102, rfl⟩
abbrev main_cst_5 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_cst_6 : Ref sig .tc := ⟨.hbm, 109, rfl⟩
abbrev main_v93 : Ref sig .tc := ⟨.hbm, 110, rfl⟩
abbrev main_v94 : Ref sig .tc := ⟨.hbm, 111, rfl⟩
abbrev main_cst_7 : Ref sig .tc := ⟨.hbm, 112, rfl⟩
abbrev main_v95 : Ref sig .tc := ⟨.hbm, 113, rfl⟩
abbrev main_v96 : Ref sig .tc := ⟨.hbm, 114, rfl⟩
abbrev main_cst_8 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_cst_9 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_call0_v0 : Ref sig .tc := ⟨.hbm, 131, rfl⟩
abbrev main_call0_v1 : Ref sig .tc := ⟨.hbm, 132, rfl⟩
abbrev main_call0_cst : Ref sig .tc := ⟨.hbm, 133, rfl⟩
abbrev main_call0_v2 : Ref sig .tc := ⟨.hbm, 134, rfl⟩
abbrev main_call0_v3 : Ref sig .tc := ⟨.hbm, 135, rfl⟩
abbrev main_call0_cst_0 : Ref sig .tc := ⟨.hbm, 136, rfl⟩
abbrev main_call0_v4 : Ref sig .tc := ⟨.hbm, 137, rfl⟩
abbrev main_v111_2 : Ref sig .tc := ⟨.hbm, 138, rfl⟩
abbrev main_call0_cst_1 : Ref sig .tc := ⟨.hbm, 139, rfl⟩
abbrev main_call0_v6 : Ref sig .tc := ⟨.hbm, 140, rfl⟩
abbrev main_call0_v7 : Ref sig .tc := ⟨.hbm, 141, rfl⟩
abbrev main_v111_1 : Ref sig .tc := ⟨.hbm, 142, rfl⟩
abbrev main_v111_0 : Ref sig .tc := ⟨.hbm, 143, rfl⟩
abbrev main_v112 : Ref sig .tc := ⟨.hbm, 144, rfl⟩
abbrev main_call1_call0_cst : Ref sig .tc := ⟨.hbm, 145, rfl⟩
abbrev main_call1_call0_v0 : Ref sig .tc := ⟨.hbm, 146, rfl⟩
abbrev main_v113 : Ref sig .tc := ⟨.hbm, 147, rfl⟩
abbrev main_v114 : Ref sig .tc := ⟨.hbm, 148, rfl⟩
abbrev main_c : Ref sig .tc := ⟨.hbm, 149, rfl⟩
abbrev main_v115 : Ref sig .tc := ⟨.hbm, 150, rfl⟩
abbrev main_v116 : Ref sig .tc := ⟨.hbm, 151, rfl⟩
abbrev main_c_10 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_call2_call0_cst : Ref sig .tc := ⟨.hbm, 165, rfl⟩
abbrev main_call2_call0_v0 : Ref sig .tc := ⟨.hbm, 166, rfl⟩
abbrev main_v129 : Ref sig .tc := ⟨.hbm, 167, rfl⟩
abbrev main_v130 : Ref sig .tc := ⟨.hbm, 168, rfl⟩
abbrev main_c_11 : Ref sig .tc := ⟨.hbm, 169, rfl⟩
abbrev main_v131 : Ref sig .tc := ⟨.hbm, 170, rfl⟩
abbrev main_v132 : Ref sig .tc := ⟨.hbm, 171, rfl⟩
abbrev main_c_12 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_call3_call0_cst : Ref sig .tc := ⟨.hbm, 185, rfl⟩
abbrev main_call3_call0_v0 : Ref sig .tc := ⟨.hbm, 186, rfl⟩
abbrev main_v145 : Ref sig .tc := ⟨.hbm, 187, rfl⟩
abbrev main_v146 : Ref sig .tc := ⟨.hbm, 188, rfl⟩
abbrev main_c_13 : Ref sig .tc := ⟨.hbm, 189, rfl⟩
abbrev main_v147 : Ref sig .tc := ⟨.hbm, 190, rfl⟩
abbrev main_v148 : Ref sig .tc := ⟨.hbm, 191, rfl⟩
abbrev main_c_14 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_call4_call0_cst : Ref sig .tc := ⟨.hbm, 205, rfl⟩
abbrev main_call4_call0_v0 : Ref sig .tc := ⟨.hbm, 206, rfl⟩
abbrev main_v161 : Ref sig .tc := ⟨.hbm, 207, rfl⟩
abbrev main_v162 : Ref sig .tc := ⟨.hbm, 208, rfl⟩
abbrev main_c_15 : Ref sig .tc := ⟨.hbm, 209, rfl⟩
abbrev main_v163 : Ref sig .tc := ⟨.hbm, 210, rfl⟩
abbrev main_v164 : Ref sig .tc := ⟨.hbm, 211, rfl⟩
abbrev main_c_16 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_cst_17 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_cst_18 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_cst_19 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_cst_20 : Ref sig .tc := ⟨.hbm, 268, rfl⟩
abbrev main_v217 : Ref sig .tc := ⟨.hbm, 269, rfl⟩
abbrev main_cst_21 : Ref sig .tc := ⟨.hbm, 270, rfl⟩
abbrev main_v218 : Ref sig .tc := ⟨.hbm, 271, rfl⟩
abbrev main_v219 : Ref sig .tc := ⟨.hbm, 272, rfl⟩
abbrev main_call5_call0_cst : Ref sig .tc := ⟨.hbm, 273, rfl⟩
abbrev main_call5_call0_v0 : Ref sig .tc := ⟨.hbm, 274, rfl⟩
abbrev main_v220 : Ref sig .tc := ⟨.hbm, 275, rfl⟩
abbrev main_v221 : Ref sig .tc := ⟨.hbm, 276, rfl⟩
abbrev main_cst_22 : Ref sig .tc := ⟨.hbm, 277, rfl⟩
abbrev main_v222 : Ref sig .tc := ⟨.hbm, 278, rfl⟩
abbrev main_v223 : Ref sig .tc := ⟨.hbm, 279, rfl⟩
abbrev main_cst_23 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_cst_24 : Ref sig .tc := ⟨.hbm, 285, rfl⟩
abbrev main_v228 : Ref sig .tc := ⟨.hbm, 286, rfl⟩
abbrev main_cst_25 : Ref sig .tc := ⟨.hbm, 287, rfl⟩
abbrev main_v229 : Ref sig .tc := ⟨.hbm, 288, rfl⟩
abbrev main_v230 : Ref sig .tc := ⟨.hbm, 289, rfl⟩
abbrev main_call6_call0_cst : Ref sig .tc := ⟨.hbm, 290, rfl⟩
abbrev main_call6_call0_v0 : Ref sig .tc := ⟨.hbm, 291, rfl⟩
abbrev main_v231 : Ref sig .tc := ⟨.hbm, 292, rfl⟩
abbrev main_v232 : Ref sig .tc := ⟨.hbm, 293, rfl⟩
abbrev main_cst_26 : Ref sig .tc := ⟨.hbm, 294, rfl⟩
abbrev main_v233 : Ref sig .tc := ⟨.hbm, 295, rfl⟩
abbrev main_v234 : Ref sig .tc := ⟨.hbm, 296, rfl⟩
abbrev main_v235 : Ref sig .tc := ⟨.hbm, 297, rfl⟩
abbrev main_cst_27 : Ref sig .tc := ⟨.hbm, 298, rfl⟩
abbrev main_v236 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_cst_28 : Ref sig .tc := ⟨.hbm, 303, rfl⟩
abbrev main_v240 : Ref sig .tc := ⟨.hbm, 304, rfl⟩
abbrev main_cst_29 : Ref sig .tc := ⟨.hbm, 305, rfl⟩
abbrev main_v241 : Ref sig .tc := ⟨.hbm, 306, rfl⟩
abbrev main_v242 : Ref sig .tc := ⟨.hbm, 307, rfl⟩
abbrev main_call7_call0_cst : Ref sig .tc := ⟨.hbm, 308, rfl⟩
abbrev main_call7_call0_v0 : Ref sig .tc := ⟨.hbm, 309, rfl⟩
abbrev main_v243 : Ref sig .tc := ⟨.hbm, 310, rfl⟩
abbrev main_v244 : Ref sig .tc := ⟨.hbm, 311, rfl⟩
abbrev main_cst_30 : Ref sig .tc := ⟨.hbm, 312, rfl⟩
abbrev main_v245 : Ref sig .tc := ⟨.hbm, 313, rfl⟩
abbrev main_v246 : Ref sig .tc := ⟨.hbm, 314, rfl⟩
abbrev main_v247 : Ref sig .tc := ⟨.hbm, 315, rfl⟩
abbrev main_cst_31 : Ref sig .tc := ⟨.hbm, 316, rfl⟩
abbrev main_v248 : Ref sig .tc := ⟨.hbm, 317, rfl⟩
abbrev main_v249 : Ref sig .tc := ⟨.hbm, 318, rfl⟩
abbrev main_v250 : Ref sig .tc := ⟨.hbm, 319, rfl⟩
abbrev main_v251 : Ref sig .tc := ⟨.hbm, 320, rfl⟩
abbrev main_cst_32 : Ref sig .tc := ⟨.hbm, 321, rfl⟩
abbrev main_v252 : Ref sig .tc := ⟨.hbm, 322, rfl⟩
abbrev main_cst_33 : Ref sig .tc := ⟨.hbm, 323, rfl⟩
abbrev main_v253 : Ref sig .tc := ⟨.hbm, 324, rfl⟩
abbrev main_v254 : Ref sig .tc := ⟨.hbm, 325, rfl⟩
abbrev main_call8_call0_cst : Ref sig .tc := ⟨.hbm, 326, rfl⟩
abbrev main_call8_call0_v0 : Ref sig .tc := ⟨.hbm, 327, rfl⟩
abbrev main_v255 : Ref sig .tc := ⟨.hbm, 328, rfl⟩
abbrev main_v256 : Ref sig .tc := ⟨.hbm, 329, rfl⟩
abbrev main_cst_34 : Ref sig .tc := ⟨.hbm, 330, rfl⟩
abbrev main_v257 : Ref sig .tc := ⟨.hbm, 331, rfl⟩
abbrev main_v258 : Ref sig .tc := ⟨.hbm, 332, rfl⟩
abbrev main_call9_v0 : Ref sig .tc := ⟨.hbm, 333, rfl⟩
abbrev main_call9_v1 : Ref sig .tc := ⟨.hbm, 334, rfl⟩
abbrev main_call9_v2 : Ref sig .tc := ⟨.hbm, 335, rfl⟩
abbrev main_v259 : Ref sig .tc := ⟨.hbm, 336, rfl⟩
abbrev main_cst_35 : Ref sig .tc := ⟨.hbm, 337, rfl⟩
abbrev main_v260 : Ref sig .tc := ⟨.hbm, 338, rfl⟩
abbrev main_v261 : Ref sig .tc := ⟨.hbm, 339, rfl⟩
abbrev main_cst_36 : Ref sig .tc := ⟨.hbm, 340, rfl⟩
abbrev main_v262 : Ref sig .tc := ⟨.hbm, 341, rfl⟩
abbrev main_v263 : Ref sig .tc := ⟨.hbm, 342, rfl⟩
abbrev main_cst_37 : Ref sig .tc := ⟨.hbm, 343, rfl⟩
abbrev main_v264 : Ref sig .tc := ⟨.hbm, 344, rfl⟩
abbrev main_v265 : Ref sig .tc := ⟨.hbm, 345, rfl⟩
abbrev main_v266 : Ref sig .tc := ⟨.hbm, 346, rfl⟩
abbrev main_v267 : Ref sig .tc := ⟨.hbm, 347, rfl⟩
abbrev main_cst_38 : Ref sig .tc := ⟨.hbm, 348, rfl⟩
abbrev main_v268 : Ref sig .tc := ⟨.hbm, 349, rfl⟩
abbrev main_v269 : Ref sig .tc := ⟨.hbm, 350, rfl⟩
abbrev main_cst_39 : Ref sig .tc := ⟨.hbm, 351, rfl⟩
abbrev main_v270 : Ref sig .tc := ⟨.hbm, 352, rfl⟩
abbrev main_v271 : Ref sig .tc := ⟨.hbm, 353, rfl⟩
abbrev main_v272 : Ref sig .tc := ⟨.hbm, 354, rfl⟩
abbrev main_v273 : Ref sig .tc := ⟨.hbm, 355, rfl⟩
abbrev main_v274 : Ref sig .tc := ⟨.hbm, 356, rfl⟩
abbrev main_cst_40 : Ref sig .tc := ⟨.hbm, 357, rfl⟩
abbrev main_v275 : Ref sig .tc := ⟨.hbm, 358, rfl⟩
abbrev main_v276 : Ref sig .tc := ⟨.hbm, 359, rfl⟩
abbrev main_cst_41 : Ref sig .tc := ⟨.hbm, 360, rfl⟩
abbrev main_v277 : Ref sig .tc := ⟨.hbm, 361, rfl⟩
abbrev main_v278 : Ref sig .tc := ⟨.hbm, 362, rfl⟩
abbrev main_v279 : Ref sig .tc := ⟨.hbm, 363, rfl⟩
abbrev main_v280 : Ref sig .tc := ⟨.hbm, 364, rfl⟩
abbrev main_v281 : Ref sig .tc := ⟨.hbm, 365, rfl⟩
abbrev main_v282 : Ref sig .tc := ⟨.hbm, 366, rfl⟩
abbrev main_v283 : Ref sig .tc := ⟨.hbm, 367, rfl⟩
abbrev main_cst_42 : Ref sig .tc := ⟨.hbm, 368, rfl⟩
abbrev main_v284 : Ref sig .tc := ⟨.hbm, 369, rfl⟩
abbrev main_v285 : Ref sig .tc := ⟨.hbm, 370, rfl⟩
abbrev main_cst_43 : Ref sig .tc := ⟨.hbm, 371, rfl⟩
abbrev main_v286 : Ref sig .tc := ⟨.hbm, 372, rfl⟩
abbrev main_v287 : Ref sig .tc := ⟨.hbm, 373, rfl⟩
abbrev main_cst_44 : Ref sig .tc := ⟨.hbm, 374, rfl⟩
abbrev main_v288 : Ref sig .tc := ⟨.hbm, 375, rfl⟩
abbrev main_v289 : Ref sig .tc := ⟨.hbm, 376, rfl⟩
abbrev main_v290 : Ref sig .tc := ⟨.hbm, 377, rfl⟩
abbrev main_cst_45 : Ref sig .tc := ⟨.hbm, 378, rfl⟩
abbrev main_v291 : Ref sig .tc := ⟨.hbm, 379, rfl⟩
abbrev main_v292 : Ref sig .tc := ⟨.hbm, 380, rfl⟩
abbrev main_cst_46 : Ref sig .tc := ⟨.hbm, 381, rfl⟩
abbrev main_v293 : Ref sig .tc := ⟨.hbm, 382, rfl⟩
abbrev main_v294 : Ref sig .tc := ⟨.hbm, 383, rfl⟩
abbrev main_v295 : Ref sig .tc := ⟨.hbm, 384, rfl⟩
abbrev main_cst_47 : Ref sig .tc := ⟨.hbm, 385, rfl⟩
abbrev main_v296 : Ref sig .tc := ⟨.hbm, 386, rfl⟩
abbrev main_v297 : Ref sig .tc := ⟨.hbm, 387, rfl⟩
abbrev main_v298 : Ref sig .tc := ⟨.hbm, 388, rfl⟩
abbrev main_v299 : Ref sig .tc := ⟨.hbm, 389, rfl⟩
abbrev main_cst_48 : Ref sig .tc := ⟨.hbm, 390, rfl⟩
abbrev main_v300 : Ref sig .tc := ⟨.hbm, 391, rfl⟩
abbrev main_v301 : Ref sig .tc := ⟨.hbm, 392, rfl⟩
abbrev main_v302 : Ref sig .tc := ⟨.hbm, 393, rfl⟩
abbrev main_v303 : Ref sig .tc := ⟨.hbm, 394, rfl⟩
abbrev main_v304 : Ref sig .tc := ⟨.hbm, 395, rfl⟩
abbrev main_v305 : Ref sig .tc := ⟨.hbm, 396, rfl⟩
abbrev main_v306 : Ref sig .tc := ⟨.hbm, 397, rfl⟩
abbrev main_v307 : Ref sig .tc := ⟨.hbm, 398, rfl⟩
abbrev main_v308 : Ref sig .tc := ⟨.hbm, 399, rfl⟩
abbrev main_v309 : Ref sig .tc := ⟨.hbm, 400, rfl⟩
abbrev main_v310 : Ref sig .tc := ⟨.hbm, 401, rfl⟩
abbrev main_v311 : Ref sig .tc := ⟨.hbm, 402, rfl⟩
abbrev main_v312 : Ref sig .tc := ⟨.hbm, 403, rfl⟩
abbrev main_v313 : Ref sig .tc := ⟨.hbm, 404, rfl⟩
abbrev main_v314 : Ref sig .tc := ⟨.hbm, 405, rfl⟩
abbrev main_v315 : Ref sig .tc := ⟨.hbm, 406, rfl⟩
abbrev main_v316 : Ref sig .tc := ⟨.hbm, 407, rfl⟩
abbrev main_v317 : Ref sig .tc := ⟨.hbm, 408, rfl⟩
abbrev main_v318 : Ref sig .tc := ⟨.hbm, 409, rfl⟩
abbrev main_v319 : Ref sig .tc := ⟨.hbm, 410, rfl⟩
abbrev main_v320 : Ref sig .tc := ⟨.hbm, 411, rfl⟩
abbrev main_v321 : Ref sig .tc := ⟨.hbm, 412, rfl⟩
abbrev main_v322 : Ref sig .tc := ⟨.hbm, 413, rfl⟩
abbrev main_v323 : Ref sig .tc := ⟨.hbm, 414, rfl⟩
abbrev main_v324 : Ref sig .tc := ⟨.hbm, 415, rfl⟩
abbrev main_v325 : Ref sig .tc := ⟨.hbm, 416, rfl⟩
abbrev main_v326 : Ref sig .tc := ⟨.hbm, 417, rfl⟩
abbrev main_v327 : Ref sig .tc := ⟨.hbm, 418, rfl⟩
abbrev main_v328 : Ref sig .tc := ⟨.hbm, 419, rfl⟩
abbrev main_v329 : Ref sig .tc := ⟨.hbm, 420, rfl⟩
abbrev main_v330 : Ref sig .tc := ⟨.hbm, 421, rfl⟩
abbrev main_v331 : Ref sig .tc := ⟨.hbm, 422, rfl⟩
abbrev main_v332 : Ref sig .tc := ⟨.hbm, 423, rfl⟩
abbrev main_v333 : Ref sig .tc := ⟨.hbm, 424, rfl⟩
abbrev main_v334 : Ref sig .tc := ⟨.hbm, 425, rfl⟩
abbrev main_v335 : Ref sig .tc := ⟨.hbm, 426, rfl⟩
abbrev main_v336 : Ref sig .tc := ⟨.hbm, 427, rfl⟩
abbrev main_v337 : Ref sig .tc := ⟨.hbm, 428, rfl⟩
abbrev main_v338 : Ref sig .tc := ⟨.hbm, 429, rfl⟩
abbrev main_v339 : Ref sig .tc := ⟨.hbm, 430, rfl⟩
abbrev main_v340 : Ref sig .tc := ⟨.hbm, 431, rfl⟩
abbrev main_v341 : Ref sig .tc := ⟨.hbm, 432, rfl⟩
abbrev main_v342 : Ref sig .tc := ⟨.hbm, 433, rfl⟩
abbrev main_v343 : Ref sig .tc := ⟨.hbm, 434, rfl⟩
abbrev main_v344 : Ref sig .tc := ⟨.hbm, 435, rfl⟩
abbrev main_v345 : Ref sig .tc := ⟨.hbm, 436, rfl⟩
abbrev main_v346 : Ref sig .tc := ⟨.hbm, 437, rfl⟩
abbrev main_v347 : Ref sig .tc := ⟨.hbm, 438, rfl⟩
abbrev main_v348 : Ref sig .tc := ⟨.hbm, 439, rfl⟩
abbrev main_v349 : Ref sig .tc := ⟨.hbm, 440, rfl⟩
abbrev main_v350 : Ref sig .tc := ⟨.hbm, 441, rfl⟩
abbrev main_v351 : Ref sig .tc := ⟨.hbm, 442, rfl⟩
abbrev main_v352 : Ref sig .tc := ⟨.hbm, 443, rfl⟩
abbrev main_v353 : Ref sig .tc := ⟨.hbm, 444, rfl⟩
abbrev main_v354 : Ref sig .tc := ⟨.hbm, 445, rfl⟩
abbrev main_v355 : Ref sig .tc := ⟨.hbm, 446, rfl⟩
abbrev main_v356 : Ref sig .tc := ⟨.hbm, 447, rfl⟩
abbrev main_v357 : Ref sig .tc := ⟨.hbm, 448, rfl⟩
abbrev main_v358 : Ref sig .tc := ⟨.hbm, 449, rfl⟩
abbrev main_v359 : Ref sig .tc := ⟨.hbm, 450, rfl⟩
abbrev main_v360 : Ref sig .tc := ⟨.hbm, 451, rfl⟩
abbrev main_v361 : Ref sig .tc := ⟨.hbm, 452, rfl⟩
abbrev main_v362 : Ref sig .tc := ⟨.hbm, 453, rfl⟩
abbrev main_cst_49 : Ref sig .tc := ⟨.hbm, 454, rfl⟩
abbrev main_v363 : Ref sig .tc := ⟨.hbm, 455, rfl⟩
abbrev main_cst_50 : Ref sig .tc := ⟨.hbm, 456, rfl⟩
abbrev main_v364 : Ref sig .tc := ⟨.hbm, 457, rfl⟩
abbrev main_v365 : Ref sig .tc := ⟨.hbm, 458, rfl⟩
abbrev main_cst_51 : Ref sig .tc := ⟨.hbm, 459, rfl⟩
abbrev main_v366 : Ref sig .tc := ⟨.hbm, 460, rfl⟩
abbrev main_v367 : Ref sig .tc := ⟨.hbm, 461, rfl⟩
abbrev main_cst_52 : Ref sig .tc := ⟨.hbm, 462, rfl⟩
abbrev main_v368 : Ref sig .tc := ⟨.hbm, 463, rfl⟩
abbrev main_v369 : Ref sig .tc := ⟨.hbm, 464, rfl⟩
abbrev main_cst_53 : Ref sig .tc := ⟨.hbm, 465, rfl⟩
abbrev main_v370 : Ref sig .tc := ⟨.hbm, 466, rfl⟩
abbrev main_v371 : Ref sig .tc := ⟨.hbm, 467, rfl⟩
abbrev main_cst_54 : Ref sig .tc := ⟨.hbm, 468, rfl⟩
abbrev main_v372 : Ref sig .tc := ⟨.hbm, 469, rfl⟩
abbrev main_v373 : Ref sig .tc := ⟨.hbm, 470, rfl⟩
abbrev main_cst_55 : Ref sig .tc := ⟨.hbm, 471, rfl⟩
abbrev main_v374 : Ref sig .tc := ⟨.hbm, 472, rfl⟩
abbrev main_v375 : Ref sig .tc := ⟨.hbm, 473, rfl⟩
abbrev main_cst_56 : Ref sig .tc := ⟨.hbm, 474, rfl⟩
abbrev main_v376 : Ref sig .tc := ⟨.hbm, 475, rfl⟩
abbrev main_v377 : Ref sig .tc := ⟨.hbm, 476, rfl⟩
abbrev main_cst_57 : Ref sig .tc := ⟨.hbm, 477, rfl⟩
abbrev main_v378 : Ref sig .tc := ⟨.hbm, 478, rfl⟩
abbrev main_v379 : Ref sig .tc := ⟨.hbm, 479, rfl⟩
abbrev main_cst_58 : Ref sig .tc := ⟨.hbm, 480, rfl⟩
abbrev main_v380 : Ref sig .tc := ⟨.hbm, 481, rfl⟩
abbrev main_v381 : Ref sig .tc := ⟨.hbm, 482, rfl⟩
abbrev main_cst_59 : Ref sig .tc := ⟨.hbm, 483, rfl⟩
abbrev main_v382 : Ref sig .tc := ⟨.hbm, 484, rfl⟩
abbrev main_v383 : Ref sig .tc := ⟨.hbm, 485, rfl⟩
abbrev main_cst_60 : Ref sig .tc := ⟨.hbm, 486, rfl⟩
abbrev main_v384 : Ref sig .tc := ⟨.hbm, 487, rfl⟩
abbrev main_v385 : Ref sig .tc := ⟨.hbm, 488, rfl⟩
abbrev main_cst_61 : Ref sig .tc := ⟨.hbm, 489, rfl⟩
abbrev main_v386 : Ref sig .tc := ⟨.hbm, 490, rfl⟩
abbrev main_v387 : Ref sig .tc := ⟨.hbm, 491, rfl⟩
abbrev main_cst_62 : Ref sig .tc := ⟨.hbm, 492, rfl⟩
abbrev main_v388 : Ref sig .tc := ⟨.hbm, 493, rfl⟩
abbrev main_v389 : Ref sig .tc := ⟨.hbm, 494, rfl⟩
abbrev main_cst_63 : Ref sig .tc := ⟨.hbm, 495, rfl⟩
abbrev main_v390 : Ref sig .tc := ⟨.hbm, 496, rfl⟩
abbrev main_v391 : Ref sig .tc := ⟨.hbm, 497, rfl⟩
abbrev main_cst_64 : Ref sig .tc := ⟨.hbm, 498, rfl⟩
abbrev main_v392 : Ref sig .tc := ⟨.hbm, 499, rfl⟩
abbrev main_v393 : Ref sig .tc := ⟨.hbm, 500, rfl⟩
abbrev main_cst_65 : Ref sig .tc := ⟨.hbm, 501, rfl⟩
abbrev main_v394 : Ref sig .tc := ⟨.hbm, 502, rfl⟩
abbrev main_v395 : Ref sig .tc := ⟨.hbm, 503, rfl⟩
abbrev main_cst_66 : Ref sig .tc := ⟨.hbm, 504, rfl⟩
abbrev main_v396 : Ref sig .tc := ⟨.hbm, 505, rfl⟩
abbrev main_v397 : Ref sig .tc := ⟨.hbm, 506, rfl⟩
abbrev main_cst_67 : Ref sig .tc := ⟨.hbm, 507, rfl⟩
abbrev main_v398 : Ref sig .tc := ⟨.hbm, 508, rfl⟩
abbrev main_v399 : Ref sig .tc := ⟨.hbm, 509, rfl⟩
abbrev main_cst_68 : Ref sig .tc := ⟨.hbm, 510, rfl⟩
abbrev main_v400 : Ref sig .tc := ⟨.hbm, 511, rfl⟩
abbrev main_v401 : Ref sig .tc := ⟨.hbm, 512, rfl⟩
abbrev main_cst_69 : Ref sig .tc := ⟨.hbm, 513, rfl⟩
abbrev main_v402 : Ref sig .tc := ⟨.hbm, 514, rfl⟩
abbrev main_v403 : Ref sig .tc := ⟨.hbm, 515, rfl⟩
abbrev main_cst_70 : Ref sig .tc := ⟨.hbm, 516, rfl⟩
abbrev main_v404 : Ref sig .tc := ⟨.hbm, 517, rfl⟩
abbrev main_v405 : Ref sig .tc := ⟨.hbm, 518, rfl⟩
abbrev main_cst_71 : Ref sig .tc := ⟨.hbm, 519, rfl⟩
abbrev main_v406 : Ref sig .tc := ⟨.hbm, 520, rfl⟩
abbrev main_v407 : Ref sig .tc := ⟨.hbm, 521, rfl⟩
abbrev main_cst_72 : Ref sig .tc := ⟨.hbm, 522, rfl⟩
abbrev main_v408 : Ref sig .tc := ⟨.hbm, 523, rfl⟩
abbrev main_v409 : Ref sig .tc := ⟨.hbm, 524, rfl⟩
abbrev main_cst_73 : Ref sig .tc := ⟨.hbm, 525, rfl⟩
abbrev main_v410 : Ref sig .tc := ⟨.hbm, 526, rfl⟩
abbrev main_v411 : Ref sig .tc := ⟨.hbm, 527, rfl⟩
abbrev main_cst_74 : Ref sig .tc := ⟨.hbm, 528, rfl⟩
abbrev main_v412 : Ref sig .tc := ⟨.hbm, 529, rfl⟩
abbrev main_v413 : Ref sig .tc := ⟨.hbm, 530, rfl⟩
abbrev main_cst_75 : Ref sig .tc := ⟨.hbm, 531, rfl⟩
abbrev main_v414 : Ref sig .tc := ⟨.hbm, 532, rfl⟩
abbrev main_v415 : Ref sig .tc := ⟨.hbm, 533, rfl⟩
abbrev main_cst_76 : Ref sig .tc := ⟨.hbm, 534, rfl⟩
abbrev main_v416 : Ref sig .tc := ⟨.hbm, 535, rfl⟩
abbrev main_v417 : Ref sig .tc := ⟨.hbm, 536, rfl⟩
abbrev main_cst_77 : Ref sig .tc := ⟨.hbm, 537, rfl⟩
abbrev main_v418 : Ref sig .tc := ⟨.hbm, 538, rfl⟩
abbrev main_v419 : Ref sig .tc := ⟨.hbm, 539, rfl⟩
abbrev main_cst_78 : Ref sig .tc := ⟨.hbm, 540, rfl⟩
abbrev main_v420 : Ref sig .tc := ⟨.hbm, 541, rfl⟩
abbrev main_v421 : Ref sig .tc := ⟨.hbm, 542, rfl⟩
abbrev main_cst_79 : Ref sig .tc := ⟨.hbm, 543, rfl⟩
abbrev main_v422 : Ref sig .tc := ⟨.hbm, 544, rfl⟩
abbrev main_v423 : Ref sig .tc := ⟨.hbm, 545, rfl⟩
abbrev main_v424 : Ref sig .tc := ⟨.hbm, 546, rfl⟩
abbrev main_v425 : Ref sig .tc := ⟨.hbm, 547, rfl⟩
abbrev main_v426 : Ref sig .tc := ⟨.hbm, 548, rfl⟩
abbrev main_cst_80 : Ref sig .tc := ⟨.hbm, 549, rfl⟩
abbrev main_v427 : Ref sig .tc := ⟨.hbm, 550, rfl⟩
abbrev main_v428 : Ref sig .tc := ⟨.hbm, 551, rfl⟩
abbrev main_cst_81 : Ref sig .tc := ⟨.hbm, 552, rfl⟩
abbrev main_v429 : Ref sig .tc := ⟨.hbm, 553, rfl⟩
abbrev main_v430 : Ref sig .tc := ⟨.hbm, 554, rfl⟩
abbrev main_v431 : Ref sig .tc := ⟨.hbm, 555, rfl⟩
abbrev main_v432 : Ref sig .tc := ⟨.hbm, 556, rfl⟩
abbrev main_v433 : Ref sig .tc := ⟨.hbm, 557, rfl⟩
abbrev main_v434 : Ref sig .tc := ⟨.hbm, 558, rfl⟩
abbrev main_cst_82 : Ref sig .tc := ⟨.hbm, 559, rfl⟩
abbrev main_v435 : Ref sig .tc := ⟨.hbm, 560, rfl⟩
abbrev main_v436 : Ref sig .tc := ⟨.hbm, 561, rfl⟩
abbrev main_v437 : Ref sig .tc := ⟨.hbm, 562, rfl⟩
abbrev main_cst_83 : Ref sig .tc := ⟨.hbm, 563, rfl⟩
abbrev main_v438 : Ref sig .tc := ⟨.hbm, 564, rfl⟩
abbrev main_v439 : Ref sig .tc := ⟨.hbm, 565, rfl⟩

abbrev nD : Nat := 1
abbrev τ : Topo := Topo.v7x

variable {F : FTy → Type} [FloatOps F]
-- ==== LossKernel.lean ====
abbrev S4112x1024 : Shape := ⟨2, ![4112, 1024]⟩
abbrev S1024 : Shape := ⟨1, ![1024]⟩
abbrev S4096x1024 : Shape := ⟨2, ![4096, 1024]⟩
abbrev S_ : Shape := ⟨0, ![]⟩
abbrev S48x1024 : Shape := ⟨2, ![48, 1024]⟩
abbrev S4160x1024 : Shape := ⟨2, ![4160, 1024]⟩
abbrev S1x1024 : Shape := ⟨2, ![1, 1024]⟩
abbrev S8x128 : Shape := ⟨2, ![8, 128]⟩
abbrev S1024x1024 : Shape := ⟨2, ![1024, 1024]⟩
abbrev S1024x1 : Shape := ⟨2, ![1024, 1]⟩
abbrev S1 : Shape := ⟨1, ![1]⟩
abbrev S1x1 : Shape := ⟨2, ![1, 1]⟩

abbrev nBuf : Space → Nat
  | .hbm => 10
  | .vmem => 9
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S48x1024, .f32⟩
  | .hbm, ⟨5, _⟩ => ⟨S4160x1024, .f32⟩
  | .hbm, ⟨6, _⟩ => ⟨S1x1024, .f32⟩
  | .hbm, ⟨7, _⟩ => ⟨S4096x1024, .f32⟩
  | .hbm, ⟨8, _⟩ => ⟨S1x1024, .f32⟩
  | .hbm, ⟨9, _⟩ => ⟨S8x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S8x128, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![4], ![false]⟩

def k0_mult1 (i : grid0.Coords) : BitVec 32 :=
  let c64_i32 : BitVec 32 := 64#32
  let arg0 : BitVec 32 := BitVec.ofNat 32 (i 0).val
  let c1024_i32 : BitVec 32 := 1024#32
  let v0 : BitVec 32 := Scalar.muli arg0 c1024_i32
  let v1 : BitVec 32 := Scalar.addi c64_i32 v0
  v1
def k0_cond1 (i : grid0.Coords) : BitVec 1 :=
  let arg0 : BitVec 32 := BitVec.ofNat 32 (i 0).val
  let c0_i32 : BitVec 32 := 0#32
  let v55 : BitVec 1 := Scalar.cmpi .eq arg0 c0_i32
  let v56 : BitVec 32 := Scalar.extui v55
  let c0_i32_20 : BitVec 32 := 0#32
  let v57 : BitVec 1 := Scalar.cmpi .ne v56 c0_i32_20
  v57

def k0_cond2 (i : grid0.Coords) : BitVec 1 :=
  let arg0 : BitVec 32 := BitVec.ofNat 32 (i 0).val
  let c0_i32 : BitVec 32 := 0#32
  let v55 : BitVec 1 := Scalar.cmpi .eq arg0 c0_i32
  let v_true : BitVec 1 := 1#1
  let v58 : BitVec 1 := Scalar.xori v55 v_true
  let v59 : BitVec 32 := Scalar.extui v58
  let c0_i32_21 : BitVec 32 := 0#32
  let v60 : BitVec 1 := Scalar.cmpi .ne v59 c0_i32_21
  v60

def k0_cond3 (i : grid0.Coords) : BitVec 1 :=
  let arg0 : BitVec 32 := BitVec.ofNat 32 (i 0).val
  let c0_i32_22 : BitVec 32 := 0#32
  let v63 : BitVec 1 := Scalar.cmpi .eq arg0 c0_i32_22
  let v64 : BitVec 32 := Scalar.extui v63
  let c0_i32_23 : BitVec 32 := 0#32
  let v65 : BitVec 1 := Scalar.cmpi .ne v64 c0_i32_23
  v65

def k0_cond4 (i : grid0.Coords) : BitVec 1 :=
  let arg0 : BitVec 32 := BitVec.ofNat 32 (i 0).val
  let c0_i32_22 : BitVec 32 := 0#32
  let v63 : BitVec 1 := Scalar.cmpi .eq arg0 c0_i32_22
  let true_24 : BitVec 1 := 1#1
  let v66 : BitVec 1 := Scalar.xori v63 true_24
  let v67 : BitVec 32 := Scalar.extui v66
  let c0_i32_25 : BitVec 32 := 0#32
  let v68 : BitVec 1 := Scalar.cmpi .ne v67 c0_i32_25
  v68

def cc0_transform_0 (i : grid0.Coords) : Fin 2 → Nat :=
  let arg0 : BitVec 32 := BitVec.ofNat 32 (i 0).val
  let c1024_i32 : BitVec 32 := 1024#32
  let v0 : BitVec 32 := Scalar.muli arg0 c1024_i32
  let c64_i32 : BitVec 32 := 64#32
  let v1 : BitVec 32 := Scalar.addi c64_i32 v0
  let v2 : BitVec 32 := v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossReferenceIdeal.lean ====
abbrev S4112x1024 : Shape := ⟨2, ![4112, 1024]⟩
abbrev S1024 : Shape := ⟨1, ![1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x128 : Shape := ⟨2, ![8, 128]⟩

abbrev nBuf : Space → Nat
  | .hbm => 77
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S4112x1024, .f32⟩
  | .hbm, ⟨74, _⟩ => ⟨S4096x1024, .f32⟩
  | .hbm, ⟨75, _⟩ => ⟨S1x1024, .f32⟩
  | .hbm, ⟨76, _⟩ => ⟨S8x128, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_16 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== NormKernel.lean ====
abbrev S4112x1024 : Shape := ⟨2, ![4112, 1024]⟩
abbrev S1024 : Shape := ⟨1, ![1024]⟩
abbrev S1024x3088 : Shape := ⟨2, ![1024, 3088]⟩
abbrev S4112x3088 : Shape := ⟨2, ![4112, 3088]⟩
abbrev S_ : Shape := ⟨0, ![]⟩
abbrev S48x3088 : Shape := ⟨2, ![48, 3088]⟩
abbrev S4160x3088 : Shape := ⟨2, ![4160, 3088]⟩
abbrev S4160x112 : Shape := ⟨2, ![4160, 112]⟩
abbrev S4160x3200 : Shape := ⟨2, ![4160, 3200]⟩
abbrev S1024x112 : Shape := ⟨2, ![1024, 112]⟩
abbrev S1024x3200 : Shape := ⟨2, ![1024, 3200]⟩
abbrev S48x1024 : Shape := ⟨2, ![48, 1024]⟩
abbrev S4160x1024 : Shape := ⟨2, ![4160, 1024]⟩
abbrev S1x1024 : Shape := ⟨2, ![1, 1024]⟩
abbrev S416x3200 : Shape := ⟨2, ![416, 3200]⟩
abbrev S416x1024 : Shape := ⟨2, ![416, 1024]⟩
abbrev S416x1280 : Shape := ⟨2, ![416, 1280]⟩
abbrev S1024x1280 : Shape := ⟨2, ![1024, 1280]⟩
abbrev S416x640 : Shape := ⟨2, ![416, 640]⟩
abbrev S1024x640 : Shape := ⟨2, ![1024, 640]⟩
abbrev S416 : Shape := ⟨1, ![416]⟩
abbrev S416x1 : Shape := ⟨2, ![416, 1]⟩

abbrev nBuf : Space → Nat
  | .hbm => 25
  | .vmem => 11
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x3088, .f32⟩
  | .hbm, ⟨3, _⟩ => ⟨S4112x3088, .f32⟩
  | .hbm, ⟨4, _⟩ => ⟨S4112x1024, .f32⟩
  | .hbm, ⟨5, _⟩ => ⟨S_, .f32⟩
  | .hbm, ⟨6, _⟩ => ⟨S48x3088, .f32⟩
  | .hbm, ⟨7, _⟩ => ⟨S4160x3088, .f32⟩
  | .hbm, ⟨8, _⟩ => ⟨S_, .f32⟩
  | .hbm, ⟨9, _⟩ => ⟨S4160x112, .f32⟩
  | .hbm, ⟨10, _⟩ => ⟨S4160x3200, .f32⟩
  | .hbm, ⟨11, _⟩ => ⟨S4160x3200, .bf16⟩
  | .hbm, ⟨12, _⟩ => ⟨S_, .f32⟩
  | .hbm, ⟨13, _⟩ => ⟨S1024x112, .f32⟩
  | .hbm, ⟨14, _⟩ => ⟨S1024x3200, .f32⟩
  | .hbm, ⟨15, _⟩ => ⟨S1024x3200, .bf16⟩
  | .hbm, ⟨16, _⟩ => ⟨S_, .f32⟩
  | .hbm, ⟨17, _⟩ => ⟨S48x1024, .f32⟩
  | .hbm, ⟨18, _⟩ => ⟨S4160x1024, .f32⟩
  | .hbm, ⟨19, _⟩ => ⟨S1x1024, .f32⟩
  | .hbm, ⟨20, _⟩ => ⟨S_, .f32⟩
  | .hbm, ⟨21, _⟩ => ⟨S48x1024, .f32⟩
  | .hbm, ⟨22, _⟩ => ⟨S4160x1024, .f32⟩
  | .hbm, ⟨23, _⟩ => ⟨S4160x1024, .f32⟩
  | .hbm, ⟨24, _⟩ => ⟨S1x1024, .f32⟩
  | .local _ .vmem, ⟨0, _⟩ => ⟨S416x3200, .bf16⟩
  | .local _ .vmem, ⟨1, _⟩ => ⟨S416x3200, .bf16⟩
  | .local _ .vmem, ⟨2, _⟩ => ⟨S1024x3200, .bf16⟩
  | .local _ .vmem, ⟨3, _⟩ => ⟨S416x1024, .f32⟩
  | .local _ .vmem, ⟨4, _⟩ => ⟨S416x1024, .f32⟩
  | .local _ .vmem, ⟨5, _⟩ => ⟨S1x1024, .f32⟩
  | .local _ .vmem, ⟨6, _⟩ => ⟨S416x1024, .f32⟩
  | .local _ .vmem, ⟨7, _⟩ => ⟨S416x1024, .f32⟩
  | .local _ .vmem, ⟨8, _⟩ => ⟨S416x1024, .f32⟩
  | .local _ .vmem, ⟨9, _⟩ => ⟨S416x1024, .f32⟩
  | .local _ .vmem, ⟨10, _⟩ => ⟨S1x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v62 : BitVec 1 := Scalar.cmpi .eq arg0 c0_i32
  let v63 : BitVec 32 := Scalar.extui v62
  let c0_i32_27 : BitVec 32 := 0#32
  let v64 : BitVec 1 := Scalar.cmpi .ne v63 c0_i32_27
  v64

def k0_cond2 (i : grid0.Coords) : BitVec 1 :=
  let arg0 : BitVec 32 := BitVec.ofNat 32 (i 0).val
  let c0_i32 : BitVec 32 := 0#32
  let v62 : BitVec 1 := Scalar.cmpi .eq arg0 c0_i32
  let v_true : BitVec 1 := 1#1
  let v65 : BitVec 1 := Scalar.xori v62 v_true
  let v66 : BitVec 32 := Scalar.extui v65
  let c0_i32_28 : BitVec 32 := 0#32
  let v67 : BitVec 1 := Scalar.cmpi .ne v66 c0_i32_28
  v67

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S416x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S416x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S416x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S416x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormReferenceIdeal.lean ====
abbrev S4112x1024 : Shape := ⟨2, ![4112, 1024]⟩
abbrev S1024 : Shape := ⟨1, ![1024]⟩
abbrev S1024x3088 : Shape := ⟨2, ![1024, 3088]⟩
abbrev S4112x3088 : Shape := ⟨2, ![4112, 3088]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S4160x1024 : Shape := ⟨2, ![4160, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x3088, .f32⟩
  | .hbm, ⟨3, _⟩ => ⟨S4112x3088, .f32⟩
  | .hbm, ⟨4, _⟩ => ⟨S4112x1024, .f32⟩
  | .hbm, ⟨5, _⟩ => ⟨S4112x1024, .f32⟩
  | .hbm, ⟨6, _⟩ => ⟨S_, .f32⟩
  | .hbm, ⟨7, _⟩ => ⟨S4112, .f32⟩
  | .hbm, ⟨8, _⟩ => ⟨S4112x1, .f32⟩
  | .hbm, ⟨9, _⟩ => ⟨S_, .f32⟩
  | .hbm, ⟨10, _⟩ => ⟨S4112x1, .f32⟩
  | .hbm, ⟨11, _⟩ => ⟨S4112x1, .f32⟩
  | .hbm, ⟨12, _⟩ => ⟨S_, .f32⟩
  | .hbm, ⟨13, _⟩ => ⟨S4112x1, .f32⟩
  | .hbm, ⟨14, _⟩ => ⟨S4112x1, .f32⟩
  | .hbm, ⟨15, _⟩ => ⟨S4112x1, .f32⟩
  | .hbm, ⟨16, _⟩ => ⟨S4112x1, .f32⟩
  | .hbm, ⟨17, _⟩ => ⟨S_, .f32⟩
  | .hbm, ⟨18, _⟩ => ⟨S4112x1, .f32⟩
  | .hbm, ⟨19, _⟩ => ⟨S4112x1, .f32⟩
  | .hbm, ⟨20, _⟩ => ⟨S4112x1024, .f32⟩
  | .hbm, ⟨21, _⟩ => ⟨S4112x1024, .f32⟩
  | .hbm, ⟨22, _⟩ => ⟨S1x1024, .f32⟩
  | .hbm, ⟨23, _⟩ => ⟨S4112x1024, .f32⟩
  | .hbm, ⟨24, _⟩ => ⟨S4112x1024, .f32⟩
  | .hbm, ⟨25, _⟩ => ⟨S4112x3088, .f32⟩
  | .hbm, ⟨26, _⟩ => ⟨S4112x1024, .f32⟩
  | .hbm, ⟨27, _⟩ => ⟨S4112x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4112x1024, .f32⟩
  | .hbm, ⟨32, _⟩ => ⟨S4112x1024, .f32⟩
  | .hbm, ⟨33, _⟩ => ⟨S_, .f32⟩
  | .hbm, ⟨34, _⟩ => ⟨S1024, .f32⟩
  | .hbm, ⟨35, _⟩ => ⟨S4112x1024, .f32⟩
  | .hbm, ⟨36, _⟩ => ⟨S_, .f32⟩
  | .hbm, ⟨37, _⟩ => ⟨S4112, .f32⟩
  | .hbm, ⟨38, _⟩ => ⟨S4112x1, .f32⟩
  | .hbm, ⟨39, _⟩ => ⟨S4112x1024, .f32⟩
  | .hbm, ⟨40, _⟩ => ⟨S4112x1024, .f32⟩
  | .hbm, ⟨41, _⟩ => ⟨S4112x1024, .f32⟩
  | .hbm, ⟨42, _⟩ => ⟨S4112x1, .f32⟩
  | .hbm, ⟨43, _⟩ => ⟨S_, .f32⟩
  | .hbm, ⟨44, _⟩ => ⟨S4112x1, .f32⟩
  | .hbm, ⟨45, _⟩ => ⟨S4112x1, .f32⟩
  | .hbm, ⟨46, _⟩ => ⟨S_, .f32⟩
  | .hbm, ⟨47, _⟩ => ⟨S4112, .f32⟩
  | .hbm, ⟨48, _⟩ => ⟨S4112x1024, .f32⟩
  | .hbm, ⟨49, _⟩ => ⟨S4112x1024, .f32⟩
  | .hbm, ⟨50, _⟩ => ⟨S4112x1024, .f32⟩
  | .hbm, ⟨51, _⟩ => ⟨S4112x1024, .f32⟩
  | .hbm, ⟨52, _⟩ => ⟨S4112x1024, .f32⟩
  | .hbm, ⟨53, _⟩ => ⟨S_, .i32⟩
  | .hbm, ⟨54, _⟩ => ⟨S_, .f32⟩
  | .hbm, ⟨55, _⟩ => ⟨S4160x1024, .f32⟩
  | .hbm, ⟨56, _⟩ => ⟨S1x1024, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c : Ref sig .tc := ⟨.hbm, 53, rfl⟩
abbrev main_call0_v0 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== FfnKernel.lean ====
abbrev S4112x1024 : Shape := ⟨2, ![4112, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S4112x4096 : Shape := ⟨2, ![4112, 4096]⟩
abbrev S48x4096 : Shape := ⟨2, ![48, 4096]⟩
abbrev S4160x4096 : Shape := ⟨2, ![4160, 4096]⟩
abbrev S48x1024 : Shape := ⟨2, ![48, 1024]⟩
abbrev S4160x1024 : Shape := ⟨2, ![4160, 1024]⟩
abbrev S1024x4x1024 : Shape := ⟨3, ![1024, 4, 1024]⟩
abbrev S4x1024x1024 : Shape := ⟨3, ![4, 1024, 1024]⟩
abbrev S832x1024 : Shape := ⟨2, ![832, 1024]⟩
abbrev S1x1024x1024 : Shape := ⟨3, ![1, 1024, 1024]⟩
abbrev S1024x1024 : Shape := ⟨2, ![1024, 1024]⟩
abbrev S832 : Shape := ⟨1, ![832]⟩
abbrev S832x1 : Shape := ⟨2, ![832, 1]⟩

abbrev nBuf : Space → Nat
  | .hbm => 41
  | .vmem => 17
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4112x1024, .f32⟩
  | .hbm, ⟨5, _⟩ => ⟨S4112x1024, .f32⟩
  | .hbm, ⟨6, _⟩ => ⟨S_, .f32⟩
  | .hbm, ⟨7, _⟩ => ⟨S4112, .f32⟩
  | .hbm, ⟨8, _⟩ => ⟨S4112x1, .f32⟩
  | .hbm, ⟨9, _⟩ => ⟨S_, .f32⟩
  | .hbm, ⟨10, _⟩ => ⟨S4112x1, .f32⟩
  | .hbm, ⟨11, _⟩ => ⟨S4112x1, .f32⟩
  | .hbm, ⟨12, _⟩ => ⟨S_, .f32⟩
  | .hbm, ⟨13, _⟩ => ⟨S4112x1, .f32⟩
  | .hbm, ⟨14, _⟩ => ⟨S4112x1, .f32⟩
  | .hbm, ⟨15, _⟩ => ⟨S4112x1, .f32⟩
  | .hbm, ⟨16, _⟩ => ⟨S4112x1024, .f32⟩
  | .hbm, ⟨17, _⟩ => ⟨S4112x1024, .f32⟩
  | .hbm, ⟨18, _⟩ => ⟨S1x1024, .f32⟩
  | .hbm, ⟨19, _⟩ => ⟨S4112x1024, .f32⟩
  | .hbm, ⟨20, _⟩ => ⟨S4112x1024, .f32⟩
  | .hbm, ⟨21, _⟩ => ⟨S4112x4096, .f32⟩
  | .hbm, ⟨22, _⟩ => ⟨S_, .f32⟩
  | .hbm, ⟨23, _⟩ => ⟨S48x4096, .f32⟩
  | .hbm, ⟨24, _⟩ => ⟨S4160x4096, .f32⟩
  | .hbm, ⟨25, _⟩ => ⟨S4160x4096, .bf16⟩
  | .hbm, ⟨26, _⟩ => ⟨S_, .f32⟩
  | .hbm, ⟨27, _⟩ => ⟨S48x1024, .f32⟩
  | .hbm, ⟨28, _⟩ => ⟨S4160x1024, .f32⟩
  | .hbm, ⟨29, _⟩ => ⟨S_, .f32⟩
  | .hbm, ⟨30, _⟩ => ⟨S48x1024, .f32⟩
  | .hbm, ⟨31, _⟩ => ⟨S4160x1024, .f32⟩
  | .hbm, ⟨32, _⟩ => ⟨S1x1024, .f32⟩
  | .hbm, ⟨33, _⟩ => ⟨S1024x4x1024, .f32⟩
  | .hbm, ⟨34, _⟩ => ⟨S4x1024x1024, .f32⟩
  | .hbm, ⟨35, _⟩ => ⟨S4x1024x1024, .bf16⟩
  | .hbm, ⟨36, _⟩ => ⟨S4x1024x1024, .f32⟩
  | .hbm, ⟨37, _⟩ => ⟨S4x1024x1024, .bf16⟩
  | .hbm, ⟨38, _⟩ => ⟨S4160x1024, .f32⟩
  | .hbm, ⟨39, _⟩ => ⟨S4160x4096, .bf16⟩
  | .hbm, ⟨40, _⟩ => ⟨S1x1024, .f32⟩
  | .local _ .vmem, ⟨0, _⟩ => ⟨S832x1024, .f32⟩
  | .local _ .vmem, ⟨1, _⟩ => ⟨S832x1024, .f32⟩
  | .local _ .vmem, ⟨2, _⟩ => ⟨S832x1024, .f32⟩
  | .local _ .vmem, ⟨3, _⟩ => ⟨S832x1024, .f32⟩
  | .local _ .vmem, ⟨4, _⟩ => ⟨S1x1024, .f32⟩
  | .local _ .vmem, ⟨5, _⟩ => ⟨S832x1024, .bf16⟩
  | .local _ .vmem, ⟨6, _⟩ => ⟨S832x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S832x1024, .f32⟩
  | .local _ .vmem, ⟨12, _⟩ => ⟨S832x1024, .f32⟩
  | .local _ .vmem, ⟨13, _⟩ => ⟨S832x1024, .bf16⟩
  | .local _ .vmem, ⟨14, _⟩ => ⟨S832x1024, .bf16⟩
  | .local _ .vmem, ⟨15, _⟩ => ⟨S1x1024, .f32⟩
  | .local _ .vmem, ⟨16, _⟩ => ⟨S832x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27_0 : Ref sig .tc := ⟨.hbm, 38, rfl⟩
abbrev main_v27_1 : Ref sig .tc := ⟨.hbm, 39, rfl⟩
abbrev main_v27_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![5, 4], ![false, false]⟩

def k0_cond3 (i : grid0.Coords) : BitVec 1 :=
  let arg1 : BitVec 32 := BitVec.ofNat 32 (i 1).val
  let c3_i32 : BitVec 32 := 3#32
  let v25 : BitVec 1 := Scalar.cmpi .eq arg1 c3_i32
  let v26 : BitVec 32 := Scalar.extui v25
  let c0_i32_16 : BitVec 32 := 0#32
  let v27 : BitVec 1 := Scalar.cmpi .ne v26 c0_i32_16
  v27

def k0_cond4 (i : grid0.Coords) : BitVec 1 :=
  let arg0 : BitVec 32 := BitVec.ofNat 32 (i 0).val
  let c0_i32_34 : BitVec 32 := 0#32
  let v72 : BitVec 1 := Scalar.cmpi .eq arg0 c0_i32_34
  let v73 : BitVec 32 := Scalar.extui v72
  let c0_i32_35 : BitVec 32 := 0#32
  let v74 : BitVec 1 := Scalar.cmpi .ne v73 c0_i32_35
  v74

def k0_cond5 (i : grid0.Coords) : BitVec 1 :=
  let arg0 : BitVec 32 := BitVec.ofNat 32 (i 0).val
  let c0_i32_34 : BitVec 32 := 0#32
  let v72 : BitVec 1 := Scalar.cmpi .eq arg0 c0_i32_34
  let true_36 : BitVec 1 := 1#1
  let v75 : BitVec 1 := Scalar.xori v72 true_36
  let v76 : BitVec 32 := Scalar.extui v75
  let c0_i32_37 : BitVec 32 := 0#32
  let v77 : BitVec 1 := Scalar.cmpi .ne v76 c0_i32_37
  v77

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S832x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S832x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S832x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S832x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S832x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== FfnReferenceIdeal.lean ====
abbrev S4112x1024 : Shape := ⟨2, ![4112, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S4112x4096 : Shape := ⟨2, ![4112, 4096]⟩
abbrev S48x1024 : Shape := ⟨2, ![48, 1024]⟩
abbrev S4160x1024 : Shape := ⟨2, ![4160, 1024]⟩
abbrev S48x4096 : Shape := ⟨2, ![48, 4096]⟩
abbrev S4160x4096 : Shape := ⟨2, ![4160, 4096]⟩

abbrev nBuf : Space → Nat
  | .hbm => 78
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4112x1024, .f32⟩
  | .hbm, ⟨5, _⟩ => ⟨S4112x1024, .f32⟩
  | .hbm, ⟨6, _⟩ => ⟨S_, .f32⟩
  | .hbm, ⟨7, _⟩ => ⟨S4112, .f32⟩
  | .hbm, ⟨8, _⟩ => ⟨S4112x1, .f32⟩
  | .hbm, ⟨9, _⟩ => ⟨S_, .f32⟩
  | .hbm, ⟨10, _⟩ => ⟨S4112x1, .f32⟩
  | .hbm, ⟨11, _⟩ => ⟨S4112x1, .f32⟩
  | .hbm, ⟨12, _⟩ => ⟨S_, .f32⟩
  | .hbm, ⟨13, _⟩ => ⟨S4112x1, .f32⟩
  | .hbm, ⟨14, _⟩ => ⟨S4112x1, .f32⟩
  | .hbm, ⟨15, _⟩ => ⟨S4112x1, .f32⟩
  | .hbm, ⟨16, _⟩ => ⟨S4112x1, .f32⟩
  | .hbm, ⟨17, _⟩ => ⟨S_, .f32⟩
  | .hbm, ⟨18, _⟩ => ⟨S4112x1, .f32⟩
  | .hbm, ⟨19, _⟩ => ⟨S4112x1, .f32⟩
  | .hbm, ⟨20, _⟩ => ⟨S4112x1024, .f32⟩
  | .hbm, ⟨21, _⟩ => ⟨S4112x1024, .f32⟩
  | .hbm, ⟨22, _⟩ => ⟨S1x1024, .f32⟩
  | .hbm, ⟨23, _⟩ => ⟨S4112x1024, .f32⟩
  | .hbm, ⟨24, _⟩ => ⟨S4112x1024, .f32⟩
  | .hbm, ⟨25, _⟩ => ⟨S4112x4096, .f32⟩
  | .hbm, ⟨26, _⟩ => ⟨S_, .f32⟩
  | .hbm, ⟨27, _⟩ => ⟨S4112x4096, .f32⟩
  | .hbm, ⟨28, _⟩ => ⟨S4112x4096, .f32⟩
  | .hbm, ⟨29, _⟩ => ⟨S_, .f32⟩
  | .hbm, ⟨30, _⟩ => ⟨S4112x4096, .f32⟩
  | .hbm, ⟨31, _⟩ => ⟨S4112x4096, .i1⟩
  | .hbm, ⟨32, _⟩ => ⟨S_, .f32⟩
  | .hbm, ⟨33, _⟩ => ⟨S4112x4096, .f32⟩
  | .hbm, ⟨34, _⟩ => ⟨S4112x4096, .f32⟩
  | .hbm, ⟨35, _⟩ => ⟨S4112x1024, .f32⟩
  | .hbm, ⟨36, _⟩ => ⟨S4112x4096, .f32⟩
  | .hbm, ⟨37, _⟩ => ⟨S4112x4096, .f32⟩
  | .hbm, ⟨38, _⟩ => ⟨S4112x4096, .f32⟩
  | .hbm, ⟨39, _⟩ => ⟨S4112x4096, .f32⟩
  | .hbm, ⟨40, _⟩ => ⟨S_, .f32⟩
  | .hbm, ⟨41, _⟩ => ⟨S4112x4096, .f32⟩
  | .hbm, ⟨42, _⟩ => ⟨S4112x4096, .f32⟩
  | .hbm, ⟨43, _⟩ => ⟨S4112x1024, .f32⟩
  | .hbm, ⟨44, _⟩ => ⟨S4112x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4112x1024, .f32⟩
  | .hbm, ⟨49, _⟩ => ⟨S4112x1024, .f32⟩
  | .hbm, ⟨50, _⟩ => ⟨S_, .f32⟩
  | .hbm, ⟨51, _⟩ => ⟨S1024, .f32⟩
  | .hbm, ⟨52, _⟩ => ⟨S4112x1024, .f32⟩
  | .hbm, ⟨53, _⟩ => ⟨S_, .f32⟩
  | .hbm, ⟨54, _⟩ => ⟨S4112, .f32⟩
  | .hbm, ⟨55, _⟩ => ⟨S4112x1, .f32⟩
  | .hbm, ⟨56, _⟩ => ⟨S4112x1024, .f32⟩
  | .hbm, ⟨57, _⟩ => ⟨S4112x1024, .f32⟩
  | .hbm, ⟨58, _⟩ => ⟨S4112x1, .f32⟩
  | .hbm, ⟨59, _⟩ => ⟨S_, .f32⟩
  | .hbm, ⟨60, _⟩ => ⟨S4112x1, .f32⟩
  | .hbm, ⟨61, _⟩ => ⟨S4112x1, .f32⟩
  | .hbm, ⟨62, _⟩ => ⟨S_, .f32⟩
  | .hbm, ⟨63, _⟩ => ⟨S4112, .f32⟩
  | .hbm, ⟨64, _⟩ => ⟨S4112x1024, .f32⟩
  | .hbm, ⟨65, _⟩ => ⟨S4112x1024, .f32⟩
  | .hbm, ⟨66, _⟩ => ⟨S4112x1024, .f32⟩
  | .hbm, ⟨67, _⟩ => ⟨S4112x1024, .f32⟩
  | .hbm, ⟨68, _⟩ => ⟨S4112x1024, .f32⟩
  | .hbm, ⟨69, _⟩ => ⟨S4112x1024, .f32⟩
  | .hbm, ⟨70, _⟩ => ⟨S_, .f32⟩
  | .hbm, ⟨71, _⟩ => ⟨S48x1024, .f32⟩
  | .hbm, ⟨72, _⟩ => ⟨S4160x1024, .f32⟩
  | .hbm, ⟨73, _⟩ => ⟨S_, .f32⟩
  | .hbm, ⟨74, _⟩ => ⟨S48x4096, .f32⟩
  | .hbm, ⟨75, _⟩ => ⟨S4160x4096, .f32⟩
  | .hbm, ⟨76, _⟩ => ⟨S4160x4096, .bf16⟩
  | .hbm, ⟨77, _⟩ => ⟨S1x1024, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== HeadKernel.lean ====
abbrev S4112x1024 : Shape := ⟨2, ![4112, 1024]⟩
abbrev S1024 : Shape := ⟨1, ![1024]⟩
abbrev S1024x1536 : Shape := ⟨2, ![1024, 1536]⟩
abbrev S4112x1536 : Shape := ⟨2, ![4112, 1536]⟩
abbrev S_ : Shape := ⟨0, ![]⟩
abbrev S48x1536 : Shape := ⟨2, ![48, 1536]⟩
abbrev S4160x1536 : Shape := ⟨2, ![4160, 1536]⟩
abbrev S48x1024 : Shape := ⟨2, ![48, 1024]⟩
abbrev S4160x1024 : Shape := ⟨2, ![4160, 1024]⟩
abbrev S1x1024 : Shape := ⟨2, ![1, 1024]⟩
abbrev S64x1024 : Shape := ⟨2, ![64, 1024]⟩
abbrev S64x1536 : Shape := ⟨2, ![64, 1536]⟩
abbrev S64x512 : Shape := ⟨2, ![64, 512]⟩
abbrev S1024x512 : Shape := ⟨2, ![1024, 512]⟩
abbrev S64 : Shape := ⟨1, ![64]⟩
abbrev S64x1 : Shape := ⟨2, ![64, 1]⟩

abbrev nBuf : Space → Nat
  | .hbm => 19
  | .vmem => 7
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x1536, .f32⟩
  | .hbm, ⟨3, _⟩ => ⟨S4112x1536, .f32⟩
  | .hbm, ⟨4, _⟩ => ⟨S4112x1024, .f32⟩
  | .hbm, ⟨5, _⟩ => ⟨S_, .f32⟩
  | .hbm, ⟨6, _⟩ => ⟨S48x1536, .f32⟩
  | .hbm, ⟨7, _⟩ => ⟨S4160x1536, .f32⟩
  | .hbm, ⟨8, _⟩ => ⟨S4160x1536, .bf16⟩
  | .hbm, ⟨9, _⟩ => ⟨S1024x1536, .bf16⟩
  | .hbm, ⟨10, _⟩ => ⟨S_, .f32⟩
  | .hbm, ⟨11, _⟩ => ⟨S48x1024, .f32⟩
  | .hbm, ⟨12, _⟩ => ⟨S4160x1024, .f32⟩
  | .hbm, ⟨13, _⟩ => ⟨S1x1024, .f32⟩
  | .hbm, ⟨14, _⟩ => ⟨S_, .f32⟩
  | .hbm, ⟨15, _⟩ => ⟨S48x1024, .f32⟩
  | .hbm, ⟨16, _⟩ => ⟨S4160x1024, .f32⟩
  | .hbm, ⟨17, _⟩ => ⟨S64x1024, .f32⟩
  | .hbm, ⟨18, _⟩ => ⟨S1x1024, .f32⟩
  | .local _ .vmem, ⟨0, _⟩ => ⟨S64x1536, .bf16⟩
  | .local _ .vmem, ⟨1, _⟩ => ⟨S1024x1536, .bf16⟩
  | .local _ .vmem, ⟨2, _⟩ => ⟨S64x1024, .f32⟩
  | .local _ .vmem, ⟨3, _⟩ => ⟨S1x1024, .f32⟩
  | .local _ .vmem, ⟨4, _⟩ => ⟨S64x1024, .f32⟩
  | .local _ .vmem, ⟨5, _⟩ => ⟨S64x1024, .f32⟩
  | .local _ .vmem, ⟨6, _⟩ => ⟨S1x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== HeadReferenceIdeal.lean ====
abbrev S4112x1024 : Shape := ⟨2, ![4112, 1024]⟩
abbrev S1024 : Shape := ⟨1, ![1024]⟩
abbrev S1024x1536 : Shape := ⟨2, ![1024, 1536]⟩
abbrev S4112x1536 : Shape := ⟨2, ![4112, 1536]⟩
abbrev S16x1024 : Shape := ⟨2, ![16, 1024]⟩
abbrev S_ : Shape := ⟨0, ![]⟩
abbrev S16 : Shape := ⟨1, ![16]⟩
abbrev S16x1 : Shape := ⟨2, ![16, 1]⟩
abbrev S1x1024 : Shape := ⟨2, ![1, 1024]⟩
abbrev S16x1536 : Shape := ⟨2, ![16, 1536]⟩
abbrev S48x1024 : Shape := ⟨2, ![48, 1024]⟩
abbrev S64x1024 : Shape := ⟨2, ![64, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x1536, .f32⟩
  | .hbm, ⟨3, _⟩ => ⟨S4112x1536, .f32⟩
  | .hbm, ⟨4, _⟩ => ⟨S4112x1024, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16, .f32⟩
  | .hbm, ⟨9, _⟩ => ⟨S16x1, .f32⟩
  | .hbm, ⟨10, _⟩ => ⟨S_, .f32⟩
  | .hbm, ⟨11, _⟩ => ⟨S16x1, .f32⟩
  | .hbm, ⟨12, _⟩ => ⟨S16x1, .f32⟩
  | .hbm, ⟨13, _⟩ => ⟨S_, .f32⟩
  | .hbm, ⟨14, _⟩ => ⟨S16x1, .f32⟩
  | .hbm, ⟨15, _⟩ => ⟨S16x1, .f32⟩
  | .hbm, ⟨16, _⟩ => ⟨S16x1, .f32⟩
  | .hbm, ⟨17, _⟩ => ⟨S16x1, .f32⟩
  | .hbm, ⟨18, _⟩ => ⟨S_, .f32⟩
  | .hbm, ⟨19, _⟩ => ⟨S16x1, .f32⟩
  | .hbm, ⟨20, _⟩ => ⟨S16x1, .f32⟩
  | .hbm, ⟨21, _⟩ => ⟨S16x1024, .f32⟩
  | .hbm, ⟨22, _⟩ => ⟨S16x1024, .f32⟩
  | .hbm, ⟨23, _⟩ => ⟨S1x1024, .f32⟩
  | .hbm, ⟨24, _⟩ => ⟨S16x1024, .f32⟩
  | .hbm, ⟨25, _⟩ => ⟨S16x1024, .f32⟩
  | .hbm, ⟨26, _⟩ => ⟨S16x1536, .f32⟩
  | .hbm, ⟨27, _⟩ => ⟨S16x1024, .f32⟩
  | .hbm, ⟨28, _⟩ => ⟨S16x1536, .f32⟩
  | .hbm, ⟨29, _⟩ => ⟨S16x1024, .f32⟩
  | .hbm, ⟨30, _⟩ => ⟨S16x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S16x1024, .f32⟩
  | .hbm, ⟨35, _⟩ => ⟨S16x1024, .f32⟩
  | .hbm, ⟨36, _⟩ => ⟨S_, .f32⟩
  | .hbm, ⟨37, _⟩ => ⟨S1024, .f32⟩
  | .hbm, ⟨38, _⟩ => ⟨S16x1024, .f32⟩
  | .hbm, ⟨39, _⟩ => ⟨S_, .f32⟩
  | .hbm, ⟨40, _⟩ => ⟨S16, .f32⟩
  | .hbm, ⟨41, _⟩ => ⟨S16x1, .f32⟩
  | .hbm, ⟨42, _⟩ => ⟨S16x1024, .f32⟩
  | .hbm, ⟨43, _⟩ => ⟨S16x1024, .f32⟩
  | .hbm, ⟨44, _⟩ => ⟨S16x1024, .f32⟩
  | .hbm, ⟨45, _⟩ => ⟨S16x1, .f32⟩
  | .hbm, ⟨46, _⟩ => ⟨S_, .f32⟩
  | .hbm, ⟨47, _⟩ => ⟨S16x1, .f32⟩
  | .hbm, ⟨48, _⟩ => ⟨S16x1, .f32⟩
  | .hbm, ⟨49, _⟩ => ⟨S_, .f32⟩
  | .hbm, ⟨50, _⟩ => ⟨S16, .f32⟩
  | .hbm, ⟨51, _⟩ => ⟨S16x1024, .f32⟩
  | .hbm, ⟨52, _⟩ => ⟨S16x1024, .f32⟩
  | .hbm, ⟨53, _⟩ => ⟨S16x1024, .f32⟩
  | .hbm, ⟨54, _⟩ => ⟨S16x1024, .f32⟩
  | .hbm, ⟨55, _⟩ => ⟨S16x1024, .f32⟩
  | .hbm, ⟨56, _⟩ => ⟨S_, .f32⟩
  | .hbm, ⟨57, _⟩ => ⟨S48x1024, .f32⟩
  | .hbm, ⟨58, _⟩ => ⟨S64x1024, .f32⟩
  | .hbm, ⟨59, _⟩ => ⟨S1x1024, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== RestKernel.lean ====
abbrev S4112x1024 : Shape := ⟨2, ![4112, 1024]⟩
abbrev S1024 : Shape := ⟨1, ![1024]⟩
abbrev S1024x1536 : Shape := ⟨2, ![1024, 1536]⟩
abbrev S4112x1536 : Shape := ⟨2, ![4112, 1536]⟩
abbrev S_ : Shape := ⟨0, ![]⟩
abbrev S48x1536 : Shape := ⟨2, ![48, 1536]⟩
abbrev S4160x1536 : Shape := ⟨2, ![4160, 1536]⟩
abbrev S48x1024 : Shape := ⟨2, ![48, 1024]⟩
abbrev S4160x1024 : Shape := ⟨2, ![4160, 1024]⟩
abbrev S1x1024 : Shape := ⟨2, ![1, 1024]⟩
abbrev S4096x1024 : Shape := ⟨2, ![4096, 1024]⟩
abbrev S512x1536 : Shape := ⟨2, ![512, 1536]⟩
abbrev S512x1024 : Shape := ⟨2, ![512, 1024]⟩
abbrev S512x512 : Shape := ⟨2, ![512, 512]⟩
abbrev S1024x512 : Shape := ⟨2, ![1024, 512]⟩
abbrev S512 : Shape := ⟨1, ![512]⟩
abbrev S512x1 : Shape := ⟨2, ![512, 1]⟩

abbrev nBuf : Space → Nat
  | .hbm => 21
  | .vmem => 12
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x1536, .f32⟩
  | .hbm, ⟨3, _⟩ => ⟨S4112x1536, .f32⟩
  | .hbm, ⟨4, _⟩ => ⟨S4112x1024, .f32⟩
  | .hbm, ⟨5, _⟩ => ⟨S1024, .f32⟩
  | .hbm, ⟨6, _⟩ => ⟨S_, .f32⟩
  | .hbm, ⟨7, _⟩ => ⟨S48x1536, .f32⟩
  | .hbm, ⟨8, _⟩ => ⟨S4160x1536, .f32⟩
  | .hbm, ⟨9, _⟩ => ⟨S4160x1536, .bf16⟩
  | .hbm, ⟨10, _⟩ => ⟨S1024x1536, .bf16⟩
  | .hbm, ⟨11, _⟩ => ⟨S_, .f32⟩
  | .hbm, ⟨12, _⟩ => ⟨S48x1024, .f32⟩
  | .hbm, ⟨13, _⟩ => ⟨S4160x1024, .f32⟩
  | .hbm, ⟨14, _⟩ => ⟨S1x1024, .f32⟩
  | .hbm, ⟨15, _⟩ => ⟨S_, .f32⟩
  | .hbm, ⟨16, _⟩ => ⟨S48x1024, .f32⟩
  | .hbm, ⟨17, _⟩ => ⟨S4160x1024, .f32⟩
  | .hbm, ⟨18, _⟩ => ⟨S1x1024, .f32⟩
  | .hbm, ⟨19, _⟩ => ⟨S4096x1024, .f32⟩
  | .hbm, ⟨20, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S1024x1536, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def k0_mult1 (i : grid0.Coords) : BitVec 32 :=
  let c64_i32 : BitVec 32 := 64#32
  let arg0 : BitVec 32 := BitVec.ofNat 32 (i 0).val
  let c512_i32 : BitVec 32 := 512#32
  let v0 : BitVec 32 := Scalar.muli arg0 c512_i32
  let v1 : BitVec 32 := Scalar.addi c64_i32 v0
  v1
def k0_mult2 (i : grid0.Coords) : BitVec 32 :=
  let c64_i32 : BitVec 32 := 64#32
  let arg0 : BitVec 32 := BitVec.ofNat 32 (i 0).val
  let c512_i32 : BitVec 32 := 512#32
  let v0 : BitVec 32 := Scalar.muli arg0 c512_i32
  let v1 : BitVec 32 := Scalar.addi c64_i32 v0
  v1
def k0_mult3 (i : grid0.Coords) : BitVec 32 :=
  let c64_i32 : BitVec 32 := 64#32
  let arg0 : BitVec 32 := BitVec.ofNat 32 (i 0).val
  let c512_i32 : BitVec 32 := 512#32
  let v0 : BitVec 32 := Scalar.muli arg0 c512_i32
  let v1 : BitVec 32 := Scalar.addi c64_i32 v0
  v1
def k0_cond1 (i : grid0.Coords) : BitVec 1 :=
  let arg0 : BitVec 32 := BitVec.ofNat 32 (i 0).val
  let c0_i32 : BitVec 32 := 0#32
  let v52 : BitVec 1 := Scalar.cmpi .eq arg0 c0_i32
  let v53 : BitVec 32 := Scalar.extui v52
  let c0_i32_26 : BitVec 32 := 0#32
  let v54 : BitVec 1 := Scalar.cmpi .ne v53 c0_i32_26
  v54

def k0_cond2 (i : grid0.Coords) : BitVec 1 :=
  let arg0 : BitVec 32 := BitVec.ofNat 32 (i 0).val
  let c0_i32_27 : BitVec 32 := 0#32
  let v55 : BitVec 1 := Scalar.cmpi .sgt arg0 c0_i32_27
  let v56 : BitVec 32 := Scalar.extui v55
  let c0_i32_28 : BitVec 32 := 0#32
  let v57 : BitVec 1 := Scalar.cmpi .ne v56 c0_i32_28
  v57

def cc0_transform_0 (i : grid0.Coords) : Fin 2 → Nat :=
  let arg0 : BitVec 32 := BitVec.ofNat 32 (i 0).val
  let c512_i32 : BitVec 32 := 512#32
  let v0 : BitVec 32 := Scalar.muli arg0 c512_i32
  let c64_i32 : BitVec 32 := 64#32
  let v1 : BitVec 32 := Scalar.addi c64_i32 v0
  let v2 : BitVec 32 := v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c512_i32 : BitVec 32 := 512#32
  let v0 : BitVec 32 := Scalar.muli arg0 c512_i32
  let c64_i32 : BitVec 32 := 64#32
  let v1 : BitVec 32 := Scalar.addi c64_i32 v0
  let v2 : BitVec 32 := v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c512_i32 : BitVec 32 := 512#32
  let v0 : BitVec 32 := Scalar.muli arg0 c512_i32
  let c64_i32 : BitVec 32 := 64#32
  let v1 : BitVec 32 := Scalar.addi c64_i32 v0
  let v2 : BitVec 32 := v1
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RestReferenceIdeal.lean ====
abbrev S4112x1024 : Shape := ⟨2, ![4112, 1024]⟩
abbrev S1024 : Shape := ⟨1, ![1024]⟩
abbrev S1024x1536 : Shape := ⟨2, ![1024, 1536]⟩
abbrev S4112x1536 : Shape := ⟨2, ![4112, 1536]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x1536 : Shape := ⟨2, ![4096, 1536]⟩

abbrev nBuf : Space → Nat
  | .hbm => 59
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x1536, .f32⟩
  | .hbm, ⟨3, _⟩ => ⟨S4112x1536, .f32⟩
  | .hbm, ⟨4, _⟩ => ⟨S4112x1024, .f32⟩
  | .hbm, ⟨5, _⟩ => ⟨S1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1536, .f32⟩
  | .hbm, ⟨28, _⟩ => ⟨S4096x1024, .f32⟩
  | .hbm, ⟨29, _⟩ => ⟨S4096x1536, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S1024, .f32⟩
  | .hbm, ⟨58, _⟩ => ⟨S1x1024, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== WgradKernel.lean ====
abbrev S4112x1024 : Shape := ⟨2, ![4112, 1024]⟩
abbrev S1024 : Shape := ⟨1, ![1024]⟩
abbrev S1024x4096 : Shape := ⟨2, ![1024, 4096]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S4112x4096 : Shape := ⟨2, ![4112, 4096]⟩
abbrev S48x4096 : Shape := ⟨2, ![48, 4096]⟩
abbrev S4160x4096 : Shape := ⟨2, ![4160, 4096]⟩
abbrev S48x1024 : Shape := ⟨2, ![48, 1024]⟩
abbrev S4160x1024 : Shape := ⟨2, ![4160, 1024]⟩
abbrev S4x1024x1024 : Shape := ⟨3, ![4, 1024, 1024]⟩
abbrev S64x1024 : Shape := ⟨2, ![64, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 29
  | .vmem => 10
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x4096, .f32⟩
  | .hbm, ⟨3, _⟩ => ⟨S4112x1024, .f32⟩
  | .hbm, ⟨4, _⟩ => ⟨S4112x1024, .f32⟩
  | .hbm, ⟨5, _⟩ => ⟨S_, .f32⟩
  | .hbm, ⟨6, _⟩ => ⟨S4112, .f32⟩
  | .hbm, ⟨7, _⟩ => ⟨S4112x1, .f32⟩
  | .hbm, ⟨8, _⟩ => ⟨S_, .f32⟩
  | .hbm, ⟨9, _⟩ => ⟨S4112x1, .f32⟩
  | .hbm, ⟨10, _⟩ => ⟨S4112x1, .f32⟩
  | .hbm, ⟨11, _⟩ => ⟨S_, .f32⟩
  | .hbm, ⟨12, _⟩ => ⟨S4112x1, .f32⟩
  | .hbm, ⟨13, _⟩ => ⟨S4112x1, .f32⟩
  | .hbm, ⟨14, _⟩ => ⟨S4112x1, .f32⟩
  | .hbm, ⟨15, _⟩ => ⟨S4112x1024, .f32⟩
  | .hbm, ⟨16, _⟩ => ⟨S4112x1024, .f32⟩
  | .hbm, ⟨17, _⟩ => ⟨S1x1024, .f32⟩
  | .hbm, ⟨18, _⟩ => ⟨S4112x1024, .f32⟩
  | .hbm, ⟨19, _⟩ => ⟨S4112x1024, .f32⟩
  | .hbm, ⟨20, _⟩ => ⟨S4112x4096, .f32⟩
  | .hbm, ⟨21, _⟩ => ⟨S_, .f32⟩
  | .hbm, ⟨22, _⟩ => ⟨S48x4096, .f32⟩
  | .hbm, ⟨23, _⟩ => ⟨S4160x4096, .f32⟩
  | .hbm, ⟨24, _⟩ => ⟨S4160x4096, .bf16⟩
  | .hbm, ⟨25, _⟩ => ⟨S_, .f32⟩
  | .hbm, ⟨26, _⟩ => ⟨S48x1024, .f32⟩
  | .hbm, ⟨27, _⟩ => ⟨S4160x1024, .f32⟩
  | .hbm, ⟨28, _⟩ => ⟨S4x1024x1024, .bf16⟩
  | .local _ .vmem, ⟨0, _⟩ => ⟨S64x1024, .bf16⟩
  | .local _ .vmem, ⟨1, _⟩ => ⟨S64x1024, .bf16⟩
  | .local _ .vmem, ⟨2, _⟩ => ⟨S64x1024, .f32⟩
  | .local _ .vmem, ⟨3, _⟩ => ⟨S2048x1024, .bf16⟩
  | .local _ .vmem, ⟨4, _⟩ => ⟨S2048x1024, .bf16⟩
  | .local _ .vmem, ⟨5, _⟩ => ⟨S2048x1024, .f32⟩
  | .local _ .vmem, ⟨6, _⟩ => ⟨S2048x1024, .f32⟩
  | .local _ .vmem, ⟨7, _⟩ => ⟨S1x1024x1024, .bf16⟩
  | .local _ .vmem, ⟨8, _⟩ => ⟨S1x1024x1024, .bf16⟩
  | .local _ .vmem, ⟨9, _⟩ => ⟨S1024x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 2], ![false, false]⟩

def k0_mult1 (i : grid0.Coords) : BitVec 32 :=
  let c64_i32 : BitVec 32 := 64#32
  let arg1 : BitVec 32 := BitVec.ofNat 32 (i 1).val
  let c2048_i32 : BitVec 32 := 2048#32
  let v0 : BitVec 32 := Scalar.muli arg1 c2048_i32
  let v1 : BitVec 32 := Scalar.addi c64_i32 v0
  v1
def k0_mult2 (i : grid0.Coords) : BitVec 32 :=
  let arg0 : BitVec 32 := BitVec.ofNat 32 (i 0).val
  let c1024_i32 : BitVec 32 := 1024#32
  let v3 : BitVec 32 := Scalar.muli arg0 c1024_i32
  v3
def k0_mult3 (i : grid0.Coords) : BitVec 32 :=
  let c64_i32 : BitVec 32 := 64#32
  let arg1 : BitVec 32 := BitVec.ofNat 32 (i 1).val
  let c2048_i32 : BitVec 32 := 2048#32
  let v0 : BitVec 32 := Scalar.muli arg1 c2048_i32
  let v1 : BitVec 32 := Scalar.addi c64_i32 v0
  v1
def k0_cond3 (i : grid0.Coords) : BitVec 1 :=
  let arg1 : BitVec 32 := BitVec.ofNat 32 (i 1).val
  let c1_i32 : BitVec 32 := 1#32
  let v17 : BitVec 1 := Scalar.cmpi .eq arg1 c1_i32
  let v18 : BitVec 32 := Scalar.extui v17
  let c0_i32_7 : BitVec 32 := 0#32
  let v19 : BitVec 1 := Scalar.cmpi .ne v18 c0_i32_7
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.muli arg1 c2048_i32
  let c64_i32 : BitVec 32 := 64#32
  let v1 : BitVec 32 := Scalar.addi c64_i32 v0
  let v2 : BitVec 32 := v1
  let c1024_i32 : BitVec 32 := 1024#32
  let v3 : BitVec 32 := Scalar.muli arg0 c1024_i32
  let v4 : BitVec 32 := v3
  let c0_i32 : BitVec 32 := 0#32
  ![v2.toNat, v4.toNat]

def cc0_transform_3 (i : grid0.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.muli arg1 c2048_i32
  let c64_i32 : BitVec 32 := 64#32
  let v1 : BitVec 32 := Scalar.addi c64_i32 v0
  let v2 : BitVec 32 := v1
  let c0_i32 : BitVec 32 := 0#32
  let c0_i32_0 : BitVec 32 := 0#32
  ![v2.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== WgradReferenceIdeal.lean ====
abbrev S4112x1024 : Shape := ⟨2, ![4112, 1024]⟩
abbrev S1024 : Shape := ⟨1, ![1024]⟩
abbrev S1024x4096 : Shape := ⟨2, ![1024, 4096]⟩
abbrev S_ : Shape := ⟨0, ![]⟩
abbrev S4096x1024 : Shape := ⟨2, ![4096, 1024]⟩
abbrev S4112 : Shape := ⟨1, ![4112]⟩
abbrev S4112x1 : Shape := ⟨2, ![4112, 1]⟩
abbrev S1x1024 : Shape := ⟨2, ![1, 1024]⟩
abbrev S4112x4096 : Shape := ⟨2, ![4112, 4096]⟩
abbrev S4x1024x1024 : Shape := ⟨3, ![4, 1024, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x4096, .f32⟩
  | .hbm, ⟨3, _⟩ => ⟨S4112x1024, .f32⟩
  | .hbm, ⟨4, _⟩ => ⟨S_, .f32⟩
  | .hbm, ⟨5, _⟩ => ⟨S4096x1024, .f32⟩
  | .hbm, ⟨6, _⟩ => ⟨S4112x1024, .f32⟩
  | .hbm, ⟨7, _⟩ => ⟨S_, .f32⟩
  | .hbm, ⟨8, _⟩ => ⟨S4112, .f32⟩
  | .hbm, ⟨9, _⟩ => ⟨S4112x1, .f32⟩
  | .hbm, ⟨10, _⟩ => ⟨S_, .f32⟩
  | .hbm, ⟨11, _⟩ => ⟨S4112x1, .f32⟩
  | .hbm, ⟨12, _⟩ => ⟨S4112x1, .f32⟩
  | .hbm, ⟨13, _⟩ => ⟨S_, .f32⟩
  | .hbm, ⟨14, _⟩ => ⟨S4112x1, .f32⟩
  | .hbm, ⟨15, _⟩ => ⟨S4112x1, .f32⟩
  | .hbm, ⟨16, _⟩ => ⟨S4112x1, .f32⟩
  | .hbm, ⟨17, _⟩ => ⟨S4112x1024, .f32⟩
  | .hbm, ⟨18, _⟩ => ⟨S4112x1024, .f32⟩
  | .hbm, ⟨19, _⟩ => ⟨S1x1024, .f32⟩
  | .hbm, ⟨20, _⟩ => ⟨S4112x1024, .f32⟩
  | .hbm, ⟨21, _⟩ => ⟨S4112x1024, .f32⟩
  | .hbm, ⟨22, _⟩ => ⟨S4112x4096, .f32⟩
  | .hbm, ⟨23, _⟩ => ⟨S_, .f32⟩
  | .hbm, ⟨24, _⟩ => ⟨S4112x4096, .f32⟩
  | .hbm, ⟨25, _⟩ => ⟨S4112x4096, .f32⟩
  | .hbm, ⟨26, _⟩ => ⟨S4112x4096, .f32⟩
  | .hbm, ⟨27, _⟩ => ⟨S4112x1024, .f32⟩
  | .hbm, ⟨28, _⟩ => ⟨S1024x4096, .f32⟩
  | .hbm, ⟨29, _⟩ => ⟨S4096x1024, .f32⟩
  | .hbm, ⟨30, _⟩ => ⟨S4x1024x1024, .f32⟩
  | .hbm, ⟨31, _⟩ => ⟨S4x1024x1024, .bf16⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== GlafKernel.lean ====
abbrev S4112x3088 : Shape := ⟨2, ![4112, 3088]⟩
abbrev S16x512 : Shape := ⟨2, ![16, 512]⟩
abbrev S512 : Shape := ⟨1, ![512]⟩
abbrev S256 : Shape := ⟨1, ![256]⟩
abbrev S4112x1024 : Shape := ⟨2, ![4112, 1024]⟩
abbrev S1024x1024 : Shape := ⟨2, ![1024, 1024]⟩
abbrev S_ : Shape := ⟨0, ![]⟩
abbrev S112x512 : Shape := ⟨2, ![112, 512]⟩
abbrev S128x512 : Shape := ⟨2, ![128, 512]⟩
abbrev S48x3088 : Shape := ⟨2, ![48, 3088]⟩
abbrev S4160x3088 : Shape := ⟨2, ![4160, 3088]⟩
abbrev S4160x112 : Shape := ⟨2, ![4160, 112]⟩
abbrev S4160x3200 : Shape := ⟨2, ![4160, 3200]⟩
abbrev S1x512 : Shape := ⟨2, ![1, 512]⟩
abbrev S1x256 : Shape := ⟨2, ![1, 256]⟩
abbrev S48x1024 : Shape := ⟨2, ![48, 1024]⟩
abbrev S4160x1024 : Shape := ⟨2, ![4160, 1024]⟩
abbrev S65x1024x128 : Shape := ⟨3, ![65, 1024, 128]⟩
abbrev S832x3200 : Shape := ⟨2, ![832, 3200]⟩
abbrev S832x1024 : Shape := ⟨2, ![832, 1024]⟩
abbrev S13x1024x128 : Shape := ⟨3, ![13, 1024, 128]⟩
abbrev S1024x128 : Shape := ⟨2, ![1024, 128]⟩
abbrev S832x512 : Shape := ⟨2, ![832, 512]⟩
abbrev S104x512 : Shape := ⟨2, ![104, 512]⟩
abbrev S832x128 : Shape := ⟨2, ![832, 128]⟩
abbrev S64x64 : Shape := ⟨2, ![64, 64]⟩
abbrev S1x64x64 : Shape := ⟨3, ![1, 64, 64]⟩
abbrev S13x64x64 : Shape := ⟨3, ![13, 64, 64]⟩
abbrev S13x64x512 : Shape := ⟨3, ![13, 64, 512]⟩
abbrev S13x1x512 : Shape := ⟨3, ![13, 1, 512]⟩
abbrev S13x8x512 : Shape := ⟨3, ![13, 8, 512]⟩
abbrev S8x512 : Shape := ⟨2, ![8, 512]⟩
abbrev S1x1024x128 : Shape := ⟨3, ![1, 1024, 128]⟩
abbrev S64x256 : Shape := ⟨2, ![64, 256]⟩
abbrev S256x128 : Shape := ⟨2, ![256, 128]⟩
abbrev S1x128 : Shape := ⟨2, ![1, 128]⟩
abbrev S64x128 : Shape := ⟨2, ![64, 128]⟩
abbrev S832x256 : Shape := ⟨2, ![832, 256]⟩
abbrev S832 : Shape := ⟨1, ![832]⟩
abbrev S832x1 : Shape := ⟨2, ![832, 1]⟩

abbrev nBuf : Space → Nat
  | .hbm => 27
  | .vmem => 19
  | .smem => 0
  | _ => 0

abbrev bufTy : (tb : Table) → Fin (tcTables nBuf tb) → BufTy
  | .hbm, ⟨0, _⟩ => ⟨S4112x3088, .f32⟩
  | .hbm, ⟨1, _⟩ => ⟨S16x512, .f32⟩
  | .hbm, ⟨2, _⟩ => ⟨S512, .f32⟩
  | .hbm, ⟨3, _⟩ => ⟨S256, .f32⟩
  | .hbm, ⟨4, _⟩ => ⟨S4112x1024, .f32⟩
  | .hbm, ⟨5, _⟩ => ⟨S1024x1024, .f32⟩
  | .hbm, ⟨6, _⟩ => ⟨S_, .f32⟩
  | .hbm, ⟨7, _⟩ => ⟨S112x512, .f32⟩
  | .hbm, ⟨8, _⟩ => ⟨S128x512, .f32⟩
  | .hbm, ⟨9, _⟩ => ⟨S128x512, .bf16⟩
  | .hbm, ⟨10, _⟩ => ⟨S_, .f32⟩
  | .hbm, ⟨11, _⟩ => ⟨S48x3088, .f32⟩
  | .hbm, ⟨12, _⟩ => ⟨S4160x3088, .f32⟩
  | .hbm, ⟨13, _⟩ => ⟨S_, .f32⟩
  | .hbm, ⟨14, _⟩ => ⟨S4160x112, .f32⟩
  | .hbm, ⟨15, _⟩ => ⟨S4160x3200, .f32⟩
  | .hbm, ⟨16, _⟩ => ⟨S4160x3200, .bf16⟩
  | .hbm, ⟨17, _⟩ => ⟨S1x512, .f32⟩
  | .hbm, ⟨18, _⟩ => ⟨S1x256, .f32⟩
  | .hbm, ⟨19, _⟩ => ⟨S_, .f32⟩
  | .hbm, ⟨20, _⟩ => ⟨S48x1024, .f32⟩
  | .hbm, ⟨21, _⟩ => ⟨S4160x1024, .f32⟩
  | .hbm, ⟨22, _⟩ => ⟨S1024x1024, .bf16⟩
  | .hbm, ⟨23, _⟩ => ⟨S4160x1024, .bf16⟩
  | .hbm, ⟨24, _⟩ => ⟨S4160x1024, .bf16⟩
  | .hbm, ⟨25, _⟩ => ⟨S65x1024x128, .bf16⟩
  | .hbm, ⟨26, _⟩ => ⟨S4160x1024, .f32⟩
  | .local _ .vmem, ⟨0, _⟩ => ⟨S832x3200, .bf16⟩
  | .local _ .vmem, ⟨1, _⟩ => ⟨S832x3200, .bf16⟩
  | .local _ .vmem, ⟨2, _⟩ => ⟨S128x512, .bf16⟩
  | .local _ .vmem, ⟨3, _⟩ => ⟨S1x512, .f32⟩
  | .local _ .vmem, ⟨4, _⟩ => ⟨S1x256, .f32⟩
  | .local _ .vmem, ⟨5, _⟩ => ⟨S832x1024, .f32⟩
  | .local _ .vmem, ⟨6, _⟩ => ⟨S832x1024, .f32⟩
  | .local _ .vmem, ⟨7, _⟩ => ⟨S1024x1024, .bf16⟩
  | .local _ .vmem, ⟨8, _⟩ => ⟨S832x1024, .bf16⟩
  | .local _ .vmem, ⟨9, _⟩ => ⟨S832x1024, .bf16⟩
  | .local _ .vmem, ⟨10, _⟩ => ⟨S832x1024, .bf16⟩
  | .local _ .vmem, ⟨11, _⟩ => ⟨S832x1024, .bf16⟩
  | .local _ .vmem, ⟨12, _⟩ => ⟨S13x1024x128, .bf16⟩
  | .local _ .vmem, ⟨13, _⟩ => ⟨S13x1024x128, .bf16⟩
  | .local _ .vmem, ⟨14, _⟩ => ⟨S832x1024, .f32⟩
  | .local _ .vmem, ⟨15, _⟩ => ⟨S832x1024, .f32⟩
  | .local _ .vmem, ⟨16, _⟩ => ⟨S1024x128, .f32⟩
  | .local _ .vmem, ⟨17, _⟩ => ⟨S832x512, .bf16⟩
  | .local _ .vmem, ⟨18, _⟩ => ⟨S104x512, .f32⟩
  | _, _ => ⟨S4112x3088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v13_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![5], ![false]⟩

def k0_mult1 : BitVec 32 :=
  let c0_i32_17 : BitVec 32 := 0#32
  let c64_i32 : BitVec 32 := 64#32
  let v67 : BitVec 32 := Scalar.muli c0_i32_17 c64_i32
  v67
def k0_mult2 : BitVec 32 :=
  let c0_i32_17 : BitVec 32 := 0#32
  let c8_i32 : BitVec 32 := 8#32
  let v69 : BitVec 32 := Scalar.muli c0_i32_17 c8_i32
  v69
def k0_off1 (c0_i32_17 : BitVec 32) : Fin 2 → Nat :=
  let c8_i32 : BitVec 32 := 8#32
  let v69 : BitVec 32 := Scalar.muli c0_i32_17 c8_i32
  let v70 : BitVec 32 := v69
  let v71 : Index := Scalar.indexCast v70
  let c0_18 : Index := 0#32
  ![v71.toNat, 0]
def k0_off2 (c0_i32_17 : BitVec 32) : Fin 2 → Nat :=
  let c64_i32 : BitVec 32 := 64#32
  let v67 : BitVec 32 := Scalar.muli c0_i32_17 c64_i32
  let v68 : BitVec 32 := v67
  let v80 : Index := Scalar.indexCast v68
  let c1024 : Index := 1024#32
  ![v80.toNat, 1024]
def k0_off3 (c0_i32_17 : BitVec 32) : Fin 2 → Nat :=
  let c64_i32 : BitVec 32 := 64#32
  let v67 : BitVec 32 := Scalar.muli c0_i32_17 c64_i32
  let v68 : BitVec 32 := v67
  let v87 : Index := Scalar.indexCast v68
  let c0_25 : Index := 0#32
  ![v87.toNat, 0]
def k0_off4 (c0_i32_17 : BitVec 32) : Fin 2 → Nat :=
  let c64_i32 : BitVec 32 := 64#32
  let v67 : BitVec 32 := Scalar.muli c0_i32_17 c64_i32
  let v68 : BitVec 32 := v67
  let v94 : Index := Scalar.indexCast v68
  let c0_29 : Index := 0#32
  ![v94.toNat, 0]
def k0_off5 (c0_i32_17 : BitVec 32) : Fin 2 → Nat :=
  let c64_i32 : BitVec 32 := 64#32
  let v67 : BitVec 32 := Scalar.muli c0_i32_17 c64_i32
  let v68 : BitVec 32 := v67
  let v102 : Index := Scalar.indexCast v68
  let c0_32 : Index := 0#32
  ![v102.toNat, 0]
def k0_off6 (c0_i32_17 : BitVec 32) : Fin 2 → Nat :=
  let c64_i32 : BitVec 32 := 64#32
  let v67 : BitVec 32 := Scalar.muli c0_i32_17 c64_i32
  let v68 : BitVec 32 := v67
  let v104 : Index := Scalar.indexCast v68
  let c1280 : Index := 1280#32
  ![v104.toNat, 1280]
def k0_off7 (c0_i32_17 : BitVec 32) : Fin 2 → Nat :=
  let c64_i32 : BitVec 32 := 64#32
  let v67 : BitVec 32 := Scalar.muli c0_i32_17 c64_i32
  let v68 : BitVec 32 := v67
  let v111 : Index := Scalar.indexCast v68
  let c128 : Index := 128#32
  ![v111.toNat, 128]
def k0_off8 (c0_i32_17 : BitVec 32) : Fin 2 → Nat :=
  let c64_i32 : BitVec 32 := 64#32
  let v67 : BitVec 32 := Scalar.muli c0_i32_17 c64_i32
  let v68 : BitVec 32 := v67
  let v118 : Index := Scalar.indexCast v68
  let c128_37 : Index := 128#32
  ![v118.toNat, 128]
def k0_off9 (c0_i32_17 : BitVec 32) : Fin 2 → Nat :=
  let c64_i32 : BitVec 32 := 64#32
  let v67 : BitVec 32 := Scalar.muli c0_i32_17 c64_i32
  let v68 : BitVec 32 := v67
  let v126 : Index := Scalar.indexCast v68
  let c256_40 : Index := 256#32
  ![v126.toNat, 256]
def k0_off10 (c0_i32_17 : BitVec 32) : Fin 2 → Nat :=
  let c64_i32 : BitVec 32 := 64#32
  let v67 : BitVec 32 := Scalar.muli c0_i32_17 c64_i32
  let v68 : BitVec 32 := v67
  let v128 : Index := Scalar.indexCast v68
  let c1536 : Index := 1536#32
  ![v128.toNat, 1536]
def k0_off11 (c0_i32_17 : BitVec 32) : Fin 2 → Nat :=
  let c64_i32 : BitVec 32 := 64#32
  let v67 : BitVec 32 := Scalar.muli c0_i32_17 c64_i32
  let v68 : BitVec 32 := v67
  let v135 : Index := Scalar.indexCast v68
  let c256_43 : Index := 256#32
  ![v135.toNat, 256]
def k0_off12 (c0_i32_17 : BitVec 32) : Fin 2 → Nat :=
  let c64_i32 : BitVec 32 := 64#32
  let v67 : BitVec 32 := Scalar.muli c0_i32_17 c64_i32
  let v68 : BitVec 32 := v67
  let v142 : Index := Scalar.indexCast v68
  let c256_47 : Index := 256#32
  ![v142.toNat, 256]
def k0_off13 (c0_i32_17 : BitVec 32) : Fin 2 → Nat :=
  let c64_i32 : BitVec 32 := 64#32
  let v67 : BitVec 32 := Scalar.muli c0_i32_17 c64_i32
  let v68 : BitVec 32 := v67
  let v150 : Index := Scalar.indexCast v68
  let c512_50 : Index := 512#32
  ![v150.toNat, 512]
def k0_off14 (c0_i32_17 : BitVec 32) : Fin 2 → Nat :=
  let c64_i32 : BitVec 32 := 64#32
  let v67 : BitVec 32 := Scalar.muli c0_i32_17 c64_i32
  let v68 : BitVec 32 := v67
  let v152 : Index := Scalar.indexCast v68
  let c1792 : Index := 1792#32
  ![v152.toNat, 1792]
def k0_off15 (c0_i32_17 : BitVec 32) : Fin 2 → Nat :=
  let c64_i32 : BitVec 32 := 64#32
  let v67 : BitVec 32 := Scalar.muli c0_i32_17 c64_i32
  let v68 : BitVec 32 := v67
  let v159 : Index := Scalar.indexCast v68
  let c384 : Index := 384#32
  ![v159.toNat, 384]
def k0_off16 (c0_i32_17 : BitVec 32) : Fin 2 → Nat :=
  let c64_i32 : BitVec 32 := 64#32
  let v67 : BitVec 32 := Scalar.muli c0_i32_17 c64_i32
  let v68 : BitVec 32 := v67
  let v166 : Index := Scalar.indexCast v68
  let c384_55 : Index := 384#32
  ![v166.toNat, 384]
def k0_off17 (c0_i32_17 : BitVec 32) : Fin 2 → Nat :=
  let c64_i32 : BitVec 32 := 64#32
  let v67 : BitVec 32 := Scalar.muli c0_i32_17 c64_i32
  let v68 : BitVec 32 := v67
  let v174 : Index := Scalar.indexCast v68
  let c768_58 : Index := 768#32
  ![v174.toNat, 768]
def k0_mult3 : BitVec 32 :=
  let c1_i32 : BitVec 32 := 1#32
  let c64_i32_59 : BitVec 32 := 64#32
  let v176 : BitVec 32 := Scalar.muli c1_i32 c64_i32_59
  v176
def k0_mult4 : BitVec 32 :=
  let c1_i32 : BitVec 32 := 1#32
  let c8_i32_60 : BitVec 32 := 8#32
  let v178 : BitVec 32 := Scalar.muli c1_i32 c8_i32_60
  v178
def k0_mult5 : BitVec 32 :=
  let c2_i32 : BitVec 32 := 2#32
  let c64_i32_110 : BitVec 32 := 64#32
  let v285 : BitVec 32 := Scalar.muli c2_i32 c64_i32_110
  v285
def k0_mult6 : BitVec 32 :=
  let c2_i32 : BitVec 32 := 2#32
  let c8_i32_111 : BitVec 32 := 8#32
  let v287 : BitVec 32 := Scalar.muli c2_i32 c8_i32_111
  v287
def k0_mult7 : BitVec 32 :=
  let c3_i32 : BitVec 32 := 3#32
  let c64_i32_161 : BitVec 32 := 64#32
  let v394 : BitVec 32 := Scalar.muli c3_i32 c64_i32_161
  v394
def k0_mult8 : BitVec 32 :=
  let c3_i32 : BitVec 32 := 3#32
  let c8_i32_162 : BitVec 32 := 8#32
  let v396 : BitVec 32 := Scalar.muli c3_i32 c8_i32_162
  v396
def k0_mult9 : BitVec 32 :=
  let c4_i32 : BitVec 32 := 4#32
  let c64_i32_212 : BitVec 32 := 64#32
  let v503 : BitVec 32 := Scalar.muli c4_i32 c64_i32_212
  v503
def k0_mult10 : BitVec 32 :=
  let c4_i32 : BitVec 32 := 4#32
  let c8_i32_213 : BitVec 32 := 8#32
  let v505 : BitVec 32 := Scalar.muli c4_i32 c8_i32_213
  v505
def k0_mult11 : BitVec 32 :=
  let c5_i32 : BitVec 32 := 5#32
  let c64_i32_263 : BitVec 32 := 64#32
  let v612 : BitVec 32 := Scalar.muli c5_i32 c64_i32_263
  v612
def k0_mult12 : BitVec 32 :=
  let c5_i32 : BitVec 32 := 5#32
  let c8_i32_264 : BitVec 32 := 8#32
  let v614 : BitVec 32 := Scalar.muli c5_i32 c8_i32_264
  v614
def k0_mult13 : BitVec 32 :=
  let c6_i32 : BitVec 32 := 6#32
  let c64_i32_314 : BitVec 32 := 64#32
  let v721 : BitVec 32 := Scalar.muli c6_i32 c64_i32_314
  v721
def k0_mult14 : BitVec 32 :=
  let c6_i32 : BitVec 32 := 6#32
  let c8_i32_315 : BitVec 32 := 8#32
  let v723 : BitVec 32 := Scalar.muli c6_i32 c8_i32_315
  v723
def k0_mult15 : BitVec 32 :=
  let c7_i32 : BitVec 32 := 7#32
  let c64_i32_365 : BitVec 32 := 64#32
  let v830 : BitVec 32 := Scalar.muli c7_i32 c64_i32_365
  v830
def k0_mult16 : BitVec 32 :=
  let c7_i32 : BitVec 32 := 7#32
  let c8_i32_366 : BitVec 32 := 8#32
  let v832 : BitVec 32 := Scalar.muli c7_i32 c8_i32_366
  v832
def k0_mult17 : BitVec 32 :=
  let c8_i32_416 : BitVec 32 := 8#32
  let c64_i32_417 : BitVec 32 := 64#32
  let v939 : BitVec 32 := Scalar.muli c8_i32_416 c64_i32_417
  v939
def k0_mult18 : BitVec 32 :=
  let c8_i32_416 : BitVec 32 := 8#32
  let c8_i32_418 : BitVec 32 := 8#32
  let v941 : BitVec 32 := Scalar.muli c8_i32_416 c8_i32_418
  v941
def k0_mult19 : BitVec 32 :=
  let c9_i32 : BitVec 32 := 9#32
  let c64_i32_468 : BitVec 32 := 64#32
  let v1048 : BitVec 32 := Scalar.muli c9_i32 c64_i32_468
  v1048
def k0_mult20 : BitVec 32 :=
  let c9_i32 : BitVec 32 := 9#32
  let c8_i32_469 : BitVec 32 := 8#32
  let v1050 : BitVec 32 := Scalar.muli c9_i32 c8_i32_469
  v1050
def k0_mult21 : BitVec 32 :=
  let c10_i32 : BitVec 32 := 10#32
  let c64_i32_519 : BitVec 32 := 64#32
  let v1157 : BitVec 32 := Scalar.muli c10_i32 c64_i32_519
  v1157
def k0_mult22 : BitVec 32 :=
  let c10_i32 : BitVec 32 := 10#32
  let c8_i32_520 : BitVec 32 := 8#32
  let v1159 : BitVec 32 := Scalar.muli c10_i32 c8_i32_520
  v1159
def k0_mult23 : BitVec 32 :=
  let c11_i32 : BitVec 32 := 11#32
  let c64_i32_570 : BitVec 32 := 64#32
  let v1266 : BitVec 32 := Scalar.muli c11_i32 c64_i32_570
  v1266
def k0_mult24 : BitVec 32 :=
  let c11_i32 : BitVec 32 := 11#32
  let c8_i32_571 : BitVec 32 := 8#32
  let v1268 : BitVec 32 := Scalar.muli c11_i32 c8_i32_571
  v1268
def k0_mult25 : BitVec 32 :=
  let c12_i32 : BitVec 32 := 12#32
  let c64_i32_621 : BitVec 32 := 64#32
  let v1375 : BitVec 32 := Scalar.muli c12_i32 c64_i32_621
  v1375
def k0_mult26 : BitVec 32 :=
  let c12_i32 : BitVec 32 := 12#32
  let c8_i32_622 : BitVec 32 := 8#32
  let v1377 : BitVec 32 := Scalar.muli c12_i32 c8_i32_622
  v1377
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S832x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S832x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S832x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S832x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S13x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S832x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== GlafReferenceIdeal.lean ====
abbrev S4112x3088 : Shape := ⟨2, ![4112, 3088]⟩
abbrev S16x512 : Shape := ⟨2, ![16, 512]⟩
abbrev S512 : Shape := ⟨1, ![512]⟩
abbrev S256 : Shape := ⟨1, ![256]⟩
abbrev S4112x1024 : Shape := ⟨2, ![4112, 1024]⟩
abbrev S1024x1024 : Shape := ⟨2, ![1024, 1024]⟩
abbrev S4112x512 : Shape := ⟨2, ![4112, 512]⟩
abbrev S4112x16 : Shape := ⟨2, ![4112, 16]⟩
abbrev S1x512 : Shape := ⟨2, ![1, 512]⟩
abbrev S_ : Shape := ⟨0, ![]⟩
abbrev S48x512 : Shape := ⟨2, ![48, 512]⟩
abbrev S4160x512 : Shape := ⟨2, ![4160, 512]⟩
abbrev S65x64x4x128 : Shape := ⟨4, ![65, 64, 4, 128]⟩
abbrev S65x4x64x128 : Shape := ⟨4, ![65, 4, 64, 128]⟩
abbrev S48x1024 : Shape := ⟨2, ![48, 1024]⟩
abbrev S4160x1024 : Shape := ⟨2, ![4160, 1024]⟩
abbrev S65x64x4x256 : Shape := ⟨4, ![65, 64, 4, 256]⟩
abbrev S65x4x64x256 : Shape := ⟨4, ![65, 4, 64, 256]⟩
abbrev S65x4x1x128 : Shape := ⟨4, ![65, 4, 1, 128]⟩
abbrev S65x4x128 : Shape := ⟨3, ![65, 4, 128]⟩
abbrev S4x128x256 : Shape := ⟨3, ![4, 128, 256]⟩
abbrev S65x4x128x256 : Shape := ⟨4, ![65, 4, 128, 256]⟩
abbrev S1x4x64x128 : Shape := ⟨4, ![1, 4, 64, 128]⟩
abbrev S4x64x128 : Shape := ⟨3, ![4, 64, 128]⟩
abbrev S1x4x64x256 : Shape := ⟨4, ![1, 4, 64, 256]⟩
abbrev S4x64x256 : Shape := ⟨3, ![4, 64, 256]⟩
abbrev S1x4x128 : Shape := ⟨3, ![1, 4, 128]⟩
abbrev S4x128 : Shape := ⟨2, ![4, 128]⟩
abbrev S4x128x1 : Shape := ⟨3, ![4, 128, 1]⟩
abbrev S1x4x128x256 : Shape := ⟨4, ![1, 4, 128, 256]⟩
abbrev S65x4x256x128 : Shape := ⟨4, ![65, 4, 256, 128]⟩
abbrev S65x1024x128 : Shape := ⟨3, ![65, 1024, 128]⟩
abbrev S4160x4x256 : Shape := ⟨3, ![4160, 4, 256]⟩
abbrev S4160x4 : Shape := ⟨2, ![4160, 4]⟩
abbrev S4160x4x1 : Shape := ⟨3, ![4160, 4, 1]⟩
abbrev S1x1x256 : Shape := ⟨3, ![1, 1, 256]⟩

abbrev nBuf : Space → Nat
  | .hbm => 165
  | .vmem => 0
  | .smem => 0
  | _ => 0

abbrev hbmTy0_0 (i : Nat) : BufTy := match i % 128 with
  | 0 => ⟨S4112x3088, .f32⟩
  | 1 => ⟨S16x512, .f32⟩
  | 2 => ⟨S512, .f32⟩
  | 3 => ⟨S256, .f32⟩
  | 4 => ⟨S4112x1024, .f32⟩
  | 5 => ⟨S1024x1024, .f32⟩
  | 6 => ⟨S4112x512, .f32⟩
  | 7 => ⟨S4112x512, .f32⟩
  | 8 => ⟨S4112x1024, .f32⟩
  | 9 => ⟨S4112x1024, .f32⟩
  | 10 => ⟨S4112x16, .f32⟩
  | 11 => ⟨S4112x512, .f32⟩
  | 12 => ⟨S1x512, .f32⟩
  | 13 => ⟨S4112x512, .f32⟩
  | 14 => ⟨S4112x512, .f32⟩
  | 15 => ⟨S4112x512, .f32⟩
  | 16 => ⟨S_, .f32⟩
  | 17 => ⟨S4112x512, .f32⟩
  | 18 => ⟨S4112x512, .f32⟩
  | 19 => ⟨S4112x512, .f32⟩
  | 20 => ⟨S4112x512, .f32⟩
  | 21 => ⟨S4112x512, .i1⟩
  | 22 => ⟨S4112x512, .f32⟩
  | 23 => ⟨S4112x512, .f32⟩
  | 24 => ⟨S4112x512, .f32⟩
  | 25 => ⟨S4112x512, .f32⟩
  | 26 => ⟨S4112x512, .f32⟩
  | 27 => ⟨S4112x512, .f32⟩
  | 28 => ⟨S4112x512, .f32⟩
  | 29 => ⟨S4112x512, .f32⟩
  | 30 => ⟨S4112x512, .f32⟩
  | 31 => ⟨S_, .f32⟩
  | 32 => ⟨S4112x512, .f32⟩
  | 33 => ⟨S4112x512, .f32⟩
  | 34 => ⟨S_, .f32⟩
  | 35 => ⟨S4112x512, .f32⟩
  | 36 => ⟨S4112x512, .f32⟩
  | 37 => ⟨S_, .f32⟩
  | 38 => ⟨S48x512, .f32⟩
  | 39 => ⟨S4160x512, .f32⟩
  | 40 => ⟨S65x64x4x128, .f32⟩
  | 41 => ⟨S65x4x64x128, .f32⟩
  | 42 => ⟨S_, .f32⟩
  | 43 => ⟨S48x512, .f32⟩
  | 44 => ⟨S4160x512, .f32⟩
  | 45 => ⟨S65x64x4x128, .f32⟩
  | 46 => ⟨S65x4x64x128, .f32⟩
  | 47 => ⟨S_, .f32⟩
  | 48 => ⟨S48x1024, .f32⟩
  | 49 => ⟨S4160x1024, .f32⟩
  | 50 => ⟨S65x64x4x256, .f32⟩
  | 51 => ⟨S65x4x64x256, .f32⟩
  | 52 => ⟨S_, .f32⟩
  | 53 => ⟨S48x512, .f32⟩
  | 54 => ⟨S4160x512, .f32⟩
  | 55 => ⟨S65x64x4x128, .f32⟩
  | 56 => ⟨S65x4x64x128, .f32⟩
  | 57 => ⟨S_, .f32⟩
  | 58 => ⟨S_, .f32⟩
  | 59 => ⟨S65x4x64x128, .f32⟩
  | 60 => ⟨S65x4x1x128, .f32⟩
  | 61 => ⟨S65x4x128, .f32⟩
  | 62 => ⟨S65x4x1x128, .f32⟩
  | 63 => ⟨S65x4x64x128, .f32⟩
  | 64 => ⟨S65x4x64x128, .f32⟩
  | 65 => ⟨S65x4x64x128, .f32⟩
  | 66 => ⟨S65x4x64x128, .f32⟩
  | 67 => ⟨S_, .f32⟩
  | 68 => ⟨S4x128x256, .f32⟩
  | 69 => ⟨S_, .f32⟩
  | 70 => ⟨S65x4x128x256, .f32⟩
  | 71 => ⟨S_, .f32⟩
  | 72 => ⟨S65x4x64x256, .f32⟩
  | 73 => ⟨S_, .i32⟩
  | 74 => ⟨S65x4x64x128, .f32⟩
  | 75 => ⟨S65x4x64x128, .f32⟩
  | 76 => ⟨S65x4x64x256, .f32⟩
  | 77 => ⟨S65x4x128, .f32⟩
  | 78 => ⟨S_, .i32⟩
  | 79 => ⟨S4x128x256, .f32⟩
  | 80 => ⟨S65x4x128x256, .f32⟩
  | 81 => ⟨S65x4x64x256, .f32⟩
  | 82 => ⟨S_, .i32⟩
  | 83 => ⟨S_, .i1⟩
  | 84 => ⟨S_, .i32⟩
  | 85 => ⟨S_, .i32⟩
  | 86 => ⟨S_, .i32⟩
  | 87 => ⟨S1x4x64x128, .f32⟩
  | 88 => ⟨S4x64x128, .f32⟩
  | 89 => ⟨S_, .i32⟩
  | 90 => ⟨S_, .i32⟩
  | 91 => ⟨S_, .i32⟩
  | 92 => ⟨S1x4x64x128, .f32⟩
  | 93 => ⟨S4x64x128, .f32⟩
  | 94 => ⟨S_, .i32⟩
  | 95 => ⟨S_, .i32⟩
  | 96 => ⟨S_, .i32⟩
  | 97 => ⟨S1x4x64x256, .f32⟩
  | 98 => ⟨S4x64x256, .f32⟩
  | 99 => ⟨S_, .i32⟩
  | 100 => ⟨S_, .i32⟩
  | 101 => ⟨S1x4x128, .f32⟩
  | 102 => ⟨S4x128, .f32⟩
  | 103 => ⟨S4x128, .f32⟩
  | 104 => ⟨S4x128x1, .f32⟩
  | 105 => ⟨S4x128x256, .f32⟩
  | 106 => ⟨S4x128x256, .f32⟩
  | 107 => ⟨S4x128x256, .f32⟩
  | 108 => ⟨S4x128x256, .f32⟩
  | 109 => ⟨S4x64x256, .f32⟩
  | 110 => ⟨S1x4x128x256, .f32⟩
  | 111 => ⟨S_, .i32⟩
  | 112 => ⟨S_, .i32⟩
  | 113 => ⟨S_, .i32⟩
  | 114 => ⟨S65x4x128x256, .f32⟩
  | 115 => ⟨S1x4x64x256, .f32⟩
  | 116 => ⟨S_, .i32⟩
  | 117 => ⟨S_, .i32⟩
  | 118 => ⟨S_, .i32⟩
  | 119 => ⟨S65x4x64x256, .f32⟩
  | 120 => ⟨S_, .i32⟩
  | 121 => ⟨S_, .i32⟩
  | 122 => ⟨S65x4x256x128, .f32⟩
  | 123 => ⟨S65x1024x128, .f32⟩
  | 124 => ⟨S65x64x4x256, .f32⟩
  | 125 => ⟨S4160x4x256, .f32⟩
  | 126 => ⟨S4160x4x256, .f32⟩
  | 127 => ⟨S_, .f32⟩
  | _ => ⟨S4112x3088, .f32⟩

abbrev hbmTy0_1 (i : Nat) : BufTy := match i % 128 with
  | 0 => ⟨S4160x4, .f32⟩
  | 1 => ⟨S4160x4x1, .f32⟩
  | 2 => ⟨S_, .f32⟩
  | 3 => ⟨S4160x4x1, .f32⟩
  | 4 => ⟨S4160x4x1, .f32⟩
  | 5 => ⟨S_, .f32⟩
  | 6 => ⟨S4160x4x1, .f32⟩
  | 7 => ⟨S4160x4x1, .f32⟩
  | 8 => ⟨S4160x4x1, .f32⟩
  | 9 => ⟨S4160x4x256, .f32⟩
  | 10 => ⟨S4160x4x256, .f32⟩
  | 11 => ⟨S1x1x256, .f32⟩
  | 12 => ⟨S4160x4x256, .f32⟩
  | 13 => ⟨S4160x4x256, .f32⟩
  | 14 => ⟨S4160x1024, .f32⟩
  | 15 => ⟨S_, .f32⟩
  | 16 => ⟨S48x1024, .f32⟩
  | 17 => ⟨S4160x1024, .f32⟩
  | 18 => ⟨S4160x1024, .f32⟩
  | 19 => ⟨S4160x1024, .f32⟩
  | 20 => ⟨S_, .f32⟩
  | 21 => ⟨S4160x1024, .f32⟩
  | 22 => ⟨S4160x1024, .f32⟩
  | 23 => ⟨S_, .f32⟩
  | 24 => ⟨S4160x1024, .f32⟩
  | 25 => ⟨S4160x1024, .f32⟩
  | 26 => ⟨S4160x1024, .f32⟩
  | 27 => ⟨S4160x1024, .f32⟩
  | 28 => ⟨S4160x1024, .f32⟩
  | 29 => ⟨S4160x1024, .bf16⟩
  | 30 => ⟨S4160x1024, .bf16⟩
  | 31 => ⟨S65x1024x128, .bf16⟩
  | 32 => ⟨S_, .f32⟩
  | 33 => ⟨S48x1024, .f32⟩
  | 34 => ⟨S4160x1024, .f32⟩
  | 35 => ⟨S4160x1024, .f32⟩
  | 36 => ⟨S4160x1024, .f32⟩
  | _ => ⟨S4112x3088, .f32⟩

abbrev hbmTy (i : Nat) : BufTy := match i / 128 with
  | 0 => hbmTy0_0 i
  | 1 => hbmTy0_1 i
  | _ => ⟨S4112x3088, .f32⟩

abbrev bufTy : (tb : Table) → Fin (tcTables nBuf tb) → BufTy
  | .hbm, ⟨i, _⟩ => hbmTy i
  | _, _ => ⟨S4112x3088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v9 : Ref sig .tc := ⟨.hbm, 30, rfl⟩
abbrev main_cst : Ref sig .tc := ⟨.hbm, 31, rfl⟩
abbrev main_v10 : Ref sig .tc := ⟨.hbm, 32, rfl⟩
abbrev main_v11 : Ref sig .tc := ⟨.hbm, 33, rfl⟩
abbrev main_cst_0 : Ref sig .tc := ⟨.hbm, 34, rfl⟩
abbrev main_v12 : Ref sig .tc := ⟨.hbm, 35, rfl⟩
abbrev main_v13 : Ref sig .tc := ⟨.hbm, 36, rfl⟩
abbrev main_cst_1 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_2 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_3 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_4 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_call1_call0_cst : Ref sig .tc := ⟨.hbm, 57, rfl⟩
abbrev main_call1_call0_v0 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_5 : Ref sig .tc := ⟨.hbm, 67, rfl⟩
abbrev main_v38 : Ref sig .tc := ⟨.hbm, 68, rfl⟩
abbrev main_cst_6 : Ref sig .tc := ⟨.hbm, 69, rfl⟩
abbrev main_v39 : Ref sig .tc := ⟨.hbm, 70, rfl⟩
abbrev main_cst_7 : Ref sig .tc := ⟨.hbm, 71, rfl⟩
abbrev main_v40 : Ref sig .tc := ⟨.hbm, 72, rfl⟩
abbrev main_c : Ref sig .tc := ⟨.hbm, 73, rfl⟩
abbrev main_v41_0 : Ref sig .tc := ⟨.hbm, 74, rfl⟩
abbrev main_v41_1 : Ref sig .tc := ⟨.hbm, 75, rfl⟩
abbrev main_v41_2 : Ref sig .tc := ⟨.hbm, 76, rfl⟩
abbrev main_v41_3 : Ref sig .tc := ⟨.hbm, 77, rfl⟩
abbrev main_v41_4 : Ref sig .tc := ⟨.hbm, 78, rfl⟩
abbrev main_v41_5 : Ref sig .tc := ⟨.hbm, 79, rfl⟩
abbrev main_v41_6 : Ref sig .tc := ⟨.hbm, 80, rfl⟩
abbrev main_v41_7 : Ref sig .tc := ⟨.hbm, 81, rfl⟩
abbrev main_while0c_c_20 : Ref sig .tc := ⟨.hbm, 82, rfl⟩
abbrev main_while0c_v72 : Ref sig .tc := ⟨.hbm, 83, rfl⟩
abbrev main_while0b_call2_c : Ref sig .tc := ⟨.hbm, 84, rfl⟩
abbrev main_while0b_call2_c_0 : Ref sig .tc := ⟨.hbm, 85, rfl⟩
abbrev main_while0b_call2_c_1 : Ref sig .tc := ⟨.hbm, 86, rfl⟩
abbrev main_while0b_call2_v0 : Ref sig .tc := ⟨.hbm, 87, rfl⟩
abbrev main_while0b_v72 : Ref sig .tc := ⟨.hbm, 88, rfl⟩
abbrev main_while0b_call3_c : Ref sig .tc := ⟨.hbm, 89, rfl⟩
abbrev main_while0b_call3_c_0 : Ref sig .tc := ⟨.hbm, 90, rfl⟩
abbrev main_while0b_call3_c_1 : Ref sig .tc := ⟨.hbm, 91, rfl⟩
abbrev main_while0b_call3_v0 : Ref sig .tc := ⟨.hbm, 92, rfl⟩
abbrev main_while0b_v73 : Ref sig .tc := ⟨.hbm, 93, rfl⟩
abbrev main_while0b_call4_c : Ref sig .tc := ⟨.hbm, 94, rfl⟩
abbrev main_while0b_call4_c_0 : Ref sig .tc := ⟨.hbm, 95, rfl⟩
abbrev main_while0b_call4_c_1 : Ref sig .tc := ⟨.hbm, 96, rfl⟩
abbrev main_while0b_call4_v0 : Ref sig .tc := ⟨.hbm, 97, rfl⟩
abbrev main_while0b_v74 : Ref sig .tc := ⟨.hbm, 98, rfl⟩
abbrev main_while0b_call5_c : Ref sig .tc := ⟨.hbm, 99, rfl⟩
abbrev main_while0b_call5_c_0 : Ref sig .tc := ⟨.hbm, 100, rfl⟩
abbrev main_while0b_call5_v0 : Ref sig .tc := ⟨.hbm, 101, rfl⟩
abbrev main_while0b_v75 : Ref sig .tc := ⟨.hbm, 102, rfl⟩
abbrev main_while0b_v76 : Ref sig .tc := ⟨.hbm, 103, rfl⟩
abbrev main_while0b_v77 : Ref sig .tc := ⟨.hbm, 104, rfl⟩
abbrev main_while0b_v78 : Ref sig .tc := ⟨.hbm, 105, rfl⟩
abbrev main_while0b_v79 : Ref sig .tc := ⟨.hbm, 106, rfl⟩
abbrev main_while0b_v80 : Ref sig .tc := ⟨.hbm, 107, rfl⟩
abbrev main_while0b_v81 : Ref sig .tc := ⟨.hbm, 108, rfl⟩
abbrev main_while0b_v82 : Ref sig .tc := ⟨.hbm, 109, rfl⟩
abbrev main_while0b_call6_v0 : Ref sig .tc := ⟨.hbm, 110, rfl⟩
abbrev main_while0b_call6_c : Ref sig .tc := ⟨.hbm, 111, rfl⟩
abbrev main_while0b_call6_c_0 : Ref sig .tc := ⟨.hbm, 112, rfl⟩
abbrev main_while0b_call6_c_1 : Ref sig .tc := ⟨.hbm, 113, rfl⟩
abbrev main_while0b_v83 : Ref sig .tc := ⟨.hbm, 114, rfl⟩
abbrev main_while0b_call7_v0 : Ref sig .tc := ⟨.hbm, 115, rfl⟩
abbrev main_while0b_call7_c : Ref sig .tc := ⟨.hbm, 116, rfl⟩
abbrev main_while0b_call7_c_0 : Ref sig .tc := ⟨.hbm, 117, rfl⟩
abbrev main_while0b_call7_c_1 : Ref sig .tc := ⟨.hbm, 118, rfl⟩
abbrev main_while0b_v84 : Ref sig .tc := ⟨.hbm, 119, rfl⟩
abbrev main_while0b_c_20 : Ref sig .tc := ⟨.hbm, 120, rfl⟩
abbrev main_while0b_v85 : Ref sig .tc := ⟨.hbm, 121, rfl⟩
abbrev main_v42 : Ref sig .tc := ⟨.hbm, 122, rfl⟩
abbrev main_v43 : Ref sig .tc := ⟨.hbm, 123, rfl⟩
abbrev main_v44 : Ref sig .tc := ⟨.hbm, 124, rfl⟩
abbrev main_v45 : Ref sig .tc := ⟨.hbm, 125, rfl⟩
abbrev main_v46 : Ref sig .tc := ⟨.hbm, 126, rfl⟩
abbrev main_cst_8 : Ref sig .tc := ⟨.hbm, 127, rfl⟩
abbrev main_v47 : Ref sig .tc := ⟨.hbm, 128, rfl⟩
abbrev main_v48 : Ref sig .tc := ⟨.hbm, 129, rfl⟩
abbrev main_cst_9 : Ref sig .tc := ⟨.hbm, 130, rfl⟩
abbrev main_v49 : Ref sig .tc := ⟨.hbm, 131, rfl⟩
abbrev main_v50 : Ref sig .tc := ⟨.hbm, 132, rfl⟩
abbrev main_cst_10 : Ref sig .tc := ⟨.hbm, 133, rfl⟩
abbrev main_v51 : Ref sig .tc := ⟨.hbm, 134, rfl⟩
abbrev main_v52 : Ref sig .tc := ⟨.hbm, 135, rfl⟩
abbrev main_v53 : Ref sig .tc := ⟨.hbm, 136, rfl⟩
abbrev main_v54 : Ref sig .tc := ⟨.hbm, 137, rfl⟩
abbrev main_v55 : Ref sig .tc := ⟨.hbm, 138, rfl⟩
abbrev main_v56 : Ref sig .tc := ⟨.hbm, 139, rfl⟩
abbrev main_v57 : Ref sig .tc := ⟨.hbm, 140, rfl⟩
abbrev main_v58 : Ref sig .tc := ⟨.hbm, 141, rfl⟩
abbrev main_v59 : Ref sig .tc := ⟨.hbm, 142, rfl⟩
abbrev main_cst_11 : Ref sig .tc := ⟨.hbm, 143, rfl⟩
abbrev main_v60 : Ref sig .tc := ⟨.hbm, 144, rfl⟩
abbrev main_v61 : Ref sig .tc := ⟨.hbm, 145, rfl⟩
abbrev main_call8_v0 : Ref sig .tc := ⟨.hbm, 146, rfl⟩
abbrev main_call8_v1 : Ref sig .tc := ⟨.hbm, 147, rfl⟩
abbrev main_call8_cst : Ref sig .tc := ⟨.hbm, 148, rfl⟩
abbrev main_call8_v2 : Ref sig .tc := ⟨.hbm, 149, rfl⟩
abbrev main_call8_v3 : Ref sig .tc := ⟨.hbm, 150, rfl⟩
abbrev main_call8_cst_0 : Ref sig .tc := ⟨.hbm, 151, rfl⟩
abbrev main_call8_v4 : Ref sig .tc := ⟨.hbm, 152, rfl⟩
abbrev main_call8_v5 : Ref sig .tc := ⟨.hbm, 153, rfl⟩
abbrev main_v62 : Ref sig .tc := ⟨.hbm, 154, rfl⟩
abbrev main_v63 : Ref sig .tc := ⟨.hbm, 155, rfl⟩
abbrev main_v64 : Ref sig .tc := ⟨.hbm, 156, rfl⟩
abbrev main_v65 : Ref sig .tc := ⟨.hbm, 157, rfl⟩
abbrev main_v66 : Ref sig .tc := ⟨.hbm, 158, rfl⟩
abbrev main_v67 : Ref sig .tc := ⟨.hbm, 159, rfl⟩
abbrev main_cst_12 : Ref sig .tc := ⟨.hbm, 160, rfl⟩
abbrev main_v68 : Ref sig .tc := ⟨.hbm, 161, rfl⟩
abbrev main_v69 : Ref sig .tc := ⟨.hbm, 162, rfl⟩
abbrev main_v70 : Ref sig .tc := ⟨.hbm, 163, rfl⟩
abbrev main_v71 : Ref sig .tc := ⟨.hbm, 164, rfl⟩

abbrev nD : Nat := 1
abbrev τ : Topo := Topo.v7x

variable {F : FTy → Type} [FloatOps F]

abbrev main_while0_count : Scf.Loop 32 := ⟨0#32, 65#32, 1#32⟩
-- ==== CpfKernel.lean ====
abbrev S4112x1536 : Shape := ⟨2, ![4112, 1536]⟩
abbrev S31x512 : Shape := ⟨2, ![31, 512]⟩
abbrev S512 : Shape := ⟨1, ![512]⟩
abbrev S4x128x128 : Shape := ⟨3, ![4, 128, 128]⟩
abbrev S_ : Shape := ⟨0, ![]⟩
abbrev S48x1536 : Shape := ⟨2, ![48, 1536]⟩
abbrev S4160x1536 : Shape := ⟨2, ![4160, 1536]⟩
abbrev S1x512 : Shape := ⟨2, ![1, 512]⟩
abbrev S4160x512 : Shape := ⟨2, ![4160, 512]⟩
abbrev S4160x1024 : Shape := ⟨2, ![4160, 1024]⟩
abbrev S832x1536 : Shape := ⟨2, ![832, 1536]⟩
abbrev S832x512 : Shape := ⟨2, ![832, 512]⟩
abbrev S832x1024 : Shape := ⟨2, ![832, 1024]⟩
abbrev S864x512 : Shape := ⟨2, ![864, 512]⟩
abbrev S848x512 : Shape := ⟨2, ![848, 512]⟩
abbrev S32x512 : Shape := ⟨2, ![32, 512]⟩
abbrev S16x512 : Shape := ⟨2, ![16, 512]⟩
abbrev S64x512 : Shape := ⟨2, ![64, 512]⟩
abbrev S832 : Shape := ⟨1, ![832]⟩
abbrev S832x1 : Shape := ⟨2, ![832, 1]⟩
abbrev S848x128 : Shape := ⟨2, ![848, 128]⟩
abbrev S832x128 : Shape := ⟨2, ![832, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 18
  | .vmem => 16
  | .smem => 0
  | _ => 0

abbrev bufTy : (tb : Table) → Fin (tcTables nBuf tb) → BufTy
  | .hbm, ⟨0, _⟩ => ⟨S4112x1536, .f32⟩
  | .hbm, ⟨1, _⟩ => ⟨S31x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S4x128x128, .f32⟩
  | .hbm, ⟨6, _⟩ => ⟨S512, .f32⟩
  | .hbm, ⟨7, _⟩ => ⟨S_, .f32⟩
  | .hbm, ⟨8, _⟩ => ⟨S48x1536, .f32⟩
  | .hbm, ⟨9, _⟩ => ⟨S4160x1536, .f32⟩
  | .hbm, ⟨10, _⟩ => ⟨S4160x1536, .bf16⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S4160x512, .f32⟩
  | .hbm, ⟨16, _⟩ => ⟨S4160x512, .bf16⟩
  | .hbm, ⟨17, _⟩ => ⟨S4160x1024, .bf16⟩
  | .local _ .vmem, ⟨0, _⟩ => ⟨S832x1536, .bf16⟩
  | .local _ .vmem, ⟨1, _⟩ => ⟨S832x1536, .bf16⟩
  | .local _ .vmem, ⟨2, _⟩ => ⟨S31x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S1x512, .f32⟩
  | .local _ .vmem, ⟨8, _⟩ => ⟨S832x512, .f32⟩
  | .local _ .vmem, ⟨9, _⟩ => ⟨S832x512, .f32⟩
  | .local _ .vmem, ⟨10, _⟩ => ⟨S832x512, .bf16⟩
  | .local _ .vmem, ⟨11, _⟩ => ⟨S832x512, .bf16⟩
  | .local _ .vmem, ⟨12, _⟩ => ⟨S832x1024, .bf16⟩
  | .local _ .vmem, ⟨13, _⟩ => ⟨S832x1024, .bf16⟩
  | .local _ .vmem, ⟨14, _⟩ => ⟨S864x512, .f32⟩
  | .local _ .vmem, ⟨15, _⟩ => ⟨S848x512, .f32⟩
  | _, _ => ⟨S4112x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![5], ![false]⟩

@[reducible] def k0_t1_loop : Scf.Loop 32 :=
  let c0_i32_8 : BitVec 32 := 0#32
  let c26_i32 : BitVec 32 := 26#32
  let v23 : BitVec 32 := Scalar.addi c0_i32_8 c26_i32
  let c1_i32 : BitVec 32 := 1#32
  ⟨c0_i32_8, v23, c1_i32⟩
def k0_mult1 (k0_t1 : Fin k0_t1_loop.trips) : BitVec 32 :=
  let c0_i32_8 : BitVec 32 := 0#32
  let c1_i32 : BitVec 32 := 1#32
  let arg13 : BitVec 32 := Scf.iv c0_i32_8 c1_i32 k0_t1
  let c32_i32 : BitVec 32 := 32#32
  let v177 : BitVec 32 := Scalar.muli arg13 c32_i32
  v177
def k0_off1 (k0_t1 : Fin k0_t1_loop.trips) : Fin 2 → Nat :=
  let c0_i32_8 : BitVec 32 := 0#32
  let c1_i32 : BitVec 32 := 1#32
  let arg13 : BitVec 32 := Scf.iv c0_i32_8 c1_i32 k0_t1
  let c32_i32 : BitVec 32 := 32#32
  let v177 : BitVec 32 := Scalar.muli arg13 c32_i32
  let v178 : BitVec 32 := v177
  let v179 : Index := Scalar.indexCast v178
  let c0_79 : Index := 0#32
  ![v179.toNat, 0]
def k0_off2 (k0_t1 : Fin k0_t1_loop.trips) : Fin 2 → Nat :=
  let c0_i32_8 : BitVec 32 := 0#32
  let c1_i32 : BitVec 32 := 1#32
  let arg13 : BitVec 32 := Scf.iv c0_i32_8 c1_i32 k0_t1
  let c32_i32 : BitVec 32 := 32#32
  let v177 : BitVec 32 := Scalar.muli arg13 c32_i32
  let v178 : BitVec 32 := v177
  let v348 : Index := Scalar.indexCast v178
  let c0_119 : Index := 0#32
  ![v348.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S832x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S31x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S832x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S832x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S832x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== CpfReferenceIdeal.lean ====
abbrev S4112x1536 : Shape := ⟨2, ![4112, 1536]⟩
abbrev S31x512 : Shape := ⟨2, ![31, 512]⟩
abbrev S512 : Shape := ⟨1, ![512]⟩
abbrev S4x128x128 : Shape := ⟨3, ![4, 128, 128]⟩
abbrev S_ : Shape := ⟨0, ![]⟩
abbrev S48x1536 : Shape := ⟨2, ![48, 1536]⟩
abbrev S4160x1536 : Shape := ⟨2, ![4160, 1536]⟩
abbrev S4160x512 : Shape := ⟨2, ![4160, 512]⟩
abbrev S4112x512 : Shape := ⟨2, ![4112, 512]⟩
abbrev S1x4112x512 : Shape := ⟨3, ![1, 4112, 512]⟩
abbrev S16x4112x512 : Shape := ⟨3, ![16, 4112, 512]⟩
abbrev S15x4112x512 : Shape := ⟨3, ![15, 4112, 512]⟩
abbrev S31x4112x512 : Shape := ⟨3, ![31, 4112, 512]⟩
abbrev S31x1x512 : Shape := ⟨3, ![31, 1, 512]⟩
abbrev S1x512 : Shape := ⟨2, ![1, 512]⟩
abbrev S4112 : Shape := ⟨1, ![4112]⟩
abbrev S4112x1 : Shape := ⟨2, ![4112, 1]⟩
abbrev S4160x128 : Shape := ⟨2, ![4160, 128]⟩
abbrev S4112x128 : Shape := ⟨2, ![4112, 128]⟩
abbrev S4112x1x128 : Shape := ⟨3, ![4112, 1, 128]⟩
abbrev S4112x4x128 : Shape := ⟨3, ![4112, 4, 128]⟩
abbrev S4x128x4112 : Shape := ⟨3, ![4, 128, 4112]⟩
abbrev S4112x1024 : Shape := ⟨2, ![4112, 1024]⟩
abbrev S48x512 : Shape := ⟨2, ![48, 512]⟩
abbrev S48x1024 : Shape := ⟨2, ![48, 1024]⟩
abbrev S4160x1024 : Shape := ⟨2, ![4160, 1024]⟩

abbrev nBuf : Space → Nat
  | .hbm => 233
  | .vmem => 0
  | .smem => 0
  | _ => 0

abbrev hbmTy0_0 (i : Nat) : BufTy := match i % 128 with
  | 0 => ⟨S4112x1536, .f32⟩
  | 1 => ⟨S31x512, .f32⟩
  | 2 => ⟨S512, .f32⟩
  | 3 => ⟨S512, .f32⟩
  | 4 => ⟨S512, .f32⟩
  | 5 => ⟨S4x128x128, .f32⟩
  | 6 => ⟨S512, .f32⟩
  | 7 => ⟨S_, .f32⟩
  | 8 => ⟨S48x1536, .f32⟩
  | 9 => ⟨S4160x1536, .f32⟩
  | 10 => ⟨S4160x512, .f32⟩
  | 11 => ⟨S4160x512, .f32⟩
  | 12 => ⟨S4160x512, .f32⟩
  | 13 => ⟨S4160x512, .f32⟩
  | 14 => ⟨S_, .f32⟩
  | 15 => ⟨S4160x512, .f32⟩
  | 16 => ⟨S4160x512, .f32⟩
  | 17 => ⟨S_, .f32⟩
  | 18 => ⟨S4160x512, .f32⟩
  | 19 => ⟨S4160x512, .f32⟩
  | 20 => ⟨S4160x512, .f32⟩
  | 21 => ⟨S4112x512, .f32⟩
  | 22 => ⟨S4112x512, .f32⟩
  | 23 => ⟨S4112x512, .f32⟩
  | 24 => ⟨S4112x512, .f32⟩
  | 25 => ⟨S4112x512, .f32⟩
  | 26 => ⟨S4112x512, .f32⟩
  | 27 => ⟨S4112x512, .f32⟩
  | 28 => ⟨S4112x512, .f32⟩
  | 29 => ⟨S4112x512, .f32⟩
  | 30 => ⟨S4112x512, .f32⟩
  | 31 => ⟨S4112x512, .f32⟩
  | 32 => ⟨S4112x512, .f32⟩
  | 33 => ⟨S4112x512, .f32⟩
  | 34 => ⟨S4112x512, .f32⟩
  | 35 => ⟨S4112x512, .f32⟩
  | 36 => ⟨S4112x512, .f32⟩
  | 37 => ⟨S4112x512, .f32⟩
  | 38 => ⟨S4112x512, .f32⟩
  | 39 => ⟨S4112x512, .f32⟩
  | 40 => ⟨S4112x512, .f32⟩
  | 41 => ⟨S4112x512, .f32⟩
  | 42 => ⟨S4112x512, .f32⟩
  | 43 => ⟨S4112x512, .f32⟩
  | 44 => ⟨S4112x512, .f32⟩
  | 45 => ⟨S4112x512, .f32⟩
  | 46 => ⟨S4112x512, .f32⟩
  | 47 => ⟨S4112x512, .f32⟩
  | 48 => ⟨S4112x512, .f32⟩
  | 49 => ⟨S4112x512, .f32⟩
  | 50 => ⟨S4112x512, .f32⟩
  | 51 => ⟨S4112x512, .f32⟩
  | 52 => ⟨S1x4112x512, .f32⟩
  | 53 => ⟨S1x4112x512, .f32⟩
  | 54 => ⟨S1x4112x512, .f32⟩
  | 55 => ⟨S1x4112x512, .f32⟩
  | 56 => ⟨S1x4112x512, .f32⟩
  | 57 => ⟨S1x4112x512, .f32⟩
  | 58 => ⟨S1x4112x512, .f32⟩
  | 59 => ⟨S1x4112x512, .f32⟩
  | 60 => ⟨S1x4112x512, .f32⟩
  | 61 => ⟨S1x4112x512, .f32⟩
  | 62 => ⟨S1x4112x512, .f32⟩
  | 63 => ⟨S1x4112x512, .f32⟩
  | 64 => ⟨S1x4112x512, .f32⟩
  | 65 => ⟨S1x4112x512, .f32⟩
  | 66 => ⟨S1x4112x512, .f32⟩
  | 67 => ⟨S1x4112x512, .f32⟩
  | 68 => ⟨S1x4112x512, .f32⟩
  | 69 => ⟨S1x4112x512, .f32⟩
  | 70 => ⟨S1x4112x512, .f32⟩
  | 71 => ⟨S1x4112x512, .f32⟩
  | 72 => ⟨S1x4112x512, .f32⟩
  | 73 => ⟨S1x4112x512, .f32⟩
  | 74 => ⟨S1x4112x512, .f32⟩
  | 75 => ⟨S1x4112x512, .f32⟩
  | 76 => ⟨S1x4112x512, .f32⟩
  | 77 => ⟨S1x4112x512, .f32⟩
  | 78 => ⟨S1x4112x512, .f32⟩
  | 79 => ⟨S1x4112x512, .f32⟩
  | 80 => ⟨S1x4112x512, .f32⟩
  | 81 => ⟨S1x4112x512, .f32⟩
  | 82 => ⟨S1x4112x512, .f32⟩
  | 83 => ⟨S16x4112x512, .f32⟩
  | 84 => ⟨S15x4112x512, .f32⟩
  | 85 => ⟨S31x4112x512, .f32⟩
  | 86 => ⟨S31x1x512, .f32⟩
  | 87 => ⟨S31x4112x512, .f32⟩
  | 88 => ⟨S31x4112x512, .f32⟩
  | 89 => ⟨S_, .f32⟩
  | 90 => ⟨S4112x512, .f32⟩
  | 91 => ⟨S1x512, .f32⟩
  | 92 => ⟨S4112x512, .f32⟩
  | 93 => ⟨S4112x512, .f32⟩
  | 94 => ⟨S_, .f32⟩
  | 95 => ⟨S4112, .f32⟩
  | 96 => ⟨S4112x1, .f32⟩
  | 97 => ⟨S_, .f32⟩
  | 98 => ⟨S4112x1, .f32⟩
  | 99 => ⟨S4112x1, .f32⟩
  | 100 => ⟨S4112x512, .f32⟩
  | 101 => ⟨S4112x512, .f32⟩
  | 102 => ⟨S4112x512, .f32⟩
  | 103 => ⟨S_, .f32⟩
  | 104 => ⟨S4112, .f32⟩
  | 105 => ⟨S4112x1, .f32⟩
  | 106 => ⟨S_, .f32⟩
  | 107 => ⟨S4112x1, .f32⟩
  | 108 => ⟨S4112x1, .f32⟩
  | 109 => ⟨S_, .f32⟩
  | 110 => ⟨S4112x1, .f32⟩
  | 111 => ⟨S4112x1, .f32⟩
  | 112 => ⟨S4112x1, .f32⟩
  | 113 => ⟨S4112x512, .f32⟩
  | 114 => ⟨S4112x512, .f32⟩
  | 115 => ⟨S1x512, .f32⟩
  | 116 => ⟨S4112x512, .f32⟩
  | 117 => ⟨S4112x512, .f32⟩
  | 118 => ⟨S1x512, .f32⟩
  | 119 => ⟨S4112x512, .f32⟩
  | 120 => ⟨S4112x512, .f32⟩
  | 121 => ⟨S4112x512, .f32⟩
  | 122 => ⟨S4112x512, .f32⟩
  | 123 => ⟨S_, .f32⟩
  | 124 => ⟨S4112x512, .f32⟩
  | 125 => ⟨S4112x512, .f32⟩
  | 126 => ⟨S_, .f32⟩
  | 127 => ⟨S4112x512, .f32⟩
  | _ => ⟨S4112x1536, .f32⟩

abbrev hbmTy0_1 (i : Nat) : BufTy := match i % 128 with
  | 0 => ⟨S4112x512, .f32⟩
  | 1 => ⟨S4112x512, .f32⟩
  | 2 => ⟨S4160x128, .f32⟩
  | 3 => ⟨S_, .f32⟩
  | 4 => ⟨S_, .f32⟩
  | 5 => ⟨S4160x128, .f32⟩
  | 6 => ⟨S4112, .i32⟩
  | 7 => ⟨S_, .i32⟩
  | 8 => ⟨S4112, .i32⟩
  | 9 => ⟨S4112, .i32⟩
  | 10 => ⟨S_, .i32⟩
  | 11 => ⟨S4112, .i32⟩
  | 12 => ⟨S4112, .i32⟩
  | 13 => ⟨S4112, .f32⟩
  | 14 => ⟨S4112x1, .f32⟩
  | 15 => ⟨S4112x128, .f32⟩
  | 16 => ⟨S4112x128, .f32⟩
  | 17 => ⟨S4112x128, .f32⟩
  | 18 => ⟨S4112x128, .f32⟩
  | 19 => ⟨S4112x128, .f32⟩
  | 20 => ⟨S4112x128, .f32⟩
  | 21 => ⟨S4112x128, .f32⟩
  | 22 => ⟨S4160x128, .f32⟩
  | 23 => ⟨S_, .f32⟩
  | 24 => ⟨S_, .f32⟩
  | 25 => ⟨S4160x128, .f32⟩
  | 26 => ⟨S4112, .i32⟩
  | 27 => ⟨S_, .i32⟩
  | 28 => ⟨S4112, .i32⟩
  | 29 => ⟨S4112, .i32⟩
  | 30 => ⟨S_, .i32⟩
  | 31 => ⟨S4112, .i32⟩
  | 32 => ⟨S4112, .i32⟩
  | 33 => ⟨S4112, .f32⟩
  | 34 => ⟨S4112x1, .f32⟩
  | 35 => ⟨S4112x128, .f32⟩
  | 36 => ⟨S4112x128, .f32⟩
  | 37 => ⟨S4112x128, .f32⟩
  | 38 => ⟨S4112x128, .f32⟩
  | 39 => ⟨S4112x128, .f32⟩
  | 40 => ⟨S4112x128, .f32⟩
  | 41 => ⟨S4112x128, .f32⟩
  | 42 => ⟨S4160x128, .f32⟩
  | 43 => ⟨S_, .f32⟩
  | 44 => ⟨S_, .f32⟩
  | 45 => ⟨S4160x128, .f32⟩
  | 46 => ⟨S4112, .i32⟩
  | 47 => ⟨S_, .i32⟩
  | 48 => ⟨S4112, .i32⟩
  | 49 => ⟨S4112, .i32⟩
  | 50 => ⟨S_, .i32⟩
  | 51 => ⟨S4112, .i32⟩
  | 52 => ⟨S4112, .i32⟩
  | 53 => ⟨S4112, .f32⟩
  | 54 => ⟨S4112x1, .f32⟩
  | 55 => ⟨S4112x128, .f32⟩
  | 56 => ⟨S4112x128, .f32⟩
  | 57 => ⟨S4112x128, .f32⟩
  | 58 => ⟨S4112x128, .f32⟩
  | 59 => ⟨S4112x128, .f32⟩
  | 60 => ⟨S4112x128, .f32⟩
  | 61 => ⟨S4112x128, .f32⟩
  | 62 => ⟨S4160x128, .f32⟩
  | 63 => ⟨S_, .f32⟩
  | 64 => ⟨S_, .f32⟩
  | 65 => ⟨S4160x128, .f32⟩
  | 66 => ⟨S4112, .i32⟩
  | 67 => ⟨S_, .i32⟩
  | 68 => ⟨S4112, .i32⟩
  | 69 => ⟨S4112, .i32⟩
  | 70 => ⟨S_, .i32⟩
  | 71 => ⟨S4112, .i32⟩
  | 72 => ⟨S4112, .i32⟩
  | 73 => ⟨S4112, .f32⟩
  | 74 => ⟨S4112x1, .f32⟩
  | 75 => ⟨S4112x128, .f32⟩
  | 76 => ⟨S4112x128, .f32⟩
  | 77 => ⟨S4112x128, .f32⟩
  | 78 => ⟨S4112x128, .f32⟩
  | 79 => ⟨S4112x128, .f32⟩
  | 80 => ⟨S4112x128, .f32⟩
  | 81 => ⟨S4112x128, .f32⟩
  | 82 => ⟨S4112x1x128, .f32⟩
  | 83 => ⟨S4112x1x128, .f32⟩
  | 84 => ⟨S4112x1x128, .f32⟩
  | 85 => ⟨S4112x1x128, .f32⟩
  | 86 => ⟨S4112x4x128, .f32⟩
  | 87 => ⟨S4x128x4112, .f32⟩
  | 88 => ⟨S4112x4x128, .f32⟩
  | 89 => ⟨S4112x512, .f32⟩
  | 90 => ⟨S1x512, .f32⟩
  | 91 => ⟨S4112x512, .f32⟩
  | 92 => ⟨S4112x512, .f32⟩
  | 93 => ⟨S4112x1024, .f32⟩
  | 94 => ⟨S48x512, .f32⟩
  | 95 => ⟨S4160x512, .f32⟩
  | 96 => ⟨S4112x512, .f32⟩
  | 97 => ⟨S_, .f32⟩
  | 98 => ⟨S48x512, .f32⟩
  | 99 => ⟨S4160x512, .f32⟩
  | 100 => ⟨S4160x512, .bf16⟩
  | 101 => ⟨S_, .f32⟩
  | 102 => ⟨S48x1024, .f32⟩
  | 103 => ⟨S4160x1024, .f32⟩
  | 104 => ⟨S4160x1024, .bf16⟩
  | _ => ⟨S4112x1536, .f32⟩

abbrev hbmTy (i : Nat) : BufTy := match i / 128 with
  | 0 => hbmTy0_0 i
  | 1 => hbmTy0_1 i
  | _ => ⟨S4112x1536, .f32⟩

abbrev bufTy : (tb : Table) → Fin (tcTables nBuf tb) → BufTy
  | .hbm, ⟨i, _⟩ => hbmTy i
  | _, _ => ⟨S4112x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_cst_2 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_cst_3 : Ref sig .tc := ⟨.hbm, 94, rfl⟩
abbrev main_v83 : Ref sig .tc := ⟨.hbm, 95, rfl⟩
abbrev main_v84 : Ref sig .tc := ⟨.hbm, 96, rfl⟩
abbrev main_cst_4 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_cst_5 : Ref sig .tc := ⟨.hbm, 103, rfl⟩
abbrev main_v90 : Ref sig .tc := ⟨.hbm, 104, rfl⟩
abbrev main_v91 : Ref sig .tc := ⟨.hbm, 105, rfl⟩
abbrev main_cst_6 : Ref sig .tc := ⟨.hbm, 106, rfl⟩
abbrev main_v92 : Ref sig .tc := ⟨.hbm, 107, rfl⟩
abbrev main_v93 : Ref sig .tc := ⟨.hbm, 108, rfl⟩
abbrev main_cst_7 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_call0_v0 : Ref sig .tc := ⟨.hbm, 121, rfl⟩
abbrev main_call0_v1 : Ref sig .tc := ⟨.hbm, 122, rfl⟩
abbrev main_call0_cst : Ref sig .tc := ⟨.hbm, 123, rfl⟩
abbrev main_call0_v2 : Ref sig .tc := ⟨.hbm, 124, rfl⟩
abbrev main_call0_v3 : Ref sig .tc := ⟨.hbm, 125, rfl⟩
abbrev main_call0_cst_0 : Ref sig .tc := ⟨.hbm, 126, rfl⟩
abbrev main_call0_v4 : Ref sig .tc := ⟨.hbm, 127, rfl⟩
abbrev main_call0_v5 : Ref sig .tc := ⟨.hbm, 128, rfl⟩
abbrev main_v105 : Ref sig .tc := ⟨.hbm, 129, rfl⟩
abbrev main_v106 : Ref sig .tc := ⟨.hbm, 130, rfl⟩
abbrev main_call1_call0_cst : Ref sig .tc := ⟨.hbm, 131, rfl⟩
abbrev main_call1_call0_v0 : Ref sig .tc := ⟨.hbm, 132, rfl⟩
abbrev main_v107 : Ref sig .tc := ⟨.hbm, 133, rfl⟩
abbrev main_v108 : Ref sig .tc := ⟨.hbm, 134, rfl⟩
abbrev main_c : Ref sig .tc := ⟨.hbm, 135, rfl⟩
abbrev main_v109 : Ref sig .tc := ⟨.hbm, 136, rfl⟩
abbrev main_v110 : Ref sig .tc := ⟨.hbm, 137, rfl⟩
abbrev main_c_8 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_call2_call0_cst : Ref sig .tc := ⟨.hbm, 151, rfl⟩
abbrev main_call2_call0_v0 : Ref sig .tc := ⟨.hbm, 152, rfl⟩
abbrev main_v123 : Ref sig .tc := ⟨.hbm, 153, rfl⟩
abbrev main_v124 : Ref sig .tc := ⟨.hbm, 154, rfl⟩
abbrev main_c_9 : Ref sig .tc := ⟨.hbm, 155, rfl⟩
abbrev main_v125 : Ref sig .tc := ⟨.hbm, 156, rfl⟩
abbrev main_v126 : Ref sig .tc := ⟨.hbm, 157, rfl⟩
abbrev main_c_10 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_call3_call0_cst : Ref sig .tc := ⟨.hbm, 171, rfl⟩
abbrev main_call3_call0_v0 : Ref sig .tc := ⟨.hbm, 172, rfl⟩
abbrev main_v139 : Ref sig .tc := ⟨.hbm, 173, rfl⟩
abbrev main_v140 : Ref sig .tc := ⟨.hbm, 174, rfl⟩
abbrev main_c_11 : Ref sig .tc := ⟨.hbm, 175, rfl⟩
abbrev main_v141 : Ref sig .tc := ⟨.hbm, 176, rfl⟩
abbrev main_v142 : Ref sig .tc := ⟨.hbm, 177, rfl⟩
abbrev main_c_12 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_call4_call0_cst : Ref sig .tc := ⟨.hbm, 191, rfl⟩
abbrev main_call4_call0_v0 : Ref sig .tc := ⟨.hbm, 192, rfl⟩
abbrev main_v155 : Ref sig .tc := ⟨.hbm, 193, rfl⟩
abbrev main_v156 : Ref sig .tc := ⟨.hbm, 194, rfl⟩
abbrev main_c_13 : Ref sig .tc := ⟨.hbm, 195, rfl⟩
abbrev main_v157 : Ref sig .tc := ⟨.hbm, 196, rfl⟩
abbrev main_v158 : Ref sig .tc := ⟨.hbm, 197, rfl⟩
abbrev main_c_14 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_cst_15 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_cst_16 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩

abbrev nD : Nat := 1
abbrev τ : Topo := Topo.v7x

variable {F : FTy → Type} [FloatOps F]
-- ==== NmKernel.lean ====
abbrev S4112x1024 : Shape := ⟨2, ![4112, 1024]⟩
abbrev S1024 : Shape := ⟨1, ![1024]⟩
abbrev S1024x3088 : Shape := ⟨2, ![1024, 3088]⟩
abbrev S_ : Shape := ⟨0, ![]⟩
abbrev S48x1024 : Shape := ⟨2, ![48, 1024]⟩
abbrev S4160x1024 : Shape := ⟨2, ![4160, 1024]⟩
abbrev S1x1024 : Shape := ⟨2, ![1, 1024]⟩
abbrev S1024x112 : Shape := ⟨2, ![1024, 112]⟩
abbrev S1024x3200 : Shape := ⟨2, ![1024, 3200]⟩
abbrev S4160x3200 : Shape := ⟨2, ![4160, 3200]⟩
abbrev S1040x1024 : Shape := ⟨2, ![1040, 1024]⟩
abbrev S1040x3200 : Shape := ⟨2, ![1040, 3200]⟩
abbrev S1040 : Shape := ⟨1, ![1040]⟩
abbrev S1040x1 : Shape := ⟨2, ![1040, 1]⟩
abbrev S1024x1280 : Shape := ⟨2, ![1024, 1280]⟩
abbrev S1040x1280 : Shape := ⟨2, ![1040, 1280]⟩
abbrev S1024x640 : Shape := ⟨2, ![1024, 640]⟩
abbrev S1040x640 : Shape := ⟨2, ![1040, 640]⟩

abbrev nBuf : Space → Nat
  | .hbm => 13
  | .vmem => 8
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x3088, .f32⟩
  | .hbm, ⟨3, _⟩ => ⟨S_, .f32⟩
  | .hbm, ⟨4, _⟩ => ⟨S48x1024, .f32⟩
  | .hbm, ⟨5, _⟩ => ⟨S4160x1024, .f32⟩
  | .hbm, ⟨6, _⟩ => ⟨S1x1024, .f32⟩
  | .hbm, ⟨7, _⟩ => ⟨S_, .f32⟩
  | .hbm, ⟨8, _⟩ => ⟨S1024x112, .f32⟩
  | .hbm, ⟨9, _⟩ => ⟨S1024x3200, .f32⟩
  | .hbm, ⟨10, _⟩ => ⟨S1024x3200, .bf16⟩
  | .hbm, ⟨11, _⟩ => ⟨S4160x3200, .bf16⟩
  | .hbm, ⟨12, _⟩ => ⟨S4160x1024, .bf16⟩
  | .local _ .vmem, ⟨0, _⟩ => ⟨S1040x1024, .f32⟩
  | .local _ .vmem, ⟨1, _⟩ => ⟨S1040x1024, .f32⟩
  | .local _ .vmem, ⟨2, _⟩ => ⟨S1x1024, .f32⟩
  | .local _ .vmem, ⟨3, _⟩ => ⟨S1024x3200, .bf16⟩
  | .local _ .vmem, ⟨4, _⟩ => ⟨S1040x3200, .bf16⟩
  | .local _ .vmem, ⟨5, _⟩ => ⟨S1040x3200, .bf16⟩
  | .local _ .vmem, ⟨6, _⟩ => ⟨S1040x1024, .bf16⟩
  | .local _ .vmem, ⟨7, _⟩ => ⟨S1040x1024, .bf16⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1040x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1040x3200 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1040x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NmReferenceIdeal.lean ====
abbrev S4112x1024 : Shape := ⟨2, ![4112, 1024]⟩
abbrev S1024 : Shape := ⟨1, ![1024]⟩
abbrev S1024x3088 : Shape := ⟨2, ![1024, 3088]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S4112x3088 : Shape := ⟨2, ![4112, 3088]⟩
abbrev S48x3088 : Shape := ⟨2, ![48, 3088]⟩
abbrev S4160x3088 : Shape := ⟨2, ![4160, 3088]⟩
abbrev S4160x112 : Shape := ⟨2, ![4160, 112]⟩
abbrev S4160x3200 : Shape := ⟨2, ![4160, 3200]⟩
abbrev S48x1024 : Shape := ⟨2, ![48, 1024]⟩
abbrev S4160x1024 : Shape := ⟨2, ![4160, 1024]⟩

abbrev nBuf : Space → Nat
  | .hbm => 31
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x3088, .f32⟩
  | .hbm, ⟨3, _⟩ => ⟨S4112x1024, .f32⟩
  | .hbm, ⟨4, _⟩ => ⟨S_, .f32⟩
  | .hbm, ⟨5, _⟩ => ⟨S4112, .f32⟩
  | .hbm, ⟨6, _⟩ => ⟨S4112x1, .f32⟩
  | .hbm, ⟨7, _⟩ => ⟨S_, .f32⟩
  | .hbm, ⟨8, _⟩ => ⟨S4112x1, .f32⟩
  | .hbm, ⟨9, _⟩ => ⟨S4112x1, .f32⟩
  | .hbm, ⟨10, _⟩ => ⟨S_, .f32⟩
  | .hbm, ⟨11, _⟩ => ⟨S4112x1, .f32⟩
  | .hbm, ⟨12, _⟩ => ⟨S4112x1, .f32⟩
  | .hbm, ⟨13, _⟩ => ⟨S4112x1, .f32⟩
  | .hbm, ⟨14, _⟩ => ⟨S4112x1024, .f32⟩
  | .hbm, ⟨15, _⟩ => ⟨S4112x1024, .f32⟩
  | .hbm, ⟨16, _⟩ => ⟨S1x1024, .f32⟩
  | .hbm, ⟨17, _⟩ => ⟨S4112x1024, .f32⟩
  | .hbm, ⟨18, _⟩ => ⟨S4112x1024, .f32⟩
  | .hbm, ⟨19, _⟩ => ⟨S4112x3088, .f32⟩
  | .hbm, ⟨20, _⟩ => ⟨S_, .f32⟩
  | .hbm, ⟨21, _⟩ => ⟨S48x3088, .f32⟩
  | .hbm, ⟨22, _⟩ => ⟨S4160x3088, .f32⟩
  | .hbm, ⟨23, _⟩ => ⟨S_, .f32⟩
  | .hbm, ⟨24, _⟩ => ⟨S4160x112, .f32⟩
  | .hbm, ⟨25, _⟩ => ⟨S4160x3200, .f32⟩
  | .hbm, ⟨26, _⟩ => ⟨S4160x3200, .bf16⟩
  | .hbm, ⟨27, _⟩ => ⟨S_, .f32⟩
  | .hbm, ⟨28, _⟩ => ⟨S48x1024, .f32⟩
  | .hbm, ⟨29, _⟩ => ⟨S4160x1024, .f32⟩
  | .hbm, ⟨30, _⟩ => ⟨S4160x1024, .bf16⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== NcKernel.lean ====
abbrev S4112x1024 : Shape := ⟨2, ![4112, 1024]⟩
abbrev S1024 : Shape := ⟨1, ![1024]⟩
abbrev S1024x1536 : Shape := ⟨2, ![1024, 1536]⟩
abbrev S_ : Shape := ⟨0, ![]⟩
abbrev S48x1024 : Shape := ⟨2, ![48, 1024]⟩
abbrev S4160x1024 : Shape := ⟨2, ![4160, 1024]⟩
abbrev S1x1024 : Shape := ⟨2, ![1, 1024]⟩
abbrev S4160x1536 : Shape := ⟨2, ![4160, 1536]⟩
abbrev S1040x1024 : Shape := ⟨2, ![1040, 1024]⟩
abbrev S1040x1536 : Shape := ⟨2, ![1040, 1536]⟩
abbrev S1040 : Shape := ⟨1, ![1040]⟩
abbrev S1040x1 : Shape := ⟨2, ![1040, 1]⟩
abbrev S1024x512 : Shape := ⟨2, ![1024, 512]⟩
abbrev S1040x512 : Shape := ⟨2, ![1040, 512]⟩

abbrev nBuf : Space → Nat
  | .hbm => 10
  | .vmem => 8
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x1536, .f32⟩
  | .hbm, ⟨3, _⟩ => ⟨S_, .f32⟩
  | .hbm, ⟨4, _⟩ => ⟨S48x1024, .f32⟩
  | .hbm, ⟨5, _⟩ => ⟨S4160x1024, .f32⟩
  | .hbm, ⟨6, _⟩ => ⟨S1x1024, .f32⟩
  | .hbm, ⟨7, _⟩ => ⟨S1024x1536, .bf16⟩
  | .hbm, ⟨8, _⟩ => ⟨S4160x1536, .bf16⟩
  | .hbm, ⟨9, _⟩ => ⟨S4160x1024, .bf16⟩
  | .local _ .vmem, ⟨0, _⟩ => ⟨S1040x1024, .f32⟩
  | .local _ .vmem, ⟨1, _⟩ => ⟨S1040x1024, .f32⟩
  | .local _ .vmem, ⟨2, _⟩ => ⟨S1x1024, .f32⟩
  | .local _ .vmem, ⟨3, _⟩ => ⟨S1024x1536, .bf16⟩
  | .local _ .vmem, ⟨4, _⟩ => ⟨S1040x1536, .bf16⟩
  | .local _ .vmem, ⟨5, _⟩ => ⟨S1040x1536, .bf16⟩
  | .local _ .vmem, ⟨6, _⟩ => ⟨S1040x1024, .bf16⟩
  | .local _ .vmem, ⟨7, _⟩ => ⟨S1040x1024, .bf16⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1040x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1040x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1040x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NcReferenceIdeal.lean ====
abbrev S4112x1024 : Shape := ⟨2, ![4112, 1024]⟩
abbrev S1024 : Shape := ⟨1, ![1024]⟩
abbrev S1024x1536 : Shape := ⟨2, ![1024, 1536]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S4112x1536 : Shape := ⟨2, ![4112, 1536]⟩
abbrev S48x1536 : Shape := ⟨2, ![48, 1536]⟩
abbrev S4160x1536 : Shape := ⟨2, ![4160, 1536]⟩
abbrev S48x1024 : Shape := ⟨2, ![48, 1024]⟩
abbrev S4160x1024 : Shape := ⟨2, ![4160, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x1536, .f32⟩
  | .hbm, ⟨3, _⟩ => ⟨S4112x1024, .f32⟩
  | .hbm, ⟨4, _⟩ => ⟨S_, .f32⟩
  | .hbm, ⟨5, _⟩ => ⟨S4112, .f32⟩
  | .hbm, ⟨6, _⟩ => ⟨S4112x1, .f32⟩
  | .hbm, ⟨7, _⟩ => ⟨S_, .f32⟩
  | .hbm, ⟨8, _⟩ => ⟨S4112x1, .f32⟩
  | .hbm, ⟨9, _⟩ => ⟨S4112x1, .f32⟩
  | .hbm, ⟨10, _⟩ => ⟨S_, .f32⟩
  | .hbm, ⟨11, _⟩ => ⟨S4112x1, .f32⟩
  | .hbm, ⟨12, _⟩ => ⟨S4112x1, .f32⟩
  | .hbm, ⟨13, _⟩ => ⟨S4112x1, .f32⟩
  | .hbm, ⟨14, _⟩ => ⟨S4112x1024, .f32⟩
  | .hbm, ⟨15, _⟩ => ⟨S4112x1024, .f32⟩
  | .hbm, ⟨16, _⟩ => ⟨S1x1024, .f32⟩
  | .hbm, ⟨17, _⟩ => ⟨S4112x1024, .f32⟩
  | .hbm, ⟨18, _⟩ => ⟨S4112x1024, .f32⟩
  | .hbm, ⟨19, _⟩ => ⟨S4112x1536, .f32⟩
  | .hbm, ⟨20, _⟩ => ⟨S_, .f32⟩
  | .hbm, ⟨21, _⟩ => ⟨S48x1536, .f32⟩
  | .hbm, ⟨22, _⟩ => ⟨S4160x1536, .f32⟩
  | .hbm, ⟨23, _⟩ => ⟨S4160x1536, .bf16⟩
  | .hbm, ⟨24, _⟩ => ⟨S_, .f32⟩
  | .hbm, ⟨25, _⟩ => ⟨S48x1024, .f32⟩
  | .hbm, ⟨26, _⟩ => ⟨S4160x1024, .f32⟩
  | .hbm, ⟨27, _⟩ => ⟨S4160x1024, .bf16⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== FfKernel.lean ====
abbrev S4112x1024 : Shape := ⟨2, ![4112, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S48x1024 : Shape := ⟨2, ![48, 1024]⟩
abbrev S4160x1024 : Shape := ⟨2, ![4160, 1024]⟩
abbrev S1x1024 : Shape := ⟨2, ![1, 1024]⟩
abbrev S1024x4x1024 : Shape := ⟨3, ![1024, 4, 1024]⟩
abbrev S4x1024x1024 : Shape := ⟨3, ![4, 1024, 1024]⟩
abbrev S4160x4096 : Shape := ⟨2, ![4160, 4096]⟩
abbrev S1040x1024 : Shape := ⟨2, ![1040, 1024]⟩
abbrev S1x1024x1024 : Shape := ⟨3, ![1, 1024, 1024]⟩
abbrev S1040 : Shape := ⟨1, ![1040]⟩
abbrev S1040x1 : Shape := ⟨2, ![1040, 1]⟩
abbrev S1024x1024 : Shape := ⟨2, ![1024, 1024]⟩

abbrev nBuf : Space → Nat
  | .hbm => 16
  | .vmem => 14
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S_, .f32⟩
  | .hbm, ⟨5, _⟩ => ⟨S48x1024, .f32⟩
  | .hbm, ⟨6, _⟩ => ⟨S4160x1024, .f32⟩
  | .hbm, ⟨7, _⟩ => ⟨S1x1024, .f32⟩
  | .hbm, ⟨8, _⟩ => ⟨S1024x4x1024, .f32⟩
  | .hbm, ⟨9, _⟩ => ⟨S4x1024x1024, .f32⟩
  | .hbm, ⟨10, _⟩ => ⟨S4x1024x1024, .bf16⟩
  | .hbm, ⟨11, _⟩ => ⟨S4x1024x1024, .f32⟩
  | .hbm, ⟨12, _⟩ => ⟨S4x1024x1024, .bf16⟩
  | .hbm, ⟨13, _⟩ => ⟨S4160x1024, .f32⟩
  | .hbm, ⟨14, _⟩ => ⟨S4160x4096, .bf16⟩
  | .hbm, ⟨15, _⟩ => ⟨S4160x1024, .bf16⟩
  | .local _ .vmem, ⟨0, _⟩ => ⟨S1040x1024, .f32⟩
  | .local _ .vmem, ⟨1, _⟩ => ⟨S1040x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1040x1024, .f32⟩
  | .local _ .vmem, ⟨8, _⟩ => ⟨S1040x1024, .f32⟩
  | .local _ .vmem, ⟨9, _⟩ => ⟨S1040x1024, .bf16⟩
  | .local _ .vmem, ⟨10, _⟩ => ⟨S1040x1024, .bf16⟩
  | .local _ .vmem, ⟨11, _⟩ => ⟨S1040x1024, .bf16⟩
  | .local _ .vmem, ⟨12, _⟩ => ⟨S1040x1024, .bf16⟩
  | .local _ .vmem, ⟨13, _⟩ => ⟨S1040x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v38 : BitVec 1 := Scalar.cmpi .eq arg1 c3_i32
  let v39 : BitVec 32 := Scalar.extui v38
  let c0_i32_22 : BitVec 32 := 0#32
  let v40 : BitVec 1 := Scalar.cmpi .ne v39 c0_i32_22
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1040x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1040x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1040x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1040x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfReferenceIdeal.lean ====
abbrev S4112x1024 : Shape := ⟨2, ![4112, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S4112x4096 : Shape := ⟨2, ![4112, 4096]⟩
abbrev S48x1024 : Shape := ⟨2, ![48, 1024]⟩
abbrev S4160x1024 : Shape := ⟨2, ![4160, 1024]⟩
abbrev S48x4096 : Shape := ⟨2, ![48, 4096]⟩
abbrev S4160x4096 : Shape := ⟨2, ![4160, 4096]⟩

abbrev nBuf : Space → Nat
  | .hbm => 38
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4112x1024, .f32⟩
  | .hbm, ⟨5, _⟩ => ⟨S_, .f32⟩
  | .hbm, ⟨6, _⟩ => ⟨S4112, .f32⟩
  | .hbm, ⟨7, _⟩ => ⟨S4112x1, .f32⟩
  | .hbm, ⟨8, _⟩ => ⟨S_, .f32⟩
  | .hbm, ⟨9, _⟩ => ⟨S4112x1, .f32⟩
  | .hbm, ⟨10, _⟩ => ⟨S4112x1, .f32⟩
  | .hbm, ⟨11, _⟩ => ⟨S_, .f32⟩
  | .hbm, ⟨12, _⟩ => ⟨S4112x1, .f32⟩
  | .hbm, ⟨13, _⟩ => ⟨S4112x1, .f32⟩
  | .hbm, ⟨14, _⟩ => ⟨S4112x1, .f32⟩
  | .hbm, ⟨15, _⟩ => ⟨S4112x1024, .f32⟩
  | .hbm, ⟨16, _⟩ => ⟨S4112x1024, .f32⟩
  | .hbm, ⟨17, _⟩ => ⟨S1x1024, .f32⟩
  | .hbm, ⟨18, _⟩ => ⟨S4112x1024, .f32⟩
  | .hbm, ⟨19, _⟩ => ⟨S4112x1024, .f32⟩
  | .hbm, ⟨20, _⟩ => ⟨S4112x4096, .f32⟩
  | .hbm, ⟨21, _⟩ => ⟨S_, .f32⟩
  | .hbm, ⟨22, _⟩ => ⟨S4112x4096, .f32⟩
  | .hbm, ⟨23, _⟩ => ⟨S4112x4096, .f32⟩
  | .hbm, ⟨24, _⟩ => ⟨S4112x4096, .f32⟩
  | .hbm, ⟨25, _⟩ => ⟨S4112x1024, .f32⟩
  | .hbm, ⟨26, _⟩ => ⟨S4112x1024, .f32⟩
  | .hbm, ⟨27, _⟩ => ⟨S_, .f32⟩
  | .hbm, ⟨28, _⟩ => ⟨S48x1024, .f32⟩
  | .hbm, ⟨29, _⟩ => ⟨S4160x1024, .f32⟩
  | .hbm, ⟨30, _⟩ => ⟨S_, .f32⟩
  | .hbm, ⟨31, _⟩ => ⟨S48x4096, .f32⟩
  | .hbm, ⟨32, _⟩ => ⟨S4160x4096, .f32⟩
  | .hbm, ⟨33, _⟩ => ⟨S4160x4096, .bf16⟩
  | .hbm, ⟨34, _⟩ => ⟨S_, .f32⟩
  | .hbm, ⟨35, _⟩ => ⟨S48x1024, .f32⟩
  | .hbm, ⟨36, _⟩ => ⟨S4160x1024, .f32⟩
  | .hbm, ⟨37, _⟩ => ⟨S4160x1024, .bf16⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== OutKernel.lean ====
abbrev S4112x1024 : Shape := ⟨2, ![4112, 1024]⟩
abbrev S1024x1024 : Shape := ⟨2, ![1024, 1024]⟩
abbrev S_ : Shape := ⟨0, ![]⟩
abbrev S48x1024 : Shape := ⟨2, ![48, 1024]⟩
abbrev S4160x1024 : Shape := ⟨2, ![4160, 1024]⟩
abbrev S1040x1024 : Shape := ⟨2, ![1040, 1024]⟩

abbrev nBuf : Space → Nat
  | .hbm => 12
  | .vmem => 7
  | .smem => 0
  | _ => 0

abbrev bufTy : (tb : Table) → Fin (tcTables nBuf tb) → BufTy
  | .hbm, ⟨0, _⟩ => ⟨S4112x1024, .f32⟩
  | .hbm, ⟨1, _⟩ => ⟨S1024x1024, .f32⟩
  | .hbm, ⟨2, _⟩ => ⟨S4112x1024, .f32⟩
  | .hbm, ⟨3, _⟩ => ⟨S_, .f32⟩
  | .hbm, ⟨4, _⟩ => ⟨S48x1024, .f32⟩
  | .hbm, ⟨5, _⟩ => ⟨S4160x1024, .f32⟩
  | .hbm, ⟨6, _⟩ => ⟨S4160x1024, .bf16⟩
  | .hbm, ⟨7, _⟩ => ⟨S1024x1024, .bf16⟩
  | .hbm, ⟨8, _⟩ => ⟨S_, .f32⟩
  | .hbm, ⟨9, _⟩ => ⟨S48x1024, .f32⟩
  | .hbm, ⟨10, _⟩ => ⟨S4160x1024, .f32⟩
  | .hbm, ⟨11, _⟩ => ⟨S4160x1024, .f32⟩
  | .local _ .vmem, ⟨0, _⟩ => ⟨S1040x1024, .bf16⟩
  | .local _ .vmem, ⟨1, _⟩ => ⟨S1040x1024, .bf16⟩
  | .local _ .vmem, ⟨2, _⟩ => ⟨S1024x1024, .bf16⟩
  | .local _ .vmem, ⟨3, _⟩ => ⟨S1040x1024, .f32⟩
  | .local _ .vmem, ⟨4, _⟩ => ⟨S1040x1024, .f32⟩
  | .local _ .vmem, ⟨5, _⟩ => ⟨S1040x1024, .f32⟩
  | .local _ .vmem, ⟨6, _⟩ => ⟨S1040x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1040x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1040x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutReferenceIdeal.lean ====
abbrev S4112x1024 : Shape := ⟨2, ![4112, 1024]⟩
abbrev S1024x1024 : Shape := ⟨2, ![1024, 1024]⟩
abbrev S_ : Shape := ⟨0, ![]⟩
abbrev S48x1024 : Shape := ⟨2, ![48, 1024]⟩
abbrev S4160x1024 : Shape := ⟨2, ![4160, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1024x1024, .f32⟩
  | .hbm, ⟨2, _⟩ => ⟨S4112x1024, .f32⟩
  | .hbm, ⟨3, _⟩ => ⟨S4112x1024, .f32⟩
  | .hbm, ⟨4, _⟩ => ⟨S4112x1024, .f32⟩
  | .hbm, ⟨5, _⟩ => ⟨S_, .f32⟩
  | .hbm, ⟨6, _⟩ => ⟨S48x1024, .f32⟩
  | .hbm, ⟨7, _⟩ => ⟨S4160x1024, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== WplainKernel.lean ====
abbrev S4112x1024 : Shape := ⟨2, ![4112, 1024]⟩
abbrev S4112x4096 : Shape := ⟨2, ![4112, 4096]⟩
abbrev S_ : Shape := ⟨0, ![]⟩
abbrev S48x1024 : Shape := ⟨2, ![48, 1024]⟩
abbrev S4160x1024 : Shape := ⟨2, ![4160, 1024]⟩
abbrev S48x4096 : Shape := ⟨2, ![48, 4096]⟩
abbrev S4160x4096 : Shape := ⟨2, ![4160, 4096]⟩
abbrev S4x1024x1024 : Shape := ⟨3, ![4, 1024, 1024]⟩
abbrev S64x1024 : Shape := ⟨2, ![64, 1024]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 11
  | .vmem => 9
  | .smem => 0
  | _ => 0

abbrev bufTy : (tb : Table) → Fin (tcTables nBuf tb) → BufTy
  | .hbm, ⟨0, _⟩ => ⟨S4112x1024, .f32⟩
  | .hbm, ⟨1, _⟩ => ⟨S4112x4096, .f32⟩
  | .hbm, ⟨2, _⟩ => ⟨S_, .f32⟩
  | .hbm, ⟨3, _⟩ => ⟨S48x1024, .f32⟩
  | .hbm, ⟨4, _⟩ => ⟨S4160x1024, .f32⟩
  | .hbm, ⟨5, _⟩ => ⟨S4160x1024, .bf16⟩
  | .hbm, ⟨6, _⟩ => ⟨S_, .f32⟩
  | .hbm, ⟨7, _⟩ => ⟨S48x4096, .f32⟩
  | .hbm, ⟨8, _⟩ => ⟨S4160x4096, .f32⟩
  | .hbm, ⟨9, _⟩ => ⟨S4160x4096, .bf16⟩
  | .hbm, ⟨10, _⟩ => ⟨S4x1024x1024, .bf16⟩
  | .local _ .vmem, ⟨0, _⟩ => ⟨S64x1024, .bf16⟩
  | .local _ .vmem, ⟨1, _⟩ => ⟨S64x1024, .bf16⟩
  | .local _ .vmem, ⟨2, _⟩ => ⟨S64x1024, .bf16⟩
  | .local _ .vmem, ⟨3, _⟩ => ⟨S4096x1024, .bf16⟩
  | .local _ .vmem, ⟨4, _⟩ => ⟨S4096x1024, .bf16⟩
  | .local _ .vmem, ⟨5, _⟩ => ⟨S4096x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1024x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 1], ![false, false]⟩

def k0_mult1 (i : grid0.Coords) : BitVec 32 :=
  let c64_i32 : BitVec 32 := 64#32
  let arg1 : BitVec 32 := BitVec.ofNat 32 (i 1).val
  let c4096_i32 : BitVec 32 := 4096#32
  let v0 : BitVec 32 := Scalar.muli arg1 c4096_i32
  let v1 : BitVec 32 := Scalar.addi c64_i32 v0
  v1
def k0_mult2 (i : grid0.Coords) : BitVec 32 :=
  let c64_i32 : BitVec 32 := 64#32
  let arg1 : BitVec 32 := BitVec.ofNat 32 (i 1).val
  let c4096_i32 : BitVec 32 := 4096#32
  let v0 : BitVec 32 := Scalar.muli arg1 c4096_i32
  let v1 : BitVec 32 := Scalar.addi c64_i32 v0
  v1
def k0_mult3 (i : grid0.Coords) : BitVec 32 :=
  let arg0 : BitVec 32 := BitVec.ofNat 32 (i 0).val
  let c1024_i32 : BitVec 32 := 1024#32
  let v3 : BitVec 32 := Scalar.muli arg0 c1024_i32
  v3
def k0_cond3 (i : grid0.Coords) : BitVec 1 :=
  let arg1 : BitVec 32 := BitVec.ofNat 32 (i 1).val
  let c0_i32_6 : BitVec 32 := 0#32
  let v11 : BitVec 1 := Scalar.cmpi .eq arg1 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4096_i32 : BitVec 32 := 4096#32
  let v0 : BitVec 32 := Scalar.muli arg1 c4096_i32
  let c64_i32 : BitVec 32 := 64#32
  let v1 : BitVec 32 := Scalar.addi c64_i32 v0
  let v2 : BitVec 32 := v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c4096_i32 : BitVec 32 := 4096#32
  let v0 : BitVec 32 := Scalar.muli arg1 c4096_i32
  let c64_i32 : BitVec 32 := 64#32
  let v1 : BitVec 32 := Scalar.addi c64_i32 v0
  let v2 : BitVec 32 := v1
  let c1024_i32 : BitVec 32 := 1024#32
  let v3 : BitVec 32 := Scalar.muli arg0 c1024_i32
  let v4 : BitVec 32 := v3
  let c0_i32 : BitVec 32 := 0#32
  ![v2.toNat, v4.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S64x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S4096x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== WplainReferenceIdeal.lean ====
abbrev S4112x1024 : Shape := ⟨2, ![4112, 1024]⟩
abbrev S4112x4096 : Shape := ⟨2, ![4112, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S4112x4096, .f32⟩
  | .hbm, ⟨2, _⟩ => ⟨S_, .f32⟩
  | .hbm, ⟨3, _⟩ => ⟨S1024x4096, .f32⟩
  | .hbm, ⟨4, _⟩ => ⟨S4112x4096, .f32⟩
  | .hbm, ⟨5, _⟩ => ⟨S4096x1024, .f32⟩
  | .hbm, ⟨6, _⟩ => ⟨S1024x4096, .f32⟩
  | .hbm, ⟨7, _⟩ => ⟨S1024x4x1024, .f32⟩
  | .hbm, ⟨8, _⟩ => ⟨S4x1024x1024, .f32⟩
  | .hbm, ⟨9, _⟩ => ⟨S4x1024x1024, .bf16⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SlotsKernel.lean ====
abbrev S4x112x1024 : Shape := ⟨3, ![4, 112, 1024]⟩
abbrev S112x1024 : Shape := ⟨2, ![112, 1024]⟩
abbrev S1x112x1024 : Shape := ⟨3, ![1, 112, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x112x1024, .f32⟩
  | .hbm, ⟨1, _⟩ => ⟨S112x1024, .f32⟩
  | .local _ .vmem, ⟨0, _⟩ => ⟨S4x112x1024, .f32⟩
  | .local _ .vmem, ⟨1, _⟩ => ⟨S112x1024, .f32⟩
  | _, _ => ⟨S4x112x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x112x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S112x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SlotsReferenceIdeal.lean ====
abbrev S4x112x1024 : Shape := ⟨3, ![4, 112, 1024]⟩
abbrev S_ : Shape := ⟨0, ![]⟩
abbrev S112x1024 : Shape := ⟨2, ![112, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x112x1024, .f32⟩
  | .hbm, ⟨1, _⟩ => ⟨S_, .f32⟩
  | .hbm, ⟨2, _⟩ => ⟨S112x1024, .f32⟩
  | _, _ => ⟨S4x112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== TwoKernel.lean ====
abbrev S112x1024 : Shape := ⟨2, ![112, 1024]⟩

abbrev nBuf : Space → Nat
  | .hbm => 3
  | .vmem => 3
  | .smem => 0
  | _ => 0

abbrev bufTy : (tb : Table) → Fin (tcTables nBuf tb) → BufTy
  | .hbm, ⟨0, _⟩ => ⟨S112x1024, .f32⟩
  | .hbm, ⟨1, _⟩ => ⟨S112x1024, .f32⟩
  | .hbm, ⟨2, _⟩ => ⟨S112x1024, .f32⟩
  | .local _ .vmem, ⟨0, _⟩ => ⟨S112x1024, .f32⟩
  | .local _ .vmem, ⟨1, _⟩ => ⟨S112x1024, .f32⟩
  | .local _ .vmem, ⟨2, _⟩ => ⟨S112x1024, .f32⟩
  | _, _ => ⟨S112x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S112x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S112x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S112x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== TwoReferenceIdeal.lean ====
abbrev S112x1024 : Shape := ⟨2, ![112, 1024]⟩

abbrev nBuf : Space → Nat
  | .hbm => 3
  | .vmem => 0
  | .smem => 0
  | _ => 0

abbrev bufTy : (tb : Table) → Fin (tcTables nBuf tb) → BufTy
  | .hbm, ⟨0, _⟩ => ⟨S112x1024, .f32⟩
  | .hbm, ⟨1, _⟩ => ⟨S112x1024, .f32⟩
  | .hbm, ⟨2, _⟩ => ⟨S112x1024, .f32⟩
  | _, _ => ⟨S112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SmallKernel.lean ====
abbrev S16x256 : Shape := ⟨2, ![16, 256]⟩
abbrev S2x1024 : Shape := ⟨2, ![2, 1024]⟩
abbrev S1x31x128 : Shape := ⟨3, ![1, 31, 128]⟩
abbrev S1x4x128x128 : Shape := ⟨4, ![1, 4, 128, 128]⟩

abbrev nBuf : Space → Nat
  | .hbm => 28
  | .vmem => 28
  | .smem => 0
  | _ => 0

abbrev bufTy : (tb : Table) → Fin (tcTables nBuf tb) → BufTy
  | .hbm, ⟨0, _⟩ => ⟨S16x256, .f32⟩
  | .hbm, ⟨1, _⟩ => ⟨S2x1024, .f32⟩
  | .hbm, ⟨2, _⟩ => ⟨S1x31x128, .f32⟩
  | .hbm, ⟨3, _⟩ => ⟨S1x4x128x128, .f32⟩
  | .hbm, ⟨4, _⟩ => ⟨S16x256, .f32⟩
  | .hbm, ⟨5, _⟩ => ⟨S2x1024, .f32⟩
  | .hbm, ⟨6, _⟩ => ⟨S1x31x128, .f32⟩
  | .hbm, ⟨7, _⟩ => ⟨S1x4x128x128, .f32⟩
  | .hbm, ⟨8, _⟩ => ⟨S16x256, .f32⟩
  | .hbm, ⟨9, _⟩ => ⟨S2x1024, .f32⟩
  | .hbm, ⟨10, _⟩ => ⟨S1x31x128, .f32⟩
  | .hbm, ⟨11, _⟩ => ⟨S1x4x128x128, .f32⟩
  | .hbm, ⟨12, _⟩ => ⟨S16x256, .f32⟩
  | .hbm, ⟨13, _⟩ => ⟨S2x1024, .f32⟩
  | .hbm, ⟨14, _⟩ => ⟨S1x31x128, .f32⟩
  | .hbm, ⟨15, _⟩ => ⟨S1x4x128x128, .f32⟩
  | .hbm, ⟨16, _⟩ => ⟨S16x256, .f32⟩
  | .hbm, ⟨17, _⟩ => ⟨S2x1024, .f32⟩
  | .hbm, ⟨18, _⟩ => ⟨S1x31x128, .f32⟩
  | .hbm, ⟨19, _⟩ => ⟨S1x4x128x128, .f32⟩
  | .hbm, ⟨20, _⟩ => ⟨S16x256, .f32⟩
  | .hbm, ⟨21, _⟩ => ⟨S2x1024, .f32⟩
  | .hbm, ⟨22, _⟩ => ⟨S1x31x128, .f32⟩
  | .hbm, ⟨23, _⟩ => ⟨S1x4x128x128, .f32⟩
  | .hbm, ⟨24, _⟩ => ⟨S16x256, .f32⟩
  | .hbm, ⟨25, _⟩ => ⟨S2x1024, .f32⟩
  | .hbm, ⟨26, _⟩ => ⟨S1x31x128, .f32⟩
  | .hbm, ⟨27, _⟩ => ⟨S1x4x128x128, .f32⟩
  | .local _ .vmem, ⟨0, _⟩ => ⟨S16x256, .f32⟩
  | .local _ .vmem, ⟨1, _⟩ => ⟨S2x1024, .f32⟩
  | .local _ .vmem, ⟨2, _⟩ => ⟨S1x31x128, .f32⟩
  | .local _ .vmem, ⟨3, _⟩ => ⟨S1x4x128x128, .f32⟩
  | .local _ .vmem, ⟨4, _⟩ => ⟨S16x256, .f32⟩
  | .local _ .vmem, ⟨5, _⟩ => ⟨S2x1024, .f32⟩
  | .local _ .vmem, ⟨6, _⟩ => ⟨S1x31x128, .f32⟩
  | .local _ .vmem, ⟨7, _⟩ => ⟨S1x4x128x128, .f32⟩
  | .local _ .vmem, ⟨8, _⟩ => ⟨S16x256, .f32⟩
  | .local _ .vmem, ⟨9, _⟩ => ⟨S2x1024, .f32⟩
  | .local _ .vmem, ⟨10, _⟩ => ⟨S1x31x128, .f32⟩
  | .local _ .vmem, ⟨11, _⟩ => ⟨S1x4x128x128, .f32⟩
  | .local _ .vmem, ⟨12, _⟩ => ⟨S16x256, .f32⟩
  | .local _ .vmem, ⟨13, _⟩ => ⟨S2x1024, .f32⟩
  | .local _ .vmem, ⟨14, _⟩ => ⟨S1x31x128, .f32⟩
  | .local _ .vmem, ⟨15, _⟩ => ⟨S1x4x128x128, .f32⟩
  | .local _ .vmem, ⟨16, _⟩ => ⟨S16x256, .f32⟩
  | .local _ .vmem, ⟨17, _⟩ => ⟨S2x1024, .f32⟩
  | .local _ .vmem, ⟨18, _⟩ => ⟨S1x31x128, .f32⟩
  | .local _ .vmem, ⟨19, _⟩ => ⟨S1x4x128x128, .f32⟩
  | .local _ .vmem, ⟨20, _⟩ => ⟨S16x256, .f32⟩
  | .local _ .vmem, ⟨21, _⟩ => ⟨S2x1024, .f32⟩
  | .local _ .vmem, ⟨22, _⟩ => ⟨S1x31x128, .f32⟩
  | .local _ .vmem, ⟨23, _⟩ => ⟨S1x4x128x128, .f32⟩
  | .local _ .vmem, ⟨24, _⟩ => ⟨S16x256, .f32⟩
  | .local _ .vmem, ⟨25, _⟩ => ⟨S2x1024, .f32⟩
  | .local _ .vmem, ⟨26, _⟩ => ⟨S1x31x128, .f32⟩
  | .local _ .vmem, ⟨27, _⟩ => ⟨S1x4x128x128, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x31x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x31x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x31x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x31x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x4x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S16x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x31x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x4x128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S16x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x31x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x4x128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S16x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S2x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x31x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x4x128x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== SmallReferenceIdeal.lean ====
abbrev S16x256 : Shape := ⟨2, ![16, 256]⟩
abbrev S2x1024 : Shape := ⟨2, ![2, 1024]⟩
abbrev S1x31x128 : Shape := ⟨3, ![1, 31, 128]⟩
abbrev S1x4x128x128 : Shape := ⟨4, ![1, 4, 128, 128]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S16x256, .f32⟩
  | 1 => ⟨S2x1024, .f32⟩
  | 2 => ⟨S1x31x128, .f32⟩
  | 3 => ⟨S1x4x128x128, .f32⟩
  | 4 => ⟨S16x256, .f32⟩
  | 5 => ⟨S2x1024, .f32⟩
  | 6 => ⟨S1x31x128, .f32⟩
  | 7 => ⟨S1x4x128x128, .f32⟩
  | 8 => ⟨S16x256, .f32⟩
  | 9 => ⟨S2x1024, .f32⟩
  | 10 => ⟨S1x31x128, .f32⟩
  | 11 => ⟨S1x4x128x128, .f32⟩
  | 12 => ⟨S16x256, .f32⟩
  | 13 => ⟨S2x1024, .f32⟩
  | 14 => ⟨S1x31x128, .f32⟩
  | 15 => ⟨S1x4x128x128, .f32⟩
  | 16 => ⟨S_, .f32⟩
  | 17 => ⟨S16x256, .f32⟩
  | 18 => ⟨S16x256, .f32⟩
  | 19 => ⟨S_, .f32⟩
  | 20 => ⟨S16x256, .f32⟩
  | 21 => ⟨S16x256, .f32⟩
  | 22 => ⟨S16x256, .f32⟩
  | 23 => ⟨S_, .f32⟩
  | 24 => ⟨S16x256, .f32⟩
  | 25 => ⟨S16x256, .f32⟩
  | 26 => ⟨S16x256, .f32⟩
  | 27 => ⟨S_, .f32⟩
  | 28 => ⟨S16x256, .f32⟩
  | 29 => ⟨S16x256, .f32⟩
  | 30 => ⟨S16x256, .f32⟩
  | 31 => ⟨S_, .f32⟩
  | 32 => ⟨S16x256, .f32⟩
  | 33 => ⟨S16x256, .f32⟩
  | 34 => ⟨S_, .f32⟩
  | 35 => ⟨S16x256, .f32⟩
  | 36 => ⟨S16x256, .f32⟩
  | 37 => ⟨S16x256, .f32⟩
  | 38 => ⟨S_, .f32⟩
  | 39 => ⟨S16x256, .f32⟩
  | 40 => ⟨S16x256, .f32⟩
  | 41 => ⟨S16x256, .f32⟩
  | 42 => ⟨S_, .f32⟩
  | 43 => ⟨S16x256, .f32⟩
  | 44 => ⟨S16x256, .f32⟩
  | 45 => ⟨S16x256, .f32⟩
  | 46 => ⟨S_, .f32⟩
  | 47 => ⟨S16x256, .f32⟩
  | 48 => ⟨S16x256, .f32⟩
  | 49 => ⟨S_, .f32⟩
  | 50 => ⟨S2x1024, .f32⟩
  | 51 => ⟨S2x1024, .f32⟩
  | 52 => ⟨S_, .f32⟩
  | 53 => ⟨S2x1024, .f32⟩
  | 54 => ⟨S2x1024, .f32⟩
  | 55 => ⟨S2x1024, .f32⟩
  | 56 => ⟨S_, .f32⟩
  | 57 => ⟨S2x1024, .f32⟩
  | 58 => ⟨S2x1024, .f32⟩
  | 59 => ⟨S2x1024, .f32⟩
  | 60 => ⟨S_, .f32⟩
  | 61 => ⟨S2x1024, .f32⟩
  | 62 => ⟨S2x1024, .f32⟩
  | 63 => ⟨S2x1024, .f32⟩
  | 64 => ⟨S_, .f32⟩
  | 65 => ⟨S2x1024, .f32⟩
  | 66 => ⟨S2x1024, .f32⟩
  | 67 => ⟨S_, .f32⟩
  | 68 => ⟨S2x1024, .f32⟩
  | 69 => ⟨S2x1024, .f32⟩
  | 70 => ⟨S2x1024, .f32⟩
  | 71 => ⟨S_, .f32⟩
  | 72 => ⟨S2x1024, .f32⟩
  | 73 => ⟨S2x1024, .f32⟩
  | 74 => ⟨S2x1024, .f32⟩
  | 75 => ⟨S_, .f32⟩
  | 76 => ⟨S2x1024, .f32⟩
  | 77 => ⟨S2x1024, .f32⟩
  | 78 => ⟨S2x1024, .f32⟩
  | 79 => ⟨S_, .f32⟩
  | 80 => ⟨S2x1024, .f32⟩
  | 81 => ⟨S2x1024, .f32⟩
  | 82 => ⟨S_, .f32⟩
  | 83 => ⟨S1x31x128, .f32⟩
  | 84 => ⟨S1x31x128, .f32⟩
  | 85 => ⟨S_, .f32⟩
  | 86 => ⟨S1x31x128, .f32⟩
  | 87 => ⟨S1x31x128, .f32⟩
  | 88 => ⟨S1x31x128, .f32⟩
  | 89 => ⟨S_, .f32⟩
  | 90 => ⟨S1x31x128, .f32⟩
  | 91 => ⟨S1x31x128, .f32⟩
  | 92 => ⟨S1x31x128, .f32⟩
  | 93 => ⟨S_, .f32⟩
  | 94 => ⟨S1x31x128, .f32⟩
  | 95 => ⟨S1x31x128, .f32⟩
  | 96 => ⟨S1x31x128, .f32⟩
  | 97 => ⟨S_, .f32⟩
  | 98 => ⟨S1x31x128, .f32⟩
  | 99 => ⟨S1x31x128, .f32⟩
  | 100 => ⟨S_, .f32⟩
  | 101 => ⟨S1x31x128, .f32⟩
  | 102 => ⟨S1x31x128, .f32⟩
  | 103 => ⟨S1x31x128, .f32⟩
  | 104 => ⟨S_, .f32⟩
  | 105 => ⟨S1x31x128, .f32⟩
  | 106 => ⟨S1x31x128, .f32⟩
  | 107 => ⟨S1x31x128, .f32⟩
  | 108 => ⟨S_, .f32⟩
  | 109 => ⟨S1x31x128, .f32⟩
  | 110 => ⟨S1x31x128, .f32⟩
  | 111 => ⟨S1x31x128, .f32⟩
  | 112 => ⟨S_, .f32⟩
  | 113 => ⟨S1x31x128, .f32⟩
  | 114 => ⟨S1x31x128, .f32⟩
  | 115 => ⟨S_, .f32⟩
  | 116 => ⟨S1x4x128x128, .f32⟩
  | 117 => ⟨S1x4x128x128, .f32⟩
  | 118 => ⟨S_, .f32⟩
  | 119 => ⟨S1x4x128x128, .f32⟩
  | 120 => ⟨S1x4x128x128, .f32⟩
  | 121 => ⟨S1x4x128x128, .f32⟩
  | 122 => ⟨S_, .f32⟩
  | 123 => ⟨S1x4x128x128, .f32⟩
  | 124 => ⟨S1x4x128x128, .f32⟩
  | 125 => ⟨S1x4x128x128, .f32⟩
  | 126 => ⟨S_, .f32⟩
  | 127 => ⟨S1x4x128x128, .f32⟩
  | _ => ⟨S16x256, .f32⟩

abbrev hbmTy0_1 (i : Nat) : BufTy := match i % 128 with
  | 0 => ⟨S1x4x128x128, .f32⟩
  | 1 => ⟨S1x4x128x128, .f32⟩
  | 2 => ⟨S_, .f32⟩
  | 3 => ⟨S1x4x128x128, .f32⟩
  | 4 => ⟨S1x4x128x128, .f32⟩
  | 5 => ⟨S_, .f32⟩
  | 6 => ⟨S1x4x128x128, .f32⟩
  | 7 => ⟨S1x4x128x128, .f32⟩
  | 8 => ⟨S1x4x128x128, .f32⟩
  | 9 => ⟨S_, .f32⟩
  | 10 => ⟨S1x4x128x128, .f32⟩
  | 11 => ⟨S1x4x128x128, .f32⟩
  | 12 => ⟨S1x4x128x128, .f32⟩
  | 13 => ⟨S_, .f32⟩
  | 14 => ⟨S1x4x128x128, .f32⟩
  | 15 => ⟨S1x4x128x128, .f32⟩
  | 16 => ⟨S1x4x128x128, .f32⟩
  | 17 => ⟨S_, .f32⟩
  | 18 => ⟨S1x4x128x128, .f32⟩
  | 19 => ⟨S1x4x128x128, .f32⟩
  | _ => ⟨S16x256, .f32⟩

abbrev hbmTy (i : Nat) : BufTy := match i / 128 with
  | 0 => hbmTy0_0 i
  | 1 => hbmTy0_1 i
  | _ => ⟨S16x256, .f32⟩

abbrev bufTy : (tb : Table) → Fin (tcTables nBuf tb) → BufTy
  | .hbm, ⟨i, _⟩ => hbmTy i
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== OwnKernel.lean ====
abbrev S4x2x512x1024 : Shape := ⟨4, ![4, 2, 512, 1024]⟩
abbrev S8x512x1024 : Shape := ⟨3, ![8, 512, 1024]⟩
abbrev S_ : Shape := ⟨0, ![]⟩
abbrev S1 : Shape := ⟨1, ![1]⟩
abbrev S512x1024 : Shape := ⟨2, ![512, 1024]⟩
abbrev S1x1x256x1024 : Shape := ⟨4, ![1, 1, 256, 1024]⟩
abbrev S1x256x1024 : Shape := ⟨3, ![1, 256, 1024]⟩
abbrev S256x1024 : Shape := ⟨2, ![256, 1024]⟩

abbrev nBuf : Space → Nat
  | .hbm => 4
  | .vmem => 18
  | .smem => 1
  | _ => 0

abbrev bufTy : (tb : Table) → Fin (tcTables nBuf tb) → BufTy
  | .hbm, ⟨0, _⟩ => ⟨S4x2x512x1024, .bf16⟩
  | .hbm, ⟨1, _⟩ => ⟨S8x512x1024, .bf16⟩
  | .hbm, ⟨2, _⟩ => ⟨S_, .i32⟩
  | .hbm, ⟨3, _⟩ => ⟨S512x1024, .f32⟩
  | .local _ .vmem, ⟨0, _⟩ => ⟨S1x1x256x1024, .bf16⟩
  | .local _ .vmem, ⟨1, _⟩ => ⟨S1x1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S256x1024, .f32⟩
  | .local _ .vmem, ⟨17, _⟩ => ⟨S256x1024, .f32⟩
  | .local _ .smem, ⟨0, _⟩ => ⟨S1, .i32⟩
  | _, _ => ⟨S4x2x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_4 : Index := 0#32
  let v18 : BitVec 32 := pf.at 0 (Rect.unit (s := S1) ![0] S1.size inb_S1_S1_0) numel1_S1
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, arg0.toNat, c0_i32_11.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.addi v0 c1_i32
  let c8_i32 : BitVec 32 := 8#32
  let c0_i32 : BitVec 32 := 0#32
  let v2 : BitVec 1 := Scalar.cmpi .eq c8_i32 c0_i32
  let c1_i32_0 : BitVec 32 := 1#32
  let v3 : BitVec 32 := Scalar.select v2 c1_i32_0 c8_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, arg0.toNat, c0_i32_4.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.addi v0 c2_i32
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c0_i32_3 : BitVec 32 := 0#32
  let c0_i32_4 : BitVec 32 := 0#32
  ![v11.toNat, arg0.toNat, c0_i32_3.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c3_i32 : BitVec 32 := 3#32
  let v1 : BitVec 32 := Scalar.addi v0 c3_i32
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c0_i32_3 : BitVec 32 := 0#32
  let c0_i32_4 : BitVec 32 := 0#32
  ![v11.toNat, arg0.toNat, c0_i32_3.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.addi v0 c4_i32
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c0_i32_3 : BitVec 32 := 0#32
  let c0_i32_4 : BitVec 32 := 0#32
  ![v11.toNat, arg0.toNat, c0_i32_3.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c5_i32 : BitVec 32 := 5#32
  let v1 : BitVec 32 := Scalar.addi v0 c5_i32
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c0_i32_3 : BitVec 32 := 0#32
  let c0_i32_4 : BitVec 32 := 0#32
  ![v11.toNat, arg0.toNat, c0_i32_3.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c6_i32 : BitVec 32 := 6#32
  let v1 : BitVec 32 := Scalar.addi v0 c6_i32
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c0_i32_3 : BitVec 32 := 0#32
  let c0_i32_4 : BitVec 32 := 0#32
  ![v11.toNat, arg0.toNat, c0_i32_3.toNat]

def cc0_transform_7 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c7_i32 : BitVec 32 := 7#32
  let v1 : BitVec 32 := Scalar.addi v0 c7_i32
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c0_i32_3 : BitVec 32 := 0#32
  let c0_i32_4 : BitVec 32 := 0#32
  ![v11.toNat, arg0.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OwnReferenceIdeal.lean ====
abbrev S4x2x512x1024 : Shape := ⟨4, ![4, 2, 512, 1024]⟩
abbrev S8x512x1024 : Shape := ⟨3, ![8, 512, 1024]⟩
abbrev S1x1x512x1024 : Shape := ⟨4, ![1, 1, 512, 1024]⟩
abbrev S512x1024 : Shape := ⟨2, ![512, 1024]⟩
abbrev S7x512x1024 : Shape := ⟨3, ![7, 512, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4x2x512x1024, .bf16⟩
  | .hbm, ⟨1, _⟩ => ⟨S8x512x1024, .bf16⟩
  | .hbm, ⟨2, _⟩ => ⟨S1x1x512x1024, .bf16⟩
  | .hbm, ⟨3, _⟩ => ⟨S512x1024, .bf16⟩
  | .hbm, ⟨4, _⟩ => ⟨S512x1024, .f32⟩
  | .hbm, ⟨5, _⟩ => ⟨S7x512x1024, .bf16⟩
  | .hbm, ⟨6, _⟩ => ⟨S7x512x1024, .f32⟩
  | .hbm, ⟨7, _⟩ => ⟨S_, .f32⟩
  | .hbm, ⟨8, _⟩ => ⟨S512x1024, .f32⟩
  | .hbm, ⟨9, _⟩ => ⟨S512x1024, .f32⟩
  | _, _ => ⟨S4x2x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== StepKernel.lean ====
abbrev S2x1024x1024 : Shape := ⟨3, ![2, 1024, 1024]⟩
abbrev S512x1024 : Shape := ⟨2, ![512, 1024]⟩
abbrev S2x2x512x1024 : Shape := ⟨4, ![2, 2, 512, 1024]⟩
abbrev S_ : Shape := ⟨0, ![]⟩
abbrev S1 : Shape := ⟨1, ![1]⟩
abbrev S1x1x256x1024 : Shape := ⟨4, ![1, 1, 256, 1024]⟩
abbrev S256x1024 : Shape := ⟨2, ![256, 1024]⟩

abbrev nBuf : Space → Nat
  | .hbm => 17
  | .vmem => 18
  | .smem => 1
  | _ => 0

abbrev bufTy : (tb : Table) → Fin (tcTables nBuf tb) → BufTy
  | .hbm, ⟨0, _⟩ => ⟨S2x1024x1024, .f32⟩
  | .hbm, ⟨1, _⟩ => ⟨S512x1024, .f32⟩
  | .hbm, ⟨2, _⟩ => ⟨S512x1024, .f32⟩
  | .hbm, ⟨3, _⟩ => ⟨S2x1024x1024, .f32⟩
  | .hbm, ⟨4, _⟩ => ⟨S2x1024x1024, .f32⟩
  | .hbm, ⟨5, _⟩ => ⟨S2x2x512x1024, .f32⟩
  | .hbm, ⟨6, _⟩ => ⟨S2x2x512x1024, .f32⟩
  | .hbm, ⟨7, _⟩ => ⟨S2x2x512x1024, .f32⟩
  | .hbm, ⟨8, _⟩ => ⟨S2x2x512x1024, .f32⟩
  | .hbm, ⟨9, _⟩ => ⟨S2x2x512x1024, .f32⟩
  | .hbm, ⟨10, _⟩ => ⟨S2x2x512x1024, .f32⟩
  | .hbm, ⟨11, _⟩ => ⟨S2x2x512x1024, .f32⟩
  | .hbm, ⟨12, _⟩ => ⟨S_, .i32⟩
  | .hbm, ⟨13, _⟩ => ⟨S2x2x512x1024, .f32⟩
  | .hbm, ⟨14, _⟩ => ⟨S2x2x512x1024, .f32⟩
  | .hbm, ⟨15, _⟩ => ⟨S2x2x512x1024, .f32⟩
  | .hbm, ⟨16, _⟩ => ⟨S2x2x512x1024, .f32⟩
  | .local _ .vmem, ⟨0, _⟩ => ⟨S1x1x256x1024, .f32⟩
  | .local _ .vmem, ⟨1, _⟩ => ⟨S1x1x256x1024, .f32⟩
  | .local _ .vmem, ⟨2, _⟩ => ⟨S1x1x256x1024, .f32⟩
  | .local _ .vmem, ⟨3, _⟩ => ⟨S1x1x256x1024, .f32⟩
  | .local _ .vmem, ⟨4, _⟩ => ⟨S1x1x256x1024, .f32⟩
  | .local _ .vmem, ⟨5, _⟩ => ⟨S1x1x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1x256x1024, .f32⟩
  | .local _ .vmem, ⟨11, _⟩ => ⟨S1x1x256x1024, .f32⟩
  | .local _ .vmem, ⟨12, _⟩ => ⟨S1x1x256x1024, .f32⟩
  | .local _ .vmem, ⟨13, _⟩ => ⟨S1x1x256x1024, .f32⟩
  | .local _ .vmem, ⟨14, _⟩ => ⟨S1x1x256x1024, .f32⟩
  | .local _ .vmem, ⟨15, _⟩ => ⟨S1x1x256x1024, .f32⟩
  | .local _ .vmem, ⟨16, _⟩ => ⟨S1x1x256x1024, .f32⟩
  | .local _ .vmem, ⟨17, _⟩ => ⟨S1x1x256x1024, .f32⟩
  | .local _ .smem, ⟨0, _⟩ => ⟨S1, .i32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_9 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_10 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_11 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_12 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

abbrev stage0_0 : Fin 2 → Memref sig .tc .vmem S1x1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepReferenceIdeal.lean ====
abbrev S2x1024x1024 : Shape := ⟨3, ![2, 1024, 1024]⟩
abbrev S512x1024 : Shape := ⟨2, ![512, 1024]⟩
abbrev S2x2x512x1024 : Shape := ⟨4, ![2, 2, 512, 1024]⟩
abbrev S1x512x1024 : Shape := ⟨3, ![1, 512, 1024]⟩
abbrev S2x512x1024 : Shape := ⟨3, ![2, 512, 1024]⟩
abbrev S_ : Shape := ⟨0, ![]⟩
abbrev S2x1x512x1024 : Shape := ⟨4, ![2, 1, 512, 1024]⟩

abbrev nBuf : Space → Nat
  | .hbm => 68
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S512x1024, .f32⟩
  | .hbm, ⟨2, _⟩ => ⟨S512x1024, .f32⟩
  | .hbm, ⟨3, _⟩ => ⟨S2x1024x1024, .f32⟩
  | .hbm, ⟨4, _⟩ => ⟨S2x1024x1024, .f32⟩
  | .hbm, ⟨5, _⟩ => ⟨S2x2x512x1024, .f32⟩
  | .hbm, ⟨6, _⟩ => ⟨S2x2x512x1024, .f32⟩
  | .hbm, ⟨7, _⟩ => ⟨S2x2x512x1024, .f32⟩
  | .hbm, ⟨8, _⟩ => ⟨S2x2x512x1024, .f32⟩
  | .hbm, ⟨9, _⟩ => ⟨S1x512x1024, .f32⟩
  | .hbm, ⟨10, _⟩ => ⟨S1x512x1024, .f32⟩
  | .hbm, ⟨11, _⟩ => ⟨S2x512x1024, .f32⟩
  | .hbm, ⟨12, _⟩ => ⟨S2x512x1024, .f32⟩
  | .hbm, ⟨13, _⟩ => ⟨S2x512x1024, .f32⟩
  | .hbm, ⟨14, _⟩ => ⟨S2x512x1024, .f32⟩
  | .hbm, ⟨15, _⟩ => ⟨S_, .f32⟩
  | .hbm, ⟨16, _⟩ => ⟨S2x512x1024, .f32⟩
  | .hbm, ⟨17, _⟩ => ⟨S2x512x1024, .f32⟩
  | .hbm, ⟨18, _⟩ => ⟨S_, .f32⟩
  | .hbm, ⟨19, _⟩ => ⟨S2x512x1024, .f32⟩
  | .hbm, ⟨20, _⟩ => ⟨S2x512x1024, .f32⟩
  | .hbm, ⟨21, _⟩ => ⟨S2x512x1024, .f32⟩
  | .hbm, ⟨22, _⟩ => ⟨S_, .f32⟩
  | .hbm, ⟨23, _⟩ => ⟨S2x512x1024, .f32⟩
  | .hbm, ⟨24, _⟩ => ⟨S2x512x1024, .f32⟩
  | .hbm, ⟨25, _⟩ => ⟨S2x512x1024, .f32⟩
  | .hbm, ⟨26, _⟩ => ⟨S_, .f32⟩
  | .hbm, ⟨27, _⟩ => ⟨S2x512x1024, .f32⟩
  | .hbm, ⟨28, _⟩ => ⟨S2x512x1024, .f32⟩
  | .hbm, ⟨29, _⟩ => ⟨S2x512x1024, .f32⟩
  | .hbm, ⟨30, _⟩ => ⟨S_, .f32⟩
  | .hbm, ⟨31, _⟩ => ⟨S2x512x1024, .f32⟩
  | .hbm, ⟨32, _⟩ => ⟨S2x512x1024, .f32⟩
  | .hbm, ⟨33, _⟩ => ⟨S_, .f32⟩
  | .hbm, ⟨34, _⟩ => ⟨S2x512x1024, .f32⟩
  | .hbm, ⟨35, _⟩ => ⟨S2x512x1024, .f32⟩
  | .hbm, ⟨36, _⟩ => ⟨S2x512x1024, .f32⟩
  | .hbm, ⟨37, _⟩ => ⟨S_, .f32⟩
  | .hbm, ⟨38, _⟩ => ⟨S2x512x1024, .f32⟩
  | .hbm, ⟨39, _⟩ => ⟨S2x512x1024, .f32⟩
  | .hbm, ⟨40, _⟩ => ⟨S2x512x1024, .f32⟩
  | .hbm, ⟨41, _⟩ => ⟨S_, .f32⟩
  | .hbm, ⟨42, _⟩ => ⟨S2x512x1024, .f32⟩
  | .hbm, ⟨43, _⟩ => ⟨S2x512x1024, .f32⟩
  | .hbm, ⟨44, _⟩ => ⟨S2x512x1024, .f32⟩
  | .hbm, ⟨45, _⟩ => ⟨S_, .f32⟩
  | .hbm, ⟨46, _⟩ => ⟨S2x512x1024, .f32⟩
  | .hbm, ⟨47, _⟩ => ⟨S2x512x1024, .f32⟩
  | .hbm, ⟨48, _⟩ => ⟨S2x1x512x1024, .f32⟩
  | .hbm, ⟨49, _⟩ => ⟨S2x512x1024, .f32⟩
  | .hbm, ⟨50, _⟩ => ⟨S2x1x512x1024, .f32⟩
  | .hbm, ⟨51, _⟩ => ⟨S2x1x512x1024, .f32⟩
  | .hbm, ⟨52, _⟩ => ⟨S2x2x512x1024, .f32⟩
  | .hbm, ⟨53, _⟩ => ⟨S2x1x512x1024, .f32⟩
  | .hbm, ⟨54, _⟩ => ⟨S2x512x1024, .f32⟩
  | .hbm, ⟨55, _⟩ => ⟨S2x1x512x1024, .f32⟩
  | .hbm, ⟨56, _⟩ => ⟨S2x1x512x1024, .f32⟩
  | .hbm, ⟨57, _⟩ => ⟨S2x2x512x1024, .f32⟩
  | .hbm, ⟨58, _⟩ => ⟨S2x1x512x1024, .f32⟩
  | .hbm, ⟨59, _⟩ => ⟨S2x512x1024, .f32⟩
  | .hbm, ⟨60, _⟩ => ⟨S2x1x512x1024, .f32⟩
  | .hbm, ⟨61, _⟩ => ⟨S2x1x512x1024, .f32⟩
  | .hbm, ⟨62, _⟩ => ⟨S2x2x512x1024, .f32⟩
  | .hbm, ⟨63, _⟩ => ⟨S2x1x512x1024, .f32⟩
  | .hbm, ⟨64, _⟩ => ⟨S2x512x1024, .f32⟩
  | .hbm, ⟨65, _⟩ => ⟨S2x1x512x1024, .f32⟩
  | .hbm, ⟨66, _⟩ => ⟨S2x1x512x1024, .f32⟩
  | .hbm, ⟨67, _⟩ => ⟨S2x2x512x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]
-- ==== Proof.CpLoop.lean ====
module
public import proofs.«01_k».proof.Proof.Gen.CpKernelIdeal.Value
public import Idealize.ShloMosaic.Lib.Pipeline.ValueKit
@[expose] public section
/-! The convolution's inner loop over blocks of 32 rows: what its 26 trips leave in the gate buffer (overwritten block by
    block by the convolution's transpose) and in the eight partial rows of each tap. -/
set_option maxRecDepth 16384
noncomputable section
open Idealize.ShloMosaic Idealize.ShloMosaic.TcCoe Idealize.SL.Sem
namespace Cert.CpKernelIdeal.Value
open Cert.CpKernelIdeal Cert.CpKernelIdeal.Gen
open Cert.CpKernelIdeal.Gen.trip_k0_t1

theorem k_lt (k : Fin k0_t1_loop.trips) : k.val < 26 := Nat.lt_of_lt_of_le k.isLt k0_t1_abs.2.1

theorem idx1 (k : Fin k0_t1_loop.trips) (h) (a : Fin 64) (b : Fin 512) :
    (Rect.unit (s := S864x512) (k0_off1 k) ![64, 512] h).idx (ix2 a b) = ix2 ⟨32 * k.val + a.val, by have := k_lt k; omega⟩ b := by
  funext q
  apply Fin.ext
  refine (Rect.idx_unit_val _ _ _ _ _).trans ((congrArg (· + _) (congrFun (k0_off1_eq k) q)).trans ?_)
  match q with
  | ⟨0, _⟩ => rfl
  | ⟨1, _⟩ => exact Nat.zero_add _

theorem idx2 (k : Fin k0_t1_loop.trips) (h) (a : Fin 32) (b : Fin 512) :
    (Rect.unit (s := S832x512) (k0_off2 k) ![32, 512] h).idx (ix2 a b) = ix2 ⟨32 * k.val + a.val, by have := k_lt k; omega⟩ b := by
  funext q
  apply Fin.ext
  refine (Rect.idx_unit_val _ _ _ _ _).trans ((congrArg (· + _) (congrFun (k0_off2_eq k) q)).trans ?_)
  match q with
  | ⟨0, _⟩ => rfl
  | ⟨1, _⟩ => exact Nat.zero_add _

/-- What one trip adds to a tap's eight partial rows. -/
def tapped (k : Fin k0_t1_loop.trips) (X : S864x512.Idx → EReal) (G : S832x512.Idx → EReal) (A : S32x8x512.Idx → EReal)
    (y : S32x8x512.Idx) : EReal :=
  let term (q : Fin 4) : EReal :=
    X (ix2 ⟨32 * k.val + (30 - (y 0).val) + (8 * q.val + (y 1).val), by have := k_lt k; have := (y 1).isLt; have := q.isLt; simp at *; omega⟩ (y 2))
      * G (ix2 ⟨32 * k.val + (8 * q.val + (y 1).val), by have := k_lt k; have := (y 1).isLt; have := q.isLt; simp at *; omega⟩ (y 2))
  A y + (term 0 + term 1 + term 2 + term 3)

theorem idx18 (n : ℕ) (h) (a : Fin 1) (b : Fin 8) (d : Fin 512) :
    (Rect.unit (s := S32x8x512) ![n, 0, 0] ![1, 8, 512] h).idx (ix3 a b d) = ix3 ⟨n, by have := h 0; simp at this; omega⟩ b d := by
  funext q
  apply Fin.ext
  rw [Rect.idx_unit_val]
  match q with
  | ⟨0, _⟩ => show n + a.val = n; omega
  | ⟨1, _⟩ => exact Nat.zero_add _
  | ⟨2, _⟩ => exact Nat.zero_add _

theorem idx6 (n : ℕ) (h) (a : Fin 1) (b : Fin 512) :
    (Rect.unit (s := S31x512) ![n, 0] ![1, 512] h).idx (ix2 a b) = ix2 ⟨n, by have := h 0; simp at this; omega⟩ b := by
  funext q
  apply Fin.ext
  rw [Rect.idx_unit_val]
  match q with
  | ⟨0, _⟩ => show n + a.val = n; omega
  | ⟨1, _⟩ => exact Nat.zero_add _

section Loop
variable (𝒱 : Variants) (c : Dev nD) (bd : Option 𝒱.V) (i : grid0.Coords) (arg1 : Memref sig .tc .vmem S832x1024 .f32) (harg1 : arg1.IsWhole) (arg2 : Memref sig .tc .vmem S1024x1024 .bf16) (harg2 : arg2.IsWhole) (arg3 : Memref sig .tc .vmem S832x1536 .bf16) (harg3 : arg3.IsWhole) (arg4 : Memref sig .tc .vmem S832x512 .f32) (harg4 : arg4.IsWhole) (arg5 : Memref sig .tc .vmem S832x512 .bf16) (harg5 : arg5.IsWhole) (arg6 : Memref sig .tc .vmem S31x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x128x128 .f32) (harg9 : arg9.IsWhole) (arg10 : Memref sig .tc .vmem S1x512 .f32) (harg10 : arg10.IsWhole) (arg11 : Memref sig .tc .vmem S832x1536 .bf16) (harg11 : arg11.IsWhole) (arg12 : Memref sig .tc .vmem S32x512 .f32) (harg12 : arg12.IsWhole) (arg13 : Memref sig .tc .vmem S8x512 .f32) (harg13 : arg13.IsWhole) (arg14 : Memref sig .tc .vmem S4x128x128 .f32) (harg14 : arg14.IsWhole) (arg15 : Memref sig .tc .vmem S864x512 .f32) (harg15 : arg15.IsWhole) (arg16 : Memref sig .tc .vmem S848x512 .f32) (harg16 : arg16.IsWhole) (arg17 : Memref sig .tc .vmem S832x512 .f32) (harg17 : arg17.IsWhole) (arg18 : Memref sig .tc .vmem S32x8x512 .f32) (harg18 : arg18.IsWhole) (arg19 : Memref sig .tc .vmem S832x1024 .f32) (harg19 : arg19.IsWhole) (arg0 : BitVec 32) (v37 : FVec Ideal S832x512 .f32) (v60 : FVec Ideal S832x512 .f32) (v78 : FVec Ideal S832x512 .f32) (v79 : FVec Ideal S832x512 .f32) (X_arg6 : BufTy.Contents (Elt Ideal) arg6.view.ty) (X_arg15 : BufTy.Contents (Elt Ideal) arg15.view.ty)

section Trip
variable (k : Fin k0_t1_loop.trips) (f17 : BufTy.Contents (Elt Ideal) arg17.view.ty) (f18 : BufTy.Contents (Elt Ideal) arg18.view.ty)

theorem trip18 : ∀ p ∈ (tripL_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v37 v60 v78 v79 X_arg6 X_arg15 k f17 f18).2, ∀ x : p.1.shape.Idx,
    p.2 x = tapped k (arg15.view.read (Elt Ideal) X_arg15) (arg17.view.read (Elt Ideal) f17) (arg18.view.read (Elt Ideal) f18) (p.1.emb x) := by
  unfold tripL_k0_t1 trip_k0_t1
  dsimp only
  simp only [List.forall_mem_cons]
  repeat' apply And.intro
  all_goals intro x
  on_goal -1 => exact fun h => absurd h List.not_mem_nil
  all_goals
    idx_vars x
    try simp only [sl.arg20, sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, sl.r_42, sl.r_43, sl.r_44, sl.v297, sl.v343, sl.v362, sl.v381, sl.v400, sl.v419, sl.v438, sl.v457, sl.v476, sl.v495, sl.v514, sl.v533, sl.v552, sl.v571, sl.v590, sl.v609, sl.v628, sl.v647, sl.v666, sl.v685, sl.v704, sl.v723, sl.v742, sl.v761, sl.v780, sl.v799, sl.v818, sl.v837, sl.v856, sl.v875, sl.v894]
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106]
    simp only [View.readAt_apply, tapped]
    blk_simp
    simp only [idx1, idx2, idx18, idx6]
    blk_point

theorem cover18 (y : S32x8x512.Idx) (hy : (y 0).val < 31) : ∃ p ∈ (tripL_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v37 v60 v78 v79 X_arg6 X_arg15 k f17 f18).2, y ∈ p.1.set := by
  unfold tripL_k0_t1 trip_k0_t1
  dsimp only
  have h1 := (y 1).isLt
  have h2 := (y 2).isLt
  have key : ∀ {n : ℕ} (h : _), (y 0).val = n → y ∈ (Rect.unit (s := S32x8x512) ![n, 0, 0] ![1, 8, 512] h).set := by
    intro n h e
    rw [Rect.mem_set_unit]
    intro a
    match a with
    | ⟨0, _⟩ => exact ⟨le_of_eq e.symm, by show (y 0).val < n + 1; omega⟩
    | ⟨1, _⟩ => exact ⟨Nat.zero_le _, by show (y 1).val < 0 + 8; simpa using h1⟩
    | ⟨2, _⟩ => exact ⟨Nat.zero_le _, by show (y 2).val < 0 + 512; simpa using h2⟩
  simp only [List.exists_mem_cons_iff]
  generalize hv : (y 0).val = v at hy key
  interval_cases v
  all_goals
    repeat first
      | exact Or.inl (key _ rfl)
      | refine Or.inr ?_

theorem miss18 (y : S32x8x512.Idx) (hy : ¬ (y 0).val < 31) : ∀ p ∈ (tripL_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v37 v60 v78 v79 X_arg6 X_arg15 k f17 f18).2, y ∉ p.1.set := by
  unfold tripL_k0_t1 trip_k0_t1
  dsimp only
  simp only [List.forall_mem_cons]
  repeat' apply And.intro
  on_goal -1 => exact fun p h => absurd h List.not_mem_nil
  all_goals
    intro h
    have := (Rect.mem_set_unit.mp h 0).2
    simp at this
    omega

theorem trip17 (r : Fin 32) (j : Fin 512) :
    arg17.view.read (Elt Ideal) (arg17.view.writes (Elt Ideal) f17 (tripL_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v37 v60 v78 v79 X_arg6 X_arg15 k f17 f18).1) (ix2 ⟨32 * k.val + r.val, by have := k_lt k; omega⟩ j)
      = ∑ q : Fin 31, arg6.view.read (Elt Ideal) X_arg6 (ix2 q j)
          * arg15.view.read (Elt Ideal) X_arg15 (ix2 ⟨32 * k.val + (30 - q.val) + r.val, by have := k_lt k; omega⟩ j) := by
  unfold tripL_k0_t1 trip_k0_t1
  dsimp only
  refine (View.read_writes_cons_hit_of_coords _ _ _ _ [] (ix2 r j) _ ?_).trans ?_
  · intro a
    fin_cases a
    · show 32 * k.val + r.val = k0_off2 k 0 + 1 * r.val
      rw [k0_off2_eq]; simp
    · show j.val = k0_off2 k 1 + 1 * j.val
      rw [k0_off2_eq]; simp
  simp only [sl.arg20, sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, sl.r_42, sl.r_43, sl.r_44, sl.v297, sl.v343, sl.v362, sl.v381, sl.v400, sl.v419, sl.v438, sl.v457, sl.v476, sl.v495, sl.v514, sl.v533, sl.v552, sl.v571, sl.v590, sl.v609, sl.v628, sl.v647, sl.v666, sl.v685, sl.v704, sl.v723, sl.v742, sl.v761, sl.v780, sl.v799, sl.v818, sl.v837, sl.v856, sl.v875, sl.v894]
  pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106]
  simp only [View.readAt_apply, Fin.sum_univ_castSucc, Finset.univ_eq_empty, Finset.sum_empty, zero_add]
  simp only [idx1, idx2, idx18, idx6]
  simp only [Fin.last, Fin.castSucc, Fin.castAdd, Fin.castLE]
  blk_point

theorem miss17 (R : Fin 832) (j : Fin 512) (hR : R.val < 32 * k.val ∨ 32 * k.val + 32 ≤ R.val) :
    arg17.view.read (Elt Ideal) (arg17.view.writes (Elt Ideal) f17 (tripL_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v37 v60 v78 v79 X_arg6 X_arg15 k f17 f18).1) (ix2 R j)
      = arg17.view.read (Elt Ideal) f17 (ix2 R j) := by
  unfold tripL_k0_t1 trip_k0_t1
  dsimp only
  exact View.read_writes_cons_miss_of_axis _ _ _ [] (ix2 R j) 0 (32 * k.val) 32 (congrFun (k0_off2_eq k) 0) rfl rfl hR

end Trip
end Loop
end Cert.CpKernelIdeal.Value
end
-- ==== Proof.CpTrips.lean ====
module
public import proofs.«01_k».proof.Proof.CpLoop
@[expose] public section
/-! All 26 trips of the convolution's inner loop. -/
set_option maxRecDepth 16384
noncomputable section
open Idealize.ShloMosaic Idealize.ShloMosaic.TcCoe Idealize.SL.Sem
namespace Cert.CpKernelIdeal.Value
open Cert.CpKernelIdeal Cert.CpKernelIdeal.Gen

/-- Row `R` of a two-axis array, zero below its last row. -/
def at2 {n b : ℕ} (X : (⟨2, ![n, b]⟩ : Shape).Idx → EReal) (R : ℕ) (j : Fin b) : EReal := if h : R < n then X (ix2 ⟨R, h⟩ j) else 0

theorem at2_of {n b : ℕ} (X : (⟨2, ![n, b]⟩ : Shape).Idx → EReal) (R : ℕ) (j : Fin b) (h : R < n) : at2 X R j = X (ix2 ⟨R, h⟩ j) := dif_pos h

section Loop
variable (𝒱 : Variants) (c : Dev nD) (bd : Option 𝒱.V) (i : grid0.Coords) (arg1 : Memref sig .tc .vmem S832x1024 .f32) (harg1 : arg1.IsWhole) (arg2 : Memref sig .tc .vmem S1024x1024 .bf16) (harg2 : arg2.IsWhole) (arg3 : Memref sig .tc .vmem S832x1536 .bf16) (harg3 : arg3.IsWhole) (arg4 : Memref sig .tc .vmem S832x512 .f32) (harg4 : arg4.IsWhole) (arg5 : Memref sig .tc .vmem S832x512 .bf16) (harg5 : arg5.IsWhole) (arg6 : Memref sig .tc .vmem S31x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4x128x128 .f32) (harg9 : arg9.IsWhole) (arg10 : Memref sig .tc .vmem S1x512 .f32) (harg10 : arg10.IsWhole) (arg11 : Memref sig .tc .vmem S832x1536 .bf16) (harg11 : arg11.IsWhole) (arg12 : Memref sig .tc .vmem S32x512 .f32) (harg12 : arg12.IsWhole) (arg13 : Memref sig .tc .vmem S8x512 .f32) (harg13 : arg13.IsWhole) (arg14 : Memref sig .tc .vmem S4x128x128 .f32) (harg14 : arg14.IsWhole) (arg15 : Memref sig .tc .vmem S864x512 .f32) (harg15 : arg15.IsWhole) (arg16 : Memref sig .tc .vmem S848x512 .f32) (harg16 : arg16.IsWhole) (arg17 : Memref sig .tc .vmem S832x512 .f32) (harg17 : arg17.IsWhole) (arg18 : Memref sig .tc .vmem S32x8x512 .f32) (harg18 : arg18.IsWhole) (arg19 : Memref sig .tc .vmem S832x1024 .f32) (harg19 : arg19.IsWhole) (arg0 : BitVec 32) (v37 : FVec Ideal S832x512 .f32) (v60 : FVec Ideal S832x512 .f32) (v78 : FVec Ideal S832x512 .f32) (v79 : FVec Ideal S832x512 .f32) (X_arg6 : BufTy.Contents (Elt Ideal) arg6.view.ty) (X_arg15 : BufTy.Contents (Elt Ideal) arg15.view.ty)
variable (G_arg17 : BufTy.Contents (Elt Ideal) arg17.view.ty) (G_arg18 : BufTy.Contents (Elt Ideal) arg18.view.ty)

theorem after17 (n : ℕ) (hn : n ≤ 26) (R : Fin 832) (j : Fin 512) :
    arg17.view.read (Elt Ideal) (arg17.view.writes (Elt Ideal) G_arg17 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v37 v60 v78 v79 X_arg6 X_arg15 G_arg17 G_arg18 n).1) (ix2 R j)
      = if R.val < 32 * n then ∑ q : Fin 31, arg6.view.read (Elt Ideal) X_arg6 (ix2 q j) * at2 (arg15.view.read (Elt Ideal) X_arg15) (R.val + (30 - q.val)) j
        else arg17.view.read (Elt Ideal) G_arg17 (ix2 R j) := by
  induction n with
  | zero => rfl
  | succ n ih =>
    have ih := ih (by omega)
    have hk : n < k0_t1_loop.trips := by rw [show k0_t1_loop.trips = 26 by decide +kernel]; omega
    have e := pb_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v37 v60 v78 v79 X_arg6 X_arg15 G_arg17 G_arg18 ⟨n, hk⟩
    rw [congrArg Prod.fst e, View.writes_append]
    by_cases h : 32 * n ≤ R.val ∧ R.val < 32 * n + 32
    · obtain ⟨r, hr⟩ : ∃ r : Fin 32, R.val = 32 * n + r.val := ⟨⟨R.val - 32 * n, by omega⟩, by simp; omega⟩
      rw [if_pos (by omega), show R = ⟨32 * n + r.val, by omega⟩ from Fin.ext hr]
      refine (trip17 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v37 v60 v78 v79 X_arg6 X_arg15 ⟨n, hk⟩ _ _ r j).trans (Finset.sum_congr rfl fun q _ => ?_)
      have := q.isLt
      refine congrArg _ ((congrArg (fun z => arg15.view.read (Elt Ideal) X_arg15 (ix2 z j)) (Fin.ext ?_)).trans (at2_of _ _ _ ?_).symm)
      · show 32 * n + (30 - q.val) + r.val = 32 * n + r.val + (30 - q.val)
        omega
      · have := r.isLt
        omega
    · refine (miss17 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v37 v60 v78 v79 X_arg6 X_arg15 ⟨n, hk⟩ _ _ R j (by show R.val < 32 * n ∨ 32 * n + 32 ≤ R.val; omega)).trans (ih.trans ?_)
      by_cases h2 : R.val < 32 * n
      · rw [if_pos h2, if_pos (by omega)]
      · rw [if_neg h2, if_neg (by omega)]

theorem after18 (n : ℕ) (hn : n ≤ 26) (q : Fin 32) (a : Fin 8) (j : Fin 512) :
    arg18.view.read (Elt Ideal) (arg18.view.writes (Elt Ideal) G_arg18 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v37 v60 v78 v79 X_arg6 X_arg15 G_arg17 G_arg18 n).2) (ix3 q a j)
      = arg18.view.read (Elt Ideal) G_arg18 (ix3 q a j) + if q.val < 31 then
          ∑ k ∈ Finset.range n, ∑ p ∈ Finset.range 4, at2 (arg15.view.read (Elt Ideal) X_arg15) (32 * k + (30 - q.val) + (8 * p + a.val)) j
            * at2 (arg17.view.read (Elt Ideal) G_arg17) (32 * k + (8 * p + a.val)) j
        else 0 := by
  induction n with
  | zero => simp; rfl
  | succ n ih =>
    have ih := ih (by omega)
    have hk : n < k0_t1_loop.trips := by rw [show k0_t1_loop.trips = 26 by decide +kernel]; omega
    have e := pb_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v37 v60 v78 v79 X_arg6 X_arg15 G_arg17 G_arg18 ⟨n, hk⟩
    rw [congrArg Prod.snd e, View.writes_append]
    by_cases h : q.val < 31
    · refine (View.read_writes_apply_of_pieces _ _ _ _ (trip18 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v37 v60 v78 v79 X_arg6 X_arg15 ⟨n, hk⟩ _ _) _ (cover18 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v37 v60 v78 v79 X_arg6 X_arg15 ⟨n, hk⟩ _ _ (ix3 q a j) h)).trans ?_
      rw [if_pos h] at ih ⊢
      unfold tapped
      rw [ih, Finset.sum_range_succ]
      refine (add_assoc _ _ _).trans (congrArg _ (congrArg _ ?_))
      simp only [Finset.sum_range_succ, Finset.sum_range_zero, zero_add]
      have h17 : ∀ (R : ℕ) (hR : R < 832), 32 * n ≤ R →
          arg17.view.read (Elt Ideal) (arg17.view.writes (Elt Ideal) G_arg17 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v37 v60 v78 v79 X_arg6 X_arg15 G_arg17 G_arg18 n).1) (ix2 ⟨R, hR⟩ j)
            = at2 (arg17.view.read (Elt Ideal) G_arg17) R j := fun R hR hle =>
        (after17 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v37 v60 v78 v79 X_arg6 X_arg15 G_arg17 G_arg18 n (by omega) ⟨R, hR⟩ j).trans ((if_neg (by show ¬ R < 32 * n; omega)).trans (at2_of _ _ _ hR).symm)
      have hi := a.isLt
      have key : ∀ p : ℕ, p < 4 → ∀ (h1 : 32 * n + (30 - q.val) + (8 * p + a.val) < 864) (h2 : 32 * n + (8 * p + a.val) < 832),
          arg15.view.read (Elt Ideal) X_arg15 (ix2 ⟨_, h1⟩ j)
              * arg17.view.read (Elt Ideal) (arg17.view.writes (Elt Ideal) G_arg17 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v37 v60 v78 v79 X_arg6 X_arg15 G_arg17 G_arg18 n).1) (ix2 ⟨_, h2⟩ j)
            = at2 (arg15.view.read (Elt Ideal) X_arg15) (32 * n + (30 - q.val) + (8 * p + a.val)) j
              * at2 (arg17.view.read (Elt Ideal) G_arg17) (32 * n + (8 * p + a.val)) j :=
        fun p hp h1 h2 => congrArg₂ _ (at2_of _ _ _ h1).symm (h17 _ h2 (by omega))
      exact congrArg₂ _ (congrArg₂ _ (congrArg₂ _ (key 0 (by omega) _ _) (key 1 (by omega) _ _)) (key 2 (by omega) _ _)) (key 3 (by omega) _ _)
    · refine (View.read_writes_apply_of_forall_not_mem _ _ _ _ (miss18 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v37 v60 v78 v79 X_arg6 X_arg15 ⟨n, hk⟩ _ _ (ix3 q a j) h)).trans (ih.trans ?_)
      rw [if_neg h, if_neg h]

end Loop
end Cert.CpKernelIdeal.Value
end
-- ==== Proof.NormMath.lean ====
module
public import Idealize.ShloMosaic.Lib.Pipeline.ValueKit
@[expose] public section
/-! The gradient of a root-mean-square norm, over the extended reals: the two-term form a kernel computes,
    `r·(e − (h·r)·mean(e·(h·r)))`, is the three-term form of the chain rule, `e·r + h·s + s·h` with
    `s = (Σ h·e)·(−½·(r/v))/n`. No finiteness is assumed: where a row's mean square is infinite both sides
    carry the factor `r = 0`. -/
noncomputable section
open Idealize.ShloMosaic
namespace Cert.NormMath

theorem n1024 : Ideal.ofBits .f32 0x44800000#32 = ((1024 : ℝ) : EReal) := by
  simp [Ideal.ofBits, Ideal.ieee, -EReal.coe_mul]; norm_num

theorem eps_pos : ∃ e : ℝ, 0 < e ∧ Ideal.ofBits .f32 0x3727C5AC#32 = (e : EReal) := by
  refine ⟨_, ?_, by simp only [Ideal.ofBits, Ideal.ieee]; simp [-EReal.coe_mul]; rfl⟩
  positivity

theorem neg_half : Ideal.ofBits .f32 0xBF000000#32 = ((-(1 / 2) : ℝ) : EReal) := by
  simp [Ideal.ofBits, Ideal.ieee, -EReal.coe_mul]; norm_num

/-- A nonnegative real factor moves through a sum. -/
theorem sum_mul_coe {ι : Type} (s : Finset ι) (f : ι → EReal) {r : ℝ} (hr : 0 ≤ r) :
    ∑ i ∈ s, f i * (r : EReal) = (∑ i ∈ s, f i) * (r : EReal) := by
  classical
  induction s using Finset.induction_on with
  | empty => simp
  | insert a s ha ih =>
    rw [Finset.sum_insert ha, Finset.sum_insert ha, ih, mul_comm (_ + _) (r : EReal),
      EReal.left_distrib_of_nonneg_of_ne_top (by exact_mod_cast hr) (EReal.coe_ne_top r)]
    simp only [mul_comm]

theorem mul_self_nonneg' (x : EReal) : 0 ≤ x * x := by
  induction x using EReal.rec with
  | bot => simp
  | top => simp
  | coe r => exact_mod_cast mul_self_nonneg r

/-- The mean square of a row plus epsilon. -/
def msq (h : Fin 1024 → EReal) : EReal :=
  Ideal.div (∑ k, h k * h k) (Ideal.ofBits .f32 0x44800000#32) + Ideal.ofBits .f32 0x3727C5AC#32

theorem msq_pos (h : Fin 1024 → EReal) : 0 < msq h := by
  obtain ⟨e, he, hb⟩ := eps_pos
  have h0 : 0 ≤ Ideal.div (∑ k, h k * h k) (Ideal.ofBits .f32 0x44800000#32) := by
    rw [n1024, Ideal.div_coe (by norm_num)]
    exact mul_nonneg (Finset.sum_nonneg fun k _ => mul_self_nonneg' _) (by exact_mod_cast (by norm_num : (0 : ℝ) ≤ 1 / 1024))
  rw [msq, hb]
  calc (0 : EReal) < (e : EReal) := by exact_mod_cast he
    _ = 0 + (e : EReal) := (zero_add _).symm
    _ ≤ _ := add_le_add h0 le_rfl

/-- The reciprocal root of a positive extended real is a nonnegative real, and its quotient by the argument its cube. -/
theorem rsqrt_spec {v : EReal} (hv : 0 < v) :
    ∃ r : ℝ, 0 ≤ r ∧ Ideal.rsqrt v = (r : EReal) ∧ Ideal.div (Ideal.rsqrt v) v = ((r * r * r : ℝ) : EReal) := by
  induction v using EReal.rec with
  | bot => simp at hv
  | top => exact ⟨0, le_rfl, by simp, by simp [Ideal.div]⟩
  | coe x =>
    have hx : 0 < x := by exact_mod_cast hv
    refine ⟨(Real.sqrt x)⁻¹, by positivity, by simp [hx.ne', not_lt.mpr hx.le], ?_⟩
    rw [Ideal.rsqrt_coe, if_neg (not_lt.mpr hx.le), if_neg hx.ne', Ideal.div_coe hx.ne', ← EReal.coe_mul]
    congr 1
    have hs : Real.sqrt x * Real.sqrt x = x := Real.mul_self_sqrt hx.le
    have hs0 : Real.sqrt x ≠ 0 := (Real.sqrt_pos.mpr hx).ne'
    rw [show (1 : ℝ) / x = (Real.sqrt x * Real.sqrt x)⁻¹ by rw [hs, one_div]]
    field_simp

/-- One row's gradient through the norm, as the kernel computes it. -/
def rowGrad (h e : Fin 1024 → EReal) (j : Fin 1024) : EReal :=
  Ideal.rsqrt (msq h) * (e j - h j * Ideal.rsqrt (msq h)
    * Ideal.div (∑ k, e k * (h k * Ideal.rsqrt (msq h))) (Ideal.ofBits .f32 0x44800000#32))

/-- The common factor of the chain rule's two contributions through the mean square. -/
def slope (h e : Fin 1024 → EReal) : EReal :=
  Ideal.div ((∑ k, h k * e k) * (Ideal.ofBits .f32 0xBF000000#32 * Ideal.div (Ideal.rsqrt (msq h)) (msq h)))
    (Ideal.ofBits .f32 0x44800000#32)

theorem rowGrad_eq (h e : Fin 1024 → EReal) (j : Fin 1024) :
    rowGrad h e j = e j * Ideal.rsqrt (msq h) + (h j * slope h e + slope h e * h j) := by
  obtain ⟨r, hr, e1, e2⟩ := rsqrt_spec (msq_pos h)
  have hr' : (0 : EReal) ≤ (r : EReal) := by exact_mod_cast hr
  unfold rowGrad slope
  rw [e2, e1, n1024, neg_half, Ideal.div_coe (by norm_num), Ideal.div_coe (by norm_num)]
  have hsum : ∑ k, e k * (h k * (r : EReal)) = (∑ k, h k * e k) * (r : EReal) := by
    rw [← sum_mul_coe _ _ hr]
    exact Finset.sum_congr rfl fun k _ => by rw [← mul_assoc, mul_comm (e k)]
  rw [hsum]
  generalize (∑ k, h k * e k) = D
  rw [sub_eq_add_neg, EReal.left_distrib_of_nonneg_of_ne_top hr' (EReal.coe_ne_top r), mul_comm (r : EReal) (e j)]
  congr 1
  rw [mul_comm (D * _ * _) (h j)]
  generalize h j = x
  have two : ∀ y : EReal, y + y = y * ((2 : ℝ) : EReal) := fun y => by
    rw [show ((2 : ℝ) : EReal) = 1 + 1 by rw [← EReal.coe_one, ← EReal.coe_add]; norm_num,
      EReal.left_distrib_of_nonneg (by norm_num) (by norm_num), mul_one]
  rw [two, ← mul_neg, ← mul_neg, ← EReal.coe_neg]
  have : x * (r : EReal) * (D * (r : EReal) * ((-(1 / 1024) : ℝ) : EReal)) = x * D * ((r * r * (-(1 / 1024)) : ℝ) : EReal) := by
    push_cast; ac_rfl
  rw [this, show x * (D * (((-(1 / 2) : ℝ) : EReal) * ((r * r * r : ℝ) : EReal)) * ((1 / 1024 : ℝ) : EReal)) * ((2 : ℝ) : EReal)
      = x * D * ((-(1 / 2) * (r * r * r) * (1 / 1024) * 2 : ℝ) : EReal) by push_cast; ac_rfl,
    show (r : EReal) * (x * D * ((r * r * (-(1 / 1024)) : ℝ) : EReal)) = x * D * ((r * (r * r * (-(1 / 1024))) : ℝ) : EReal) by
      push_cast; ac_rfl]
  congr 2
  ring

end Cert.NormMath
end
-- ==== Proof.CpMath.lean ====
module
public import Idealize.ShloMosaic.Lib.Pipeline.ValueKit
public import proofs.«01_k».proof.Proof.NormMath
@[expose] public section
/-! The gradient of the convolution and pooling mixer, row by row: the layer norm and its gated unit as the kernel
    computes them. -/
noncomputable section
open Idealize.ShloMosaic
namespace Cert.CpMath

/-- The mean of a row of 512. -/
def mean (v : Fin 512 → EReal) : EReal := Ideal.div (∑ k, v k) (Ideal.ofBits .f32 0x44000000#32)
/-- A row less its mean. -/
def cen (v : Fin 512 → EReal) (j : Fin 512) : EReal := v j - mean v
/-- The reciprocal root of a row's variance plus epsilon. -/
def rs (v : Fin 512 → EReal) : EReal := Ideal.rsqrt (mean (fun k => cen v k * cen v k) + Ideal.ofBits .f32 0x3727C5AC#32)
/-- The normalised row. -/
def xh (v : Fin 512 → EReal) (j : Fin 512) : EReal := cen v j * rs v
/-- The gated unit's slope times its cotangent. -/
def dsilu (d x : EReal) : EReal := d * (Ideal.logistic x * (1 + x * (1 - Ideal.logistic x)))
/-- The layer norm's cotangent. -/
def dln (v g b d : Fin 512 → EReal) (j : Fin 512) : EReal := dsilu (d j) (xh v j * g j + b j)
/-- The convolution's cotangent: the layer norm's gradient in the two-mean form. -/
def dc (v g b d : Fin 512 → EReal) (j : Fin 512) : EReal :=
  rs v * (dln v g b d j * g j - mean (fun k => dln v g b d k * g k) - xh v j * mean (fun k => dln v g b d k * g k * xh v k))

end Cert.CpMath
end
-- ==== Proof.CpPoint.lean ====
module
public import proofs.«01_k».proof.Proof.CpTrips
public import proofs.«01_k».proof.Proof.CpMath
@[expose] public section
/-! The mixer gradient's kernel at one grid point, over the windows' arrays. -/
set_option maxRecDepth 16384
noncomputable section
open Idealize.ShloMosaic Idealize.ShloMosaic.TcCoe Idealize.SL.Sem
open Idealize.ShloMosaic.Pipeline (Dat)
namespace Cert.CpKernelIdeal.Value
open Cert.CpKernelIdeal Cert.CpKernelIdeal.Gen Cert.CpMath
variable (m : (ℓ : Loc nD τ sig) → Buf (Elt Ideal) ℓ)

theorem idx : ∀ t : Fin cfg0.N, win0_0.index t = ![4 - t.val, 0] ∧ win0_1.index t = ![0, 0] ∧ win0_2.index t = ![4 - t.val, 0]
    ∧ win0_3.index t = ![4 - t.val, 0] ∧ win0_4.index t = ![4 - t.val, 0] ∧ win0_5.index t = ![0, 0] ∧ win0_6.index t = ![0, 0]
    ∧ win0_7.index t = ![0, 0] ∧ win0_8.index t = ![0, 0, 0] ∧ win0_9.index t = ![0, 0] ∧ win0_10.index t = ![4 - t.val, 0]
    ∧ win0_11.index t = ![0, 0] ∧ win0_12.index t = ![0, 0] ∧ win0_13.index t = ![0, 0, 0]
    ∧ (grid0.coords t 0).val = t.val ∧ t.val < 5 :=
  (by decide +kernel : ∀ t : Fin grid0.N, _)

theorem lt5 (t : Fin cfg0.N) : t.val < 5 := (idx t).2.2.2.2.2.2.2.2.2.2.2.2.2.2.2

/-- The row of the sequence at row `i` of a point's tile. -/
def rowOf (t : Fin cfg0.N) (i : Fin 832) : Fin 4160 := ⟨(4 - t.val) * 832 + i.val, by have := lt5 t; have := i.isLt; omega⟩

theorem mask : ∀ t : Fin 5, ∀ y : Fin 832,
    IntOp.cmpi CmpIPredicate.sge (IntOp.addi (Scalar.muli (Scalar.subi 4#32 (BitVec.ofNat 32 t.val)) 832#32) (BitVec.ofNat 32 y.val)) 48#32
      = if 48 ≤ (4 - t.val) * 832 + y.val then 1#1 else 0#1 := by
  decide +kernel

abbrev aDh (c : Dev nD) : FVec Ideal S4160x1024 .f32 := V m c main_v149
abbrev aWo (c : Dev nD) : FVec Ideal S1024x1024 .bf16 := V m c main_v150
abbrev aZ (c : Dev nD) : FVec Ideal S4160x1536 .bf16 := V m c main_v151
abbrev aC (c : Dev nD) : FVec Ideal S4160x512 .f32 := V m c main_v153
abbrev aPm (c : Dev nD) : FVec Ideal S4160x512 .bf16 := V m c main_v156
abbrev aCw (c : Dev nD) : FVec Ideal S31x512 .f32 := V m c main_arg1
abbrev aLg (c : Dev nD) : FVec Ideal S1x512 .f32 := V m c main_v157
abbrev aLb (c : Dev nD) : FVec Ideal S1x512 .f32 := V m c main_v158
abbrev aPw (c : Dev nD) : FVec Ideal S4x128x128 .f32 := V m c main_arg5
abbrev aPs (c : Dev nD) : FVec Ideal S1x512 .f32 := V m c main_v159

/-- The mixed cotangent: the rows' cotangent through the transposed output projection. -/
def mix (c : Dev nD) (R : Fin 4160) (j : Fin 1024) : EReal := ∑ k : Fin 1024, aDh m c (ix2 R k) * aWo m c (ix2 j k)
/-- The convolution half's cotangent, zero in the padding rows. -/
def da (c : Dev nD) (R : Fin 4160) (j : Fin 512) : EReal := if 48 ≤ R.val then mix m c R ⟨j.val, by omega⟩ else 0
/-- A row of the convolution's output. -/
def cRow (c : Dev nD) (R : Fin 4160) (j : Fin 512) : EReal := aC m c (ix2 R j)
/-- The layer norm's gain and bias. -/
def gain (c : Dev nD) (j : Fin 512) : EReal := aLg m c (ix2 0 j)
def bias (c : Dev nD) (j : Fin 512) : EReal := aLb m c (ix2 0 j)

/-- A buffer's contents at an index inside the last store's box: the payload there. -/
theorem canon_hit {s : Shape} {e : EltTy} (off size : Fin s.rank → ℕ) (h) (w : (Rect.unit (s := s) off size h).shape.Idx → Elt Ideal e)
    (L : List (View.Piece (Elt Ideal) s e)) (y : s.Idx) (x : (Rect.unit (s := s) off size h).shape.Idx)
    (hx : ∀ a, (y a).val = off a + (x a).val) : View.canon (⟨Rect.unit off size h, w⟩ :: L) y = w x := by
  have : y = (Rect.unit off size h).emb x := by
    funext a
    exact Fin.ext ((hx a).trans (Rect.idx_unit_val _ _ _ _ _).symm)
  rw [this]
  exact View.canon_cons_emb _ _ _ _

/-- Outside it along one axis: the earlier stores' contents. -/
theorem canon_miss {s : Shape} {e : EltTy} (off size : Fin s.rank → ℕ) (h) (w : (Rect.unit (s := s) off size h).shape.Idx → Elt Ideal e)
    (L : List (View.Piece (Elt Ideal) s e)) (y : s.Idx) (a : Fin s.rank) (hy : (y a).val < off a ∨ off a + size a ≤ (y a).val) :
    View.canon (⟨Rect.unit off size h, w⟩ :: L) y = View.canon L y := by
  refine View.canon_cons_of_not_mem _ _ fun hm => ?_
  have := (Rect.mem_set_unit (inb := h)).mp hm a
  omega

theorem coord (t : Fin cfg0.N) : (grid0.coords t 0).val = t.val := (idx t).2.2.2.2.2.2.2.2.2.2.2.2.2.2.1

theorem da_t (c : Dev nD) (t : Fin cfg0.N) (i : Fin 832) (j : Fin 512) (D : Vec Ideal S832x512 .f32)
    (hD : ∀ j : Fin 512, D (ix2 i j) = mix m c (rowOf t i) ⟨j.val, by omega⟩) :
    Scalar.select (IntOp.cmpi CmpIPredicate.sge (k0_pay116 (grid0.coords t) (ix2 i 0)) 48#32) (D (ix2 i j)) 0 = da m c (rowOf t i) j := by
  have hm := mask ⟨t.val, lt5 t⟩ i
  rw [show IntOp.cmpi CmpIPredicate.sge (k0_pay116 (grid0.coords t) (ix2 i 0)) 48#32 = if 48 ≤ (4 - t.val) * 832 + i.val then 1#1 else 0#1 by
    rw [← hm]; pointwise [k0_pay116]; rw [coord], hD]
  unfold da rowOf
  by_cases h : 48 ≤ (4 - t.val) * 832 + i.val <;> simp [Scalar.select, h]

theorem sel_mul (b : BitVec 1) (x y : EReal) : Scalar.select b (x * y) 0 = Scalar.select b x 0 * y := by
  unfold Scalar.select
  split <;> simp

theorem c_t (c : Dev nD) (t : Fin cfg0.N) (i : Fin 832) (j : Fin 512) : iblk m c 3 t (ix2 i j) = cRow m c (rowOf t i) j := by
  unfold cRow rowOf
  blk_point [iblk, idx t]
theorem gain_t (c : Dev nD) (t : Fin cfg0.N) (j : Fin 512) : iblk m c 6 t (ix2 0 j) = gain m c j := by
  unfold gain
  blk_point [iblk, idx t]
theorem bias_t (c : Dev nD) (t : Fin cfg0.N) (j : Fin 512) : iblk m c 7 t (ix2 0 j) = bias m c j := by
  unfold bias
  blk_point [iblk, idx t]
theorem mix_t (c : Dev nD) (t : Fin cfg0.N) (i : Fin 832) (j : Fin 1024) :
    k0_pay107 (iblk m c 0 t) (iblk m c 1 t) (ix2 i j) = mix m c (rowOf t i) j := by
  unfold mix rowOf
  pointwise [k0_pay107]
  blk_point [iblk, idx t]

theorem xh_t (c : Dev nD) (t : Fin cfg0.N) (i : Fin 832) (j : Fin 512) :
    k0_pay119 (k0_pay117 (iblk m c 3 t)) (k0_pay118 (iblk m c 3 t)) (ix2 i j) = xh (cRow m c (rowOf t i)) j := by
  pointwise [k0_pay119, k0_pay118, k0_pay117]
  simp only [c_t m c t]
  rfl

theorem rs_t (c : Dev nD) (t : Fin cfg0.N) (i : Fin 832) : k0_pay118 (iblk m c 3 t) (ix2 i 0) = rs (cRow m c (rowOf t i)) := by
  pointwise [k0_pay118, k0_pay117]
  simp only [c_t m c t]
  rfl

theorem dln_t (c : Dev nD) (t : Fin cfg0.N) (i : Fin 832) (j : Fin 512) (D : Vec Ideal S832x512 .f32)
    (hD : ∀ j : Fin 512, D (ix2 i j) = mix m c (rowOf t i) ⟨j.val, by omega⟩) :
    k0_pay120 (k0_pay116 (grid0.coords t)) (k0_pay117 (iblk m c 3 t)) (k0_pay118 (iblk m c 3 t)) (iblk m c 6 t) (iblk m c 7 t) D (ix2 i j)
      = dln (cRow m c (rowOf t i)) (gain m c) (bias m c) (da m c (rowOf t i)) j := by
  have hd := da_t m c t i j D hD
  generalize hp : k0_pay116 (grid0.coords t) = P at hd ⊢
  pointwise [k0_pay120, k0_pay119, k0_pay118, k0_pay117]
  rw [sel_mul, hd]
  simp only [c_t m c t, gain_t m c t, bias_t m c t]
  rfl

theorem dc_t (c : Dev nD) (t : Fin cfg0.N) (i : Fin 832) (j : Fin 512) (D : Vec Ideal S832x512 .f32)
    (hD : ∀ j : Fin 512, D (ix2 i j) = mix m c (rowOf t i) ⟨j.val, by omega⟩) :
    k0_pay123 (k0_pay121 (k0_pay116 (grid0.coords t)) (k0_pay117 (iblk m c 3 t)) (k0_pay118 (iblk m c 3 t)) (iblk m c 6 t) (iblk m c 7 t) D (iblk m c 6 t))
        (k0_pay122 (k0_pay118 (iblk m c 3 t))) (ix2 i j)
      = dc (cRow m c (rowOf t i)) (gain m c) (bias m c) (da m c (rowOf t i)) j := by
  have hl := fun j => dln_t m c t i j D hD
  have hx := xh_t m c t i
  have hr := rs_t m c t i
  generalize hp : k0_pay120 (k0_pay116 (grid0.coords t)) (k0_pay117 (iblk m c 3 t)) (k0_pay118 (iblk m c 3 t)) (iblk m c 6 t) (iblk m c 7 t) D = P at hl
  generalize hq : k0_pay119 (k0_pay117 (iblk m c 3 t)) (k0_pay118 (iblk m c 3 t)) = Q at hx
  unfold k0_pay123 k0_pay121 k0_pay122
  rw [hp, hq]
  generalize k0_pay118 (iblk m c 3 t) = S at hr ⊢
  pointwise []
  simp only [hl, hx, hr, gain_t m c t]
  rfl

/-- A load of a stored whole buffer's columns `lo` onwards. -/
theorem cols (v : View sig .tc .vmem S832x1024 .f32) (P : FVec Ideal S832x1024 .f32) (h0) (lo n : ℕ) (h) (i : Fin 832) (j : Fin n) :
    v.readCov [(⟨Rect.unit (s := S832x1024) ![0, 0] ![832, 1024] h0, P⟩ : View.Piece (Elt Ideal) S832x1024 .f32)]
        (Rect.unit (s := S832x1024) ![0, lo] ![832, n] h).toLoadRect (ix2 i j)
      = P (ix2 i ⟨lo + j.val, by have := h 1; simp at this; omega⟩) := by
  rw [View.readCov_eq_canon']
  refine canon_hit _ _ _ _ _ _ _ fun a => ?_
  refine (Rect.idx_unit_val _ _ _ _ _).trans ?_
  match a with
  | ⟨0, _⟩ => rfl
  | ⟨1, _⟩ => exact (Nat.zero_add _).symm

theorem dmix (c : Dev nD) (t : Fin cfg0.N) (v : View sig .tc .vmem S832x1024 .f32) (h0) (lo n : ℕ) (h) (i : Fin 832) (j : Fin n) :
    v.readCov [(⟨Rect.unit (s := S832x1024) ![0, 0] ![832, 1024] h0, k0_pay107 (iblk m c 0 t) (iblk m c 1 t)⟩ : View.Piece (Elt Ideal) S832x1024 .f32)]
        (Rect.unit (s := S832x1024) ![0, lo] ![832, n] h).toLoadRect (ix2 i j)
      = mix m c (rowOf t i) ⟨lo + j.val, by have := h 1; simp at this; omega⟩ :=
  (cols v _ h0 lo n h i j).trans (mix_t m c t i _)

/-- The convolution's cotangent at a row of the sequence, zero past its end. -/
def dcAt (c : Dev nD) (R : ℕ) (j : Fin 512) : EReal :=
  if h : R < 4160 then dc (cRow m c ⟨R, h⟩) (gain m c) (bias m c) (da m c ⟨R, h⟩) j else 0

theorem dcAt_row (c : Dev nD) (t : Fin cfg0.N) (i : Fin 832) (j : Fin 512) :
    dc (cRow m c (rowOf t i)) (gain m c) (bias m c) (da m c (rowOf t i)) j = dcAt m c ((4 - t.val) * 832 + i.val) j :=
  by unfold dcAt; rw [dif_pos (show (4 - t.val) * 832 + i.val < 4160 from (rowOf t i).isLt)]; rfl

theorem mix_lo (c : Dev nD) (R : Fin 4160) (j : Fin 512) (h) : mix m c R ⟨0 + j.val, h⟩ = mix m c R ⟨j.val, by omega⟩ := by
  simp only [Nat.zero_add]

end Cert.CpKernelIdeal.Value
end
-- ==== Proof.CpLn.lean ====
module
public import proofs.«01_k».proof.Proof.CpMath
@[expose] public section
/-! The layer norm's gradient over the extended reals, where the row and the cotangent are real: the two-mean form a kernel
    computes is the chain rule's form. Also the gated unit's slope, for any pre-activation, and telescoping sums. -/
noncomputable section
open Idealize.ShloMosaic
namespace Cert.CpMath

/-- A real number among the extended reals. -/
def IsR (x : EReal) : Prop := ∃ r : ℝ, x = (r : EReal)

theorem IsR.add {x y : EReal} : IsR x → IsR y → IsR (x + y) := fun ⟨a, ha⟩ ⟨b, hb⟩ => ⟨a + b, by rw [ha, hb, EReal.coe_add]⟩
theorem IsR.mul {x y : EReal} : IsR x → IsR y → IsR (x * y) := fun ⟨a, ha⟩ ⟨b, hb⟩ => ⟨a * b, by rw [ha, hb, EReal.coe_mul]⟩
theorem IsR.sub {x y : EReal} : IsR x → IsR y → IsR (x - y) := fun ⟨a, ha⟩ ⟨b, hb⟩ => ⟨a - b, by rw [ha, hb, EReal.coe_sub]⟩
theorem IsR.zero : IsR 0 := ⟨0, rfl⟩
theorem IsR.sum {ι : Type} (s : Finset ι) (f : ι → EReal) (h : ∀ i, IsR (f i)) : IsR (∑ i ∈ s, f i) := by
  classical
  induction s using Finset.induction_on with
  | empty => exact ⟨0, by simp⟩
  | insert a s ha ih => rw [Finset.sum_insert ha]; exact (h a).add ih
theorem IsR.div {x y : EReal} (hx : IsR x) (h : ∃ b : ℝ, b ≠ 0 ∧ y = (b : EReal)) : IsR (Ideal.div x y) := by
  obtain ⟨b, hb, rfl⟩ := h
  rw [Ideal.div_coe hb]
  exact hx.mul ⟨_, rfl⟩

theorem logistic_isR (x : EReal) : IsR (Ideal.logistic x) := by
  induction x using EReal.rec with
  | bot => exact ⟨0, by simp⟩
  | top => exact ⟨1, by simp⟩
  | coe r => exact ⟨_, Ideal.logistic_coe r⟩

theorem dsilu_eq {d : EReal} (hd : IsR d) (x : EReal) :
    dsilu d x = d * Ideal.logistic x + d * x * (Ideal.logistic x * (1 - Ideal.logistic x)) := by
  obtain ⟨d, rfl⟩ := hd
  unfold dsilu
  induction x using EReal.rec with
  | bot => simp
  | top =>
    have e : (1 : EReal) - 1 = 0 := by rw [← EReal.coe_one, ← EReal.coe_sub]; simp
    simp [e]
  | coe r =>
    rw [Ideal.logistic_coe]
    norm_cast
    ring
theorem dsilu_isR {d : EReal} (hd : IsR d) (x : EReal) : IsR (dsilu d x) := by
  rw [dsilu_eq hd]
  induction x using EReal.rec with
  | bot => simpa using IsR.zero
  | top =>
    have e : (1 : EReal) - 1 = 0 := by rw [← EReal.coe_one, ← EReal.coe_sub]; simp
    simpa [e] using hd
  | coe r => exact (hd.mul (logistic_isR _)).add ((hd.mul ⟨r, rfl⟩).mul ((logistic_isR _).mul (IsR.sub ⟨1, rfl⟩ (logistic_isR _))))
theorem dsilu_zero (x : EReal) : dsilu 0 x = 0 := by unfold dsilu; exact zero_mul _

theorem n512 : Ideal.ofBits .f32 0x44000000#32 = ((512 : ℝ) : EReal) := by
  simp [Ideal.ofBits, Ideal.ieee, -EReal.coe_mul]; norm_num

/-- The variance of a row plus epsilon. -/
def vr (v : Fin 512 → EReal) : EReal := mean (fun k => cen v k * cen v k) + Ideal.ofBits .f32 0x3727C5AC#32

theorem vr_pos (v : Fin 512 → EReal) : 0 < vr v := by
  obtain ⟨e, he, hb⟩ := NormMath.eps_pos
  have h0 : 0 ≤ mean (fun k => cen v k * cen v k) := by
    rw [mean, n512, Ideal.div_coe (by norm_num)]
    exact mul_nonneg (Finset.sum_nonneg fun k _ => NormMath.mul_self_nonneg' _) (by exact_mod_cast (by norm_num : (0 : ℝ) ≤ 1 / 512))
  rw [vr, hb]
  calc (0 : EReal) < (e : EReal) := by exact_mod_cast he
    _ = 0 + (e : EReal) := (zero_add _).symm
    _ ≤ _ := add_le_add h0 le_rfl

/-- The common factor of the chain rule's two contributions through the variance. -/
def slp (v e : Fin 512 → EReal) : EReal :=
  Ideal.div ((∑ k, cen v k * e k) * (Ideal.ofBits .f32 0xBF000000#32 * Ideal.div (rs v) (vr v))) (Ideal.ofBits .f32 0x44000000#32)
/-- The centred row's cotangent by the chain rule. -/
def dcen (v e : Fin 512 → EReal) (j : Fin 512) : EReal := e j * rs v + cen v j * slp v e + slp v e * cen v j

theorem coe_sum' {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem ln_eq (v e : Fin 512 → EReal) (hv : ∀ k, IsR (v k)) (he : ∀ k, IsR (e k)) (j : Fin 512) :
    rs v * (e j - mean e - xh v j * mean (fun k => e k * xh v k))
      = dcen v e j + Ideal.div (∑ k, -dcen v e k) (Ideal.ofBits .f32 0x44000000#32) := by
  choose a ha using hv
  choose b hb using he
  obtain rfl : v = fun k => (a k : EReal) := funext ha
  obtain rfl : e = fun k => (b k : EReal) := funext hb
  obtain ⟨r, hr, e1, e2⟩ := NormMath.rsqrt_spec (vr_pos fun k => (a k : EReal))
  have er : rs (fun k => (a k : EReal)) = (r : EReal) := e1
  have e3 : Ideal.div (rs fun k => (a k : EReal)) (vr fun k => (a k : EReal)) = ((r * r * r : ℝ) : EReal) := e2
  have ec : ∀ k, cen (fun k => (a k : EReal)) k = ((a k - (∑ k, a k) * (1 / 512) : ℝ) : EReal) := fun k => by
    rw [cen, mean, n512, Ideal.div_coe (by norm_num), ← coe_sum', ← EReal.coe_mul, ← EReal.coe_sub]
  have s0 : ∑ k, (a k - (∑ k, a k) * (1 / 512)) = 0 := by
    rw [Finset.sum_sub_distrib, Finset.sum_const, Finset.card_univ, Fintype.card_fin]
    simp only [nsmul_eq_mul]
    push_cast
    ring
  simp only [dcen, slp, e3]
  simp only [xh, mean, er, ec, n512, NormMath.neg_half]
  generalize hx : (fun k => a k - (∑ k, a k) * (1 / 512)) = x at *
  have hx' : ∀ k, a k - (∑ k, a k) * (1 / 512) = x k := fun k => congrFun hx k
  simp only [hx'] at s0 ⊢
  have d5 : ∀ y : EReal, Ideal.div y ((512 : ℝ) : EReal) = y * ((1 / 512 : ℝ) : EReal) := fun y => Ideal.div_coe (by norm_num) y
  simp only [d5, ← EReal.coe_mul, ← EReal.coe_add, ← EReal.coe_neg, ← coe_sum', ← EReal.coe_sub]
  congr 1
  have t1 : ∑ k, b k * (x k * r) = (∑ k, x k * b k) * r := by
    rw [Finset.sum_mul]
    exact Finset.sum_congr rfl fun k _ => by ring
  generalize hD : ∑ k, x k * b k = D at *
  have t2 : ∀ S : ℝ, ∑ k, -(b k * r + x k * S + S * x k) = -((∑ k, b k) * r) := fun S => by
    rw [Finset.sum_neg_distrib, Finset.sum_add_distrib, Finset.sum_add_distrib, ← Finset.sum_mul, ← Finset.sum_mul, ← Finset.mul_sum, s0]
    ring
  rw [t1, t2]
  ring

/-- Shifted differences of a sequence that ends telescope to a window's sum. -/
theorem tele (N w R : ℕ) (hR : R ≤ N) (g : ℕ → ℝ) (hg : ∀ n, N ≤ n → g n = 0) :
    ∑ P ∈ Finset.Ico R N, (-g (P + w) + g P) = ∑ s ∈ Finset.range w, g (R + s) := by
  rw [Finset.sum_add_distrib, Finset.sum_neg_distrib, Finset.sum_Ico_add' g R N w]
  have h1 : ∑ P ∈ Finset.Ico (R + w) (N + w), g P + ∑ P ∈ Finset.Ico R (R + w), g P
      = ∑ P ∈ Finset.Ico R N, g P + ∑ P ∈ Finset.Ico N (N + w), g P := by
    rw [add_comm, Finset.sum_Ico_consecutive _ (by omega) (by omega), Finset.sum_Ico_consecutive _ hR (by omega)]
  have h2 : ∑ P ∈ Finset.Ico N (N + w), g P = 0 := Finset.sum_eq_zero fun n hn => hg n (Finset.mem_Ico.mp hn).1
  have h3 : ∑ P ∈ Finset.Ico R (R + w), g P = ∑ s ∈ Finset.range w, g (R + s) := by
    rw [Finset.sum_Ico_eq_sum_range, Nat.add_sub_cancel_left]
  rw [h2, h3] at h1
  linarith

end Cert.CpMath
end
-- ==== Proof.CpRef.lean ====
module
public import proofs.«01_k».proof.Proof.Gen.CpReferenceIdeal.Read
public import Idealize.ShloMosaic.Lib.Pipeline.ValueKit
public import proofs.«01_k».proof.Proof.CpLn
@[expose] public section
/-! The reference of the mixer's gradient, read at an index: the convolution, the layer norm, the sums over the rows. -/
set_option maxRecDepth 16384
noncomputable section
open Idealize.ShloMosaic Idealize.ShloMosaic.TcCoe Idealize.SL.Sem
namespace Cert.CpReferenceIdeal.Read
open Cert.CpReferenceIdeal Cert.CpReferenceIdeal.Gen Cert.CpMath

/-- The projected rows behind their 48 zero rows. -/
def pZ (x0 : FVec Ideal S4112x1536 .f32) (R : ℕ) (k : Fin 1536) : EReal :=
  if h : 48 ≤ R ∧ R < 4160 then x0 (ix2 ⟨R - 48, by omega⟩ k) else 0
/-- The gated unit's output. -/
def glE (x0 : FVec Ideal S4112x1536 .f32) (R : ℕ) (j : Fin 512) : EReal :=
  pZ x0 R ⟨j.val, by omega⟩ * Ideal.logistic (pZ x0 R ⟨512 + j.val, by omega⟩)
/-- The depthwise convolution's output. -/
def cE (x0 : FVec Ideal S4112x1536 .f32) (x1 : FVec Ideal S31x512 .f32) (x2 : FVec Ideal S512 .f32) (i : Fin 4112) (j : Fin 512) : EReal :=
  ∑ q : Fin 31, glE x0 (18 + q.val + i.val) j * x1 (ix2 q j) + x2 (ix1 j)

variable (x0 : FVec Ideal S4112x1536 .f32) (x1 : FVec Ideal S31x512 .f32) (x2 x3 x4 : FVec Ideal S512 .f32)
  (x5 : FVec Ideal S4x128x128 .f32) (x6 : FVec Ideal S512 .f32) (x7 : FVec Ideal S1024x1024 .f32) (x8 : FVec Ideal S4112x1024 .f32)

/-- The arguments that must be finite. -/
structure Fine : Prop where
  h0 : ∀ i k, IsR (x0 (ix2 i k))
  h1 : ∀ i k, IsR (x1 (ix2 i k))
  h2 : ∀ k, IsR (x2 (ix1 k))
  h3 : ∀ k, IsR (x3 (ix1 k))
  h5 : ∀ g a b, IsR (x5 (ix3 g a b))
  h6 : ∀ k, IsR (x6 (ix1 k))
  h7 : ∀ i k, IsR (x7 (ix2 i k))
  h8 : ∀ i k, IsR (x8 (ix2 i k))

theorem ref1 (R : Fin 4160) (k : Fin 1536) : val_main_v1 (F := Ideal) x0 (ix2 R k) = pZ x0 R.val k := by
  have hR := R.isLt
  by_cases hc : R.val < 48
  · rw [pZ, dif_neg (by omega)]
    pointwise [val_main_v1, val_main_v0, val_main_cst]
    rw [dif_pos hc]
  · rw [pZ, dif_pos ⟨by omega, hR⟩]
    pointwise [val_main_v1, val_main_v0, val_main_cst]
    rw [dif_neg hc]

theorem ref13 (R : Fin 4160) (j : Fin 512) : val_main_v13 (F := Ideal) x0 (ix2 R j) = glE x0 R.val j := by
  have h := ref1 x0
  unfold val_main_v13 val_main_v9 val_main_v7 val_main_v5 val_main_v4 val_main_v3 val_main_v2
  generalize val_main_v1 (F := Ideal) x0 = z at h
  unfold glE Ideal.logistic
  pointwise [val_main_v8, val_main_cst_1, val_main_v6, val_main_cst_0]
  simp only [h]

theorem ref78 (q : Fin 31) (i : Fin 4112) (j : Fin 512) : val_main_v78 (F := Ideal) x0 (ix3 q i j) = glE x0 (18 + q.val + i.val) j := by
  have h : ∀ R j, val_main_v13 (F := Ideal) x0 (ix2 R j) = glE x0 R.val j := ref13 x0
  unfold val_main_v78 val_main_v77 val_main_v76 val_main_v75 val_main_v74 val_main_v73 val_main_v72 val_main_v71 val_main_v70 val_main_v69 val_main_v68 val_main_v67 val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14
  generalize val_main_v13 (F := Ideal) x0 = z at h
  fin_cases q
  all_goals
    pointwise
    exact h _ _

theorem ref85 (i : Fin 4112) (j : Fin 512) : val_main_v85 (F := Ideal) x0 x1 x2 (ix2 i j) = cE x0 x1 x2 i j := by
  have h := ref78 x0
  unfold val_main_v85 val_main_v82 val_main_v81 cE
  generalize val_main_v78 (F := Ideal) x0 = z at h
  pointwise [val_main_v80, val_main_v79, val_main_v84, val_main_v83, val_main_cst_3]
  simp only [h]

/-- The mixed cotangent. -/
def mixE (i : Fin 4112) (j : Fin 1024) : EReal := ∑ k : Fin 1024, x8 (ix2 i k) * x7 (ix2 j k)
def daE (i : Fin 4112) (j : Fin 512) : EReal := mixE x7 x8 i ⟨j.val, by omega⟩
def g1 (x : FVec Ideal S512 .f32) (j : Fin 512) : EReal := x (ix1 j)
/-- The layer norm's and the convolution's cotangents, as the kernel computes them. -/
def dlnE (i : Fin 4112) (j : Fin 512) : EReal := dln (cE x0 x1 x2 i) (g1 x3) (g1 x4) (daE x7 x8 i) j
def dcE (i : Fin 4112) (j : Fin 512) : EReal := dc (cE x0 x1 x2 i) (g1 x3) (g1 x4) (daE x7 x8 i) j

theorem ref189 (i : Fin 4112) (j : Fin 1024) : val_main_v189 (F := Ideal) x7 x8 (ix2 i j) = mixE x7 x8 i j := by
  pointwise [val_main_v189, mixE]

variable {x0 x1 x2 x3 x5 x6 x7 x8}
theorem pZ_isR (hx : ∀ i k, IsR (x0 (ix2 i k))) (R k) : IsR (pZ x0 R k) := by
  unfold pZ
  split
  · exact hx _ _
  · exact IsR.zero
theorem glE_isR (hx : ∀ i k, IsR (x0 (ix2 i k))) (R j) : IsR (glE x0 R j) := (pZ_isR hx _ _).mul (logistic_isR _)
theorem cE_isR (hf : Fine x0 x1 x2 x3 x5 x6 x7 x8) (i j) : IsR (cE x0 x1 x2 i j) :=
  (IsR.sum _ _ fun q => (glE_isR hf.h0 _ _).mul (hf.h1 _ _)).add (hf.h2 _)
theorem mixE_isR (hf : Fine x0 x1 x2 x3 x5 x6 x7 x8) (i j) : IsR (mixE x7 x8 i j) := IsR.sum _ _ fun k => (hf.h8 _ _).mul (hf.h7 _ _)
variable (x0 x1 x2 x3 x5 x6 x7 x8)

theorem ref104 (i : Fin 4112) (j : Fin 512) : val_main_v104 (F := Ideal) x0 x1 x2 (ix2 i j) = xh (cE x0 x1 x2 i) j := by
  have h := ref85 x0 x1 x2
  unfold val_main_v104 val_main_v103 val_main_v99 val_main_v98 val_main_v96 val_main_v94 val_main_v93 val_main_v92 val_main_v91 val_main_v90
    val_main_v89 val_main_v87 val_main_v86
  generalize val_main_v85 (F := Ideal) x0 x1 x2 = z at h
  pointwise [xh, rs, cen, mean, val_main_cst_4, val_main_cst_5, val_main_cst_6, val_main_cst_7, val_main_cst_8, val_main_v88, val_main_v95, val_main_v97]
  simp only [h]

theorem ref110 (i : Fin 4112) (j : Fin 512) :
    val_main_v110 (F := Ideal) x0 x1 x2 x3 x4 (ix2 i j) = xh (cE x0 x1 x2 i) j * g1 x3 j + g1 x4 j := by
  have h := ref104 x0 x1 x2
  unfold val_main_v110 val_main_v107 g1
  generalize val_main_v104 (F := Ideal) x0 x1 x2 = z at h
  pointwise [val_main_v109, val_main_v108, val_main_v106, val_main_v105]
  simp only [h]

theorem ref259 (hf : Fine x0 x1 x2 x3 x5 x6 x7 x8) (i : Fin 4112) (j : Fin 512) :
    val_main_v259 (F := Ideal) x0 x1 x2 x3 x4 x7 x8 (ix2 i j) = dlnE x0 x1 x2 x3 x4 x7 x8 i j := by
  have h := ref110 x0 x1 x2 x3 x4
  have h' := ref189 x7 x8
  unfold dlnE dln
  rw [dsilu_eq (d := daE x7 x8 i j) (mixE_isR hf _ _)]
  unfold val_main_v259 val_main_call9_v2 val_main_call9_v1 val_main_call9_v0 val_main_v111_1 val_main_call0_v7 val_main_v111_2 val_main_call0_v3 val_main_call0_v1
    val_main_call0_v0 val_main_v190
  generalize val_main_v110 (F := Ideal) x0 x1 x2 x3 x4 = z at h
  generalize val_main_v189 (F := Ideal) x7 x8 = w at h'
  unfold daE Ideal.logistic
  pointwise [val_main_call0_v2, val_main_call0_cst, val_main_call0_v4, val_main_call0_cst_0, val_main_call0_v6, val_main_call0_cst_1]
  simp only [h, h']
  exact congrArg (fun y => _ + y * _) (mul_comm _ _)

theorem ref290 (hf : Fine x0 x1 x2 x3 x5 x6 x7 x8) (i : Fin 4112) (j : Fin 512) :
    val_main_v290 (F := Ideal) x0 x1 x2 x3 x4 x7 x8 (ix2 i j) = dcE x0 x1 x2 x3 x4 x7 x8 i j := by
  have h := ref85 x0 x1 x2
  have h' := fun i j => ref259 x0 x1 x2 x3 x4 x5 x6 x7 x8 hf i j
  have e := ln_eq (cE x0 x1 x2 i) (fun j => dlnE x0 x1 x2 x3 x4 x7 x8 i j * g1 x3 j) (cE_isR hf i)
    (fun k => (dsilu_isR (mixE_isR hf i _) _).mul (hf.h3 k)) j
  refine Eq.trans ?_ e.symm
  unfold val_main_v290 val_main_v289 val_main_v288 val_main_v287 val_main_v285 val_main_v284 val_main_v283 val_main_v282 val_main_v281 val_main_v280
    val_main_v279 val_main_v278 val_main_v277 val_main_v276 val_main_v274 val_main_v273 val_main_v272 val_main_v271 val_main_v270 val_main_v269 val_main_v267
    val_main_v102 val_main_v100 val_main_v99 val_main_v98 val_main_v96 val_main_v94 val_main_v93 val_main_v92 val_main_v91 val_main_v90
    val_main_v89 val_main_v87 val_main_v86
  generalize val_main_v85 (F := Ideal) x0 x1 x2 = z at h
  generalize val_main_v259 (F := Ideal) x0 x1 x2 x3 x4 x7 x8 = w at h'
  unfold dcen slp vr rs cen mean g1
  pointwise [val_main_cst_4, val_main_cst_5, val_main_cst_6, val_main_cst_7, val_main_cst_8, val_main_cst_9, val_main_v88, val_main_v95, val_main_v97, val_main_v101,
    val_main_cst_39, val_main_cst_40, val_main_cst_41, val_main_cst_42, val_main_cst_43, val_main_cst_44, val_main_v275, val_main_v286, val_main_v266, val_main_v105]
  simp only [h, h', zero_add, Fin.sum_univ_one, Finset.univ_unique, Finset.sum_singleton]

/-- The trailing means, and their grouped map. -/
def pmE (i : Fin 4112) (g : Fin 4) (l : Fin 128) : EReal := val_main_v180 (F := Ideal) x0 (ix3 i g l)
def pgE (i : Fin 4112) (g : Fin 4) (l : Fin 128) : EReal := ∑ d : Fin 128, pmE x0 i g d * x5 (ix3 g d l)
def dqE (i : Fin 4112) (g : Fin 4) (l : Fin 128) : EReal :=
  mixE x7 x8 i ⟨512 + (128 * g.val + l.val), by omega⟩ * x6 (ix1 ⟨128 * g.val + l.val, by omega⟩)
def dpmE (i : Fin 4112) (g : Fin 4) (l : Fin 128) : EReal := ∑ d : Fin 128, dqE x6 x7 x8 i g d * x5 (ix3 g l d)

theorem ref183 (i : Fin 4112) (g : Fin 4) (l : Fin 128) :
    val_main_v183 (F := Ideal) x0 x5 (ix2 i ⟨128 * g.val + l.val, by omega⟩) = pgE x0 x5 i g l := by
  unfold val_main_v183 val_main_v182 val_main_v181 pgE pmE
  generalize val_main_v180 (F := Ideal) x0 = z
  pointwise
  exact Finset.sum_congr rfl fun d _ => mul_comm _ _

theorem ref196 (i : Fin 4112) (g : Fin 4) (l : Fin 128) :
    val_main_v196 (F := Ideal) x6 x7 x8 (ix2 i ⟨128 * g.val + l.val, by omega⟩) = dqE x6 x7 x8 i g l := by
  have h' := ref189 x7 x8
  unfold val_main_v196 val_main_v191 dqE
  generalize val_main_v189 (F := Ideal) x7 x8 = w at h'
  pointwise [val_main_v195, val_main_v184]
  simp only [h']

theorem ref199 (i : Fin 4112) (g : Fin 4) (l : Fin 128) :
    val_main_v199 (F := Ideal) x6 x7 x8 (ix3 g l i) = dqE x6 x7 x8 i g l := by
  have h := fun i g l => ref196 x6 x7 x8 i g l
  unfold val_main_v199 val_main_v198
  generalize val_main_v196 (F := Ideal) x6 x7 x8 = w at h
  rw [← h]
  pointwise
  exact congrArg (fun n => w (ix2 i n)) (Fin.ext (by dsimp only; omega))

theorem ref201 (i : Fin 4112) (g : Fin 4) (l : Fin 128) :
    val_main_v201 (F := Ideal) x5 x6 x7 x8 (ix3 i g l) = dpmE x5 x6 x7 x8 i g l := by
  have h := fun i g l => ref199 x6 x7 x8 i g l
  unfold val_main_v201 val_main_v200 dpmE
  generalize val_main_v199 (F := Ideal) x6 x7 x8 = w at h
  pointwise
  simp only [h]

theorem ref203 (g : Fin 4) (a b : Fin 128) : val_main_v203 (F := Ideal) x0 x6 x7 x8 (ix3 g a b)
    = ∑ i : Fin 4112, pmE x0 i g a * dqE x6 x7 x8 i g b := by
  have h := fun i g l => ref199 x6 x7 x8 i g l
  unfold val_main_v203 val_main_v202 pmE
  generalize val_main_v199 (F := Ideal) x6 x7 x8 = w at h
  generalize val_main_v180 (F := Ideal) x0 = z
  pointwise
  simp only [h]
  exact Finset.sum_congr rfl fun i _ => mul_comm _ _

theorem ref197 (g : Fin 4) (l : Fin 128) : val_main_v197 (F := Ideal) x0 x5 x7 x8 (ix1 ⟨128 * g.val + l.val, by omega⟩)
    = ∑ i : Fin 4112, pgE x0 x5 i g l * mixE x7 x8 i ⟨512 + (128 * g.val + l.val), by omega⟩ := by
  have h := fun i g l => ref183 x0 x5 i g l
  have h' := ref189 x7 x8
  unfold val_main_v197 val_main_v194 val_main_v193 val_main_v192 val_main_v191
  generalize val_main_v189 (F := Ideal) x7 x8 = w at h'
  generalize val_main_v183 (F := Ideal) x0 x5 = z at h
  pointwise [val_main_cst_17, val_main_cst_18]
  simp only [h, h', zero_add, Fin.sum_univ_one, Finset.univ_unique, Finset.sum_singleton]

/-- One row of the vector gradients: bias of the convolution, gain and bias of the layer norm, scales of the channels. -/
def vecE (q : Fin 8) (g : Fin 4) (l : Fin 128) (i : Fin 4112) : EReal :=
  if q = 0 then dcE x0 x1 x2 x3 x4 x7 x8 i ⟨128 * g.val + l.val, by omega⟩
  else if q = 1 then xh (cE x0 x1 x2 i) ⟨128 * g.val + l.val, by omega⟩ * dlnE x0 x1 x2 x3 x4 x7 x8 i ⟨128 * g.val + l.val, by omega⟩
  else if q = 2 then dlnE x0 x1 x2 x3 x4 x7 x8 i ⟨128 * g.val + l.val, by omega⟩
  else if q = 3 then pgE x0 x5 i g l * mixE x7 x8 i ⟨512 + (128 * g.val + l.val), by omega⟩ else 0

theorem ref293 (hf : Fine x0 x1 x2 x3 x5 x6 x7 x8) (j : Fin 512) : val_main_v293 (F := Ideal) x0 x1 x2 x3 x4 x7 x8 (ix1 j) = ∑ i : Fin 4112, dcE x0 x1 x2 x3 x4 x7 x8 i j := by
  have h := fun i j => ref290 x0 x1 x2 x3 x4 x5 x6 x7 x8 hf i j
  unfold val_main_v293 val_main_v292 val_main_v291
  generalize val_main_v290 (F := Ideal) x0 x1 x2 x3 x4 x7 x8 = w at h
  pointwise [val_main_cst_45, val_main_cst_46]
  simp only [h, zero_add, Fin.sum_univ_one, Finset.univ_unique, Finset.sum_singleton]
theorem ref268 (hf : Fine x0 x1 x2 x3 x5 x6 x7 x8) (j : Fin 512) : val_main_v268 (F := Ideal) x0 x1 x2 x3 x4 x7 x8 (ix1 j)
    = ∑ i : Fin 4112, xh (cE x0 x1 x2 i) j * dlnE x0 x1 x2 x3 x4 x7 x8 i j := by
  have h := fun i j => ref259 x0 x1 x2 x3 x4 x5 x6 x7 x8 hf i j
  have h' := ref104 x0 x1 x2
  unfold val_main_v268 val_main_v265 val_main_v264 val_main_v263
  generalize val_main_v259 (F := Ideal) x0 x1 x2 x3 x4 x7 x8 = w at h
  generalize val_main_v104 (F := Ideal) x0 x1 x2 = z at h'
  pointwise [val_main_cst_37, val_main_cst_38]
  simp only [h, h', zero_add, Fin.sum_univ_one, Finset.univ_unique, Finset.sum_singleton]
theorem ref262 (hf : Fine x0 x1 x2 x3 x5 x6 x7 x8) (j : Fin 512) : val_main_v262 (F := Ideal) x0 x1 x2 x3 x4 x7 x8 (ix1 j) = ∑ i : Fin 4112, dlnE x0 x1 x2 x3 x4 x7 x8 i j := by
  have h := fun i j => ref259 x0 x1 x2 x3 x4 x5 x6 x7 x8 hf i j
  unfold val_main_v262 val_main_v261 val_main_v260
  generalize val_main_v259 (F := Ideal) x0 x1 x2 x3 x4 x7 x8 = w at h
  pointwise [val_main_cst_35, val_main_cst_36]
  simp only [h, zero_add, Fin.sum_univ_one, Finset.univ_unique, Finset.sum_singleton]

theorem ref436 (hf : Fine x0 x1 x2 x3 x5 x6 x7 x8) (q : Fin 8) (g : Fin 4) (l : Fin 128) :
    val_main_v436 (F := Ideal) x0 x1 x2 x3 x4 x5 x7 x8 (ix2 q ⟨128 * g.val + l.val, by omega⟩)
      = ∑ i : Fin 4112, vecE x0 x1 x2 x3 x4 x5 x7 x8 q g l i := by
  have h1 := ref293 x0 x1 x2 x3 x4 x5 x6 x7 x8 hf ⟨128 * g.val + l.val, by omega⟩
  have h2 := ref268 x0 x1 x2 x3 x4 x5 x6 x7 x8 hf ⟨128 * g.val + l.val, by omega⟩
  have h3 := ref262 x0 x1 x2 x3 x4 x5 x6 x7 x8 hf ⟨128 * g.val + l.val, by omega⟩
  have h4 := ref197 x0 x5 x7 x8 g l
  unfold val_main_v436 val_main_v431 val_main_v432 val_main_v433 val_main_v434
  generalize val_main_v293 (F := Ideal) x0 x1 x2 x3 x4 x7 x8 = w1 at h1
  generalize val_main_v268 (F := Ideal) x0 x1 x2 x3 x4 x7 x8 = w2 at h2
  generalize val_main_v262 (F := Ideal) x0 x1 x2 x3 x4 x7 x8 = w3 at h3
  generalize val_main_v197 (F := Ideal) x0 x5 x7 x8 = w4 at h4
  fin_cases q
  all_goals
    unfold vecE
    pointwise [val_main_v435, val_main_cst_82]
    first
      | exact h1
      | exact h2
      | exact h3
      | exact h4
      | (simp <;> done)
      | trace_state

theorem ref439 (hf : Fine x0 x1 x2 x3 x5 x6 x7 x8) (q : Fin 32) (j : Fin 512) : val_main_v439 (F := Ideal) x0 x1 x2 x3 x4 x7 x8 (ix2 q j)
    = if q.val < 31 then ∑ i : Fin 4112, glE x0 (18 + q.val + i.val) j * dcE x0 x1 x2 x3 x4 x7 x8 i j else 0 := by
  have h := fun i j => ref290 x0 x1 x2 x3 x4 x5 x6 x7 x8 hf i j
  have h' := ref78 x0
  unfold val_main_v439 val_main_v300 val_main_v297 val_main_v296 val_main_v295 val_main_v294
  generalize val_main_v290 (F := Ideal) x0 x1 x2 x3 x4 x7 x8 = w at h
  generalize val_main_v78 (F := Ideal) x0 = z at h'
  pointwise [val_main_v438, val_main_cst_83, val_main_cst_47, val_main_cst_48]
  simp only [h, h', zero_add, Fin.sum_univ_one, Finset.univ_unique, Finset.sum_singleton]
  split_ifs <;> rfl

/-- The convolution's cotangent by row of the padded sequence. -/
def dcZ (n : ℕ) (j : Fin 512) : EReal := if h : 48 ≤ n ∧ n < 4160 then dcE x0 x1 x2 x3 x4 x7 x8 ⟨n - 48, by omega⟩ j else 0

end Cert.CpReferenceIdeal.Read
end
-- ==== Proof.CpEnt.lean ====
module
public import proofs.«01_k».proof.Proof.CpPoint
public import Idealize.ShloMosaic.Lib.StableHlo.RunRead
public import proofs.«01_k».proof.Proof.CpRef
@[expose] public section
/-! What the kernel's windows hold at its entry. -/
set_option maxRecDepth 16384
noncomputable section
open Idealize.ShloMosaic Idealize.ShloMosaic.TcCoe Idealize.SL.Sem
open Idealize.ShloMosaic.Pipeline (Dat)
namespace Cert.CpKernelIdeal.Value
open Cert.CpKernelIdeal Cert.CpKernelIdeal.Gen Cert.CpMath
open Cert.CpReferenceIdeal.Read (pZ glE cE)
variable (m : (ℓ : Loc nD τ sig) → Buf (Elt Ideal) ℓ)

theorem e149 (c : Dev nD) (R : Fin 4160) (k : Fin 1024) : V m c main_v149 (ix2 R k)
    = if h : R.val < 48 then (0 : EReal) else m ((c : Thread nD τ).loc main_arg8) (ix2 ⟨R.val - 48, by omega⟩ k) := by
  unfold V
  after_reads_simp
  pointwise
theorem e150 (c : Dev nD) (R k : Fin 1024) : V m c main_v150 (ix2 R k) = m ((c : Thread nD τ).loc main_arg7) (ix2 R k) := by
  unfold V
  after_reads_simp
  pointwise
theorem e0 (c : Dev nD) (R : Fin 4160) (k : Fin 1536) : StableHlo.after
        [hostOps0, hostOps0_1, hostOps0_2, hostOps0_3, hostOps0_4, hostOps0_5, hostOps0_6, hostOps0_7, hostOps0_8].flatten
        (fun b => m (c, b)) (Proc.tc.devRef main_v1) (ix2 R k) = pZ (m ((c : Thread nD τ).loc main_arg0)) R.val k := by
  after_reads_simp
  have hR := R.isLt
  by_cases hc : R.val < 48
  · rw [pZ, dif_neg (by omega)]
    pointwise

    rw [dif_pos hc]
  · rw [pZ, dif_pos ⟨by omega, hR⟩]
    pointwise

    rw [dif_neg hc]
theorem e151 (c : Dev nD) (R : Fin 4160) (k : Fin 1536) : V m c main_v151 (ix2 R k) = pZ (m ((c : Thread nD τ).loc main_arg0)) R.val k := by
  unfold V
  refine Eq.trans ?_ (e0 m c R k)
  after_reads_simp
  pointwise
  by_cases h : R.val < 48
  · rw [dif_pos h, dif_pos h]
    after_reads_simp
    pointwise
  · rw [dif_neg h, dif_neg h]
    after_reads_simp

/-- The packed input is the reference's. -/
theorem e1s (c : Dev nD) : (concatenate S4160x1536 0 [⟨S48x1536, StableHlo.upto
        [hostOps0, hostOps0_1, hostOps0_2, hostOps0_3, hostOps0_4, hostOps0_5, hostOps0_6, hostOps0_7, hostOps0_8].flatten
        (fun b => m (c, b)) 2 (Proc.tc.devRef main_v0)⟩, ⟨S4112x1536, StableHlo.upto
        [hostOps0, hostOps0_1, hostOps0_2, hostOps0_3, hostOps0_4, hostOps0_5, hostOps0_6, hostOps0_7, hostOps0_8].flatten
        (fun b => m (c, b)) 2 (Proc.tc.devRef main_arg0)⟩] concatenates_S48x1536_S4112x1536_S4160x1536_d0 : FVec Idealize.ShloMosaic.Ideal S4160x1536 .f32)
      = Cert.CpReferenceIdeal.Read.val_main_v1 (F := Idealize.ShloMosaic.Ideal) (m ((c : Thread nD τ).loc main_arg0))
      ∧ ∀ (R : Fin 4160) (k : Fin 1536), Cert.CpReferenceIdeal.Read.val_main_v1 (F := Idealize.ShloMosaic.Ideal) (m ((c : Thread nD τ).loc main_arg0)) (ix2 R k) = pZ (m ((c : Thread nD τ).loc main_arg0)) R.val k := by
  refine ⟨?_, Cert.CpReferenceIdeal.Read.ref1 _⟩
  refine funext fun y => ?_
  obtain ⟨R, k, rfl⟩ : ∃ R k, y = ix2 R k := ⟨y 0, y 1, (ix2_eta y).symm⟩
  refine Eq.trans ?_ ((e0 m c R k).trans (Cert.CpReferenceIdeal.Read.ref1 _ R k).symm)
  after_reads_simp

set_option maxHeartbeats 3200000 in
theorem e73 (c : Dev nD) (x : Fin 16) (i : Fin 4112) (j : Fin 512) : StableHlo.upto
        [hostOps0, hostOps0_1, hostOps0_2, hostOps0_3, hostOps0_4, hostOps0_5, hostOps0_6, hostOps0_7, hostOps0_8].flatten
        (fun b => m (c, b)) 78 (Proc.tc.devRef main_v73) (ix3 x i j) = glE (m ((c : Thread nD τ).loc main_arg0)) (18 + x.val + i.val) j := by
  unfold glE Ideal.logistic
  have h1 := e1s m c
  generalize Cert.CpReferenceIdeal.Read.val_main_v1 (F := Idealize.ShloMosaic.Ideal) (m ((c : Thread nD τ).loc main_arg0)) = z at h1
  have h2 : ∀ (R : Fin 4160) (k : Fin 1536), z (ix2 R k) = pZ (m ((c : Thread nD τ).loc main_arg0)) R.val k := h1.2
  fin_cases x
  all_goals
    after_reads_simp
    pointwise
    after_reads_simp
    rw [h1.1]
    pointwise
    simp only [h2]

set_option maxHeartbeats 3200000 in
theorem e74 (c : Dev nD) (x : Fin 15) (i : Fin 4112) (j : Fin 512) : StableHlo.upto
        [hostOps0, hostOps0_1, hostOps0_2, hostOps0_3, hostOps0_4, hostOps0_5, hostOps0_6, hostOps0_7, hostOps0_8].flatten
        (fun b => m (c, b)) 78 (Proc.tc.devRef main_v74) (ix3 x i j) = glE (m ((c : Thread nD τ).loc main_arg0)) (18 + (16 + x.val) + i.val) j := by
  unfold glE Ideal.logistic
  have h1 := e1s m c
  generalize Cert.CpReferenceIdeal.Read.val_main_v1 (F := Idealize.ShloMosaic.Ideal) (m ((c : Thread nD τ).loc main_arg0)) = z at h1
  have h2 : ∀ (R : Fin 4160) (k : Fin 1536), z (ix2 R k) = pZ (m ((c : Thread nD τ).loc main_arg0)) R.val k := h1.2
  fin_cases x
  all_goals
    after_reads_simp
    pointwise
    after_reads_simp
    rw [h1.1]
    pointwise
    simp only [h2]
theorem cE_split (x0 : FVec Ideal S4112x1536 .f32) (x1 : FVec Ideal S31x512 .f32) (x2 : FVec Ideal S512 .f32) (i : Fin 4112) (j : Fin 512) :
    cE x0 x1 x2 i j = ((∑ x : Fin 16, glE x0 (18 + x.val + i.val) j * x1 (ix2 ⟨x.val, by omega⟩ j))
      + ∑ x : Fin 15, glE x0 (18 + (16 + x.val) + i.val) j * x1 (ix2 ⟨16 + x.val, by omega⟩ j)) + x2 (ix1 j) :=
  congrArg (· + x2 (ix1 j)) (Fin.sum_univ_add (a := 16) (b := 15) fun q => glE x0 (18 + q.val + i.val) j * x1 (ix2 q j))

set_option maxHeartbeats 1600000 in
theorem e153 (c : Dev nD) (R : Fin 4160) (j : Fin 512) (i : Fin 4112) (hi : R.val = 48 + i.val) : V m c main_v153 (ix2 R j)
    = cE (m ((c : Thread nD τ).loc main_arg0)) (m ((c : Thread nD τ).loc main_arg1)) (m ((c : Thread nD τ).loc main_arg2)) i j := by
  refine Eq.trans ?_ (cE_split _ _ _ _ _).symm
  unfold V
  after_reads_simp
  pointwise
  have hc : ¬ R.val < 48 := by omega
  rw [dif_neg hc]
  simp only [e73 m c, e74 m c]
  have hx : R.val - 48 = i.val := by omega
  simp only [hx]

theorem e153z (c : Dev nD) (R : Fin 4160) (j : Fin 512) (hR : R.val < 48) : V m c main_v153 (ix2 R j) = (0 : EReal) := by
  unfold V
  after_reads_simp
  pointwise
  rw [dif_pos hR]

end Cert.CpKernelIdeal.Value
end
-- ==== Proof.CpEnt2.lean ====
module
public import Idealize.ShloMosaic.Lib.StableHlo.RunRead
public import proofs.«01_k».proof.Proof.CpEnt
@[expose] public section
/-! What the kernel's window of the pooled differences holds at its entry. -/
set_option maxRecDepth 16384
noncomputable section
open Idealize.ShloMosaic Idealize.ShloMosaic.TcCoe Idealize.SL.Sem
open Idealize.ShloMosaic.Pipeline (Dat)
namespace Cert.CpKernelIdeal.Value
open Cert.CpKernelIdeal Cert.CpKernelIdeal.Gen Cert.CpMath
open Cert.CpReferenceIdeal.Read (pZ glE cE)
variable (m : (ℓ : Loc nD τ sig) → Buf (Elt Ideal) ℓ)

theorem e156z (c : Dev nD) (R : Fin 4160) (j : Fin 512) (hR : R.val < 48) : V m c main_v156 (ix2 R j) = (0 : EReal) := by
  unfold V
  after_reads_simp
  pointwise
  rw [dif_pos hR]
  after_reads_simp
  pointwise

/-- Four column blocks side by side, read in block `g`. -/
theorem cat4 (a b d e : FVec Idealize.ShloMosaic.Ideal S4112x128 .f32) (h) (i : Fin 4112) (g : Fin 4) (l : Fin 128) :
    concatenate S4112x512 1 [⟨S4112x128, a⟩, ⟨S4112x128, b⟩, ⟨S4112x128, d⟩, ⟨S4112x128, e⟩] h (ix2 i ⟨128 * g.val + l.val, by omega⟩)
      = (![a, b, d, e] g) (ix2 i l) := by
  have hl := l.isLt
  fin_cases g
  · pointwise
  · pointwise
  · pointwise
    rw [dif_neg (by omega), dif_neg (by omega), dif_pos (by omega)]
    exact congrArg (fun k => d (ix2 i k)) (Fin.ext (by dsimp only; omega))
  · pointwise
    rw [dif_neg (by omega), dif_neg (by omega), dif_neg (by omega)]
    exact congrArg (fun k => e (ix2 i k)) (Fin.ext (by dsimp only; omega))

open Cert.CpReferenceIdeal.Read (pmE val_main_v180 val_main_v179 val_main_v178 val_main_v177 val_main_v176)
theorem e147 (c : Dev nD) (i : Fin 4112) (g : Fin 4) (l : Fin 128) : StableHlo.upto
        [hostOps0, hostOps0_1, hostOps0_2, hostOps0_3, hostOps0_4, hostOps0_5, hostOps0_6, hostOps0_7, hostOps0_8].flatten
        (fun b => m (c, b)) 178 (Proc.tc.devRef main_v147) (ix2 i ⟨128 * g.val + l.val, by omega⟩)
      = pmE (m ((c : Thread nD τ).loc main_arg0)) i g l := by
  unfold pmE val_main_v180
  after_reads_simp
  refine (cat4 _ _ _ _ _ i g l).trans ?_
  fin_cases g
  all_goals
    pointwise [val_main_v176, val_main_v177, val_main_v178, val_main_v179]
    after_reads_simp
    rw [(e1s m c).1]
    rfl

theorem e156 (c : Dev nD) (i : Fin 4112) (g : Fin 4) (l : Fin 128) : V m c main_v156 (ix2 ⟨48 + i.val, by omega⟩ ⟨128 * g.val + l.val, by omega⟩)
    = pmE (m ((c : Thread nD τ).loc main_arg0)) i g l := by
  have h := e147 m c i g l
  generalize pmE (m ((c : Thread nD τ).loc main_arg0)) i g l = y at h
  unfold V
  after_reads_simp
  pointwise
  exact h
end Cert.CpKernelIdeal.Value
end
-- ==== Proof.CpState.lean ====
module
public import proofs.«01_k».proof.Proof.CpPoint
@[expose] public section
/-! The convolution's cotangent as the sweep over the tiles carries it. -/
set_option maxRecDepth 16384
noncomputable section
open Idealize.ShloMosaic Idealize.ShloMosaic.TcCoe Idealize.SL.Sem
open Idealize.ShloMosaic.Pipeline (Dat)
namespace Cert.CpKernelIdeal.Value
open Cert.CpKernelIdeal Cert.CpKernelIdeal.Gen Cert.CpMath
variable (m : (ℓ : Loc nD τ sig) → Buf (Elt Ideal) ℓ)

theorem s0_low (c : Dev nD) (t : Fin cfg0.N) (r : Fin 832) (j : Fin 512) :
    (outsAt0 m c t.val t.isLt).2.2.2.2.1 (ix2 ⟨r.val, by omega⟩ j) = dcAt m c ((4 - t.val) * 832 + r.val) j := by
  rw [← dcAt_row]
  have h5 := lt5 t
  have hx : ∀ a : Fin 2, ((ix2 (⟨r.val, by omega⟩ : Fin 864) j : S864x512.Idx) a).val = (![0, 0] : Fin 2 → ℕ) a + ((ix2 r j : S832x512.Idx) a).val :=
    fun a => by match a with | ⟨0, _⟩ => exact (Nat.zero_add _).symm | ⟨1, _⟩ => exact (Nat.zero_add _).symm
  by_cases h0 : t.val % 5 = 0
  · rw [outsAt0_A m c t h0 (by omega) (by omega)]
    frame_out
    refine (canon_hit _ _ _ _ _ _ (ix2 r j) hx).trans ?_
    pointwise [k0_pay124]
    exact dc_t m c t r j _ fun j => (dmix m c t _ _ 0 512 _ r j).trans (mix_lo m c _ j _)
  · by_cases h4 : t.val % 5 = 4
    · rw [outsAt0_C m c t h0 (by omega) h4]
      frame_out
      refine (canon_hit _ _ _ _ _ _ (ix2 r j) hx).trans ?_
      pointwise [k0_pay124]
      exact dc_t m c t r j _ fun j => (dmix m c t _ _ 0 512 _ r j).trans (mix_lo m c _ j _)
    · rw [outsAt0_B m c t h0 (by omega) h4]
      frame_out
      refine (canon_hit _ _ _ _ _ _ (ix2 r j) hx).trans ?_
      pointwise [k0_pay124]
      exact dc_t m c t r j _ fun j => (dmix m c t _ _ 0 512 _ r j).trans (mix_lo m c _ j _)

end Cert.CpKernelIdeal.Value
end
-- ==== Proof.CpState2.lean ====
module
public import proofs.«01_k».proof.Proof.CpState
@[expose] public section
/-! The convolution's cotangent as the sweep over the tiles carries it. -/
set_option maxRecDepth 16384
noncomputable section
open Idealize.ShloMosaic Idealize.ShloMosaic.TcCoe Idealize.SL.Sem
open Idealize.ShloMosaic.Pipeline (Dat)
namespace Cert.CpKernelIdeal.Value
open Cert.CpKernelIdeal Cert.CpKernelIdeal.Gen Cert.CpMath
variable (m : (ℓ : Loc nD τ sig) → Buf (Elt Ideal) ℓ)

theorem s0 (c : Dev nD) (t : Fin cfg0.N) (r : Fin 864) (j : Fin 512) :
    (outsAt0 m c t.val t.isLt).2.2.2.2.1 (ix2 r j) = dcAt m c ((4 - t.val) * 832 + r.val) j := by
  have h5 := lt5 t
  by_cases hr : r.val < 832
  · exact s0_low m c t ⟨r.val, hr⟩ j
  have hr2 : r.val - 832 < 32 := by omega
  have hm : (832 : ℕ) ≤ ((ix2 r j : S864x512.Idx) 0).val := by show 832 ≤ r.val; omega
  have hx : ∀ a : Fin 2, ((ix2 r j : S864x512.Idx) a).val = (![832, 0] : Fin 2 → ℕ) a + ((ix2 (⟨r.val - 832, hr2⟩ : Fin 32) j : S32x512.Idx) a).val :=
    fun a => by match a with | ⟨0, _⟩ => show r.val = 832 + (r.val - 832); omega | ⟨1, _⟩ => exact (Nat.zero_add _).symm
  have step : ∀ h1 : 1 ≤ t.val, (outsAt0 m c (t.val - 1) (Nat.lt_of_le_of_lt (Nat.sub_le _ _) t.isLt)).2.2.2.2.1 (ix2 ⟨r.val - 832, by omega⟩ j)
      = dcAt m c ((4 - t.val) * 832 + r.val) j := fun h1 =>
    (s0_low m c ⟨t.val - 1, Nat.lt_of_le_of_lt (Nat.sub_le _ _) t.isLt⟩ ⟨r.val - 832, by omega⟩ j).trans
      (congrArg (dcAt m c · j) (by show (4 - (t.val - 1)) * 832 + (r.val - 832) = (4 - t.val) * 832 + r.val; omega))
  by_cases h0 : t.val % 5 = 0
  · rw [outsAt0_A m c t h0 (by omega) (by omega)]
    frame_out
    refine (canon_miss _ _ _ _ _ _ 0 (Or.inr hm)).trans ((canon_hit _ _ _ _ _ _ (ix2 ⟨r.val - 832, hr2⟩ j) hx).trans ?_)
    pointwise [k0_pay108]
    unfold dcAt
    rw [dif_neg (by omega)]
  · by_cases h4 : t.val % 5 = 4
    · have step := step (by omega)
      rw [outsAt0_C m c t h0 (by omega) h4]
      frame_out
      generalize (outsAt0 m c (t.val - 1) (Nat.lt_of_le_of_lt (Nat.sub_le _ _) t.isLt)).2.2.2.2.1 = O at step ⊢
      refine (canon_miss _ _ _ _ _ _ 0 (Or.inr hm)).trans ((canon_hit _ _ _ _ _ _ (ix2 ⟨r.val - 832, hr2⟩ j) hx).trans ?_)
      simp only [(Memref.isWhole_whole _).read_unread]
      pointwise [k0_pay114]
      exact step
    · have step := step (by omega)
      rw [outsAt0_B m c t h0 (by omega) h4]
      frame_out
      generalize (outsAt0 m c (t.val - 1) (Nat.lt_of_le_of_lt (Nat.sub_le _ _) t.isLt)).2.2.2.2.1 = O at step ⊢
      refine (canon_miss _ _ _ _ _ _ 0 (Or.inr hm)).trans ((canon_hit _ _ _ _ _ _ (ix2 ⟨r.val - 832, hr2⟩ j) hx).trans ?_)
      simp only [(Memref.isWhole_whole _).read_unread]
      pointwise [k0_pay114]
      exact step

/-- The pooled half's cotangent times the channel scale. -/
def dq (c : Dev nD) (R : Fin 4160) (g : Fin 4) (l : Fin 128) : EReal :=
  mix m c R ⟨512 + (128 * g.val + l.val), by omega⟩ * aPs m c (ix2 0 ⟨128 * g.val + l.val, by omega⟩)
/-- The trailing means' cotangent: through a group's transposed map. -/
def dpm (c : Dev nD) (R : Fin 4160) (g : Fin 4) (l : Fin 128) : EReal := ∑ d : Fin 128, dq m c R g d * aPw m c (ix3 g l d)
/-- The number of rows in a trailing window of 2, 4, 8 or 16, as a position has them. -/
def cnt (R : ℕ) (g : Fin 4) : EReal :=
  min ((![Ideal.ofBits .f32 0x40000000#32, Ideal.ofBits .f32 0x40800000#32, Ideal.ofBits .f32 0x41000000#32, Ideal.ofBits .f32 0x41800000#32] : Fin 4 → EReal) g)
    (max 1 (((R : ℤ) - 47 : ℤ) : ℝ))
/-- One row's share in each window that holds it, zero past the sequence's end. -/
def qAt (c : Dev nD) (R : ℕ) (g : Fin 4) (l : Fin 128) : EReal :=
  if h : R < 4160 then Ideal.div (dpm m c ⟨R, h⟩ g l) (cnt R g) else 0

theorem pos_toInt : ∀ t : Fin 5, ∀ y : Fin 832,
    (IntOp.addi (IntOp.subi (IntOp.addi (Scalar.muli (Scalar.subi 4#32 (BitVec.ofNat 32 t.val)) 832#32) (BitVec.ofNat 32 y.val)) 48#32) 1#32).toInt
      = (((4 - t.val) * 832 + y.val : ℕ) : ℤ) - 47 := by
  decide +kernel

theorem pos_t (t : Fin cfg0.N) (i : Fin 832) :
    k0_pay136 (F := Ideal) (k0_pay116 (grid0.coords t)) (ix2 i 0) = (((((4 - t.val) * 832 + i.val : ℕ) : ℤ) - 47 : ℤ) : ℝ) := by
  rw [← pos_toInt ⟨t.val, lt5 t⟩ i]
  pointwise [k0_pay136, k0_pay116]
  rw [coord]
  rfl

theorem ps_t (c : Dev nD) (t : Fin cfg0.N) (j : Fin 512) : iblk m c 9 t (ix2 0 j) = aPs m c (ix2 0 j) := by
  blk_point [iblk, idx t]
theorem pw_t (c : Dev nD) (t : Fin cfg0.N) (g : Fin 4) (a b : Fin 128) : iblk m c 8 t (ix3 g a b) = aPw m c (ix3 g a b) := by
  blk_point [iblk, idx t]

theorem q_of (c : Dev nD) (t : Fin cfg0.N) (r : Fin 832) (g : Fin 4) (l : Fin 128) (M S W : Fin 128 → EReal) (n : EReal)
    (hM : ∀ x, M x = mix m c (rowOf t r) ⟨512 + (128 * g.val + x.val), by omega⟩) (hS : ∀ x, S x = aPs m c (ix2 0 ⟨128 * g.val + x.val, by omega⟩))
    (hW : ∀ x, W x = aPw m c (ix3 g l x)) (hn : n = cnt ((4 - t.val) * 832 + r.val) g) :
    Ideal.div (∑ x, M x * S x * W x) n = qAt m c ((4 - t.val) * 832 + r.val) g l := by
  unfold qAt
  rw [dif_pos (show (4 - t.val) * 832 + r.val < 4160 from (rowOf t r).isLt), hn]
  simp only [hM, hS, hW]
  rfl

set_option maxHeartbeats 1600000 in
theorem s1_low (c : Dev nD) (t : Fin cfg0.N) (r : Fin 832) (g : Fin 4) (l : Fin 128) :
    (outsAt0 m c t.val t.isLt).2.2.2.2.2.1 (ix2 ⟨r.val, by omega⟩ ⟨128 * g.val + l.val, by omega⟩) = qAt m c ((4 - t.val) * 832 + r.val) g l := by
  have h5 := lt5 t
  have hx : ∀ a : Fin 2, ((ix2 (⟨r.val, by omega⟩ : Fin 848) ⟨128 * g.val + l.val, by omega⟩ : S848x512.Idx) a).val
      = (![0, 128 * g.val] : Fin 2 → ℕ) a + ((ix2 r l : S832x128.Idx) a).val :=
    fun a => by match a with | ⟨0, _⟩ => exact (Nat.zero_add _).symm | ⟨1, _⟩ => rfl
  obtain ⟨g, hg⟩ := g
  have hl := l.isLt
  by_cases h0 : t.val % 5 = 0
  on_goal 1 => rw [outsAt0_A m c t h0 (by omega) (by omega)]
  on_goal 2 => by_cases h4 : t.val % 5 = 4
  on_goal 2 => rw [outsAt0_C m c t h0 (by omega) h4]
  on_goal 3 => rw [outsAt0_B m c t h0 (by omega) h4]
  all_goals
    frame_out
    interval_cases g
    all_goals
      iterate 4 try (refine (canon_miss _ _ _ _ _ _ 1 ?_).trans ?_; · (simp <;> omega))
      refine (canon_hit _ _ _ _ _ _ (ix2 r l) hx).trans ?_
      pointwise [k0_pay144, k0_pay143, k0_pay142, k0_pay140, k0_pay138, k0_pay153, k0_pay152, k0_pay149, k0_pay147,
        k0_pay162, k0_pay161, k0_pay159, k0_pay158, k0_pay156, k0_pay170, k0_pay169, k0_pay167, k0_pay165]
      simp only [pos_t, dmix m c t]
      exact q_of m c t r ⟨_, hg⟩ l _ _ _ _ (fun x => congrArg (mix m c _) (Fin.ext (by dsimp only <;> omega)))
        (fun x => (ps_t m c t _).trans (congrArg (fun z => aPs m c (ix2 0 z)) (Fin.ext (by dsimp only <;> omega))))
        (fun x => pw_t m c t _ l x) rfl

theorem s1 (c : Dev nD) (t : Fin cfg0.N) (r : Fin 848) (g : Fin 4) (l : Fin 128) :
    (outsAt0 m c t.val t.isLt).2.2.2.2.2.1 (ix2 r ⟨128 * g.val + l.val, by omega⟩) = qAt m c ((4 - t.val) * 832 + r.val) g l := by
  have h5 := lt5 t
  by_cases hr : r.val < 832
  · exact s1_low m c t ⟨r.val, hr⟩ g l
  have hr2 : r.val - 832 < 16 := by omega
  have step : ∀ h1 : 1 ≤ t.val, (outsAt0 m c (t.val - 1) (Nat.lt_of_le_of_lt (Nat.sub_le _ _) t.isLt)).2.2.2.2.2.1 (ix2 ⟨r.val - 832, by omega⟩ ⟨128 * g.val + l.val, by omega⟩)
      = qAt m c ((4 - t.val) * 832 + r.val) g l := fun h1 =>
    (s1_low m c ⟨t.val - 1, Nat.lt_of_le_of_lt (Nat.sub_le _ _) t.isLt⟩ ⟨r.val - 832, by omega⟩ g l).trans
      (congrArg (qAt m c · g l) (by show (4 - (t.val - 1)) * 832 + (r.val - 832) = (4 - t.val) * 832 + r.val; omega))
  have hq : t.val % 5 = 0 → qAt m c ((4 - t.val) * 832 + r.val) g l = 0 := fun h0 => by
    unfold qAt
    rw [dif_neg (by omega)]
  generalize hj : (⟨128 * g.val + l.val, by omega⟩ : Fin 512) = j at step ⊢
  have hm : (832 : ℕ) ≤ ((ix2 r j : S848x512.Idx) 0).val := by show 832 ≤ r.val; omega
  have hx : ∀ a : Fin 2, ((ix2 r j : S848x512.Idx) a).val = (![832, 0] : Fin 2 → ℕ) a + ((ix2 (⟨r.val - 832, hr2⟩ : Fin 16) j : S16x512.Idx) a).val :=
    fun a => by match a with | ⟨0, _⟩ => show r.val = 832 + (r.val - 832); omega | ⟨1, _⟩ => exact (Nat.zero_add _).symm
  by_cases h0 : t.val % 5 = 0
  · rw [outsAt0_A m c t h0 (by omega) (by omega)]
    frame_out
    iterate 4 refine (canon_miss _ _ _ _ _ _ 0 (Or.inr hm)).trans ?_
    refine (canon_hit _ _ _ _ _ _ (ix2 ⟨r.val - 832, hr2⟩ j) hx).trans ?_
    pointwise [k0_pay109]
    exact (hq h0).symm
  · have step := step (by omega)
    by_cases h4 : t.val % 5 = 4
    on_goal 1 => rw [outsAt0_C m c t h0 (by omega) h4]
    on_goal 2 => rw [outsAt0_B m c t h0 (by omega) h4]
    all_goals
      frame_out
      generalize (outsAt0 m c (t.val - 1) (Nat.lt_of_le_of_lt (Nat.sub_le _ _) t.isLt)).2.2.2.2.2.1 = O at step ⊢
      iterate 4 refine (canon_miss _ _ _ _ _ _ 0 (Or.inr hm)).trans ?_
      refine (canon_hit _ _ _ _ _ _ (ix2 ⟨r.val - 832, hr2⟩ j) hx).trans ?_
      simp only [(Memref.isWhole_whole _).read_unread]
      pointwise [k0_pay115]
      exact step

end Cert.CpKernelIdeal.Value
end
-- ==== Proof.CpSums.lean ====
module
public import proofs.«01_k».proof.Proof.CpState2
@[expose] public section
/-! The layer norm's and the grouped map's gradients as the sweep sums them. -/
set_option maxRecDepth 16384
noncomputable section
open Idealize.ShloMosaic Idealize.ShloMosaic.TcCoe Idealize.SL.Sem
open Idealize.ShloMosaic.Pipeline (Dat)
namespace Cert.CpKernelIdeal.Value
open Cert.CpKernelIdeal Cert.CpKernelIdeal.Gen Cert.CpMath
variable (m : (ℓ : Loc nD τ sig) → Buf (Elt Ideal) ℓ)

section
variable (A B C : FVec Ideal S1x512 .f32) (D0 D1 D2 D3 : FVec Ideal S1x128 .f32) (X : FVec Ideal S8x512 .f32)
/-- The rows a point adds to the gradients of the layer norm and the channel scale. -/
def rows (q : Fin 8) (g : Fin 4) (l : Fin 128) : EReal :=
  if q = 0 then A (ix2 0 ⟨128 * g.val + l.val, by omega⟩) else if q = 1 then B (ix2 0 ⟨128 * g.val + l.val, by omega⟩)
  else if q = 2 then C (ix2 0 ⟨128 * g.val + l.val, by omega⟩)
  else if q = 3 then (if g = 0 then D0 else if g = 1 then D1 else if g = 2 then D2 else D3) (ix2 0 l) else 0
theorem pay2_rows (q : Fin 8) (g : Fin 4) (l : Fin 128) :
    k0_pay2 A B C D0 D1 D2 D3 X (ix2 q ⟨128 * g.val + l.val, by omega⟩)
      = X (ix2 q ⟨128 * g.val + l.val, by omega⟩) + rows A B C D0 D1 D2 D3 q g l := by
  have hl := l.isLt
  fin_cases q <;> fin_cases g
  all_goals
    pointwise [k0_pay2, rows]
    try
      first | rw [dif_neg (by omega), dif_neg (by omega), dif_pos (by omega)] | rw [dif_neg (by omega), dif_neg (by omega), dif_neg (by omega)]
      refine congrArg (_ + ·) (congrArg _ (congrArg (ix2 0) (Fin.ext ?_)))
      dsimp only
      omega
end

/-- The layer norm's cotangent at a row. -/
def dlnR (c : Dev nD) (R : Fin 4160) (j : Fin 512) : EReal := dln (cRow m c R) (gain m c) (bias m c) (da m c R) j
/-- The grouped map's output at a row. -/
def pgR (c : Dev nD) (R : Fin 4160) (g : Fin 4) (l : Fin 128) : EReal :=
  ∑ d : Fin 128, aPm m c (ix2 R ⟨128 * g.val + d.val, by omega⟩) * aPw m c (ix3 g d l)
/-- What a row adds to the gradients of the convolution's bias, the layer norm and the channel scale. -/
def vecTerm (c : Dev nD) (R : Fin 4160) (q : Fin 8) (g : Fin 4) (l : Fin 128) : EReal :=
  if q = 0 then dcAt m c R.val ⟨128 * g.val + l.val, by omega⟩
  else if q = 1 then dlnR m c R ⟨128 * g.val + l.val, by omega⟩ * xh (cRow m c R) ⟨128 * g.val + l.val, by omega⟩
  else if q = 2 then dlnR m c R ⟨128 * g.val + l.val, by omega⟩
  else if q = 3 then mix m c R ⟨512 + (128 * g.val + l.val), by omega⟩ * pgR m c R g l else 0
/-- What a row adds to the gradient of the grouped map. -/
def pwTerm (c : Dev nD) (R : Fin 4160) (g : Fin 4) (a b : Fin 128) : EReal :=
  aPm m c (ix2 R ⟨128 * g.val + a.val, by omega⟩) * dq m c R g b

theorem pm_t (c : Dev nD) (t : Fin cfg0.N) (i : Fin 832) (j : Fin 512) : iblk m c 4 t (ix2 i j) = aPm m c (ix2 (rowOf t i) j) := by
  unfold rowOf
  blk_point [iblk, idx t]

section
variable (c : Dev nD) (t : Fin cfg0.N) (D : Vec Ideal S832x512 .f32) (hD : ∀ i j, D (ix2 i j) = mix m c (rowOf t i) ⟨j.val, by omega⟩)
include hD
theorem h125 (j : Fin 512) : k0_pay125 (k0_pay121 (k0_pay116 (grid0.coords t)) (k0_pay117 (iblk m c 3 t)) (k0_pay118 (iblk m c 3 t)) (iblk m c 6 t)
          (iblk m c 7 t) D (iblk m c 6 t)) (k0_pay122 (k0_pay118 (iblk m c 3 t))) (ix2 0 j) = ∑ i : Fin 832, dcAt m c (rowOf t i).val j := by
  have h := fun i => (dc_t m c t i j D (hD i)).trans (dcAt_row m c t i j)
  generalize k0_pay121 (k0_pay116 (grid0.coords t)) (k0_pay117 (iblk m c 3 t)) (k0_pay118 (iblk m c 3 t)) (iblk m c 6 t) (iblk m c 7 t) D (iblk m c 6 t) = P at h ⊢
  generalize k0_pay122 (k0_pay118 (iblk m c 3 t)) = Q at h ⊢
  pointwise [k0_pay125]
  exact Finset.sum_congr (M := EReal) rfl fun i _ => h i
theorem h127 (j : Fin 512) : k0_pay127 (k0_pay120 (k0_pay116 (grid0.coords t)) (k0_pay117 (iblk m c 3 t)) (k0_pay118 (iblk m c 3 t)) (iblk m c 6 t) (iblk m c 7 t) D)
    (ix2 0 j) = ∑ i : Fin 832, dlnR m c (rowOf t i) j := by
  have h := fun i => dln_t m c t i j D (hD i)
  generalize k0_pay120 (k0_pay116 (grid0.coords t)) (k0_pay117 (iblk m c 3 t)) (k0_pay118 (iblk m c 3 t)) (iblk m c 6 t) (iblk m c 7 t) D = P at h ⊢
  pointwise [k0_pay127]
  exact Finset.sum_congr (M := EReal) rfl fun i _ => h i
theorem h126 (j : Fin 512) : k0_pay126 (k0_pay119 (k0_pay117 (iblk m c 3 t)) (k0_pay118 (iblk m c 3 t)))
      (k0_pay120 (k0_pay116 (grid0.coords t)) (k0_pay117 (iblk m c 3 t)) (k0_pay118 (iblk m c 3 t)) (iblk m c 6 t) (iblk m c 7 t) D)
    (ix2 0 j) = ∑ i : Fin 832, dlnR m c (rowOf t i) j * xh (cRow m c (rowOf t i)) j := by
  have h := fun i => dln_t m c t i j D (hD i)
  have hx := fun i => xh_t m c t i j
  generalize k0_pay120 (k0_pay116 (grid0.coords t)) (k0_pay117 (iblk m c 3 t)) (k0_pay118 (iblk m c 3 t)) (iblk m c 6 t) (iblk m c 7 t) D = P at h ⊢
  generalize k0_pay119 (k0_pay117 (iblk m c 3 t)) (k0_pay118 (iblk m c 3 t)) = Q at hx ⊢
  pointwise [k0_pay126]
  exact Finset.sum_congr (M := EReal) rfl fun i _ => congrArg₂ (· * ·) (h i) (hx i)
end

theorem sum_fin4 (c : Dev nD) (t : Fin cfg0.N) (g : Fin 4) (l : Fin 128) (b : Fin 1024) (M : Fin 832 → EReal) (P : Fin 832 → Fin 128 → EReal)
    (W : Fin 128 → EReal) (hM : ∀ i, M i = mix m c (rowOf t i) b)
    (hP : ∀ i x, P i x = aPm m c (ix2 (rowOf t i) ⟨128 * g.val + x.val, by omega⟩)) (hW : ∀ x, W x = aPw m c (ix3 g x l)) :
    ∑ i, M i * ∑ x, P i x * W x = ∑ i, mix m c (rowOf t i) b * pgR m c (rowOf t i) g l := by
  simp only [hM, hP, hW]
  rfl

theorem rows_of (c : Dev nD) (t : Fin cfg0.N) (A B C : FVec Ideal S1x512 .f32) (D0 D1 D2 D3 : FVec Ideal S1x128 .f32)
    (hA : ∀ j, A (ix2 0 j) = ∑ i : Fin 832, dcAt m c (rowOf t i).val j)
    (hB : ∀ j, B (ix2 0 j) = ∑ i : Fin 832, dlnR m c (rowOf t i) j * xh (cRow m c (rowOf t i)) j)
    (hC : ∀ j, C (ix2 0 j) = ∑ i : Fin 832, dlnR m c (rowOf t i) j)
    (h0 : ∀ l : Fin 128, D0 (ix2 0 l) = ∑ i, mix m c (rowOf t i) ⟨512 + (128 * (0 : Fin 4).val + l.val), by omega⟩ * pgR m c (rowOf t i) 0 l)
    (h1 : ∀ l : Fin 128, D1 (ix2 0 l) = ∑ i, mix m c (rowOf t i) ⟨512 + (128 * (1 : Fin 4).val + l.val), by omega⟩ * pgR m c (rowOf t i) 1 l)
    (h2 : ∀ l : Fin 128, D2 (ix2 0 l) = ∑ i, mix m c (rowOf t i) ⟨512 + (128 * (2 : Fin 4).val + l.val), by omega⟩ * pgR m c (rowOf t i) 2 l)
    (h3 : ∀ l : Fin 128, D3 (ix2 0 l) = ∑ i, mix m c (rowOf t i) ⟨512 + (128 * (3 : Fin 4).val + l.val), by omega⟩ * pgR m c (rowOf t i) 3 l)
    (q : Fin 8) (g : Fin 4) (l : Fin 128) : rows A B C D0 D1 D2 D3 q g l = ∑ i : Fin 832, vecTerm m c (rowOf t i) q g l := by
  unfold rows vecTerm
  by_cases q0 : q = 0
  · simp only [if_pos q0, hA]
  by_cases q1 : q = 1
  · simp only [if_neg q0, if_pos q1, hB]
  by_cases q2 : q = 2
  · simp only [if_neg q0, if_neg q1, if_pos q2, hC]
  by_cases q3 : q = 3
  · simp only [if_neg q0, if_neg q1, if_neg q2, if_pos q3]
    fin_cases g
    · exact h0 l
    · exact h1 l
    · exact h2 l
    · exact h3 l
  · simp only [if_neg q0, if_neg q1, if_neg q2, if_neg q3, Finset.sum_const_zero]

set_option maxHeartbeats 1600000 in
theorem vec_step (c : Dev nD) (t : Fin cfg0.N) (q : Fin 8) (g : Fin 4) (l : Fin 128) :
    (outsAt0 m c t.val t.isLt).2.2.1 (ix2 q ⟨128 * g.val + l.val, by omega⟩)
      = (if t.val % 5 = 0 then 0 else (outsAt0 m c (t.val - 1) (Nat.lt_of_le_of_lt (Nat.sub_le _ _) t.isLt)).2.2.1 (ix2 q ⟨128 * g.val + l.val, by omega⟩))
        + ∑ i : Fin 832, vecTerm m c (rowOf t i) q g l := by
  have h5 := lt5 t
  have hD := fun v h0 h i (j : Fin 512) => (dmix m c t v h0 0 512 h i j).trans (mix_lo m c _ j _)
  by_cases h0 : t.val % 5 = 0
  on_goal 1 => rw [if_pos h0, outsAt0_A m c t h0 (by omega) (by omega)]
  on_goal 2 => rw [if_neg h0]
  on_goal 2 => by_cases h4 : t.val % 5 = 4
  on_goal 2 => rw [outsAt0_C m c t h0 (by omega) h4]
  on_goal 3 => rw [outsAt0_B m c t h0 (by omega) h4]
  all_goals
    frame_out
    refine (pay2_rows _ _ _ _ _ _ _ _ q g l).trans (congrArg₂ (· + ·) ?_ (rows_of m c t _ _ _ _ _ _ _
      (h125 m c t _ (hD _ _ _)) (h126 m c t _ (hD _ _ _)) (h127 m c t _ (hD _ _ _)) (fun l => ?_) (fun l => ?_) (fun l => ?_) (fun l => ?_) q g l))
    on_goal 1 => first | (pointwise [k0_pay112]; done) | exact rfl
    all_goals
      pointwise [k0_pay139, k0_pay137, k0_pay138, k0_pay148, k0_pay146, k0_pay147, k0_pay157, k0_pay155, k0_pay156, k0_pay166, k0_pay164, k0_pay165]
      simp only [dmix m c t]
    on_goal 1 => refine sum_fin4 m c t 0 _ _ _ _ _ (fun i => congrArg (mix m c _) (Fin.ext ?_)) (fun i x => (pm_t m c t i _).trans (congrArg (fun z => aPm m c (ix2 _ z)) (Fin.ext ?_))) (fun x => pw_t m c t _ x _)
    on_goal 3 => refine sum_fin4 m c t 1 _ _ _ _ _ (fun i => congrArg (mix m c _) (Fin.ext ?_)) (fun i x => (pm_t m c t i _).trans (congrArg (fun z => aPm m c (ix2 _ z)) (Fin.ext ?_))) (fun x => pw_t m c t _ x _)
    on_goal 5 => refine sum_fin4 m c t 2 _ _ _ _ _ (fun i => congrArg (mix m c _) (Fin.ext ?_)) (fun i x => (pm_t m c t i _).trans (congrArg (fun z => aPm m c (ix2 _ z)) (Fin.ext ?_))) (fun x => pw_t m c t _ x _)
    on_goal 7 => refine sum_fin4 m c t 3 _ _ _ _ _ (fun i => congrArg (mix m c _) (Fin.ext ?_)) (fun i x => (pm_t m c t i _).trans (congrArg (fun z => aPm m c (ix2 _ z)) (Fin.ext ?_))) (fun x => pw_t m c t _ x _)
    all_goals (simp <;> omega)

theorem pw_sum (c : Dev nD) (t : Fin cfg0.N) (g : Fin 4) (a b : Fin 128) (P : Fin 832 → EReal) (M : Fin 832 → EReal) (s : EReal)
    (hP : ∀ i, P i = aPm m c (ix2 (rowOf t i) ⟨128 * g.val + a.val, by omega⟩))
    (hM : ∀ i, M i = mix m c (rowOf t i) ⟨512 + (128 * g.val + b.val), by omega⟩) (hs : s = aPs m c (ix2 0 ⟨128 * g.val + b.val, by omega⟩)) :
    ∑ i, P i * (M i * s) = ∑ i, pwTerm m c (rowOf t i) g a b := by
  simp only [hP, hM, hs]
  rfl

theorem rd0 (v : View sig .tc .vmem S4x128x128 .f32) (L : List (View.Piece (Elt Ideal) S4x128x128 .f32)) (k : ℕ) (h) (a b : Fin 128) :
    v.readCov L (Rect.unit (s := S4x128x128) ![k, 0, 0] ![1, 128, 128] h).toLoadRect (ix3 0 a b)
      = View.canon L (ix3 ⟨k, by have := h 0; simp at this; omega⟩ a b) := by
  rw [View.readCov_eq_canon']
  refine congrArg (View.canon L) (funext fun x => Fin.ext ((Rect.idx_unit_val _ _ _ _ _).trans ?_))
  match x with
  | ⟨0, _⟩ => rfl
  | ⟨1, _⟩ => exact Nat.zero_add _
  | ⟨2, _⟩ => exact Nat.zero_add _

theorem box (n k : ℕ) (hn) (a b : Fin 128) (hk : n = k + 0) : ∀ x : Fin 3, ((ix3 (⟨n, hn⟩ : Fin 4) a b : S4x128x128.Idx) x).val
    = (![k, 0, 0] : Fin 3 → ℕ) x + ((ix3 0 a b : S1x128x128.Idx) x).val := fun x => by
  match x with
  | ⟨0, _⟩ => exact hk
  | ⟨1, _⟩ => exact (Nat.zero_add _).symm
  | ⟨2, _⟩ => exact (Nat.zero_add _).symm
theorem boxw (n : ℕ) (hn) (a b : Fin 128) : ∀ x : Fin 3, ((ix3 (⟨n, hn⟩ : Fin 4) a b : S4x128x128.Idx) x).val
    = (![0, 0, 0] : Fin 3 → ℕ) x + ((ix3 ⟨n, hn⟩ a b : S4x128x128.Idx) x).val := fun x => by
  match x with
  | ⟨0, _⟩ => exact (Nat.zero_add _).symm
  | ⟨1, _⟩ => exact (Nat.zero_add _).symm
  | ⟨2, _⟩ => exact (Nat.zero_add _).symm

theorem pw_A (c : Dev nD) (t : Fin cfg0.N) (h0 : t.val % 5 = 0) (g : Fin 4) (a b : Fin 128) :
    (outsAt0 m c t.val t.isLt).2.2.2.1 (ix3 g a b) = 0 + ∑ i : Fin 832, pwTerm m c (rowOf t i) g a b := by
  have h5 := lt5 t
  obtain ⟨g, hg⟩ := g
  rw [outsAt0_A m c t h0 (by omega) (by omega)]
  frame_out
  interval_cases g
  all_goals
    iterate 4 try (refine (canon_miss _ _ _ _ _ _ 0 ?_).trans ?_; · (simp [ix3]; done))
    refine (canon_hit _ _ _ _ _ _ (ix3 0 a b) (box _ _ _ a b rfl)).trans ?_
    pointwise [k0_pay141, k0_pay140, k0_pay137, k0_pay150, k0_pay151, k0_pay149, k0_pay146, k0_pay160, k0_pay155, k0_pay158, k0_pay159, k0_pay168, k0_pay164, k0_pay167]
    simp only [dmix m c t]
    refine (congrArg₂ (· + ·) (x' := (0 : EReal)) ?_ ?_).trans (zero_add _)
    on_goal 2 =>
      refine pw_sum m c t _ a b _ _ _ (fun i => ?_) (fun i => ?_) ?_
      · refine (pm_t m c t i _).trans (congrArg (fun z => aPm m c (ix2 _ z)) (Fin.ext ?_))
        simp
      · refine congrArg (mix m c _) (Fin.ext ?_)
        simp <;> omega
      · refine (ps_t m c t _).trans (congrArg (fun z => aPs m c (ix2 0 z)) (Fin.ext ?_))
        simp
    on_goal 1 =>
      refine (rd0 _ _ _ _ a b).trans ?_
      iterate 3 try (refine (canon_miss _ _ _ _ _ _ 0 ?_).trans ?_; · (simp [ix3]; done))
      refine (canon_hit _ _ _ _ _ _ _ (boxw _ _ a b)).trans ?_
      pointwise [k0_pay113]

theorem pw_step (c : Dev nD) (t : Fin cfg0.N) (h0 : ¬ t.val % 5 = 0) (g : Fin 4) (a b : Fin 128) :
    (outsAt0 m c t.val t.isLt).2.2.2.1 (ix3 g a b)
      = (outsAt0 m c (t.val - 1) (Nat.lt_of_le_of_lt (Nat.sub_le _ _) t.isLt)).2.2.2.1 (ix3 g a b)
        + ∑ i : Fin 832, pwTerm m c (rowOf t i) g a b := by
  have h5 := lt5 t
  obtain ⟨g, hg⟩ := g
  by_cases h4 : t.val % 5 = 4
  on_goal 1 => rw [outsAt0_C m c t h0 (by omega) h4]
  on_goal 2 => rw [outsAt0_B m c t h0 (by omega) h4]
  all_goals
    frame_out
    interval_cases g
  all_goals
    iterate 4 try (refine (canon_miss _ _ _ _ _ _ 0 ?_).trans ?_; · (simp [ix3]; done))
    refine (canon_hit _ _ _ _ _ _ (ix3 0 a b) (box _ _ _ a b rfl)).trans ?_
    pointwise [k0_pay141, k0_pay140, k0_pay137, k0_pay150, k0_pay151, k0_pay149, k0_pay146, k0_pay160, k0_pay155, k0_pay158, k0_pay159, k0_pay168, k0_pay164, k0_pay167]
    simp only [dmix m c t]
    refine congrArg₂ (· + ·) ?_ ?_
    on_goal 2 =>
      refine pw_sum m c t _ a b _ _ _ (fun i => ?_) (fun i => ?_) ?_
      · refine (pm_t m c t i _).trans (congrArg (fun z => aPm m c (ix2 _ z)) (Fin.ext ?_))
        simp
      · refine congrArg (mix m c _) (Fin.ext ?_)
        simp <;> omega
      · refine (ps_t m c t _).trans (congrArg (fun z => aPs m c (ix2 0 z)) (Fin.ext ?_))
        simp
    exact rfl

theorem n5 : cfg0.N = 5 := by decide +kernel

/-- A sum over the points' tiles is the sum over the rows. -/
theorem sum_tiles (f : Fin 4160 → EReal) : ∑ t : Fin cfg0.N, ∑ i : Fin 832, f (rowOf t i) = ∑ R, f R := by
  rw [← Fintype.sum_prod_type']
  refine Function.Bijective.sum_comp (e := fun p : Fin cfg0.N × Fin 832 => rowOf p.1 p.2) ⟨?_, ?_⟩ f
  · rintro ⟨s, i⟩ ⟨t, k⟩ h
    have h : (4 - s.val) * 832 + i.val = (4 - t.val) * 832 + k.val := congrArg Fin.val h
    have := lt5 s
    have := lt5 t
    have e1 : s = t := Fin.ext (by omega)
    subst e1
    exact Prod.ext rfl (Fin.ext (by show i.val = k.val; omega))
  · intro R
    have := n5
    refine ⟨⟨⟨4 - R.val / 832, by omega⟩, ⟨R.val % 832, Nat.mod_lt _ (by norm_num)⟩⟩, Fin.ext ?_⟩
    show (4 - (4 - R.val / 832)) * 832 + R.val % 832 = R.val
    omega

def vecOut (c : Dev nD) : FVec Ideal S8x512 .f32 := fun y =>
  ∑ R : Fin 4160, vecTerm m c R (y 0) ⟨(y 1).val / 128, by have := (y 1).isLt; simp at this; omega⟩ ⟨(y 1).val % 128, Nat.mod_lt _ (by norm_num)⟩
def pwOut (c : Dev nD) : FVec Ideal S4x128x128 .f32 := fun y => ∑ R : Fin 4160, pwTerm m c R (y 0) (y 1) (y 2)

theorem final_vec (c : Dev nD) : (dats m 0 c).arrAt 12 (cfgs 0).N = vecOut m c := by
  refine (dats m 0 c).arrAt_eq_of_covers 12 _ (by decide +kernel) fun t hf y => ?_
  have e : ((View.whole main_v160_2).slice (win0_12.rect t)).emb y = y := by
    funext a
    refine Fin.ext ((win0_12.rect_emb_val_off t y a).trans ?_)
    match a with
    | ⟨0, _⟩ => simp [idx t]
    | ⟨1, _⟩ => simp [idx t]
  blk_simp
  have h4 : t.val + 1 = cfg0.N := (by decide +kernel : ∀ t : Fin grid0.N, win0_12.flush t = true → t.val + 1 = grid0.N) t hf
  rw [after0_12, Pipeline.eq_sum_fin_of_reset_step_apply_last (fun n h => (outsAt0 m c n h).2.2.1) 5 (fun _ => (0 : EReal))
    (fun t y => ∑ i : Fin 832, vecTerm m c (rowOf t i) (y 0) ⟨(y 1).val / 128, by have := (y 1).isLt; simp at this; omega⟩ ⟨(y 1).val % 128, Nat.mod_lt _ (by norm_num)⟩)
    (fun t h y => ?_) (fun t h y => ?_) (by rw [n5]) t h4]
  · refine (zero_add (M := EReal) _).trans ((sum_tiles (fun R => vecTerm m c R (y 0) ⟨(y 1).val / 128, by have := (y 1).isLt; simp at this; omega⟩ ⟨(y 1).val % 128, Nat.mod_lt _ (by norm_num)⟩)).trans ?_)
    exact congrArg (vecOut m c) e.symm
  all_goals
    have hs := vec_step m c t (y 0) ⟨(y 1).val / 128, by have := (y 1).isLt; simp at this; omega⟩ ⟨(y 1).val % 128, Nat.mod_lt _ (by norm_num)⟩
    have ey : (ix2 (y 0) ⟨128 * ((y 1).val / 128) + (y 1).val % 128, by have := (y 1).isLt; simp at this; omega⟩ : S8x512.Idx) = y := by
      idx_vars y
      exact congrArg (ix2 y0) (Fin.ext (Nat.div_add_mod _ _))
    rw [ey] at hs
  · rw [if_pos h] at hs
    exact hs
  · rw [if_neg h] at hs
    exact hs

theorem final_pw (c : Dev nD) : (dats m 0 c).arrAt 13 (cfgs 0).N = pwOut m c := by
  refine (dats m 0 c).arrAt_eq_of_covers 13 _ (by decide +kernel) fun t hf y => ?_
  have e : ((View.whole main_v160_3).slice (win0_13.rect t)).emb y = y := by
    funext a
    refine Fin.ext ((win0_13.rect_emb_val_off t y a).trans ?_)
    match a with
    | ⟨0, _⟩ => simp [idx t]
    | ⟨1, _⟩ => simp [idx t]
    | ⟨2, _⟩ => simp [idx t]
  blk_simp
  have h4 : t.val + 1 = cfg0.N := (by decide +kernel : ∀ t : Fin grid0.N, win0_13.flush t = true → t.val + 1 = grid0.N) t hf
  rw [after0_13, Pipeline.eq_sum_fin_of_reset_step_apply_last (fun n h => (outsAt0 m c n h).2.2.2.1) 5 (fun _ => (0 : EReal))
    (fun t y => ∑ i : Fin 832, pwTerm m c (rowOf t i) (y 0) (y 1) (y 2))
    (fun t h y => ?_) (fun t h y => ?_) (by rw [n5]) t h4]
  · refine (zero_add (M := EReal) _).trans ((sum_tiles (fun R => pwTerm m c R (y 0) (y 1) (y 2))).trans ?_)
    exact congrArg (pwOut m c) e.symm
  · idx_vars y
    exact pw_A m c t h y0 y1 y2
  · idx_vars y
    exact pw_step m c t h y0 y1 y2

end Cert.CpKernelIdeal.Value
end
-- ==== Proof.CpAcc.lean ====
module
public import proofs.«01_k».proof.Proof.CpSums
@[expose] public section
/-! The filter's gradient as the sweep sums it. -/
set_option maxRecDepth 16384
noncomputable section
open Idealize.ShloMosaic Idealize.ShloMosaic.TcCoe Idealize.SL.Sem
open Idealize.ShloMosaic.Pipeline (Dat)
namespace Cert.CpKernelIdeal.Value
open Cert.CpKernelIdeal Cert.CpKernelIdeal.Gen Cert.CpMath
variable (m : (ℓ : Loc nD τ sig) → Buf (Elt Ideal) ℓ)

/-- The gated convolution input at a row of the sequence, zero past its end. -/
def gluAt (c : Dev nD) (R : ℕ) (j : Fin 512) : EReal :=
  if h : R < 4160 then aZ m c (ix2 ⟨R, h⟩ ⟨j.val, by omega⟩) * Ideal.logistic (aZ m c (ix2 ⟨R, h⟩ ⟨512 + j.val, by omega⟩)) else 0

theorem trips_eq : Scf.trips 0#32 (Scalar.addi 0#32 26#32) 1#32 = 26 := by decide +kernel

theorem z_t (c : Dev nD) (t : Fin cfg0.N) (i : Fin 832) (j : Fin 1536) : iblk m c 2 t (ix2 i j) = aZ m c (ix2 (rowOf t i) j) := by
  unfold rowOf
  blk_point [iblk, idx t]

theorem glu_t (c : Dev nD) (t : Fin cfg0.N) (i : Fin 832) (j : Fin 512) :
    k0_pay130 (View.ld (iblk m c 2 t) (Rect.unit ![0, 0] ![832, 512] inb_S832x1536_S832x512_0_0))
      (View.ld (iblk m c 2 t) (Rect.unit ![0, 512] ![832, 512] inb_S832x1536_S832x512_0_512)) (ix2 i j) = gluAt m c ((4 - t.val) * 832 + i.val) j := by
  unfold gluAt
  rw [dif_pos (show (4 - t.val) * 832 + i.val < 4160 from (rowOf t i).isLt)]
  pointwise [k0_pay130, k0_pay128, k0_pay129]
  simp only [z_t m c t]
  rfl

/-- The carried cotangent's buffer: a tile's rows, then the rows after it. -/
theorem canon15 (c : Dev nD) (t : Fin cfg0.N) (P : FVec Ideal S832x512 .f32) (Q : FVec Ideal S32x512 .f32)
    (hP : ∀ i j, P (ix2 i j) = dcAt m c ((4 - t.val) * 832 + i.val) j) (hQ : ∀ i j, Q (ix2 i j) = dcAt m c ((4 - t.val) * 832 + (832 + i.val)) j)
    (h1 h2) (v : View sig .tc .vmem S864x512 .f32) (r : Fin 864) (j : Fin 512) :
    v.read (Elt Ideal) (v.writes (Elt Ideal) v.junk [(⟨Rect.unit (s := S864x512) ![0, 0] ![832, 512] h1, P⟩ : View.Piece (Elt Ideal) S864x512 .f32),
      ⟨Rect.unit (s := S864x512) ![832, 0] ![32, 512] h2, Q⟩]) (ix2 r j) = dcAt m c ((4 - t.val) * 832 + r.val) j := by
  rw [View.read_writes_junk_eq_canon]
  by_cases hr : r.val < 832
  · exact (canon_hit _ _ _ _ _ _ (ix2 ⟨r.val, hr⟩ j) fun a => by match a with | ⟨0, _⟩ => exact (Nat.zero_add _).symm | ⟨1, _⟩ => exact (Nat.zero_add _).symm).trans (hP _ _)
  · refine (canon_miss _ _ _ _ _ _ 0 (Or.inr (by show 832 ≤ r.val; omega))).trans ((canon_hit _ _ _ _ _ _ (ix2 ⟨r.val - 832, by omega⟩ j) fun a => ?_).trans ((hQ _ _).trans ?_))
    · match a with
      | ⟨0, _⟩ => show r.val = 832 + (r.val - 832); omega
      | ⟨1, _⟩ => exact (Nat.zero_add _).symm
    · exact congrArg (dcAt m c · j) (by show (4 - t.val) * 832 + (832 + (r.val - 832)) = _; omega)

theorem canon17 (c : Dev nD) (t : Fin cfg0.N) (P : FVec Ideal S832x512 .f32) (hP : ∀ i j, P (ix2 i j) = gluAt m c ((4 - t.val) * 832 + i.val) j)
    (h1) (v : View sig .tc .vmem S832x512 .f32) (r : Fin 832) (j : Fin 512) :
    v.read (Elt Ideal) (v.writes (Elt Ideal) v.junk [(⟨Rect.unit (s := S832x512) ![0, 0] ![832, 512] h1, P⟩ : View.Piece (Elt Ideal) S832x512 .f32)]) (ix2 r j)
      = gluAt m c ((4 - t.val) * 832 + r.val) j := by
  rw [View.read_writes_junk_eq_canon]
  exact (canon_hit _ _ _ _ _ _ (ix2 r j) fun a => by match a with | ⟨0, _⟩ => exact (Nat.zero_add _).symm | ⟨1, _⟩ => exact (Nat.zero_add _).symm).trans (hP _ _)

/-- What the rows after a tile hold: zero after the last tile, else the tile swept before. -/
theorem halo_A (c : Dev nD) (t : Fin cfg0.N) (h0 : t.val % 5 = 0) (i : Fin 32) (j : Fin 512) :
    k0_pay108 (F := Ideal) (ix2 i j) = dcAt m c ((4 - t.val) * 832 + (832 + i.val)) j := by
  have h5 := lt5 t
  pointwise [k0_pay108]
  unfold dcAt
  rw [dif_neg (by omega)]
theorem halo_BC (c : Dev nD) (t : Fin cfg0.N) (h0 : ¬ t.val % 5 = 0) (i : Fin 32) (j : Fin 512) (h) :
    k0_pay114 (View.ld ((View.whole cc0_scratch0).read (Elt Ideal) ((Memref.isWhole_whole _).unread (outsAt0 m c (t.val - 1) (Nat.lt_of_le_of_lt (Nat.sub_le _ _) t.isLt)).2.2.2.2.1))
      (Rect.unit ![0, 0] ![32, 512] h)) (ix2 i j) = dcAt m c ((4 - t.val) * 832 + (832 + i.val)) j := by
  have h5 := lt5 t
  have st := (s0_low m c ⟨t.val - 1, Nat.lt_of_le_of_lt (Nat.sub_le _ _) t.isLt⟩ ⟨i.val, by omega⟩ j).trans
      (congrArg (dcAt m c · j) (show (4 - (t.val - 1)) * 832 + i.val = (4 - t.val) * 832 + (832 + i.val) by omega))
  generalize (outsAt0 m c (t.val - 1) (Nat.lt_of_le_of_lt (Nat.sub_le _ _) t.isLt)).2.2.2.2.1 = O at st ⊢
  simp only [(Memref.isWhole_whole _).read_unread]
  pointwise [k0_pay114]
  exact st
theorem own (c : Dev nD) (t : Fin cfg0.N) (v : View sig .tc .vmem S832x1024 .f32) (h0 h) (i : Fin 832) (j : Fin 512) :
    k0_pay124 (k0_pay121 (k0_pay116 (grid0.coords t)) (k0_pay117 (iblk m c 3 t)) (k0_pay118 (iblk m c 3 t)) (iblk m c 6 t) (iblk m c 7 t)
        (v.readCov [(⟨Rect.unit (s := S832x1024) ![0, 0] ![832, 1024] h0, k0_pay107 (iblk m c 0 t) (iblk m c 1 t)⟩ : View.Piece (Elt Ideal) S832x1024 .f32)]
          (Rect.unit (s := S832x1024) ![0, 0] ![832, 512] h).toLoadRect) (iblk m c 6 t))
      (k0_pay122 (k0_pay118 (iblk m c 3 t))) (ix2 i j) = dcAt m c ((4 - t.val) * 832 + i.val) j := by
  rw [← dcAt_row]
  pointwise [k0_pay124]
  exact dc_t m c t i j _ fun j => (dmix m c t v _ 0 512 _ i j).trans (mix_lo m c _ j _)

/-- What a point adds to the filter's gradient, one partial sum per sublane. -/
def accTerm (c : Dev nD) (t : Fin cfg0.N) (q : Fin 32) (a : Fin 8) (j : Fin 512) : EReal :=
  if q.val < 31 then ∑ k ∈ Finset.range 26, ∑ p ∈ Finset.range 4, dcAt m c ((4 - t.val) * 832 + (32 * k + (30 - q.val) + (8 * p + a.val))) j
    * gluAt m c ((4 - t.val) * 832 + (32 * k + (8 * p + a.val))) j else 0

theorem acc_of (c : Dev nD) (t : Fin cfg0.N) (X : S864x512.Idx → EReal) (G : S832x512.Idx → EReal)
    (hX : ∀ r j, X (ix2 r j) = dcAt m c ((4 - t.val) * 832 + r.val) j) (hG : ∀ r j, G (ix2 r j) = gluAt m c ((4 - t.val) * 832 + r.val) j)
    (q : Fin 32) (a : Fin 8) (j : Fin 512) :
    (if q.val < 31 then ∑ k ∈ Finset.range 26, ∑ p ∈ Finset.range 4, at2 X (32 * k + (30 - q.val) + (8 * p + a.val)) j * at2 G (32 * k + (8 * p + a.val)) j else 0)
      = accTerm m c t q a j := by
  unfold accTerm
  split
  · refine Finset.sum_congr (M := EReal) rfl fun k hk => Finset.sum_congr (M := EReal) rfl fun p hp => ?_
    have := Finset.mem_range.mp hk
    have := Finset.mem_range.mp hp
    rw [at2_of X _ j (by omega), at2_of G _ j (by omega), hX, hG]
  · rfl

set_option maxHeartbeats 1600000 in
theorem acc_A (c : Dev nD) (t : Fin cfg0.N) (h0 : t.val % 5 = 0) (q : Fin 32) (a : Fin 8) (j : Fin 512) :
    (outsAt0 m c t.val t.isLt).2.2.2.2.2.2 (ix3 q a j) = 0 + accTerm m c t q a j := by
  have h5 := lt5 t
  rw [outsAt0_A m c t h0 (by omega) (by omega)]
  frame_out
  rw [← View.read_writes_junk_eq_canon (View.whole cc0_scratch3), View.writes_append]
  refine (after18 (arg15 := scM0_0) (arg17 := scM0_2) (arg18 := scM0_3) (q := q) (a := a) (j := j) (hn := trips_eq.le) ..).trans ?_
  rw [trips_eq]
  refine congrArg₂ (· + ·) ?_ (acc_of m c t _ _ ?_ ?_ q a j)
  · refine (congrFun (View.read_writes_junk_eq_canon (View.whole cc0_scratch3) _) _).trans ?_
    refine (canon_hit _ _ _ _ _ _ (ix3 q a j) fun x => ?_).trans ?_
    · match x with
      | ⟨0, _⟩ => exact (Nat.zero_add _).symm
      | ⟨1, _⟩ => exact (Nat.zero_add _).symm
      | ⟨2, _⟩ => exact (Nat.zero_add _).symm
    · pointwise [k0_pay111]
  · exact canon15 m c t _ _ (own m c t _ _ _) (halo_A m c t h0) _ _ _
  · exact canon17 m c t _ (glu_t m c t) _ _

set_option maxHeartbeats 1600000 in
theorem acc_step (c : Dev nD) (t : Fin cfg0.N) (h0 : ¬ t.val % 5 = 0) (q : Fin 32) (a : Fin 8) (j : Fin 512) :
    (outsAt0 m c t.val t.isLt).2.2.2.2.2.2 (ix3 q a j)
      = (outsAt0 m c (t.val - 1) (Nat.lt_of_le_of_lt (Nat.sub_le _ _) t.isLt)).2.2.2.2.2.2 (ix3 q a j) + accTerm m c t q a j := by
  have h5 := lt5 t
  by_cases h4 : t.val % 5 = 4
  on_goal 1 => rw [outsAt0_C m c t h0 (by omega) h4]
  on_goal 2 => rw [outsAt0_B m c t h0 (by omega) h4]
  all_goals
    frame_out
    refine (after18 (arg15 := scM0_0) (arg17 := scM0_2) (arg18 := scM0_3) (q := q) (a := a) (j := j) (hn := trips_eq.le) ..).trans ?_
    rw [trips_eq]
    refine congrArg₂ (· + ·) ?_ (acc_of m c t _ _ ?_ ?_ q a j)
    · exact congrFun ((Memref.isWhole_whole _).read_unread _) _
    · exact canon15 m c t _ _ (own m c t _ _ _) (halo_BC m c t h0 · · _) _ _ _
    · exact canon17 m c t _ (glu_t m c t) _ _

theorem pay131_sum (X : FVec Ideal S32x8x512 .f32) (q : Fin 32) (j : Fin 512) : k0_pay131 X (ix2 q j) = ∑ a : Fin 8, X (ix3 q a j) := by
  pointwise [k0_pay131]

theorem dcw_last (c : Dev nD) (t : Fin cfg0.N) (h4 : t.val % 5 = 4) (q : Fin 32) (j : Fin 512) :
    (outsAt0 m c t.val t.isLt).2.1 (ix2 q j) = ∑ a : Fin 8, (outsAt0 m c t.val t.isLt).2.2.2.2.2.2 (ix3 q a j) := by
  have h5 := lt5 t
  rw [outsAt0_C m c t (by omega) (by omega) h4]
  frame_out
  exact pay131_sum _ q j

theorem sum_blocks (f : ℕ → EReal) (b n : ℕ) : ∑ k ∈ Finset.range n, ∑ p ∈ Finset.range b, f (b * k + p) = ∑ i ∈ Finset.range (b * n), f i := by
  induction n with
  | zero => simp
  | succ n ih => rw [Finset.sum_range_succ, ih, Nat.mul_succ, Finset.sum_range_add]

/-- A sum over eight sublanes, the blocks of 32 rows and their four strips is the sum over a tile's rows. -/
theorem sum_strips (f : ℕ → EReal) :
    ∑ a : Fin 8, ∑ k ∈ Finset.range 26, ∑ p ∈ Finset.range 4, f (32 * k + (8 * p + a.val)) = ∑ i : Fin 832, f i.val := by
  rw [Finset.sum_comm, Fin.sum_univ_eq_sum_range (fun i => f i) 832]
  refine (Finset.sum_congr (M := EReal) rfl fun k _ => ?_).trans (sum_blocks f 32 26)
  rw [Finset.sum_comm, ← sum_blocks (fun i => f (32 * k + i)) 8 4]
  exact Finset.sum_congr (M := EReal) rfl fun p _ => Fin.sum_univ_eq_sum_range (fun a => f (32 * k + (8 * p + a))) 8

/-- A row's share of the filter's gradient. -/
def cwTerm (c : Dev nD) (R : Fin 4160) (q : Fin 32) (j : Fin 512) : EReal :=
  if q.val < 31 then dcAt m c (R.val + (30 - q.val)) j * gluAt m c R.val j else 0
def cwOut (c : Dev nD) : FVec Ideal S32x512 .f32 := fun y => ∑ R : Fin 4160, cwTerm m c R (y 0) (y 1)

theorem accTerm_sum (c : Dev nD) (t : Fin cfg0.N) (q : Fin 32) (j : Fin 512) :
    ∑ a : Fin 8, accTerm m c t q a j = ∑ i : Fin 832, cwTerm m c (rowOf t i) q j := by
  unfold accTerm cwTerm
  split_ifs
  · refine Eq.trans ?_ (sum_strips fun n => dcAt m c ((4 - t.val) * 832 + n + (30 - q.val)) j * gluAt m c ((4 - t.val) * 832 + n) j)
    refine Finset.sum_congr (M := EReal) rfl fun a _ => Finset.sum_congr (M := EReal) rfl fun k hk => Finset.sum_congr (M := EReal) rfl fun p hp => ?_
    refine congrArg (fun n => dcAt m c n j * _) ?_
    omega
  · simp

theorem final_dcw (c : Dev nD) : (dats m 0 c).arrAt 11 (cfgs 0).N = cwOut m c := by
  refine (dats m 0 c).arrAt_eq_of_covers 11 _ (by decide +kernel) fun t hf y => ?_
  have e : ((View.whole main_v160_1).slice (win0_11.rect t)).emb y = y := by
    funext a
    refine Fin.ext ((win0_11.rect_emb_val_off t y a).trans ?_)
    match a with
    | ⟨0, _⟩ => simp [idx t]
    | ⟨1, _⟩ => simp [idx t]
  blk_simp
  have h4 : t.val + 1 = cfg0.N := (by decide +kernel : ∀ t : Fin grid0.N, win0_11.flush t = true → t.val + 1 = grid0.N) t hf
  have h5 := n5
  rw [after0_11]
  refine Eq.trans ?_ (congrArg (cwOut m c) e.symm)
  clear e
  idx_vars y
  refine (dcw_last m c t (by omega) y0 y1).trans ?_
  have hA := fun a : Fin 8 => Pipeline.eq_sum_fin_of_reset_step_apply_last (fun n h => (outsAt0 m c n h).2.2.2.2.2.2) 5 (fun _ => (0 : EReal))
    (fun t y => accTerm m c t (y 0) (y 1) (y 2)) (fun t h y => by idx_vars y; exact acc_A m c t h y0 y1 y2) (fun t h y => by idx_vars y; exact acc_step m c t h y0 y1 y2)
    (by rw [n5]) t h4 (ix3 y0 a y1)
  simp only [hA, zero_add]
  rw [Finset.sum_comm]
  refine (Finset.sum_congr (M := EReal) rfl fun p _ => accTerm_sum m c p y0 y1).trans ?_
  exact sum_tiles fun R => cwTerm m c R y0 y1

end Cert.CpKernelIdeal.Value
end
-- ==== Proof.CpDz.lean ====
module
public import proofs.«01_k».proof.Proof.CpAcc
@[expose] public section
/-! The gradient of the branch's input: the pooled groups and the gated convolution's two halves, row by row. -/
set_option maxRecDepth 16384
noncomputable section
open Idealize.ShloMosaic Idealize.ShloMosaic.TcCoe Idealize.SL.Sem
open Idealize.ShloMosaic.Pipeline (Dat)
namespace Cert.CpKernelIdeal.Value
open Cert.CpKernelIdeal Cert.CpKernelIdeal.Gen Cert.CpMath
variable (m : (ℓ : Loc nD τ sig) → Buf (Elt Ideal) ℓ)

theorem dbl (n : ℕ) (sh : BitVec 32) (hr) (X Q : FVec Ideal S848x128 .f32) (l : Fin 128)
    (hX : ∀ r : Fin 848, r.val + n ≤ 848 → X (ix2 r l) = ∑ s ∈ Finset.range n, at2 Q (r.val + s) l)
    (hrot : ∀ (r : Fin 848) (h : r.val + n < 848), dynamicRotate 0 sh none X hr (ix2 r l) = X (ix2 ⟨r.val + n, h⟩ l)) (hn : 0 < n) :
    ∀ r : Fin 848, r.val + (n + n) ≤ 848 → addf X (dynamicRotate 0 sh none X hr) (ix2 r l) = ∑ s ∈ Finset.range (n + n), at2 Q (r.val + s) l := by
  intro r h
  rw [Finset.sum_range_add]
  refine congrArg₂ (· + ·) (hX r (by omega)) ((hrot r (by omega)).trans ((hX _ (by show r.val + n + n ≤ 848; omega)).trans ?_))
  exact Finset.sum_congr (M := EReal) rfl fun s _ => congrArg (at2 Q · l) (Nat.add_assoc _ _ _)

section
variable (X : FVec Ideal S848x128 .f32) (hr : S848x128.Rotates 0 none) (l : Fin 128) (r : Fin 848)
theorem rot1 (h : r.val + 1 < 848) : dynamicRotate 0 847#32 none X hr (ix2 r l) = X (ix2 ⟨r.val + 1, h⟩ l) := by
  pointwise []
  exact congrArg (fun z => X (ix2 z l)) (Fin.ext (by dsimp only; omega))
theorem rot2 (h : r.val + 2 < 848) : dynamicRotate 0 846#32 none X hr (ix2 r l) = X (ix2 ⟨r.val + 2, h⟩ l) := by
  pointwise []
  exact congrArg (fun z => X (ix2 z l)) (Fin.ext (by dsimp only; omega))
theorem rot4 (h : r.val + 4 < 848) : dynamicRotate 0 844#32 none X hr (ix2 r l) = X (ix2 ⟨r.val + 4, h⟩ l) := by
  pointwise []
  exact congrArg (fun z => X (ix2 z l)) (Fin.ext (by dsimp only; omega))
theorem rot8 (h : r.val + 8 < 848) : dynamicRotate 0 840#32 none X hr (ix2 r l) = X (ix2 ⟨r.val + 8, h⟩ l) := by
  pointwise []
  exact congrArg (fun z => X (ix2 z l)) (Fin.ext (by dsimp only; omega))
end

section
variable (Q : FVec Ideal S848x128 .f32) (hr : S848x128.Rotates 0 none) (l : Fin 128)
def r1 : FVec Ideal S848x128 .f32 := addf Q (dynamicRotate 0 847#32 none Q hr)
def r2 : FVec Ideal S848x128 .f32 := addf (r1 Q hr) (dynamicRotate 0 846#32 none (r1 Q hr) hr)
def r3 : FVec Ideal S848x128 .f32 := addf (r2 Q hr) (dynamicRotate 0 844#32 none (r2 Q hr) hr)
def r4 : FVec Ideal S848x128 .f32 := addf (r3 Q hr) (dynamicRotate 0 840#32 none (r3 Q hr) hr)
theorem r1_sum : ∀ r : Fin 848, r.val + 2 ≤ 848 → r1 Q hr (ix2 r l) = ∑ s ∈ Finset.range 2, at2 Q (r.val + s) l :=
  dbl 1 _ hr Q Q l (fun r _ => by rw [Finset.sum_range_one]; exact (at2_of Q r.val l r.isLt).symm) (rot1 Q hr l) (by norm_num)
theorem r2_sum : ∀ r : Fin 848, r.val + 4 ≤ 848 → r2 Q hr (ix2 r l) = ∑ s ∈ Finset.range 4, at2 Q (r.val + s) l :=
  dbl 2 _ hr (r1 Q hr) Q l (r1_sum Q hr l) (rot2 _ hr l) (by norm_num)
theorem r3_sum : ∀ r : Fin 848, r.val + 8 ≤ 848 → r3 Q hr (ix2 r l) = ∑ s ∈ Finset.range 8, at2 Q (r.val + s) l :=
  dbl 4 _ hr (r2 Q hr) Q l (r2_sum Q hr l) (rot4 _ hr l) (by norm_num)
theorem r4_sum : ∀ r : Fin 848, r.val + 16 ≤ 848 → r4 Q hr (ix2 r l) = ∑ s ∈ Finset.range 16, at2 Q (r.val + s) l :=
  dbl 8 _ hr (r3 Q hr) Q l (r3_sum Q hr l) (rot8 _ hr l) (by norm_num)
end

/-- The rows a trailing window's row reaches back from: the window's sum. -/
theorem pool_sum (D : FVec Ideal S832x128 .f32) (Y : FVec Ideal S848x128 .f32) (n : ℕ) (Q : FVec Ideal S848x128 .f32) (l : Fin 128)
    (hY : ∀ r : Fin 848, r.val + n ≤ 848 → Y (ix2 r l) = ∑ s ∈ Finset.range n, at2 Q (r.val + s) l) (hn : n ≤ 16) (h) (r : Fin 832) :
    (truncf .bf16 (subf (extractStridedSlice S832x128 ![0, 0] Y h) D) bitsLt_bf16_f32 : FVec Ideal S832x128 .bf16) (ix2 r l)
      = ∑ s ∈ Finset.range n, at2 Q (r.val + s) l - D (ix2 r l) := by
  rw [← hY ⟨r.val, by omega⟩ (by show r.val + n ≤ 848; omega)]
  pointwise []

theorem pool1 (D : FVec Ideal S832x128 .f32) (Q : FVec Ideal S848x128 .f32) (r : Fin 832) (l : Fin 128) :
    k0_pay145 D Q (ix2 r l) = ∑ s ∈ Finset.range 2, at2 Q (r.val + s) l - D (ix2 r l) :=
  pool_sum D (r1 Q rotates_S848x128_d0) 2 Q l (r1_sum Q _ l) (by norm_num) _ r
theorem pool2 (A : FVec Ideal S128x128 .bf16) (B : FVec Ideal S832x128 .bf16) (Q : FVec Ideal S848x128 .f32) (r : Fin 832) (l : Fin 128) :
    k0_pay154 A B Q (ix2 r l) = ∑ s ∈ Finset.range 4, at2 Q (r.val + s) l - k0_pay152 A B (ix2 r l) :=
  pool_sum (k0_pay152 A B) (r2 Q rotates_S848x128_d0) 4 Q l (r2_sum Q _ l) (by norm_num) _ r
theorem pool3 (A : Vec Ideal S832x128 .f32) (B : FVec Ideal S128x128 .bf16) (C : FVec Ideal S1x128 .f32) (Q : FVec Ideal S848x128 .f32) (r : Fin 832) (l : Fin 128) :
    k0_pay163 A B C Q (ix2 r l) = ∑ s ∈ Finset.range 8, at2 Q (r.val + s) l - k0_pay161 A B C (ix2 r l) :=
  pool_sum (k0_pay161 A B C) (r3 Q rotates_S848x128_d0) 8 Q l (r3_sum Q _ l) (by norm_num) _ r
theorem pool4 (D : FVec Ideal S832x128 .f32) (Q : FVec Ideal S848x128 .f32) (r : Fin 832) (l : Fin 128) :
    k0_pay1 D (k0_pay171 Q) 844#32 (ix2 r l) = ∑ s ∈ Finset.range 16, at2 Q (r.val + s) l - D (ix2 r l) :=
  pool_sum D (r4 Q rotates_S848x128_d0) 16 Q l (r4_sum Q _ l) (by norm_num) _ r

theorem rd1 (v : View sig .tc .vmem S848x512 .f32) (L : List (View.Piece (Elt Ideal) S848x512 .f32)) (lo : ℕ) (h) (r : Fin 848) (l : Fin 128) :
    v.readCov L (Rect.unit (s := S848x512) ![0, lo] ![848, 128] h).toLoadRect (ix2 r l)
      = View.canon L (ix2 r ⟨lo + l.val, by have := h 1; simp at this; omega⟩) := by
  rw [View.readCov_eq_canon']
  refine congrArg (View.canon L) (funext fun x => Fin.ext ((Rect.idx_unit_val _ _ _ _ _).trans ?_))
  match x with
  | ⟨0, _⟩ => exact Nat.zero_add _
  | ⟨1, _⟩ => rfl

/-- The pooled half's share of the input's gradient at a row. -/
def poolR (c : Dev nD) (R : Fin 4160) (g : Fin 4) (l : Fin 128) : EReal :=
  ∑ s ∈ Finset.range (2 ^ (g.val + 1)), qAt m c (R.val + s) g l - dpm m c R g l

theorem pool_of (c : Dev nD) (t : Fin cfg0.N) (n : ℕ) (g : Fin 4) (l : Fin 128) (r : Fin 832) (hn : n = 2 ^ (g.val + 1)) (h16 : n ≤ 16)
    (Q : S848x128.Idx → EReal) (D : EReal) (hQ : ∀ r : Fin 848, Q (ix2 r l) = qAt m c ((4 - t.val) * 832 + r.val) g l) (hD : D = dpm m c (rowOf t r) g l) :
    ∑ s ∈ Finset.range n, at2 Q (r.val + s) l - D = poolR m c (rowOf t r) g l := by
  unfold poolR
  rw [hD, ← hn]
  refine congrArg (· - _) (Finset.sum_congr (M := EReal) rfl fun s hs => ?_)
  have := Finset.mem_range.mp hs
  rw [at2_of Q _ l (by omega), hQ]
  exact congrArg (qAt m c · g l) (Nat.add_assoc _ _ _).symm

theorem dpm_of (c : Dev nD) (t : Fin cfg0.N) (r : Fin 832) (g : Fin 4) (l : Fin 128) (M S W : Fin 128 → EReal)
    (hM : ∀ x, M x = mix m c (rowOf t r) ⟨512 + (128 * g.val + x.val), by omega⟩) (hS : ∀ x, S x = aPs m c (ix2 0 ⟨128 * g.val + x.val, by omega⟩))
    (hW : ∀ x, W x = aPw m c (ix3 g l x)) : ∑ x, M x * S x * W x = dpm m c (rowOf t r) g l := by
  simp only [hM, hS, hW]
  rfl

set_option maxHeartbeats 1600000 in
theorem dz_pool (c : Dev nD) (t : Fin cfg0.N) (r : Fin 832) (g : Fin 4) (l : Fin 128) :
    (outsAt0 m c t.val t.isLt).1 (ix2 r ⟨1024 + (128 * g.val + l.val), by omega⟩) = poolR m c (rowOf t r) g l := by
  have h5 := lt5 t
  have hl := l.isLt
  have hx : ∀ a : Fin 2, ((ix2 r ⟨1024 + (128 * g.val + l.val), by omega⟩ : S832x1536.Idx) a).val
      = (![0, 1024 + 128 * g.val] : Fin 2 → ℕ) a + ((ix2 r l : S832x128.Idx) a).val :=
    fun a => by match a with | ⟨0, _⟩ => exact (Nat.zero_add _).symm | ⟨1, _⟩ => exact (Nat.add_assoc _ _ _).symm
  have hs := fun r : Fin 848 => s1 m c t r g l
  revert hs
  obtain ⟨g, hg⟩ := g
  by_cases h0 : t.val % 5 = 0
  on_goal 1 => rw [outsAt0_A m c t h0 (by omega) (by omega)]
  on_goal 2 => by_cases h4 : t.val % 5 = 4
  on_goal 2 => rw [outsAt0_C m c t h0 (by omega) h4]
  on_goal 3 => rw [outsAt0_B m c t h0 (by omega) h4]
  all_goals
    frame_out
    intro hs
    interval_cases g
  all_goals
    iterate 4 try (refine (canon_miss _ _ _ _ _ _ 1 ?_).trans ?_; · (simp <;> omega))
    refine (canon_hit _ _ _ _ _ _ (ix2 r l) hx).trans ?_
    first
      | with_reducible refine (pool1 _ _ _ _).trans ?_
      | with_reducible refine (pool2 _ _ _ _ _).trans ?_
      | with_reducible refine (pool3 _ _ _ _ _ _).trans ?_
      | with_reducible refine (pool4 _ _ _ _).trans ?_
    refine pool_of m c t _ _ l r rfl (by norm_num) _ _ (fun r => (rd1 _ _ _ _ r l).trans (Eq.trans ?_ (hs r))) ?_
    · iterate 3 try (refine Eq.trans ?_ (canon_miss _ _ _ _ _ _ 1 ?_).symm; rotate_left; · (simp <;> omega))
      exact congrArg (fun z => View.canon _ (ix2 r z)) (Fin.ext (by simp))
    · clear hs
      pointwise [k0_pay142, k0_pay140, k0_pay138, k0_pay152, k0_pay149, k0_pay147, k0_pay161, k0_pay159, k0_pay158, k0_pay156, k0_pay169, k0_pay167, k0_pay165]
      simp only [dmix m c t]
      exact dpm_of m c t r ⟨_, hg⟩ l _ _ _ (fun x => congrArg (mix m c _) (Fin.ext (by dsimp only <;> omega)))
        (fun x => (ps_t m c t _).trans (congrArg (fun z => aPs m c (ix2 0 z)) (Fin.ext (by dsimp only <;> omega))))
        (fun x => pw_t m c t _ l x)

/-- The gated input's cotangent at a row: the filter transposed over the rows after it. -/
def dgluR (c : Dev nD) (R : Fin 4160) (j : Fin 512) : EReal := ∑ q : Fin 31, aCw m c (ix2 q j) * dcAt m c (R.val + (30 - q.val)) j
def sigR (c : Dev nD) (R : Fin 4160) (j : Fin 512) : EReal := Ideal.logistic (aZ m c (ix2 R ⟨512 + j.val, by omega⟩))
/-- The two convolution columns' gradients at a row. -/
def loR (c : Dev nD) (R : Fin 4160) (j : Fin 512) : EReal := dgluR m c R j * sigR m c R j
def hiR (c : Dev nD) (R : Fin 4160) (j : Fin 512) : EReal :=
  dgluR m c R j * aZ m c (ix2 R ⟨j.val, by omega⟩) * sigR m c R j * (Ideal.ofBits .f32 0x3F800000#32 - sigR m c R j)

theorem cw_t (c : Dev nD) (t : Fin cfg0.N) (q : Fin 31) (j : Fin 512) : iblk m c 5 t (ix2 q j) = aCw m c (ix2 q j) := by
  blk_point [iblk, idx t]

theorem rd2 (v : View sig .tc .vmem S832x512 .f32) (L : List (View.Piece (Elt Ideal) S832x512 .f32)) (h) (r : Fin 832) (l : Fin 512) :
    v.readCov L (Rect.unit (s := S832x512) ![0, 0] ![832, 512] h).toLoadRect (ix2 r l) = View.canon L (ix2 r l) := by
  rw [View.readCov_eq_canon']
  refine congrArg (View.canon L) (funext fun x => Fin.ext ((Rect.idx_unit_val _ _ _ _ _).trans ?_))
  match x with
  | ⟨0, _⟩ => exact Nat.zero_add _
  | ⟨1, _⟩ => exact Nat.zero_add _

theorem dglu_of (c : Dev nD) (t : Fin cfg0.N) (C : S31x512.Idx → EReal) (X : S864x512.Idx → EReal)
    (hC : ∀ q j, C (ix2 q j) = aCw m c (ix2 q j)) (hX : ∀ r j, X (ix2 r j) = dcAt m c ((4 - t.val) * 832 + r.val) j) (r : Fin 832) (j : Fin 512) (O : EReal) :
    (if r.val < 32 * 26 then ∑ q : Fin 31, C (ix2 q j) * at2 X (r.val + (30 - q.val)) j else O) = dgluR m c (rowOf t r) j := by
  rw [if_pos (by omega)]
  unfold dgluR
  refine Finset.sum_congr (M := EReal) rfl fun q _ => ?_
  rw [at2_of X _ j (by omega), hC, hX]
  exact congrArg (fun n => _ * dcAt m c n j) (Nat.add_assoc _ _ _).symm

theorem lo_of (Z : Vec Ideal S832x512 .bf16) (G : Vec Ideal S832x512 .f32) (r : Fin 832) (j : Fin 512) :
    k0_pay132 Z G (ix2 r j) = G (ix2 r j) * Ideal.logistic (Z (ix2 r j)) := by
  pointwise [k0_pay132, k0_pay129]
theorem hi_of (A Z : Vec Ideal S832x512 .bf16) (G : Vec Ideal S832x512 .f32) (r : Fin 832) (j : Fin 512) :
    k0_pay135 (k0_pay129 Z) (k0_pay133 A Z G) k0_pay134 (ix2 r j)
      = G (ix2 r j) * A (ix2 r j) * Ideal.logistic (Z (ix2 r j)) * (Ideal.ofBits .f32 0x3F800000#32 - Ideal.logistic (Z (ix2 r j))) := by
  pointwise [k0_pay135, k0_pay133, k0_pay134, k0_pay129, k0_pay128]

set_option maxHeartbeats 3200000 in
theorem dz_conv (c : Dev nD) (t : Fin cfg0.N) (r : Fin 832) (j : Fin 512) :
    (outsAt0 m c t.val t.isLt).1 (ix2 r ⟨j.val, by omega⟩) = loR m c (rowOf t r) j
      ∧ (outsAt0 m c t.val t.isLt).1 (ix2 r ⟨512 + j.val, by omega⟩) = hiR m c (rowOf t r) j := by
  have h5 := lt5 t
  have hx : ∀ a : Fin 2, ((ix2 r ⟨j.val, by omega⟩ : S832x1536.Idx) a).val = (![0, 0] : Fin 2 → ℕ) a + ((ix2 r j : S832x512.Idx) a).val :=
    fun a => by match a with | ⟨0, _⟩ => exact (Nat.zero_add _).symm | ⟨1, _⟩ => exact (Nat.zero_add _).symm
  have hy : ∀ a : Fin 2, ((ix2 r ⟨512 + j.val, by omega⟩ : S832x1536.Idx) a).val = (![0, 512] : Fin 2 → ℕ) a + ((ix2 r j : S832x512.Idx) a).val :=
    fun a => by match a with | ⟨0, _⟩ => exact (Nat.zero_add _).symm | ⟨1, _⟩ => rfl
  by_cases h0 : t.val % 5 = 0
  on_goal 1 => rw [outsAt0_A m c t h0 (by omega) (by omega)]
  on_goal 2 => by_cases h4 : t.val % 5 = 4
  on_goal 2 => rw [outsAt0_C m c t h0 (by omega) h4]
  on_goal 3 => rw [outsAt0_B m c t h0 (by omega) h4]
  all_goals
    frame_out
    constructor
    · iterate 5 (refine (canon_miss _ _ _ _ _ _ 1 ?_).trans ?_; · (simp <;> omega))
      refine (canon_hit _ _ _ _ _ _ (ix2 r j) hx).trans ?_
      refine (lo_of _ _ r j).trans (congrArg₂ (· * ·) ((rd2 _ _ _ r j).trans ?_) ?_)
      on_goal 2 =>
        pointwise []
        exact congrArg Ideal.logistic (z_t m c t r _)
      all_goals rw [← View.read_writes_junk_eq_canon (View.whole cc0_scratch2), View.writes_append]
      all_goals refine (after17 (arg6 := ms0_5 t) (arg15 := scM0_0) (arg17 := scM0_2) (arg18 := scM0_3) (R := r) (j := j) (hn := trips_eq.le) ..).trans ?_
      all_goals rw [trips_eq]
      all_goals refine dglu_of m c t _ _ ?_ ?_ r j _
      all_goals intro q j
      on_goal 1 => exact (congrFun ((hs0_5 t).read_unread _) _).trans (cw_t m c t q j)
      all_goals first
        | exact canon15 m c t _ _ (own m c t _ _ _) (halo_A m c t h0) _ _ _ _ _
        | exact canon15 m c t _ _ (own m c t _ _ _) (halo_BC m c t h0 · · _) _ _ _ _ _
    · iterate 4 (refine (canon_miss _ _ _ _ _ _ 1 ?_).trans ?_; · (simp <;> omega))
      refine (canon_hit _ _ _ _ _ _ (ix2 r j) hy).trans ?_
      refine (hi_of _ _ _ r j).trans ?_
      refine congrArg₂ (· * ·) (congrArg₂ (· * ·) (congrArg₂ (· * ·) ((rd2 _ _ _ r j).trans ?_) ?_) ?_) (congrArg (Ideal.ofBits .f32 0x3F800000#32 - ·) ?_)
      on_goal 2 =>
        pointwise []
        exact z_t m c t r _
      on_goal 2 =>
        pointwise []
        exact congrArg Ideal.logistic (z_t m c t r _)
      on_goal 2 =>
        pointwise []
        exact congrArg Ideal.logistic (z_t m c t r _)
      all_goals rw [← View.read_writes_junk_eq_canon (View.whole cc0_scratch2), View.writes_append]
      all_goals refine (after17 (arg6 := ms0_5 t) (arg15 := scM0_0) (arg17 := scM0_2) (arg18 := scM0_3) (R := r) (j := j) (hn := trips_eq.le) ..).trans ?_
      all_goals rw [trips_eq]
      all_goals refine dglu_of m c t _ _ ?_ ?_ r j _
      all_goals intro q j
      on_goal 1 => exact (congrFun ((hs0_5 t).read_unread _) _).trans (cw_t m c t q j)
      all_goals first
        | exact canon15 m c t _ _ (own m c t _ _ _) (halo_A m c t h0) _ _ _ _ _
        | exact canon15 m c t _ _ (own m c t _ _ _) (halo_BC m c t h0 · · _) _ _ _ _ _

/-- The whole gradient of the convolution branch's input. -/
def dzOut (c : Dev nD) : FVec Ideal S4160x1536 .bf16 := fun y =>
  if h : (y 1).val < 512 then loR m c (y 0) ⟨(y 1).val, h⟩
  else if h : (y 1).val < 1024 then hiR m c (y 0) ⟨(y 1).val - 512, by omega⟩
  else poolR m c (y 0) ⟨((y 1).val - 1024) / 128, by have : (y 1).val < 1536 := (y 1).isLt; omega⟩ ⟨((y 1).val - 1024) % 128, by omega⟩

theorem dz_all (c : Dev nD) (t : Fin cfg0.N) (r : Fin 832) (k : Fin 1536) :
    (outsAt0 m c t.val t.isLt).1 (ix2 r k) = dzOut m c (ix2 (rowOf t r) k) := by
  by_cases h : k.val < 512
  · have e : dzOut m c (ix2 (rowOf t r) k) = loR m c (rowOf t r) ⟨k.val, h⟩ := dif_pos h
    exact (dz_conv m c t r ⟨k.val, h⟩).1.trans e.symm
  · by_cases h' : k.val < 1024
    · refine ((congrArg (fun x => (outsAt0 m c t.val t.isLt).1 (ix2 r x)) (Fin.ext (by show k.val = 512 + (k.val - 512); omega))).trans (dz_conv m c t r ⟨k.val - 512, by omega⟩).2).trans ?_
      have e : dzOut m c (ix2 (rowOf t r) k) = hiR m c (rowOf t r) ⟨k.val - 512, by omega⟩ := (dif_neg h).trans (dif_pos h')
      exact e.symm
    · refine ((congrArg (fun x => (outsAt0 m c t.val t.isLt).1 (ix2 r x)) (Fin.ext ?_)).trans (dz_pool m c t r ⟨(k.val - 1024) / 128, by omega⟩ ⟨(k.val - 1024) % 128, by omega⟩)).trans ?_
      · show k.val = 1024 + (128 * ((k.val - 1024) / 128) + (k.val - 1024) % 128)
        omega
      · have e : dzOut m c (ix2 (rowOf t r) k) = poolR m c (rowOf t r) ⟨(k.val - 1024) / 128, by omega⟩ ⟨(k.val - 1024) % 128, by omega⟩ :=
          (dif_neg h).trans (dif_neg h')
        exact e.symm

theorem final_dz (c : Dev nD) : (dats m 0 c).arrAt 10 (cfgs 0).N = dzOut m c := by
  refine (dats m 0 c).arrAt_eq_of_covers 10 _ (by decide +kernel) fun t hf y => ?_
  blk_simp
  rw [after0_10]
  idx_vars y
  refine (dz_all m c t _ _).trans ?_
  generalize dzOut m c = W
  blk_simp [idx t]
  blk_point [rowOf, idx t]

end Cert.CpKernelIdeal.Value
end
-- ==== Proof.CpRef2.lean ====
module
public import proofs.«01_k».proof.Proof.Gen.CpReferenceIdeal.Read
public import Idealize.ShloMosaic.Lib.Pipeline.ValueKit
public import proofs.«01_k».proof.Proof.CpRef
@[expose] public section
/-! The reference of the mixer's gradient, read at an index: the gradient of its input. -/
set_option maxRecDepth 16384
noncomputable section
open Idealize.ShloMosaic Idealize.ShloMosaic.TcCoe Idealize.SL.Sem
namespace Cert.CpReferenceIdeal.Read
open Cert.CpReferenceIdeal Cert.CpReferenceIdeal.Gen Cert.CpMath

variable (x0 : FVec Ideal S4112x1536 .f32) (x1 : FVec Ideal S31x512 .f32) (x2 x3 x4 : FVec Ideal S512 .f32)
  (x5 : FVec Ideal S4x128x128 .f32) (x6 : FVec Ideal S512 .f32) (x7 : FVec Ideal S1024x1024 .f32) (x8 : FVec Ideal S4112x1024 .f32)

theorem ref299 (hf : Fine x0 x1 x2 x3 x5 x6 x7 x8) (k : Fin 31) (i : Fin 4112) (j : Fin 512) :
    val_main_v299 (F := Ideal) x0 x1 x2 x3 x4 x7 x8 (ix3 k i j) = dcE x0 x1 x2 x3 x4 x7 x8 i j * x1 (ix2 k j) := by
  have h := fun i j => ref290 x0 x1 x2 x3 x4 x5 x6 x7 x8 hf i j
  unfold val_main_v299 val_main_v294
  generalize val_main_v290 (F := Ideal) x0 x1 x2 x3 x4 x7 x8 = w at h
  pointwise [val_main_v298, val_main_v79]
  simp only [h]

/-- The gated unit's cotangent: the filter transposed. -/
def dglE (R : ℕ) (j : Fin 512) : EReal := ∑ q : Fin 31, dcZ x0 x1 x2 x3 x4 x7 x8 (R + (30 - q.val)) j * x1 (ix2 q j)

theorem tap (R : Fin 4160) (j : Fin 512) (k : Fin 31) (n d : ℕ) (hn : n + d = 48) (hd : d ≤ 30) :
    (if h : n ≤ R.val ∧ R.val - n < 4112 then dcE x0 x1 x2 x3 x4 x7 x8 ⟨R.val - n, h.2⟩ j * x1 (ix2 k j) else 0)
      = dcZ x0 x1 x2 x3 x4 x7 x8 (R.val + d) j * x1 (ix2 k j) := by
  unfold dcZ
  by_cases h : n ≤ R.val ∧ R.val - n < 4112
  · rw [dif_pos h, dif_pos (by omega)]
    exact congrArg (fun i => dcE x0 x1 x2 x3 x4 x7 x8 i j * x1 (ix2 k j)) (Fin.ext (by dsimp only; omega))
  · rw [dif_neg h, dif_neg (by omega), zero_mul]

theorem dglE_range (R : ℕ) (j : Fin 512) : dglE x0 x1 x2 x3 x4 x7 x8 R j
    = ∑ n ∈ Finset.range 31, dcZ x0 x1 x2 x3 x4 x7 x8 (R + n) j * x1 (ix2 ⟨30 - n, by omega⟩ j) := by
  rw [dglE, ← Fin.sum_univ_eq_sum_range (fun n => dcZ x0 x1 x2 x3 x4 x7 x8 (R + n) j * x1 (ix2 ⟨30 - n, by omega⟩ j)) 31, ← Equiv.sum_comp Fin.revPerm]
  refine Finset.sum_congr (M := EReal) rfl fun q _ => ?_
  have e : (Fin.revPerm q).val = 30 - q.val := by rw [Fin.revPerm_apply, Fin.val_rev]; omega
  refine congrArg₂ (· * ·) (congrArg (dcZ x0 x1 x2 x3 x4 x7 x8 · j) (by rw [e]; omega)) (congrArg (fun k => x1 (ix2 k j)) (Fin.ext e))

theorem ref423 (hf : Fine x0 x1 x2 x3 x5 x6 x7 x8) (R : Fin 4160) (j : Fin 512) :
    val_main_v423 (F := Ideal) x0 x1 x2 x3 x4 x7 x8 (ix2 R j) = dglE x0 x1 x2 x3 x4 x7 x8 R.val j := by
  have h := fun k i j => ref299 x0 x1 x2 x3 x4 x5 x6 x7 x8 hf k i j
  unfold val_main_v423 val_main_v422 val_main_v421 val_main_v420 val_main_v419 val_main_v418 val_main_v417 val_main_v416 val_main_v415 val_main_v414 val_main_v413 val_main_v412 val_main_v411 val_main_v410 val_main_v409 val_main_v408 val_main_v407 val_main_v406 val_main_v405 val_main_v404 val_main_v403 val_main_v402 val_main_v401 val_main_v400 val_main_v399 val_main_v398 val_main_v397 val_main_v396 val_main_v395 val_main_v394 val_main_v393 val_main_v392 val_main_v391 val_main_v390 val_main_v389 val_main_v388 val_main_v387 val_main_v386 val_main_v385 val_main_v384 val_main_v383 val_main_v382 val_main_v381 val_main_v380 val_main_v379 val_main_v378 val_main_v377 val_main_v376 val_main_v375 val_main_v374 val_main_v373 val_main_v372 val_main_v371 val_main_v370 val_main_v369 val_main_v368 val_main_v367 val_main_v366 val_main_v365 val_main_v364 val_main_v363 val_main_v362 val_main_v361 val_main_v360 val_main_v359 val_main_v358 val_main_v357 val_main_v356 val_main_v355 val_main_v354 val_main_v353 val_main_v352 val_main_v351 val_main_v350 val_main_v349 val_main_v348 val_main_v347 val_main_v346 val_main_v345 val_main_v344 val_main_v343 val_main_v342 val_main_v341 val_main_v340 val_main_v339 val_main_v338 val_main_v337 val_main_v336 val_main_v335 val_main_v334 val_main_v333 val_main_v332 val_main_v331 val_main_v330 val_main_v329 val_main_v328 val_main_v327 val_main_v326 val_main_v325 val_main_v324 val_main_v323 val_main_v322 val_main_v321 val_main_v320 val_main_v319 val_main_v318 val_main_v317 val_main_v316 val_main_v315 val_main_v314 val_main_v313 val_main_v312 val_main_v311 val_main_v310 val_main_v309 val_main_v308 val_main_v307 val_main_v306 val_main_v305 val_main_v304 val_main_v303 val_main_v302 val_main_v301
  generalize val_main_v299 (F := Ideal) x0 x1 x2 x3 x4 x7 x8 = w at h
  pointwise [val_main_cst_49, val_main_cst_50, val_main_cst_51, val_main_cst_52, val_main_cst_53, val_main_cst_54, val_main_cst_55, val_main_cst_56, val_main_cst_57, val_main_cst_58, val_main_cst_59, val_main_cst_60, val_main_cst_61, val_main_cst_62, val_main_cst_63, val_main_cst_64, val_main_cst_65, val_main_cst_66, val_main_cst_67, val_main_cst_68, val_main_cst_69, val_main_cst_70, val_main_cst_71, val_main_cst_72, val_main_cst_73, val_main_cst_74, val_main_cst_75, val_main_cst_76, val_main_cst_77, val_main_cst_78, val_main_cst_79]
  simp only [h]
  rw [dglE_range]
  simp only [Finset.sum_range_succ, Finset.sum_range_zero, zero_add]
  iterate 30 refine congrArg₂ (· + ·) ?_ ?_
  all_goals first
    | exact tap x0 x1 x2 x3 x4 x7 x8 R j _ _ _ (by omega) (by omega)
    | skip

end Cert.CpReferenceIdeal.Read
end
-- ==== Proof.CpRef3.lean ====
module
public import proofs.«01_k».proof.Proof.Gen.CpReferenceIdeal.Read
public import Idealize.ShloMosaic.Lib.Pipeline.ValueKit
public import Idealize.ShloMosaic.Lib.Routing.OpsOne
public import proofs.«01_k».proof.Proof.CpRef2
@[expose] public section
/-! Reverse running sums. -/
set_option maxRecDepth 16384
noncomputable section
open Idealize.ShloMosaic Idealize.ShloMosaic.TcCoe Idealize.SL.Sem
namespace Cert.CpReferenceIdeal.Read
open Cert.CpReferenceIdeal Cert.CpReferenceIdeal.Gen Cert.CpMath

theorem foldl_add {α : Type} (f : α → EReal) (l : List α) (a : EReal) : l.foldl (fun v n => v + f n) a = a + (l.map f).sum := by
  induction l generalizing a with
  | nil => rw [List.foldl_nil, List.map_nil, List.sum_nil, add_zero]
  | cons b l ih => rw [List.foldl_cons, ih, List.map_cons, List.sum_cons, add_assoc]

theorem sum_tail {N K : ℕ} (hK : K = N) (R : ℕ) (hR : R ≤ N) (f : ℕ → EReal) :
    ∑ n : Fin K, (if R + n.val < N then f (R + n.val) else 0) = ∑ P ∈ Finset.Ico R N, f P := by
  subst hK
  rw [Fin.sum_univ_eq_sum_range (fun n => if R + n < K then f (R + n) else 0) K, ← Finset.sum_filter, Finset.sum_Ico_eq_sum_range]
  refine Finset.sum_congr (M := EReal) (Finset.ext fun n => ?_) fun _ _ => rfl
  simp only [Finset.mem_filter, Finset.mem_range]
  omega

/-- A reverse running sum down the rows, as it prints: the window runs from each row to the last. -/
theorem csum_gen {N M C : ℕ} (hN : M + 1 = N) (x : (⟨2, ![N, C]⟩ : Shape).Idx → EReal) (init : EReal) (hi : init = 0)
    (h : (⟨2, ![N, C]⟩ : Shape).ReduceWindows (![N, 1] : Fin 2 → ℕ) ![1, 1] ![0, 0] ![M, 0] ⟨2, ![N, C]⟩) (R : Fin N) (l : Fin C)
    (f : ℕ → EReal) (hf : ∀ P : Fin N, x (ix2 P l) = f P.val) :
    Ideal.hostReduceWindowAdd (![N, 1] : Fin 2 → ℕ) ![1, 1] ![0, 0] ![M, 0] h x init (ix2 R l) = ∑ P ∈ Finset.Ico R.val N, f P := by
  have hR := R.isLt
  have hl := l.isLt
  subst hi
  unfold Ideal.hostReduceWindowAdd Host.reduceWindow
  refine (congrArg (fun F => List.foldl F (0 : EReal) (List.finRange (Shape.numel ⟨2, ![N, 1]⟩))) (funext fun v => funext fun n => (?_ : _ = v + if R.val + n.val < N then f (R.val + n.val) else 0))).trans ?_
  · have hw0 : ((⟨2, ![N, 1]⟩ : Shape).rowMajor.symm n 0).val = n.val := by rw [show (⟨2, ![N, 1]⟩ : Shape).rowMajor.symm n = _ from Routing.symm_col n]; rfl
    have hw1 : ((⟨2, ![N, 1]⟩ : Shape).rowMajor.symm n 1).val = 0 := by rw [show (⟨2, ![N, 1]⟩ : Shape).rowMajor.symm n = _ from Routing.symm_col n]; rfl
    refine congrArg (v + ·) ?_
    split
    · next hin =>
      have h0 := hin 0
      change 0 ≤ R.val * 1 + ((⟨2, ![N, 1]⟩ : Shape).rowMajor.symm n 0).val
        ∧ R.val * 1 + ((⟨2, ![N, 1]⟩ : Shape).rowMajor.symm n 0).val - 0 < N at h0
      rw [hw0] at h0
      rw [if_pos (by omega)]
      refine (congrArg x (funext fun a => Fin.ext ?_)).trans (hf ⟨R.val + n.val, by omega⟩)
      match a with
      | ⟨0, _⟩ =>
        show R.val * 1 + ((⟨2, ![N, 1]⟩ : Shape).rowMajor.symm n 0).val - 0 = R.val + n.val
        rw [hw0]
        omega
      | ⟨1, _⟩ =>
        show l.val * 1 + ((⟨2, ![N, 1]⟩ : Shape).rowMajor.symm n 1).val - 0 = l.val
        rw [hw1]
        omega
    · next hin =>
      rw [if_neg fun hle => hin fun a => by
        match a with
        | ⟨0, _⟩ =>
          show 0 ≤ R.val * 1 + ((⟨2, ![N, 1]⟩ : Shape).rowMajor.symm n 0).val
            ∧ R.val * 1 + ((⟨2, ![N, 1]⟩ : Shape).rowMajor.symm n 0).val - 0 < N
          rw [hw0]
          omega
        | ⟨1, _⟩ =>
          show 0 ≤ l.val * 1 + ((⟨2, ![N, 1]⟩ : Shape).rowMajor.symm n 1).val ∧ l.val * 1 + ((⟨2, ![N, 1]⟩ : Shape).rowMajor.symm n 1).val - 0 < C
          rw [hw1]
          omega]
  · rw [foldl_add, zero_add, ← Fin.sum_univ_def]
    exact sum_tail (Routing.numel_col N) R.val hR.le f

end Cert.CpReferenceIdeal.Read
end
-- ==== Proof.CpRef4.lean ====
module
public import proofs.«01_k».proof.Proof.Gen.CpReferenceIdeal.Read
public import Idealize.ShloMosaic.Lib.Pipeline.ValueKit
public import Idealize.ShloMosaic.Lib.Routing.OpsOne
public import proofs.«01_k».proof.Proof.CpRef3
@[expose] public section
/-! The reference of the mixer's gradient, read at an index: the pooled branch. -/
set_option maxRecDepth 16384
noncomputable section
open Idealize.ShloMosaic Idealize.ShloMosaic.TcCoe Idealize.SL.Sem
namespace Cert.CpReferenceIdeal.Read
open Cert.CpReferenceIdeal Cert.CpReferenceIdeal.Gen Cert.CpMath

variable (x0 : FVec Ideal S4112x1536 .f32) (x1 : FVec Ideal S31x512 .f32) (x2 x3 x4 : FVec Ideal S512 .f32)
  (x5 : FVec Ideal S4x128x128 .f32) (x6 : FVec Ideal S512 .f32) (x7 : FVec Ideal S1024x1024 .f32) (x8 : FVec Ideal S4112x1024 .f32)

/-- The cotangent of a mean, by the padded row. -/
def cntE (n : ℕ) (g : Fin 4) : ℝ := ((min (n + 1) (2 ^ (g.val + 1)) : ℕ) : ℝ)
theorem cntE_ne (n : ℕ) (g : Fin 4) : cntE n g ≠ 0 := by
  have : 0 < min (n + 1) (2 ^ (g.val + 1)) := lt_min (Nat.succ_pos _) (Nat.two_pow_pos _)
  exact Nat.cast_ne_zero.2 this.ne'
def qZ (n : ℕ) (g : Fin 4) (l : Fin 128) : EReal :=
  if h : 48 ≤ n ∧ n < 4160 then Ideal.div (dpmE x5 x6 x7 x8 ⟨n - 48, by omega⟩ g l) ((cntE (n - 48) g : ℝ) : EReal) else 0

theorem dpmE_isR (hf : Fine x0 x1 x2 x3 x5 x6 x7 x8) (i : Fin 4112) (g : Fin 4) (l : Fin 128) :
    IsR (dpmE x5 x6 x7 x8 i g l) :=
  IsR.sum _ _ fun d => ((mixE_isR hf _ _).mul (hf.h6 _)).mul (hf.h5 _ _ _)

theorem qZ_isR (hf : Fine x0 x1 x2 x3 x5 x6 x7 x8) (n : ℕ) (g : Fin 4) (l : Fin 128) :
    IsR (qZ x5 x6 x7 x8 n g l) := by
  unfold qZ
  split
  · obtain ⟨r, hr⟩ := dpmE_isR x0 x1 x2 x3 x5 x6 x7 x8 hf ⟨n - 48, by omega⟩ g l
    rw [hr, Ideal.div_coe (cntE_ne _ _)]
    exact ⟨r * (1 / cntE (n - 48) g), (EReal.coe_mul _ _).symm⟩
  · exact .zero

/-- A window's cotangent added up over the rows that read it. -/
theorem tele_sum (w R : ℕ) (hR : R ≤ 4160) (q : ℕ → EReal) (hq : ∀ n, IsR (q n)) (h0 : ∀ n, 4160 ≤ n → q n = 0) :
    ∑ P ∈ Finset.Ico R 4160, (-q (P + w) + q P) = ∑ s ∈ Finset.range w, q (R + s) := by
  choose r hr using hq
  have hz : ∀ n, 4160 ≤ n → r n = 0 := fun n hn => EReal.coe_eq_zero.1 ((hr n).symm.trans (h0 n hn))
  simp only [hr, ← EReal.coe_neg, ← EReal.coe_add, ← coe_sum']
  exact congrArg _ (tele 4160 w R hR r hz)

/-- The cotangent of the pooled inputs of a group of channels: what the mean returns, less what the difference takes. -/
theorem pool_core (w : ℕ) (g : Fin 4) (hf : Fine x0 x1 x2 x3 x5 x6 x7 x8)
    (x : FVec Ideal S4160x128 .f32) (init : FVec Ideal S_ .f32) (hi : ∀ u, init u = (0 : EReal)) (h) (hu) (R : Fin 4160) (l : Fin 128)
    (hx : ∀ P : Fin 4160, x (ix2 P l) = -qZ x5 x6 x7 x8 (P.val + w) g l + qZ x5 x6 x7 x8 P.val g l) :
    Host.reduceWindowAdd (F := Ideal) (φ := .f32) ![4160, 1] ![1, 1] ![0, 0] ![4159, 0] x init h hu (ix2 R l)
      = ∑ s ∈ Finset.range w, qZ x5 x6 x7 x8 (R.val + s) g l :=
  by
  unfold Host.reduceWindowAdd
  rw [Ideal.hostReduceWindowAdd_def, hi]
  refine (csum_gen (N := 4160) (M := 4159) (C := 128) rfl x 0 rfl h R l (fun P => -qZ x5 x6 x7 x8 (P + w) g l + qZ x5 x6 x7 x8 P g l) hx).trans ?_
  exact tele_sum w R.val R.isLt.le (fun n => qZ x5 x6 x7 x8 n g l) (fun n => qZ_isR x0 x1 x2 x3 x5 x6 x7 x8 hf n g l) fun n hn => dif_neg (by omega)

theorem cnt_eq (i : ℕ) (hi : i < 4112) (g : Fin 4) (w : BitVec 32) (hw : w = BitVec.ofNat 32 (2 ^ (g.val + 1))) :
    FloatOps.sitofp (F := Ideal) .f32 (IntOp.minsi (IntOp.addi (BitVec.ofNat 32 i) 1#32) w) = ((cntE i g : ℝ) : EReal) := by
  have hg : 2 ^ (g.val + 1) ≤ 16 := Nat.pow_le_pow_right (by norm_num) (by omega : g.val + 1 ≤ 4)
  have e1 : IntOp.addi (BitVec.ofNat 32 i) 1#32 = BitVec.ofNat 32 (i + 1) := (BitVec.ofNat_add i 1).symm
  have e2 : ∀ n : ℕ, n < 5000 → (BitVec.ofNat 32 n).toInt = n := fun n hn => by
    rw [BitVec.toInt_eq_toNat_of_lt (by rw [BitVec.toNat_ofNat]; omega), BitVec.toNat_ofNat]; omega
  rw [e1, hw, cntE]
  show (((IntOp.minsi (BitVec.ofNat 32 (i + 1)) (BitVec.ofNat 32 (2 ^ (g.val + 1)))).toInt : ℝ) : EReal) = _
  unfold IntOp.minsi
  rw [BitVec.slt_eq_decide, e2 _ (by omega), e2 _ (by omega)]
  rcases lt_or_ge (i + 1) (2 ^ (g.val + 1)) with hc | hc
  · rw [if_pos (by simpa using Int.ofNat_lt.2 hc), e2 _ (by omega), min_eq_left hc.le, Int.cast_natCast]
  · rw [if_neg (by simpa using Int.ofNat_le.2 hc), e2 _ (by omega), min_eq_right hc, Int.cast_natCast]

/-- A reading of the quotient moved down by a window. -/
theorem moved (g : Fin 4) (w : ℕ) (hw : w ≤ 48) (l : Fin 128) (P : Fin 4160) :
    (if h : 48 - w ≤ P.val ∧ P.val - (48 - w) < 4112 then -qZ x5 x6 x7 x8 (48 + (P.val - (48 - w))) g l else 0) = -qZ x5 x6 x7 x8 (P.val + w) g l := by
  have hP := P.isLt
  split
  · exact congrArg (fun n => -qZ x5 x6 x7 x8 n g l) (by omega)
  · rw [qZ, dif_neg (by omega), neg_zero]

theorem still (g : Fin 4) (l : Fin 128) (P : Fin 4160) :
    (if h : 48 ≤ P.val ∧ P.val - 48 < 4112 then qZ x5 x6 x7 x8 (48 + (P.val - 48)) g l else 0) = qZ x5 x6 x7 x8 P.val g l := by
  have hP := P.isLt
  split
  · exact congrArg (fun n => qZ x5 x6 x7 x8 n g l) (by omega)
  · rw [qZ, dif_neg (by omega)]

theorem quo (i : Fin 4112) (g : Fin 4) (l : Fin 128) (w : BitVec 32) (hw : w = BitVec.ofNat 32 (2 ^ (g.val + 1))) :
    Ideal.div (dpmE x5 x6 x7 x8 i g l) (FloatOps.sitofp (F := Ideal) .f32 (IntOp.minsi (IntOp.addi (BitVec.ofNat 32 i.val) 1#32) w)) = qZ x5 x6 x7 x8 (48 + i.val) g l := by
  have hi := i.isLt
  rw [qZ, dif_pos (by omega), cnt_eq i.val hi g w hw]
  exact congrArg (fun n : Fin 4112 => Ideal.div (dpmE x5 x6 x7 x8 n g l) ((cntE n.val g : ℝ) : EReal)) (Fin.ext (by dsimp only; omega))

/-- The pooled cotangent of a group at a padded row. -/
def poolE (R : ℕ) (g : Fin 4) (l : Fin 128) : EReal :=
  (if h : 48 ≤ R ∧ R - 48 < 4112 then -dpmE x5 x6 x7 x8 ⟨R - 48, h.2⟩ g l else 0) + ∑ s ∈ Finset.range (2 ^ (g.val + 1)), qZ x5 x6 x7 x8 (R + s) g l

theorem ref221 (hf : Fine x0 x1 x2 x3 x5 x6 x7 x8) (R : Fin 4160) (l : Fin 128) :
    val_main_v221 (F := Ideal) x5 x6 x7 x8 (ix2 R l) = poolE x5 x6 x7 x8 R.val 3 l := by
  have h := ref201 x5 x6 x7 x8
  have hq : ∀ (i : Fin 4112) (l : Fin 128), val_main_v215 (F := Ideal) x5 x6 x7 x8 (ix2 i l) = qZ x5 x6 x7 x8 (48 + i.val) 3 l := fun i l => by
    unfold val_main_v215 val_main_v211 val_main_v210
    generalize val_main_v201 (F := Ideal) x5 x6 x7 x8 = z at h
    pointwise [val_main_v214, val_main_v168, val_main_v167, val_main_v166, val_main_v165, val_main_v164, val_main_v163, val_main_v162, val_main_c_15, val_main_c_16]
    rw [h]
    exact quo x5 x6 x7 x8 i 3 l _ rfl
  have hc : val_main_v220 (F := Ideal) x5 x6 x7 x8 (ix2 R l) = ∑ s ∈ Finset.range 16, qZ x5 x6 x7 x8 (R.val + s) 3 l :=
    pool_core x0 x1 x2 x3 x5 x6 x7 x8 16 3 hf (val_main_v219 (F := Ideal) x5 x6 x7 x8) (val_main_call5_call0_v0 (F := Ideal))
      (fun u => by pointwise [val_main_call5_call0_v0, val_main_call5_call0_cst])
      reduceWindows_S4160x128_S4160x128_w4160s1p0_4159_w1s1p0_0 h_S_ R l fun P => by
        unfold val_main_v219 val_main_v218 val_main_v217 val_main_v216
        generalize val_main_v215 (F := Ideal) x5 x6 x7 x8 = y at hq
        pointwise [val_main_cst_20, val_main_cst_21]
        simp only [hq]
        exact congrArg₂ (· + ·) (moved x5 x6 x7 x8 3 16 (by norm_num) l P) (still x5 x6 x7 x8 3 l P)
  unfold val_main_v221 val_main_v213 val_main_v212 val_main_v211 val_main_v210
  generalize val_main_v220 (F := Ideal) x5 x6 x7 x8 = y at hc
  generalize val_main_v201 (F := Ideal) x5 x6 x7 x8 = z at h
  pointwise [val_main_cst_19]
  simp only [h, hc]
  rfl

theorem ref232 (hf : Fine x0 x1 x2 x3 x5 x6 x7 x8) (R : Fin 4160) (l : Fin 128) :
    val_main_v232 (F := Ideal) x5 x6 x7 x8 (ix2 R l) = poolE x5 x6 x7 x8 R.val 2 l := by
  have h := ref201 x5 x6 x7 x8
  have hq : ∀ (i : Fin 4112) (l : Fin 128), val_main_v226 (F := Ideal) x5 x6 x7 x8 (ix2 i l) = qZ x5 x6 x7 x8 (48 + i.val) 2 l := fun i l => by
    unfold val_main_v226 val_main_v209 val_main_v208
    generalize val_main_v201 (F := Ideal) x5 x6 x7 x8 = z at h
    pointwise [val_main_v225, val_main_v152, val_main_v151, val_main_v150, val_main_v149, val_main_v148, val_main_v147, val_main_v146, val_main_c_13, val_main_c_14]
    rw [h]
    exact quo x5 x6 x7 x8 i 2 l _ rfl
  have hc : val_main_v231 (F := Ideal) x5 x6 x7 x8 (ix2 R l) = ∑ s ∈ Finset.range 8, qZ x5 x6 x7 x8 (R.val + s) 2 l :=
    pool_core x0 x1 x2 x3 x5 x6 x7 x8 8 2 hf (val_main_v230 (F := Ideal) x5 x6 x7 x8) (val_main_call6_call0_v0 (F := Ideal))
      (fun u => by pointwise [val_main_call6_call0_v0, val_main_call6_call0_cst])
      reduceWindows_S4160x128_S4160x128_w4160s1p0_4159_w1s1p0_0 h_S_ R l fun P => by
        unfold val_main_v230 val_main_v229 val_main_v228 val_main_v227
        generalize val_main_v226 (F := Ideal) x5 x6 x7 x8 = y at hq
        pointwise [val_main_cst_24, val_main_cst_25]
        simp only [hq]
        exact congrArg₂ (· + ·) (moved x5 x6 x7 x8 2 8 (by norm_num) l P) (still x5 x6 x7 x8 2 l P)
  unfold val_main_v232 val_main_v224 val_main_v223 val_main_v209 val_main_v208
  generalize val_main_v231 (F := Ideal) x5 x6 x7 x8 = y at hc
  generalize val_main_v201 (F := Ideal) x5 x6 x7 x8 = z at h
  pointwise [val_main_cst_23]
  simp only [h, hc]
  rfl

theorem ref244 (hf : Fine x0 x1 x2 x3 x5 x6 x7 x8) (R : Fin 4160) (l : Fin 128) :
    val_main_v244 (F := Ideal) x5 x6 x7 x8 (ix2 R l) = poolE x5 x6 x7 x8 R.val 1 l := by
  have h := ref201 x5 x6 x7 x8
  have hq : ∀ (i : Fin 4112) (l : Fin 128), val_main_v238 (F := Ideal) x5 x6 x7 x8 (ix2 i l) = qZ x5 x6 x7 x8 (48 + i.val) 1 l := fun i l => by
    unfold val_main_v238 val_main_v207 val_main_v206
    generalize val_main_v201 (F := Ideal) x5 x6 x7 x8 = z at h
    pointwise [val_main_v237, val_main_v136, val_main_v135, val_main_v134, val_main_v133, val_main_v132, val_main_v131, val_main_v130, val_main_c_11, val_main_c_12]
    rw [h]
    exact quo x5 x6 x7 x8 i 1 l _ rfl
  have hc : val_main_v243 (F := Ideal) x5 x6 x7 x8 (ix2 R l) = ∑ s ∈ Finset.range 4, qZ x5 x6 x7 x8 (R.val + s) 1 l :=
    pool_core x0 x1 x2 x3 x5 x6 x7 x8 4 1 hf (val_main_v242 (F := Ideal) x5 x6 x7 x8) (val_main_call7_call0_v0 (F := Ideal))
      (fun u => by pointwise [val_main_call7_call0_v0, val_main_call7_call0_cst])
      reduceWindows_S4160x128_S4160x128_w4160s1p0_4159_w1s1p0_0 h_S_ R l fun P => by
        unfold val_main_v242 val_main_v241 val_main_v240 val_main_v239
        generalize val_main_v238 (F := Ideal) x5 x6 x7 x8 = y at hq
        pointwise [val_main_cst_28, val_main_cst_29]
        simp only [hq]
        exact congrArg₂ (· + ·) (moved x5 x6 x7 x8 1 4 (by norm_num) l P) (still x5 x6 x7 x8 1 l P)
  unfold val_main_v244 val_main_v236 val_main_v235 val_main_v207 val_main_v206
  generalize val_main_v243 (F := Ideal) x5 x6 x7 x8 = y at hc
  generalize val_main_v201 (F := Ideal) x5 x6 x7 x8 = z at h
  pointwise [val_main_cst_27]
  simp only [h, hc]
  rfl

theorem ref256 (hf : Fine x0 x1 x2 x3 x5 x6 x7 x8) (R : Fin 4160) (l : Fin 128) :
    val_main_v256 (F := Ideal) x5 x6 x7 x8 (ix2 R l) = poolE x5 x6 x7 x8 R.val 0 l := by
  have h := ref201 x5 x6 x7 x8
  have hq : ∀ (i : Fin 4112) (l : Fin 128), val_main_v250 (F := Ideal) x5 x6 x7 x8 (ix2 i l) = qZ x5 x6 x7 x8 (48 + i.val) 0 l := fun i l => by
    unfold val_main_v250 val_main_v205 val_main_v204
    generalize val_main_v201 (F := Ideal) x5 x6 x7 x8 = z at h
    pointwise [val_main_v249, val_main_v120, val_main_v119, val_main_v118, val_main_v117, val_main_v116, val_main_v115, val_main_v114, val_main_c, val_main_c_10]
    rw [h]
    exact quo x5 x6 x7 x8 i 0 l _ rfl
  have hc : val_main_v255 (F := Ideal) x5 x6 x7 x8 (ix2 R l) = ∑ s ∈ Finset.range 2, qZ x5 x6 x7 x8 (R.val + s) 0 l :=
    pool_core x0 x1 x2 x3 x5 x6 x7 x8 2 0 hf (val_main_v254 (F := Ideal) x5 x6 x7 x8) (val_main_call8_call0_v0 (F := Ideal))
      (fun u => by pointwise [val_main_call8_call0_v0, val_main_call8_call0_cst])
      reduceWindows_S4160x128_S4160x128_w4160s1p0_4159_w1s1p0_0 h_S_ R l fun P => by
        unfold val_main_v254 val_main_v253 val_main_v252 val_main_v251
        generalize val_main_v250 (F := Ideal) x5 x6 x7 x8 = y at hq
        pointwise [val_main_cst_32, val_main_cst_33]
        simp only [hq]
        exact congrArg₂ (· + ·) (moved x5 x6 x7 x8 0 2 (by norm_num) l P) (still x5 x6 x7 x8 0 l P)
  unfold val_main_v256 val_main_v248 val_main_v247 val_main_v205 val_main_v204
  generalize val_main_v255 (F := Ideal) x5 x6 x7 x8 = y at hc
  generalize val_main_v201 (F := Ideal) x5 x6 x7 x8 = z at h
  pointwise [val_main_cst_31]
  simp only [h, hc]
  rfl

end Cert.CpReferenceIdeal.Read
end
-- ==== Proof.CpRef5.lean ====
module
public import proofs.«01_k».proof.Proof.Gen.CpReferenceIdeal.Read
public import Idealize.ShloMosaic.Lib.Pipeline.ValueKit
public import Idealize.ShloMosaic.Lib.Routing.OpsOne
public import proofs.«01_k».proof.Proof.CpRef4
@[expose] public section
/-! The reference of the mixer's gradient, read at an index: the gradient of its input, column range by column range. -/
set_option maxRecDepth 16384
noncomputable section
open Idealize.ShloMosaic Idealize.ShloMosaic.TcCoe Idealize.SL.Sem
namespace Cert.CpReferenceIdeal.Read
open Cert.CpReferenceIdeal Cert.CpReferenceIdeal.Gen Cert.CpMath

variable (x0 : FVec Ideal S4112x1536 .f32) (x1 : FVec Ideal S31x512 .f32) (x2 x3 x4 : FVec Ideal S512 .f32)
  (x5 : FVec Ideal S4x128x128 .f32) (x6 : FVec Ideal S512 .f32) (x7 : FVec Ideal S1024x1024 .f32) (x8 : FVec Ideal S4112x1024 .f32)

def sigE (R : ℕ) (j : Fin 512) : EReal := Ideal.logistic (pZ x0 R ⟨512 + j.val, by omega⟩)

theorem ref9 (R : Fin 4160) (j : Fin 512) : val_main_v9 (F := Ideal) x0 (ix2 R j) = sigE x0 R.val j := by
  have h := ref1 x0
  unfold val_main_v9 val_main_v7 val_main_v5 val_main_v4 val_main_v3
  generalize val_main_v1 (F := Ideal) x0 = z at h
  unfold sigE Ideal.logistic
  pointwise [val_main_v8, val_main_cst_1, val_main_v6, val_main_cst_0]
  simp only [h]

theorem ref426 (hf : Fine x0 x1 x2 x3 x5 x6 x7 x8) (R : Fin 4160) (j : Fin 512) : val_main_v426 (F := Ideal) x0 x1 x2 x3 x4 x7 x8 (ix2 R j)
    = pZ x0 R.val ⟨j.val, by omega⟩ * dglE x0 x1 x2 x3 x4 x7 x8 R.val j * (sigE x0 R.val j * (1 - sigE x0 R.val j)) := by
  have h := ref423 x0 x1 x2 x3 x4 x5 x6 x7 x8 hf
  have h9 := ref9 x0
  have h1 := ref1 x0
  unfold val_main_v426 val_main_v424 val_main_v12 val_main_v11 val_main_v10 val_main_v2
  generalize val_main_v423 (F := Ideal) x0 x1 x2 x3 x4 x7 x8 = w at h
  generalize val_main_v9 (F := Ideal) x0 = s at h9
  generalize val_main_v1 (F := Ideal) x0 = z at h1
  pointwise [val_main_cst_2]
  simp only [h, h1, h9]

theorem ref425 (hf : Fine x0 x1 x2 x3 x5 x6 x7 x8) (R : Fin 4160) (j : Fin 512) : val_main_v425 (F := Ideal) x0 x1 x2 x3 x4 x7 x8 (ix2 R j)
    = dglE x0 x1 x2 x3 x4 x7 x8 R.val j * sigE x0 R.val j := by
  have h := ref423 x0 x1 x2 x3 x4 x5 x6 x7 x8 hf
  have h9 := ref9 x0
  unfold val_main_v425
  generalize val_main_v423 (F := Ideal) x0 x1 x2 x3 x4 x7 x8 = w at h
  generalize val_main_v9 (F := Ideal) x0 = s at h9
  pointwise
  simp only [h, h9]

theorem ref430 (hf : Fine x0 x1 x2 x3 x5 x6 x7 x8) (R : Fin 4160) (k : Fin 1536) : val_main_v437 (F := Ideal) x0 x1 x2 x3 x4 x5 x6 x7 x8 (ix2 R k)
    = if h : k.val < 512 then dglE x0 x1 x2 x3 x4 x7 x8 R.val ⟨k.val, h⟩ * sigE x0 R.val ⟨k.val, h⟩
      else if h : k.val < 1024 then pZ x0 R.val ⟨k.val - 512, by omega⟩ * dglE x0 x1 x2 x3 x4 x7 x8 R.val ⟨k.val - 512, by omega⟩ * (sigE x0 R.val ⟨k.val - 512, by omega⟩ * (1 - sigE x0 R.val ⟨k.val - 512, by omega⟩))
      else poolE x5 x6 x7 x8 R.val ⟨(k.val - 1024) / 128, by omega⟩ ⟨(k.val - 1024) % 128, by omega⟩ := by
  have ha := ref425 x0 x1 x2 x3 x4 x5 x6 x7 x8 hf
  have hb := ref426 x0 x1 x2 x3 x4 x5 x6 x7 x8 hf
  have h0 := ref256 x0 x1 x2 x3 x5 x6 x7 x8 hf
  have h1 := ref244 x0 x1 x2 x3 x5 x6 x7 x8 hf
  have h2 := ref232 x0 x1 x2 x3 x5 x6 x7 x8 hf
  have h3 := ref221 x0 x1 x2 x3 x5 x6 x7 x8 hf
  unfold val_main_v437 val_main_v430 val_main_v429 val_main_v428 val_main_v427 val_main_v258 val_main_v257 val_main_v246 val_main_v245 val_main_v234 val_main_v233 val_main_v222
  generalize val_main_v425 (F := Ideal) x0 x1 x2 x3 x4 x7 x8 = ya at ha
  generalize val_main_v426 (F := Ideal) x0 x1 x2 x3 x4 x7 x8 = yb at hb
  generalize val_main_v256 (F := Ideal) x5 x6 x7 x8 = y0 at h0
  generalize val_main_v244 (F := Ideal) x5 x6 x7 x8 = y1 at h1
  generalize val_main_v232 (F := Ideal) x5 x6 x7 x8 = y2 at h2
  generalize val_main_v221 (F := Ideal) x5 x6 x7 x8 = y3 at h3
  have hk := k.isLt
  pointwise [val_main_cst_22, val_main_cst_26, val_main_cst_30, val_main_cst_34, val_main_cst_80, val_main_cst_81]
  simp only [ha, hb, h0, h1, h2, h3]
  have e {g g' : Fin 4} {l l' : Fin 128} (hg : g = g') (hl : l = l') : poolE x5 x6 x7 x8 R.val g l = poolE x5 x6 x7 x8 R.val g' l' := by rw [hg, hl]
  by_cases c0 : k.val < 512
  · rw [dif_neg (by omega), dif_neg (by omega), dif_neg (by omega), dif_neg (by omega), dif_neg (by omega), dif_pos c0, dif_pos c0]
    simp only [add_zero, zero_add]
  by_cases c1 : k.val < 1024
  · rw [dif_neg (by omega), dif_neg (by omega), dif_neg (by omega), dif_neg (by omega), dif_pos ⟨by omega, by omega⟩, dif_neg c0, dif_neg c0, dif_pos c1]
    simp only [add_zero, zero_add]
  rw [dif_neg (c := 512 ≤ k.val ∧ k.val - 512 < 512) (by omega), dif_neg c0, dif_neg c0, dif_neg c1]
  by_cases c2 : k.val < 1152
  · rw [dif_neg (by omega), dif_neg (by omega), dif_neg (by omega), dif_pos ⟨by omega, by omega⟩]
    simp only [add_zero, zero_add]
    exact e (Fin.ext (show 0 = _ by simp only []; omega)) (Fin.ext (by simp only []; omega))
  by_cases c3 : k.val < 1280
  · rw [dif_neg (by omega), dif_neg (by omega), dif_pos ⟨by omega, by omega⟩, dif_neg (by omega)]
    simp only [add_zero, zero_add]
    exact e (Fin.ext (show 1 = _ by simp only []; omega)) (Fin.ext (by simp only []; omega))
  by_cases c4 : k.val < 1408
  · rw [dif_neg (by omega), dif_pos ⟨by omega, by omega⟩, dif_neg (by omega), dif_neg (by omega)]
    simp only [add_zero, zero_add]
    exact e (Fin.ext (show 2 = _ by simp only []; omega)) (Fin.ext (by simp only []; omega))
  rw [dif_pos ⟨by omega, by omega⟩, dif_neg (by omega), dif_neg (by omega), dif_neg (by omega)]
  simp only [add_zero, zero_add]
  exact e (Fin.ext (show 3 = _ by simp only []; omega)) (Fin.ext (by simp only []; omega))

end Cert.CpReferenceIdeal.Read
end
-- ==== Proof.CpValue.lean ====
module
public import proofs.«01_k».proof.Proof.CpEnt2
public import proofs.«01_k».proof.Proof.CpDz
public import proofs.«01_k».proof.Proof.CpRef5
public import Idealize.ShloMosaic.Lib.FinSumWindow
@[expose] public section
/-! The mixer gradient: the kernel's row quantities and the reference's are the same. -/
set_option maxRecDepth 16384
noncomputable section
open Idealize.ShloMosaic Idealize.ShloMosaic.TcCoe Idealize.SL.Sem
open Idealize.ShloMosaic.Pipeline (Dat)
namespace Cert.CpKernelIdeal.Value
open Cert.CpKernelIdeal Cert.CpKernelIdeal.Gen Cert.CpMath
variable (m : (ℓ : Loc nD τ sig) → Buf (Elt Ideal) ℓ)

open Cert.CpReferenceIdeal.Read (pZ glE cE mixE daE g1 dlnE dcE pmE pgE dqE dpmE vecE dcZ dglE cntE qZ poolE sigE Fine)

abbrev x0 (c : Dev nD) : FVec Ideal S4112x1536 .f32 := m ((c : Thread nD τ).loc main_arg0)
abbrev x1 (c : Dev nD) : FVec Ideal S31x512 .f32 := m ((c : Thread nD τ).loc main_arg1)
abbrev x2 (c : Dev nD) : FVec Ideal S512 .f32 := m ((c : Thread nD τ).loc main_arg2)
abbrev x3 (c : Dev nD) : FVec Ideal S512 .f32 := m ((c : Thread nD τ).loc main_arg3)
abbrev x4 (c : Dev nD) : FVec Ideal S512 .f32 := m ((c : Thread nD τ).loc main_arg4)
abbrev x5 (c : Dev nD) : FVec Ideal S4x128x128 .f32 := m ((c : Thread nD τ).loc main_arg5)
abbrev x6 (c : Dev nD) : FVec Ideal S512 .f32 := m ((c : Thread nD τ).loc main_arg6)
abbrev x7 (c : Dev nD) : FVec Ideal S1024x1024 .f32 := m ((c : Thread nD τ).loc main_arg7)
abbrev x8 (c : Dev nD) : FVec Ideal S4112x1024 .f32 := m ((c : Thread nD τ).loc main_arg8)

theorem e157 (c : Dev nD) (j : Fin 512) : V m c main_v157 (ix2 0 j) = m ((c : Thread nD τ).loc main_arg3) (ix1 j) := by
  unfold V
  after_reads_simp
  pointwise
theorem e158 (c : Dev nD) (j : Fin 512) : V m c main_v158 (ix2 0 j) = m ((c : Thread nD τ).loc main_arg4) (ix1 j) := by
  unfold V
  after_reads_simp
  pointwise
theorem e159 (c : Dev nD) (j : Fin 512) : V m c main_v159 (ix2 0 j) = m ((c : Thread nD τ).loc main_arg6) (ix1 j) := by
  unfold V
  after_reads_simp
  pointwise
theorem e1 (c : Dev nD) (q : Fin 31) (j : Fin 512) : V m c main_arg1 (ix2 q j) = m ((c : Thread nD τ).loc main_arg1) (ix2 q j) := by
  unfold V
  after_reads_simp
theorem e5 (c : Dev nD) (g : Fin 4) (a b : Fin 128) : V m c main_arg5 (ix3 g a b) = m ((c : Thread nD τ).loc main_arg5) (ix3 g a b) := by
  unfold V
  after_reads_simp

theorem mix_pad (c : Dev nD) (R : Fin 4160) (hR : R.val < 48) (j : Fin 1024) : mix m c R j = 0 := by
  unfold mix aDh
  refine Finset.sum_eq_zero fun k _ => ?_
  rw [e149, dif_pos hR, zero_mul]
theorem mix_row (c : Dev nD) (i : Fin 4112) (R : Fin 4160) (hR : R.val = 48 + i.val) (j : Fin 1024) : mix m c R j = mixE (x7 m c) (x8 m c) i j := by
  unfold mix mixE aDh aWo
  refine Finset.sum_congr rfl fun k _ => ?_
  rw [e149, dif_neg (by omega), e150]
  have hx : (⟨R.val - 48, by omega⟩ : Fin 4112) = i := Fin.ext (by dsimp only; omega)
  simp only [hx]

theorem da_pad (c : Dev nD) (R : Fin 4160) (hR : R.val < 48) (j : Fin 512) : da m c R j = 0 := if_neg (by omega)
theorem da_row (c : Dev nD) (i : Fin 4112) (R : Fin 4160) (hR : R.val = 48 + i.val) : da m c R = daE (x7 m c) (x8 m c) i := by
  funext j
  rw [da, if_pos (by omega), mix_row m c i R hR]
  rfl
theorem cRow_row (c : Dev nD) (i : Fin 4112) (R : Fin 4160) (hR : R.val = 48 + i.val) : cRow m c R = cE (x0 m c) (x1 m c) (x2 m c) i := by
  funext j
  exact e153 m c R j i hR
theorem gain_eq (c : Dev nD) : gain m c = g1 (x3 m c) := funext fun j => e157 m c j
theorem bias_eq (c : Dev nD) : bias m c = g1 (x4 m c) := funext fun j => e158 m c j

theorem dln_pad (v g b d : Fin 512 → EReal) (hd : ∀ j, d j = 0) (j : Fin 512) : dln v g b d j = 0 := by
  rw [dln, hd, dsilu_zero]
theorem mean_zero : mean (fun _ => 0) = 0 := by
  rw [mean, n512, Ideal.div_coe (by norm_num), Finset.sum_const_zero, zero_mul]
theorem dc_pad (v g b d : Fin 512 → EReal) (hd : ∀ j, d j = 0) (j : Fin 512) : dc v g b d j = 0 := by
  unfold dc
  simp only [dln_pad v g b d hd, zero_mul, mean_zero, mul_zero, sub_zero]

theorem dc_row (c : Dev nD) (n : ℕ) (j : Fin 512) : dcAt m c n j = dcZ (x0 m c) (x1 m c) (x2 m c) (x3 m c) (x4 m c) (x7 m c) (x8 m c) n j := by
  unfold dcAt dcZ
  by_cases h : n < 4160
  · by_cases h' : 48 ≤ n
    · rw [dif_pos h, dif_pos ⟨h', h⟩, cRow_row m c ⟨n - 48, by omega⟩ ⟨n, h⟩ (by dsimp only; omega), da_row m c ⟨n - 48, by omega⟩ ⟨n, h⟩ (by dsimp only; omega),
        gain_eq, bias_eq]
      rfl
    · rw [dif_pos h, dif_neg (by omega)]
      exact dc_pad _ _ _ _ (da_pad m c ⟨n, h⟩ (by dsimp only; omega)) j
  · rw [dif_neg h, dif_neg (by omega)]

theorem glu_row (c : Dev nD) (R : Fin 4160) (j : Fin 512) : gluAt m c R.val j = glE (x0 m c) R.val j := by
  rw [gluAt, dif_pos R.isLt]
  exact congrArg₂ (fun a b => a * Ideal.logistic b) (e151 m c R _) (e151 m c R _)

theorem dglu_row (c : Dev nD) (R : Fin 4160) (j : Fin 512) : dgluR m c R j = dglE (x0 m c) (x1 m c) (x2 m c) (x3 m c) (x4 m c) (x7 m c) (x8 m c) R.val j := by
  unfold dgluR dglE
  refine Finset.sum_congr rfl fun q _ => ?_
  rw [dc_row, mul_comm]
  exact congrArg (dcZ (x0 m c) (x1 m c) (x2 m c) (x3 m c) (x4 m c) (x7 m c) (x8 m c) (R.val + (30 - q.val)) j * ·) (e1 m c q j)

theorem sig_row (c : Dev nD) (R : Fin 4160) (j : Fin 512) : sigR m c R j = sigE (x0 m c) R.val j := congrArg Ideal.logistic (e151 m c R _)

theorem cw_row (c : Dev nD) (q : Fin 32) (j : Fin 512) : ∑ R : Fin 4160, cwTerm m c R q j
    = if q.val < 31 then ∑ i : Fin 4112, glE (x0 m c) (18 + q.val + i.val) j * dcE (x0 m c) (x1 m c) (x2 m c) (x3 m c) (x4 m c) (x7 m c) (x8 m c) i j else 0 := by
  unfold cwTerm
  by_cases hq : q.val < 31
  · simp only [if_pos hq]
    rw [FinSumWindow.sum_window (W := 4112) (18 + q.val) (by omega) _ fun P hP => ?_]
    · refine Finset.sum_congr rfl fun i _ => ?_
      have hi := i.isLt
      rw [dc_row, glu_row m c ⟨18 + q.val + i.val, by omega⟩, mul_comm, dcZ, dif_pos (by dsimp only; omega)]
      have hx : (⟨18 + q.val + i.val + (30 - q.val) - 48, by omega⟩ : Fin 4112) = i := Fin.ext (by dsimp only; omega)
      simp only [hx]
    · rw [dc_row, dcZ, dif_neg (by omega), zero_mul]
  · simp only [if_neg hq]
    exact Finset.sum_const_zero

theorem dq_row (c : Dev nD) (i : Fin 4112) (R : Fin 4160) (hR : R.val = 48 + i.val) (g : Fin 4) (l : Fin 128) :
    dq m c R g l = dqE (x6 m c) (x7 m c) (x8 m c) i g l := by
  unfold dq dqE
  rw [mix_row m c i R hR]
  exact congrArg (mixE (x7 m c) (x8 m c) i ⟨512 + (128 * g.val + l.val), by omega⟩ * ·) (e159 m c _)
theorem dq_pad (c : Dev nD) (R : Fin 4160) (hR : R.val < 48) (g : Fin 4) (l : Fin 128) : dq m c R g l = 0 := by
  rw [dq, mix_pad m c R hR, zero_mul]
theorem dpm_row (c : Dev nD) (i : Fin 4112) (R : Fin 4160) (hR : R.val = 48 + i.val) (g : Fin 4) (l : Fin 128) :
    dpm m c R g l = dpmE (x5 m c) (x6 m c) (x7 m c) (x8 m c) i g l := by
  unfold dpm dpmE
  refine Finset.sum_congr rfl fun d _ => ?_
  rw [dq_row m c i R hR]
  exact congrArg (dqE (x6 m c) (x7 m c) (x8 m c) i g d * ·) (e5 m c g l d)
theorem dpm_pad (c : Dev nD) (R : Fin 4160) (hR : R.val < 48) (g : Fin 4) (l : Fin 128) : dpm m c R g l = 0 :=
  Finset.sum_eq_zero fun d _ => by rw [dq_pad m c R hR, zero_mul]

theorem pm_row (c : Dev nD) (i : Fin 4112) (R : Fin 4160) (hR : R.val = 48 + i.val) (g : Fin 4) (l : Fin 128) (h) :
    aPm m c (ix2 R ⟨128 * g.val + l.val, h⟩) = pmE (x0 m c) i g l := by
  have hx : R = ⟨48 + i.val, by omega⟩ := Fin.ext hR
  rw [hx]
  exact e156 m c i g l

theorem pw_row (c : Dev nD) (g : Fin 4) (a b : Fin 128) : ∑ R : Fin 4160, pwTerm m c R g a b
    = ∑ i : Fin 4112, pmE (x0 m c) i g a * dqE (x6 m c) (x7 m c) (x8 m c) i g b := by
  unfold pwTerm
  rw [FinSumWindow.sum_window (W := 4112) 48 (by omega) _ fun P hP => ?_]
  · refine Finset.sum_congr rfl fun i _ => ?_
    rw [dq_row m c i _ rfl, pm_row m c i _ rfl]
  · rw [dq_pad m c P (by omega), mul_zero]

theorem pg_row (c : Dev nD) (i : Fin 4112) (R : Fin 4160) (hR : R.val = 48 + i.val) (g : Fin 4) (l : Fin 128) :
    pgR m c R g l = pgE (x0 m c) (x5 m c) i g l := by
  unfold pgR pgE
  refine Finset.sum_congr rfl fun d _ => ?_
  rw [pm_row m c i R hR]
  exact congrArg (pmE (x0 m c) i g d * ·) (e5 m c g d l)

theorem dln_row (c : Dev nD) (i : Fin 4112) (R : Fin 4160) (hR : R.val = 48 + i.val) (j : Fin 512) :
    dlnR m c R j = dlnE (x0 m c) (x1 m c) (x2 m c) (x3 m c) (x4 m c) (x7 m c) (x8 m c) i j := by
  rw [dlnR, cRow_row m c i R hR, da_row m c i R hR, gain_eq, bias_eq]
  rfl

theorem vec_row (c : Dev nD) (q : Fin 8) (g : Fin 4) (l : Fin 128) : ∑ R : Fin 4160, vecTerm m c R q g l
    = ∑ i : Fin 4112, vecE (x0 m c) (x1 m c) (x2 m c) (x3 m c) (x4 m c) (x5 m c) (x7 m c) (x8 m c) q g l i := by
  rw [FinSumWindow.sum_window (W := 4112) 48 (by omega) _ fun P hP => ?_]
  · refine Finset.sum_congr rfl fun i _ => ?_
    have hi := i.isLt
    unfold vecTerm vecE
    rw [dln_row m c i _ rfl, cRow_row m c i _ rfl, pg_row m c i _ rfl, mix_row m c i _ rfl, dc_row, dcZ, dif_pos (by dsimp only; omega)]
    have hx : (⟨48 + i.val - 48, by omega⟩ : Fin 4112) = i := Fin.ext (by dsimp only; omega)
    simp only [hx]
    rw [mul_comm (dlnE _ _ _ _ _ _ _ _ _), mul_comm (mixE _ _ _ _)]
  · have hz : dlnR m c P ⟨128 * g.val + l.val, by omega⟩ = 0 := dln_pad _ _ _ _ (da_pad m c P (by omega)) _
    unfold vecTerm
    rw [hz, mix_pad m c P (by omega), dc_row, dcZ, dif_neg (by omega)]
    simp only [zero_mul, ite_self]

/-- The trailing windows' lengths. -/
theorem lens (g : Fin 4) : (![Ideal.ofBits .f32 0x40000000#32, Ideal.ofBits .f32 0x40800000#32, Ideal.ofBits .f32 0x41000000#32, Ideal.ofBits .f32 0x41800000#32] : Fin 4 → EReal) g
    = (((2 : ℝ) ^ (g.val + 1) : ℝ) : EReal) := by
  have h2 : Ideal.ofBits .f32 0x40000000#32 = ((2 : ℝ) : EReal) := by simp [Ideal.ofBits, Ideal.ieee, -EReal.coe_mul]; norm_num
  have h4 : Ideal.ofBits .f32 0x40800000#32 = ((4 : ℝ) : EReal) := by simp [Ideal.ofBits, Ideal.ieee, -EReal.coe_mul]; norm_num
  have h8 : Ideal.ofBits .f32 0x41000000#32 = ((8 : ℝ) : EReal) := by simp [Ideal.ofBits, Ideal.ieee, -EReal.coe_mul]; norm_num
  have h16 : Ideal.ofBits .f32 0x41800000#32 = ((16 : ℝ) : EReal) := by simp [Ideal.ofBits, Ideal.ieee, -EReal.coe_mul]; norm_num
  fin_cases g
  · exact h2.trans (by norm_num)
  · exact h4.trans (by norm_num)
  · exact h8.trans (by norm_num)
  · exact h16.trans (by norm_num)
theorem cnt_real (n : ℕ) (g : Fin 4) : cnt n g = ((min ((2 : ℝ) ^ (g.val + 1)) (max 1 (((n : ℤ) - 47 : ℤ) : ℝ)) : ℝ) : EReal) := by
  rw [cnt, lens, EReal.coe_strictMono.monotone.map_min, EReal.coe_strictMono.monotone.map_max, EReal.coe_one]
theorem cnt_row (n : ℕ) (h : 48 ≤ n) (g : Fin 4) : cnt n g = ((cntE (n - 48) g : ℝ) : EReal) := by
  obtain ⟨k, rfl⟩ := Nat.exists_eq_add_of_le h
  rw [cnt_real, cntE, Nat.add_sub_cancel_left, Nat.cast_min, min_comm]
  congr 2
  · rw [max_eq_right (by push_cast; linarith [(Nat.cast_nonneg k : (0 : ℝ) ≤ k)])]
    push_cast
    ring
  · push_cast
    ring
theorem cnt_pad (n : ℕ) (h : n < 48) (g : Fin 4) : cnt n g = ((1 : ℝ) : EReal) := by
  have hn : (((n : ℤ) - 47 : ℤ) : ℝ) ≤ 1 := by exact_mod_cast (by omega : (n : ℤ) - 47 ≤ 1)
  rw [cnt_real, max_eq_left hn, min_eq_right (one_le_pow₀ (by norm_num))]

theorem q_row (c : Dev nD) (n : ℕ) (g : Fin 4) (l : Fin 128) : qAt m c n g l = qZ (x5 m c) (x6 m c) (x7 m c) (x8 m c) n g l := by
  unfold qAt qZ
  by_cases h : n < 4160
  · by_cases h' : 48 ≤ n
    · rw [dif_pos h, dif_pos ⟨h', h⟩, dpm_row m c ⟨n - 48, by omega⟩ ⟨n, h⟩ (by dsimp only; omega), cnt_row n h']
    · rw [dif_pos h, dif_neg (by omega), dpm_pad m c _ (by dsimp only; omega), cnt_pad n (by omega), Ideal.div_coe (by norm_num), zero_mul]
  · rw [dif_neg h, dif_neg (by omega)]

theorem pool_row (c : Dev nD) (R : Fin 4160) (g : Fin 4) (l : Fin 128) : poolR m c R g l = poolE (x5 m c) (x6 m c) (x7 m c) (x8 m c) R.val g l := by
  unfold poolR poolE
  have hR := R.isLt
  simp only [q_row m c]
  rw [sub_eq_add_neg, add_comm]
  congr 1
  by_cases h : 48 ≤ R.val
  · rw [dif_pos ⟨h, by omega⟩, dpm_row m c ⟨R.val - 48, by omega⟩ R (by dsimp only; omega)]
  · rw [dif_neg (by omega), dpm_pad m c R (by omega), neg_zero]

theorem one_bits : Ideal.ofBits .f32 0x3F800000#32 = 1 := by
  simp [Ideal.ofBits, Ideal.ieee, -EReal.coe_mul]; norm_num

theorem hi_row (c : Dev nD) (R : Fin 4160) (j : Fin 512) : hiR m c R j
    = pZ (x0 m c) R.val ⟨j.val, by omega⟩ * dglE (x0 m c) (x1 m c) (x2 m c) (x3 m c) (x4 m c) (x7 m c) (x8 m c) R.val j * (sigE (x0 m c) R.val j * (1 - sigE (x0 m c) R.val j)) := by
  rw [hiR, dglu_row, sig_row, one_bits, mul_assoc, mul_comm (dglE _ _ _ _ _ _ _ _ _)]
  exact congrArg (fun y => y * dglE (x0 m c) (x1 m c) (x2 m c) (x3 m c) (x4 m c) (x7 m c) (x8 m c) R.val j * (sigE (x0 m c) R.val j * (1 - sigE (x0 m c) R.val j))) (e151 m c R _)

theorem value_dz (c : Dev nD) (hf : Fine (x0 m c) (x1 m c) (x2 m c) (x3 m c) (x5 m c) (x6 m c) (x7 m c) (x8 m c)) :
    dzOut m c = Cert.CpReferenceIdeal.Read.val_main_v437 (F := Ideal) (x0 m c) (x1 m c) (x2 m c) (x3 m c) (x4 m c) (x5 m c) (x6 m c) (x7 m c) (x8 m c) := by
  funext y
  obtain ⟨R, k, rfl⟩ : ∃ (R : Fin 4160) (k : Fin 1536), y = ix2 R k := ⟨y 0, y 1, (ix2_eta y).symm⟩
  refine Eq.trans ?_ (Cert.CpReferenceIdeal.Read.ref430 _ _ _ _ _ _ _ _ _ hf R k).symm
  show (if h : k.val < 512 then loR m c R ⟨k.val, h⟩ else if h : k.val < 1024 then hiR m c R ⟨k.val - 512, _⟩ else poolR m c R ⟨(k.val - 1024) / 128, _⟩ ⟨(k.val - 1024) % 128, _⟩) = _
  simp only [hi_row, pool_row, loR, dglu_row, sig_row]

theorem value_cw (c : Dev nD) (hf : Fine (x0 m c) (x1 m c) (x2 m c) (x3 m c) (x5 m c) (x6 m c) (x7 m c) (x8 m c)) :
    cwOut m c = Cert.CpReferenceIdeal.Read.val_main_v439 (F := Ideal) (x0 m c) (x1 m c) (x2 m c) (x3 m c) (x4 m c) (x7 m c) (x8 m c) := by
  funext y
  obtain ⟨q, j, rfl⟩ : ∃ (q : Fin 32) (j : Fin 512), y = ix2 q j := ⟨y 0, y 1, (ix2_eta y).symm⟩
  exact (cw_row m c q j).trans (Cert.CpReferenceIdeal.Read.ref439 _ _ _ _ _ _ _ _ _ hf q j).symm

theorem value_vec (c : Dev nD) (hf : Fine (x0 m c) (x1 m c) (x2 m c) (x3 m c) (x5 m c) (x6 m c) (x7 m c) (x8 m c)) :
    vecOut m c = Cert.CpReferenceIdeal.Read.val_main_v436 (F := Ideal) (x0 m c) (x1 m c) (x2 m c) (x3 m c) (x4 m c) (x5 m c) (x7 m c) (x8 m c) := by
  funext y
  obtain ⟨q, j, rfl⟩ : ∃ (q : Fin 8) (j : Fin 512), y = ix2 q j := ⟨y 0, y 1, (ix2_eta y).symm⟩
  have hj := j.isLt
  have hx : j = ⟨128 * (j.val / 128) + j.val % 128, by omega⟩ := Fin.ext (by dsimp only; omega)
  refine (vec_row m c q ⟨j.val / 128, by omega⟩ ⟨j.val % 128, by omega⟩).trans (Eq.trans ?_ (congrArg (fun j => Cert.CpReferenceIdeal.Read.val_main_v436 (F := Ideal)
    (x0 m c) (x1 m c) (x2 m c) (x3 m c) (x4 m c) (x5 m c) (x7 m c) (x8 m c) (ix2 q j)) hx.symm))
  exact (Cert.CpReferenceIdeal.Read.ref436 _ _ _ _ _ _ _ _ _ hf q ⟨j.val / 128, by omega⟩ ⟨j.val % 128, by omega⟩).symm

theorem value_pw (c : Dev nD) :
    pwOut m c = Cert.CpReferenceIdeal.Read.val_main_v203 (F := Ideal) (x0 m c) (x6 m c) (x7 m c) (x8 m c) := by
  funext y
  obtain ⟨g, a, b, rfl⟩ : ∃ (g : Fin 4) (a b : Fin 128), y = ix3 g a b := ⟨y 0, y 1, y 2, (ix3_eta y).symm⟩
  exact (pw_row m c g a b).trans (Cert.CpReferenceIdeal.Read.ref203 _ _ _ _ g a b).symm

end Cert.CpKernelIdeal.Value
end
-- ==== Proof.CpPre.lean ====
module
public import proofs.«01_k».proof.Pre_finite_cp
public import proofs.«01_k».proof.Proof.Gen.Pre_finite_cp
public import proofs.«01_k».proof.Proof.CpRef
public import Idealize.ShloMosaic.Lib.ReduceAll
@[expose] public section
/-! What the mixer gradient's precondition says: the entries of eight of its arguments are real numbers. -/
set_option maxRecDepth 16384
noncomputable section
open Idealize.ShloMosaic
namespace Cert.CpPre
open Cert.CpMath

theorem real_of_abs {x : EReal} (h : FloatOps.cmpf (F := Ideal) (φ := .f32) .olt (FloatOps.absf (F := Ideal) (φ := .f32) x) (Ideal.ofBits .f32 0x7F800000#32) = 1#1) : IsR x := by
  have hi : Ideal.ofBits .f32 0x7F800000#32 = (⊤ : EReal) := by simp [Ideal.ofBits, Ideal.ieee]
  rw [hi] at h
  have hlt : max x (-x) < (⊤ : EReal) := by
    by_contra hn
    have h' : FloatOps.cmpf (F := Ideal) (φ := .f32) .olt (max x (-x)) (⊤ : EReal) = 1#1 := h
    revert h'
    simp [FloatOps.cmpf, Ideal.cmp, hn]
  induction x using EReal.rec with
  | bot => simp at hlt
  | top => simp at hlt
  | coe r => exact ⟨r, rfl⟩

theorem and_one {a b : BitVec 1} (h : IntOp.andi a b = 1#1) : a = 1#1 ∧ b = 1#1 := by
  revert a b; decide

theorem fine (x0 : FVec Ideal Cert.Pre_finite_cp.S4112x1536 .f32) (x1 : FVec Ideal Cert.Pre_finite_cp.S31x512 .f32) (x2 x3 x4 : FVec Ideal Cert.Pre_finite_cp.S512 .f32)
    (x5 : FVec Ideal Cert.Pre_finite_cp.S4x128x128 .f32) (x6 : FVec Ideal Cert.Pre_finite_cp.S512 .f32) (x7 : FVec Ideal Cert.Pre_finite_cp.S1024x1024 .f32) (x8 : FVec Ideal Cert.Pre_finite_cp.S4112x1024 .f32)
    (h : Cert.Pre_finite_cp.fn (F := Ideal) x0 x1 x2 x3 x4 x5 x6 x7 x8 = fun _ => 1#1) :
    Cert.CpReferenceIdeal.Read.Fine x0 x1 x2 x3 x5 x6 x7 x8 := by
  have h := congrFun h (fun a => a.elim0)
  unfold Cert.Pre_finite_cp.fn Cert.Pre_finite_cp.fn_part1 Cert.Pre_finite_cp.fn_part2 at h
  obtain ⟨h, h8⟩ := and_one h
  obtain ⟨h, h7⟩ := and_one h
  obtain ⟨h, h6⟩ := and_one h
  obtain ⟨h, h5⟩ := and_one h
  obtain ⟨h, h3⟩ := and_one h
  obtain ⟨h, h2⟩ := and_one h
  obtain ⟨h0, h1⟩ := and_one h
  haveI : Subsingleton Cert.Pre_finite_cp.S_.Idx := ⟨fun a b => funext fun i => i.elim0⟩
  exact ⟨fun i k => real_of_abs (Host.reduce_andi_all _ _ _ _ _ h0 (ix2 i k)), fun i k => real_of_abs (Host.reduce_andi_all _ _ _ _ _ h1 (ix2 i k)),
    fun k => real_of_abs (Host.reduce_andi_all _ _ _ _ _ h2 (ix1 k)), fun k => real_of_abs (Host.reduce_andi_all _ _ _ _ _ h3 (ix1 k)),
    fun g a b => real_of_abs (Host.reduce_andi_all _ _ _ _ _ h5 (ix3 g a b)), fun k => real_of_abs (Host.reduce_andi_all _ _ _ _ _ h6 (ix1 k)),
    fun i k => real_of_abs (Host.reduce_andi_all _ _ _ _ _ h7 (ix2 i k)), fun i k => real_of_abs (Host.reduce_andi_all _ _ _ _ _ h8 (ix2 i k))⟩

end Cert.CpPre
end
-- ==== Proof.CpClaim.lean ====
module
public import proofs.«01_k».proof.Defs
public import proofs.«01_k».proof.Proof.Gen.CpKernel
public import proofs.«01_k».proof.Proof.Gen.CpKernelIdeal
public import proofs.«01_k».proof.Proof.Gen.CpReferenceIdeal
public import proofs.«01_k».proof.Proof.Gen.CpReferenceIdeal.Run
public import proofs.«01_k».proof.Proof.Gen.CpReferenceIdeal.Read
public import proofs.«01_k».proof.Proof.CpValue
public import proofs.«01_k».proof.Proof.CpPre
@[expose] public section
/-! The claims of the convolution and pooling mixer's gradient. -/
set_option maxRecDepth 16384
noncomputable section
open Idealize.ShloMosaic Idealize.ShloMosaic.TcCoe Idealize.SL.Sem
namespace Cert.Cp

theorem frame : Cert.quiescent_CpKernel := by
  intro m ρ _
  refine cast ?_ (Cert.CpKernelIdeal.Gen.frame (F := Bits) m ρ)
  sl_kernel_rfl

theorem frameIdeal : Cert.quiescent_CpKernelIdeal := fun m ρ _ => Cert.CpKernelIdeal.Gen.frame m ρ
theorem frameIdealPre : Cert.quiescent_CpKernelIdeal_pre_finite_cp := fun m ρ _ => Cert.CpKernelIdeal.Gen.frame m ρ

theorem frameRef : Cert.quiescent_CpReferenceIdeal := by
  intro m g _
  exact (θ_run _ _ _).mono (fun r h => ⟨fun c => (h c).2.2.2.2,
    sem_eq_zero_of_no_sems (sig := Cert.CpReferenceIdeal.sig) rfl r.2⟩) (Cert.CpReferenceIdeal.Value.run m g)
theorem frameRefPre : Cert.quiescent_CpReferenceIdeal_pre_finite_cp := fun m g _ => frameRef m g trivial

set_option maxHeartbeats 4000000 in
theorem algebraic : Cert.algebraic_CpKernelIdeal_CpReferenceIdeal_pre_finite_cp := by
  pair_intro
  · run_from Cert.CpKernelIdeal.Value.run_blocks m g
  · run_from Cert.CpReferenceIdeal.Value.run m' g'
    · obtain ⟨h0, h1, h2, h3, h4, h5, h6, h7, h8⟩ := hagree c
      refine (Cert.CpReferenceIdeal.Read.val_main_v437_eq (StableHlo.launchContents m' c)).trans (Eq.trans ?_ ((Cert.CpKernelIdeal.Value.final_dz m c).trans (Cert.CpKernelIdeal.Value.value_dz m c (Cert.CpPre.fine _ _ _ _ _ _ _ _ _ (hpre c)))).symm)
      show Cert.CpReferenceIdeal.Read.val_main_v437 (F := Ideal) (m' (c.tc.loc Cert.CpReferenceIdeal.main_arg0)) (m' (c.tc.loc Cert.CpReferenceIdeal.main_arg1)) (m' (c.tc.loc Cert.CpReferenceIdeal.main_arg2)) (m' (c.tc.loc Cert.CpReferenceIdeal.main_arg3)) (m' (c.tc.loc Cert.CpReferenceIdeal.main_arg4)) (m' (c.tc.loc Cert.CpReferenceIdeal.main_arg5)) (m' (c.tc.loc Cert.CpReferenceIdeal.main_arg6)) (m' (c.tc.loc Cert.CpReferenceIdeal.main_arg7)) (m' (c.tc.loc Cert.CpReferenceIdeal.main_arg8)) = _
      rw [h0, h1, h2, h3, h4, h5, h6, h7, h8]
    · obtain ⟨h0, h1, h2, h3, h4, h5, h6, h7, h8⟩ := hagree c
      refine (Cert.CpReferenceIdeal.Read.val_main_v439_eq (StableHlo.launchContents m' c)).trans (Eq.trans ?_ ((Cert.CpKernelIdeal.Value.final_dcw m c).trans (Cert.CpKernelIdeal.Value.value_cw m c (Cert.CpPre.fine _ _ _ _ _ _ _ _ _ (hpre c)))).symm)
      show Cert.CpReferenceIdeal.Read.val_main_v439 (F := Ideal) (m' (c.tc.loc Cert.CpReferenceIdeal.main_arg0)) (m' (c.tc.loc Cert.CpReferenceIdeal.main_arg1)) (m' (c.tc.loc Cert.CpReferenceIdeal.main_arg2)) (m' (c.tc.loc Cert.CpReferenceIdeal.main_arg3)) (m' (c.tc.loc Cert.CpReferenceIdeal.main_arg4)) (m' (c.tc.loc Cert.CpReferenceIdeal.main_arg7)) (m' (c.tc.loc Cert.CpReferenceIdeal.main_arg8)) = _
      rw [h0, h1, h2, h3, h4, h7, h8]
    · obtain ⟨h0, h1, h2, h3, h4, h5, h6, h7, h8⟩ := hagree c
      refine (Cert.CpReferenceIdeal.Read.val_main_v436_eq (StableHlo.launchContents m' c)).trans (Eq.trans ?_ ((Cert.CpKernelIdeal.Value.final_vec m c).trans (Cert.CpKernelIdeal.Value.value_vec m c (Cert.CpPre.fine _ _ _ _ _ _ _ _ _ (hpre c)))).symm)
      show Cert.CpReferenceIdeal.Read.val_main_v436 (F := Ideal) (m' (c.tc.loc Cert.CpReferenceIdeal.main_arg0)) (m' (c.tc.loc Cert.CpReferenceIdeal.main_arg1)) (m' (c.tc.loc Cert.CpReferenceIdeal.main_arg2)) (m' (c.tc.loc Cert.CpReferenceIdeal.main_arg3)) (m' (c.tc.loc Cert.CpReferenceIdeal.main_arg4)) (m' (c.tc.loc Cert.CpReferenceIdeal.main_arg5)) (m' (c.tc.loc Cert.CpReferenceIdeal.main_arg7)) (m' (c.tc.loc Cert.CpReferenceIdeal.main_arg8)) = _
      rw [h0, h1, h2, h3, h4, h5, h7, h8]
    · obtain ⟨h0, h1, h2, h3, h4, h5, h6, h7, h8⟩ := hagree c
      refine (Cert.CpReferenceIdeal.Read.val_main_v203_eq (StableHlo.launchContents m' c)).trans (Eq.trans ?_ ((Cert.CpKernelIdeal.Value.final_pw m c).trans (Cert.CpKernelIdeal.Value.value_pw m c)).symm)
      show Cert.CpReferenceIdeal.Read.val_main_v203 (F := Ideal) (m' (c.tc.loc Cert.CpReferenceIdeal.main_arg0)) (m' (c.tc.loc Cert.CpReferenceIdeal.main_arg6)) (m' (c.tc.loc Cert.CpReferenceIdeal.main_arg7)) (m' (c.tc.loc Cert.CpReferenceIdeal.main_arg8)) = _
      rw [h0, h6, h7, h8]

end Cert.Cp
end
-- ==== Proof.LossPoint.lean ====
module
public import proofs.«01_k».proof.Proof.Gen.LossKernelIdeal.Value
public import Idealize.ShloMosaic.Lib.Pipeline.ValueKit
public import proofs.«01_k».proof.Proof.NormMath
@[expose] public section
/-! The loss's gradient kernel: its three result arrays after the run, over the windows' arrays. -/
set_option maxRecDepth 16384
noncomputable section
open Idealize.ShloMosaic Idealize.ShloMosaic.TcCoe Idealize.SL.Sem
open Idealize.ShloMosaic.Pipeline (Dat)
namespace Cert.LossKernelIdeal.Value
open Cert.LossKernelIdeal Cert.LossKernelIdeal.Gen Cert.NormMath
variable (m : (ℓ : Loc nD τ sig) → Buf (Elt Ideal) ℓ)

theorem idx : ∀ t : Fin cfg0.N, win0_0.index t = ![64 + t.val * 1024, 0] ∧ win0_1.index t = ![0, 0] ∧ win0_2.index t = ![t.val, 0]
    ∧ win0_3.index t = ![t.val, 0] ∧ win0_4.index t = ![0, 0] ∧ win0_5.index t = ![0, 0] ∧ t.val < 4 :=
  (by decide +kernel : ∀ t : Fin grid0.N, _)

/-- Where an element of the shifted row block lies in the padded array. -/
theorem emb0 (t : Fin cfg0.N) (y : S1024x1024.Idx) (a : Fin 2) :
    (((View.whole main_v1).slice (win0_0.rect t)).emb y a).val = win0_0.index t a + (y a).val :=
  win0_0.rect_emb_val_off t y a

/-- The difference of a normalised row and its target. -/
def err (H : FVec Ideal S4160x1024 .f32) (G : FVec Ideal S1x1024 .f32) (T : FVec Ideal S4096x1024 .f32) (i : Fin 4096)
    (k : Fin 1024) : EReal :=
  H (ix2 ⟨64 + i.val, by omega⟩ k) * Ideal.rsqrt (msq fun k => H (ix2 ⟨64 + i.val, by omega⟩ k)) * G (ix2 0 k) - T (ix2 i k)

/-- The cotangent of the normalised rows. -/
def du (H : FVec Ideal S4160x1024 .f32) (G : FVec Ideal S1x1024 .f32) (T : FVec Ideal S4096x1024 .f32) (i : Fin 4096)
    (k : Fin 1024) : EReal :=
  err H G T i k * Ideal.ofBits .f32 0x3A800000#32

/-- The gradient of a sequence row. -/
def gradRow (H : FVec Ideal S4160x1024 .f32) (G : FVec Ideal S1x1024 .f32) (T : FVec Ideal S4096x1024 .f32) :
    FVec Ideal S4096x1024 .f32 := fun i =>
  rowGrad (fun k => H (ix2 ⟨64 + (i 0).val, by have := (i 0).isLt; simp at this; omega⟩ k)) (fun k => du H G T (i 0) k * G (ix2 0 k)) (i 1)

theorem final3 (c : Dev nD) : (dats m 0 c).arrAt 3 (cfgs 0).N = gradRow (V m c main_v1) (V m c main_v2) (V m c main_arg2) := by
  refine (dats m 0 c).arrAt_eq_of_covers 3 _ (by decide +kernel) fun t hf y => ?_
  blk_simp
  rw [after0_3]
  have h10 := (idx t).2.2.2.2.2.2
  by_cases h : t.val % 4 = 0
  on_goal 1 => rw [outsAt0_A m c t h (by omega) h (by omega)]
  on_goal 2 => rw [outsAt0_B m c t h (by omega) h (by omega)]
  all_goals
    frame_out
    idx_vars y
    pointwise [k0_pay1, k0_pay6, k0_pay7, k0_pay8, k0_pay10, k0_pay11, k0_pay12, k0_pay13, k0_pay14, gradRow, rowGrad, msq, du, err]
    blk_simp [idx t]
    blk_point [iblk, idx t]
    all_goals (rw [emb0, (idx t).1]; simp [ix2]; try omega)

/-- The gain's gradient: the sum over the sequence rows of the cotangent times the normalised row. -/
def gainRow (H : FVec Ideal S4160x1024 .f32) (G : FVec Ideal S1x1024 .f32) (T : FVec Ideal S4096x1024 .f32) :
    FVec Ideal S1x1024 .f32 := fun j =>
  ∑ i : Fin 4096, du H G T i (j 1) * (H (ix2 ⟨64 + i.val, by omega⟩ (j 1)) * Ideal.rsqrt (msq fun k => H (ix2 ⟨64 + i.val, by omega⟩ k)))

theorem final4 (c : Dev nD) : (dats m 0 c).arrAt 4 (cfgs 0).N = gainRow (V m c main_v1) (V m c main_v2) (V m c main_arg2) := by
  refine (dats m 0 c).arrAt_eq_of_after_last 4 t0_3 (by decide +kernel) _ fun j => ?_
  blk_simp
  have hpay : ∀ (u xh : FVec Ideal S1024x1024 .f32) (acc : FVec Ideal S1x1024 .f32) (j : S1x1024.Idx),
      k0_pay3 u xh acc j = acc j + ∑ k : Fin 1024, u (ix2 k (j 1)) * xh (ix2 k (j 1)) := by
    intro u xh acc j; pointwise [k0_pay3, k0_pay2]
  have hpay0 : ∀ (u xh : FVec Ideal S1024x1024 .f32) (j : S1x1024.Idx),
      k0_pay2 u xh j = 0 + ∑ k : Fin 1024, u (ix2 k (j 1)) * xh (ix2 k (j 1)) := by
    intro u xh j; pointwise [k0_pay2]
  rw [after0_4, Pipeline.eq_sum_fin_of_reset_step_apply_last (fun n h => (outsAt0 m c n h).2.1) 4 (fun _ => (0 : EReal)) _
    (fun t h j => by
      have := (idx t).2.2.2.2.2.2
      rw [outsAt0_A m c t h (by omega) h (by omega)]; frame_out; rw [hpay0])
    (fun t h j => by
      have := (idx t).2.2.2.2.2.2
      rw [outsAt0_B m c t h (by omega) h (by omega)]; frame_out; rw [hpay])
    (le_of_eq N_0) t0_3 rfl j, zero_add]
  unfold gainRow
  refine Fin.sum_mul_add_congr fun t k hl => ?_
  pointwise [k0_pay6, k0_pay7, k0_pay8, k0_pay10, k0_pay11, k0_pay12, msq, du, err]
  blk_point [iblk, idx t]
  all_goals (rw [emb0, (idx t).1]; simp [ix2]; try omega)

/-- The loss: half the sum over the sequence rows of the mean squared difference, in every entry of the block. -/
def lossAll (H : FVec Ideal S4160x1024 .f32) (G : FVec Ideal S1x1024 .f32) (T : FVec Ideal S4096x1024 .f32) :
    FVec Ideal S8x128 .f32 := fun _ =>
  ∑ t : Fin 4, Ideal.ofBits .f32 0x3F000000#32 * ∑ k : Fin 1024,
    Ideal.div (∑ a, err H G T ⟨t.val * 1024 + k.val, by omega⟩ a * err H G T ⟨t.val * 1024 + k.val, by omega⟩ a) (Ideal.ofBits .f32 0x44800000#32)

theorem final5 (c : Dev nD) : (dats m 0 c).arrAt 5 (cfgs 0).N = lossAll (V m c main_v1) (V m c main_v2) (V m c main_arg2) := by
  refine (dats m 0 c).arrAt_eq_of_after_last 5 t0_3 (by decide +kernel) _ fun j => ?_
  blk_simp
  have hpay : ∀ (u : FVec Ideal S1x1 .f32) (acc : FVec Ideal S8x128 .f32) (j : S8x128.Idx),
      k0_pay5 u acc j = acc j + u (ix2 0 0) := by
    intro u acc j; pointwise [k0_pay5, k0_pay4]
  have hpay0 : ∀ (u : FVec Ideal S1x1 .f32) (j : S8x128.Idx), k0_pay4 u j = 0 + u (ix2 0 0) := by
    intro u j; pointwise [k0_pay4]
  rw [after0_5, Pipeline.eq_sum_fin_of_reset_step_apply_last (fun n h => (outsAt0 m c n h).2.2) 4 (fun _ => (0 : EReal)) _
    (fun t h j => by
      have := (idx t).2.2.2.2.2.2
      rw [outsAt0_A m c t h (by omega) h (by omega)]; frame_out; rw [hpay0])
    (fun t h j => by
      have := (idx t).2.2.2.2.2.2
      rw [outsAt0_B m c t h (by omega) h (by omega)]; frame_out; rw [hpay])
    (le_of_eq N_0) t0_3 rfl j, zero_add]
  unfold lossAll
  refine Finset.sum_congr (M := EReal) rfl fun t _ => ?_
  pointwise [k0_pay6, k0_pay7, k0_pay8, k0_pay9, msq, err]
  blk_point [iblk, idx t]
  all_goals (rw [emb0, (idx t).1]; simp [ix2]; try omega)

theorem entH (c : Dev nD) (i : Fin 4096) (k : Fin 1024) : V m c main_v1 (ix2 ⟨64 + i.val, by omega⟩ k)
    = (show EReal from m ((c : Thread nD τ).loc main_arg0) (ix2 ⟨16 + i.val, by omega⟩ k)) := by
  entry_read
  pointwise
  rw [dif_neg (by omega)]
  exact congrArg (m ((c : Thread nD τ).loc main_arg0)) (congrArg (fun a => ix2 a k) (Fin.ext (by simp; omega)))
theorem entG (c : Dev nD) (k : Fin 1024) : V m c main_v2 (ix2 0 k) = m ((c : Thread nD τ).loc main_arg1) (ix1 k) := by
  entry_read
  pointwise
theorem entT (c : Dev nD) : V m c main_arg2 = m ((c : Thread nD τ).loc main_arg2) := by
  entry_read
  rfl

end Cert.LossKernelIdeal.Value
end
-- ==== Proof.LossRef.lean ====
module
public import proofs.«01_k».proof.Proof.Gen.LossReferenceIdeal.Read
public import Idealize.ShloMosaic.Lib.Pipeline.ValueKit
public import proofs.«01_k».proof.Proof.NormMath
@[expose] public section
/-! The reference of the loss and its gradient, read at an index: the rows in the kernel's two-term form. -/
set_option maxRecDepth 16384
noncomputable section
open Idealize.ShloMosaic Idealize.ShloMosaic.TcCoe Idealize.SL.Sem
namespace Cert.LossReferenceIdeal.Read
open Cert.LossReferenceIdeal Cert.LossReferenceIdeal.Gen Cert.NormMath

variable (x0 : FVec Ideal S4112x1024 .f32) (x1 : FVec Ideal S1024 .f32) (x2 : FVec Ideal S4096x1024 .f32)

/-- The difference of a normalised row and its target. -/
def errR (i : Fin 4096) (k : Fin 1024) : EReal :=
  x0 (ix2 ⟨16 + i.val, by omega⟩ k) * Ideal.rsqrt (msq fun k => x0 (ix2 ⟨16 + i.val, by omega⟩ k)) * x1 (ix1 k) - x2 (ix2 i k)

/-- The factor of the mean's gradient: half of two over the row's length. -/
theorem factor (e : EReal) :
    Ideal.div (Ideal.ofBits .f32 0x3F000000#32 * Ideal.ofBits .f32 0x3F800000#32) (Ideal.ofBits .f32 0x44800000#32)
      * (Ideal.ofBits .f32 0x40000000#32 * e) = e * Ideal.ofBits .f32 0x3A800000#32 := by
  have h1 : Ideal.ofBits .f32 0x3F000000#32 = ((1 / 2 : ℝ) : EReal) := by
    simp [Ideal.ofBits, Ideal.ieee, -EReal.coe_mul]; norm_num
  have h2 : Ideal.ofBits .f32 0x3F800000#32 = ((1 : ℝ) : EReal) := by
    simp [Ideal.ofBits, Ideal.ieee, -EReal.coe_mul]; norm_num
  have h3 : Ideal.ofBits .f32 0x40000000#32 = ((2 : ℝ) : EReal) := by
    simp [Ideal.ofBits, Ideal.ieee, -EReal.coe_mul]; norm_num
  have h4 : Ideal.ofBits .f32 0x3A800000#32 = ((1 / 1024 : ℝ) : EReal) := by
    simp [Ideal.ofBits, Ideal.ieee, -EReal.coe_mul]; norm_num
  rw [h1, h2, h3, h4, n1024, Ideal.div_coe (by norm_num), mul_comm e, ← mul_assoc, ← EReal.coe_mul, ← EReal.coe_mul, ← EReal.coe_mul]
  norm_num

/-- The gradient of a sequence row. -/
theorem ref53 (i : Fin 4096) (j : Fin 1024) : val_main_v53 (F := Ideal) x0 x1 x2 (ix2 i j)
    = rowGrad (fun k => x0 (ix2 ⟨16 + i.val, by omega⟩ k)) (fun k => errR x0 x1 x2 i k * Ideal.ofBits .f32 0x3A800000#32 * x1 (ix1 k)) j := by
  rw [rowGrad_eq]
  simp only [← factor]
  pointwise [val_main_v53, val_main_v52, val_main_v51, val_main_v50, val_main_v49, val_main_v48, val_main_v47, val_main_v46,
    val_main_v45, val_main_v44, val_main_v43, val_main_v42, val_main_v41, val_main_v40, val_main_v39, val_main_v38,
    val_main_v36, val_main_v35, val_main_v31, val_main_v30, val_main_v29, val_main_v28, val_main_v27, val_main_v26,
    val_main_v20, val_main_v19, val_main_v17, val_main_v16, val_main_v15, val_main_v14, val_main_v13, val_main_v12,
    val_main_v11, val_main_v10, val_main_v9, val_main_v8, val_main_v7, val_main_v6, val_main_v5, val_main_v4, val_main_v3,
    val_main_v2, val_main_v1, val_main_v0, val_main_cst, val_main_cst_0, val_main_cst_1, val_main_cst_2, val_main_cst_3,
    val_main_cst_8, val_main_cst_9, val_main_cst_10, val_main_cst_13, val_main_cst_14, val_main_cst_15, val_main_cst_16,
    NormMath.slope, msq, errR]
  simp only [zero_add, add_assoc, Fin.sum_univ_one, Finset.univ_unique, Finset.sum_singleton]

/-- The gain's gradient. -/
theorem ref54 (j : Fin 1024) : val_main_v54 (F := Ideal) x0 x1 x2 (ix2 0 j)
    = ∑ i : Fin 4096, errR x0 x1 x2 i j * Ideal.ofBits .f32 0x3A800000#32
        * (x0 (ix2 ⟨16 + i.val, by omega⟩ j) * Ideal.rsqrt (msq fun k => x0 (ix2 ⟨16 + i.val, by omega⟩ k))) := by
  simp only [← factor]
  pointwise [val_main_v54, val_main_v37, val_main_v34, val_main_v33, val_main_v32, val_main_v31, val_main_v30, val_main_v29,
    val_main_v28, val_main_v27, val_main_v26, val_main_v20, val_main_v19, val_main_v17, val_main_v16, val_main_v15,
    val_main_v14, val_main_v13, val_main_v12, val_main_v8, val_main_v7, val_main_v6, val_main_v5, val_main_v4, val_main_v3,
    val_main_v2, val_main_v1, val_main_v0, val_main_cst, val_main_cst_0, val_main_cst_1, val_main_cst_3,
    val_main_cst_8, val_main_cst_9, val_main_cst_10, val_main_cst_11, val_main_cst_12, msq, errR]
  simp only [zero_add, Fin.sum_univ_one, Finset.univ_unique, Finset.sum_singleton]
  exact Finset.sum_congr rfl fun i _ => mul_comm _ _

/-- The loss. -/
theorem ref55 (a : Fin 8) (b : Fin 128) : val_main_v55 (F := Ideal) x0 x1 x2 (ix2 a b)
    = Ideal.ofBits .f32 0x3F000000#32 * ∑ i : Fin 4096,
        Ideal.div (∑ k, errR x0 x1 x2 i k * errR x0 x1 x2 i k) (Ideal.ofBits .f32 0x44800000#32) := by
  pointwise [val_main_v55, val_main_v25, val_main_v24, val_main_v23, val_main_v22, val_main_v21, val_main_v18, val_main_v17,
    val_main_v16, val_main_v15, val_main_v14, val_main_v13, val_main_v12, val_main_v8, val_main_v7, val_main_v6, val_main_v5,
    val_main_v4, val_main_v3, val_main_v2, val_main_v1, val_main_v0, val_main_cst, val_main_cst_0, val_main_cst_1,
    val_main_cst_4, val_main_cst_5, val_main_cst_6, val_main_cst_7, msq, errR]

end Cert.LossReferenceIdeal.Read
end
-- ==== Proof.LossValue.lean ====
module
public import proofs.«01_k».proof.Proof.LossPoint
public import proofs.«01_k».proof.Proof.LossRef
@[expose] public section
/-! The loss kernel's three result arrays after the run are the reference's terms. -/
set_option maxRecDepth 16384
noncomputable section
open Idealize.ShloMosaic Idealize.ShloMosaic.TcCoe Idealize.SL.Sem
open Idealize.ShloMosaic.Pipeline (Dat)
namespace Cert.LossKernelIdeal.Value
open Cert.LossKernelIdeal Cert.LossKernelIdeal.Gen Cert.NormMath Cert.LossReferenceIdeal.Read
variable (m : (ℓ : Loc nD τ sig) → Buf (Elt Ideal) ℓ)

theorem err_eq (c : Dev nD) (i : Fin 4096) (k : Fin 1024) : err (V m c main_v1) (V m c main_v2) (V m c main_arg2) i k
    = errR (m ((c : Thread nD τ).loc main_arg0)) (m ((c : Thread nD τ).loc main_arg1)) (m ((c : Thread nD τ).loc main_arg2)) i k :=
  congrArg₂ (· - ·) (congrArg₂ (· * ·) (congrArg₂ (· * ·) (entH m c i k)
    (congrArg (fun a => Ideal.rsqrt (msq a)) (funext fun k => entH m c i k))) (entG m c k)) (congrFun (entT m c) _)

theorem value3 (c : Dev nD) : (dats m 0 c).arrAt 3 (cfgs 0).N = val_main_v53 (F := Ideal)
    (m ((c : Thread nD τ).loc main_arg0)) (m ((c : Thread nD τ).loc main_arg1)) (m ((c : Thread nD τ).loc main_arg2)) := by
  rw [final3]
  funext i
  idx_vars i
  refine Eq.trans ?_ (ref53 _ _ _ i0 i1).symm
  exact congrArg₂ (fun a b => rowGrad a b i1) (funext fun k => entH m c i0 k)
    (funext fun k => congrArg₂ (· * ·) (congrArg (· * Ideal.ofBits .f32 0x3A800000#32) (err_eq m c i0 k)) (entG m c k))

theorem value4 (c : Dev nD) : (dats m 0 c).arrAt 4 (cfgs 0).N = val_main_v54 (F := Ideal)
    (m ((c : Thread nD τ).loc main_arg0)) (m ((c : Thread nD τ).loc main_arg1)) (m ((c : Thread nD τ).loc main_arg2)) := by
  rw [final4]
  funext i
  idx_vars i
  obtain rfl : i0 = 0 := Subsingleton.elim _ _
  refine Eq.trans ?_ (ref54 _ _ _ i1).symm
  exact Finset.sum_congr rfl fun i _ => congrArg₂ (· * ·) (congrArg (· * Ideal.ofBits .f32 0x3A800000#32) (err_eq m c i i1))
    (congrArg₂ (· * ·) (entH m c i i1) (congrArg (fun a => Ideal.rsqrt (msq a)) (funext fun k => entH m c i k)))

/-- The half of the loss moves out of the sum over the row blocks. -/
theorem half_sum {n : ℕ} (f : Fin n → EReal) :
    ∑ t, Ideal.ofBits .f32 0x3F000000#32 * f t = Ideal.ofBits .f32 0x3F000000#32 * ∑ t, f t := by
  have h1 : Ideal.ofBits .f32 0x3F000000#32 = ((1 / 2 : ℝ) : EReal) := by
    simp [Ideal.ofBits, Ideal.ieee, -EReal.coe_mul]; norm_num
  simp only [h1, mul_comm ((1 / 2 : ℝ) : EReal)]
  exact sum_mul_coe _ _ (by norm_num)

theorem value5 (c : Dev nD) : (dats m 0 c).arrAt 5 (cfgs 0).N = val_main_v55 (F := Ideal)
    (m ((c : Thread nD τ).loc main_arg0)) (m ((c : Thread nD τ).loc main_arg1)) (m ((c : Thread nD τ).loc main_arg2)) := by
  rw [final5]
  funext i
  idx_vars i
  refine Eq.trans ?_ (ref55 _ _ _ i0 i1).symm
  refine (half_sum _).trans (congrArg (Ideal.ofBits .f32 0x3F000000#32 * ·) ?_)
  refine Fin.sum_mul_add_congr (M := EReal) fun t k hl => ?_
  exact congrArg (Ideal.div · _) (Finset.sum_congr rfl fun a _ => congrArg₂ (· * ·) (err_eq m c _ a) (err_eq m c _ a))

end Cert.LossKernelIdeal.Value
end
-- ==== Proof.LossClaim.lean ====
module
public import proofs.«01_k».proof.Defs
public import proofs.«01_k».proof.Proof.Gen.LossKernel
public import proofs.«01_k».proof.Proof.Gen.LossKernelIdeal
public import proofs.«01_k».proof.Proof.Gen.LossReferenceIdeal
public import proofs.«01_k».proof.Proof.Gen.LossReferenceIdeal.Run
public import proofs.«01_k».proof.Proof.Gen.LossReferenceIdeal.Read
public import proofs.«01_k».proof.Proof.LossValue
@[expose] public section
/-! The five claims of the loss and its gradient. -/
set_option maxRecDepth 16384
noncomputable section
open Idealize.ShloMosaic Idealize.ShloMosaic.TcCoe Idealize.SL.Sem
namespace Cert.Loss

theorem frame : Cert.quiescent_LossKernel := by
  intro m ρ _
  refine cast ?_ (Cert.LossKernelIdeal.Gen.frame (F := Bits) m ρ)
  sl_kernel_rfl

theorem frameIdeal : Cert.quiescent_LossKernelIdeal := fun m ρ _ => Cert.LossKernelIdeal.Gen.frame m ρ

theorem frameRef : Cert.quiescent_LossReferenceIdeal := by
  intro m g _
  exact (θ_run _ _ _).mono (fun r h => ⟨fun c => (h c).2.2.2,
    sem_eq_zero_of_no_sems (sig := Cert.LossReferenceIdeal.sig) rfl r.2⟩) (Cert.LossReferenceIdeal.Value.run m g)

theorem algebraic : Cert.algebraic_LossKernelIdeal_LossReferenceIdeal := by
  pair_intro
  · run_from Cert.LossKernelIdeal.Gen.run_main m g
  · run_from Cert.LossReferenceIdeal.Value.run m' g'
    · obtain ⟨h0, h1, h2⟩ := hagree c
      rw [Cert.LossReferenceIdeal.Read.val_main_v53_eq, h0, h1, h2]
      exact (Cert.LossKernelIdeal.Value.value3 m c).symm
    · exact (Cert.LossReferenceIdeal.Read.val_main_v54_eq _ _ _).trans (Cert.LossKernelIdeal.Value.value4 m c).symm
    · exact (Cert.LossReferenceIdeal.Read.val_main_v55_eq _ _ _).trans (Cert.LossKernelIdeal.Value.value5 m c).symm

end Cert.Loss
end
-- ==== Proof.NormPoint.lean ====
module
public import proofs.«01_k».proof.Proof.Gen.NormKernelIdeal.Value
public import Idealize.ShloMosaic.Lib.Pipeline.ValueKit
public import proofs.«01_k».proof.Proof.NormMath
@[expose] public section
/-! The norm gradient's kernel: its two result arrays after the run, over the windows' arrays. -/
set_option maxRecDepth 16384
noncomputable section
open Idealize.ShloMosaic Idealize.ShloMosaic.TcCoe Idealize.SL.Sem
open Idealize.ShloMosaic.Pipeline (Dat)
namespace Cert.NormKernelIdeal.Value
open Cert.NormKernelIdeal Cert.NormKernelIdeal.Gen Cert.NormMath
variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0]
    ∧ (grid0.coords t 0).val = t.val ∧ t.val < 10 :=
  (by decide +kernel : ∀ t : Fin grid0.N, _)

/-- The cotangent of the normalised rows, the contraction in the kernel's three column chunks. -/
def du (Z : FVec Ideal S4160x3200 .bf16) (W : FVec Ideal S1024x3200 .bf16) (i : Fin 4160) (a : Fin 1024) : EReal :=
  ∑ k : Fin 1280, Z (ix2 i ⟨k.val, by omega⟩) * W (ix2 a ⟨k.val, by omega⟩)
    + ∑ k : Fin 1280, Z (ix2 i ⟨1280 + k.val, by omega⟩) * W (ix2 a ⟨1280 + k.val, by omega⟩)
    + ∑ k : Fin 640, Z (ix2 i ⟨2560 + k.val, by omega⟩) * W (ix2 a ⟨2560 + k.val, by omega⟩)

/-- The gradient row: the residual stream's cotangent plus the norm's, and zero in the padding rows. -/
def gradRow (Z : FVec Ideal S4160x3200 .bf16) (W : FVec Ideal S1024x3200 .bf16) (H : FVec Ideal S4160x1024 .f32)
    (G : FVec Ideal S1x1024 .f32) (D : FVec Ideal S4160x1024 .f32) : FVec Ideal S4160x1024 .f32 := fun i =>
  if 48 ≤ (i 0).val then D i + rowGrad (fun k => H (ix2 (i 0) k)) (fun k => du Z W (i 0) k * G (ix2 0 k)) (i 1) else 0

theorem row_mask : ∀ t : Fin 10, ∀ y : Fin 416,
    IntOp.cmpi CmpIPredicate.sge (IntOp.addi (Scalar.muli (BitVec.ofNat 32 t.val) 416#32) (BitVec.ofNat 32 y.val)) 48#32
      = if 48 ≤ t.val * 416 + y.val then 1#1 else 0#1 := by
  decide +kernel

theorem final5 (c : Dev nD) : (dats m 0 c).arrAt 5 (cfgs 0).N =
    gradRow (V m c main_v4) (V m c main_v7) (V m c main_v9) (V m c main_v10) (V m c main_v12) := by
  refine (dats m 0 c).arrAt_eq_of_covers 5 _ (by decide +kernel) fun t hf y => ?_
  blk_simp
  rw [after0_5]
  have h10 := (idx t).2.2.2.2.2.2.2.2
  have hco := (idx t).2.2.2.2.2.2.2.1
  have key : ∀ (b : Prop) [Decidable b] (x z : EReal), (b → x = z) →
      Scalar.select (if b then 1#1 else 0#1) x 0 = if b then z else 0 := fun b _ x z hx => by
    by_cases hb : b
    · simp [Scalar.select, hb, hx hb]
    · simp [Scalar.select, hb]
  by_cases h : t.val % 10 = 0
  on_goal 1 => rw [outsAt0_A m c t h (by omega)]
  on_goal 2 => rw [outsAt0_B m c t h (by omega)]
  all_goals
    frame_out
    idx_vars y
    pointwise [k0_pay1, k0_pay6, k0_pay7, k0_pay8, k0_pay9, k0_pay4, k0_pay5, gradRow, rowGrad, msq, du]
    rw [hco, row_mask ⟨t.val, h10⟩]
    blk_simp [idx t]
    refine key _ _ _ fun _ => ?_
    blk_point [iblk, idx t]

/-- The gain's gradient: the sum over all rows of the cotangent times the normalised row. -/
def gainRow (Z : FVec Ideal S4160x3200 .bf16) (W : FVec Ideal S1024x3200 .bf16) (H : FVec Ideal S4160x1024 .f32) :
    FVec Ideal S1x1024 .f32 := fun j =>
  ∑ i : Fin 4160, du Z W i (j 1) * (H (ix2 i (j 1)) * Ideal.rsqrt (msq fun k => H (ix2 i k)))

theorem final6 (c : Dev nD) : (dats m 0 c).arrAt 6 (cfgs 0).N = gainRow (V m c main_v4) (V m c main_v7) (V m c main_v9) := by
  refine (dats m 0 c).arrAt_eq_of_after_last 6 t0_9 (by decide +kernel) _ fun j => ?_
  blk_simp
  have hpay : ∀ (u xh : FVec Ideal S416x1024 .f32) (acc : FVec Ideal S1x1024 .f32) (j : S1x1024.Idx),
      k0_pay3 u xh acc j = acc j + ∑ k : Fin 416, u (ix2 k (j 1)) * xh (ix2 k (j 1)) := by
    intro u xh acc j; pointwise [k0_pay3, k0_pay2]
  have hpay0 : ∀ (u xh : FVec Ideal S416x1024 .f32) (j : S1x1024.Idx),
      k0_pay2 u xh j = 0 + ∑ k : Fin 416, u (ix2 k (j 1)) * xh (ix2 k (j 1)) := by
    intro u xh j; pointwise [k0_pay2]
  rw [after0_6, Pipeline.eq_sum_fin_of_reset_step_apply_last (fun n h => (outsAt0 m c n h).2) 10 (fun _ => (0 : EReal)) _
    (fun t h j => by rw [outsAt0_A m c t h (by have := (idx t).2.2.2.2.2.2.2.2; omega)]; frame_out; rw [hpay0])
    (fun t h j => by rw [outsAt0_B m c t h (by have := (idx t).2.2.2.2.2.2.2.2; omega)]; frame_out; rw [hpay])
    (le_of_eq N_0) t0_9 rfl j, zero_add]
  unfold gainRow
  refine Fin.sum_mul_add_congr fun t k hl => ?_
  pointwise [k0_pay4, k0_pay7, k0_pay6, k0_pay5, msq, du]
  blk_point [iblk, idx t]

theorem entry0 (c : Dev nD) (i : Fin 4160) (k : Fin 3200) : V m c main_v4 (ix2 i k)
    = if h : k.val < 3088 then if h' : i.val < 48 then (0 : EReal) else m ((c : Thread nD τ).loc main_arg3) (ix2 ⟨i.val - 48, by omega⟩ ⟨k.val, h⟩) else 0 := by
  entry_read
  pointwise
theorem entry1 (c : Dev nD) (i : Fin 1024) (k : Fin 3200) : V m c main_v7 (ix2 i k)
    = if h : k.val < 3088 then m ((c : Thread nD τ).loc main_arg2) (ix2 i ⟨k.val, h⟩) else (0 : EReal) := by
  entry_read
  pointwise
theorem entry2 (c : Dev nD) (i : Fin 4160) (k : Fin 1024) : V m c main_v9 (ix2 i k)
    = if h' : i.val < 48 then (0 : EReal) else m ((c : Thread nD τ).loc main_arg0) (ix2 ⟨i.val - 48, by omega⟩ k) := by
  entry_read
  pointwise
theorem entry3 (c : Dev nD) (k : Fin 1024) : V m c main_v10 (ix2 0 k) = m ((c : Thread nD τ).loc main_arg1) (ix1 k) := by
  entry_read
  pointwise
theorem entry4 (c : Dev nD) (i : Fin 4160) (k : Fin 1024) : V m c main_v12 (ix2 i k)
    = if h' : i.val < 48 then (0 : EReal) else m ((c : Thread nD τ).loc main_arg4) (ix2 ⟨i.val - 48, by omega⟩ k) := by
  entry_read
  pointwise

end Cert.NormKernelIdeal.Value
end
-- ==== Proof.NormRef.lean ====
module
public import proofs.«01_k».proof.Proof.Gen.NormReferenceIdeal.Read
public import Idealize.ShloMosaic.Lib.Pipeline.ValueKit
public import proofs.«01_k».proof.Proof.NormMath
@[expose] public section
/-! The reference of the norm gradient, read at an index: the rows in the kernel's two-term form. -/
set_option maxRecDepth 16384
noncomputable section
open Idealize.ShloMosaic Idealize.ShloMosaic.TcCoe Idealize.SL.Sem
namespace Cert.NormReferenceIdeal.Read
open Cert.NormReferenceIdeal Cert.NormReferenceIdeal.Gen Cert.NormMath

/-- The cotangent of the normalised rows: the product with the transposed weight. -/
def duR (x2 : FVec Ideal S1024x3088 .f32) (x3 : FVec Ideal S4112x3088 .f32) (i : Fin 4112) (a : Fin 1024) : EReal :=
  ∑ k : Fin 3088, x3 (ix2 i k) * x2 (ix2 a k)

theorem ref38 (x0 : FVec Ideal S4112x1024 .f32) (x1 : FVec Ideal S1024 .f32) (x2 : FVec Ideal S1024x3088 .f32)
    (x3 : FVec Ideal S4112x3088 .f32) (x4 : FVec Ideal S4112x1024 .f32) (i : Fin 4112) (j : Fin 1024) :
    val_main_v38 (F := Ideal) x0 x1 x2 x3 x4 (ix2 i j)
      = x4 (ix2 i j) + rowGrad (fun k => x0 (ix2 i k)) (fun k => duR x2 x3 i k * x1 (ix1 k)) j := by
  rw [rowGrad_eq]
  pointwise [val_main_v38, val_main_v37, val_main_v36, val_main_v35, val_main_v34, val_main_v33, val_main_v32, val_main_v31,
    val_main_v30, val_main_v29, val_main_v28, val_main_v27, val_main_v26, val_main_v25, val_main_v24, val_main_v22,
    val_main_v21, val_main_v17, val_main_v13, val_main_v10, val_main_v9, val_main_v8, val_main_v7, val_main_v6,
    val_main_v5, val_main_v4, val_main_v3, val_main_v2, val_main_v1, val_main_v0, val_main_cst, val_main_cst_0,
    val_main_cst_1, val_main_cst_2, val_main_cst_5, val_main_cst_6, val_main_cst_7, NormMath.slope, msq, duR]
  simp only [zero_add, add_assoc, Fin.sum_univ_one, Finset.univ_unique, Finset.sum_singleton]

theorem ref39 (x0 : FVec Ideal S4112x1024 .f32) (x1 : FVec Ideal S1024 .f32) (x2 : FVec Ideal S1024x3088 .f32)
    (x3 : FVec Ideal S4112x3088 .f32) (x4 : FVec Ideal S4112x1024 .f32) (i : Fin 4160) (j : Fin 1024) :
    val_main_v39 (F := Ideal) x0 x1 x2 x3 x4 (ix2 i j)
      = if h : i.val < 48 then 0 else x4 (ix2 ⟨i.val - 48, by omega⟩ j)
          + rowGrad (fun k => x0 (ix2 ⟨i.val - 48, by omega⟩ k)) (fun k => duR x2 x3 ⟨i.val - 48, by omega⟩ k * x1 (ix1 k)) j := by
  have hp := fun h => ref38 x0 x1 x2 x3 x4 ⟨i.val - 48, h⟩ j
  pointwise [val_main_v39, val_main_call0_v0, val_main_c]
  have hz : (FloatOps.sitofp (F := Ideal) FTy.f32 (0#32)) = (0 : EReal) := by
    show (((0#32 : BitVec 32).toInt : ℝ) : EReal) = 0
    simp
  by_cases h : i.val < 48
  · rw [dif_neg (by omega), dif_pos h, hz]
  · rw [dif_pos (by omega), dif_neg h, hp]

theorem ref40 (x0 : FVec Ideal S4112x1024 .f32) (x2 : FVec Ideal S1024x3088 .f32) (x3 : FVec Ideal S4112x3088 .f32)
    (j : Fin 1024) :
    val_main_v40 (F := Ideal) x0 x2 x3 (ix2 0 j)
      = ∑ i : Fin 4112, duR x2 x3 i j * (x0 (ix2 i j) * Ideal.rsqrt (msq fun k => x0 (ix2 i k))) := by
  pointwise [val_main_v40, val_main_v23, val_main_v20, val_main_v19, val_main_v18, val_main_v17, val_main_v12, val_main_v11,
    val_main_v7, val_main_v6, val_main_v5, val_main_v4, val_main_v3, val_main_v2, val_main_v1, val_main_v0,
    val_main_cst, val_main_cst_0, val_main_cst_1, val_main_cst_3, val_main_cst_4, msq, duR]
  simp only [zero_add, Fin.sum_univ_one, Finset.univ_unique, Finset.sum_singleton]
  exact Finset.sum_congr rfl fun i _ => mul_comm _ _

end Cert.NormReferenceIdeal.Read
end
-- ==== Proof.NormValue.lean ====
module
public import proofs.«01_k».proof.Proof.NormPoint
public import proofs.«01_k».proof.Proof.NormRef
@[expose] public section
/-! The norm gradient's two result arrays after the run are the reference's terms. -/
set_option maxRecDepth 16384
noncomputable section
open Idealize.ShloMosaic Idealize.ShloMosaic.TcCoe Idealize.SL.Sem
open Idealize.ShloMosaic.Pipeline (Dat)
namespace Cert.NormKernelIdeal.Value
open Cert.NormKernelIdeal Cert.NormKernelIdeal.Gen Cert.NormMath
variable (m : (ℓ : Loc nD τ sig) → Buf (Elt Ideal) ℓ)

/-- A sum over the 3200 padded columns taken in the kernel's three chunks, the last 112 columns zero. -/
theorem sum_chunks (f : Fin 3200 → EReal) (hf : ∀ k : Fin 3200, 3088 ≤ k.val → f k = 0) :
    ∑ k : Fin 1280, f ⟨k.val, by omega⟩ + ∑ k : Fin 1280, f ⟨1280 + k.val, by omega⟩ + ∑ k : Fin 640, f ⟨2560 + k.val, by omega⟩
      = ∑ k : Fin 3088, f ⟨k.val, by omega⟩ := by
  have h1 := Fin.sum_univ_add (a := 2560) (b := 640) f
  have h2 := Fin.sum_univ_add (a := 1280) (b := 1280) fun k => f (Fin.castAdd 640 k)
  have h3 := Fin.sum_univ_add (a := 3088) (b := 112) f
  rw [h2] at h1
  have h4 : ∑ k : Fin 112, f (Fin.natAdd 3088 k) = 0 := Finset.sum_eq_zero fun k _ => hf _ (by simp)
  rw [h4, add_zero] at h3
  exact h1.symm.trans h3

theorem du_eq (c : Dev nD) (i : Fin 4160) (a : Fin 1024) : du (V m c main_v4) (V m c main_v7) i a
    = if h : i.val < 48 then (0 : EReal) else
      Cert.NormReferenceIdeal.Read.duR (m ((c : Thread nD τ).loc main_arg2)) (m ((c : Thread nD τ).loc main_arg3)) ⟨i.val - 48, by omega⟩ a := by
  refine (sum_chunks (fun k => (show EReal from V m c main_v4 (ix2 i k)) * (show EReal from V m c main_v7 (ix2 a k))) fun k hk => ?_).trans ?_
  · show (show EReal from V m c main_v4 (ix2 i k)) * (show EReal from V m c main_v7 (ix2 a k)) = 0
    rw [entry0, dif_neg (by omega)]; exact zero_mul _
  · by_cases h : i.val < 48
    · rw [dif_pos h]
      refine Finset.sum_eq_zero fun k _ => ?_
      show (show EReal from V m c main_v4 (ix2 i _)) * (show EReal from V m c main_v7 (ix2 a _)) = 0
      rw [entry0, dif_pos k.isLt, dif_pos h]; exact zero_mul _
    · rw [dif_neg h]
      refine Finset.sum_congr rfl fun k _ => ?_
      show (show EReal from V m c main_v4 (ix2 i _)) * (show EReal from V m c main_v7 (ix2 a _)) = _
      rw [entry0, dif_pos k.isLt, dif_neg h, entry1, dif_pos k.isLt]

theorem value5 (c : Dev nD) : (dats m 0 c).arrAt 5 (cfgs 0).N = Cert.NormReferenceIdeal.Read.val_main_v39 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) := by
  rw [final5]
  funext i
  idx_vars i
  refine Eq.trans ?_ (Cert.NormReferenceIdeal.Read.ref39 _ _ _ _ _ i0 i1).symm
  show (if 48 ≤ i0.val then (show EReal from V m c main_v12 (ix2 i0 i1)) + rowGrad (fun k => V m c main_v9 (ix2 i0 k))
    (fun k => du (V m c main_v4) (V m c main_v7) i0 k * (show EReal from V m c main_v10 (ix2 0 k))) i1 else 0) = _
  by_cases h : i0.val < 48
  · rw [dif_pos h, if_neg (by omega)]
  · rw [dif_neg h, if_pos (by omega)]
    exact congrArg₂ (· + ·) ((entry4 m c i0 i1).trans (dif_neg h))
      (congrArg₂ (fun a b => rowGrad a b i1) (funext fun k => (entry2 m c i0 k).trans (dif_neg h))
        (funext fun k => congrArg₂ (· * ·) ((du_eq m c i0 k).trans (dif_neg h)) (entry3 m c k)))

theorem value6 (c : Dev nD) : (dats m 0 c).arrAt 6 (cfgs 0).N = Cert.NormReferenceIdeal.Read.val_main_v40 (F := Ideal)
    (m ((c : Thread nD τ).loc main_arg0)) (m ((c : Thread nD τ).loc main_arg2)) (m ((c : Thread nD τ).loc main_arg3)) := by
  rw [final6]
  funext i
  idx_vars i
  obtain rfl : i0 = 0 := Subsingleton.elim _ _
  refine Eq.trans ?_ (Cert.NormReferenceIdeal.Read.ref40 _ _ _ i1).symm
  show (∑ i : Fin 4160, du (V m c main_v4) (V m c main_v7) i i1
    * ((show EReal from V m c main_v9 (ix2 i i1)) * Ideal.rsqrt (msq fun k => V m c main_v9 (ix2 i k)))) = _
  refine (Fin.sum_univ_add (a := 48) (b := 4112) _).trans ?_
  refine Eq.trans (congrArg₂ (· + ·) (Finset.sum_eq_zero fun k _ => ?_) (Finset.sum_congr rfl fun k _ => ?_)) (zero_add _)
  · rw [du_eq, dif_pos (by simp)]; exact zero_mul _
  · have hk : ¬ (Fin.natAdd 48 k).val < 48 := by simp
    have hv : (⟨(Fin.natAdd 48 k).val - 48, by have := (Fin.natAdd 48 k).isLt; simp at this ⊢⟩ : Fin 4112) = k := Fin.ext (by simp)
    have hH : ∀ a, (show EReal from V m c main_v9 (ix2 (Fin.natAdd 48 k) a)) = m ((c : Thread nD τ).loc main_arg0) (ix2 k a) :=
      fun a => ((entry2 m c (Fin.natAdd 48 k) a).trans (dif_neg hk)).trans (by rw [hv])
    exact congrArg₂ (· * ·) (((du_eq m c (Fin.natAdd 48 k) i1).trans (dif_neg hk)).trans (by rw [hv]))
      (congrArg₂ (· * ·) (hH i1) (congrArg (fun a => Ideal.rsqrt (msq a)) (funext hH)))

end Cert.NormKernelIdeal.Value
end
-- ==== Proof.NormClaim.lean ====
module
public import proofs.«01_k».proof.Defs
public import proofs.«01_k».proof.Proof.Gen.NormKernel
public import proofs.«01_k».proof.Proof.Gen.NormKernelIdeal
public import proofs.«01_k».proof.Proof.Gen.NormReferenceIdeal
public import proofs.«01_k».proof.Proof.Gen.NormReferenceIdeal.Run
public import proofs.«01_k».proof.Proof.Gen.NormReferenceIdeal.Read
public import proofs.«01_k».proof.Proof.NormValue
@[expose] public section
/-! The five claims of the norm gradient. -/
set_option maxRecDepth 16384
noncomputable section
open Idealize.ShloMosaic Idealize.ShloMosaic.TcCoe Idealize.SL.Sem
namespace Cert.Norm

theorem frame : Cert.quiescent_NormKernel := by
  intro m ρ _
  refine cast ?_ (Cert.NormKernelIdeal.Gen.frame (F := Bits) m ρ)
  sl_kernel_rfl

theorem frameIdeal : Cert.quiescent_NormKernelIdeal := fun m ρ _ => Cert.NormKernelIdeal.Gen.frame m ρ

theorem frameRef : Cert.quiescent_NormReferenceIdeal := by
  intro m g _
  exact (θ_run _ _ _).mono (fun r h => ⟨fun c => (h c).2.2,
    sem_eq_zero_of_no_sems (sig := Cert.NormReferenceIdeal.sig) rfl r.2⟩) (Cert.NormReferenceIdeal.Value.run m g)

theorem algebraic : Cert.algebraic_NormKernelIdeal_NormReferenceIdeal := by
  pair_intro
  · run_from Cert.NormKernelIdeal.Gen.run_main m g
  · run_from Cert.NormReferenceIdeal.Value.run m' g'
    · obtain ⟨h0, h1, h2, h3, h4⟩ := hagree c
      rw [Cert.NormReferenceIdeal.Read.val_main_v39_eq, h0, h1, h2, h3, h4]
      exact (Cert.NormKernelIdeal.Value.value5 m c).symm
    · exact (Cert.NormReferenceIdeal.Read.val_main_v40_eq _ _ _).trans (Cert.NormKernelIdeal.Value.value6 m c).symm

end Cert.Norm
end
-- ==== Proof.FfnPoint.lean ====
module
public import proofs.«01_k».proof.Proof.Gen.FfnKernelIdeal.Value
public import Idealize.ShloMosaic.Lib.Pipeline.ValueKit
public import proofs.«01_k».proof.Proof.NormMath
@[expose] public section
/-! The feed-forward gradient's kernel: its first two result arrays after the run, over the windows' arrays. -/
set_option maxRecDepth 16384
noncomputable section
open Idealize.ShloMosaic Idealize.ShloMosaic.TcCoe Idealize.SL.Sem
open Idealize.ShloMosaic.Pipeline (Dat)
namespace Cert.FfnKernelIdeal.Value
open Cert.FfnKernelIdeal Cert.FfnKernelIdeal.Gen Cert.NormMath
variable (m : (ℓ : Loc nD τ sig) → Buf (Elt Ideal) ℓ)

theorem idx : ∀ t : Fin cfg0.N, win0_0.index t = ![t.val / 4, 0] ∧ win0_1.index t = ![t.val / 4, 0]
    ∧ win0_2.index t = ![0, 0] ∧ win0_3.index t = ![t.val / 4, t.val % 4] ∧ win0_4.index t = ![t.val % 4, 0, 0]
    ∧ win0_5.index t = ![t.val % 4, 0, 0] ∧ win0_6.index t = ![t.val / 4, 0] ∧ win0_7.index t = ![t.val / 4, t.val % 4]
    ∧ win0_8.index t = ![0, 0] ∧ (win0_6.flush t = true → t.val % 4 = 3) ∧ (grid0.coords t 0).val = t.val / 4 ∧ t.val < 20 :=
  (by decide +kernel : ∀ t : Fin grid0.N, _)

/-- The pre-activation's cotangent: the squared relu's slope on the product with the transposed second weight. -/
def dact (X : FVec Ideal S4160x4096 .bf16) (W : FVec Ideal S4x1024x1024 .bf16) (D : FVec Ideal S4160x1024 .f32)
    (i : Fin 4160) (s : Fin 4) (k : Fin 1024) : EReal :=
  (∑ a : Fin 1024, D (ix2 i a) * W (ix3 s k a))
    * (Ideal.ofBits .f32 0x40000000#32 * max (X (ix2 i ⟨s.val * 1024 + k.val, by omega⟩)) 0)

/-- One hidden block's contribution to the normalised rows' cotangent. -/
def part (X : FVec Ideal S4160x4096 .bf16) (U W : FVec Ideal S4x1024x1024 .bf16) (D : FVec Ideal S4160x1024 .f32)
    (i : Fin 4160) (s : Fin 4) (a : Fin 1024) : EReal :=
  ∑ k : Fin 1024, dact X W D i s k * U (ix3 s a k)

set_option maxHeartbeats 1600000 in
theorem final_dhp (c : Dev nD) : (dats m 0 c).arrAt 7 (cfgs 0).N = fun j =>
    dact (V m c main_v16) (V m c main_v26) (V m c main_v18) (j 0) ⟨(j 1).val / 1024, by have := (j 1).isLt; simp at this; omega⟩
      ⟨(j 1).val % 1024, Nat.mod_lt _ (by norm_num)⟩ := by
  refine (dats m 0 c).arrAt_eq_of_covers 7 _ (by decide +kernel) fun t hf y => ?_
  blk_simp
  rw [after0_7]
  have h20 := (idx t).2.2.2.2.2.2.2.2.2.2.2
  have hpt : (outsAt0 m c t.val t.isLt).2.1 = k0_pay1 (iblk m c 0 t) (iblk m c 5 t) (iblk m c 3 t) := by
    by_cases h0 : t.val % 4 = 0
    · rw [outsAt0_A m c t h0 (by omega) (by omega)]; frame_out
    · by_cases h3 : t.val % 4 = 3
      · by_cases h4 : t.val < 4
        · rw [outsAt0_C m c t h0 (by omega) h3 h4 (by omega)]; frame_out
        · rw [outsAt0_D m c t h0 (by omega) h3 h4 (by omega)]; frame_out
      · rw [outsAt0_B m c t h0 (by omega) h3]; frame_out
  rw [hpt]
  idx_vars y
  pointwise [k0_pay1, dact]
  blk_simp [idx t]
  blk_point [iblk, idx t]

set_option maxHeartbeats 1600000 in
theorem acc_eq (c : Dev nD) (t : Fin cfg0.N) (hr : t.val % 4 = 3) (y0 : Fin 832) (y1 : Fin 1024) :
    (outsAt0 m c t.val t.isLt).2.2.2 (ix2 y0 y1)
      = ∑ s : Fin 4, part (V m c main_v16) (V m c main_v24) (V m c main_v26) (V m c main_v18)
          ⟨t.val / 4 * 832 + y0.val, by have := (idx t).2.2.2.2.2.2.2.2.2.2.2; omega⟩ s y1 := by
  have hN : ∀ t : Fin cfg0.N, t.val < 20 := fun t => (idx t).2.2.2.2.2.2.2.2.2.2.2
  have hp : ∀ (t : Fin cfg0.N) (y0 : Fin 832) (y1 : Fin 1024), k0_pay2 (iblk m c 0 t) (iblk m c 5 t) (iblk m c 3 t) (iblk m c 4 t) (ix2 y0 y1)
      = part (V m c main_v16) (V m c main_v24) (V m c main_v26) (V m c main_v18)
          ⟨t.val / 4 * 832 + y0.val, by have := hN t; omega⟩ ⟨t.val % 4, Nat.mod_lt _ (by norm_num)⟩ y1 := by
    intro t y0 y1
    pointwise [k0_pay1, k0_pay2, part, dact]
    blk_point [iblk, idx t]
  refine (Pipeline.eq_sum_fin_of_reset_step_apply_of_flush (fun n h => (outsAt0 m c n h).2.2.2) 4 (fun _ => (0 : EReal))
    (fun t y => k0_pay2 (iblk m c 0 t) (iblk m c 5 t) (iblk m c 3 t) (iblk m c 4 t) y) ?_ ?_ t hr (ix2 y0 y1)).trans ?_
  · intro t h0 y
    rw [outsAt0_A m c t h0 (by omega) (by omega)]
    frame_out
    idx_vars y
    pointwise [k0_pay3]
  · intro t h0 y
    by_cases h3 : t.val % 4 = 3
    · by_cases h4 : t.val < 4
      · rw [outsAt0_C m c t h0 (by omega) h3 h4 (by omega)]; frame_out; idx_vars y
        simp only [(Memref.isWhole_whole _).read_unread]
        pointwise [k0_pay4]
      · rw [outsAt0_D m c t h0 (by omega) h3 h4 (by omega)]; frame_out; idx_vars y
        simp only [(Memref.isWhole_whole _).read_unread]
        pointwise [k0_pay4]
    · rw [outsAt0_B m c t h0 (by omega) h3]; frame_out; idx_vars y
      simp only [(Memref.isWhole_whole _).read_unread]
      pointwise [k0_pay4]
  · rw [zero_add]
    refine Finset.sum_congr (M := EReal) rfl fun s _ => (hp _ y0 y1).trans ?_
    have e1 : (4 * (t.val / 4) + s.val) / 4 = t.val / 4 := by omega
    have e2 : (4 * (t.val / 4) + s.val) % 4 = s.val := by omega
    simp only [e1, e2]

/-- The normalised rows' cotangent, over the four hidden blocks. -/
def du (X : FVec Ideal S4160x4096 .bf16) (U W : FVec Ideal S4x1024x1024 .bf16) (D : FVec Ideal S4160x1024 .f32)
    (i : Fin 4160) (a : Fin 1024) : EReal := ∑ s : Fin 4, part X U W D i s a

/-- The gradient row: the residual stream's cotangent plus the norm's, and zero in the padding rows. -/
def gradRow (X : FVec Ideal S4160x4096 .bf16) (U W : FVec Ideal S4x1024x1024 .bf16) (D H : FVec Ideal S4160x1024 .f32)
    (G : FVec Ideal S1x1024 .f32) : FVec Ideal S4160x1024 .f32 := fun i =>
  if 48 ≤ (i 0).val then D i + rowGrad (fun k => H (ix2 (i 0) k)) (fun k => du X U W D (i 0) k * G (ix2 0 k)) (i 1) else 0

theorem row_mask : ∀ t : Fin 5, ∀ y : Fin 832,
    IntOp.cmpi CmpIPredicate.sge (IntOp.addi (Scalar.muli (BitVec.ofNat 32 t.val) 832#32) (BitVec.ofNat 32 y.val)) 48#32
      = if 48 ≤ t.val * 832 + y.val then 1#1 else 0#1 := by
  decide +kernel

/-- At the last hidden block of a row block the three stores of that point read the finished accumulator. -/
theorem at_last (c : Dev nD) (t : Fin cfg0.N) (h3 : t.val % 4 = 3) :
    (outsAt0 m c t.val t.isLt).1 = k0_pay11 (BitVec.ofNat 32 (grid0.coords t 0).val) (iblk m c 1 t) (iblk m c 2 t) (outsAt0 m c t.val t.isLt).2.2.2 (iblk m c 0 t)
    ∧ (t.val < 4 → (outsAt0 m c t.val t.isLt).2.2.1 = k0_pay5 (k0_pay10 (iblk m c 1 t) (outsAt0 m c t.val t.isLt).2.2.2))
    ∧ (¬t.val < 4 → (outsAt0 m c t.val t.isLt).2.2.1 = k0_pay6 (k0_pay10 (iblk m c 1 t) (outsAt0 m c t.val t.isLt).2.2.2)
        (outsAt0 m c (t.val - 1) (Nat.lt_of_le_of_lt (Nat.sub_le _ _) t.isLt)).2.2.1) := by
  have h0 : ¬t.val % 4 = 0 := by omega
  by_cases h4 : t.val < 4
  · rw [outsAt0_C m c t h0 (by omega) h3 h4 (by omega)]
    frame_out
    simp only [(Memref.isWhole_whole _).read_unread]
    exact ⟨trivial, fun _ => trivial, fun h => absurd h4 h⟩
  · rw [outsAt0_D m c t h0 (by omega) h3 h4 (by omega)]
    frame_out
    simp only [(Memref.isWhole_whole _).read_unread]
    exact ⟨trivial, fun h => absurd h h4, fun _ => trivial⟩

/-- Elsewhere the gain's gradient is kept. -/
theorem keep (c : Dev nD) (t : Fin cfg0.N) (h3 : ¬t.val % 4 = 3) :
    (outsAt0 m c t.val t.isLt).2.2.1 = (outsAt0 m c (t.val - 1) (Nat.lt_of_le_of_lt (Nat.sub_le _ _) t.isLt)).2.2.1 := by
  by_cases h0 : t.val % 4 = 0
  · rw [outsAt0_A m c t h0 (by omega) (by omega)]; rfl
  · rw [outsAt0_B m c t h0 (by omega) h3]; rfl

set_option maxHeartbeats 1600000 in
theorem final_dhi (c : Dev nD) : (dats m 0 c).arrAt 6 (cfgs 0).N =
    gradRow (V m c main_v16) (V m c main_v24) (V m c main_v26) (V m c main_v18) (V m c main_v20) (V m c main_v21) := by
  refine (dats m 0 c).arrAt_eq_of_covers 6 _ (by decide +kernel) fun t hf y => ?_
  blk_simp
  rw [after0_6]
  have h20 := (idx t).2.2.2.2.2.2.2.2.2.2.2
  have h3 := (idx t).2.2.2.2.2.2.2.2.2.1 hf
  have hco := (idx t).2.2.2.2.2.2.2.2.2.2.1
  have key : ∀ (b : Prop) [Decidable b] (x z : EReal), (b → x = z) →
      Scalar.select (if b then 1#1 else 0#1) x 0 = if b then z else 0 := fun b _ x z hx => by
    by_cases hb : b
    · simp [Scalar.select, hb, hx hb]
    · simp [Scalar.select, hb]
  rw [(at_last m c t h3).1]
  have ha := acc_eq m c t h3
  generalize (outsAt0 m c t.val t.isLt).2.2.2 = acc at ha ⊢
  idx_vars y
  pointwise [k0_pay11, k0_pay9, k0_pay8, k0_pay7, gradRow, rowGrad, msq, du]
  simp only [ha]
  rw [hco, row_mask ⟨t.val / 4, by omega⟩]
  blk_simp [idx t]
  refine key _ _ _ fun _ => ?_
  blk_point [iblk, idx t]

/-- The pre-activation the forward pass saves, on the host: the product of the normalised rows. -/
def hp (x0 : FVec Ideal S4112x1024 .f32) (x1 : FVec Ideal S1024 .f32) (x2 : FVec Ideal S1024x4096 .f32) (i : Fin 4112)
    (k : Fin 4096) : EReal :=
  ∑ a : Fin 1024, x0 (ix2 i a) * Ideal.rsqrt (msq fun a => x0 (ix2 i a)) * x1 (ix1 a) * x2 (ix2 a k)

theorem entry16 (c : Dev nD) (i : Fin 4160) (k : Fin 4096) : V m c main_v16 (ix2 i k)
    = if h : i.val < 48 then (0 : EReal) else hp (m ((c : Thread nD τ).loc main_arg0)) (m ((c : Thread nD τ).loc main_arg1))
        (m ((c : Thread nD τ).loc main_arg2)) ⟨i.val - 48, by omega⟩ k := by
  entry_read
  pointwise [hp, msq]
theorem entry18 (c : Dev nD) (i : Fin 4160) (k : Fin 1024) : V m c main_v18 (ix2 i k)
    = if h : i.val < 48 then (0 : EReal) else m ((c : Thread nD τ).loc main_arg4) (ix2 ⟨i.val - 48, by omega⟩ k) := by
  entry_read
  pointwise
theorem entry20 (c : Dev nD) (i : Fin 4160) (k : Fin 1024) : V m c main_v20 (ix2 i k)
    = if h : i.val < 48 then (0 : EReal) else m ((c : Thread nD τ).loc main_arg0) (ix2 ⟨i.val - 48, by omega⟩ k) := by
  entry_read
  pointwise
theorem entry21 (c : Dev nD) (k : Fin 1024) : V m c main_v21 (ix2 0 k) = m ((c : Thread nD τ).loc main_arg1) (ix1 k) := by
  entry_read
  pointwise
theorem entry24 (c : Dev nD) (s : Fin 4) (a k : Fin 1024) : V m c main_v24 (ix3 s a k)
    = m ((c : Thread nD τ).loc main_arg2) (ix2 a ⟨s.val * 1024 + k.val, by omega⟩) := by
  entry_read
  pointwise
theorem entry26 (c : Dev nD) (s : Fin 4) (k a : Fin 1024) : V m c main_v26 (ix3 s k a)
    = m ((c : Thread nD τ).loc main_arg3) (ix2 ⟨s.val * 1024 + k.val, by omega⟩ a) := by
  entry_read
  pointwise

end Cert.FfnKernelIdeal.Value
end
-- ==== Proof.FfnGain.lean ====
module
public import proofs.«01_k».proof.Proof.FfnPoint
@[expose] public section
/-! The feed-forward gradient's kernel: the gain's gradient, accumulated over the row blocks. -/
set_option maxRecDepth 16384
noncomputable section
open Idealize.ShloMosaic Idealize.ShloMosaic.TcCoe Idealize.SL.Sem
open Idealize.ShloMosaic.Pipeline (Dat)
namespace Cert.FfnKernelIdeal.Value
open Cert.FfnKernelIdeal Cert.FfnKernelIdeal.Gen Cert.NormMath
variable (m : (ℓ : Loc nD τ sig) → Buf (Elt Ideal) ℓ)

/-- A quantity kept at every point but each fourth, set at the first of those and added to at the others. -/
theorem fold_rows {ι : Type} (f : (n : ℕ) → n < 20 → ι → EReal) (term : Fin 5 → ι → EReal)
    (hk : ∀ (n : ℕ) (h : n < 20), ¬n % 4 = 3 → f n h = f (n - 1) (by omega))
    (h0 : ∀ i, f 3 (by omega) i = term 0 i)
    (hs : ∀ (n : Fin 5), n.val ≠ 0 → ∀ i, f (4 * n.val + 3) (by omega) i = f (4 * n.val + 2) (by omega) i + term n i)
    (i : ι) : f 19 (by omega) i = ∑ n, term n i := by
  have hb : ∀ n : Fin 5, n.val ≠ 0 → f (4 * n.val + 2) (by omega) = f (4 * (n.val - 1) + 3) (by omega) := fun n hn => by
    rw [hk _ _ (by omega), hk _ _ (by omega), hk _ _ (by omega)]
    congr 1; omega
  have step : ∀ n : Fin 5, n.val ≠ 0 → f (4 * n.val + 3) (by omega) i = f (4 * (n.val - 1) + 3) (by omega) i + term n i :=
    fun n hn => (hs n hn i).trans (congrArg (· + _) (congrFun (hb n hn) i))
  rw [Fin.sum_univ_five, ← h0]
  exact (step 4 (by decide)).trans (congrArg (· + _) ((step 3 (by decide)).trans (congrArg (· + _)
    ((step 2 (by decide)).trans (congrArg (· + _) (step 1 (by decide)))))))

/-- The last grid point. -/
abbrev last : Fin cfg0.N := ⟨19, by rw [show cfg0.N = 20 from N_0]; norm_num⟩

theorem hlt {n : ℕ} (h : n < 20) : n < cfg0.N := lt_of_lt_of_eq h (show cfg0.N = 20 from N_0).symm

/-- One row's summand of the gain's gradient: the cotangent times the normalised row. -/
def gainTerm (X : FVec Ideal S4160x4096 .bf16) (U W : FVec Ideal S4x1024x1024 .bf16) (D H : FVec Ideal S4160x1024 .f32)
    (i : Fin 4160) (a : Fin 1024) : EReal := du X U W D i a * (H (ix2 i a) * Ideal.rsqrt (msq fun k => H (ix2 i k)))

/-- The gain's gradient: the sum over all rows. -/
def gainRow (X : FVec Ideal S4160x4096 .bf16) (U W : FVec Ideal S4x1024x1024 .bf16) (D H : FVec Ideal S4160x1024 .f32) :
    FVec Ideal S1x1024 .f32 := fun j => ∑ i : Fin 4160, gainTerm X U W D H i (j 1)

theorem row_sum (c : Dev nD) (n : Fin 5) (j : Fin 1024) :
    ∑ k : Fin 832, k0_pay10 (iblk m c 1 ⟨4 * n.val + 3, hlt (by omega)⟩) (outsAt0 m c (4 * n.val + 3) (hlt (by omega))).2.2.2 (ix2 k j)
      = ∑ k : Fin 832, gainTerm (V m c main_v16) (V m c main_v24) (V m c main_v26) (V m c main_v18) (V m c main_v20)
          ⟨n.val * 832 + k.val, by omega⟩ j := by
  refine Finset.sum_congr (M := EReal) rfl fun k _ => ?_
  have h3 : (4 * n.val + 3) % 4 = 3 := by omega
  have hd : (4 * n.val + 3) / 4 = n.val := by omega
  have ha := acc_eq m c ⟨4 * n.val + 3, hlt (by omega)⟩ h3 k j
  generalize (outsAt0 m c (4 * n.val + 3) (hlt (by omega))).2.2.2 = acc at ha ⊢
  simp only [hd] at ha
  generalize ht : (⟨4 * n.val + 3, hlt (by omega)⟩ : Fin cfg0.N) = t
  have hd' : t.val / 4 = n.val := by rw [← ht]; exact hd
  pointwise [k0_pay10, k0_pay9, k0_pay8, k0_pay7, msq, du, gainTerm]
  rw [ha]
  blk_point [iblk, idx t, hd']

theorem dg_last (c : Dev nD) (j : S1x1024.Idx) : (outsAt0 m c 19 (hlt (by omega))).2.2.1 j
    = ∑ n : Fin 5, ∑ k : Fin 832, k0_pay10 (iblk m c 1 ⟨4 * n.val + 3, hlt (by omega)⟩)
        (outsAt0 m c (4 * n.val + 3) (hlt (by omega))).2.2.2 (ix2 k (j 1)) := by
  have hpay : ∀ (xh : FVec Ideal S832x1024 .f32) (acc : FVec Ideal S1x1024 .f32) (j : S1x1024.Idx),
      k0_pay6 xh acc j = acc j + ∑ k : Fin 832, xh (ix2 k (j 1)) := by
    intro xh acc j; pointwise [k0_pay6, k0_pay5]
  have hpay0 : ∀ (xh : FVec Ideal S832x1024 .f32) (j : S1x1024.Idx),
      k0_pay5 xh j = ∑ k : Fin 832, xh (ix2 k (j 1)) := by
    intro xh j; pointwise [k0_pay5]
  refine fold_rows (fun n h => (outsAt0 m c n (hlt h)).2.2.1) (fun n j => ∑ k : Fin 832,
    k0_pay10 (iblk m c 1 ⟨4 * n.val + 3, hlt (by omega)⟩) (outsAt0 m c (4 * n.val + 3) (hlt (by omega))).2.2.2 (ix2 k (j 1)))
    (fun n h hn => keep m c ⟨n, hlt h⟩ hn) (fun i => ?_) (fun n hn i => ?_) j
  · exact (congrFun ((at_last m c ⟨3, hlt (by omega)⟩ rfl).2.1 (by show 3 < 4; omega)) i).trans (hpay0 _ i)
  · exact (congrFun ((at_last m c ⟨4 * n.val + 3, hlt (by omega)⟩ (by show (4 * n.val + 3) % 4 = 3; omega)).2.2
      (by show ¬4 * n.val + 3 < 4; omega)) i).trans (hpay _ _ i)

theorem final_dg (c : Dev nD) : (dats m 0 c).arrAt 8 (cfgs 0).N =
    gainRow (V m c main_v16) (V m c main_v24) (V m c main_v26) (V m c main_v18) (V m c main_v20) := by
  refine (dats m 0 c).arrAt_eq_of_after_last 8 last (by decide +kernel) _ fun j => ?_
  blk_simp
  rw [after0_8]
  refine (dg_last m c j).trans ?_
  unfold gainRow
  exact (Finset.sum_congr rfl fun n _ => row_sum m c n (j 1)).trans (Fin.sum_mul_add_congr fun t k hl => rfl)

end Cert.FfnKernelIdeal.Value
end
-- ==== Proof.FfnRef.lean ====
module
public import proofs.«01_k».proof.Proof.Gen.FfnReferenceIdeal.Read
public import Idealize.ShloMosaic.Lib.Pipeline.ValueKit
public import proofs.«01_k».proof.Proof.NormMath
@[expose] public section
/-! The reference of the feed-forward gradient, read at an index. -/
set_option maxRecDepth 16384
noncomputable section
open Idealize.ShloMosaic Idealize.ShloMosaic.TcCoe Idealize.SL.Sem
namespace Cert.FfnReferenceIdeal.Read
open Cert.FfnReferenceIdeal Cert.FfnReferenceIdeal.Gen Cert.NormMath

/-- The pre-activation. -/
def hp (x0 : FVec Ideal S4112x1024 .f32) (x1 : FVec Ideal S1024 .f32) (x2 : FVec Ideal S1024x4096 .f32) (i : Fin 4112)
    (k : Fin 4096) : EReal :=
  ∑ a : Fin 1024, x0 (ix2 i a) * Ideal.rsqrt (msq fun a => x0 (ix2 i a)) * x1 (ix1 a) * x2 (ix2 a k)

/-- The pre-activation's cotangent. -/
def dhp (x0 : FVec Ideal S4112x1024 .f32) (x1 : FVec Ideal S1024 .f32) (x2 : FVec Ideal S1024x4096 .f32)
    (x3 : FVec Ideal S4096x1024 .f32) (x4 : FVec Ideal S4112x1024 .f32) (i : Fin 4112)
    (k : Fin 4096) : EReal :=
  (∑ a : Fin 1024, x4 (ix2 i a) * x3 (ix2 k a)) * (Ideal.ofBits .f32 0x40000000#32 * max (hp x0 x1 x2 i k) 0)

/-- The normalised rows' cotangent. -/
def duR (x0 : FVec Ideal S4112x1024 .f32) (x1 : FVec Ideal S1024 .f32) (x2 : FVec Ideal S1024x4096 .f32)
    (x3 : FVec Ideal S4096x1024 .f32) (x4 : FVec Ideal S4112x1024 .f32) (i : Fin 4112)
    (a : Fin 1024) : EReal :=
  ∑ k : Fin 4096, dhp x0 x1 x2 x3 x4 i k * x2 (ix2 a k)

/-- The squared relu's two product-rule terms, under the relu's derivative, are twice the relu times the cotangent. -/
theorem relu_slope (x y : EReal) :
    (if 0 < x then max x 0 * y + y * max x 0 else 0) = y * (Ideal.ofBits .f32 0x40000000#32 * max x 0) := by
  have h2 : Ideal.ofBits .f32 0x40000000#32 = ((2 : ℝ) : EReal) := by
    simp [Ideal.ofBits, Ideal.ieee, -EReal.coe_mul]; norm_num
  have two : ∀ y : EReal, y + y = ((2 : ℝ) : EReal) * y := fun y => by
    rw [show ((2 : ℝ) : EReal) = 1 + 1 by rw [← EReal.coe_one, ← EReal.coe_add]; norm_num,
      EReal.right_distrib_of_nonneg (by norm_num) (by norm_num), one_mul]
  rw [h2]
  by_cases h : 0 < x
  · rw [if_pos h, mul_comm y (max x 0), two]; ac_rfl
  · rw [if_neg h, max_eq_right (not_lt.mp h)]; simp

theorem ref28 (x0 : FVec Ideal S4112x1024 .f32) (x1 : FVec Ideal S1024 .f32) (x2 : FVec Ideal S1024x4096 .f32)
    (x3 : FVec Ideal S4096x1024 .f32) (x4 : FVec Ideal S4112x1024 .f32)
    (i : Fin 4112) (k : Fin 4096) : val_main_v28 (F := Ideal) x0 x1 x2 x3 x4 (ix2 i k) = dhp x0 x1 x2 x3 x4 i k := by
  unfold dhp
  rw [← relu_slope]
  pointwise [val_main_v28, val_main_v27, val_main_cst_5, val_main_v26, val_main_v25, val_main_v24, val_main_v23, val_main_v19,
    val_main_v18, val_main_cst_3, val_main_v17, val_main_call0_v0, val_main_call0_cst, val_main_v16, val_main_v15, val_main_v14,
    val_main_v13, val_main_v0, val_main_cst, val_main_v1, val_main_v2, val_main_cst_0, val_main_v3, val_main_v4, val_main_cst_1, val_main_v5,
    val_main_v6, val_main_v7, val_main_v11, val_main_v12, hp, msq]

theorem ref29 (x0 : FVec Ideal S4112x1024 .f32) (x1 : FVec Ideal S1024 .f32) (x2 : FVec Ideal S1024x4096 .f32)
    (x3 : FVec Ideal S4096x1024 .f32) (x4 : FVec Ideal S4112x1024 .f32)
    (i : Fin 4112) (a : Fin 1024) : val_main_v29 (F := Ideal) x0 x1 x2 x3 x4 (ix2 i a) = duR x0 x1 x2 x3 x4 i a := by
  have h : ∀ i k, val_main_v28 (F := Ideal) x0 x1 x2 x3 x4 (ix2 i k) = dhp x0 x1 x2 x3 x4 i k := ref28 x0 x1 x2 x3 x4
  unfold val_main_v29 duR
  generalize val_main_v28 (F := Ideal) x0 x1 x2 x3 x4 = z at h
  pointwise
  simp only [h]

theorem ref50 (x0 : FVec Ideal S4112x1024 .f32) (x1 : FVec Ideal S1024 .f32) (x2 : FVec Ideal S1024x4096 .f32)
    (x3 : FVec Ideal S4096x1024 .f32) (x4 : FVec Ideal S4112x1024 .f32)
    (i : Fin 4112) (j : Fin 1024) : val_main_v50 (F := Ideal) x0 x1 x2 x3 x4 (ix2 i j)
      = x4 (ix2 i j) + rowGrad (fun k => x0 (ix2 i k)) (fun k => duR x0 x1 x2 x3 x4 i k * x1 (ix1 k)) j := by
  have h : ∀ i k, val_main_v29 (F := Ideal) x0 x1 x2 x3 x4 (ix2 i k) = duR x0 x1 x2 x3 x4 i k := ref29 x0 x1 x2 x3 x4
  rw [rowGrad_eq]
  unfold val_main_v50 val_main_v49 val_main_v48 val_main_v47 val_main_v46 val_main_v45 val_main_v44 val_main_v43 val_main_v41
    val_main_v40 val_main_v38 val_main_v37 val_main_v36 val_main_v34
  generalize val_main_v29 (F := Ideal) x0 x1 x2 x3 x4 = z at h
  pointwise [val_main_cst_8, val_main_cst_9, val_main_cst_10, val_main_v42, val_main_v39, val_main_v33, val_main_v13, val_main_v10,
    val_main_v9, val_main_v8, val_main_cst_2, val_main_v0, val_main_cst, val_main_v1, val_main_v2, val_main_cst_0, val_main_v3, val_main_v4, val_main_cst_1, val_main_v5,
    val_main_v6, val_main_v7, val_main_v11, val_main_v12,
    NormMath.slope, msq]
  simp only [h]
  simp only [zero_add, add_assoc, Fin.sum_univ_one, Finset.univ_unique, Finset.sum_singleton]

theorem ref52 (x0 : FVec Ideal S4112x1024 .f32) (x1 : FVec Ideal S1024 .f32) (x2 : FVec Ideal S1024x4096 .f32)
    (x3 : FVec Ideal S4096x1024 .f32) (x4 : FVec Ideal S4112x1024 .f32)
    (i : Fin 4160) (j : Fin 1024) : val_main_v52 (F := Ideal) x0 x1 x2 x3 x4 (ix2 i j)
      = if h : i.val < 48 then 0 else x4 (ix2 ⟨i.val - 48, by omega⟩ j)
          + rowGrad (fun k => x0 (ix2 ⟨i.val - 48, by omega⟩ k)) (fun k => duR x0 x1 x2 x3 x4 ⟨i.val - 48, by omega⟩ k * x1 (ix1 k)) j := by
  have hp := fun h => ref50 x0 x1 x2 x3 x4 ⟨i.val - 48, h⟩ j
  pointwise [val_main_v52, val_main_v51, val_main_cst_11]
  simp only [hp]

theorem ref55 (x0 : FVec Ideal S4112x1024 .f32) (x1 : FVec Ideal S1024 .f32) (x2 : FVec Ideal S1024x4096 .f32)
    (x3 : FVec Ideal S4096x1024 .f32) (x4 : FVec Ideal S4112x1024 .f32)
    (i : Fin 4160) (j : Fin 4096) : val_main_v55 (F := Ideal) x0 x1 x2 x3 x4 (ix2 i j)
      = if h : i.val < 48 then (0 : EReal) else dhp x0 x1 x2 x3 x4 ⟨i.val - 48, by omega⟩ j := by
  have hp := fun h => ref28 x0 x1 x2 x3 x4 ⟨i.val - 48, h⟩ j
  pointwise [val_main_v55, val_main_v54, val_main_v53, val_main_cst_12]
  simp only [hp]

theorem ref56 (x0 : FVec Ideal S4112x1024 .f32) (x1 : FVec Ideal S1024 .f32) (x2 : FVec Ideal S1024x4096 .f32)
    (x3 : FVec Ideal S4096x1024 .f32) (x4 : FVec Ideal S4112x1024 .f32)
    (j : Fin 1024) : val_main_v56 (F := Ideal) x0 x1 x2 x3 x4 (ix2 0 j)
      = ∑ i : Fin 4112, duR x0 x1 x2 x3 x4 i j * (x0 (ix2 i j) * Ideal.rsqrt (msq fun k => x0 (ix2 i k))) := by
  have h : ∀ i k, val_main_v29 (F := Ideal) x0 x1 x2 x3 x4 (ix2 i k) = duR x0 x1 x2 x3 x4 i k := ref29 x0 x1 x2 x3 x4
  unfold val_main_v56 val_main_v35 val_main_v32 val_main_v31 val_main_v30
  generalize val_main_v29 (F := Ideal) x0 x1 x2 x3 x4 = z at h
  pointwise [val_main_cst_7, val_main_cst_6, val_main_v0, val_main_cst, val_main_v1, val_main_v2, val_main_cst_0, val_main_v3, val_main_v4, val_main_cst_1, val_main_v5,
    val_main_v6, val_main_v7, val_main_v11, val_main_v12, msq]
  simp only [h]
  simp only [zero_add, Fin.sum_univ_one, Finset.univ_unique, Finset.sum_singleton]
  exact Finset.sum_congr rfl fun i _ => mul_comm _ _

end Cert.FfnReferenceIdeal.Read
end
-- ==== Proof.FfnValue.lean ====
module
public import proofs.«01_k».proof.Proof.FfnGain
public import proofs.«01_k».proof.Proof.FfnRef
@[expose] public section
/-! The feed-forward gradient's three result arrays after the run are the reference's terms. -/
set_option maxRecDepth 16384
noncomputable section
open Idealize.ShloMosaic Idealize.ShloMosaic.TcCoe Idealize.SL.Sem
open Idealize.ShloMosaic.Pipeline (Dat)
namespace Cert.FfnKernelIdeal.Value
open Cert.FfnKernelIdeal Cert.FfnKernelIdeal.Gen Cert.NormMath
variable (m : (ℓ : Loc nD τ sig) → Buf (Elt Ideal) ℓ)

theorem dact_eq (c : Dev nD) (i : Fin 4160) (s : Fin 4) (k : Fin 1024) :
    dact (V m c main_v16) (V m c main_v26) (V m c main_v18) i s k = if h : i.val < 48 then (0 : EReal) else
      Cert.FfnReferenceIdeal.Read.dhp (m ((c : Thread nD τ).loc main_arg0)) (m ((c : Thread nD τ).loc main_arg1)) (m ((c : Thread nD τ).loc main_arg2))
      (m ((c : Thread nD τ).loc main_arg3)) (m ((c : Thread nD τ).loc main_arg4)) ⟨i.val - 48, by omega⟩ ⟨s.val * 1024 + k.val, by omega⟩ := by
  by_cases h : i.val < 48
  · rw [dif_pos h]
    refine (congrArg (· * _) (Finset.sum_eq_zero fun a _ => ?_)).trans (zero_mul _)
    exact (congrArg (· * (show EReal from V m c main_v26 (ix3 s k a))) ((entry18 m c i a).trans (dif_pos h))).trans (zero_mul _)
  · rw [dif_neg h]
    exact congrArg₂ (· * ·) (Finset.sum_congr rfl fun a _ => congrArg₂ (· * ·) ((entry18 m c i a).trans (dif_neg h)) (entry26 m c s k a))
      (congrArg (fun x => Ideal.ofBits .f32 0x40000000#32 * max x 0) ((entry16 m c i _).trans (dif_neg h)))

theorem du_eq (c : Dev nD) (i : Fin 4160) (a : Fin 1024) : du (V m c main_v16) (V m c main_v24) (V m c main_v26) (V m c main_v18) i a
    = if h : i.val < 48 then (0 : EReal) else
      Cert.FfnReferenceIdeal.Read.duR (m ((c : Thread nD τ).loc main_arg0)) (m ((c : Thread nD τ).loc main_arg1)) (m ((c : Thread nD τ).loc main_arg2))
      (m ((c : Thread nD τ).loc main_arg3)) (m ((c : Thread nD τ).loc main_arg4)) ⟨i.val - 48, by omega⟩ a := by
  by_cases h : i.val < 48
  · rw [dif_pos h]
    refine Finset.sum_eq_zero fun s _ => Finset.sum_eq_zero fun k _ => ?_
    exact (congrArg (· * (show EReal from V m c main_v24 (ix3 s a k))) ((dact_eq m c i s k).trans (dif_pos h))).trans (zero_mul _)
  · rw [dif_neg h]
    refine Fin.sum_mul_add_congr fun s k hl => ?_
    exact congrArg₂ (· * ·) ((dact_eq m c i s k).trans (dif_neg h)) (entry24 m c s a k)

theorem value6 (c : Dev nD) : (dats m 0 c).arrAt 6 (cfgs 0).N = Cert.FfnReferenceIdeal.Read.val_main_v52 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) := by
  rw [final_dhi]
  funext i
  idx_vars i
  refine Eq.trans ?_ (Cert.FfnReferenceIdeal.Read.ref52 _ _ _ _ _ i0 i1).symm
  show (if 48 ≤ i0.val then (show EReal from V m c main_v18 (ix2 i0 i1)) + rowGrad (fun k => V m c main_v20 (ix2 i0 k))
    (fun k => du (V m c main_v16) (V m c main_v24) (V m c main_v26) (V m c main_v18) i0 k * (show EReal from V m c main_v21 (ix2 0 k))) i1 else 0) = _
  by_cases h : i0.val < 48
  · rw [dif_pos h, if_neg (by omega)]
  · rw [dif_neg h, if_pos (by omega)]
    exact congrArg₂ (· + ·) ((entry18 m c i0 i1).trans (dif_neg h))
      (congrArg₂ (fun a b => rowGrad a b i1) (funext fun k => (entry20 m c i0 k).trans (dif_neg h))
        (funext fun k => congrArg₂ (· * ·) ((du_eq m c i0 k).trans (dif_neg h)) (entry21 m c k)))

theorem value7 (c : Dev nD) : (dats m 0 c).arrAt 7 (cfgs 0).N = Cert.FfnReferenceIdeal.Read.val_main_v55 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) := by
  rw [final_dhp]
  funext i
  idx_vars i
  refine Eq.trans ?_ (Cert.FfnReferenceIdeal.Read.ref55 _ _ _ _ _ i0 i1).symm
  refine (dact_eq m c i0 _ _).trans ?_
  have hk : (⟨i1.val / 1024 * 1024 + i1.val % 1024, by omega⟩ : Fin 4096) = i1 := Fin.ext (by show i1.val / 1024 * 1024 + i1.val % 1024 = i1.val; omega)
  exact congrArg (fun k => if h : i0.val < 48 then (0 : EReal) else
    Cert.FfnReferenceIdeal.Read.dhp (m ((c : Thread nD τ).loc main_arg0)) (m ((c : Thread nD τ).loc main_arg1)) (m ((c : Thread nD τ).loc main_arg2))
      (m ((c : Thread nD τ).loc main_arg3)) (m ((c : Thread nD τ).loc main_arg4)) ⟨i0.val - 48, by omega⟩ k) hk

theorem value8 (c : Dev nD) : (dats m 0 c).arrAt 8 (cfgs 0).N = Cert.FfnReferenceIdeal.Read.val_main_v56 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) := by
  rw [final_dg]
  funext i
  idx_vars i
  obtain rfl : i0 = 0 := Subsingleton.elim _ _
  refine Eq.trans ?_ (Cert.FfnReferenceIdeal.Read.ref56 _ _ _ _ _ i1).symm
  show (∑ i : Fin 4160, du (V m c main_v16) (V m c main_v24) (V m c main_v26) (V m c main_v18) i i1
    * ((show EReal from V m c main_v20 (ix2 i i1)) * Ideal.rsqrt (msq fun k => V m c main_v20 (ix2 i k)))) = _
  refine (Fin.sum_univ_add (a := 48) (b := 4112) _).trans ?_
  refine Eq.trans (congrArg₂ (· + ·) (Finset.sum_eq_zero fun k _ => ?_) (Finset.sum_congr rfl fun k _ => ?_)) (zero_add _)
  · rw [du_eq, dif_pos (by simp)]; exact zero_mul _
  · have hk : ¬ (Fin.natAdd 48 k).val < 48 := by simp
    have hv : (⟨(Fin.natAdd 48 k).val - 48, by have := (Fin.natAdd 48 k).isLt; simp at this ⊢⟩ : Fin 4112) = k := Fin.ext (by simp)
    have hH : ∀ a, (show EReal from V m c main_v20 (ix2 (Fin.natAdd 48 k) a)) = m ((c : Thread nD τ).loc main_arg0) (ix2 k a) :=
      fun a => ((entry20 m c (Fin.natAdd 48 k) a).trans (dif_neg hk)).trans (by rw [hv])
    exact congrArg₂ (· * ·) (((du_eq m c (Fin.natAdd 48 k) i1).trans (dif_neg hk)).trans (by rw [hv]))
      (congrArg₂ (· * ·) (hH i1) (congrArg (fun a => Ideal.rsqrt (msq a)) (funext hH)))

end Cert.FfnKernelIdeal.Value
end
-- ==== Proof.FfnClaim.lean ====
module
public import proofs.«01_k».proof.Defs
public import proofs.«01_k».proof.Proof.Gen.FfnKernel
public import proofs.«01_k».proof.Proof.Gen.FfnKernelIdeal
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.FfnValue
@[expose] public section
/-! The five claims of the feed-forward gradient. -/
set_option maxRecDepth 16384
noncomputable section
open Idealize.ShloMosaic Idealize.ShloMosaic.TcCoe Idealize.SL.Sem
namespace Cert.Ffn

theorem frame : Cert.quiescent_FfnKernel := by
  intro m ρ _
  refine cast ?_ (Cert.FfnKernelIdeal.Gen.frame (F := Bits) m ρ)
  sl_kernel_rfl

theorem frameIdeal : Cert.quiescent_FfnKernelIdeal := fun m ρ _ => Cert.FfnKernelIdeal.Gen.frame m ρ

theorem frameRef : Cert.quiescent_FfnReferenceIdeal := by
  intro m g _
  exact (θ_run _ _ _).mono (fun r h => ⟨fun c => (h c).2.2.2,
    sem_eq_zero_of_no_sems (sig := Cert.FfnReferenceIdeal.sig) rfl r.2⟩) (Cert.FfnReferenceIdeal.Value.run m g)

set_option maxHeartbeats 1600000 in
theorem algebraic : Cert.algebraic_FfnKernelIdeal_FfnReferenceIdeal := by
  pair_intro
  · run_from Cert.FfnKernelIdeal.Gen.run_main m g
  · run_from Cert.FfnReferenceIdeal.Value.run m' g'
    · obtain ⟨h0, h1, h2, h3, h4⟩ := hagree c
      rw [Cert.FfnReferenceIdeal.Read.val_main_v52_eq, h0, h1, h2, h3, h4]
      exact (Cert.FfnKernelIdeal.Value.value6 m c).symm
    · obtain ⟨h0, h1, h2, h3, h4⟩ := hagree c
      refine (Cert.FfnReferenceIdeal.Read.val_main_v55_eq _ _ _ _ _).trans ?_
      rw [h4]
      exact (Cert.FfnKernelIdeal.Value.value7 m c).symm
    · obtain ⟨h0, h1, h2, h3, h4⟩ := hagree c
      rw [Cert.FfnReferenceIdeal.Read.val_main_v56_eq, h0, h1, h2, h3, h4]
      exact (Cert.FfnKernelIdeal.Value.value8 m c).symm

end Cert.Ffn
end
-- ==== Proof.HeadPoint.lean ====
module
public import proofs.«01_k».proof.Proof.Gen.HeadKernelIdeal.Value
public import Idealize.ShloMosaic.Lib.Pipeline.ValueKit
public import proofs.«01_k».proof.Proof.NormMath
@[expose] public section
/-! The input gradient's head call: its two result arrays after the run, over the windows' arrays. -/
set_option maxRecDepth 16384
noncomputable section
open Idealize.ShloMosaic Idealize.ShloMosaic.TcCoe Idealize.SL.Sem
open Idealize.ShloMosaic.Pipeline (Dat)
namespace Cert.HeadKernelIdeal.Value
open Cert.HeadKernelIdeal Cert.HeadKernelIdeal.Gen Cert.NormMath
variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- The cotangent of the normalised rows, the contraction in the kernel's three column chunks. -/
def du (Z : FVec Ideal S4160x1536 .bf16) (W : FVec Ideal S1024x1536 .bf16) (i : Fin 4160) (a : Fin 1024) : EReal :=
  ∑ k : Fin 512, Z (ix2 i ⟨k.val, by omega⟩) * W (ix2 a ⟨k.val, by omega⟩)
    + ∑ k : Fin 512, Z (ix2 i ⟨512 + k.val, by omega⟩) * W (ix2 a ⟨512 + k.val, by omega⟩)
    + ∑ k : Fin 512, Z (ix2 i ⟨1024 + k.val, by omega⟩) * W (ix2 a ⟨1024 + k.val, by omega⟩)

/-- The gradient row: the residual stream's cotangent plus the norm's, and zero in the padding rows. -/
def gradRow (Z : FVec Ideal S4160x1536 .bf16) (W : FVec Ideal S1024x1536 .bf16) (H : FVec Ideal S4160x1024 .f32)
    (G : FVec Ideal S1x1024 .f32) (D : FVec Ideal S4160x1024 .f32) : FVec Ideal S64x1024 .f32 := fun i =>
  if 48 ≤ (i 0).val then D (ix2 ⟨(i 0).val, by have := (i 0).isLt; simp at this; omega⟩ (i 1))
    + rowGrad (fun k => H (ix2 ⟨(i 0).val, by have := (i 0).isLt; simp at this; omega⟩ k))
      (fun k => du Z W ⟨(i 0).val, by have := (i 0).isLt; simp at this; omega⟩ k * G (ix2 0 k)) (i 1) else 0

theorem row_mask : ∀ y : Fin 64, IntOp.cmpi CmpIPredicate.sge (IntOp.addi 0#32 (BitVec.ofNat 32 y.val)) 48#32 = if 48 ≤ y.val then 1#1 else 0#1 := by
  decide +kernel

theorem final5 (c : Dev nD) : (dats m 0 c).arrAt 5 (cfgs 0).N =
    gradRow (V m c main_v2) (V m c main_v3) (V m c main_v5) (V m c main_v6) (V m c main_v8) := by
  refine (dats m 0 c).arrAt_eq_of_covers 5 _ (by decide +kernel) fun t hf y => ?_
  blk_simp
  rw [after0_5]
  have key : ∀ (b : Prop) [Decidable b] (x z : EReal), (b → x = z) →
      Scalar.select (if b then 1#1 else 0#1) x 0 = if b then z else 0 := fun b _ x z hx => by
    by_cases hb : b
    · simp [Scalar.select, hb, hx hb]
    · simp [Scalar.select, hb]
  frame_out
  idx_vars y
  pointwise [k0_pay1, k0_pay2, k0_pay3, k0_pay4, k0_pay5, k0_pay6, k0_pay7, k0_pay8, k0_pay9, gradRow, rowGrad, msq, du]
  rw [row_mask]
  blk_simp [idx t]
  refine key _ _ _ fun _ => ?_
  blk_point [iblk, idx t]

/-- The gain's gradient over the head rows: the sum of the cotangent times the normalised row. -/
def gainRow (Z : FVec Ideal S4160x1536 .bf16) (W : FVec Ideal S1024x1536 .bf16) (H : FVec Ideal S4160x1024 .f32) :
    FVec Ideal S1x1024 .f32 := fun j =>
  ∑ i : Fin 64, du Z W ⟨i.val, by omega⟩ (j 1) * (H (ix2 ⟨i.val, by omega⟩ (j 1)) * Ideal.rsqrt (msq fun k => H (ix2 ⟨i.val, by omega⟩ k)))

theorem final6 (c : Dev nD) : (dats m 0 c).arrAt 6 (cfgs 0).N = gainRow (V m c main_v2) (V m c main_v3) (V m c main_v5) := by
  refine (dats m 0 c).arrAt_eq_of_covers 6 _ (by decide +kernel) fun t hf y => ?_
  blk_simp
  rw [after0_6]
  frame_out
  idx_vars y
  pointwise [k0_pay1, k0_pay3, k0_pay4, k0_pay5, k0_pay6, k0_pay9, gainRow, msq, du]
  blk_simp [idx t]
  refine Finset.sum_congr (M := EReal) rfl fun k _ => ?_
  blk_point [iblk, idx t]

theorem entry0 (c : Dev nD) (i : Fin 4160) (k : Fin 1536) : V m c main_v2 (ix2 i k)
    = if h' : i.val < 48 then (0 : EReal) else m ((c : Thread nD τ).loc main_arg3) (ix2 ⟨i.val - 48, by omega⟩ k) := by
  entry_read
  pointwise
theorem entry1 (c : Dev nD) (i : Fin 1024) (k : Fin 1536) : V m c main_v3 (ix2 i k) = m ((c : Thread nD τ).loc main_arg2) (ix2 i k) := by
  entry_read
  pointwise
theorem entry2 (c : Dev nD) (i : Fin 4160) (k : Fin 1024) : V m c main_v5 (ix2 i k)
    = if h' : i.val < 48 then (0 : EReal) else m ((c : Thread nD τ).loc main_arg0) (ix2 ⟨i.val - 48, by omega⟩ k) := by
  entry_read
  pointwise
theorem entry3 (c : Dev nD) (k : Fin 1024) : V m c main_v6 (ix2 0 k) = m ((c : Thread nD τ).loc main_arg1) (ix1 k) := by
  entry_read
  pointwise
theorem entry4 (c : Dev nD) (i : Fin 4160) (k : Fin 1024) : V m c main_v8 (ix2 i k)
    = if h' : i.val < 48 then (0 : EReal) else m ((c : Thread nD τ).loc main_arg4) (ix2 ⟨i.val - 48, by omega⟩ k) := by
  entry_read
  pointwise

end Cert.HeadKernelIdeal.Value
end
-- ==== Proof.HeadRef.lean ====
module
public import proofs.«01_k».proof.Proof.Gen.HeadReferenceIdeal.Read
public import Idealize.ShloMosaic.Lib.Pipeline.ValueKit
public import proofs.«01_k».proof.Proof.NormMath
@[expose] public section
/-! The reference of the input gradient over the head rows, read at an index. -/
set_option maxRecDepth 16384
noncomputable section
open Idealize.ShloMosaic Idealize.ShloMosaic.TcCoe Idealize.SL.Sem
namespace Cert.HeadReferenceIdeal.Read
open Cert.HeadReferenceIdeal Cert.HeadReferenceIdeal.Gen Cert.NormMath

/-- The cotangent of the normalised rows: the product with the transposed weight. -/
def duR (x2 : FVec Ideal S1024x1536 .f32) (x3 : FVec Ideal S4112x1536 .f32) (i : Fin 4112) (a : Fin 1024) : EReal :=
  ∑ k : Fin 1536, x3 (ix2 i k) * x2 (ix2 a k)

theorem ref41 (x0 : FVec Ideal S4112x1024 .f32) (x1 : FVec Ideal S1024 .f32) (x2 : FVec Ideal S1024x1536 .f32)
    (x3 : FVec Ideal S4112x1536 .f32) (x4 : FVec Ideal S4112x1024 .f32) (i : Fin 16) (j : Fin 1024) :
    val_main_v41 (F := Ideal) x0 x1 x2 x3 x4 (ix2 i j)
      = x4 (ix2 ⟨i.val, by omega⟩ j) + rowGrad (fun k => x0 (ix2 ⟨i.val, by omega⟩ k)) (fun k => duR x2 x3 ⟨i.val, by omega⟩ k * x1 (ix1 k)) j := by
  rw [rowGrad_eq]
  pointwise [val_main_v41, val_main_v40, val_main_v39, val_main_v38, val_main_v37, val_main_v36, val_main_v35, val_main_v34,
    val_main_v33, val_main_v32, val_main_v31, val_main_v30, val_main_v29, val_main_v28, val_main_v27, val_main_v25, val_main_v24,
    val_main_v20, val_main_v19, val_main_v18, val_main_v14, val_main_v11, val_main_v10, val_main_v9,
    val_main_cst_2, val_main_cst_5, val_main_cst_6, val_main_cst_7, val_main_v0, val_main_v1, val_main_cst, val_main_v2, val_main_v3, val_main_cst_0, val_main_v4, val_main_v5, val_main_cst_1,
    val_main_v6, val_main_v7, val_main_v8,
    NormMath.slope, msq, duR]
  simp only [zero_add, add_assoc, Fin.sum_univ_one, Finset.univ_unique, Finset.sum_singleton]

theorem ref26 (x0 : FVec Ideal S4112x1024 .f32) (x2 : FVec Ideal S1024x1536 .f32) (x3 : FVec Ideal S4112x1536 .f32) (j : Fin 1024) :
    val_main_v26 (F := Ideal) x0 x2 x3 (ix1 j)
      = ∑ i : Fin 16, duR x2 x3 ⟨i.val, by omega⟩ j * (x0 (ix2 ⟨i.val, by omega⟩ j) * Ideal.rsqrt (msq fun k => x0 (ix2 ⟨i.val, by omega⟩ k))) := by
  pointwise [val_main_v26, val_main_v23, val_main_v22, val_main_v21, val_main_v20, val_main_v19, val_main_v13, val_main_v12,
    val_main_cst_3, val_main_cst_4, val_main_v0, val_main_v1, val_main_cst, val_main_v2, val_main_v3, val_main_cst_0, val_main_v4, val_main_v5, val_main_cst_1,
    val_main_v6, val_main_v7, val_main_v8, msq, duR]
  simp only [zero_add, Fin.sum_univ_one, Finset.univ_unique, Finset.sum_singleton]
  exact Finset.sum_congr rfl fun i _ => mul_comm _ _

theorem ref43 (x0 : FVec Ideal S4112x1024 .f32) (x1 : FVec Ideal S1024 .f32) (x2 : FVec Ideal S1024x1536 .f32)
    (x3 : FVec Ideal S4112x1536 .f32) (x4 : FVec Ideal S4112x1024 .f32) (i : Fin 64) (j : Fin 1024) :
    val_main_v43 (F := Ideal) x0 x1 x2 x3 x4 (ix2 i j)
      = if h : i.val < 48 then 0 else x4 (ix2 ⟨i.val - 48, by omega⟩ j)
          + rowGrad (fun k => x0 (ix2 ⟨i.val - 48, by omega⟩ k)) (fun k => duR x2 x3 ⟨i.val - 48, by omega⟩ k * x1 (ix1 k)) j := by
  have hp := fun h => ref41 x0 x1 x2 x3 x4 ⟨i.val - 48, h⟩ j
  pointwise [val_main_v43, val_main_v42, val_main_cst_8]
  simp only [hp]

theorem ref44 (x0 : FVec Ideal S4112x1024 .f32) (x2 : FVec Ideal S1024x1536 .f32) (x3 : FVec Ideal S4112x1536 .f32) (j : Fin 1024) :
    val_main_v44 (F := Ideal) x0 x2 x3 (ix2 0 j)
      = ∑ i : Fin 16, duR x2 x3 ⟨i.val, by omega⟩ j * (x0 (ix2 ⟨i.val, by omega⟩ j) * Ideal.rsqrt (msq fun k => x0 (ix2 ⟨i.val, by omega⟩ k))) := by
  rw [← ref26]
  pointwise [val_main_v44]

end Cert.HeadReferenceIdeal.Read
end
-- ==== Proof.HeadValue.lean ====
module
public import proofs.«01_k».proof.Proof.HeadPoint
public import proofs.«01_k».proof.Proof.HeadRef
@[expose] public section
/-! The two result arrays of the input gradient over the head rows after the run are the reference's terms. -/
set_option maxRecDepth 16384
noncomputable section
open Idealize.ShloMosaic Idealize.ShloMosaic.TcCoe Idealize.SL.Sem
open Idealize.ShloMosaic.Pipeline (Dat)
namespace Cert.HeadKernelIdeal.Value
open Cert.HeadKernelIdeal Cert.HeadKernelIdeal.Gen Cert.NormMath
variable (m : (ℓ : Loc nD τ sig) → Buf (Elt Ideal) ℓ)

/-- A sum over the 1536 columns taken in the kernel's three chunks. -/
theorem sum_chunks (f : Fin 1536 → EReal) :
    ∑ k : Fin 512, f ⟨k.val, by omega⟩ + ∑ k : Fin 512, f ⟨512 + k.val, by omega⟩ + ∑ k : Fin 512, f ⟨1024 + k.val, by omega⟩
      = ∑ k, f k := by
  have h1 := Fin.sum_univ_add (a := 1024) (b := 512) f
  have h2 := Fin.sum_univ_add (a := 512) (b := 512) fun k => f (Fin.castAdd 512 k)
  rw [h2] at h1
  exact h1.symm

theorem du_eq (c : Dev nD) (i : Fin 4160) (a : Fin 1024) : du (V m c main_v2) (V m c main_v3) i a
    = if h : i.val < 48 then (0 : EReal) else
      Cert.HeadReferenceIdeal.Read.duR (m ((c : Thread nD τ).loc main_arg2)) (m ((c : Thread nD τ).loc main_arg3)) ⟨i.val - 48, by omega⟩ a := by
  refine (sum_chunks fun k => (show EReal from V m c main_v2 (ix2 i k)) * (show EReal from V m c main_v3 (ix2 a k))).trans ?_
  by_cases h : i.val < 48
  · rw [dif_pos h]
    exact Finset.sum_eq_zero fun k _ => (congrArg (· * (show EReal from V m c main_v3 (ix2 a k))) ((entry0 m c i k).trans (dif_pos h))).trans (zero_mul _)
  · rw [dif_neg h]
    exact Finset.sum_congr rfl fun k _ => congrArg₂ (· * ·) ((entry0 m c i k).trans (dif_neg h)) (entry1 m c a k)

theorem value5 (c : Dev nD) : (dats m 0 c).arrAt 5 (cfgs 0).N = Cert.HeadReferenceIdeal.Read.val_main_v43 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) := by
  rw [final5]
  funext i
  idx_vars i
  refine Eq.trans ?_ (Cert.HeadReferenceIdeal.Read.ref43 _ _ _ _ _ i0 i1).symm
  show (if 48 ≤ i0.val then (show EReal from V m c main_v8 (ix2 ⟨i0.val, by omega⟩ i1)) + rowGrad (fun k => V m c main_v5 (ix2 ⟨i0.val, by omega⟩ k))
    (fun k => du (V m c main_v2) (V m c main_v3) ⟨i0.val, by omega⟩ k * (show EReal from V m c main_v6 (ix2 0 k))) i1 else 0) = _
  by_cases h : i0.val < 48
  · rw [dif_pos h, if_neg (by omega)]
  · rw [dif_neg h, if_pos (by omega)]
    exact congrArg₂ (· + ·) ((entry4 m c _ i1).trans (dif_neg h))
      (congrArg₂ (fun a b => rowGrad a b i1) (funext fun k => (entry2 m c _ k).trans (dif_neg h))
        (funext fun k => congrArg₂ (· * ·) ((du_eq m c _ k).trans (dif_neg h)) (entry3 m c k)))

theorem value6 (c : Dev nD) : (dats m 0 c).arrAt 6 (cfgs 0).N = Cert.HeadReferenceIdeal.Read.val_main_v44 (F := Ideal)
    (m ((c : Thread nD τ).loc main_arg0)) (m ((c : Thread nD τ).loc main_arg2)) (m ((c : Thread nD τ).loc main_arg3)) := by
  rw [final6]
  funext i
  idx_vars i
  obtain rfl : i0 = 0 := Subsingleton.elim _ _
  refine Eq.trans ?_ (Cert.HeadReferenceIdeal.Read.ref44 _ _ _ i1).symm
  show (∑ i : Fin 64, du (V m c main_v2) (V m c main_v3) ⟨i.val, by omega⟩ i1
    * ((show EReal from V m c main_v5 (ix2 ⟨i.val, by omega⟩ i1)) * Ideal.rsqrt (msq fun k => V m c main_v5 (ix2 ⟨i.val, by omega⟩ k)))) = _
  refine (Fin.sum_univ_add (a := 48) (b := 16) _).trans ?_
  refine Eq.trans (congrArg₂ (· + ·) (Finset.sum_eq_zero fun k _ => ?_) (Finset.sum_congr rfl fun k _ => ?_)) (zero_add _)
  · rw [du_eq, dif_pos (by simp)]; exact zero_mul _
  · have hk : ¬ (⟨(Fin.natAdd 48 k).val, by have := (Fin.natAdd 48 k).isLt; omega⟩ : Fin 4160).val < 48 := by simp
    have hv : (⟨(Fin.natAdd 48 k).val - 48, by have := (Fin.natAdd 48 k).isLt; omega⟩ : Fin 4112) = ⟨k.val, by omega⟩ := Fin.ext (by simp)
    have hH : ∀ a, (show EReal from V m c main_v5 (ix2 ⟨(Fin.natAdd 48 k).val, by have := (Fin.natAdd 48 k).isLt; omega⟩ a)) = m ((c : Thread nD τ).loc main_arg0) (ix2 ⟨k.val, by omega⟩ a) :=
      fun a => ((entry2 m c _ a).trans (dif_neg hk)).trans (by rw [hv])
    exact congrArg₂ (· * ·) (((du_eq m c _ i1).trans (dif_neg hk)).trans (by rw [hv]))
      (congrArg₂ (· * ·) (hH i1) (congrArg (fun a => Ideal.rsqrt (msq a)) (funext hH)))

end Cert.HeadKernelIdeal.Value
end
-- ==== Proof.HeadClaim.lean ====
module
public import proofs.«01_k».proof.Defs
public import proofs.«01_k».proof.Proof.Gen.HeadKernel
public import proofs.«01_k».proof.Proof.Gen.HeadKernelIdeal
public import proofs.«01_k».proof.Proof.Gen.HeadReferenceIdeal
public import proofs.«01_k».proof.Proof.Gen.HeadReferenceIdeal.Run
public import proofs.«01_k».proof.Proof.Gen.HeadReferenceIdeal.Read
public import proofs.«01_k».proof.Proof.HeadValue
@[expose] public section
/-! The five claims of the the input gradient over the head rows. -/
set_option maxRecDepth 16384
noncomputable section
open Idealize.ShloMosaic Idealize.ShloMosaic.TcCoe Idealize.SL.Sem
namespace Cert.Head

theorem frame : Cert.quiescent_HeadKernel := by
  intro m ρ _
  refine cast ?_ (Cert.HeadKernelIdeal.Gen.frame (F := Bits) m ρ)
  sl_kernel_rfl

theorem frameIdeal : Cert.quiescent_HeadKernelIdeal := fun m ρ _ => Cert.HeadKernelIdeal.Gen.frame m ρ

theorem frameRef : Cert.quiescent_HeadReferenceIdeal := by
  intro m g _
  exact (θ_run _ _ _).mono (fun r h => ⟨fun c => (h c).2.2,
    sem_eq_zero_of_no_sems (sig := Cert.HeadReferenceIdeal.sig) rfl r.2⟩) (Cert.HeadReferenceIdeal.Value.run m g)

theorem algebraic : Cert.algebraic_HeadKernelIdeal_HeadReferenceIdeal := by
  pair_intro
  · run_from Cert.HeadKernelIdeal.Gen.run_main m g
  · run_from Cert.HeadReferenceIdeal.Value.run m' g'
    · obtain ⟨h0, h1, h2, h3, h4⟩ := hagree c
      rw [Cert.HeadReferenceIdeal.Read.val_main_v43_eq, h0, h1, h2, h3, h4]
      exact (Cert.HeadKernelIdeal.Value.value5 m c).symm
    · exact (Cert.HeadReferenceIdeal.Read.val_main_v44_eq _ _ _).trans (Cert.HeadKernelIdeal.Value.value6 m c).symm

end Cert.Head
end
-- ==== Proof.RestPoint.lean ====
module
public import proofs.«01_k».proof.Proof.Gen.RestKernelIdeal.Value
public import Idealize.ShloMosaic.Lib.Pipeline.ValueKit
public import proofs.«01_k».proof.Proof.NormMath
@[expose] public section
/-! The input gradient's main call: its two result arrays after the run, over the windows' arrays. -/
set_option maxRecDepth 16384
noncomputable section
open Idealize.ShloMosaic Idealize.ShloMosaic.TcCoe Idealize.SL.Sem
open Idealize.ShloMosaic.Pipeline (Dat)
namespace Cert.RestKernelIdeal.Value
open Cert.RestKernelIdeal Cert.RestKernelIdeal.Gen Cert.NormMath
variable (m : (ℓ : Loc nD τ sig) → Buf (Elt Ideal) ℓ)

theorem idx : ∀ t : Fin cfg0.N, win0_0.index t = ![64 + t.val * 512, 0] ∧ win0_1.index t = ![0, 0]
    ∧ win0_2.index t = ![64 + t.val * 512, 0] ∧ win0_3.index t = ![0, 0] ∧ win0_4.index t = ![64 + t.val * 512, 0]
    ∧ win0_5.index t = ![0, 0] ∧ win0_6.index t = ![t.val, 0] ∧ win0_7.index t = ![0, 0] ∧ t.val < 8 :=
  (by decide +kernel : ∀ t : Fin grid0.N, _)

/-- Where an element of a shifted block lies in its padded array. -/
theorem emb0 (t : Fin cfg0.N) (y : S512x1536.Idx) (a : Fin 2) :
    (((View.whole main_v2).slice (win0_0.rect t)).emb y a).val = win0_0.index t a + (y a).val :=
  win0_0.rect_emb_val_off t y a
theorem emb2 (t : Fin cfg0.N) (y : S512x1024.Idx) (a : Fin 2) :
    (((View.whole main_v5).slice (win0_2.rect t)).emb y a).val = win0_2.index t a + (y a).val :=
  win0_2.rect_emb_val_off t y a
theorem emb4 (t : Fin cfg0.N) (y : S512x1024.Idx) (a : Fin 2) :
    (((View.whole main_v8).slice (win0_4.rect t)).emb y a).val = win0_4.index t a + (y a).val :=
  win0_4.rect_emb_val_off t y a

theorem emb6 (t : Fin cfg0.N) (y : S512x1024.Idx) (a : Fin 2) :
    (((View.whole main_v10_0).slice (win0_6.rect t)).emb y a).val = win0_6.index t a * S512x1024.size a + 1 * (y a).val := rfl

/-- The cotangent of the normalised rows, the contraction in the kernel's three column chunks. -/
def du (Z : FVec Ideal S4160x1536 .bf16) (W : FVec Ideal S1024x1536 .bf16) (i : Fin 4160) (a : Fin 1024) : EReal :=
  ∑ k : Fin 512, Z (ix2 i ⟨k.val, by omega⟩) * W (ix2 a ⟨k.val, by omega⟩)
    + ∑ k : Fin 512, Z (ix2 i ⟨512 + k.val, by omega⟩) * W (ix2 a ⟨512 + k.val, by omega⟩)
    + ∑ k : Fin 512, Z (ix2 i ⟨1024 + k.val, by omega⟩) * W (ix2 a ⟨1024 + k.val, by omega⟩)

/-- The gradient row: the residual stream's cotangent plus the norm's. -/
def gradRow (Z : FVec Ideal S4160x1536 .bf16) (W : FVec Ideal S1024x1536 .bf16) (H : FVec Ideal S4160x1024 .f32)
    (G : FVec Ideal S1x1024 .f32) (D : FVec Ideal S4160x1024 .f32) : FVec Ideal S4096x1024 .f32 := fun i =>
  D (ix2 ⟨64 + (i 0).val, by have := (i 0).isLt; simp at this; omega⟩ (i 1))
    + rowGrad (fun k => H (ix2 ⟨64 + (i 0).val, by have := (i 0).isLt; simp at this; omega⟩ k))
      (fun k => du Z W ⟨64 + (i 0).val, by have := (i 0).isLt; simp at this; omega⟩ k * G (ix2 0 k)) (i 1)

set_option maxHeartbeats 1600000 in
theorem final_dx (c : Dev nD) : (dats m 0 c).arrAt 6 (cfgs 0).N =
    gradRow (V m c main_v2) (V m c main_v3) (V m c main_v5) (V m c main_v6) (V m c main_v8) := by
  refine (dats m 0 c).arrAt_eq_of_covers 6 _ (by decide +kernel) fun t hf y => ?_
  blk_simp
  rw [after0_6]
  have h8 := (idx t).2.2.2.2.2.2.2.2
  by_cases h : t.val % 8 = 0
  on_goal 1 => rw [outsAt0_A m c t h (by omega)]
  on_goal 2 => rw [outsAt0_B m c t h (by omega)]
  all_goals
    frame_out
    idx_vars y
    pointwise [k0_pay1, k0_pay5, k0_pay6, k0_pay7, k0_pay8, k0_pay9, k0_pay10, gradRow, rowGrad, msq, du]
    blk_simp [idx t]
    blk_point [iblk, idx t]
    all_goals first
      | (refine (emb0 _ _ _).trans ?_; simp [idx t, ix2, emb6]; done)
      | (refine (emb0 _ _ _).trans ?_; simp [idx t, ix2, emb6]; omega)
      | (refine (emb2 _ _ _).trans ?_; simp [idx t, ix2, emb6]; done)
      | (refine (emb2 _ _ _).trans ?_; simp [idx t, ix2, emb6]; omega)
      | (refine (emb4 _ _ _).trans ?_; simp [idx t, ix2, emb6]; done)
      | (refine (emb4 _ _ _).trans ?_; simp [idx t, ix2, emb6]; omega)
      | (simp [emb6, idx t, ix2]; done)

/-- One row's summand of the gain's gradient: the cotangent times the normalised row. -/
def gainTerm (Z : FVec Ideal S4160x1536 .bf16) (W : FVec Ideal S1024x1536 .bf16) (H : FVec Ideal S4160x1024 .f32)
    (i : Fin 4160) (a : Fin 1024) : EReal := du Z W i a * (H (ix2 i a) * Ideal.rsqrt (msq fun k => H (ix2 i k)))

/-- The gain's gradient: the head rows' plus the sum over the other rows. -/
def gainRow (Z : FVec Ideal S4160x1536 .bf16) (W : FVec Ideal S1024x1536 .bf16) (H : FVec Ideal S4160x1024 .f32)
    (G : FVec Ideal S1x1024 .f32) : FVec Ideal S1x1024 .f32 := fun j =>
  G j + ∑ i : Fin 4096, gainTerm Z W H ⟨64 + i.val, by omega⟩ (j 1)

set_option maxHeartbeats 1600000 in
theorem final_dg (c : Dev nD) : (dats m 0 c).arrAt 7 (cfgs 0).N =
    gainRow (V m c main_v2) (V m c main_v3) (V m c main_v5) (V m c main_v9) := by
  refine (dats m 0 c).arrAt_eq_of_after_last 7 t0_7 (by decide +kernel) _ fun j => ?_
  blk_simp
  have hpay : ∀ (u xh : FVec Ideal S512x1024 .f32) (acc : FVec Ideal S1x1024 .f32) (j : S1x1024.Idx),
      k0_pay4 u xh acc j = acc j + ∑ k : Fin 512, u (ix2 k (j 1)) * xh (ix2 k (j 1)) := by
    intro u xh acc j; pointwise [k0_pay4, k0_pay3, k0_pay2]
  have hpay0 : ∀ (u xh : FVec Ideal S512x1024 .f32) (acc : FVec Ideal S1x1024 .f32) (j : S1x1024.Idx),
      k0_pay3 u xh acc j = acc j + ∑ k : Fin 512, u (ix2 k (j 1)) * xh (ix2 k (j 1)) := by
    intro u xh acc j; pointwise [k0_pay3, k0_pay2]
  have hg : ∀ (t : Fin cfg0.N) (j : S1x1024.Idx), iblk m c 5 t j = (V m c main_v9 : FVec Ideal S1x1024 .f32) j := by
    intro t j; idx_vars j; blk_point [iblk, idx t]
  rw [after0_7, Pipeline.eq_sum_fin_of_reset_step_apply_last (fun n h => (outsAt0 m c n h).2) 8 (fun j => (V m c main_v9 : FVec Ideal S1x1024 .f32) j) _
    (fun t h j => by rw [outsAt0_A m c t h (by have := (idx t).2.2.2.2.2.2.2.2; omega)]; frame_out; rw [hpay0]; exact congrArg (fun z : EReal => z + _) (hg t j))
    (fun t h j => by rw [outsAt0_B m c t h (by have := (idx t).2.2.2.2.2.2.2.2; omega)]; frame_out; rw [hpay])
    (le_of_eq N_0) t0_7 rfl j]
  unfold gainRow
  refine congrArg (fun z : EReal => (show EReal from (V m c main_v9 : FVec Ideal S1x1024 .f32) j) + z) ?_
  refine Fin.sum_mul_add_congr fun t k hl => ?_
  pointwise [k0_pay5, k0_pay8, k0_pay7, k0_pay6, msq, du, gainTerm]
  blk_point [iblk, idx t]
  all_goals first
    | (refine (emb0 _ _ _).trans ?_; simp [idx t, ix2]; done)
    | (refine (emb0 _ _ _).trans ?_; simp [idx t, ix2]; omega)
    | (refine (emb2 _ _ _).trans ?_; simp [idx t, ix2]; done)
    | (refine (emb2 _ _ _).trans ?_; simp [idx t, ix2]; omega)
    | (refine (emb4 _ _ _).trans ?_; simp [idx t, ix2]; done)
    | (refine (emb4 _ _ _).trans ?_; simp [idx t, ix2]; omega)
    | (simp [emb6, idx t, ix2]; done)

theorem entry0 (c : Dev nD) (i : Fin 4160) (k : Fin 1536) : V m c main_v2 (ix2 i k)
    = if h' : i.val < 48 then (0 : EReal) else m ((c : Thread nD τ).loc main_arg3) (ix2 ⟨i.val - 48, by omega⟩ k) := by
  entry_read
  pointwise
theorem entry1 (c : Dev nD) (i : Fin 1024) (k : Fin 1536) : V m c main_v3 (ix2 i k) = m ((c : Thread nD τ).loc main_arg2) (ix2 i k) := by
  entry_read
  pointwise
theorem entry2 (c : Dev nD) (i : Fin 4160) (k : Fin 1024) : V m c main_v5 (ix2 i k)
    = if h' : i.val < 48 then (0 : EReal) else m ((c : Thread nD τ).loc main_arg0) (ix2 ⟨i.val - 48, by omega⟩ k) := by
  entry_read
  pointwise
theorem entry3 (c : Dev nD) (k : Fin 1024) : V m c main_v6 (ix2 0 k) = m ((c : Thread nD τ).loc main_arg1) (ix1 k) := by
  entry_read
  pointwise
theorem entry4 (c : Dev nD) (i : Fin 4160) (k : Fin 1024) : V m c main_v8 (ix2 i k)
    = if h' : i.val < 48 then (0 : EReal) else m ((c : Thread nD τ).loc main_arg4) (ix2 ⟨i.val - 48, by omega⟩ k) := by
  entry_read
  pointwise
theorem entry5 (c : Dev nD) (k : Fin 1024) : V m c main_v9 (ix2 0 k) = m ((c : Thread nD τ).loc main_arg5) (ix1 k) := by
  entry_read
  pointwise

end Cert.RestKernelIdeal.Value
end
-- ==== Proof.RestRef.lean ====
module
public import proofs.«01_k».proof.Proof.Gen.RestReferenceIdeal.Read
public import Idealize.ShloMosaic.Lib.Pipeline.ValueKit
public import proofs.«01_k».proof.Proof.NormMath
@[expose] public section
/-! The reference of the input gradient over the sequence rows, read at an index. -/
set_option maxRecDepth 16384
noncomputable section
open Idealize.ShloMosaic Idealize.ShloMosaic.TcCoe Idealize.SL.Sem
namespace Cert.RestReferenceIdeal.Read
open Cert.RestReferenceIdeal Cert.RestReferenceIdeal.Gen Cert.NormMath

/-- The cotangent of the normalised rows: the product with the transposed weight. -/
def duR (x2 : FVec Ideal S1024x1536 .f32) (x3 : FVec Ideal S4112x1536 .f32) (i : Fin 4112) (a : Fin 1024) : EReal :=
  ∑ k : Fin 1536, x3 (ix2 i k) * x2 (ix2 a k)

theorem ref41 (x0 : FVec Ideal S4112x1024 .f32) (x1 : FVec Ideal S1024 .f32) (x2 : FVec Ideal S1024x1536 .f32)
    (x3 : FVec Ideal S4112x1536 .f32) (x4 : FVec Ideal S4112x1024 .f32) (i : Fin 4096) (j : Fin 1024) :
    val_main_v41 (F := Ideal) x0 x1 x2 x3 x4 (ix2 i j)
      = x4 (ix2 ⟨16 + i.val, by omega⟩ j) + rowGrad (fun k => x0 (ix2 ⟨16 + i.val, by omega⟩ k)) (fun k => duR x2 x3 ⟨16 + i.val, by omega⟩ k * x1 (ix1 k)) j := by
  rw [rowGrad_eq]
  pointwise [val_main_v41, val_main_v40, val_main_v39, val_main_v38, val_main_v37, val_main_v36, val_main_v35, val_main_v34,
    val_main_v33, val_main_v32, val_main_v31, val_main_v30, val_main_v29, val_main_v28, val_main_v27, val_main_v25, val_main_v24,
    val_main_v20, val_main_v19, val_main_v18, val_main_v14, val_main_v11, val_main_v10, val_main_v9,
    val_main_cst_2, val_main_cst_5, val_main_cst_6, val_main_cst_7, val_main_v0, val_main_v1, val_main_cst, val_main_v2, val_main_v3, val_main_cst_0, val_main_v4, val_main_v5, val_main_cst_1,
    val_main_v6, val_main_v7, val_main_v8,
    NormMath.slope, msq, duR]
  simp only [zero_add, add_assoc, Fin.sum_univ_one, Finset.univ_unique, Finset.sum_singleton]

theorem ref26 (x0 : FVec Ideal S4112x1024 .f32) (x2 : FVec Ideal S1024x1536 .f32) (x3 : FVec Ideal S4112x1536 .f32) (j : Fin 1024) :
    val_main_v26 (F := Ideal) x0 x2 x3 (ix1 j)
      = ∑ i : Fin 4096, duR x2 x3 ⟨16 + i.val, by omega⟩ j * (x0 (ix2 ⟨16 + i.val, by omega⟩ j) * Ideal.rsqrt (msq fun k => x0 (ix2 ⟨16 + i.val, by omega⟩ k))) := by
  pointwise [val_main_v26, val_main_v23, val_main_v22, val_main_v21, val_main_v20, val_main_v19, val_main_v13, val_main_v12,
    val_main_cst_3, val_main_cst_4, val_main_v0, val_main_v1, val_main_cst, val_main_v2, val_main_v3, val_main_cst_0, val_main_v4, val_main_v5, val_main_cst_1,
    val_main_v6, val_main_v7, val_main_v8, msq, duR]
  simp only [zero_add, Fin.sum_univ_one, Finset.univ_unique, Finset.sum_singleton]
  exact Finset.sum_congr rfl fun i _ => mul_comm _ _

theorem ref43 (x0 : FVec Ideal S4112x1024 .f32) (x2 : FVec Ideal S1024x1536 .f32) (x3 : FVec Ideal S4112x1536 .f32)
    (x5 : FVec Ideal S1024 .f32) (j : Fin 1024) : val_main_v43 (F := Ideal) x0 x2 x3 x5 (ix2 0 j)
      = x5 (ix1 j) + ∑ i : Fin 4096, duR x2 x3 ⟨16 + i.val, by omega⟩ j * (x0 (ix2 ⟨16 + i.val, by omega⟩ j) * Ideal.rsqrt (msq fun k => x0 (ix2 ⟨16 + i.val, by omega⟩ k))) := by
  rw [← ref26]
  pointwise [val_main_v43, val_main_v42]

end Cert.RestReferenceIdeal.Read
end
-- ==== Proof.RestValue.lean ====
module
public import proofs.«01_k».proof.Proof.RestPoint
public import proofs.«01_k».proof.Proof.RestRef
@[expose] public section
/-! The two result arrays of the input gradient over the sequence rows after the run are the reference's terms. -/
set_option maxRecDepth 16384
noncomputable section
open Idealize.ShloMosaic Idealize.ShloMosaic.TcCoe Idealize.SL.Sem
open Idealize.ShloMosaic.Pipeline (Dat)
namespace Cert.RestKernelIdeal.Value
open Cert.RestKernelIdeal Cert.RestKernelIdeal.Gen Cert.NormMath
variable (m : (ℓ : Loc nD τ sig) → Buf (Elt Ideal) ℓ)

/-- A sum over the 1536 columns taken in the kernel's three chunks. -/
theorem sum_chunks (f : Fin 1536 → EReal) :
    ∑ k : Fin 512, f ⟨k.val, by omega⟩ + ∑ k : Fin 512, f ⟨512 + k.val, by omega⟩ + ∑ k : Fin 512, f ⟨1024 + k.val, by omega⟩
      = ∑ k, f k := by
  have h1 := Fin.sum_univ_add (a := 1024) (b := 512) f
  have h2 := Fin.sum_univ_add (a := 512) (b := 512) fun k => f (Fin.castAdd 512 k)
  rw [h2] at h1
  exact h1.symm

theorem du_eq (c : Dev nD) (i : Fin 4160) (a : Fin 1024) : du (V m c main_v2) (V m c main_v3) i a
    = if h : i.val < 48 then (0 : EReal) else
      Cert.RestReferenceIdeal.Read.duR (m ((c : Thread nD τ).loc main_arg2)) (m ((c : Thread nD τ).loc main_arg3)) ⟨i.val - 48, by omega⟩ a := by
  refine (sum_chunks fun k => (show EReal from V m c main_v2 (ix2 i k)) * (show EReal from V m c main_v3 (ix2 a k))).trans ?_
  by_cases h : i.val < 48
  · rw [dif_pos h]
    exact Finset.sum_eq_zero fun k _ => (congrArg (· * (show EReal from V m c main_v3 (ix2 a k))) ((entry0 m c i k).trans (dif_pos h))).trans (zero_mul _)
  · rw [dif_neg h]
    exact Finset.sum_congr rfl fun k _ => congrArg₂ (· * ·) ((entry0 m c i k).trans (dif_neg h)) (entry1 m c a k)

/-- A sequence row past the padding and the head rows. -/
theorem row (k : Fin 4096) : ¬ (⟨64 + k.val, by omega⟩ : Fin 4160).val < 48
    ∧ (⟨(⟨64 + k.val, by omega⟩ : Fin 4160).val - 48, by show 64 + k.val - 48 < 4112; omega⟩ : Fin 4112) = ⟨16 + k.val, by omega⟩ :=
  ⟨by show ¬ 64 + k.val < 48; omega, Fin.ext (by show 64 + k.val - 48 = 16 + k.val; omega)⟩

theorem hRow (c : Dev nD) (k : Fin 4096) (a : Fin 1024) : (show EReal from V m c main_v5 (ix2 ⟨64 + k.val, by omega⟩ a))
    = m ((c : Thread nD τ).loc main_arg0) (ix2 ⟨16 + k.val, by omega⟩ a) :=
  ((entry2 m c _ a).trans (dif_neg (row k).1)).trans (by rw [(row k).2])

theorem dRow (c : Dev nD) (k : Fin 4096) (a : Fin 1024) : (show EReal from V m c main_v8 (ix2 ⟨64 + k.val, by omega⟩ a))
    = m ((c : Thread nD τ).loc main_arg4) (ix2 ⟨16 + k.val, by omega⟩ a) :=
  ((entry4 m c _ a).trans (dif_neg (row k).1)).trans (by rw [(row k).2])

theorem duRow (c : Dev nD) (k : Fin 4096) (a : Fin 1024) : du (V m c main_v2) (V m c main_v3) ⟨64 + k.val, by omega⟩ a
    = Cert.RestReferenceIdeal.Read.duR (m ((c : Thread nD τ).loc main_arg2)) (m ((c : Thread nD τ).loc main_arg3)) ⟨16 + k.val, by omega⟩ a :=
  ((du_eq m c _ a).trans (dif_neg (row k).1)).trans (by rw [(row k).2])

theorem value6 (c : Dev nD) : (dats m 0 c).arrAt 6 (cfgs 0).N = Cert.RestReferenceIdeal.Read.val_main_v41 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) := by
  rw [final_dx]
  funext i
  idx_vars i
  refine Eq.trans ?_ (Cert.RestReferenceIdeal.Read.ref41 _ _ _ _ _ i0 i1).symm
  exact congrArg₂ (· + ·) (dRow m c i0 i1) (congrArg₂ (fun a b => rowGrad a b i1) (funext fun k => hRow m c i0 k)
    (funext fun k => congrArg₂ (· * ·) (duRow m c i0 k) (entry3 m c k)))

theorem value7 (c : Dev nD) : (dats m 0 c).arrAt 7 (cfgs 0).N = Cert.RestReferenceIdeal.Read.val_main_v43 (F := Ideal)
    (m ((c : Thread nD τ).loc main_arg0)) (m ((c : Thread nD τ).loc main_arg2)) (m ((c : Thread nD τ).loc main_arg3)) (m ((c : Thread nD τ).loc main_arg5)) := by
  rw [final_dg]
  funext i
  idx_vars i
  obtain rfl : i0 = 0 := Subsingleton.elim _ _
  refine Eq.trans ?_ (Cert.RestReferenceIdeal.Read.ref43 _ _ _ _ i1).symm
  exact congrArg₂ (· + ·) (entry5 m c i1) (Finset.sum_congr rfl fun k _ => congrArg₂ (· * ·) (duRow m c k i1)
    (congrArg₂ (· * ·) (hRow m c k i1) (congrArg (fun a => Ideal.rsqrt (msq a)) (funext fun a => hRow m c k a))))

end Cert.RestKernelIdeal.Value
end
-- ==== Proof.RestClaim.lean ====
module
public import proofs.«01_k».proof.Defs
public import proofs.«01_k».proof.Proof.Gen.RestKernel
public import proofs.«01_k».proof.Proof.Gen.RestKernelIdeal
public import proofs.«01_k».proof.Proof.Gen.RestReferenceIdeal
public import proofs.«01_k».proof.Proof.Gen.RestReferenceIdeal.Run
public import proofs.«01_k».proof.Proof.Gen.RestReferenceIdeal.Read
public import proofs.«01_k».proof.Proof.RestValue
@[expose] public section
/-! The five claims of the the input gradient over the sequence rows. -/
set_option maxRecDepth 16384
noncomputable section
open Idealize.ShloMosaic Idealize.ShloMosaic.TcCoe Idealize.SL.Sem
namespace Cert.Rest

theorem frame : Cert.quiescent_RestKernel := by
  intro m ρ _
  refine cast ?_ (Cert.RestKernelIdeal.Gen.frame (F := Bits) m ρ)
  sl_kernel_rfl

theorem frameIdeal : Cert.quiescent_RestKernelIdeal := fun m ρ _ => Cert.RestKernelIdeal.Gen.frame m ρ

theorem frameRef : Cert.quiescent_RestReferenceIdeal := by
  intro m g _
  exact (θ_run _ _ _).mono (fun r h => ⟨fun c => (h c).2.2,
    sem_eq_zero_of_no_sems (sig := Cert.RestReferenceIdeal.sig) rfl r.2⟩) (Cert.RestReferenceIdeal.Value.run m g)

theorem algebraic : Cert.algebraic_RestKernelIdeal_RestReferenceIdeal := by
  pair_intro
  · run_from Cert.RestKernelIdeal.Gen.run_main m g
  · run_from Cert.RestReferenceIdeal.Value.run m' g'
    · obtain ⟨h0, h1, h2, h3, h4, h5⟩ := hagree c
      rw [Cert.RestReferenceIdeal.Read.val_main_v41_eq, h0, h1, h2, h3, h4]
      exact (Cert.RestKernelIdeal.Value.value6 m c).symm
    · exact (Cert.RestReferenceIdeal.Read.val_main_v43_eq _ _ _ _).trans (Cert.RestKernelIdeal.Value.value7 m c).symm

end Cert.Rest
end
-- ==== Proof.WgradPoint.lean ====
module
public import proofs.«01_k».proof.Proof.Gen.WgradKernelIdeal.Value
public import Idealize.ShloMosaic.Lib.Pipeline.ValueKit
public import proofs.«01_k».proof.Proof.NormMath
@[expose] public section
/-! The second feed-forward weight's gradient: the result array after the run, over the windows' arrays. -/
set_option maxRecDepth 16384
noncomputable section
open Idealize.ShloMosaic Idealize.ShloMosaic.TcCoe Idealize.SL.Sem
open Idealize.ShloMosaic.Pipeline (Dat)
namespace Cert.WgradKernelIdeal.Value
open Cert.WgradKernelIdeal Cert.WgradKernelIdeal.Gen Cert.NormMath
variable (m : (ℓ : Loc nD τ sig) → Buf (Elt Ideal) ℓ)

theorem idx : ∀ t : Fin cfg0.N, win0_0.index t = ![0, t.val / 2] ∧ win0_1.index t = ![0, 0]
    ∧ win0_2.index t = ![64 + t.val % 2 * 2048, t.val / 2 * 1024] ∧ win0_3.index t = ![64 + t.val % 2 * 2048, 0]
    ∧ win0_4.index t = ![t.val / 2, 0, 0] ∧ (win0_4.flush t = true → t.val % 2 = 1) ∧ t.val < 8 :=
  (by decide +kernel : ∀ t : Fin grid0.N, _)

/-- Where an element of a shifted block lies in its padded array. -/
theorem emb2 (t : Fin cfg0.N) (y : S2048x1024.Idx) (a : Fin 2) :
    (((View.whole main_v16).slice (win0_2.rect t)).emb y a).val = win0_2.index t a + (y a).val :=
  win0_2.rect_emb_val_off t y a
theorem emb3 (t : Fin cfg0.N) (y : S2048x1024.Idx) (a : Fin 2) :
    (((View.whole main_v18).slice (win0_3.rect t)).emb y a).val = win0_3.index t a + (y a).val :=
  win0_3.rect_emb_val_off t y a

theorem emb4 (t : Fin cfg0.N) (y : S1x1024x1024.Idx) :
    (((View.whole main_v19).slice (win0_4.rect t)).emb y 2).val = win0_4.index t 2 * 1024 + 1 * (y 2).val := rfl

/-- The squared relu. -/
def sqrelu (x : EReal) : EReal := max x 0 * max x 0

/-- The weight's gradient over the padded rows. -/
def dw (X : FVec Ideal S4160x4096 .bf16) (D : FVec Ideal S4160x1024 .f32) : FVec Ideal S4x1024x1024 .bf16 := fun j =>
  (∑ k : Fin 2048, sqrelu (X (ix2 ⟨64 + k.val, by omega⟩ ⟨(j 0).val * 1024 + (j 1).val, by have := (j 0).isLt; have := (j 1).isLt; simp at *; omega⟩)) * D (ix2 ⟨64 + k.val, by omega⟩ (j 2)))
    + (∑ k : Fin 64, sqrelu (X (ix2 ⟨k.val, by omega⟩ ⟨(j 0).val * 1024 + (j 1).val, by have := (j 0).isLt; have := (j 1).isLt; simp at *; omega⟩)) * D (ix2 ⟨k.val, by omega⟩ (j 2)))
    + (∑ k : Fin 2048, sqrelu (X (ix2 ⟨2112 + k.val, by omega⟩ ⟨(j 0).val * 1024 + (j 1).val, by have := (j 0).isLt; have := (j 1).isLt; simp at *; omega⟩)) * D (ix2 ⟨2112 + k.val, by omega⟩ (j 2)))

set_option maxHeartbeats 1600000 in
theorem final_dw (c : Dev nD) : (dats m 0 c).arrAt 4 (cfgs 0).N = dw (V m c main_v16) (V m c main_v18) := by
  refine (dats m 0 c).arrAt_eq_of_covers 4 _ (by decide +kernel) fun t hf y => ?_
  blk_simp
  have hodd := (idx t).2.2.2.2.2.1 hf
  have h8 := (idx t).2.2.2.2.2.2
  have hpr : t.val - 1 < cfg0.N := lt_of_le_of_lt (Nat.sub_le _ _) t.isLt
  have hA := outsAt0_A m c ⟨t.val - 1, hpr⟩ (by show (t.val - 1) % 2 = 0; omega) (by show ¬ (t.val - 1) % 2 = 1; omega) (by show ¬ (t.val - 1) % 2 = 1; omega)
  have hd : (t.val - 1) / 2 = t.val / 2 := by omega
  have hm : (t.val - 1) % 2 = 0 := by omega
  rw [after0_4, outsAt0_B m c t (by omega) hodd hodd, hA]
  frame_out
  clear hA
  idx_vars y
  simp only [(Memref.isWhole_whole _).read_unread]
  pointwise [k0_pay1, k0_pay2, k0_pay3, k0_pay4, dw, sqrelu]
  blk_simp [idx t]
  refine congrArg₂ (· + ·) (congrArg₂ (· + ·) ?_ ?_) ?_
  all_goals refine Finset.sum_congr (M := EReal) rfl fun k _ => ?_
  all_goals
    blk_point [iblk, idx t, idx ⟨t.val - 1, hpr⟩]
  all_goals first
    | (refine (emb2 _ _ _).trans ?_; simp [idx t, idx ⟨t.val - 1, hpr⟩, ix2, hd, hm, hodd]; done)
    | (refine (emb2 _ _ _).trans ?_; simp [idx t, idx ⟨t.val - 1, hpr⟩, ix2, hd, hm, hodd]; omega)
    | (refine (emb3 _ _ _).trans ?_; simp [idx t, idx ⟨t.val - 1, hpr⟩, ix2, ix3, emb4, hd, hm, hodd]; done)
    | (refine (emb3 _ _ _).trans ?_; simp [idx t, idx ⟨t.val - 1, hpr⟩, ix2, ix3, emb4, hd, hm, hodd]; omega)
    | (simp [emb4, idx t, ix2, ix3, hd, hm, hodd]; done)

/-- The pre-activation the forward pass saves, on the host: the product of the normalised rows. -/
def hp (x0 : FVec Ideal S4112x1024 .f32) (x1 : FVec Ideal S1024 .f32) (x2 : FVec Ideal S1024x4096 .f32) (i : Fin 4112)
    (k : Fin 4096) : EReal :=
  ∑ a : Fin 1024, x0 (ix2 i a) * Ideal.rsqrt (msq fun a => x0 (ix2 i a)) * x1 (ix1 a) * x2 (ix2 a k)

theorem entry16 (c : Dev nD) (i : Fin 4160) (k : Fin 4096) : V m c main_v16 (ix2 i k)
    = if h : i.val < 48 then (0 : EReal) else hp (m ((c : Thread nD τ).loc main_arg0)) (m ((c : Thread nD τ).loc main_arg1))
        (m ((c : Thread nD τ).loc main_arg2)) ⟨i.val - 48, by omega⟩ k := by
  entry_read
  pointwise [hp, msq]
theorem entry18 (c : Dev nD) (i : Fin 4160) (k : Fin 1024) : V m c main_v18 (ix2 i k)
    = if h : i.val < 48 then (0 : EReal) else m ((c : Thread nD τ).loc main_arg3) (ix2 ⟨i.val - 48, by omega⟩ k) := by
  entry_read
  pointwise

end Cert.WgradKernelIdeal.Value
end
-- ==== Proof.WgradRef.lean ====
module
public import proofs.«01_k».proof.Proof.Gen.WgradReferenceIdeal.Read
public import Idealize.ShloMosaic.Lib.Pipeline.ValueKit
public import proofs.«01_k».proof.Proof.NormMath
@[expose] public section
/-! The reference of the second feed-forward weight's gradient, read at an index. -/
set_option maxRecDepth 16384
noncomputable section
open Idealize.ShloMosaic Idealize.ShloMosaic.TcCoe Idealize.SL.Sem
namespace Cert.WgradReferenceIdeal.Read
open Cert.WgradReferenceIdeal Cert.WgradReferenceIdeal.Gen Cert.NormMath

/-- The pre-activation. -/
def hp (x0 : FVec Ideal S4112x1024 .f32) (x1 : FVec Ideal S1024 .f32) (x2 : FVec Ideal S1024x4096 .f32) (i : Fin 4112)
    (k : Fin 4096) : EReal :=
  ∑ a : Fin 1024, x0 (ix2 i a) * Ideal.rsqrt (msq fun a => x0 (ix2 i a)) * x1 (ix1 a) * x2 (ix2 a k)

theorem ref21 (x0 : FVec Ideal S4112x1024 .f32) (x1 : FVec Ideal S1024 .f32) (x2 : FVec Ideal S1024x4096 .f32)
    (x3 : FVec Ideal S4112x1024 .f32) (b : Fin 4) (r j : Fin 1024) :
    val_main_v21 (F := Ideal) x0 x1 x2 x3 (ix3 b r j)
      = ∑ i : Fin 4112, max (hp x0 x1 x2 i ⟨b.val * 1024 + r.val, by omega⟩) 0 * max (hp x0 x1 x2 i ⟨b.val * 1024 + r.val, by omega⟩) 0
          * x3 (ix2 i j) := by
  pointwise [val_main_cst, val_main_v1, val_main_cst_0, val_main_v2, val_main_v3, val_main_cst_1, val_main_v4, val_main_v5, val_main_cst_2, val_main_v6, val_main_v7, val_main_v8, val_main_v9, val_main_v10, val_main_v11, val_main_v12, val_main_v13, val_main_v14, val_main_call0_cst, val_main_call0_v0, val_main_v15, val_main_v16, val_main_v18, val_main_v19, val_main_v20, val_main_v21, hp, msq]
  exact Finset.sum_congr rfl fun i _ => mul_comm _ _

end Cert.WgradReferenceIdeal.Read
end
-- ==== Proof.WgradValue.lean ====
module
public import proofs.«01_k».proof.Proof.WgradPoint
public import proofs.«01_k».proof.Proof.WgradRef
@[expose] public section
/-! The second feed-forward weight's gradient after the run is the reference's term. -/
set_option maxRecDepth 16384
noncomputable section
open Idealize.ShloMosaic Idealize.ShloMosaic.TcCoe Idealize.SL.Sem
open Idealize.ShloMosaic.Pipeline (Dat)
namespace Cert.WgradKernelIdeal.Value
open Cert.WgradKernelIdeal Cert.WgradKernelIdeal.Gen Cert.NormMath
variable (m : (ℓ : Loc nD τ sig) → Buf (Elt Ideal) ℓ)

/-- The row sum in the kernel's order: the first 2048 sequence rows, the 48 zero rows with the 16 meta rows, the other
    2048 sequence rows. -/
theorem sum_rows (f : Fin 4160 → EReal) (g : Fin 4112 → EReal) (h0 : ∀ k : Fin 48, f ⟨k.val, by omega⟩ = 0)
    (h1 : ∀ k : Fin 4112, f ⟨48 + k.val, by omega⟩ = g k) :
    ∑ k : Fin 2048, f ⟨64 + k.val, by omega⟩ + ∑ k : Fin 64, f ⟨k.val, by omega⟩ + ∑ k : Fin 2048, f ⟨2112 + k.val, by omega⟩
      = ∑ k, g k := by
  have e1 := Fin.sum_univ_add (a := 2112) (b := 2048) f
  have e2 := Fin.sum_univ_add (a := 64) (b := 2048) fun k => f (Fin.castAdd 2048 k)
  have e3 := Fin.sum_univ_add (a := 48) (b := 4112) f
  rw [e2] at e1
  have e4 : ∑ k : Fin 48, f (Fin.castAdd 4112 k) = 0 := Finset.sum_eq_zero fun k _ => h0 k
  rw [e4, zero_add] at e3
  refine (congrArg (· + _) (add_comm _ _)).trans (e1.symm.trans (e3.trans (Finset.sum_congr rfl fun k _ => h1 k)))

theorem value4 (c : Dev nD) : (dats m 0 c).arrAt 4 (cfgs 0).N = Cert.WgradReferenceIdeal.Read.val_main_v21 (F := Ideal)
    (m ((c : Thread nD τ).loc main_arg0)) (m ((c : Thread nD τ).loc main_arg1)) (m ((c : Thread nD τ).loc main_arg2))
    (m ((c : Thread nD τ).loc main_arg3)) := by
  rw [final_dw]
  funext i
  idx_vars i
  refine Eq.trans ?_ (Cert.WgradReferenceIdeal.Read.ref21 _ _ _ _ i0 i1 i2).symm
  refine sum_rows (fun k => sqrelu (V m c main_v16 (ix2 k ⟨i0.val * 1024 + i1.val, by omega⟩)) * V m c main_v18 (ix2 k i2)) _
    (fun k => ?_) fun k => ?_
  · have hk : (⟨k.val, by omega⟩ : Fin 4160).val < 48 := k.isLt
    show sqrelu (V m c main_v16 _) * (show EReal from V m c main_v18 _) = 0
    rw [entry18, dif_pos hk]; exact mul_zero _
  · have hk : ¬ (⟨48 + k.val, by omega⟩ : Fin 4160).val < 48 := by simp
    have hv : (⟨48 + k.val - 48, by omega⟩ : Fin 4112) = k := Fin.ext (by simp)
    exact congrArg₂ (· * ·) (congrArg sqrelu (((entry16 m c _ _).trans (dif_neg hk)).trans (by rw [hv]; rfl)))
      (((entry18 m c _ _).trans (dif_neg hk)).trans (by rw [hv]))

end Cert.WgradKernelIdeal.Value
end
-- ==== Proof.WgradClaim.lean ====
module
public import proofs.«01_k».proof.Defs
public import proofs.«01_k».proof.Proof.Gen.WgradKernel
public import proofs.«01_k».proof.Proof.Gen.WgradKernelIdeal
public import proofs.«01_k».proof.Proof.Gen.WgradReferenceIdeal
public import proofs.«01_k».proof.Proof.Gen.WgradReferenceIdeal.Run
public import proofs.«01_k».proof.Proof.Gen.WgradReferenceIdeal.Read
public import proofs.«01_k».proof.Proof.WgradValue
@[expose] public section
/-! The five claims of the second feed-forward weight's gradient. -/
set_option maxRecDepth 16384
noncomputable section
open Idealize.ShloMosaic Idealize.ShloMosaic.TcCoe Idealize.SL.Sem
namespace Cert.Wgrad

theorem frame : Cert.quiescent_WgradKernel := by
  intro m ρ _
  refine cast ?_ (Cert.WgradKernelIdeal.Gen.frame (F := Bits) m ρ)
  sl_kernel_rfl

theorem frameIdeal : Cert.quiescent_WgradKernelIdeal := fun m ρ _ => Cert.WgradKernelIdeal.Gen.frame m ρ

theorem frameRef : Cert.quiescent_WgradReferenceIdeal := by
  intro m g _
  exact (θ_run _ _ _).mono (fun r h => ⟨fun c => (h c).2,
    sem_eq_zero_of_no_sems (sig := Cert.WgradReferenceIdeal.sig) rfl r.2⟩) (Cert.WgradReferenceIdeal.Value.run m g)

theorem algebraic : Cert.algebraic_WgradKernelIdeal_WgradReferenceIdeal := by
  pair_intro
  · run_from Cert.WgradKernelIdeal.Gen.run_main m g
  · run_from Cert.WgradReferenceIdeal.Value.run m' g'

    exact (Cert.WgradKernelIdeal.Value.value4 m c).symm

end Cert.Wgrad
end
-- ==== Proof.GlafClaim.lean ====
module
public import proofs.«01_k».proof.Defs
public import proofs.«01_k».proof.Proof.Gen.GlafKernel
public import proofs.«01_k».proof.Proof.Gen.GlafKernelIdeal
public import proofs.«01_k».proof.Proof.Gen.GlafKernelIdeal.Frame
public import proofs.«01_k».proof.Proof.Gen.GlafReferenceIdeal
public import proofs.«01_k».proof.Proof.Gen.GlafReferenceIdeal.Run
@[expose] public section
/-! The frames of the gated linear attention's forward call. -/
set_option maxRecDepth 16384
noncomputable section
open Idealize.ShloMosaic Idealize.ShloMosaic.TcCoe Idealize.SL.Sem
namespace Cert.Glaf

theorem frame : Cert.quiescent_GlafKernel := by
  intro m ρ _
  refine cast ?_ (Cert.GlafKernelIdeal.Gen.frame (F := Bits) m ρ)
  sl_kernel_rfl

theorem frameIdeal : Cert.quiescent_GlafKernelIdeal := fun m ρ _ => Cert.GlafKernelIdeal.Gen.frame m ρ

section
open Cert.GlafReferenceIdeal Cert.GlafReferenceIdeal.Gen Cert.GlafReferenceIdeal.Value Idealize.ShloMosaic.StableHlo
variable (m : (ℓ : Loc nD τ sig) → Buf (Elt Ideal) ℓ)

/-- What the stretch `hostOps0_5` writes, in order. -/
abbrev hostOps0_5_W : List (Ref sig .tc) := [main_v42, main_v43, main_v44, main_v45, main_v46, main_cst_8, main_v47, main_v48, main_cst_9, main_v49, main_v50, main_cst_10, main_v51, main_v52, main_v53, main_v54, main_v55, main_v56, main_v57, main_v58, main_v59, main_cst_11, main_v60, main_v61]
theorem hostOps0_5_writes : (hostOps0_5 : List (HloOp τ sig (Elt Ideal))).Forall fun op => op.writes ⊆ (hostOps0_5_W.map (Proc.devRef (τ := τ) .tc)).toFinset :=
  StableHlo.forall_writes_sub_of_map rfl
/-- What the stretch `hostOps0_6` writes, in order. -/
abbrev hostOps0_6_W : List (Ref sig .tc) := [main_call8_v0, main_call8_v1, main_call8_cst, main_call8_v2, main_call8_v3, main_call8_cst_0, main_call8_v4, main_call8_v5, main_v62]
theorem hostOps0_6_writes : (hostOps0_6 : List (HloOp τ sig (Elt Ideal))).Forall fun op => op.writes ⊆ (hostOps0_6_W.map (Proc.devRef (τ := τ) .tc)).toFinset :=
  StableHlo.forall_writes_sub_of_map rfl
/-- What the stretch `hostOps0_7` writes, in order. -/
abbrev hostOps0_7_W : List (Ref sig .tc) := [main_v63, main_v64, main_v65, main_v66, main_v67, main_cst_12, main_v68, main_v69, main_v70, main_v71]
theorem hostOps0_7_writes : (hostOps0_7 : List (HloOp τ sig (Elt Ideal))).Forall fun op => op.writes ⊆ (hostOps0_7_W.map (Proc.devRef (τ := τ) .tc)).toFinset :=
  StableHlo.forall_writes_sub_of_map rfl

/-- The stretches of operations before, in and after the loop, with the loop's condition. -/
abbrev stretches : List (List (Ref sig .tc)) :=
  [hostOps0_W, hostOps0_1_W, hostOps0_2_W, hostOps0_3_W, hostOps0_4_W, while0Ops0_W, while0Ops0_1_W, while0Ops0_2_W, while0Ops0_3_W, while0Ops0_4_W, while0Ops0_5_W, while0Ops0_6_W, while0Ops0_7_W, hostOps0_5_W, hostOps0_6_W, hostOps0_7_W, condOps_W]

/-- A stretch that does not write `b` keeps it. -/
theorem kept {ops : List (HloOp τ sig (Elt Ideal))} {W : List (Ref sig .tc)} (b : Ref sig .tc)
    (hw : ops.Forall fun op => op.writes ⊆ (W.map (Proc.devRef (τ := τ) .tc)).toFinset) (hb : b ∉ W) (X : Valuation τ sig (Elt Ideal)) :
    after ops X (Proc.devRef .tc b) = X (Proc.devRef .tc b) :=
  after_of_writes_sub ops X hw hb

/-- A buffer that no stretch writes ends as it was launched. -/
theorem final_kept (c : Dev nD) (b : Ref sig .tc) (h : ∀ W ∈ stretches, b ∉ W) :
    finalContents condOps preI bodyI postI 65 m c (Proc.devRef .tc b) = m ((c.tc : Thread nD τ).loc b) := by
  have loop : ∀ k, atTrip condOps bodyI (entryContents preI m) k c (Proc.devRef .tc b) = m ((c.tc : Thread nD τ).loc b) := by
    intro k
    induction k with
    | zero =>
      simp only [atTrip_zero, entryContents, afterL_cons, afterL_nil]
      rw [kept b hostOps0_4_writes (h _ (by simp)), kept b hostOps0_3_writes (h _ (by simp)), kept b hostOps0_2_writes (h _ (by simp)), kept b hostOps0_1_writes (h _ (by simp)), kept b hostOps0_writes (h _ (by simp))]
    | succ k ih =>
      simp only [atTrip_succ, afterL_cons, afterL_nil]
      rw [kept b while0Ops0_7_writes (h _ (by simp)), kept b while0Ops0_6_writes (h _ (by simp)), kept b while0Ops0_5_writes (h _ (by simp)), kept b while0Ops0_4_writes (h _ (by simp)), kept b while0Ops0_3_writes (h _ (by simp)), kept b while0Ops0_2_writes (h _ (by simp)), kept b while0Ops0_1_writes (h _ (by simp)), kept b while0Ops0_writes (h _ (by simp)),
        kept b condOps_writes (h _ (by simp)), ih]
  simp only [finalContents, afterL_cons, afterL_nil]
  rw [kept b hostOps0_7_writes (h _ (by simp)), kept b hostOps0_6_writes (h _ (by simp)), kept b hostOps0_5_writes (h _ (by simp)), kept b condOps_writes (h _ (by simp)), loop]

theorem frameRef : Cert.quiescent_GlafReferenceIdeal := by
  intro m g _
  exact (θ_run _ _ _).mono (fun r h => ⟨fun c => ⟨(h c main_arg0 rfl).trans (final_kept m c main_arg0 (by decide +kernel)), (h c main_arg1 rfl).trans (final_kept m c main_arg1 (by decide +kernel)), (h c main_arg2 rfl).trans (final_kept m c main_arg2 (by decide +kernel)), (h c main_arg3 rfl).trans (final_kept m c main_arg3 (by decide +kernel)), (h c main_arg4 rfl).trans (final_kept m c main_arg4 (by decide +kernel)), (h c main_arg5 rfl).trans (final_kept m c main_arg5 (by decide +kernel))⟩,
    sem_eq_zero_of_no_sems (sig := Cert.GlafReferenceIdeal.sig) rfl r.2⟩) (run_fold m g)

end

end Cert.Glaf
end
-- ==== Proof.CpfLoop.lean ====
module
public import proofs.«01_k».proof.Proof.Gen.CpfKernelIdeal.Value
public import Idealize.ShloMosaic.Lib.Pipeline.ValueKit
@[expose] public section
/-! The forward convolution's inner loop over blocks of 32 rows: what its 26 trips leave in the convolution's window. -/
set_option maxRecDepth 16384
noncomputable section
open Idealize.ShloMosaic Idealize.ShloMosaic.TcCoe Idealize.SL.Sem
namespace Cert.CpfKernelIdeal.Value
open Cert.CpfKernelIdeal Cert.CpfKernelIdeal.Gen
open Cert.CpfKernelIdeal.Gen.trip_k0_t1

theorem k_lt (k : Fin k0_t1_loop.trips) : k.val < 26 := Nat.lt_of_lt_of_le k.isLt k0_t1_abs.2.1

theorem idx1 (k : Fin k0_t1_loop.trips) (h) (a : Fin 64) (b : Fin 512) :
    (Rect.unit (s := S864x512) (k0_off1 k) ![64, 512] h).idx (ix2 a b) = ix2 ⟨32 * k.val + a.val, by have := k_lt k; omega⟩ b := by
  funext q
  apply Fin.ext
  refine (Rect.idx_unit_val _ _ _ _ _).trans ((congrArg (· + _) (congrFun (k0_off1_eq k) q)).trans ?_)
  match q with
  | ⟨0, _⟩ => rfl
  | ⟨1, _⟩ => exact Nat.zero_add _

theorem idx6 (n : ℕ) (h) (a : Fin 1) (b : Fin 512) :
    (Rect.unit (s := S31x512) ![n, 0] ![1, 512] h).idx (ix2 a b) = ix2 ⟨n, by have := h 0; simp at this; omega⟩ b := by
  funext q
  apply Fin.ext
  rw [Rect.idx_unit_val]
  match q with
  | ⟨0, _⟩ => show n + a.val = n; omega
  | ⟨1, _⟩ => exact Nat.zero_add _

theorem idx3 (h) (a : Fin 1) (b : Fin 512) :
    (Rect.unit (s := S1x512) ![0, 0] ![1, 512] h).idx (ix2 a b) = ix2 0 b := by
  funext q
  apply Fin.ext
  rw [Rect.idx_unit_val]
  match q with
  | ⟨0, _⟩ => show 0 + a.val = 0; omega
  | ⟨1, _⟩ => exact Nat.zero_add _

/-- Row `R` of a two-axis array, zero below its last row. -/
def at2 {n b : ℕ} (X : (⟨2, ![n, b]⟩ : Shape).Idx → EReal) (R : ℕ) (j : Fin b) : EReal := if h : R < n then X (ix2 ⟨R, h⟩ j) else 0

theorem at2_of {n b : ℕ} (X : (⟨2, ![n, b]⟩ : Shape).Idx → EReal) (R : ℕ) (j : Fin b) (h : R < n) : at2 X R j = X (ix2 ⟨R, h⟩ j) := dif_pos h

section Loop
variable (𝒱 : Variants) (c : Dev nD) (bd : Option 𝒱.V) (i : grid0.Coords) (arg1 : Memref sig .tc .vmem S832x1536 .bf16) (harg1 : arg1.IsWhole) (arg2 : Memref sig .tc .vmem S31x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S4x128x128 .f32) (harg6 : arg6.IsWhole) (arg7 : Memref sig .tc .vmem S1x512 .f32) (harg7 : arg7.IsWhole) (arg8 : Memref sig .tc .vmem S832x512 .f32) (harg8 : arg8.IsWhole) (arg9 : Memref sig .tc .vmem S832x512 .bf16) (harg9 : arg9.IsWhole) (arg10 : Memref sig .tc .vmem S832x1024 .bf16) (harg10 : arg10.IsWhole) (arg11 : Memref sig .tc .vmem S864x512 .f32) (harg11 : arg11.IsWhole) (arg12 : Memref sig .tc .vmem S848x512 .f32) (harg12 : arg12.IsWhole) (X_arg2 : BufTy.Contents (Elt Ideal) arg2.view.ty) (X_arg3 : BufTy.Contents (Elt Ideal) arg3.view.ty) (X_arg11 : BufTy.Contents (Elt Ideal) arg11.view.ty)

section Trip
variable (k : Fin k0_t1_loop.trips) (f8 : BufTy.Contents (Elt Ideal) arg8.view.ty)

theorem trip8 (r : Fin 32) (j : Fin 512) :
    arg8.view.read (Elt Ideal) (arg8.view.writes (Elt Ideal) f8 (tripL_k0_t1 𝒱 c bd i arg1 harg1 arg2 harg2 arg3 harg3 arg4 harg4 arg5 harg5 arg6 harg6 arg7 harg7 arg8 harg8 arg9 harg9 arg10 harg10 arg11 harg11 arg12 harg12 X_arg2 X_arg3 X_arg11 k)) (ix2 ⟨32 * k.val + r.val, by have := k_lt k; omega⟩ j)
      = (∑ q : Fin 31, arg2.view.read (Elt Ideal) X_arg2 (ix2 q j)
          * arg11.view.read (Elt Ideal) X_arg11 (ix2 ⟨32 * k.val + (2 + q.val) + r.val, by have := k_lt k; omega⟩ j)) + arg3.view.read (Elt Ideal) X_arg3 (ix2 0 j) := by
  unfold tripL_k0_t1 trip_k0_t1
  dsimp only
  refine (View.read_writes_cons_hit_of_coords _ _ _ _ [] (ix2 r j) _ ?_).trans ?_
  · intro a
    fin_cases a
    · show 32 * k.val + r.val = k0_off2 k 0 + 1 * r.val
      rw [k0_off2_eq]; simp
    · show j.val = k0_off2 k 1 + 1 * j.val
      rw [k0_off2_eq]; simp
  simp only [sl.arg13, sl.r, sl.r_1, sl.r_2, sl.r_3, sl.r_4, sl.r_5, sl.r_6, sl.r_7, sl.r_8, sl.r_9, sl.r_10, sl.r_11, sl.r_12, sl.r_13, sl.v177]
  pointwise [k0_pay3, k0_pay4, k0_pay5, k0_pay6, k0_pay7, k0_pay8, k0_pay9, k0_pay10, k0_pay11, k0_pay12, k0_pay13, k0_pay14, k0_pay21]
  simp only [View.readAt_apply, Fin.sum_univ_castSucc, Finset.univ_eq_empty, Finset.sum_empty, zero_add]
  simp only [idx1, idx6, idx3]
  simp only [Fin.last, Fin.castSucc, Fin.castAdd, Fin.castLE]
  blk_point

theorem miss8 (R : Fin 832) (j : Fin 512) (hR : R.val < 32 * k.val ∨ 32 * k.val + 32 ≤ R.val) :
    arg8.view.read (Elt Ideal) (arg8.view.writes (Elt Ideal) f8 (tripL_k0_t1 𝒱 c bd i arg1 harg1 arg2 harg2 arg3 harg3 arg4 harg4 arg5 harg5 arg6 harg6 arg7 harg7 arg8 harg8 arg9 harg9 arg10 harg10 arg11 harg11 arg12 harg12 X_arg2 X_arg3 X_arg11 k)) (ix2 R j)
      = arg8.view.read (Elt Ideal) f8 (ix2 R j) := by
  unfold tripL_k0_t1 trip_k0_t1
  dsimp only
  exact View.read_writes_cons_miss_of_axis _ _ _ [] (ix2 R j) 0 (32 * k.val) 32 (congrFun (k0_off2_eq k) 0) rfl rfl hR

end Trip

variable (G_arg8 : BufTy.Contents (Elt Ideal) arg8.view.ty)

theorem after8 (n : ℕ) (hn : n ≤ 26) (R : Fin 832) (j : Fin 512) :
    arg8.view.read (Elt Ideal) (arg8.view.writes (Elt Ideal) G_arg8 (pb_k0_t1 𝒱 c bd i arg1 harg1 arg2 harg2 arg3 harg3 arg4 harg4 arg5 harg5 arg6 harg6 arg7 harg7 arg8 harg8 arg9 harg9 arg10 harg10 arg11 harg11 arg12 harg12 X_arg2 X_arg3 X_arg11 n)) (ix2 R j)
      = if R.val < 32 * n then (∑ q : Fin 31, arg2.view.read (Elt Ideal) X_arg2 (ix2 q j) * at2 (arg11.view.read (Elt Ideal) X_arg11) (R.val + (2 + q.val)) j)
            + arg3.view.read (Elt Ideal) X_arg3 (ix2 0 j)
        else arg8.view.read (Elt Ideal) G_arg8 (ix2 R j) := by
  induction n with
  | zero => rfl
  | succ n ih =>
    have ih := ih (by omega)
    have hk : n < k0_t1_loop.trips := by rw [show k0_t1_loop.trips = 26 by decide +kernel]; omega
    have e := pb_k0_t1_succ 𝒱 c bd i arg1 harg1 arg2 harg2 arg3 harg3 arg4 harg4 arg5 harg5 arg6 harg6 arg7 harg7 arg8 harg8 arg9 harg9 arg10 harg10 arg11 harg11 arg12 harg12 X_arg2 X_arg3 X_arg11 ⟨n, hk⟩
    rw [e, View.writes_append]
    by_cases h : 32 * n ≤ R.val ∧ R.val < 32 * n + 32
    · obtain ⟨r, hr⟩ : ∃ r : Fin 32, R.val = 32 * n + r.val := ⟨⟨R.val - 32 * n, by omega⟩, by simp; omega⟩
      rw [if_pos (by omega), show R = ⟨32 * n + r.val, by omega⟩ from Fin.ext hr]
      refine (trip8 𝒱 c bd i arg1 harg1 arg2 harg2 arg3 harg3 arg4 harg4 arg5 harg5 arg6 harg6 arg7 harg7 arg8 harg8 arg9 harg9 arg10 harg10 arg11 harg11 arg12 harg12 X_arg2 X_arg3 X_arg11 ⟨n, hk⟩ _ r j).trans (congrArg (· + _) (Finset.sum_congr (M := EReal) rfl fun q _ => ?_))
      have := q.isLt
      refine congrArg _ ((congrArg (fun z => arg11.view.read (Elt Ideal) X_arg11 (ix2 z j)) (Fin.ext ?_)).trans (at2_of _ _ _ ?_).symm)
      · show 32 * n + (2 + q.val) + r.val = 32 * n + r.val + (2 + q.val)
        omega
      · have := r.isLt
        omega
    · refine (miss8 𝒱 c bd i arg1 harg1 arg2 harg2 arg3 harg3 arg4 harg4 arg5 harg5 arg6 harg6 arg7 harg7 arg8 harg8 arg9 harg9 arg10 harg10 arg11 harg11 arg12 harg12 X_arg2 X_arg3 X_arg11 ⟨n, hk⟩ _ R j (by show R.val < 32 * n ∨ 32 * n + 32 ≤ R.val; omega)).trans (ih.trans ?_)
      by_cases h2 : R.val < 32 * n
      · rw [if_pos h2, if_pos (by omega)]
      · rw [if_neg h2, if_neg (by omega)]

end Loop
end Cert.CpfKernelIdeal.Value
end
-- ==== Proof.CpfPoint.lean ====
module
public import proofs.«01_k».proof.Proof.CpfLoop
public import proofs.«01_k».proof.Proof.CpMath
@[expose] public section
/-! The mixer's forward kernel at one grid point, over the windows' arrays: the carried rows of the gated input and of the pooled columns. -/
set_option maxRecDepth 16384
noncomputable section
open Idealize.ShloMosaic Idealize.ShloMosaic.TcCoe Idealize.SL.Sem
open Idealize.ShloMosaic.Pipeline (Dat)
namespace Cert.CpfKernelIdeal.Value
open Cert.CpfKernelIdeal Cert.CpfKernelIdeal.Gen Cert.CpMath
variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0, 0] ∧ win0_6.index t = ![0, 0]
    ∧ win0_7.index t = ![t.val, 0] ∧ win0_8.index t = ![t.val, 0] ∧ win0_9.index t = ![t.val, 0]
    ∧ (grid0.coords t 0).val = t.val ∧ t.val < 5 :=
  (by decide +kernel : ∀ t : Fin grid0.N, _)

theorem lt5 (t : Fin cfg0.N) : t.val < 5 := (idx t).2.2.2.2.2.2.2.2.2.2.2
theorem coord (t : Fin cfg0.N) : (grid0.coords t 0).val = t.val := (idx t).2.2.2.2.2.2.2.2.2.2.1

/-- The row of the sequence at row `i` of a point's tile. -/
def rowOf (t : Fin cfg0.N) (i : Fin 832) : Fin 4160 := ⟨t.val * 832 + i.val, by have := lt5 t; have := i.isLt; omega⟩

abbrev aZ (c : Dev nD) : FVec Ideal S4160x1536 .bf16 := V m c main_v2
abbrev aCw (c : Dev nD) : FVec Ideal S31x512 .f32 := V m c main_arg1
abbrev aCb (c : Dev nD) : FVec Ideal S1x512 .f32 := V m c main_v3
abbrev aLg (c : Dev nD) : FVec Ideal S1x512 .f32 := V m c main_v4
abbrev aLb (c : Dev nD) : FVec Ideal S1x512 .f32 := V m c main_v5
abbrev aPw (c : Dev nD) : FVec Ideal S4x128x128 .f32 := V m c main_arg5
abbrev aPs (c : Dev nD) : FVec Ideal S1x512 .f32 := V m c main_v6

/-- A buffer's contents at an index inside the last store's box: the payload there. -/
theorem canon_hit {s : Shape} {e : EltTy} (off size : Fin s.rank → ℕ) (h) (w : (Rect.unit (s := s) off size h).shape.Idx → Elt Ideal e)
    (L : List (View.Piece (Elt Ideal) s e)) (y : s.Idx) (x : (Rect.unit (s := s) off size h).shape.Idx)
    (hx : ∀ a, (y a).val = off a + (x a).val) : View.canon (⟨Rect.unit off size h, w⟩ :: L) y = w x := by
  have : y = (Rect.unit off size h).emb x := by
    funext a
    exact Fin.ext ((hx a).trans (Rect.idx_unit_val _ _ _ _ _).symm)
  rw [this]
  exact View.canon_cons_emb _ _ _ _

/-- Outside it along one axis: the earlier stores' contents. -/
theorem canon_miss {s : Shape} {e : EltTy} (off size : Fin s.rank → ℕ) (h) (w : (Rect.unit (s := s) off size h).shape.Idx → Elt Ideal e)
    (L : List (View.Piece (Elt Ideal) s e)) (y : s.Idx) (a : Fin s.rank) (hy : (y a).val < off a ∨ off a + size a ≤ (y a).val) :
    View.canon (⟨Rect.unit off size h, w⟩ :: L) y = View.canon L y := by
  refine View.canon_cons_of_not_mem _ _ fun hm => ?_
  have := (Rect.mem_set_unit (inb := h)).mp hm a
  omega

theorem z_t (c : Dev nD) (t : Fin cfg0.N) (i : Fin 832) (j : Fin 1536) : iblk m c 0 t (ix2 i j) = aZ m c (ix2 (rowOf t i) j) := by
  unfold rowOf
  blk_point [iblk, idx t]
theorem cw_t (c : Dev nD) (t : Fin cfg0.N) (q : Fin 31) (j : Fin 512) : iblk m c 1 t (ix2 q j) = aCw m c (ix2 q j) := by
  blk_point [iblk, idx t]
theorem cb_t (c : Dev nD) (t : Fin cfg0.N) (j : Fin 512) : iblk m c 2 t (ix2 0 j) = aCb m c (ix2 0 j) := by
  blk_point [iblk, idx t]
theorem lg_t (c : Dev nD) (t : Fin cfg0.N) (j : Fin 512) : iblk m c 3 t (ix2 0 j) = aLg m c (ix2 0 j) := by
  blk_point [iblk, idx t]
theorem lb_t (c : Dev nD) (t : Fin cfg0.N) (j : Fin 512) : iblk m c 4 t (ix2 0 j) = aLb m c (ix2 0 j) := by
  blk_point [iblk, idx t]
theorem pw_t (c : Dev nD) (t : Fin cfg0.N) (g : Fin 4) (a b : Fin 128) : iblk m c 5 t (ix3 g a b) = aPw m c (ix3 g a b) := by
  blk_point [iblk, idx t]
theorem ps_t (c : Dev nD) (t : Fin cfg0.N) (j : Fin 512) : iblk m c 6 t (ix2 0 j) = aPs m c (ix2 0 j) := by
  blk_point [iblk, idx t]

/-- The packed input at a row of the sequence, zero past its end. -/
def zAt (c : Dev nD) (R : ℕ) (j : Fin 1536) : EReal := if h : R < 4160 then aZ m c (ix2 ⟨R, h⟩ j) else 0
/-- The gated input 32 rows before a row, zero before the first. -/
def gAt (c : Dev nD) (N : ℕ) (j : Fin 512) : EReal :=
  if 32 ≤ N then zAt m c (N - 32) ⟨j.val, by omega⟩ * Ideal.logistic (zAt m c (N - 32) ⟨512 + j.val, by omega⟩) else 0
/-- The pooled columns 16 rows before a row, zero before the first. -/
def pAt (c : Dev nD) (N : ℕ) (j : Fin 512) : EReal := if 16 ≤ N then zAt m c (N - 16) ⟨1024 + j.val, by omega⟩ else 0

theorem zAt_row (c : Dev nD) (t : Fin cfg0.N) (i : Fin 832) (j : Fin 1536) : aZ m c (ix2 (rowOf t i) j) = zAt m c (t.val * 832 + i.val) j := by
  unfold zAt
  rw [dif_pos (show t.val * 832 + i.val < 4160 from (rowOf t i).isLt)]
  rfl

theorem glu_t (c : Dev nD) (t : Fin cfg0.N) (i : Fin 832) (j : Fin 512) :
    k0_pay19 (View.ld (iblk m c 0 t) (Rect.unit ![0, 0] ![832, 512] inb_S832x1536_S832x512_0_0))
      (View.ld (iblk m c 0 t) (Rect.unit ![0, 512] ![832, 512] inb_S832x1536_S832x512_0_512)) (ix2 i j) = gAt m c (t.val * 832 + (32 + i.val)) j := by
  unfold gAt
  rw [if_pos (by omega), show t.val * 832 + (32 + i.val) - 32 = t.val * 832 + i.val by omega]
  pointwise [k0_pay19]
  simp only [z_t m c t, zAt_row m c t]

theorem pool_t (c : Dev nD) (t : Fin cfg0.N) (i : Fin 832) (j : Fin 512) :
    k0_pay20 (View.ld (iblk m c 0 t) (Rect.unit ![0, 1024] ![832, 512] inb_S832x1536_S832x512_0_1024)) (ix2 i j) = pAt m c (t.val * 832 + (16 + i.val)) j := by
  unfold pAt
  rw [if_pos (by omega), show t.val * 832 + (16 + i.val) - 16 = t.val * 832 + i.val by omega]
  pointwise [k0_pay20]
  simp only [z_t m c t, zAt_row m c t]

theorem s0_hi (c : Dev nD) (t : Fin cfg0.N) (r : Fin 832) (j : Fin 512) :
    (outsAt0 m c t.val t.isLt).2.2.2.1 (ix2 ⟨32 + r.val, by omega⟩ j) = gAt m c (t.val * 832 + (32 + r.val)) j := by
  have h5 := lt5 t
  have hx : ∀ a : Fin 2, ((ix2 (⟨32 + r.val, by omega⟩ : Fin 864) j : S864x512.Idx) a).val = (![32, 0] : Fin 2 → ℕ) a + ((ix2 r j : S832x512.Idx) a).val :=
    fun a => by match a with | ⟨0, _⟩ => rfl | ⟨1, _⟩ => exact (Nat.zero_add _).symm
  by_cases h0 : t.val % 5 = 0
  · rw [outsAt0_A m c t h0 (by omega)]
    frame_out
    refine (canon_hit _ _ _ _ _ _ (ix2 r j) hx).trans ?_
    exact glu_t m c t r j
  · rw [outsAt0_B m c t h0 (by omega)]
    frame_out
    refine (canon_hit _ _ _ _ _ _ (ix2 r j) hx).trans ?_
    exact glu_t m c t r j

theorem s1_hi (c : Dev nD) (t : Fin cfg0.N) (r : Fin 832) (j : Fin 512) :
    (outsAt0 m c t.val t.isLt).2.2.2.2 (ix2 ⟨16 + r.val, by omega⟩ j) = pAt m c (t.val * 832 + (16 + r.val)) j := by
  have h5 := lt5 t
  have hx : ∀ a : Fin 2, ((ix2 (⟨16 + r.val, by omega⟩ : Fin 848) j : S848x512.Idx) a).val = (![16, 0] : Fin 2 → ℕ) a + ((ix2 r j : S832x512.Idx) a).val :=
    fun a => by match a with | ⟨0, _⟩ => rfl | ⟨1, _⟩ => exact (Nat.zero_add _).symm
  by_cases h0 : t.val % 5 = 0
  · rw [outsAt0_A m c t h0 (by omega)]
    frame_out
    refine (canon_hit _ _ _ _ _ _ (ix2 r j) hx).trans ?_
    exact pool_t m c t r j
  · rw [outsAt0_B m c t h0 (by omega)]
    frame_out
    refine (canon_hit _ _ _ _ _ _ (ix2 r j) hx).trans ?_
    exact pool_t m c t r j

theorem s0 (c : Dev nD) (t : Fin cfg0.N) (r : Fin 864) (j : Fin 512) :
    (outsAt0 m c t.val t.isLt).2.2.2.1 (ix2 r j) = gAt m c (t.val * 832 + r.val) j := by
  have h5 := lt5 t
  by_cases hr : 32 ≤ r.val
  · obtain ⟨r', hr'⟩ : ∃ r' : Fin 832, r = ⟨32 + r'.val, by omega⟩ := ⟨⟨r.val - 32, by omega⟩, Fin.ext (by dsimp only; omega)⟩
    rw [hr']
    exact s0_hi m c t r' j
  have hm : ((ix2 r j : S864x512.Idx) 0).val < 32 := by show r.val < 32; omega
  have hx : ∀ a : Fin 2, ((ix2 r j : S864x512.Idx) a).val = (![0, 0] : Fin 2 → ℕ) a + ((ix2 (⟨r.val, by omega⟩ : Fin 32) j : S32x512.Idx) a).val :=
    fun a => by match a with | ⟨0, _⟩ => exact (Nat.zero_add _).symm | ⟨1, _⟩ => exact (Nat.zero_add _).symm
  by_cases h0 : t.val % 5 = 0
  · rw [outsAt0_A m c t h0 (by omega)]
    frame_out
    refine (canon_miss _ _ _ _ _ _ 0 (Or.inl hm)).trans ((canon_hit _ _ _ _ _ _ (ix2 ⟨r.val, by omega⟩ j) hx).trans ?_)
    pointwise [k0_pay15]
    unfold gAt
    rw [if_neg (by omega)]
  · have step : (outsAt0 m c (t.val - 1) (Nat.lt_of_le_of_lt (Nat.sub_le _ _) t.isLt)).2.2.2.1 (ix2 ⟨832 + r.val, by omega⟩ j)
        = gAt m c (t.val * 832 + r.val) j :=
      (congrArg (fun x => (outsAt0 m c (t.val - 1) (Nat.lt_of_le_of_lt (Nat.sub_le _ _) t.isLt)).2.2.2.1 (ix2 x j)) (Fin.ext (by dsimp only; omega))).trans
        ((s0_hi m c ⟨t.val - 1, Nat.lt_of_le_of_lt (Nat.sub_le _ _) t.isLt⟩ ⟨800 + r.val, by omega⟩ j).trans
          (congrArg (gAt m c · j) (by show (t.val - 1) * 832 + (32 + (800 + r.val)) = t.val * 832 + r.val; omega)))
    rw [outsAt0_B m c t h0 (by omega)]
    frame_out
    generalize (outsAt0 m c (t.val - 1) (Nat.lt_of_le_of_lt (Nat.sub_le _ _) t.isLt)).2.2.2.1 = O at step ⊢
    refine (canon_miss _ _ _ _ _ _ 0 (Or.inl hm)).trans ((canon_hit _ _ _ _ _ _ (ix2 ⟨r.val, by omega⟩ j) hx).trans ?_)
    simp only [(Memref.isWhole_whole _).read_unread]
    pointwise [k0_pay17]
    exact step

theorem s1 (c : Dev nD) (t : Fin cfg0.N) (r : Fin 848) (j : Fin 512) :
    (outsAt0 m c t.val t.isLt).2.2.2.2 (ix2 r j) = pAt m c (t.val * 832 + r.val) j := by
  have h5 := lt5 t
  by_cases hr : 16 ≤ r.val
  · obtain ⟨r', hr'⟩ : ∃ r' : Fin 832, r = ⟨16 + r'.val, by omega⟩ := ⟨⟨r.val - 16, by omega⟩, Fin.ext (by dsimp only; omega)⟩
    rw [hr']
    exact s1_hi m c t r' j
  have hm : ((ix2 r j : S848x512.Idx) 0).val < 16 := by show r.val < 16; omega
  have hx : ∀ a : Fin 2, ((ix2 r j : S848x512.Idx) a).val = (![0, 0] : Fin 2 → ℕ) a + ((ix2 (⟨r.val, by omega⟩ : Fin 16) j : S16x512.Idx) a).val :=
    fun a => by match a with | ⟨0, _⟩ => exact (Nat.zero_add _).symm | ⟨1, _⟩ => exact (Nat.zero_add _).symm
  by_cases h0 : t.val % 5 = 0
  · rw [outsAt0_A m c t h0 (by omega)]
    frame_out
    refine (canon_miss _ _ _ _ _ _ 0 (Or.inl hm)).trans ((canon_hit _ _ _ _ _ _ (ix2 ⟨r.val, by omega⟩ j) hx).trans ?_)
    pointwise [k0_pay16]
    unfold pAt
    rw [if_neg (by omega)]
  · have step : (outsAt0 m c (t.val - 1) (Nat.lt_of_le_of_lt (Nat.sub_le _ _) t.isLt)).2.2.2.2 (ix2 ⟨832 + r.val, by omega⟩ j)
        = pAt m c (t.val * 832 + r.val) j :=
      (congrArg (fun x => (outsAt0 m c (t.val - 1) (Nat.lt_of_le_of_lt (Nat.sub_le _ _) t.isLt)).2.2.2.2 (ix2 x j)) (Fin.ext (by dsimp only; omega))).trans
        ((s1_hi m c ⟨t.val - 1, Nat.lt_of_le_of_lt (Nat.sub_le _ _) t.isLt⟩ ⟨816 + r.val, by omega⟩ j).trans
          (congrArg (pAt m c · j) (by show (t.val - 1) * 832 + (16 + (816 + r.val)) = t.val * 832 + r.val; omega)))
    rw [outsAt0_B m c t h0 (by omega)]
    frame_out
    generalize (outsAt0 m c (t.val - 1) (Nat.lt_of_le_of_lt (Nat.sub_le _ _) t.isLt)).2.2.2.2 = O at step ⊢
    refine (canon_miss _ _ _ _ _ _ 0 (Or.inl hm)).trans ((canon_hit _ _ _ _ _ _ (ix2 ⟨r.val, by omega⟩ j) hx).trans ?_)
    simp only [(Memref.isWhole_whole _).read_unread]
    pointwise [k0_pay18]
    exact step

end Cert.CpfKernelIdeal.Value
end
-- ==== Proof.CpfPool.lean ====
module
public import proofs.«01_k».proof.Proof.CpfPoint
@[expose] public section
/-! Trailing means by doubling: rotations by 1, 2, 4 and 8 add up a window of 2, 4, 8 or 16 rows. -/
set_option maxRecDepth 16384
noncomputable section
open Idealize.ShloMosaic Idealize.ShloMosaic.TcCoe Idealize.SL.Sem
namespace Cert.CpfKernelIdeal.Value
open Cert.CpfKernelIdeal Cert.CpfKernelIdeal.Gen Cert.CpMath

theorem dbl (n : ℕ) (sh : BitVec 32) (hr) (X Q : FVec Ideal S848x128 .f32) (l : Fin 128)
    (hX : ∀ r : Fin 848, n ≤ r.val + 1 → X (ix2 r l) = ∑ s ∈ Finset.range n, at2 Q (r.val - s) l)
    (hrot : ∀ (r : Fin 848) (h : n ≤ r.val), dynamicRotate 0 sh none X hr (ix2 r l) = X (ix2 ⟨r.val - n, by omega⟩ l)) (hn : 0 < n) :
    ∀ r : Fin 848, n + n ≤ r.val + 1 → addf X (dynamicRotate 0 sh none X hr) (ix2 r l) = ∑ s ∈ Finset.range (n + n), at2 Q (r.val - s) l := by
  intro r h
  rw [Finset.sum_range_add]
  refine congrArg₂ (· + ·) (hX r (by omega)) ((hrot r (by omega)).trans ((hX _ (by show n ≤ r.val - n + 1; omega)).trans ?_))
  exact Finset.sum_congr (M := EReal) rfl fun s _ => congrArg (at2 Q · l) (Nat.sub_sub _ _ _)

section
variable (X : FVec Ideal S848x128 .f32) (hr : S848x128.Rotates 0 none) (l : Fin 128) (r : Fin 848)
theorem rot1 (h : 1 ≤ r.val) : dynamicRotate 0 1#32 none X hr (ix2 r l) = X (ix2 ⟨r.val - 1, by omega⟩ l) := by
  pointwise []
  exact congrArg (fun z => X (ix2 z l)) (Fin.ext (by dsimp only; omega))
theorem rot2 (h : 2 ≤ r.val) : dynamicRotate 0 2#32 none X hr (ix2 r l) = X (ix2 ⟨r.val - 2, by omega⟩ l) := by
  pointwise []
  exact congrArg (fun z => X (ix2 z l)) (Fin.ext (by dsimp only; omega))
theorem rot4 (h : 4 ≤ r.val) : dynamicRotate 0 4#32 none X hr (ix2 r l) = X (ix2 ⟨r.val - 4, by omega⟩ l) := by
  pointwise []
  exact congrArg (fun z => X (ix2 z l)) (Fin.ext (by dsimp only; omega))
theorem rot8 (h : 8 ≤ r.val) : dynamicRotate 0 8#32 none X hr (ix2 r l) = X (ix2 ⟨r.val - 8, by omega⟩ l) := by
  pointwise []
  exact congrArg (fun z => X (ix2 z l)) (Fin.ext (by dsimp only; omega))
end

section
variable (Q : FVec Ideal S848x128 .f32) (hr : S848x128.Rotates 0 none) (l : Fin 128)
def r1 : FVec Ideal S848x128 .f32 := addf Q (dynamicRotate 0 1#32 none Q hr)
def r2 : FVec Ideal S848x128 .f32 := addf (r1 Q hr) (dynamicRotate 0 2#32 none (r1 Q hr) hr)
def r3 : FVec Ideal S848x128 .f32 := addf (r2 Q hr) (dynamicRotate 0 4#32 none (r2 Q hr) hr)
def r4 : FVec Ideal S848x128 .f32 := addf (r3 Q hr) (dynamicRotate 0 8#32 none (r3 Q hr) hr)
theorem r1_sum : ∀ r : Fin 848, 2 ≤ r.val + 1 → r1 Q hr (ix2 r l) = ∑ s ∈ Finset.range 2, at2 Q (r.val - s) l :=
  dbl 1 _ hr Q Q l (fun r _ => by rw [Finset.sum_range_one]; exact (at2_of Q r.val l r.isLt).symm) (rot1 Q hr l) (by norm_num)
theorem r2_sum : ∀ r : Fin 848, 4 ≤ r.val + 1 → r2 Q hr (ix2 r l) = ∑ s ∈ Finset.range 4, at2 Q (r.val - s) l :=
  dbl 2 _ hr (r1 Q hr) Q l (r1_sum Q hr l) (rot2 _ hr l) (by norm_num)
theorem r3_sum : ∀ r : Fin 848, 8 ≤ r.val + 1 → r3 Q hr (ix2 r l) = ∑ s ∈ Finset.range 8, at2 Q (r.val - s) l :=
  dbl 4 _ hr (r2 Q hr) Q l (r2_sum Q hr l) (rot4 _ hr l) (by norm_num)
theorem r4_sum : ∀ r : Fin 848, 16 ≤ r.val + 1 → r4 Q hr (ix2 r l) = ∑ s ∈ Finset.range 16, at2 Q (r.val - s) l :=
  dbl 8 _ hr (r3 Q hr) Q l (r3_sum Q hr l) (rot8 _ hr l) (by norm_num)
end

/-- A trailing mean less the row itself, over a window's sum. -/
theorem pool_core (P : FVec Ideal S832x1 .f32) (Y : FVec Ideal S848x128 .f32) (n : ℕ) (Q : FVec Ideal S848x128 .f32) (l : Fin 128) (K : BitVec 32)
    (hY : ∀ r : Fin 848, n ≤ r.val + 1 → Y (ix2 r l) = ∑ s ∈ Finset.range n, at2 Q (r.val - s) l) (hn : n ≤ 16) (h1 h2) (r : Fin 832) :
    (truncf .bf16 (subf (divf (extractStridedSlice S832x128 ![16, 0] Y h1) (broadcastTo S832x128 (minimumf (broadcast S832x1 (Scalar.ofBits (F := Ideal) .f32 K))
        (maximumf (broadcast S832x1 (Scalar.ofBits (F := Ideal) .f32 0x3F800000#32)) P)) h2)) (extractStridedSlice S832x128 ![16, 0] Q h1)) bitsLt_bf16_f32 : FVec Ideal S832x128 .bf16) (ix2 r l)
      = Ideal.div (∑ s ∈ Finset.range n, at2 Q (16 + r.val - s) l) (min (Ideal.ofBits .f32 K) (max 1 (P (ix2 r 0)))) - Q (ix2 ⟨16 + r.val, by omega⟩ l) := by
  rw [← hY ⟨16 + r.val, by omega⟩ (by show n ≤ 16 + r.val + 1; omega)]
  pointwise []

theorem pool1 (P : FVec Ideal S832x1 .f32) (Q : FVec Ideal S848x128 .f32) (r : Fin 832) (l : Fin 128) :
    k0_pay28 P (k0_pay26 Q) (k0_pay27 Q) (ix2 r l)
      = Ideal.div (∑ s ∈ Finset.range 2, at2 Q (16 + r.val - s) l) (min (Ideal.ofBits .f32 0x40000000#32) (max 1 (P (ix2 r 0)))) - Q (ix2 ⟨16 + r.val, by omega⟩ l) :=
  pool_core P (r1 Q rotates_S848x128_d0) 2 Q l _ (r1_sum Q _ l) (by norm_num) slices_S848x128_o16_0_S832x128 _ r
theorem pool2 (P : FVec Ideal S832x1 .f32) (Q : FVec Ideal S848x128 .f32) (r : Fin 832) (l : Fin 128) :
    k0_pay30 P Q (ix2 r l)
      = Ideal.div (∑ s ∈ Finset.range 4, at2 Q (16 + r.val - s) l) (min (Ideal.ofBits .f32 0x40800000#32) (max 1 (P (ix2 r 0)))) - Q (ix2 ⟨16 + r.val, by omega⟩ l) :=
  pool_core P (r2 Q rotates_S848x128_d0) 4 Q l _ (r2_sum Q _ l) (by norm_num) _ _ r
theorem pool3 (P : FVec Ideal S832x1 .f32) (Q : FVec Ideal S848x128 .f32) (r : Fin 832) (l : Fin 128) :
    k0_pay32 P Q (ix2 r l)
      = Ideal.div (∑ s ∈ Finset.range 8, at2 Q (16 + r.val - s) l) (min (Ideal.ofBits .f32 0x41000000#32) (max 1 (P (ix2 r 0)))) - Q (ix2 ⟨16 + r.val, by omega⟩ l) :=
  pool_core P (r3 Q rotates_S848x128_d0) 8 Q l _ (r3_sum Q _ l) (by norm_num) _ _ r
theorem pool4 (P : FVec Ideal S832x1 .f32) (Q : FVec Ideal S848x128 .f32) (r : Fin 832) (l : Fin 128) :
    k0_pay1 P Q (ix2 r l)
      = Ideal.div (∑ s ∈ Finset.range 16, at2 Q (16 + r.val - s) l) (min (Ideal.ofBits .f32 0x41800000#32) (max 1 (P (ix2 r 0)))) - Q (ix2 ⟨16 + r.val, by omega⟩ l) :=
  pool_core P (r4 Q rotates_S848x128_d0) 16 Q l _ (r4_sum Q _ l) (by norm_num) _ _ r

section
variable (P : FVec Ideal S832x1 .f32) (Q : FVec Ideal S848x128 .f32) (W : Vec Ideal S1x128x128 .f32) (S : Vec Ideal S1x128 .f32) (r : Fin 832) (d : Fin 128)
theorem proj_core (D : FVec Ideal S832x128 .bf16) : k0_pay31 D W S (ix2 r d) = (∑ l : Fin 128, D (ix2 r l) * W (ix3 0 l d)) * S (ix2 0 d) := by
  pointwise [k0_pay31]
theorem proj1 : k0_pay29 P (k0_pay26 Q) (k0_pay27 Q) W S (ix2 r d) = (∑ l : Fin 128, k0_pay28 P (k0_pay26 Q) (k0_pay27 Q) (ix2 r l) * W (ix3 0 l d)) * S (ix2 0 d) :=
  proj_core W S r d (k0_pay28 P (k0_pay26 Q) (k0_pay27 Q))
theorem proj3 : k0_pay33 P Q W S (ix2 r d) = (∑ l : Fin 128, k0_pay32 P Q (ix2 r l) * W (ix3 0 l d)) * S (ix2 0 d) :=
  proj_core W S r d (k0_pay32 P Q)
theorem proj4 : k0_pay2 P Q W S (ix2 r d) = (∑ l : Fin 128, k0_pay1 P Q (ix2 r l) * W (ix3 0 l d)) * S (ix2 0 d) :=
  proj_core W S r d (k0_pay1 P Q)
end

theorem rd1 (v : View sig .tc .vmem S848x512 .f32) (L : List (View.Piece (Elt Ideal) S848x512 .f32)) (lo : ℕ) (h) (r : Fin 848) (l : Fin 128) :
    v.readCov L (Rect.unit (s := S848x512) ![0, lo] ![848, 128] h).toLoadRect (ix2 r l)
      = View.canon L (ix2 r ⟨lo + l.val, by have := h 1; simp at this; omega⟩) := by
  rw [View.readCov_eq_canon']
  refine congrArg (View.canon L) (funext fun x => Fin.ext ((Rect.idx_unit_val _ _ _ _ _).trans ?_))
  match x with
  | ⟨0, _⟩ => exact Nat.zero_add _
  | ⟨1, _⟩ => rfl

theorem rd2 (v : View sig .tc .vmem S832x512 .f32) (L : List (View.Piece (Elt Ideal) S832x512 .f32)) (h) (r : Fin 832) (l : Fin 512) :
    v.readCov L (Rect.unit (s := S832x512) ![0, 0] ![832, 512] h).toLoadRect (ix2 r l) = View.canon L (ix2 r l) := by
  rw [View.readCov_eq_canon']
  refine congrArg (View.canon L) (funext fun x => Fin.ext ((Rect.idx_unit_val _ _ _ _ _).trans ?_))
  match x with
  | ⟨0, _⟩ => exact Nat.zero_add _
  | ⟨1, _⟩ => exact Nat.zero_add _

end Cert.CpfKernelIdeal.Value
end
-- ==== Proof.CpfOut.lean ====
module
public import proofs.«01_k».proof.Proof.CpfPool
@[expose] public section
/-! What a point of the mixer's forward kernel leaves in its three output windows. -/
set_option maxRecDepth 16384
noncomputable section
open Idealize.ShloMosaic Idealize.ShloMosaic.TcCoe Idealize.SL.Sem
open Idealize.ShloMosaic.Pipeline (Dat)
namespace Cert.CpfKernelIdeal.Value
open Cert.CpfKernelIdeal Cert.CpfKernelIdeal.Gen Cert.CpMath
variable (m : (ℓ : Loc nD τ sig) → Buf (Elt Ideal) ℓ)

theorem trips_eq : Scf.trips 0#32 (Scalar.addi 0#32 26#32) 1#32 = 26 := by decide +kernel

/-- A row of the convolution: 31 taps over the gated input, the last at the row itself, plus the bias. -/
def cR (c : Dev nD) (R : ℕ) (j : Fin 512) : EReal := (∑ q : Fin 31, aCw m c (ix2 q j) * gAt m c (R + (2 + q.val)) j) + aCb m c (ix2 0 j)

theorem c_of (c : Dev nD) (t : Fin cfg0.N) (C : S31x512.Idx → EReal) (B : S1x512.Idx → EReal) (X : S864x512.Idx → EReal)
    (hC : ∀ q j, C (ix2 q j) = aCw m c (ix2 q j)) (hB : ∀ j, B (ix2 0 j) = aCb m c (ix2 0 j))
    (hX : ∀ r j, X (ix2 r j) = gAt m c (t.val * 832 + r.val) j) (r : Fin 832) (j : Fin 512) (O : EReal) :
    (if r.val < 32 * 26 then (∑ q : Fin 31, C (ix2 q j) * at2 X (r.val + (2 + q.val)) j) + B (ix2 0 j) else O) = cR m c (t.val * 832 + r.val) j := by
  rw [if_pos (by omega)]
  unfold cR
  rw [hB]
  refine congrArg (· + _) (Finset.sum_congr (M := EReal) rfl fun q _ => ?_)
  rw [at2_of X _ j (by omega), hC, hX]
  exact congrArg (fun n => _ * gAt m c n j) (Nat.add_assoc _ _ _).symm

set_option maxHeartbeats 1600000 in
theorem c_t (c : Dev nD) (t : Fin cfg0.N) (r : Fin 832) (j : Fin 512) : (outsAt0 m c t.val t.isLt).1 (ix2 r j) = cR m c (t.val * 832 + r.val) j := by
  have h5 := lt5 t
  have hs := s0 m c t
  revert hs
  by_cases h0 : t.val % 5 = 0
  on_goal 1 => rw [outsAt0_A m c t h0 (by omega)]
  on_goal 2 => rw [outsAt0_B m c t h0 (by omega)]
  all_goals
    frame_out
    intro hs
    rw [← View.read_writes_junk_eq_canon (ms0_7 t).view]
    refine (after8 (arg2 := ms0_1 t) (arg3 := ms0_2 t) (arg8 := ms0_7 t) (arg11 := scM0_0) (R := r) (j := j) (hn := trips_eq.le) ..).trans ?_
    rw [trips_eq]
    refine c_of m c t _ _ _ ?_ ?_ ?_ r j _
    · exact fun q j => (congrFun ((hs0_1 t).read_unread _) _).trans (cw_t m c t q j)
    · exact fun j => (congrFun ((hs0_2 t).read_unread _) _).trans (cb_t m c t j)
    · exact fun r j => (congrFun (View.read_writes_junk_eq_canon _ _) _).trans (hs r j)

theorem pos_toInt : ∀ t : Fin 5, ∀ y : Fin 832,
    (IntOp.addi (IntOp.subi (IntOp.addi (Scalar.muli (BitVec.ofNat 32 t.val) 832#32) (BitVec.ofNat 32 y.val)) 48#32) 1#32).toInt
      = ((t.val * 832 + y.val : ℕ) : ℤ) - 47 := by
  decide +kernel
theorem pos_mask : ∀ t : Fin 5, ∀ y : Fin 832,
    IntOp.cmpi .sge (IntOp.addi (Scalar.muli (BitVec.ofNat 32 t.val) 832#32) (BitVec.ofNat 32 y.val)) 48#32
      = if 48 ≤ t.val * 832 + y.val then 1#1 else 0#1 := by
  decide +kernel

theorem pos_t (t : Fin cfg0.N) (i : Fin 832) :
    k0_pay25 (F := Ideal) (BitVec.ofNat 32 (grid0.coords t 0).val) (ix2 i 0) = ((((t.val * 832 + i.val : ℕ) : ℤ) - 47 : ℤ) : ℝ) := by
  rw [← pos_toInt ⟨t.val, lt5 t⟩ i]
  pointwise [k0_pay25, k0_pay23]
  rw [coord]
  rfl

/-- The normalised, gated convolution at a row, zero on the pad rows. -/
def lnR (c : Dev nD) (R : ℕ) (j : Fin 512) : EReal := cen (cR m c R) j * rs (cR m c R) * aLg m c (ix2 0 j) + aLb m c (ix2 0 j)
def actR (c : Dev nD) (R : ℕ) (j : Fin 512) : EReal := if 48 ≤ R then lnR m c R j * Ideal.logistic (lnR m c R j) else 0

theorem act_of (c : Dev nD) (t : Fin cfg0.N) (i : Fin 832) (j : Fin 512) (C : Vec Ideal S832x512 .f32) (G B : Vec Ideal S1x512 .f32)
    (hC : ∀ k, C (ix2 i k) = cR m c (t.val * 832 + i.val) k) (hG : G (ix2 0 j) = aLg m c (ix2 0 j)) (hB : B (ix2 0 j) = aLb m c (ix2 0 j)) :
    k0_pay24 (BitVec.ofNat 32 (grid0.coords t 0).val) (k0_pay22 C) G B (ix2 i j) = actR m c (t.val * 832 + i.val) j := by
  pointwise [k0_pay24, k0_pay23, k0_pay22]
  rw [coord]
  have e := pos_mask ⟨t.val, lt5 t⟩ i
  dsimp only at e
  simp only [hC, hG, hB]
  unfold actR
  rw [e]
  by_cases h : 48 ≤ t.val * 832 + i.val
  · rw [if_pos h, if_pos h]
    rfl
  · rw [if_neg h, if_neg h]
    rfl

set_option maxHeartbeats 1600000 in
theorem mix_conv (c : Dev nD) (t : Fin cfg0.N) (r : Fin 832) (j : Fin 512) :
    (outsAt0 m c t.val t.isLt).2.2.1 (ix2 r ⟨j.val, by omega⟩) = actR m c (t.val * 832 + r.val) j := by
  have h5 := lt5 t
  have hx : ∀ a : Fin 2, ((ix2 r ⟨j.val, by omega⟩ : S832x1024.Idx) a).val = (![0, 0] : Fin 2 → ℕ) a + ((ix2 r j : S832x512.Idx) a).val :=
    fun a => by match a with | ⟨0, _⟩ => exact (Nat.zero_add _).symm | ⟨1, _⟩ => exact (Nat.zero_add _).symm
  have hs := c_t m c t
  revert hs
  by_cases h0 : t.val % 5 = 0
  on_goal 1 => rw [outsAt0_A m c t h0 (by omega)]
  on_goal 2 => rw [outsAt0_B m c t h0 (by omega)]
  all_goals
    frame_out
    intro hs
    iterate 4 (refine (canon_miss _ _ _ _ _ _ 1 ?_).trans ?_; · (simp <;> omega))
    refine (canon_hit _ _ _ _ _ _ (ix2 r j) hx).trans ?_
    refine act_of m c t r j _ _ _ (fun k => (rd2 _ _ _ r k).trans (hs r k)) ?_ ?_
    · pointwise []
      exact lg_t m c t j
    · pointwise []
      exact lb_t m c t j

/-- The number of rows in a trailing window of 2, 4, 8 or 16, as a position has them. -/
def cnt (R : ℕ) (g : Fin 4) : EReal :=
  min ((![Ideal.ofBits .f32 0x40000000#32, Ideal.ofBits .f32 0x40800000#32, Ideal.ofBits .f32 0x41000000#32, Ideal.ofBits .f32 0x41800000#32] : Fin 4 → EReal) g)
    (max 1 (((R : ℤ) - 47 : ℤ) : ℝ))
/-- A group's trailing mean at a row, less the row itself. -/
def poolR (c : Dev nD) (R : ℕ) (g : Fin 4) (l : Fin 128) : EReal :=
  Ideal.div (∑ s ∈ Finset.range (2 ^ (g.val + 1)), pAt m c (R + (16 - s)) ⟨128 * g.val + l.val, by omega⟩) (cnt R g)
    - pAt m c (R + 16) ⟨128 * g.val + l.val, by omega⟩
/-- The same projected within its group and scaled. -/
def projR (c : Dev nD) (R : ℕ) (g : Fin 4) (d : Fin 128) : EReal :=
  (∑ l : Fin 128, poolR m c R g l * aPw m c (ix3 g l d)) * aPs m c (ix2 0 ⟨128 * g.val + d.val, by omega⟩)

theorem pool_of (c : Dev nD) (t : Fin cfg0.N) (n : ℕ) (g : Fin 4) (l : Fin 128) (r : Fin 832) (hn : n = 2 ^ (g.val + 1)) (h16 : n ≤ 16)
    (Q : S848x128.Idx → EReal) (hQ : ∀ r : Fin 848, Q (ix2 r l) = pAt m c (t.val * 832 + r.val) ⟨128 * g.val + l.val, by omega⟩)
    (N : EReal) (hN : N = cnt (t.val * 832 + r.val) g) :
    Ideal.div (∑ s ∈ Finset.range n, at2 Q (16 + r.val - s) l) N - Q (ix2 ⟨16 + r.val, by omega⟩ l) = poolR m c (t.val * 832 + r.val) g l := by
  unfold poolR
  rw [hN, hQ, ← hn]
  refine congrArg₂ (fun x y : EReal => Ideal.div x _ - y) (Finset.sum_congr (M := EReal) rfl fun s hs => ?_) (congrArg (pAt m c · _) (by dsimp only; omega))
  have := Finset.mem_range.mp hs
  rw [at2_of Q _ l (by omega), hQ]
  exact congrArg (pAt m c · _) (by dsimp only; omega)

theorem rd1_of (c : Dev nD) (t : Fin cfg0.N) (L : List (View.Piece (Elt Ideal) S848x512 .f32))
    (hs : ∀ (r : Fin 848) (j : Fin 512), View.canon L (ix2 r j) = pAt m c (t.val * 832 + r.val) j) (v : View sig .tc .vmem S848x512 .f32)
    (g : Fin 4) (lo : ℕ) (hlo : lo = 128 * g.val) (h) (l : Fin 128) (r : Fin 848) :
    v.readCov L (Rect.unit (s := S848x512) ![0, lo] ![848, 128] h).toLoadRect (ix2 r l) = pAt m c (t.val * 832 + r.val) ⟨128 * g.val + l.val, by omega⟩ := by
  subst hlo
  exact (rd1 _ _ _ _ r l).trans (hs r _)

set_option maxHeartbeats 1600000 in
theorem pm_t (c : Dev nD) (t : Fin cfg0.N) (r : Fin 832) (g : Fin 4) (l : Fin 128) :
    (outsAt0 m c t.val t.isLt).2.1 (ix2 r ⟨128 * g.val + l.val, by omega⟩) = poolR m c (t.val * 832 + r.val) g l := by
  have h5 := lt5 t
  have hl := l.isLt
  have hx : ∀ a : Fin 2, ((ix2 r ⟨128 * g.val + l.val, by omega⟩ : S832x512.Idx) a).val
      = (![0, 128 * g.val] : Fin 2 → ℕ) a + ((ix2 r l : S832x128.Idx) a).val :=
    fun a => by match a with | ⟨0, _⟩ => exact (Nat.zero_add _).symm | ⟨1, _⟩ => rfl
  have hs := s1 m c t
  revert hs
  obtain ⟨g, hg⟩ := g
  by_cases h0 : t.val % 5 = 0
  on_goal 1 => rw [outsAt0_A m c t h0 (by omega)]
  on_goal 2 => rw [outsAt0_B m c t h0 (by omega)]
  all_goals
    frame_out
    intro hs
    interval_cases g
  all_goals
    iterate 3 try (refine (canon_miss _ _ _ _ _ _ 1 ?_).trans ?_; · (simp <;> omega))
    refine (canon_hit _ _ _ _ _ _ (ix2 r l) hx).trans ?_
    first
      | with_reducible refine (pool1 _ _ _ _).trans ?_
      | with_reducible refine (pool2 _ _ _ _).trans ?_
      | with_reducible refine (pool3 _ _ _ _).trans ?_
      | with_reducible refine (pool4 _ _ _ _).trans ?_
    refine pool_of m c t _ ⟨_, hg⟩ l r rfl (by norm_num) _ (fun r => ?_) _ ?_
    · exact rd1_of m c t _ hs _ ⟨_, hg⟩ _ rfl _ l r
    · rw [pos_t]
      rfl

theorem proj_of (c : Dev nD) (t : Fin cfg0.N) (r : Fin 832) (g : Fin 4) (d : Fin 128) (D W : Fin 128 → EReal) (S : EReal)
    (hD : ∀ l, D l = poolR m c (t.val * 832 + r.val) g l) (hW : ∀ l, W l = aPw m c (ix3 g l d))
    (hS : S = aPs m c (ix2 0 ⟨128 * g.val + d.val, by omega⟩)) : (∑ l, D l * W l) * S = projR m c (t.val * 832 + r.val) g d := by
  simp only [hD, hW, hS]
  rfl

set_option maxHeartbeats 1600000 in
theorem mix_pool (c : Dev nD) (t : Fin cfg0.N) (r : Fin 832) (g : Fin 4) (d : Fin 128) :
    (outsAt0 m c t.val t.isLt).2.2.1 (ix2 r ⟨512 + (128 * g.val + d.val), by omega⟩) = projR m c (t.val * 832 + r.val) g d := by
  have h5 := lt5 t
  have hd := d.isLt
  have hx : ∀ a : Fin 2, ((ix2 r ⟨512 + (128 * g.val + d.val), by omega⟩ : S832x1024.Idx) a).val
      = (![0, 512 + 128 * g.val] : Fin 2 → ℕ) a + ((ix2 r d : S832x128.Idx) a).val :=
    fun a => by match a with | ⟨0, _⟩ => exact (Nat.zero_add _).symm | ⟨1, _⟩ => exact (Nat.add_assoc _ _ _).symm
  have hs := s1 m c t
  revert hs
  obtain ⟨g, hg⟩ := g
  by_cases h0 : t.val % 5 = 0
  on_goal 1 => rw [outsAt0_A m c t h0 (by omega)]
  on_goal 2 => rw [outsAt0_B m c t h0 (by omega)]
  all_goals
    frame_out
    intro hs
    interval_cases g
  all_goals
    iterate 3 try (refine (canon_miss _ _ _ _ _ _ 1 ?_).trans ?_; · (simp <;> omega))
    refine (canon_hit _ _ _ _ _ _ (ix2 r d) hx).trans ?_
    first
      | with_reducible refine (proj1 _ _ _ _ r d).trans ?_
      | with_reducible refine (proj_core _ _ r d _).trans ?_
      | with_reducible refine (proj3 _ _ _ _ r d).trans ?_
      | with_reducible refine (proj4 _ _ _ _ r d).trans ?_
    refine proj_of m c t r ⟨_, hg⟩ d _ _ _ (fun l => ?_) (fun l => ?_) ?_
    · first
        | with_reducible refine (pool1 _ _ _ _).trans ?_
        | with_reducible refine (pool2 _ _ _ _).trans ?_
        | with_reducible refine (pool3 _ _ _ _).trans ?_
        | with_reducible refine (pool4 _ _ _ _).trans ?_
      refine pool_of m c t _ ⟨_, hg⟩ l r rfl (by norm_num) _ (fun r => ?_) _ ?_
      · exact rd1_of m c t _ hs _ ⟨_, hg⟩ _ rfl _ l r
      · rw [pos_t]
        rfl
    · pointwise []
      exact pw_t m c t _ l d
    · pointwise []
      exact (ps_t m c t _).trans (congrArg (fun z => aPs m c (ix2 0 z)) (Fin.ext (by dsimp only <;> omega)))

end Cert.CpfKernelIdeal.Value
end
-- ==== Proof.CpfFin.lean ====
module
public import proofs.«01_k».proof.Proof.CpfOut
@[expose] public section
/-! The mixer's forward kernel's three results, whole. -/
set_option maxRecDepth 16384
noncomputable section
open Idealize.ShloMosaic Idealize.ShloMosaic.TcCoe Idealize.SL.Sem
open Idealize.ShloMosaic.Pipeline (Dat)
namespace Cert.CpfKernelIdeal.Value
open Cert.CpfKernelIdeal Cert.CpfKernelIdeal.Gen Cert.CpMath
variable (m : (ℓ : Loc nD τ sig) → Buf (Elt Ideal) ℓ)

/-- The convolution, the pooled means and the mixed rows, whole. -/
def cOut (c : Dev nD) : FVec Ideal S4160x512 .f32 := fun y => cR m c (y 0).val (y 1)
def pmOut (c : Dev nD) : FVec Ideal S4160x512 .bf16 := fun y =>
  poolR m c (y 0).val ⟨(y 1).val / 128, by have : (y 1).val < 512 := (y 1).isLt; omega⟩ ⟨(y 1).val % 128, by omega⟩
def mixOut (c : Dev nD) : FVec Ideal S4160x1024 .bf16 := fun y =>
  if h : (y 1).val < 512 then actR m c (y 0).val ⟨(y 1).val, h⟩
  else projR m c (y 0).val ⟨((y 1).val - 512) / 128, by have : (y 1).val < 1024 := (y 1).isLt; omega⟩ ⟨((y 1).val - 512) % 128, by omega⟩

theorem c_all (c : Dev nD) (t : Fin cfg0.N) (r : Fin 832) (k : Fin 512) :
    (outsAt0 m c t.val t.isLt).1 (ix2 r k) = cOut m c (ix2 (rowOf t r) k) := c_t m c t r k

theorem pm_all (c : Dev nD) (t : Fin cfg0.N) (r : Fin 832) (k : Fin 512) :
    (outsAt0 m c t.val t.isLt).2.1 (ix2 r k) = pmOut m c (ix2 (rowOf t r) k) :=
  (congrArg (fun x => (outsAt0 m c t.val t.isLt).2.1 (ix2 r x)) (Fin.ext (by show k.val = 128 * (k.val / 128) + k.val % 128; omega))).trans
    (pm_t m c t r ⟨k.val / 128, by omega⟩ ⟨k.val % 128, by omega⟩)

theorem mix_all (c : Dev nD) (t : Fin cfg0.N) (r : Fin 832) (k : Fin 1024) :
    (outsAt0 m c t.val t.isLt).2.2.1 (ix2 r k) = mixOut m c (ix2 (rowOf t r) k) := by
  by_cases h : k.val < 512
  · have e : mixOut m c (ix2 (rowOf t r) k) = actR m c (t.val * 832 + r.val) ⟨k.val, h⟩ := dif_pos h
    exact (mix_conv m c t r ⟨k.val, h⟩).trans e.symm
  · refine ((congrArg (fun x => (outsAt0 m c t.val t.isLt).2.2.1 (ix2 r x)) (Fin.ext ?_)).trans (mix_pool m c t r ⟨(k.val - 512) / 128, by omega⟩ ⟨(k.val - 512) % 128, by omega⟩)).trans ?_
    · show k.val = 512 + (128 * ((k.val - 512) / 128) + (k.val - 512) % 128)
      omega
    · have e : mixOut m c (ix2 (rowOf t r) k) = projR m c (t.val * 832 + r.val) ⟨(k.val - 512) / 128, by omega⟩ ⟨(k.val - 512) % 128, by omega⟩ := dif_neg h
      exact e.symm

theorem final_c (c : Dev nD) : (dats m 0 c).arrAt 7 (cfgs 0).N = cOut m c := by
  refine (dats m 0 c).arrAt_eq_of_covers 7 _ (by decide +kernel) fun t hf y => ?_
  blk_simp
  rw [after0_7]
  idx_vars y
  refine (c_all m c t _ _).trans ?_
  generalize cOut m c = W
  blk_simp [idx t]
  blk_point [rowOf, idx t]
theorem final_pm (c : Dev nD) : (dats m 0 c).arrAt 8 (cfgs 0).N = pmOut m c := by
  refine (dats m 0 c).arrAt_eq_of_covers 8 _ (by decide +kernel) fun t hf y => ?_
  blk_simp
  rw [after0_8]
  idx_vars y
  refine (pm_all m c t _ _).trans ?_
  generalize pmOut m c = W
  blk_simp [idx t]
  blk_point [rowOf, idx t]
theorem final_mix (c : Dev nD) : (dats m 0 c).arrAt 9 (cfgs 0).N = mixOut m c := by
  refine (dats m 0 c).arrAt_eq_of_covers 9 _ (by decide +kernel) fun t hf y => ?_
  blk_simp
  rw [after0_9]
  idx_vars y
  refine (mix_all m c t _ _).trans ?_
  generalize mixOut m c = W
  blk_simp [idx t]
  blk_point [rowOf, idx t]

end Cert.CpfKernelIdeal.Value
end
-- ==== Proof.CpfRef.lean ====
module
public import proofs.«01_k».proof.Proof.Gen.CpfReferenceIdeal.Read
public import Idealize.ShloMosaic.Lib.Pipeline.ValueKit
public import Idealize.ShloMosaic.Lib.Routing.OpsOne
public import proofs.«01_k».proof.Proof.CpLn
@[expose] public section
/-! The reference of the mixer's forward call, read at an index. -/
set_option maxRecDepth 16384
noncomputable section
open Idealize.ShloMosaic Idealize.ShloMosaic.TcCoe Idealize.SL.Sem
namespace Cert.CpfReferenceIdeal.Read
open Cert.CpfReferenceIdeal Cert.CpfReferenceIdeal.Gen Cert.CpMath

/-- The projected rows behind their 48 zero rows. -/
def pZ (x0 : FVec Ideal S4112x1536 .f32) (R : ℕ) (k : Fin 1536) : EReal :=
  if h : 48 ≤ R ∧ R < 4160 then x0 (ix2 ⟨R - 48, by omega⟩ k) else 0
/-- The gated unit's output. -/
def glE (x0 : FVec Ideal S4112x1536 .f32) (R : ℕ) (j : Fin 512) : EReal :=
  pZ x0 R ⟨j.val, by omega⟩ * Ideal.logistic (pZ x0 R ⟨512 + j.val, by omega⟩)
/-- The depthwise convolution's output. -/
def cE (x0 : FVec Ideal S4112x1536 .f32) (x1 : FVec Ideal S31x512 .f32) (x2 : FVec Ideal S512 .f32) (i : Fin 4112) (j : Fin 512) : EReal :=
  ∑ q : Fin 31, glE x0 (18 + q.val + i.val) j * x1 (ix2 q j) + x2 (ix1 j)

variable (x0 : FVec Ideal S4112x1536 .f32) (x1 : FVec Ideal S31x512 .f32) (x2 x3 x4 : FVec Ideal S512 .f32)
  (x5 : FVec Ideal S4x128x128 .f32) (x6 : FVec Ideal S512 .f32)

theorem ref1 (R : Fin 4160) (k : Fin 1536) : val_main_v1 (F := Ideal) x0 (ix2 R k) = pZ x0 R.val k := by
  have hR := R.isLt
  by_cases hc : R.val < 48
  · rw [pZ, dif_neg (by omega)]
    pointwise [val_main_v1, val_main_v0, val_main_cst]
    rw [dif_pos hc]
  · rw [pZ, dif_pos ⟨by omega, hR⟩]
    pointwise [val_main_v1, val_main_v0, val_main_cst]
    rw [dif_neg hc]

theorem ref10 (R : Fin 4160) (j : Fin 512) : val_main_v10 (F := Ideal) x0 (ix2 R j) = glE x0 R.val j := by
  have h := ref1 x0
  unfold val_main_v10 val_main_v9 val_main_v7 val_main_v5 val_main_v4 val_main_v3 val_main_v2
  generalize val_main_v1 (F := Ideal) x0 = z at h
  unfold glE Ideal.logistic
  pointwise [val_main_v8, val_main_cst_1, val_main_v6, val_main_cst_0]
  simp only [h]

theorem ref75 (q : Fin 31) (i : Fin 4112) (j : Fin 512) : val_main_v75 (F := Ideal) x0 (ix3 q i j) = glE x0 (18 + q.val + i.val) j := by
  have h : ∀ R j, val_main_v10 (F := Ideal) x0 (ix2 R j) = glE x0 R.val j := ref10 x0
  unfold val_main_v75 val_main_v74 val_main_v73 val_main_v72 val_main_v71 val_main_v70 val_main_v69 val_main_v68 val_main_v67 val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11
  generalize val_main_v10 (F := Ideal) x0 = z at h
  fin_cases q
  all_goals
    pointwise
    exact h _ _

theorem ref82 (i : Fin 4112) (j : Fin 512) : val_main_v82 (F := Ideal) x0 x1 x2 (ix2 i j) = cE x0 x1 x2 i j := by
  have h := ref75 x0
  unfold val_main_v82 val_main_v79 val_main_v78 cE
  generalize val_main_v75 (F := Ideal) x0 = z at h
  pointwise [val_main_v77, val_main_v76, val_main_v81, val_main_v80, val_main_cst_2]
  simp only [h]

def g1 (x : FVec Ideal S512 .f32) (j : Fin 512) : EReal := x (ix1 j)

theorem ref98 (i : Fin 4112) (j : Fin 512) : val_main_v98 (F := Ideal) x0 x1 x2 (ix2 i j) = xh (cE x0 x1 x2 i) j := by
  have h := ref82 x0 x1 x2
  unfold val_main_v98 val_main_v97 val_main_v96 val_main_v95 val_main_v93 val_main_v91 val_main_v90 val_main_v89 val_main_v88 val_main_v87 val_main_v86
    val_main_v84 val_main_v83
  generalize val_main_v82 (F := Ideal) x0 x1 x2 = z at h
  pointwise [xh, rs, cen, mean, val_main_cst_3, val_main_cst_4, val_main_cst_5, val_main_cst_6, val_main_cst_7, val_main_v85, val_main_v92, val_main_v94]
  simp only [h]

/-- The layer norm of a row of the convolution, and its gate. -/
def lnE (i : Fin 4112) (j : Fin 512) : EReal := xh (cE x0 x1 x2 i) j * g1 x3 j + g1 x4 j
def actE (i : Fin 4112) (j : Fin 512) : EReal := lnE x0 x1 x2 x3 x4 i j * Ideal.logistic (lnE x0 x1 x2 x3 x4 i j)

theorem ref104 (i : Fin 4112) (j : Fin 512) : val_main_v104 (F := Ideal) x0 x1 x2 x3 x4 (ix2 i j) = lnE x0 x1 x2 x3 x4 i j := by
  have h := ref98 x0 x1 x2
  unfold val_main_v104 val_main_v101 lnE g1
  generalize val_main_v98 (F := Ideal) x0 x1 x2 = z at h
  pointwise [val_main_v103, val_main_v102, val_main_v100, val_main_v99]
  simp only [h]

theorem ref105 (i : Fin 4112) (j : Fin 512) : val_main_v105 (F := Ideal) x0 x1 x2 x3 x4 (ix2 i j) = actE x0 x1 x2 x3 x4 i j := by
  have h := ref104 x0 x1 x2 x3 x4
  unfold val_main_v105 val_main_call0_v5 val_main_call0_v3 val_main_call0_v1 val_main_call0_v0 actE
  generalize val_main_v104 (F := Ideal) x0 x1 x2 x3 x4 = z at h
  unfold Ideal.logistic
  pointwise [val_main_call0_v2, val_main_call0_cst, val_main_call0_v4, val_main_call0_cst_0]
  simp only [h]

theorem ref183 (R : Fin 4160) (j : Fin 512) : val_main_v183 (F := Ideal) x0 x1 x2 (ix2 R j)
    = if h : 48 ≤ R.val then cE x0 x1 x2 ⟨R.val - 48, by omega⟩ j else x2 (ix1 j) := by
  have h := ref82 x0 x1 x2
  unfold val_main_v183
  generalize val_main_v82 (F := Ideal) x0 x1 x2 = z at h
  by_cases hc : R.val < 48
  · rw [dif_neg (by omega)]
    pointwise [val_main_v182]
    rw [dif_pos hc]
  · rw [dif_pos (by omega)]
    pointwise [val_main_v182]
    rw [dif_neg hc]
    exact h _ _

end Cert.CpfReferenceIdeal.Read
end
-- ==== Proof.CpfRef2.lean ====
module
public import proofs.«01_k».proof.Proof.CpfRef
@[expose] public section
/-! The reference of the mixer's forward call, read at an index: the trailing means and the mixed rows. -/
set_option maxRecDepth 16384
noncomputable section
open Idealize.ShloMosaic Idealize.ShloMosaic.TcCoe Idealize.SL.Sem
namespace Cert.CpfReferenceIdeal.Read
open Cert.CpfReferenceIdeal Cert.CpfReferenceIdeal.Gen Cert.CpMath

variable (x0 : FVec Ideal S4112x1536 .f32) (x1 : FVec Ideal S31x512 .f32) (x2 x3 x4 : FVec Ideal S512 .f32)
  (x5 : FVec Ideal S4x128x128 .f32) (x6 : FVec Ideal S512 .f32)

theorem foldl_add {α : Type} (f : α → EReal) (l : List α) (a : EReal) : l.foldl (fun v n => v + f n) a = a + (l.map f).sum := by
  induction l generalizing a with
  | nil => rw [List.foldl_nil, List.map_nil, List.sum_nil, add_zero]
  | cons b l ih => rw [List.foldl_cons, ih, List.map_cons, List.sum_cons, add_assoc]

theorem sum_head {N M K : ℕ} (hK : K = N) (hN : M + 1 = N) (R : ℕ) (hR : R < N) (f : ℕ → EReal) :
    ∑ n : Fin K, (if M ≤ R + n.val then f (R + n.val - M) else 0) = ∑ P ∈ Finset.range (R + 1), f P := by
  subst hK
  rw [Fin.sum_univ_eq_sum_range (fun n => if M ≤ R + n then f (R + n - M) else 0) K, ← Finset.sum_filter]
  have e : (Finset.range K).filter (fun n => M ≤ R + n) = Finset.Ico (M - R) K := Finset.ext fun n => by
    simp only [Finset.mem_filter, Finset.mem_range, Finset.mem_Ico]
    omega
  rw [e, Finset.sum_Ico_eq_sum_range, show K - (M - R) = R + 1 by omega]
  exact Finset.sum_congr (M := EReal) rfl fun n _ => congrArg f (by omega)

/-- A running sum down the rows, as it prints: the window runs from the first row to each row. -/
theorem csum_gen {N M C : ℕ} (hN : M + 1 = N) (x : (⟨2, ![N, C]⟩ : Shape).Idx → EReal) (init : EReal) (hi : init = 0)
    (h : (⟨2, ![N, C]⟩ : Shape).ReduceWindows (![N, 1] : Fin 2 → ℕ) ![1, 1] ![M, 0] ![0, 0] ⟨2, ![N, C]⟩) (R : Fin N) (l : Fin C)
    (f : ℕ → EReal) (hf : ∀ P : Fin N, x (ix2 P l) = f P.val) :
    Ideal.hostReduceWindowAdd (![N, 1] : Fin 2 → ℕ) ![1, 1] ![M, 0] ![0, 0] h x init (ix2 R l) = ∑ P ∈ Finset.range (R.val + 1), f P := by
  have hR := R.isLt
  have hl := l.isLt
  subst hi
  unfold Ideal.hostReduceWindowAdd Host.reduceWindow
  refine (congrArg (fun F => List.foldl F (0 : EReal) (List.finRange (Shape.numel ⟨2, ![N, 1]⟩))) (funext fun v => funext fun n => (?_ : _ = v + if M ≤ R.val + n.val then f (R.val + n.val - M) else 0))).trans ?_
  · have hn : n.val < N := Nat.lt_of_lt_of_eq n.isLt (Routing.numel_col N)
    have hw0 : ((⟨2, ![N, 1]⟩ : Shape).rowMajor.symm n 0).val = n.val := by rw [show (⟨2, ![N, 1]⟩ : Shape).rowMajor.symm n = _ from Routing.symm_col n]; rfl
    have hw1 : ((⟨2, ![N, 1]⟩ : Shape).rowMajor.symm n 1).val = 0 := by rw [show (⟨2, ![N, 1]⟩ : Shape).rowMajor.symm n = _ from Routing.symm_col n]; rfl
    refine congrArg (v + ·) ?_
    split
    · next hin =>
      have h0 := hin 0
      change M ≤ R.val * 1 + ((⟨2, ![N, 1]⟩ : Shape).rowMajor.symm n 0).val
        ∧ R.val * 1 + ((⟨2, ![N, 1]⟩ : Shape).rowMajor.symm n 0).val - M < N at h0
      rw [hw0] at h0
      rw [if_pos (by omega)]
      refine (congrArg x (funext fun a => Fin.ext ?_)).trans (hf ⟨R.val + n.val - M, by omega⟩)
      match a with
      | ⟨0, _⟩ =>
        show R.val * 1 + ((⟨2, ![N, 1]⟩ : Shape).rowMajor.symm n 0).val - M = R.val + n.val - M
        rw [hw0]
        omega
      | ⟨1, _⟩ =>
        show l.val * 1 + ((⟨2, ![N, 1]⟩ : Shape).rowMajor.symm n 1).val - 0 = l.val
        rw [hw1]
        omega
    · next hin =>
      rw [if_neg fun hle => hin fun a => by
        match a with
        | ⟨0, _⟩ =>
          show M ≤ R.val * 1 + ((⟨2, ![N, 1]⟩ : Shape).rowMajor.symm n 0).val
            ∧ R.val * 1 + ((⟨2, ![N, 1]⟩ : Shape).rowMajor.symm n 0).val - M < N
          rw [hw0]
          omega
        | ⟨1, _⟩ =>
          show 0 ≤ l.val * 1 + ((⟨2, ![N, 1]⟩ : Shape).rowMajor.symm n 1).val ∧ l.val * 1 + ((⟨2, ![N, 1]⟩ : Shape).rowMajor.symm n 1).val - 0 < C
          rw [hw1]
          omega]
  · rw [foldl_add, zero_add, ← Fin.sum_univ_def]
    exact sum_head (Routing.numel_col N) hN R.val hR f

/-- Two running sums' difference: the sum over the window between. -/
theorem diff_sum (f : ℕ → EReal) (hf : ∀ n, IsR (f n)) (w A : ℕ) :
    ∑ P ∈ Finset.range (A + w), f P - ∑ P ∈ Finset.range A, f P = ∑ s ∈ Finset.range w, f (A + w - 1 - s) := by
  rw [Finset.sum_range_add]
  have e : ∑ s ∈ Finset.range w, f (A + w - 1 - s) = ∑ s ∈ Finset.range w, f (A + s) := by
    rw [← Finset.sum_range_reflect (fun s => f (A + s))]
    refine Finset.sum_congr (M := EReal) rfl fun s hs => congrArg f ?_
    have := Finset.mem_range.mp hs
    omega
  obtain ⟨a, ha⟩ := IsR.sum (Finset.range A) f hf
  obtain ⟨b, hb⟩ := IsR.sum (Finset.range w) (fun s => f (A + s)) fun s => hf _
  rw [e, ha, hb, ← EReal.coe_add, ← EReal.coe_sub]
  exact congrArg _ (by ring)

/-- The number of rows in a trailing window. -/
def cntE (n : ℕ) (g : Fin 4) : ℝ := ((min (n + 1) (2 ^ (g.val + 1)) : ℕ) : ℝ)

theorem cnt_eq (i : ℕ) (hi : i < 4112) (g : Fin 4) (w : BitVec 32) (hw : w = BitVec.ofNat 32 (2 ^ (g.val + 1))) :
    FloatOps.sitofp (F := Ideal) .f32 (IntOp.minsi (IntOp.addi (BitVec.ofNat 32 i) 1#32) w) = ((cntE i g : ℝ) : EReal) := by
  have hg : 2 ^ (g.val + 1) ≤ 16 := Nat.pow_le_pow_right (by norm_num) (by omega : g.val + 1 ≤ 4)
  have e1 : IntOp.addi (BitVec.ofNat 32 i) 1#32 = BitVec.ofNat 32 (i + 1) := (BitVec.ofNat_add i 1).symm
  have e2 : ∀ n : ℕ, n < 5000 → (BitVec.ofNat 32 n).toInt = n := fun n hn => by
    rw [BitVec.toInt_eq_toNat_of_lt (by rw [BitVec.toNat_ofNat]; omega), BitVec.toNat_ofNat]; omega
  rw [e1, hw, cntE]
  show (((IntOp.minsi (BitVec.ofNat 32 (i + 1)) (BitVec.ofNat 32 (2 ^ (g.val + 1)))).toInt : ℝ) : EReal) = _
  unfold IntOp.minsi
  rw [BitVec.slt_eq_decide, e2 _ (by omega), e2 _ (by omega)]
  rcases lt_or_ge (i + 1) (2 ^ (g.val + 1)) with hc | hc
  · rw [if_pos (by simpa using Int.ofNat_lt.2 hc), e2 _ (by omega), min_eq_left hc.le, Int.cast_natCast]
  · rw [if_neg (by simpa using Int.ofNat_le.2 hc), e2 _ (by omega), min_eq_right hc, Int.cast_natCast]

/-- A group's trailing mean at a row, less the row itself. -/
def pmE (i : Fin 4112) (g : Fin 4) (l : Fin 128) : EReal :=
  Ideal.div (∑ s ∈ Finset.range (2 ^ (g.val + 1)), pZ x0 (48 + i.val - s) ⟨1024 + (128 * g.val + l.val), by omega⟩) ((cntE i.val g : ℝ) : EReal)
    - pZ x0 (48 + i.val) ⟨1024 + (128 * g.val + l.val), by omega⟩

theorem pZ_isR (hx : ∀ i k, IsR (x0 (ix2 i k))) (R k) : IsR (pZ x0 R k) := by
  unfold pZ
  split
  · exact hx _ _
  · exact IsR.zero

theorem mean_of (hx : ∀ i k, IsR (x0 (ix2 i k))) (g : Fin 4) (a : ℕ) (ha : a + 2 ^ (g.val + 1) = 48) (w : BitVec 32) (hw : w = BitVec.ofNat 32 (2 ^ (g.val + 1)))
    (i : Fin 4112) (l : Fin 128) (f : ℕ → EReal) (hf : ∀ n, f n = pZ x0 n ⟨1024 + (128 * g.val + l.val), by omega⟩) :
    Ideal.div (∑ P ∈ Finset.range (48 + i.val + 1), f P - ∑ P ∈ Finset.range (a + i.val + 1), f P)
        (FloatOps.sitofp (F := Ideal) .f32 (IntOp.minsi (IntOp.addi (BitVec.ofNat 32 i.val) 1#32) w)) - f (48 + i.val) = pmE x0 i g l := by
  have e : 48 + i.val + 1 = a + i.val + 1 + 2 ^ (g.val + 1) := by omega
  rw [e, diff_sum f (fun n => (hf n).symm ▸ pZ_isR x0 hx _ _) _ _, cnt_eq i.val i.isLt g w hw]
  unfold pmE
  simp only [hf]
  refine congrArg (fun x : EReal => Ideal.div x _ - _) (Finset.sum_congr (M := EReal) rfl fun s _ => congrArg (pZ x0 · _) ?_)
  omega

/-- A running sum of a group of columns. -/
theorem run_sum (g : Fin 4) (x : FVec Ideal S4160x128 .f32) (init : FVec Ideal S_ .f32) (hi : ∀ u, init u = (0 : EReal)) (h) (hu) (R : Fin 4160) (l : Fin 128)
    (hx : ∀ P : Fin 4160, x (ix2 P l) = pZ x0 P.val ⟨1024 + (128 * g.val + l.val), by omega⟩) :
    Host.reduceWindowAdd (F := Ideal) (φ := .f32) ![4160, 1] ![1, 1] ![4159, 0] ![0, 0] x init h hu (ix2 R l)
      = ∑ P ∈ Finset.range (R.val + 1), pZ x0 P ⟨1024 + (128 * g.val + l.val), by omega⟩ := by
  unfold Host.reduceWindowAdd
  rw [Ideal.hostReduceWindowAdd_def, hi]
  exact csum_gen (N := 4160) (M := 4159) (C := 128) rfl x 0 rfl h R l _ hx

theorem ref121 (hx : ∀ i k, IsR (x0 (ix2 i k))) (i : Fin 4112) (l : Fin 128) : val_main_v121 (F := Ideal) x0 (ix2 i l) = pmE x0 i 0 l := by
  have h : ∀ R l, val_main_v106 (F := Ideal) x0 (ix2 R l) = pZ x0 R.val ⟨1024 + (128 * (0 : Fin 4).val + l.val), by omega⟩ := fun R l => by
    have h := ref1 x0
    unfold val_main_v106
    generalize val_main_v1 (F := Ideal) x0 = z at h
    pointwise
    exact (h _ _).trans (congrArg (pZ x0 R.val) (Fin.ext (by simp <;> omega)))
  have hc : ∀ R, val_main_v107 (F := Ideal) x0 (ix2 R l) = ∑ P ∈ Finset.range (R.val + 1), pZ x0 P ⟨1024 + (128 * (0 : Fin 4).val + l.val), by omega⟩ := fun R =>
    run_sum x0 0 (val_main_v106 (F := Ideal) x0) (val_main_call1_call0_v0 (F := Ideal)) (fun u => by pointwise [val_main_call1_call0_v0, val_main_call1_call0_cst])
      reduceWindows_S4160x128_S4160x128_w4160s1p4159_0_w1s1p0_0 h_S_ R l fun P => h P l
  unfold val_main_v121 val_main_v120 val_main_v119 val_main_v117 val_main_v116 val_main_v115
  generalize val_main_v107 (F := Ideal) x0 = y at hc
  generalize val_main_v106 (F := Ideal) x0 = z at h
  pointwise [val_main_v118, val_main_v114, val_main_v113, val_main_v112, val_main_v111, val_main_v110, val_main_v109, val_main_v108, val_main_c, val_main_c_8]
  simp only [h, hc]
  exact mean_of x0 hx 0 46 rfl _ rfl i l _ fun n => rfl

theorem ref137 (hx : ∀ i k, IsR (x0 (ix2 i k))) (i : Fin 4112) (l : Fin 128) : val_main_v137 (F := Ideal) x0 (ix2 i l) = pmE x0 i 1 l := by
  have h : ∀ R l, val_main_v122 (F := Ideal) x0 (ix2 R l) = pZ x0 R.val ⟨1024 + (128 * (1 : Fin 4).val + l.val), by omega⟩ := fun R l => by
    have h := ref1 x0
    unfold val_main_v122
    generalize val_main_v1 (F := Ideal) x0 = z at h
    pointwise
    exact (h _ _).trans (congrArg (pZ x0 R.val) (Fin.ext (by simp <;> omega)))
  have hc : ∀ R, val_main_v123 (F := Ideal) x0 (ix2 R l) = ∑ P ∈ Finset.range (R.val + 1), pZ x0 P ⟨1024 + (128 * (1 : Fin 4).val + l.val), by omega⟩ := fun R =>
    run_sum x0 1 (val_main_v122 (F := Ideal) x0) (val_main_call2_call0_v0 (F := Ideal)) (fun u => by pointwise [val_main_call2_call0_v0, val_main_call2_call0_cst])
      reduceWindows_S4160x128_S4160x128_w4160s1p4159_0_w1s1p0_0 h_S_ R l fun P => h P l
  unfold val_main_v137 val_main_v136 val_main_v135 val_main_v133 val_main_v132 val_main_v131
  generalize val_main_v123 (F := Ideal) x0 = y at hc
  generalize val_main_v122 (F := Ideal) x0 = z at h
  pointwise [val_main_v134, val_main_v130, val_main_v129, val_main_v128, val_main_v127, val_main_v126, val_main_v125, val_main_v124, val_main_c_9, val_main_c_10]
  simp only [h, hc]
  exact mean_of x0 hx 1 44 rfl _ rfl i l _ fun n => rfl

theorem ref153 (hx : ∀ i k, IsR (x0 (ix2 i k))) (i : Fin 4112) (l : Fin 128) : val_main_v153 (F := Ideal) x0 (ix2 i l) = pmE x0 i 2 l := by
  have h : ∀ R l, val_main_v138 (F := Ideal) x0 (ix2 R l) = pZ x0 R.val ⟨1024 + (128 * (2 : Fin 4).val + l.val), by omega⟩ := fun R l => by
    have h := ref1 x0
    unfold val_main_v138
    generalize val_main_v1 (F := Ideal) x0 = z at h
    pointwise
    exact (h _ _).trans (congrArg (pZ x0 R.val) (Fin.ext (by simp <;> omega)))
  have hc : ∀ R, val_main_v139 (F := Ideal) x0 (ix2 R l) = ∑ P ∈ Finset.range (R.val + 1), pZ x0 P ⟨1024 + (128 * (2 : Fin 4).val + l.val), by omega⟩ := fun R =>
    run_sum x0 2 (val_main_v138 (F := Ideal) x0) (val_main_call3_call0_v0 (F := Ideal)) (fun u => by pointwise [val_main_call3_call0_v0, val_main_call3_call0_cst])
      reduceWindows_S4160x128_S4160x128_w4160s1p4159_0_w1s1p0_0 h_S_ R l fun P => h P l
  unfold val_main_v153 val_main_v152 val_main_v151 val_main_v149 val_main_v148 val_main_v147
  generalize val_main_v139 (F := Ideal) x0 = y at hc
  generalize val_main_v138 (F := Ideal) x0 = z at h
  pointwise [val_main_v150, val_main_v146, val_main_v145, val_main_v144, val_main_v143, val_main_v142, val_main_v141, val_main_v140, val_main_c_11, val_main_c_12]
  simp only [h, hc]
  exact mean_of x0 hx 2 40 rfl _ rfl i l _ fun n => rfl

theorem ref169 (hx : ∀ i k, IsR (x0 (ix2 i k))) (i : Fin 4112) (l : Fin 128) : val_main_v169 (F := Ideal) x0 (ix2 i l) = pmE x0 i 3 l := by
  have h : ∀ R l, val_main_v154 (F := Ideal) x0 (ix2 R l) = pZ x0 R.val ⟨1024 + (128 * (3 : Fin 4).val + l.val), by omega⟩ := fun R l => by
    have h := ref1 x0
    unfold val_main_v154
    generalize val_main_v1 (F := Ideal) x0 = z at h
    pointwise
    exact (h _ _).trans (congrArg (pZ x0 R.val) (Fin.ext (by simp <;> omega)))
  have hc : ∀ R, val_main_v155 (F := Ideal) x0 (ix2 R l) = ∑ P ∈ Finset.range (R.val + 1), pZ x0 P ⟨1024 + (128 * (3 : Fin 4).val + l.val), by omega⟩ := fun R =>
    run_sum x0 3 (val_main_v154 (F := Ideal) x0) (val_main_call4_call0_v0 (F := Ideal)) (fun u => by pointwise [val_main_call4_call0_v0, val_main_call4_call0_cst])
      reduceWindows_S4160x128_S4160x128_w4160s1p4159_0_w1s1p0_0 h_S_ R l fun P => h P l
  unfold val_main_v169 val_main_v168 val_main_v167 val_main_v165 val_main_v164 val_main_v163
  generalize val_main_v155 (F := Ideal) x0 = y at hc
  generalize val_main_v154 (F := Ideal) x0 = z at h
  pointwise [val_main_v166, val_main_v162, val_main_v161, val_main_v160, val_main_v159, val_main_v158, val_main_v157, val_main_v156, val_main_c_13, val_main_c_14]
  simp only [h, hc]
  exact mean_of x0 hx 3 32 rfl _ rfl i l _ fun n => rfl

theorem ref174 (hx : ∀ i k, IsR (x0 (ix2 i k))) (i : Fin 4112) (g : Fin 4) (l : Fin 128) : val_main_v174 (F := Ideal) x0 (ix3 i g l) = pmE x0 i g l := by
  have h0 := ref121 x0 hx
  have h1 := ref137 x0 hx
  have h2 := ref153 x0 hx
  have h3 := ref169 x0 hx
  unfold val_main_v174 val_main_v173 val_main_v172 val_main_v171 val_main_v170
  generalize val_main_v121 (F := Ideal) x0 = z0 at h0
  generalize val_main_v137 (F := Ideal) x0 = z1 at h1
  generalize val_main_v153 (F := Ideal) x0 = z2 at h2
  generalize val_main_v169 (F := Ideal) x0 = z3 at h3
  fin_cases g
  all_goals pointwise
  · exact h0 i l
  · exact h1 i l
  · exact h2 i l
  · exact h3 i l

theorem ref184 (hx : ∀ i k, IsR (x0 (ix2 i k))) (i : Fin 4112) (g : Fin 4) (l : Fin 128) :
    val_main_v184 (F := Ideal) x0 (ix2 i ⟨128 * g.val + l.val, by omega⟩) = pmE x0 i g l := by
  have h := ref174 x0 hx
  unfold val_main_v184
  generalize val_main_v174 (F := Ideal) x0 = z at h
  rw [← h]
  pointwise

theorem ref187 (hx : ∀ i k, IsR (x0 (ix2 i k))) (R : Fin 4160) (g : Fin 4) (l : Fin 128) :
    val_main_v187 (F := Ideal) x0 (ix2 R ⟨128 * g.val + l.val, by omega⟩)
      = if h : 48 ≤ R.val then pmE x0 ⟨R.val - 48, by omega⟩ g l else 0 := by
  have h := ref184 x0 hx
  unfold val_main_v187 val_main_v186
  generalize val_main_v184 (F := Ideal) x0 = z at h
  by_cases hc : R.val < 48
  · rw [dif_neg (by omega)]
    pointwise [val_main_v185, val_main_cst_15]
    rw [dif_pos hc]
  · rw [dif_pos (by omega)]
    pointwise [val_main_v185, val_main_cst_15]
    rw [dif_neg hc]
    exact h _ _ _

/-- The same projected within its group and scaled. -/
def projE (i : Fin 4112) (g : Fin 4) (d : Fin 128) : EReal :=
  (∑ l : Fin 128, pmE x0 i g l * x5 (ix3 g l d)) * x6 (ix1 ⟨128 * g.val + d.val, by omega⟩)

theorem ref180 (hx : ∀ i k, IsR (x0 (ix2 i k))) (i : Fin 4112) (g : Fin 4) (d : Fin 128) :
    val_main_v180 (F := Ideal) x0 x5 x6 (ix2 i ⟨128 * g.val + d.val, by omega⟩) = projE x0 x5 x6 i g d := by
  have h := ref174 x0 hx
  unfold val_main_v180 val_main_v177 val_main_v176 val_main_v175 projE
  generalize val_main_v174 (F := Ideal) x0 = z at h
  pointwise [val_main_v179, val_main_v178]
  simp only [h]
  exact congrArg (· * _) (Finset.sum_congr rfl fun d _ => mul_comm _ _)

theorem ref190 (hx : ∀ i k, IsR (x0 (ix2 i k))) (R : Fin 4160) (k : Fin 1024) :
    val_main_v190 (F := Ideal) x0 x1 x2 x3 x4 x5 x6 (ix2 R k)
      = if h : 48 ≤ R.val then (if h' : k.val < 512 then actE x0 x1 x2 x3 x4 ⟨R.val - 48, by omega⟩ ⟨k.val, h'⟩
          else projE x0 x5 x6 ⟨R.val - 48, by omega⟩ ⟨(k.val - 512) / 128, by omega⟩ ⟨(k.val - 512) % 128, by omega⟩) else 0 := by
  have h := ref105 x0 x1 x2 x3 x4
  have h' := ref180 x0 x5 x6 hx
  unfold val_main_v190 val_main_v189 val_main_v181
  generalize val_main_v105 (F := Ideal) x0 x1 x2 x3 x4 = z at h
  generalize val_main_v180 (F := Ideal) x0 x5 x6 = w at h'
  by_cases hc : R.val < 48
  · rw [dif_neg (by omega)]
    pointwise [val_main_v188, val_main_cst_16]
    rw [dif_pos hc]
  · rw [dif_pos (by omega)]
    pointwise [val_main_v188, val_main_cst_16]
    rw [dif_neg hc]
    by_cases hk : k.val < 512
    · rw [dif_pos hk, dif_pos hk]
      exact h _ _
    · rw [dif_neg hk, dif_neg hk]
      exact (congrArg (fun n => w (ix2 _ n)) (Fin.ext (by dsimp only; omega))).trans (h' _ ⟨(k.val - 512) / 128, by omega⟩ ⟨(k.val - 512) % 128, by omega⟩)

end Cert.CpfReferenceIdeal.Read
end
-- ==== Proof.CpfValue.lean ====
module
public import proofs.«01_k».proof.Proof.CpfFin
public import proofs.«01_k».proof.Proof.CpfRef2
public import Idealize.ShloMosaic.Lib.StableHlo.RunRead
@[expose] public section
/-! The mixer's forward call: the kernel's row quantities and the reference's are the same. -/
set_option maxRecDepth 16384
noncomputable section
open Idealize.ShloMosaic Idealize.ShloMosaic.TcCoe Idealize.SL.Sem
open Idealize.ShloMosaic.Pipeline (Dat)
namespace Cert.CpfKernelIdeal.Value
open Cert.CpfKernelIdeal Cert.CpfKernelIdeal.Gen Cert.CpMath
variable (m : (ℓ : Loc nD τ sig) → Buf (Elt Ideal) ℓ)

open Cert.CpfReferenceIdeal.Read (pZ glE cE g1 lnE actE pmE projE cntE)

abbrev x0 (c : Dev nD) : FVec Ideal S4112x1536 .f32 := m ((c : Thread nD τ).loc main_arg0)
abbrev x1 (c : Dev nD) : FVec Ideal S31x512 .f32 := m ((c : Thread nD τ).loc main_arg1)
abbrev x2 (c : Dev nD) : FVec Ideal S512 .f32 := m ((c : Thread nD τ).loc main_arg2)
abbrev x3 (c : Dev nD) : FVec Ideal S512 .f32 := m ((c : Thread nD τ).loc main_arg3)
abbrev x4 (c : Dev nD) : FVec Ideal S512 .f32 := m ((c : Thread nD τ).loc main_arg4)
abbrev x5 (c : Dev nD) : FVec Ideal S4x128x128 .f32 := m ((c : Thread nD τ).loc main_arg5)
abbrev x6 (c : Dev nD) : FVec Ideal S512 .f32 := m ((c : Thread nD τ).loc main_arg6)

theorem e2 (c : Dev nD) (R : Fin 4160) (k : Fin 1536) : V m c main_v2 (ix2 R k) = pZ (x0 m c) R.val k := by
  unfold V
  after_reads_simp
  have hR := R.isLt
  by_cases hc : R.val < 48
  · rw [pZ, dif_neg (by omega)]
    pointwise
    rw [dif_pos hc]
    after_reads_simp
    pointwise
  · rw [pZ, dif_pos ⟨by omega, hR⟩]
    pointwise
    rw [dif_neg hc]
    after_reads_simp
theorem e3 (c : Dev nD) (j : Fin 512) : V m c main_v3 (ix2 0 j) = x2 m c (ix1 j) := by
  unfold V
  after_reads_simp
  pointwise
theorem e4 (c : Dev nD) (j : Fin 512) : V m c main_v4 (ix2 0 j) = x3 m c (ix1 j) := by
  unfold V
  after_reads_simp
  pointwise
theorem e5 (c : Dev nD) (j : Fin 512) : V m c main_v5 (ix2 0 j) = x4 m c (ix1 j) := by
  unfold V
  after_reads_simp
  pointwise
theorem e6 (c : Dev nD) (j : Fin 512) : V m c main_v6 (ix2 0 j) = x6 m c (ix1 j) := by
  unfold V
  after_reads_simp
  pointwise
theorem e1 (c : Dev nD) (q : Fin 31) (j : Fin 512) : V m c main_arg1 (ix2 q j) = x1 m c (ix2 q j) := by
  unfold V
  after_reads_simp
theorem ew (c : Dev nD) (g : Fin 4) (a b : Fin 128) : V m c main_arg5 (ix3 g a b) = x5 m c (ix3 g a b) := by
  unfold V
  after_reads_simp

theorem z_row (c : Dev nD) (R : ℕ) (k : Fin 1536) : zAt m c R k = pZ (x0 m c) R k := by
  unfold zAt
  by_cases h : R < 4160
  · rw [dif_pos h]
    exact e2 m c ⟨R, h⟩ k
  · rw [dif_neg h, pZ, dif_neg (by omega)]
theorem z_pad (c : Dev nD) (R : ℕ) (hR : R < 48) (k : Fin 1536) : zAt m c R k = 0 := by
  rw [z_row, pZ, dif_neg (by omega)]

theorem g_row (c : Dev nD) (N R : ℕ) (hN : N = R + 32) (j : Fin 512) : gAt m c N j = glE (x0 m c) R j := by
  rw [gAt, if_pos (by omega), show N - 32 = R by omega, z_row, z_row]
  rfl
theorem g_pad (c : Dev nD) (N : ℕ) (hN : N < 80) (j : Fin 512) : gAt m c N j = 0 := by
  unfold gAt
  by_cases h : 32 ≤ N
  · rw [if_pos h, z_pad m c _ (by omega), zero_mul]
  · rw [if_neg h]

theorem c_row (c : Dev nD) (i : Fin 4112) (R : ℕ) (hR : R = 48 + i.val) : cR m c R = cE (x0 m c) (x1 m c) (x2 m c) i := by
  funext j
  unfold cR cE
  refine congrArg₂ (· + ·) (Finset.sum_congr rfl fun q _ => ?_) (e3 m c j)
  rw [g_row m c _ (18 + q.val + i.val) (by omega), mul_comm]
  exact congrArg (glE (x0 m c) (18 + q.val + i.val) j * ·) (e1 m c q j)
theorem c_pad (c : Dev nD) (R : ℕ) (hR : R < 48) (j : Fin 512) : cR m c R j = x2 m c (ix1 j) := by
  unfold cR
  rw [Finset.sum_eq_zero fun q _ => by rw [g_pad m c _ (by omega), mul_zero], zero_add]
  exact e3 m c j

theorem act_row (c : Dev nD) (i : Fin 4112) (R : ℕ) (hR : R = 48 + i.val) (j : Fin 512) :
    actR m c R j = actE (x0 m c) (x1 m c) (x2 m c) (x3 m c) (x4 m c) i j := by
  have e : lnR m c R j = lnE (x0 m c) (x1 m c) (x2 m c) (x3 m c) (x4 m c) i j := by
    unfold lnR lnE xh g1
    rw [c_row m c i R hR]
    exact congrArg₂ (fun a b => cen (cE (x0 m c) (x1 m c) (x2 m c) i) j * rs (cE (x0 m c) (x1 m c) (x2 m c) i) * a + b) (e4 m c j) (e5 m c j)
  rw [actR, if_pos (by omega), e]
  rfl
theorem act_pad (c : Dev nD) (R : ℕ) (hR : R < 48) (j : Fin 512) : actR m c R j = 0 := if_neg (by omega)

/-- The trailing windows' lengths. -/
theorem lens (g : Fin 4) : (![Ideal.ofBits .f32 0x40000000#32, Ideal.ofBits .f32 0x40800000#32, Ideal.ofBits .f32 0x41000000#32, Ideal.ofBits .f32 0x41800000#32] : Fin 4 → EReal) g
    = (((2 : ℝ) ^ (g.val + 1) : ℝ) : EReal) := by
  have h2 : Ideal.ofBits .f32 0x40000000#32 = ((2 : ℝ) : EReal) := by simp [Ideal.ofBits, Ideal.ieee, -EReal.coe_mul]; norm_num
  have h4 : Ideal.ofBits .f32 0x40800000#32 = ((4 : ℝ) : EReal) := by simp [Ideal.ofBits, Ideal.ieee, -EReal.coe_mul]; norm_num
  have h8 : Ideal.ofBits .f32 0x41000000#32 = ((8 : ℝ) : EReal) := by simp [Ideal.ofBits, Ideal.ieee, -EReal.coe_mul]; norm_num
  have h16 : Ideal.ofBits .f32 0x41800000#32 = ((16 : ℝ) : EReal) := by simp [Ideal.ofBits, Ideal.ieee, -EReal.coe_mul]; norm_num
  fin_cases g
  · exact h2.trans (by norm_num)
  · exact h4.trans (by norm_num)
  · exact h8.trans (by norm_num)
  · exact h16.trans (by norm_num)
theorem cnt_real (n : ℕ) (g : Fin 4) : cnt n g = ((min ((2 : ℝ) ^ (g.val + 1)) (max 1 (((n : ℤ) - 47 : ℤ) : ℝ)) : ℝ) : EReal) := by
  rw [cnt, lens, EReal.coe_strictMono.monotone.map_min, EReal.coe_strictMono.monotone.map_max, EReal.coe_one]
theorem cnt_row (n : ℕ) (h : 48 ≤ n) (g : Fin 4) : cnt n g = ((cntE (n - 48) g : ℝ) : EReal) := by
  obtain ⟨k, rfl⟩ := Nat.exists_eq_add_of_le h
  rw [cnt_real, cntE, Nat.add_sub_cancel_left, Nat.cast_min, min_comm]
  congr 2
  · rw [max_eq_right (by push_cast; linarith [(Nat.cast_nonneg k : (0 : ℝ) ≤ k)])]
    push_cast
    ring
  · push_cast
    ring
theorem cnt_pad (n : ℕ) (h : n < 48) (g : Fin 4) : cnt n g = ((1 : ℝ) : EReal) := by
  have hn : (((n : ℤ) - 47 : ℤ) : ℝ) ≤ 1 := by exact_mod_cast (by omega : (n : ℤ) - 47 ≤ 1)
  rw [cnt_real, max_eq_left hn, min_eq_right (one_le_pow₀ (by norm_num))]

theorem p_row (c : Dev nD) (N R : ℕ) (hN : N = R + 16) (j : Fin 512) : pAt m c N j = pZ (x0 m c) R ⟨1024 + j.val, by omega⟩ := by
  rw [pAt, if_pos (by omega), show N - 16 = R by omega, z_row]
theorem p_pad (c : Dev nD) (N : ℕ) (hN : N < 64) (j : Fin 512) : pAt m c N j = 0 := by
  unfold pAt
  by_cases h : 16 ≤ N
  · rw [if_pos h, z_pad m c _ (by omega)]
  · rw [if_neg h]

theorem pool_row (c : Dev nD) (i : Fin 4112) (R : ℕ) (hR : R = 48 + i.val) (g : Fin 4) (l : Fin 128) : poolR m c R g l = pmE (x0 m c) i g l := by
  have hg : 2 ^ (g.val + 1) ≤ 16 := Nat.pow_le_pow_right (by norm_num) (by omega : g.val + 1 ≤ 4)
  unfold poolR pmE
  rw [cnt_row R (by omega), show R - 48 = i.val by omega, p_row m c (R + 16) (48 + i.val) (by omega)]
  refine congrArg (fun y : EReal => Ideal.div y _ - _) (Finset.sum_congr (M := EReal) rfl fun s hs => ?_)
  have := Finset.mem_range.mp hs
  exact p_row m c _ (48 + i.val - s) (by omega) _
theorem pool_pad (c : Dev nD) (R : ℕ) (hR : R < 48) (g : Fin 4) (l : Fin 128) : poolR m c R g l = 0 := by
  unfold poolR
  rw [cnt_pad R hR, p_pad m c _ (by omega), Finset.sum_eq_zero fun s _ => p_pad m c _ (by omega) _, Ideal.div_coe (by norm_num), zero_mul, sub_zero]

theorem proj_row (c : Dev nD) (i : Fin 4112) (R : ℕ) (hR : R = 48 + i.val) (g : Fin 4) (d : Fin 128) :
    projR m c R g d = projE (x0 m c) (x5 m c) (x6 m c) i g d := by
  unfold projR projE
  refine congrArg₂ (· * ·) (Finset.sum_congr (M := EReal) rfl fun l _ => ?_) (e6 m c _)
  rw [pool_row m c i R hR]
  exact congrArg (pmE (x0 m c) i g l * ·) (ew m c g l d)
theorem proj_pad (c : Dev nD) (R : ℕ) (hR : R < 48) (g : Fin 4) (d : Fin 128) : projR m c R g d = 0 := by
  unfold projR
  rw [Finset.sum_eq_zero fun l _ => by rw [pool_pad m c R hR, zero_mul], zero_mul]

theorem value_c (c : Dev nD) : cOut m c = Cert.CpfReferenceIdeal.Read.val_main_v183 (F := Ideal) (x0 m c) (x1 m c) (x2 m c) := by
  funext y
  obtain ⟨R, k, rfl⟩ : ∃ (R : Fin 4160) (k : Fin 512), y = ix2 R k := ⟨y 0, y 1, (ix2_eta y).symm⟩
  refine Eq.trans ?_ (Cert.CpfReferenceIdeal.Read.ref183 _ _ _ R k).symm
  show cR m c R.val k = _
  by_cases h : 48 ≤ R.val
  · rw [dif_pos h, c_row m c ⟨R.val - 48, by omega⟩ R.val (by dsimp only; omega)]
  · rw [dif_neg h, c_pad m c R.val (by omega)]

theorem value_pm (c : Dev nD) (hf : ∀ i k, IsR (x0 m c (ix2 i k))) : pmOut m c = Cert.CpfReferenceIdeal.Read.val_main_v187 (F := Ideal) (x0 m c) := by
  funext y
  obtain ⟨R, k, rfl⟩ : ∃ (R : Fin 4160) (k : Fin 512), y = ix2 R k := ⟨y 0, y 1, (ix2_eta y).symm⟩
  have hk := k.isLt
  have hx : k = ⟨128 * (k.val / 128) + k.val % 128, by omega⟩ := Fin.ext (by dsimp only; omega)
  have e := Cert.CpfReferenceIdeal.Read.ref187 (x0 m c) hf R ⟨k.val / 128, by omega⟩ ⟨k.val % 128, by omega⟩
  refine Eq.trans ?_ (e.symm.trans (congrArg (fun j => Cert.CpfReferenceIdeal.Read.val_main_v187 (F := Ideal) (x0 m c) (ix2 R j)) hx.symm))
  show poolR m c R.val ⟨k.val / 128, _⟩ ⟨k.val % 128, _⟩ = _
  by_cases h : 48 ≤ R.val
  · rw [dif_pos h, pool_row m c ⟨R.val - 48, by omega⟩ R.val (by dsimp only; omega)]
  · rw [dif_neg h, pool_pad m c R.val (by omega)]

theorem value_mix (c : Dev nD) (hf : ∀ i k, IsR (x0 m c (ix2 i k))) :
    mixOut m c = Cert.CpfReferenceIdeal.Read.val_main_v190 (F := Ideal) (x0 m c) (x1 m c) (x2 m c) (x3 m c) (x4 m c) (x5 m c) (x6 m c) := by
  funext y
  obtain ⟨R, k, rfl⟩ : ∃ (R : Fin 4160) (k : Fin 1024), y = ix2 R k := ⟨y 0, y 1, (ix2_eta y).symm⟩
  refine Eq.trans ?_ (Cert.CpfReferenceIdeal.Read.ref190 _ _ _ _ _ _ _ hf R k).symm
  show (if h : k.val < 512 then actR m c R.val ⟨k.val, h⟩ else projR m c R.val ⟨(k.val - 512) / 128, _⟩ ⟨(k.val - 512) % 128, _⟩) = _
  by_cases h : 48 ≤ R.val
  · rw [dif_pos h]
    by_cases hk : k.val < 512
    · rw [dif_pos hk, dif_pos hk, act_row m c ⟨R.val - 48, by omega⟩ R.val (by dsimp only; omega)]
    · rw [dif_neg hk, dif_neg hk, proj_row m c ⟨R.val - 48, by omega⟩ R.val (by dsimp only; omega)]
  · rw [dif_neg h]
    by_cases hk : k.val < 512
    · rw [dif_pos hk, act_pad m c R.val (by omega)]
    · rw [dif_neg hk, proj_pad m c R.val (by omega)]

end Cert.CpfKernelIdeal.Value
end
-- ==== Proof.CpfPre.lean ====
module
public import proofs.«01_k».proof.Pre_finite_cpf
public import proofs.«01_k».proof.Proof.Gen.Pre_finite_cpf
public import proofs.«01_k».proof.Proof.CpLn
public import Idealize.ShloMosaic.Lib.ReduceAll
@[expose] public section
/-! What the precondition of the mixer's forward call says: the entries of its packed input are real numbers. -/
set_option maxRecDepth 16384
noncomputable section
open Idealize.ShloMosaic
namespace Cert.CpfPre
open Cert.CpMath

theorem real_of_abs {x : EReal} (h : FloatOps.cmpf (F := Ideal) (φ := .f32) .olt (FloatOps.absf (F := Ideal) (φ := .f32) x) (Ideal.ofBits .f32 0x7F800000#32) = 1#1) : IsR x := by
  have hi : Ideal.ofBits .f32 0x7F800000#32 = (⊤ : EReal) := by simp [Ideal.ofBits, Ideal.ieee]
  rw [hi] at h
  have hlt : max x (-x) < (⊤ : EReal) := by
    by_contra hn
    have h' : FloatOps.cmpf (F := Ideal) (φ := .f32) .olt (max x (-x)) (⊤ : EReal) = 1#1 := h
    revert h'
    simp [FloatOps.cmpf, Ideal.cmp, hn]
  induction x using EReal.rec with
  | bot => simp at hlt
  | top => simp at hlt
  | coe r => exact ⟨r, rfl⟩

theorem fine (x0 : FVec Ideal Cert.Pre_finite_cpf.S4112x1536 .f32) (x1 : FVec Ideal Cert.Pre_finite_cpf.S31x512 .f32) (x2 x3 x4 : FVec Ideal Cert.Pre_finite_cpf.S512 .f32)
    (x5 : FVec Ideal Cert.Pre_finite_cpf.S4x128x128 .f32) (x6 : FVec Ideal Cert.Pre_finite_cpf.S512 .f32)
    (h : Cert.Pre_finite_cpf.fn (F := Ideal) x0 x1 x2 x3 x4 x5 x6 = fun _ => 1#1) (i : Fin 4112) (k : Fin 1536) : IsR (x0 (ix2 i k)) := by
  have h := congrFun h (fun a => a.elim0)
  unfold Cert.Pre_finite_cpf.fn at h
  haveI : Subsingleton Cert.Pre_finite_cpf.S_.Idx := ⟨fun a b => funext fun i => i.elim0⟩
  exact real_of_abs (Host.reduce_andi_all _ _ _ _ _ h (ix2 i k))

end Cert.CpfPre
end
-- ==== Proof.CpfClaim.lean ====
module
public import proofs.«01_k».proof.Defs
public import proofs.«01_k».proof.Proof.Gen.CpfKernel
public import proofs.«01_k».proof.Proof.Gen.CpfKernelIdeal
public import proofs.«01_k».proof.Proof.Gen.CpfReferenceIdeal
public import proofs.«01_k».proof.Proof.Gen.CpfReferenceIdeal.Run
public import proofs.«01_k».proof.Proof.Gen.CpfReferenceIdeal.Read
public import proofs.«01_k».proof.Proof.CpfValue
public import proofs.«01_k».proof.Proof.CpfPre
@[expose] public section
/-! The claims of the convolution and pooling mixer's forward call. -/
set_option maxRecDepth 16384
noncomputable section
open Idealize.ShloMosaic Idealize.ShloMosaic.TcCoe Idealize.SL.Sem
namespace Cert.Cpf

theorem frame : Cert.quiescent_CpfKernel := by
  intro m ρ _
  refine cast ?_ (Cert.CpfKernelIdeal.Gen.frame (F := Bits) m ρ)
  sl_kernel_rfl

theorem frameIdeal : Cert.quiescent_CpfKernelIdeal := fun m ρ _ => Cert.CpfKernelIdeal.Gen.frame m ρ
theorem frameIdealPre : Cert.quiescent_CpfKernelIdeal_pre_finite_cpf := fun m ρ _ => Cert.CpfKernelIdeal.Gen.frame m ρ

theorem frameRef : Cert.quiescent_CpfReferenceIdeal := by
  intro m g _
  exact (θ_run _ _ _).mono (fun r h => ⟨fun c => (h c).2.2.2,
    sem_eq_zero_of_no_sems (sig := Cert.CpfReferenceIdeal.sig) rfl r.2⟩) (Cert.CpfReferenceIdeal.Value.run m g)
theorem frameRefPre : Cert.quiescent_CpfReferenceIdeal_pre_finite_cpf := fun m g _ => frameRef m g trivial

set_option maxHeartbeats 4000000 in
theorem algebraic : Cert.algebraic_CpfKernelIdeal_CpfReferenceIdeal_pre_finite_cpf := by
  pair_intro
  · run_from Cert.CpfKernelIdeal.Value.run_blocks m g
  · run_from Cert.CpfReferenceIdeal.Value.run m' g'
    · obtain ⟨h0, h1, h2, h3, h4, h5, h6⟩ := hagree c
      refine (Cert.CpfReferenceIdeal.Read.val_main_v183_eq (StableHlo.launchContents m' c)).trans (Eq.trans ?_ ((Cert.CpfKernelIdeal.Value.final_c m c).trans (Cert.CpfKernelIdeal.Value.value_c m c)).symm)
      show Cert.CpfReferenceIdeal.Read.val_main_v183 (F := Ideal) (m' (c.tc.loc Cert.CpfReferenceIdeal.main_arg0)) (m' (c.tc.loc Cert.CpfReferenceIdeal.main_arg1)) (m' (c.tc.loc Cert.CpfReferenceIdeal.main_arg2)) = _
      rw [h0, h1, h2]
    · obtain ⟨h0, h1, h2, h3, h4, h5, h6⟩ := hagree c
      refine (Cert.CpfReferenceIdeal.Read.val_main_v187_eq (StableHlo.launchContents m' c)).trans (Eq.trans ?_ ((Cert.CpfKernelIdeal.Value.final_pm m c).trans (Cert.CpfKernelIdeal.Value.value_pm m c (Cert.CpfPre.fine _ _ _ _ _ _ _ (hpre c)))).symm)
      show Cert.CpfReferenceIdeal.Read.val_main_v187 (F := Ideal) (m' (c.tc.loc Cert.CpfReferenceIdeal.main_arg0)) = _
      rw [h0]
    · obtain ⟨h0, h1, h2, h3, h4, h5, h6⟩ := hagree c
      refine (Cert.CpfReferenceIdeal.Read.val_main_v190_eq (StableHlo.launchContents m' c)).trans (Eq.trans ?_ ((Cert.CpfKernelIdeal.Value.final_mix m c).trans (Cert.CpfKernelIdeal.Value.value_mix m c (Cert.CpfPre.fine _ _ _ _ _ _ _ (hpre c)))).symm)
      show Cert.CpfReferenceIdeal.Read.val_main_v190 (F := Ideal) (m' (c.tc.loc Cert.CpfReferenceIdeal.main_arg0)) (m' (c.tc.loc Cert.CpfReferenceIdeal.main_arg1)) (m' (c.tc.loc Cert.CpfReferenceIdeal.main_arg2)) (m' (c.tc.loc Cert.CpfReferenceIdeal.main_arg3)) (m' (c.tc.loc Cert.CpfReferenceIdeal.main_arg4)) (m' (c.tc.loc Cert.CpfReferenceIdeal.main_arg5)) (m' (c.tc.loc Cert.CpfReferenceIdeal.main_arg6)) = _
      rw [h0, h1, h2, h3, h4, h5, h6]

end Cert.Cpf
end
-- ==== Proof.NmPoint.lean ====
module
public import proofs.«01_k».proof.Proof.Gen.NmKernelIdeal.Value
public import Idealize.ShloMosaic.Lib.Pipeline.ValueKit
public import proofs.«01_k».proof.Proof.NormMath
@[expose] public section
/-! The recurrent layer's norm and input projection: the kernel's two result arrays after the run, over the windows' arrays. -/
set_option maxRecDepth 16384
noncomputable section
open Idealize.ShloMosaic Idealize.ShloMosaic.TcCoe Idealize.SL.Sem
open Idealize.ShloMosaic.Pipeline (Dat)
namespace Cert.NmKernelIdeal.Value
open Cert.NmKernelIdeal Cert.NmKernelIdeal.Gen Cert.NormMath
variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ t.val < 4 :=
  (by decide +kernel : ∀ t : Fin grid0.N, _)

/-- The normalised rows. -/
def nrm (H : FVec Ideal S4160x1024 .f32) (G : FVec Ideal S1x1024 .f32) (i : Fin 4160) (a : Fin 1024) : EReal :=
  H (ix2 i a) * Ideal.rsqrt (msq fun k => H (ix2 i k)) * G (ix2 0 a)

/-- Their product with the weight. -/
def proj (H : FVec Ideal S4160x1024 .f32) (G : FVec Ideal S1x1024 .f32) (W : FVec Ideal S1024x3200 .bf16) (i : Fin 4160) (k : Fin 3200) : EReal :=
  ∑ a : Fin 1024, nrm H G i a * W (ix2 a k)

theorem point4 (c : Dev nD) (t : Fin cfg0.N) (y : S1040x1024.Idx) (i : Fin 4160) (k : Fin 1024) (hi : i.val = t.val * 1040 + (y 0).val)
    (hk : k.val = (y 1).val) : (outsAt0 m c t).2 y = nrm (V m c main_v1) (V m c main_v2) i k := by
  unfold outsAt0
  frame_out
  idx_vars y
  pointwise [k0_pay1, nrm, msq]
  blk_point [iblk, idx t]

theorem final4 (c : Dev nD) : (dats m 0 c).arrAt 4 (cfgs 0).N = fun j => nrm (V m c main_v1) (V m c main_v2) (j 0) (j 1) := by
  refine (dats m 0 c).arrAt_eq_of_covers 4 _ (by decide +kernel) fun t hf y => ?_
  blk_simp
  rw [after0_4]
  refine point4 m c t y _ _ ?_ ?_ <;> blk_simp [idx t]

theorem point3 (c : Dev nD) (t : Fin cfg0.N) (y : S1040x3200.Idx) (i : Fin 4160) (k : Fin 3200) (hi : i.val = t.val * 1040 + (y 0).val)
    (hk : k.val = (y 1).val) : (outsAt0 m c t).1 y = proj (V m c main_v1) (V m c main_v2) (V m c main_v5) i k := by
  unfold outsAt0
  frame_out
  canon_tiles x h using View.cover_of_tiledBy _ ![1040, 640] (by sl_kernel_rfl) y
  all_goals
    pointwise [k0_pay2, k0_pay3, k0_pay4, k0_pay1, proj, nrm, msq]
    blk_point [iblk, idx t]

theorem final3 (c : Dev nD) : (dats m 0 c).arrAt 3 (cfgs 0).N = fun j => proj (V m c main_v1) (V m c main_v2) (V m c main_v5) (j 0) (j 1) := by
  refine (dats m 0 c).arrAt_eq_of_covers 3 _ (by decide +kernel) fun t hf y => ?_
  blk_simp
  rw [after0_3]
  refine point3 m c t y _ _ ?_ ?_ <;> blk_simp [idx t]

theorem entry1 (c : Dev nD) (i : Fin 4160) (k : Fin 1024) : V m c main_v1 (ix2 i k)
    = if h' : i.val < 48 then (0 : EReal) else m ((c : Thread nD τ).loc main_arg0) (ix2 ⟨i.val - 48, by omega⟩ k) := by
  entry_read
  pointwise
theorem entry2 (c : Dev nD) (k : Fin 1024) : V m c main_v2 (ix2 0 k) = m ((c : Thread nD τ).loc main_arg1) (ix1 k) := by
  entry_read
  pointwise
theorem entry5 (c : Dev nD) (i : Fin 1024) (k : Fin 3200) : V m c main_v5 (ix2 i k)
    = if h : k.val < 3088 then m ((c : Thread nD τ).loc main_arg2) (ix2 i ⟨k.val, h⟩) else (0 : EReal) := by
  entry_read
  pointwise

end Cert.NmKernelIdeal.Value
end
-- ==== Proof.NmRef.lean ====
module
public import proofs.«01_k».proof.Proof.Gen.NmReferenceIdeal.Read
public import Idealize.ShloMosaic.Lib.Pipeline.ValueKit
public import proofs.«01_k».proof.Proof.NormMath
@[expose] public section
/-! The reference of the recurrent layer's norm and input projection, read at an index. -/
set_option maxRecDepth 16384
noncomputable section
open Idealize.ShloMosaic Idealize.ShloMosaic.TcCoe Idealize.SL.Sem
namespace Cert.NmReferenceIdeal.Read
open Cert.NmReferenceIdeal Cert.NmReferenceIdeal.Gen Cert.NormMath

/-- The normalised rows. -/
def nrmR (x0 : FVec Ideal S4112x1024 .f32) (x1 : FVec Ideal S1024 .f32) (i : Fin 4112) (a : Fin 1024) : EReal :=
  x0 (ix2 i a) * Ideal.rsqrt (msq fun k => x0 (ix2 i k)) * x1 (ix1 a)

theorem ref12 (x0 : FVec Ideal S4112x1024 .f32) (x1 : FVec Ideal S1024 .f32) (i : Fin 4112) (a : Fin 1024) :
    val_main_v12 (F := Ideal) x0 x1 (ix2 i a) = nrmR x0 x1 i a := by
  pointwise [val_main_v12, val_main_v11, val_main_v10, val_main_v9, val_main_v8, val_main_v7, val_main_v6,
    val_main_v5, val_main_v4, val_main_v3, val_main_v2, val_main_v1, val_main_v0, val_main_cst, val_main_cst_0,
    val_main_cst_1, nrmR, msq]

theorem ref21 (x0 : FVec Ideal S4112x1024 .f32) (x1 : FVec Ideal S1024 .f32) (i : Fin 4160) (a : Fin 1024) :
    val_main_v21 (F := Ideal) x0 x1 (ix2 i a) = if h : i.val < 48 then (0 : EReal) else nrmR x0 x1 ⟨i.val - 48, by omega⟩ a := by
  have h := ref12 x0 x1
  unfold val_main_v21 val_main_v20
  generalize val_main_v12 (F := Ideal) x0 x1 = z at h
  pointwise [val_main_v19, val_main_cst_4]
  simp only [h]

theorem ref18 (x0 : FVec Ideal S4112x1024 .f32) (x1 : FVec Ideal S1024 .f32) (x2 : FVec Ideal S1024x3088 .f32) (i : Fin 4160) (k : Fin 3200) :
    val_main_v18 (F := Ideal) x0 x1 x2 (ix2 i k)
      = if h' : k.val < 3088 then if h : i.val < 48 then (0 : EReal) else ∑ a : Fin 1024, nrmR x0 x1 ⟨i.val - 48, by omega⟩ a * x2 (ix2 a ⟨k.val, h'⟩) else 0 := by
  have h := ref12 x0 x1
  unfold val_main_v18 val_main_v17 val_main_v15 val_main_v13
  generalize val_main_v12 (F := Ideal) x0 x1 = z at h
  pointwise [val_main_v14, val_main_cst_2, val_main_v16, val_main_cst_3]
  simp only [h]

end Cert.NmReferenceIdeal.Read
end
-- ==== Proof.NmValue.lean ====
module
public import proofs.«01_k».proof.Proof.NmPoint
public import proofs.«01_k».proof.Proof.NmRef
@[expose] public section
/-! The recurrent layer's norm and input projection: the two result arrays after the run are the reference's terms. -/
set_option maxRecDepth 16384
noncomputable section
open Idealize.ShloMosaic Idealize.ShloMosaic.TcCoe Idealize.SL.Sem
open Idealize.ShloMosaic.Pipeline (Dat)
namespace Cert.NmKernelIdeal.Value
open Cert.NmKernelIdeal Cert.NmKernelIdeal.Gen Cert.NormMath Cert.NmReferenceIdeal.Read
variable (m : (ℓ : Loc nD τ sig) → Buf (Elt Ideal) ℓ)

theorem nrm_eq (c : Dev nD) (i : Fin 4160) (a : Fin 1024) : nrm (V m c main_v1) (V m c main_v2) i a
    = if h : i.val < 48 then (0 : EReal) else
      nrmR (m ((c : Thread nD τ).loc main_arg0)) (m ((c : Thread nD τ).loc main_arg1)) ⟨i.val - 48, by omega⟩ a := by
  by_cases h : i.val < 48
  · rw [dif_pos h]
    have hz : ∀ x y z : EReal, x = 0 → x * y * z = 0 := by rintro x y z rfl; rw [zero_mul, zero_mul]
    exact hz _ _ _ ((entry1 m c i a).trans (dif_pos h))
  · rw [dif_neg h]
    exact congrArg₂ (· * ·) (congrArg₂ (· * ·) ((entry1 m c i a).trans (dif_neg h))
      (congrArg (fun f => Ideal.rsqrt (msq f)) (funext fun k => (entry1 m c i k).trans (dif_neg h)))) (entry2 m c a)

theorem value4 (c : Dev nD) : (dats m 0 c).arrAt 4 (cfgs 0).N = val_main_v21 (F := Ideal)
    (m ((c : Thread nD τ).loc main_arg0)) (m ((c : Thread nD τ).loc main_arg1)) := by
  rw [final4]
  funext i
  idx_vars i
  exact (nrm_eq m c i0 i1).trans (ref21 _ _ i0 i1).symm

theorem value3 (c : Dev nD) : (dats m 0 c).arrAt 3 (cfgs 0).N = val_main_v18 (F := Ideal)
    (m ((c : Thread nD τ).loc main_arg0)) (m ((c : Thread nD τ).loc main_arg1)) (m ((c : Thread nD τ).loc main_arg2)) := by
  rw [final3]
  funext i
  idx_vars i
  refine Eq.trans ?_ (ref18 _ _ _ i0 i1).symm
  show (∑ a : Fin 1024, nrm (V m c main_v1) (V m c main_v2) i0 a * (show EReal from V m c main_v5 (ix2 a i1))) = _
  by_cases h' : i1.val < 3088
  · rw [dif_pos h']
    by_cases h : i0.val < 48
    · rw [dif_pos h]
      exact Finset.sum_eq_zero fun a _ => (congrArg (· * _) ((nrm_eq m c i0 a).trans (dif_pos h))).trans (zero_mul _)
    · rw [dif_neg h]
      exact Finset.sum_congr rfl fun a _ => congrArg₂ (· * ·) ((nrm_eq m c i0 a).trans (dif_neg h)) ((entry5 m c a i1).trans (dif_pos h'))
  · rw [dif_neg h']
    exact Finset.sum_eq_zero fun a _ => (congrArg (_ * ·) ((entry5 m c a i1).trans (dif_neg h'))).trans (mul_zero _)

end Cert.NmKernelIdeal.Value
end
-- ==== Proof.NmClaim.lean ====
module
public import proofs.«01_k».proof.Defs
public import proofs.«01_k».proof.Proof.Gen.NmKernel
public import proofs.«01_k».proof.Proof.Gen.NmKernelIdeal
public import proofs.«01_k».proof.Proof.Gen.NmReferenceIdeal
public import proofs.«01_k».proof.Proof.Gen.NmReferenceIdeal.Run
public import proofs.«01_k».proof.Proof.Gen.NmReferenceIdeal.Read
public import proofs.«01_k».proof.Proof.NmValue
@[expose] public section
/-! The five claims of the recurrent layer's norm and input projection. -/
set_option maxRecDepth 16384
noncomputable section
open Idealize.ShloMosaic Idealize.ShloMosaic.TcCoe Idealize.SL.Sem
namespace Cert.Nm

theorem frame : Cert.quiescent_NmKernel := by
  intro m ρ _
  refine cast ?_ (Cert.NmKernelIdeal.Gen.frame (F := Bits) m ρ)
  sl_kernel_rfl

theorem frameIdeal : Cert.quiescent_NmKernelIdeal := fun m ρ _ => Cert.NmKernelIdeal.Gen.frame m ρ

theorem frameRef : Cert.quiescent_NmReferenceIdeal := by
  intro m g _
  exact (θ_run _ _ _).mono (fun r h => ⟨fun c => (h c).2.2,
    sem_eq_zero_of_no_sems (sig := Cert.NmReferenceIdeal.sig) rfl r.2⟩) (Cert.NmReferenceIdeal.Value.run m g)

theorem algebraic : Cert.algebraic_NmKernelIdeal_NmReferenceIdeal := by
  pair_intro
  · run_from Cert.NmKernelIdeal.Gen.run_main m g
  · run_from Cert.NmReferenceIdeal.Value.run m' g'
    · obtain ⟨h0, h1, h2⟩ := hagree c
      rw [Cert.NmReferenceIdeal.Read.val_main_v18_eq, h2]
      exact (Cert.NmKernelIdeal.Value.value3 m c).symm
    · obtain ⟨h0, h1, h2⟩ := hagree c
      rw [Cert.NmReferenceIdeal.Read.val_main_v21_eq]
      exact (Cert.NmKernelIdeal.Value.value4 m c).symm

end Cert.Nm
end
-- ==== Proof.NcPoint.lean ====
module
public import proofs.«01_k».proof.Proof.Gen.NcKernelIdeal.Value
public import Idealize.ShloMosaic.Lib.Pipeline.ValueKit
public import proofs.«01_k».proof.Proof.NormMath
@[expose] public section
/-! The convolution layer's norm and input projection: the kernel's two result arrays after the run, over the windows' arrays. -/
set_option maxRecDepth 16384
noncomputable section
open Idealize.ShloMosaic Idealize.ShloMosaic.TcCoe Idealize.SL.Sem
open Idealize.ShloMosaic.Pipeline (Dat)
namespace Cert.NcKernelIdeal.Value
open Cert.NcKernelIdeal Cert.NcKernelIdeal.Gen Cert.NormMath
variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ t.val < 4 :=
  (by decide +kernel : ∀ t : Fin grid0.N, _)

/-- The normalised rows. -/
def nrm (H : FVec Ideal S4160x1024 .f32) (G : FVec Ideal S1x1024 .f32) (i : Fin 4160) (a : Fin 1024) : EReal :=
  H (ix2 i a) * Ideal.rsqrt (msq fun k => H (ix2 i k)) * G (ix2 0 a)

/-- Their product with the weight. -/
def proj (H : FVec Ideal S4160x1024 .f32) (G : FVec Ideal S1x1024 .f32) (W : FVec Ideal S1024x1536 .bf16) (i : Fin 4160) (k : Fin 1536) : EReal :=
  ∑ a : Fin 1024, nrm H G i a * W (ix2 a k)

theorem point4 (c : Dev nD) (t : Fin cfg0.N) (y : S1040x1024.Idx) (i : Fin 4160) (k : Fin 1024) (hi : i.val = t.val * 1040 + (y 0).val)
    (hk : k.val = (y 1).val) : out0_4 (iblk m c 0 t) (iblk m c 1 t) (iblk m c 2 t) y = nrm (V m c main_v1) (V m c main_v2) i k := by
  canon_tiles x h
  all_goals
    pointwise [k0_pay1, nrm, msq]
    blk_point [iblk, idx t]

theorem final4 (c : Dev nD) : (dats m 0 c).arrAt 4 (cfgs 0).N = fun j => nrm (V m c main_v1) (V m c main_v2) (j 0) (j 1) := by
  refine (dats m 0 c).arrAt_eq_of_covers 4 _ (by decide +kernel) fun t hf y => ?_
  blk_simp
  rw [after0_4]
  refine point4 m c t y _ _ ?_ ?_ <;> blk_simp [idx t]

theorem point3 (c : Dev nD) (t : Fin cfg0.N) (y : S1040x1536.Idx) (i : Fin 4160) (k : Fin 1536) (hi : i.val = t.val * 1040 + (y 0).val)
    (hk : k.val = (y 1).val) : out0_3 (iblk m c 0 t) (iblk m c 1 t) (iblk m c 2 t) y = proj (V m c main_v1) (V m c main_v2) (V m c main_v3) i k := by
  canon_tiles x h
  all_goals
    pointwise [k0_pay2, k0_pay3, k0_pay4, k0_pay1, proj, nrm, msq]
    blk_point [iblk, idx t]

theorem final3 (c : Dev nD) : (dats m 0 c).arrAt 3 (cfgs 0).N = fun j => proj (V m c main_v1) (V m c main_v2) (V m c main_v3) (j 0) (j 1) := by
  refine (dats m 0 c).arrAt_eq_of_covers 3 _ (by decide +kernel) fun t hf y => ?_
  blk_simp
  rw [after0_3]
  refine point3 m c t y _ _ ?_ ?_ <;> blk_simp [idx t]

theorem entry1 (c : Dev nD) (i : Fin 4160) (k : Fin 1024) : V m c main_v1 (ix2 i k)
    = if h' : i.val < 48 then (0 : EReal) else m ((c : Thread nD τ).loc main_arg0) (ix2 ⟨i.val - 48, by omega⟩ k) := by
  entry_read
  pointwise
theorem entry2 (c : Dev nD) (k : Fin 1024) : V m c main_v2 (ix2 0 k) = m ((c : Thread nD τ).loc main_arg1) (ix1 k) := by
  entry_read
  pointwise
theorem entry3' (c : Dev nD) (i : Fin 1024) (k : Fin 1536) : V m c main_v3 (ix2 i k)
    = m ((c : Thread nD τ).loc main_arg2) (ix2 i k) := by
  entry_read
  pointwise

end Cert.NcKernelIdeal.Value
end
-- ==== Proof.NcRef.lean ====
module
public import proofs.«01_k».proof.Proof.Gen.NcReferenceIdeal.Read
public import Idealize.ShloMosaic.Lib.Pipeline.ValueKit
public import proofs.«01_k».proof.Proof.NormMath
@[expose] public section
/-! The reference of the convolution layer's norm and input projection, read at an index. -/
set_option maxRecDepth 16384
noncomputable section
open Idealize.ShloMosaic Idealize.ShloMosaic.TcCoe Idealize.SL.Sem
namespace Cert.NcReferenceIdeal.Read
open Cert.NcReferenceIdeal Cert.NcReferenceIdeal.Gen Cert.NormMath

/-- The normalised rows. -/
def nrmR (x0 : FVec Ideal S4112x1024 .f32) (x1 : FVec Ideal S1024 .f32) (i : Fin 4112) (a : Fin 1024) : EReal :=
  x0 (ix2 i a) * Ideal.rsqrt (msq fun k => x0 (ix2 i k)) * x1 (ix1 a)

theorem ref12 (x0 : FVec Ideal S4112x1024 .f32) (x1 : FVec Ideal S1024 .f32) (i : Fin 4112) (a : Fin 1024) :
    val_main_v12 (F := Ideal) x0 x1 (ix2 i a) = nrmR x0 x1 i a := by
  pointwise [val_main_v12, val_main_v11, val_main_v10, val_main_v9, val_main_v8, val_main_v7, val_main_v6,
    val_main_v5, val_main_v4, val_main_v3, val_main_v2, val_main_v1, val_main_v0, val_main_cst, val_main_cst_0,
    val_main_cst_1, nrmR, msq]

theorem ref19 (x0 : FVec Ideal S4112x1024 .f32) (x1 : FVec Ideal S1024 .f32) (i : Fin 4160) (a : Fin 1024) :
    val_main_v19 (F := Ideal) x0 x1 (ix2 i a) = if h : i.val < 48 then (0 : EReal) else nrmR x0 x1 ⟨i.val - 48, by omega⟩ a := by
  have h := ref12 x0 x1
  unfold val_main_v19 val_main_v18
  generalize val_main_v12 (F := Ideal) x0 x1 = z at h
  pointwise [val_main_v17, val_main_cst_3]
  simp only [h]

theorem ref16 (x0 : FVec Ideal S4112x1024 .f32) (x1 : FVec Ideal S1024 .f32) (x2 : FVec Ideal S1024x1536 .f32) (i : Fin 4160) (k : Fin 1536) :
    val_main_v16 (F := Ideal) x0 x1 x2 (ix2 i k)
      = if h : i.val < 48 then (0 : EReal) else ∑ a : Fin 1024, nrmR x0 x1 ⟨i.val - 48, by omega⟩ a * x2 (ix2 a k) := by
  have h := ref12 x0 x1
  unfold val_main_v16 val_main_v15 val_main_v13
  generalize val_main_v12 (F := Ideal) x0 x1 = z at h
  pointwise [val_main_v14, val_main_cst_2]
  simp only [h]

end Cert.NcReferenceIdeal.Read
end
-- ==== Proof.NcValue.lean ====
module
public import proofs.«01_k».proof.Proof.NcPoint
public import proofs.«01_k».proof.Proof.NcRef
@[expose] public section
/-! The convolution layer's norm and input projection: the two result arrays after the run are the reference's terms. -/
set_option maxRecDepth 16384
noncomputable section
open Idealize.ShloMosaic Idealize.ShloMosaic.TcCoe Idealize.SL.Sem
open Idealize.ShloMosaic.Pipeline (Dat)
namespace Cert.NcKernelIdeal.Value
open Cert.NcKernelIdeal Cert.NcKernelIdeal.Gen Cert.NormMath Cert.NcReferenceIdeal.Read
variable (m : (ℓ : Loc nD τ sig) → Buf (Elt Ideal) ℓ)

theorem nrm_eq (c : Dev nD) (i : Fin 4160) (a : Fin 1024) : nrm (V m c main_v1) (V m c main_v2) i a
    = if h : i.val < 48 then (0 : EReal) else
      nrmR (m ((c : Thread nD τ).loc main_arg0)) (m ((c : Thread nD τ).loc main_arg1)) ⟨i.val - 48, by omega⟩ a := by
  by_cases h : i.val < 48
  · rw [dif_pos h]
    have hz : ∀ x y z : EReal, x = 0 → x * y * z = 0 := by rintro x y z rfl; rw [zero_mul, zero_mul]
    exact hz _ _ _ ((entry1 m c i a).trans (dif_pos h))
  · rw [dif_neg h]
    exact congrArg₂ (· * ·) (congrArg₂ (· * ·) ((entry1 m c i a).trans (dif_neg h))
      (congrArg (fun f => Ideal.rsqrt (msq f)) (funext fun k => (entry1 m c i k).trans (dif_neg h)))) (entry2 m c a)

theorem value4 (c : Dev nD) : (dats m 0 c).arrAt 4 (cfgs 0).N = val_main_v19 (F := Ideal)
    (m ((c : Thread nD τ).loc main_arg0)) (m ((c : Thread nD τ).loc main_arg1)) := by
  rw [final4]
  funext i
  idx_vars i
  exact (nrm_eq m c i0 i1).trans (ref19 _ _ i0 i1).symm

theorem value3 (c : Dev nD) : (dats m 0 c).arrAt 3 (cfgs 0).N = val_main_v16 (F := Ideal)
    (m ((c : Thread nD τ).loc main_arg0)) (m ((c : Thread nD τ).loc main_arg1)) (m ((c : Thread nD τ).loc main_arg2)) := by
  rw [final3]
  funext i
  idx_vars i
  refine Eq.trans ?_ (ref16 _ _ _ i0 i1).symm
  show (∑ a : Fin 1024, nrm (V m c main_v1) (V m c main_v2) i0 a * (show EReal from V m c main_v3 (ix2 a i1))) = _
  by_cases h : i0.val < 48
  · rw [dif_pos h]
    exact Finset.sum_eq_zero fun a _ => (congrArg (· * _) ((nrm_eq m c i0 a).trans (dif_pos h))).trans (zero_mul _)
  · rw [dif_neg h]
    exact Finset.sum_congr rfl fun a _ => congrArg₂ (· * ·) ((nrm_eq m c i0 a).trans (dif_neg h)) (entry3' m c a i1)

end Cert.NcKernelIdeal.Value
end
-- ==== Proof.NcClaim.lean ====
module
public import proofs.«01_k».proof.Defs
public import proofs.«01_k».proof.Proof.Gen.NcKernel
public import proofs.«01_k».proof.Proof.Gen.NcKernelIdeal
public import proofs.«01_k».proof.Proof.Gen.NcReferenceIdeal
public import proofs.«01_k».proof.Proof.Gen.NcReferenceIdeal.Run
public import proofs.«01_k».proof.Proof.Gen.NcReferenceIdeal.Read
public import proofs.«01_k».proof.Proof.NcValue
@[expose] public section
/-! The five claims of the convolution layer's norm and input projection. -/
set_option maxRecDepth 16384
noncomputable section
open Idealize.ShloMosaic Idealize.ShloMosaic.TcCoe Idealize.SL.Sem
namespace Cert.Nc

theorem frame : Cert.quiescent_NcKernel := by
  intro m ρ _
  refine cast ?_ (Cert.NcKernelIdeal.Gen.frame (F := Bits) m ρ)
  sl_kernel_rfl

theorem frameIdeal : Cert.quiescent_NcKernelIdeal := fun m ρ _ => Cert.NcKernelIdeal.Gen.frame m ρ

theorem frameRef : Cert.quiescent_NcReferenceIdeal := by
  intro m g _
  exact (θ_run _ _ _).mono (fun r h => ⟨fun c => (h c).2.2,
    sem_eq_zero_of_no_sems (sig := Cert.NcReferenceIdeal.sig) rfl r.2⟩) (Cert.NcReferenceIdeal.Value.run m g)

theorem algebraic : Cert.algebraic_NcKernelIdeal_NcReferenceIdeal := by
  pair_intro
  · run_from Cert.NcKernelIdeal.Gen.run_main m g
  · run_from Cert.NcReferenceIdeal.Value.run m' g'
    · obtain ⟨h0, h1, h2⟩ := hagree c
      rw [Cert.NcReferenceIdeal.Read.val_main_v16_eq, h2]
      exact (Cert.NcKernelIdeal.Value.value3 m c).symm
    · obtain ⟨h0, h1, h2⟩ := hagree c
      rw [Cert.NcReferenceIdeal.Read.val_main_v19_eq]
      exact (Cert.NcKernelIdeal.Value.value4 m c).symm

end Cert.Nc
end
-- ==== Proof.FfPoint.lean ====
module
public import proofs.«01_k».proof.Proof.Gen.FfKernelIdeal.Value
public import Idealize.ShloMosaic.Lib.Pipeline.ValueKit
public import proofs.«01_k».proof.Proof.NormMath
@[expose] public section
/-! The feed-forward block's kernel: its three result arrays after the run, over the windows' arrays. -/
set_option maxRecDepth 16384
noncomputable section
open Idealize.ShloMosaic Idealize.ShloMosaic.TcCoe Idealize.SL.Sem
open Idealize.ShloMosaic.Pipeline (Dat)
namespace Cert.FfKernelIdeal.Value
open Cert.FfKernelIdeal Cert.FfKernelIdeal.Gen Cert.NormMath
variable (m : (ℓ : Loc nD τ sig) → Buf (Elt Ideal) ℓ)

theorem idx : ∀ t : Fin cfg0.N, win0_0.index t = ![t.val / 4, 0] ∧ win0_1.index t = ![0, 0]
    ∧ win0_2.index t = ![t.val % 4, 0, 0] ∧ win0_3.index t = ![t.val % 4, 0, 0] ∧ win0_4.index t = ![t.val / 4, 0]
    ∧ win0_5.index t = ![t.val / 4, t.val % 4] ∧ win0_6.index t = ![t.val / 4, 0]
    ∧ (win0_4.flush t = true → t.val % 4 = 3) ∧ t.val < 16 :=
  (by decide +kernel : ∀ t : Fin grid0.N, _)

theorem lt16 (t : Fin cfg0.N) : t.val < 16 := (idx t).2.2.2.2.2.2.2.2

/-- The normalised rows. -/
def nrm (H : FVec Ideal S4160x1024 .f32) (G : FVec Ideal S1x1024 .f32) (i : Fin 4160) (a : Fin 1024) : EReal :=
  H (ix2 i a) * Ideal.rsqrt (msq fun k => H (ix2 i k)) * G (ix2 0 a)

/-- The pre-activation in one hidden block. -/
def pre (H : FVec Ideal S4160x1024 .f32) (G : FVec Ideal S1x1024 .f32) (U : FVec Ideal S4x1024x1024 .bf16)
    (i : Fin 4160) (s : Fin 4) (k : Fin 1024) : EReal :=
  ∑ a : Fin 1024, nrm H G i a * U (ix3 s a k)

/-- One hidden block's contribution to the block's output. -/
def part (H : FVec Ideal S4160x1024 .f32) (G : FVec Ideal S1x1024 .f32) (U W : FVec Ideal S4x1024x1024 .bf16)
    (i : Fin 4160) (s : Fin 4) (j : Fin 1024) : EReal :=
  ∑ k : Fin 1024, max (pre H G U i s k) 0 * max (pre H G U i s k) 0 * W (ix3 s k j)

/-- The block's output: the residual row plus the four contributions. -/
def outRow (H : FVec Ideal S4160x1024 .f32) (G : FVec Ideal S1x1024 .f32) (U W : FVec Ideal S4x1024x1024 .bf16) :
    FVec Ideal S4160x1024 .f32 := fun j => H j + ∑ s : Fin 4, part H G U W (j 0) s (j 1)

theorem hu (c : Dev nD) (t : Fin cfg0.N) : (outsAt0 m c t.val t.isLt).2.2.1 = k0_pay4 (iblk m c 0 t) (iblk m c 1 t) := by
  by_cases h0 : t.val % 4 = 0
  · rw [outsAt0_A m c t h0 (by omega) (by omega)]; frame_out
  · by_cases h3 : t.val % 4 = 3
    · rw [outsAt0_C m c t h0 (by omega) h3]; frame_out
    · rw [outsAt0_B m c t h0 (by omega) h3]; frame_out

theorem final_u (c : Dev nD) : (dats m 0 c).arrAt 6 (cfgs 0).N = fun j => nrm (V m c main_v1) (V m c main_v2) (j 0) (j 1) := by
  refine (dats m 0 c).arrAt_eq_of_covers 6 _ (by decide +kernel) fun t hf y => ?_
  blk_simp
  rw [after0_6, hu]
  idx_vars y
  pointwise [k0_pay4, nrm, msq]
  blk_simp [idx t]
  blk_point [iblk, idx t]

set_option maxHeartbeats 1600000 in
theorem hpre (c : Dev nD) (t : Fin cfg0.N) :
    (outsAt0 m c t.val t.isLt).2.1 = k0_pay6 (k0_pay4 (iblk m c 0 t) (iblk m c 1 t)) (iblk m c 2 t) := by
  by_cases h0 : t.val % 4 = 0
  · rw [outsAt0_A m c t h0 (by omega) (by omega)]; frame_out
  · by_cases h3 : t.val % 4 = 3
    · rw [outsAt0_C m c t h0 (by omega) h3]; frame_out
    · rw [outsAt0_B m c t h0 (by omega) h3]; frame_out

set_option maxHeartbeats 1600000 in
theorem final_hp (c : Dev nD) : (dats m 0 c).arrAt 5 (cfgs 0).N = fun j =>
    pre (V m c main_v1) (V m c main_v2) (V m c main_v5) (j 0) ⟨(j 1).val / 1024, by have := (j 1).isLt; simp at this; omega⟩
      ⟨(j 1).val % 1024, Nat.mod_lt _ (by norm_num)⟩ := by
  refine (dats m 0 c).arrAt_eq_of_covers 5 _ (by decide +kernel) fun t hf y => ?_
  blk_simp
  rw [after0_5, hpre]
  idx_vars y
  pointwise [k0_pay6, k0_pay5, k0_pay4, pre, nrm, msq]
  blk_simp [idx t]
  blk_point [iblk, idx t]

set_option maxHeartbeats 1600000 in
theorem acc_eq (c : Dev nD) (t : Fin cfg0.N) (hr : t.val % 4 = 3) (y0 : Fin 1040) (y1 : Fin 1024) :
    (outsAt0 m c t.val t.isLt).2.2.2 (ix2 y0 y1)
      = ∑ s : Fin 4, part (V m c main_v1) (V m c main_v2) (V m c main_v5) (V m c main_v7)
          ⟨t.val / 4 * 1040 + y0.val, by have := lt16 t; omega⟩ s y1 := by
  have hp : ∀ (t : Fin cfg0.N) (y0 : Fin 1040) (y1 : Fin 1024),
      k0_pay7 (k0_pay4 (iblk m c 0 t) (iblk m c 1 t)) (iblk m c 2 t) (iblk m c 3 t) (ix2 y0 y1)
      = part (V m c main_v1) (V m c main_v2) (V m c main_v5) (V m c main_v7)
          ⟨t.val / 4 * 1040 + y0.val, by have := lt16 t; omega⟩ ⟨t.val % 4, Nat.mod_lt _ (by norm_num)⟩ y1 := by
    intro t y0 y1
    pointwise [k0_pay7, k0_pay5, k0_pay4, part, pre, nrm, msq]
    blk_point [iblk, idx t]
  refine (Pipeline.eq_sum_fin_of_reset_step_apply_of_flush (fun n h => (outsAt0 m c n h).2.2.2) 4 (fun _ => (0 : EReal))
    (fun t y => k0_pay7 (k0_pay4 (iblk m c 0 t) (iblk m c 1 t)) (iblk m c 2 t) (iblk m c 3 t) y) ?_ ?_ t hr (ix2 y0 y1)).trans ?_
  · intro t h0 y
    rw [outsAt0_A m c t h0 (by omega) (by omega)]
    frame_out
    idx_vars y
    pointwise [k0_pay1]
  · intro t h0 y
    by_cases h3 : t.val % 4 = 3
    · rw [outsAt0_C m c t h0 (by omega) h3]; frame_out; idx_vars y
      simp only [(Memref.isWhole_whole _).read_unread]
      pointwise [k0_pay2]
    · rw [outsAt0_B m c t h0 (by omega) h3]; frame_out; idx_vars y
      simp only [(Memref.isWhole_whole _).read_unread]
      pointwise [k0_pay2]
  · rw [zero_add]
    refine Finset.sum_congr (M := EReal) rfl fun s _ => (hp _ y0 y1).trans ?_
    have e1 : (4 * (t.val / 4) + s.val) / 4 = t.val / 4 := by omega
    have e2 : (4 * (t.val / 4) + s.val) % 4 = s.val := by omega
    simp only [e1, e2]

/-- At the last hidden block of a row block the output is the residual row plus the finished accumulator. -/
theorem at_last (c : Dev nD) (t : Fin cfg0.N) (h3 : t.val % 4 = 3) :
    (outsAt0 m c t.val t.isLt).1 = k0_pay3 (iblk m c 0 t) (outsAt0 m c t.val t.isLt).2.2.2 := by
  rw [outsAt0_C m c t (by omega) (by omega) h3]
  frame_out

set_option maxHeartbeats 1600000 in
theorem final_ho (c : Dev nD) : (dats m 0 c).arrAt 4 (cfgs 0).N = outRow (V m c main_v1) (V m c main_v2) (V m c main_v5) (V m c main_v7) := by
  refine (dats m 0 c).arrAt_eq_of_covers 4 _ (by decide +kernel) fun t hf y => ?_
  blk_simp
  have h3 := (idx t).2.2.2.2.2.2.2.1 hf
  rw [after0_4, at_last m c t h3]
  have ha := acc_eq m c t h3
  generalize (outsAt0 m c t.val t.isLt).2.2.2 = acc at ha ⊢
  idx_vars y
  pointwise [k0_pay3, outRow]
  rw [ha]
  blk_simp [idx t]
  blk_point [iblk, idx t]

theorem entry1 (c : Dev nD) (i : Fin 4160) (k : Fin 1024) : V m c main_v1 (ix2 i k)
    = if h' : i.val < 48 then (0 : EReal) else m ((c : Thread nD τ).loc main_arg0) (ix2 ⟨i.val - 48, by omega⟩ k) := by
  entry_read
  pointwise
theorem entry2 (c : Dev nD) (k : Fin 1024) : V m c main_v2 (ix2 0 k) = m ((c : Thread nD τ).loc main_arg1) (ix1 k) := by
  entry_read
  pointwise
theorem entry5' (c : Dev nD) (s : Fin 4) (a k : Fin 1024) : V m c main_v5 (ix3 s a k)
    = m ((c : Thread nD τ).loc main_arg2) (ix2 a ⟨s.val * 1024 + k.val, by omega⟩) := by
  entry_read
  pointwise
theorem entry7 (c : Dev nD) (s : Fin 4) (k a : Fin 1024) : V m c main_v7 (ix3 s k a)
    = m ((c : Thread nD τ).loc main_arg3) (ix2 ⟨s.val * 1024 + k.val, by omega⟩ a) := by
  entry_read
  pointwise

end Cert.FfKernelIdeal.Value
end
-- ==== Proof.FfRef.lean ====
module
public import proofs.«01_k».proof.Proof.Gen.FfReferenceIdeal.Read
public import Idealize.ShloMosaic.Lib.Pipeline.ValueKit
public import proofs.«01_k».proof.Proof.NormMath
@[expose] public section
/-! The reference of the feed-forward block, read at an index. -/
set_option maxRecDepth 16384
noncomputable section
open Idealize.ShloMosaic Idealize.ShloMosaic.TcCoe Idealize.SL.Sem
namespace Cert.FfReferenceIdeal.Read
open Cert.FfReferenceIdeal Cert.FfReferenceIdeal.Gen Cert.NormMath

/-- The normalised rows. -/
def nrmR (x0 : FVec Ideal S4112x1024 .f32) (x1 : FVec Ideal S1024 .f32) (i : Fin 4112) (a : Fin 1024) : EReal :=
  x0 (ix2 i a) * Ideal.rsqrt (msq fun k => x0 (ix2 i k)) * x1 (ix1 a)

/-- The pre-activation. -/
def hp (x0 : FVec Ideal S4112x1024 .f32) (x1 : FVec Ideal S1024 .f32) (x2 : FVec Ideal S1024x4096 .f32) (i : Fin 4112)
    (k : Fin 4096) : EReal :=
  ∑ a : Fin 1024, nrmR x0 x1 i a * x2 (ix2 a k)

theorem ref12 (x0 : FVec Ideal S4112x1024 .f32) (x1 : FVec Ideal S1024 .f32) (i : Fin 4112) (a : Fin 1024) :
    val_main_v12 (F := Ideal) x0 x1 (ix2 i a) = nrmR x0 x1 i a := by
  pointwise [val_main_v12, val_main_v11, val_main_v10, val_main_v9, val_main_v8, val_main_v7, val_main_v6,
    val_main_v5, val_main_v4, val_main_v3, val_main_v2, val_main_v1, val_main_v0, val_main_cst, val_main_cst_0,
    val_main_cst_1, nrmR, msq]

theorem ref13 (x0 : FVec Ideal S4112x1024 .f32) (x1 : FVec Ideal S1024 .f32) (x2 : FVec Ideal S1024x4096 .f32) (i : Fin 4112) (k : Fin 4096) :
    val_main_v13 (F := Ideal) x0 x1 x2 (ix2 i k) = hp x0 x1 x2 i k := by
  have h := ref12 x0 x1
  unfold val_main_v13 hp
  generalize val_main_v12 (F := Ideal) x0 x1 = z at h
  pointwise
  simp only [h]

theorem ref25 (x0 : FVec Ideal S4112x1024 .f32) (x1 : FVec Ideal S1024 .f32) (i : Fin 4160) (a : Fin 1024) :
    val_main_v25 (F := Ideal) x0 x1 (ix2 i a) = if h : i.val < 48 then (0 : EReal) else nrmR x0 x1 ⟨i.val - 48, by omega⟩ a := by
  have h := ref12 x0 x1
  unfold val_main_v25 val_main_v24
  generalize val_main_v12 (F := Ideal) x0 x1 = z at h
  pointwise [val_main_v23, val_main_cst_4]
  simp only [h]

theorem ref22 (x0 : FVec Ideal S4112x1024 .f32) (x1 : FVec Ideal S1024 .f32) (x2 : FVec Ideal S1024x4096 .f32) (i : Fin 4160) (k : Fin 4096) :
    val_main_v22 (F := Ideal) x0 x1 x2 (ix2 i k) = if h : i.val < 48 then (0 : EReal) else hp x0 x1 x2 ⟨i.val - 48, by omega⟩ k := by
  have h := ref13 x0 x1 x2
  unfold val_main_v22 val_main_v21
  generalize val_main_v13 (F := Ideal) x0 x1 x2 = z at h
  pointwise [val_main_v20, val_main_cst_3]
  simp only [h]

theorem ref19 (x0 : FVec Ideal S4112x1024 .f32) (x1 : FVec Ideal S1024 .f32) (x2 : FVec Ideal S1024x4096 .f32)
    (x3 : FVec Ideal S4096x1024 .f32) (i : Fin 4160) (j : Fin 1024) :
    val_main_v19 (F := Ideal) x0 x1 x2 x3 (ix2 i j) = if h : i.val < 48 then (0 : EReal) else x0 (ix2 ⟨i.val - 48, by omega⟩ j)
      + ∑ k : Fin 4096, max (hp x0 x1 x2 ⟨i.val - 48, by omega⟩ k) 0 * max (hp x0 x1 x2 ⟨i.val - 48, by omega⟩ k) 0 * x3 (ix2 k j) := by
  have h := ref13 x0 x1 x2
  unfold val_main_v19 val_main_v17 val_main_v16 val_main_v15 val_main_v14
  generalize val_main_v13 (F := Ideal) x0 x1 x2 = z at h
  pointwise [val_main_v18, val_main_cst_2, val_main_call0_v0, val_main_call0_cst]
  simp only [h]

end Cert.FfReferenceIdeal.Read
end
-- ==== Proof.FfValue.lean ====
module
public import proofs.«01_k».proof.Proof.FfPoint
public import proofs.«01_k».proof.Proof.FfRef
@[expose] public section
/-! The feed-forward block's three result arrays after the run are the reference's terms. -/
set_option maxRecDepth 16384
noncomputable section
open Idealize.ShloMosaic Idealize.ShloMosaic.TcCoe Idealize.SL.Sem
open Idealize.ShloMosaic.Pipeline (Dat)
namespace Cert.FfKernelIdeal.Value
open Cert.FfKernelIdeal Cert.FfKernelIdeal.Gen Cert.NormMath Cert.FfReferenceIdeal.Read
variable (m : (ℓ : Loc nD τ sig) → Buf (Elt Ideal) ℓ)

theorem nrm_eq (c : Dev nD) (i : Fin 4160) (a : Fin 1024) : nrm (V m c main_v1) (V m c main_v2) i a
    = if h : i.val < 48 then (0 : EReal) else
      nrmR (m ((c : Thread nD τ).loc main_arg0)) (m ((c : Thread nD τ).loc main_arg1)) ⟨i.val - 48, by omega⟩ a := by
  by_cases h : i.val < 48
  · rw [dif_pos h]
    have hz : ∀ x y z : EReal, x = 0 → x * y * z = 0 := by rintro x y z rfl; rw [zero_mul, zero_mul]
    exact hz _ _ _ ((entry1 m c i a).trans (dif_pos h))
  · rw [dif_neg h]
    exact congrArg₂ (· * ·) (congrArg₂ (· * ·) ((entry1 m c i a).trans (dif_neg h))
      (congrArg (fun f => Ideal.rsqrt (msq f)) (funext fun k => (entry1 m c i k).trans (dif_neg h)))) (entry2 m c a)

theorem pre_eq (c : Dev nD) (i : Fin 4160) (s : Fin 4) (k : Fin 1024) : pre (V m c main_v1) (V m c main_v2) (V m c main_v5) i s k
    = if h : i.val < 48 then (0 : EReal) else
      hp (m ((c : Thread nD τ).loc main_arg0)) (m ((c : Thread nD τ).loc main_arg1)) (m ((c : Thread nD τ).loc main_arg2))
        ⟨i.val - 48, by omega⟩ ⟨s.val * 1024 + k.val, by omega⟩ := by
  by_cases h : i.val < 48
  · rw [dif_pos h]
    exact Finset.sum_eq_zero fun a _ => (congrArg (· * _) ((nrm_eq m c i a).trans (dif_pos h))).trans (zero_mul _)
  · rw [dif_neg h]
    exact Finset.sum_congr rfl fun a _ => congrArg₂ (· * ·) ((nrm_eq m c i a).trans (dif_neg h)) (entry5' m c s a k)

theorem value6 (c : Dev nD) : (dats m 0 c).arrAt 6 (cfgs 0).N = val_main_v25 (F := Ideal)
    (m ((c : Thread nD τ).loc main_arg0)) (m ((c : Thread nD τ).loc main_arg1)) := by
  rw [final_u]
  funext i
  idx_vars i
  exact (nrm_eq m c i0 i1).trans (ref25 _ _ i0 i1).symm

theorem value5 (c : Dev nD) : (dats m 0 c).arrAt 5 (cfgs 0).N = val_main_v22 (F := Ideal)
    (m ((c : Thread nD τ).loc main_arg0)) (m ((c : Thread nD τ).loc main_arg1)) (m ((c : Thread nD τ).loc main_arg2)) := by
  rw [final_hp]
  funext i
  idx_vars i
  refine Eq.trans ?_ (ref22 _ _ _ i0 i1).symm
  refine (pre_eq m c i0 _ _).trans ?_
  have hk : (⟨i1.val / 1024 * 1024 + i1.val % 1024, by omega⟩ : Fin 4096) = i1 := Fin.ext (by show i1.val / 1024 * 1024 + i1.val % 1024 = i1.val; omega)
  exact congrArg (fun k => if h : i0.val < 48 then (0 : EReal) else
    hp (m ((c : Thread nD τ).loc main_arg0)) (m ((c : Thread nD τ).loc main_arg1)) (m ((c : Thread nD τ).loc main_arg2)) ⟨i0.val - 48, by omega⟩ k) hk

theorem value4 (c : Dev nD) : (dats m 0 c).arrAt 4 (cfgs 0).N = val_main_v19 (F := Ideal)
    (m ((c : Thread nD τ).loc main_arg0)) (m ((c : Thread nD τ).loc main_arg1)) (m ((c : Thread nD τ).loc main_arg2))
    (m ((c : Thread nD τ).loc main_arg3)) := by
  rw [final_ho]
  funext i
  idx_vars i
  refine Eq.trans ?_ (ref19 _ _ _ _ i0 i1).symm
  show (show EReal from V m c main_v1 (ix2 i0 i1)) + ∑ s : Fin 4, part (V m c main_v1) (V m c main_v2) (V m c main_v5) (V m c main_v7) i0 s i1 = _
  by_cases h : i0.val < 48
  · rw [dif_pos h]
    refine Eq.trans (congrArg₂ (· + ·) ((entry1 m c i0 i1).trans (dif_pos h)) (Finset.sum_eq_zero fun s _ =>
      Finset.sum_eq_zero fun k _ => ?_)) (zero_add _)
    have hz : ∀ x z : EReal, x = 0 → max x 0 * max x 0 * z = 0 := by rintro x z rfl; rw [max_self, zero_mul, zero_mul]
    exact hz _ _ ((pre_eq m c i0 s k).trans (dif_pos h))
  · rw [dif_neg h]
    refine congrArg₂ (· + ·) ((entry1 m c i0 i1).trans (dif_neg h)) (Fin.sum_mul_add_congr fun s k hl => ?_)
    exact congrArg₂ (fun x z : EReal => max x 0 * max x 0 * z) ((pre_eq m c i0 s k).trans (dif_neg h)) (entry7 m c s k i1)

end Cert.FfKernelIdeal.Value
end
-- ==== Proof.FfClaim.lean ====
module
public import proofs.«01_k».proof.Defs
public import proofs.«01_k».proof.Proof.Gen.FfKernel
public import proofs.«01_k».proof.Proof.Gen.FfKernelIdeal
public import proofs.«01_k».proof.Proof.Gen.FfReferenceIdeal
public import proofs.«01_k».proof.Proof.Gen.FfReferenceIdeal.Run
public import proofs.«01_k».proof.Proof.Gen.FfReferenceIdeal.Read
public import proofs.«01_k».proof.Proof.FfValue
@[expose] public section
/-! The five claims of the feed-forward block. -/
set_option maxRecDepth 16384
noncomputable section
open Idealize.ShloMosaic Idealize.ShloMosaic.TcCoe Idealize.SL.Sem
namespace Cert.Ff

theorem frame : Cert.quiescent_FfKernel := by
  intro m ρ _
  refine cast ?_ (Cert.FfKernelIdeal.Gen.frame (F := Bits) m ρ)
  sl_kernel_rfl

theorem frameIdeal : Cert.quiescent_FfKernelIdeal := fun m ρ _ => Cert.FfKernelIdeal.Gen.frame m ρ

theorem frameRef : Cert.quiescent_FfReferenceIdeal := by
  intro m g _
  exact (θ_run _ _ _).mono (fun r h => ⟨fun c => (h c).2.2.2,
    sem_eq_zero_of_no_sems (sig := Cert.FfReferenceIdeal.sig) rfl r.2⟩) (Cert.FfReferenceIdeal.Value.run m g)

theorem algebraic : Cert.algebraic_FfKernelIdeal_FfReferenceIdeal := by
  pair_intro
  · run_from Cert.FfKernelIdeal.Gen.run_main m g
  · run_from Cert.FfReferenceIdeal.Value.run m' g'
    · obtain ⟨h0, h1, h2, h3⟩ := hagree c
      rw [Cert.FfReferenceIdeal.Read.val_main_v19_eq, h3]
      exact (Cert.FfKernelIdeal.Value.value4 m c).symm
    · obtain ⟨h0, h1, h2, h3⟩ := hagree c
      rw [Cert.FfReferenceIdeal.Read.val_main_v22_eq]
      exact (Cert.FfKernelIdeal.Value.value5 m c).symm
    · rw [Cert.FfReferenceIdeal.Read.val_main_v25_eq]
      exact (Cert.FfKernelIdeal.Value.value6 m c).symm

end Cert.Ff
end
-- ==== Proof.OutValue.lean ====
module
public import proofs.«01_k».proof.Proof.Gen.OutKernelIdeal.Value
public import proofs.«01_k».proof.Proof.Gen.OutReferenceIdeal.Read
public import Idealize.ShloMosaic.Lib.Pipeline.ValueKit
public import proofs.«01_k».proof.Proof.NormMath
@[expose] public section
/-! The output projection added to its residual: the kernel's result array after the run is the reference's term. -/
set_option maxRecDepth 16384
noncomputable section
open Idealize.ShloMosaic Idealize.ShloMosaic.TcCoe Idealize.SL.Sem
open Idealize.ShloMosaic.Pipeline (Dat)
namespace Cert.OutKernelIdeal.Value
open Cert.OutKernelIdeal Cert.OutKernelIdeal.Gen Cert.NormMath
open Cert.OutReferenceIdeal.Read
variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ t.val < 4 :=
  (by decide +kernel : ∀ t : Fin grid0.N, _)

/-- A row of the residual plus the product's. -/
def proj (A : FVec Ideal S4160x1024 .bf16) (W : FVec Ideal S1024x1024 .bf16) (H : FVec Ideal S4160x1024 .f32) (i : Fin 4160) (k : Fin 1024) : EReal :=
  H (ix2 i k) + ∑ a : Fin 1024, A (ix2 i a) * W (ix2 a k)

theorem point3 (c : Dev nD) (t : Fin cfg0.N) (y : S1040x1024.Idx) (i : Fin 4160) (k : Fin 1024) (hi : i.val = t.val * 1040 + (y 0).val)
    (hk : k.val = (y 1).val) : out0_3 (iblk m c 0 t) (iblk m c 1 t) (iblk m c 2 t) y = proj (V m c main_v2) (V m c main_v3) (V m c main_v5) i k := by
  canon_tiles x h
  all_goals
    pointwise [k0_pay1, proj]
    blk_point [iblk, idx t]

theorem final3 (c : Dev nD) : (dats m 0 c).arrAt 3 (cfgs 0).N = fun j => proj (V m c main_v2) (V m c main_v3) (V m c main_v5) (j 0) (j 1) := by
  refine (dats m 0 c).arrAt_eq_of_covers 3 _ (by decide +kernel) fun t hf y => ?_
  blk_simp
  rw [after0_3]
  refine point3 m c t y _ _ ?_ ?_ <;> blk_simp [idx t]

theorem entryA (c : Dev nD) (i : Fin 4160) (k : Fin 1024) : V m c main_v2 (ix2 i k)
    = if h' : i.val < 48 then (0 : EReal) else m ((c : Thread nD τ).loc main_arg0) (ix2 ⟨i.val - 48, by omega⟩ k) := by
  entry_read
  pointwise
theorem entryW (c : Dev nD) (i : Fin 1024) (k : Fin 1024) : V m c main_v3 (ix2 i k) = m ((c : Thread nD τ).loc main_arg1) (ix2 i k) := by
  entry_read
  pointwise
theorem entryH (c : Dev nD) (i : Fin 4160) (k : Fin 1024) : V m c main_v5 (ix2 i k)
    = if h' : i.val < 48 then (0 : EReal) else m ((c : Thread nD τ).loc main_arg2) (ix2 ⟨i.val - 48, by omega⟩ k) := by
  entry_read
  pointwise

theorem ref3 (x0 : FVec Ideal S4112x1024 .f32) (x1 : FVec Ideal S1024x1024 .f32) (x2 : FVec Ideal S4112x1024 .f32) (i : Fin 4160) (k : Fin 1024) :
    val_main_v3 (F := Ideal) x0 x1 x2 (ix2 i k) = if h : i.val < 48 then (0 : EReal) else
      x2 (ix2 ⟨i.val - 48, by omega⟩ k) + ∑ a : Fin 1024, x0 (ix2 ⟨i.val - 48, by omega⟩ a) * x1 (ix2 a k) := by
  pointwise [val_main_v3, val_main_v2, val_main_v1, val_main_v0, val_main_cst]

theorem add_eq {a b a' b' : EReal} (h : a = a') (h' : b = b') : a + b = a' + b' := by rw [h, h']
theorem mul_eq {a b a' b' : EReal} (h : a = a') (h' : b = b') : a * b = a' * b' := by rw [h, h']
theorem zero_of {a b : EReal} (h : a = 0) : a * b = 0 := by rw [h, zero_mul]

theorem value3 (c : Dev nD) : (dats m 0 c).arrAt 3 (cfgs 0).N = val_main_v3 (F := Ideal) (m ((c : Thread nD τ).loc main_arg0))
    (m ((c : Thread nD τ).loc main_arg1)) (m ((c : Thread nD τ).loc main_arg2)) := by
  rw [final3]
  funext i
  idx_vars i
  refine Eq.trans ?_ (ref3 _ _ _ i0 i1).symm
  show proj (V m c main_v2) (V m c main_v3) (V m c main_v5) i0 i1 = _
  unfold proj
  by_cases h : i0.val < 48
  · rw [dif_pos h]
    exact (add_eq ((entryH m c i0 i1).trans (dif_pos h))
      (Finset.sum_eq_zero fun a _ => zero_of ((entryA m c i0 a).trans (dif_pos h)))).trans (add_zero _)
  · rw [dif_neg h]
    exact add_eq ((entryH m c i0 i1).trans (dif_neg h))
      (Finset.sum_congr rfl fun a _ => mul_eq ((entryA m c i0 a).trans (dif_neg h)) (entryW m c a i1))

end Cert.OutKernelIdeal.Value
end
-- ==== Proof.OutClaim.lean ====
module
public import proofs.«01_k».proof.Defs
public import proofs.«01_k».proof.Proof.Gen.OutKernel
public import proofs.«01_k».proof.Proof.Gen.OutKernelIdeal
public import proofs.«01_k».proof.Proof.Gen.OutReferenceIdeal
public import proofs.«01_k».proof.Proof.Gen.OutReferenceIdeal.Run
public import proofs.«01_k».proof.Proof.Gen.OutReferenceIdeal.Read
public import proofs.«01_k».proof.Proof.OutValue
@[expose] public section
/-! The five claims of the output projection added to its residual. -/
set_option maxRecDepth 16384
noncomputable section
open Idealize.ShloMosaic Idealize.ShloMosaic.TcCoe Idealize.SL.Sem
namespace Cert.Out

theorem frame : Cert.quiescent_OutKernel := by
  intro m ρ _
  refine cast ?_ (Cert.OutKernelIdeal.Gen.frame (F := Bits) m ρ)
  sl_kernel_rfl

theorem frameIdeal : Cert.quiescent_OutKernelIdeal := fun m ρ _ => Cert.OutKernelIdeal.Gen.frame m ρ

theorem frameRef : Cert.quiescent_OutReferenceIdeal := by
  intro m g _
  exact (θ_run _ _ _).mono (fun r h => ⟨fun c => (h c).2,
    sem_eq_zero_of_no_sems (sig := Cert.OutReferenceIdeal.sig) rfl r.2⟩) (Cert.OutReferenceIdeal.Value.run m g)

theorem algebraic : Cert.algebraic_OutKernelIdeal_OutReferenceIdeal := by
  pair_intro
  · run_from Cert.OutKernelIdeal.Gen.run_main m g
  · run_from Cert.OutReferenceIdeal.Value.run m' g'
    · obtain ⟨h0, h1, h2⟩ := hagree c
      rw [Cert.OutReferenceIdeal.Read.val_main_v3_eq, h2]
      exact (Cert.OutKernelIdeal.Value.value3 m c).symm

end Cert.Out
end
-- ==== Proof.WplainValue.lean ====
module
public import proofs.«01_k».proof.Proof.Gen.WplainKernelIdeal.Value
public import proofs.«01_k».proof.Proof.Gen.WplainReferenceIdeal.Read
public import Idealize.ShloMosaic.Lib.Pipeline.ValueKit
public import proofs.«01_k».proof.Proof.NormMath
@[expose] public section
/-! The first feed-forward weight's gradient: the kernel's result array after the run is the reference's term. -/
set_option maxRecDepth 16384
noncomputable section
open Idealize.ShloMosaic Idealize.ShloMosaic.TcCoe Idealize.SL.Sem
open Idealize.ShloMosaic.Pipeline (Dat)
namespace Cert.WplainKernelIdeal.Value
open Cert.WplainKernelIdeal Cert.WplainKernelIdeal.Gen Cert.NormMath
open Cert.WplainReferenceIdeal.Read
variable (m : (ℓ : Loc nD τ sig) → Buf (Elt Ideal) ℓ)

theorem idx : ∀ t : Fin cfg0.N, win0_0.index t = ![0, 0] ∧ win0_1.index t = ![0, t.val]
    ∧ win0_2.index t = ![64, 0] ∧ win0_3.index t = ![64, t.val * 1024] ∧ win0_4.index t = ![t.val, 0, 0] ∧ t.val < 4 :=
  (by decide +kernel : ∀ t : Fin grid0.N, _)

/-- Where an element of a shifted block lies in its padded array. -/
theorem emb2 (t : Fin cfg0.N) (y : S4096x1024.Idx) (a : Fin 2) :
    (((View.whole main_v2).slice (win0_2.rect t)).emb y a).val = win0_2.index t a + (y a).val :=
  win0_2.rect_emb_val_off t y a
theorem emb3 (t : Fin cfg0.N) (y : S4096x1024.Idx) (a : Fin 2) :
    (((View.whole main_v5).slice (win0_3.rect t)).emb y a).val = win0_3.index t a + (y a).val :=
  win0_3.rect_emb_val_off t y a
theorem emb4 (t : Fin cfg0.N) (y : S1x1024x1024.Idx) :
    (((View.whole main_v6).slice (win0_4.rect t)).emb y 2).val = win0_4.index t 2 * 1024 + 1 * (y 2).val := rfl

/-- The weight's gradient over the padded rows: the sequence rows, then the zero rows with the meta rows. -/
def dw (X : FVec Ideal S4160x1024 .bf16) (D : FVec Ideal S4160x4096 .bf16) : FVec Ideal S4x1024x1024 .bf16 := fun j =>
  (∑ k : Fin 4096, X (ix2 ⟨64 + k.val, by omega⟩ (j 1)) * D (ix2 ⟨64 + k.val, by omega⟩ ⟨(j 0).val * 1024 + (j 2).val, by have := (j 0).isLt; have := (j 2).isLt; simp at *; omega⟩))
    + (∑ k : Fin 64, X (ix2 ⟨k.val, by omega⟩ (j 1)) * D (ix2 ⟨k.val, by omega⟩ ⟨(j 0).val * 1024 + (j 2).val, by have := (j 0).isLt; have := (j 2).isLt; simp at *; omega⟩))

set_option maxHeartbeats 1600000 in
theorem final_dw (c : Dev nD) : (dats m 0 c).arrAt 4 (cfgs 0).N = dw (V m c main_v2) (V m c main_v5) := by
  refine (dats m 0 c).arrAt_eq_of_covers 4 _ (by decide +kernel) fun t hf y => ?_
  blk_simp
  rw [after0_4]
  unfold outsAt0
  frame_out
  idx_vars y
  pointwise [k0_pay1, k0_pay2, k0_pay4, dw]
  blk_simp [idx t]
  refine congrArg₂ (· + ·) ?_ ?_
  all_goals refine Finset.sum_congr (M := EReal) rfl fun k _ => ?_
  all_goals
    blk_point [iblk, idx t]
  all_goals first
    | (refine (emb2 _ _ _).trans ?_; simp [idx t, ix2, ix3]; done)
    | (refine (emb2 _ _ _).trans ?_; simp [idx t, ix2, ix3]; omega)
    | (refine (emb3 _ _ _).trans ?_; simp [idx t, ix2, ix3, emb4]; done)
    | (refine (emb3 _ _ _).trans ?_; simp [idx t, ix2, ix3, emb4]; omega)
    | (simp [emb4, idx t, ix2, ix3]; done)

theorem entry2 (c : Dev nD) (i : Fin 4160) (k : Fin 1024) : V m c main_v2 (ix2 i k)
    = if h : i.val < 48 then (0 : EReal) else m ((c : Thread nD τ).loc main_arg0) (ix2 ⟨i.val - 48, by omega⟩ k) := by
  entry_read
  pointwise
theorem entry5 (c : Dev nD) (i : Fin 4160) (k : Fin 4096) : V m c main_v5 (ix2 i k)
    = if h : i.val < 48 then (0 : EReal) else m ((c : Thread nD τ).loc main_arg1) (ix2 ⟨i.val - 48, by omega⟩ k) := by
  entry_read
  pointwise

theorem ref6 (x0 : FVec Ideal S4112x1024 .f32) (x1 : FVec Ideal S4112x4096 .f32) (b : Fin 4) (r j : Fin 1024) :
    val_main_v6 (F := Ideal) x0 x1 (ix3 b r j) = ∑ i : Fin 4112, x0 (ix2 i r) * x1 (ix2 i ⟨b.val * 1024 + j.val, by omega⟩) := by
  pointwise [val_main_v6, val_main_v5, val_main_v4, val_main_v3, val_main_v2]
  exact Finset.sum_congr rfl fun i _ => mul_comm _ _

/-- The row sum in the kernel's order: the 4096 sequence rows, then the 48 zero rows with the 16 meta rows. -/
theorem sum_rows (f : Fin 4160 → EReal) (g : Fin 4112 → EReal) (h0 : ∀ k : Fin 48, f ⟨k.val, by omega⟩ = 0)
    (h1 : ∀ k : Fin 4112, f ⟨48 + k.val, by omega⟩ = g k) :
    ∑ k : Fin 4096, f ⟨64 + k.val, by omega⟩ + ∑ k : Fin 64, f ⟨k.val, by omega⟩ = ∑ k, g k := by
  have e1 := Fin.sum_univ_add (a := 64) (b := 4096) f
  have e3 := Fin.sum_univ_add (a := 48) (b := 4112) f
  have e4 : ∑ k : Fin 48, f (Fin.castAdd 4112 k) = 0 := Finset.sum_eq_zero fun k _ => h0 k
  rw [e4, zero_add] at e3
  exact (add_comm _ _).trans (e1.symm.trans (e3.trans (Finset.sum_congr rfl fun k _ => h1 k)))

theorem mul_eq {a b a' b' : EReal} (h : a = a') (h' : b = b') : a * b = a' * b' := by rw [h, h']
theorem zero_of {a b : EReal} (h : a = 0) : a * b = 0 := by rw [h, zero_mul]

theorem value4 (c : Dev nD) : (dats m 0 c).arrAt 4 (cfgs 0).N = val_main_v6 (F := Ideal) (m ((c : Thread nD τ).loc main_arg0))
    (m ((c : Thread nD τ).loc main_arg1)) := by
  rw [final_dw]
  funext i
  idx_vars i
  refine Eq.trans ?_ (ref6 _ _ i0 i1 i2).symm
  refine sum_rows (fun k => HMul.hMul (α := EReal) (β := EReal) (γ := EReal) (V m c main_v2 (ix2 k i1)) (V m c main_v5 (ix2 k ⟨i0.val * 1024 + i2.val, by omega⟩))) _
    (fun k => ?_) fun k => ?_
  · have hk : (⟨k.val, by omega⟩ : Fin 4160).val < 48 := k.isLt
    exact zero_of ((entry2 m c _ _).trans (dif_pos hk))
  · have hk : ¬ (⟨48 + k.val, by omega⟩ : Fin 4160).val < 48 := by simp
    have hv : (⟨48 + k.val - 48, by omega⟩ : Fin 4112) = k := Fin.ext (by simp)
    exact mul_eq (((entry2 m c _ _).trans (dif_neg hk)).trans (by rw [hv])) (((entry5 m c _ _).trans (dif_neg hk)).trans (by rw [hv]))

end Cert.WplainKernelIdeal.Value
end
-- ==== Proof.WplainClaim.lean ====
module
public import proofs.«01_k».proof.Defs
public import proofs.«01_k».proof.Proof.Gen.WplainKernel
public import proofs.«01_k».proof.Proof.Gen.WplainKernelIdeal
public import proofs.«01_k».proof.Proof.Gen.WplainReferenceIdeal
public import proofs.«01_k».proof.Proof.Gen.WplainReferenceIdeal.Run
public import proofs.«01_k».proof.Proof.Gen.WplainReferenceIdeal.Read
public import proofs.«01_k».proof.Proof.WplainValue
@[expose] public section
/-! The five claims of the first feed-forward weight's gradient. -/
set_option maxRecDepth 16384
noncomputable section
open Idealize.ShloMosaic Idealize.ShloMosaic.TcCoe Idealize.SL.Sem
namespace Cert.Wplain

theorem frame : Cert.quiescent_WplainKernel := by
  intro m ρ _
  refine cast ?_ (Cert.WplainKernelIdeal.Gen.frame (F := Bits) m ρ)
  sl_kernel_rfl

theorem frameIdeal : Cert.quiescent_WplainKernelIdeal := fun m ρ _ => Cert.WplainKernelIdeal.Gen.frame m ρ

theorem frameRef : Cert.quiescent_WplainReferenceIdeal := by
  intro m g _
  exact (θ_run _ _ _).mono (fun r h => ⟨fun c => (h c).2,
    sem_eq_zero_of_no_sems (sig := Cert.WplainReferenceIdeal.sig) rfl r.2⟩) (Cert.WplainReferenceIdeal.Value.run m g)

theorem algebraic : Cert.algebraic_WplainKernelIdeal_WplainReferenceIdeal := by
  pair_intro
  · run_from Cert.WplainKernelIdeal.Gen.run_main m g
  · run_from Cert.WplainReferenceIdeal.Value.run m' g'

    exact (Cert.WplainKernelIdeal.Value.value4 m c).symm

end Cert.Wplain
end
-- ==== Proof.SlotsClaim.lean ====
module
public import proofs.«01_k».proof.Defs
public import proofs.«01_k».proof.Proof.Gen.SlotsKernel
public import proofs.«01_k».proof.Proof.Gen.SlotsKernelIdeal
public import proofs.«01_k».proof.Proof.Gen.SlotsReferenceIdeal
public import proofs.«01_k».proof.Proof.Gen.SlotsReferenceIdeal.Run
public import proofs.«01_k».proof.Proof.Gen.SlotsReferenceIdeal.Read
public import proofs.«01_k».proof.Proof.Gen.SlotsKernelIdeal.Value
public import Idealize.ShloMosaic.Lib.Pipeline.ValueKit
@[expose] public section
/-! The five claims of the sum of the packed small gradients over four slots. -/
set_option maxRecDepth 16384
noncomputable section
open Idealize.ShloMosaic Idealize.ShloMosaic.TcCoe Idealize.SL.Sem
namespace Cert.Slots

theorem frame : Cert.quiescent_SlotsKernel := by
  intro m ρ _
  refine cast ?_ (Cert.SlotsKernelIdeal.Gen.frame (F := Bits) m ρ)
  sl_kernel_rfl

theorem frameIdeal : Cert.quiescent_SlotsKernelIdeal := fun m ρ _ => Cert.SlotsKernelIdeal.Gen.frame m ρ

theorem frameRef : Cert.quiescent_SlotsReferenceIdeal := by
  intro m g _
  exact (θ_run _ _ _).mono (fun r h => ⟨fun c => (h c).2,
    sem_eq_zero_of_no_sems (sig := Cert.SlotsReferenceIdeal.sig) rfl r.2⟩) (Cert.SlotsReferenceIdeal.Value.run m g)

open Cert.SlotsKernelIdeal Cert.SlotsKernelIdeal.Gen Cert.SlotsKernelIdeal.Value in
/-- The sum over the slots is the kernel's additions in order. -/
theorem value (x : FVec Ideal S4x112x1024 .f32) :
    Cert.SlotsReferenceIdeal.Read.val_main_v0 (F := Ideal) x = G1 (F := Ideal) x := by
  funext i
  idx_vars i
  rw [Cert.SlotsReferenceIdeal.Read.val_main_v0_apply]
  pointwise [Cert.SlotsReferenceIdeal.Read.val_main_cst, G1, k0_pay1, Fin.sum_univ_four]
  have e : ∀ k, Cert.SlotsReferenceIdeal.Read.idx_main_v0 (ix2 i0 i1) k = ix3 k i0 i1 := fun k => by
    funext a; fin_cases a <;> rfl
  rw [e, e, e, e]

theorem algebraic : Cert.algebraic_SlotsKernelIdeal_SlotsReferenceIdeal := by
  intro m ρ m' ρ' _ hagree
  refine ⟨_, Cert.SlotsKernelIdeal.Value.run (F := Ideal) m ρ, ?_⟩
  refine (θ_run Cert.SlotsReferenceIdeal.defs _ _).mono (fun _ h c => ⟨?_, (h c).2⟩) (Cert.SlotsReferenceIdeal.Value.run (F := Ideal) m' ρ')
  rw [(h c).1]
  simp only [hagree c]
  exact value _

end Cert.Slots
end
-- ==== Proof.TwoClaim.lean ====
module
public import proofs.«01_k».proof.Defs
public import proofs.«01_k».proof.Proof.Gen.TwoKernel
public import proofs.«01_k».proof.Proof.Gen.TwoKernelIdeal
public import proofs.«01_k».proof.Proof.Gen.TwoReferenceIdeal
public import proofs.«01_k».proof.Proof.Gen.TwoReferenceIdeal.Run
public import proofs.«01_k».proof.Proof.Gen.TwoReferenceIdeal.Read
public import proofs.«01_k».proof.Proof.Gen.TwoKernelIdeal.Value
public import Idealize.ShloMosaic.Lib.Pipeline.ValueKit
@[expose] public section
/-! The five claims of the sum of the two packed small gradients. -/
set_option maxRecDepth 16384
noncomputable section
open Idealize.ShloMosaic Idealize.ShloMosaic.TcCoe Idealize.SL.Sem
namespace Cert.Two

theorem frame : Cert.quiescent_TwoKernel := by
  intro m ρ _
  refine cast ?_ (Cert.TwoKernelIdeal.Gen.frame (F := Bits) m ρ)
  sl_kernel_rfl

theorem frameIdeal : Cert.quiescent_TwoKernelIdeal := fun m ρ _ => Cert.TwoKernelIdeal.Gen.frame m ρ

theorem frameRef : Cert.quiescent_TwoReferenceIdeal := by
  intro m g _
  exact (θ_run _ _ _).mono (fun r h => ⟨fun c => (h c).2,
    sem_eq_zero_of_no_sems (sig := Cert.TwoReferenceIdeal.sig) rfl r.2⟩) (Cert.TwoReferenceIdeal.Value.run m g)

theorem algebraic : Cert.algebraic_TwoKernelIdeal_TwoReferenceIdeal := by
  intro m ρ m' ρ' _ hagree
  refine ⟨_, Cert.TwoKernelIdeal.Value.run (F := Ideal) m ρ, ?_⟩
  refine (θ_run Cert.TwoReferenceIdeal.defs _ _).mono (fun _ h c => ⟨?_, (h c).2⟩) (Cert.TwoReferenceIdeal.Value.run (F := Ideal) m' ρ')
  rw [(h c).1]
  simp only [hagree c]
  rfl

end Cert.Two
end
-- ==== Proof.SmallClaim.lean ====
module
public import proofs.«01_k».proof.Defs
public import proofs.«01_k».proof.Proof.Gen.SmallKernel
public import proofs.«01_k».proof.Proof.Gen.SmallKernelIdeal
public import proofs.«01_k».proof.Proof.Gen.SmallReferenceIdeal
public import proofs.«01_k».proof.Proof.Gen.SmallReferenceIdeal.Run
public import proofs.«01_k».proof.Proof.Gen.SmallReferenceIdeal.Read
public import proofs.«01_k».proof.Proof.Gen.SmallKernelIdeal.Value
public import Idealize.ShloMosaic.Lib.Pipeline.ValueKit
@[expose] public section
/-! The five claims of the optimiser's step of four small weights. -/
set_option maxRecDepth 16384
noncomputable section
open Idealize.ShloMosaic Idealize.ShloMosaic.TcCoe Idealize.SL.Sem
namespace Cert.Small

theorem frame : Cert.quiescent_SmallKernel := by
  intro m ρ _
  refine cast ?_ (Cert.SmallKernelIdeal.Gen.frame (F := Bits) m ρ)
  sl_kernel_rfl

theorem frameIdeal : Cert.quiescent_SmallKernelIdeal := fun m ρ _ => Cert.SmallKernelIdeal.Gen.frame m ρ

theorem frameRef : Cert.quiescent_SmallReferenceIdeal := by
  intro m g _
  exact (θ_run _ _ _).mono (fun r h => ⟨fun c => (h c).2.2.2.2.2.2.2.2.2.2.2.2,
    sem_eq_zero_of_no_sems (sig := Cert.SmallReferenceIdeal.sig) rfl r.2⟩) (Cert.SmallReferenceIdeal.Value.run m g)

/-- The host's division and square root are the kernel's over the reals, so every result is the same tree of operations. -/
theorem algebraic : Cert.algebraic_SmallKernelIdeal_SmallReferenceIdeal := by
  pair_intro
  · run_from Cert.SmallKernelIdeal.Value.run (F := Ideal) m g
  · run_from Cert.SmallReferenceIdeal.Value.run (F := Ideal) m' g'
    all_goals
      rfl

end Cert.Small
end
-- ==== Proof.OwnValue.lean ====
module
public import proofs.«01_k».proof.Proof.Gen.OwnKernelIdeal
public import proofs.«01_k».proof.Proof.Gen.OwnKernelIdeal.Frame
public import proofs.«01_k».proof.Proof.Gen.OwnReferenceIdeal.Read
public import Idealize.ShloMosaic.Lib.Pipeline.ValueKit
@[expose] public section
/-! The own part and the seven slots: the prefetched device index is zero, so every window's block is a fixed block. -/
set_option maxRecDepth 16384
noncomputable section
open Idealize.ShloMosaic Idealize.ShloMosaic.TcCoe Idealize.SL.Sem
namespace Cert.OwnKernelIdeal.Value
open Cert.OwnKernelIdeal Cert.OwnKernelIdeal.Gen

variable {F : FTy → Type} [FloatOps F]
variable (m : (ℓ : Loc nD τ sig) → Buf (Elt F) ℓ)

/-- The table of device index zero. -/
abbrev zeros : pre0.Contents (Elt F) := fun j => match j with | 0 => (fun _ => (0#32 : BitVec 32))

theorem tbl_eq : tbl m = zeros := by
  funext j
  obtain rfl : j = 0 := Subsingleton.elim _ _
  rfl

theorem ok_zeros : ok0 (zeros (F := F)) := (by decide +kernel : ok0 (zeros (F := Bits)))

theorem ok : Ok m := by
  show ok0 (tbl m)
  rw [tbl_eq]
  exact ok_zeros

end Cert.OwnKernelIdeal.Value

namespace Cert.OwnKernelIdeal.Value
open Cert.OwnKernelIdeal Cert.OwnKernelIdeal.Gen
open Idealize.ShloMosaic.Pipeline (Dat)
variable (m : (ℓ : Loc nD τ sig) → Buf (Elt Ideal) ℓ)

/-- The windows' blocks at device index zero: the own part's first block, the seven other slots, the result's rows. -/
abbrev At (a : (pcfg0 (F := Ideal)).Adm) (t : Fin grid0.N) : Prop :=
  (win0 a 0).index t = ![0, 0, t.val, 0] ∧ (win0 a 1).index t = ![1, t.val, 0] ∧ (win0 a 2).index t = ![2, t.val, 0]
  ∧ (win0 a 3).index t = ![3, t.val, 0] ∧ (win0 a 4).index t = ![4, t.val, 0] ∧ (win0 a 5).index t = ![5, t.val, 0]
  ∧ (win0 a 6).index t = ![6, t.val, 0] ∧ (win0 a 7).index t = ![7, t.val, 0] ∧ (win0 a 8).index t = ![t.val, 0]

theorem idx_of (pf : pre0.Contents (Elt Ideal)) (h : ok0 pf) (e : pf = zeros) : ∀ t, At ⟨pf, h⟩ t := by
  subst e
  exact (by decide +kernel : ∀ t, At ⟨zeros, ok_zeros⟩ t)

theorem covers_of (pf : pre0.Contents (Elt Ideal)) (h : ok0 pf) (e : pf = zeros) : (win0 (F := Ideal) ⟨pf, h⟩ 8).Covers := by
  subst e
  exact (by decide +kernel : (win0 (F := Ideal) ⟨zeros, ok_zeros⟩ 8).Covers)

theorem idx (t : Fin grid0.N) : At (adm m (ok m)) t := idx_of _ _ (tbl_eq m) t

/-- The own part's row plus the seven slots' in order. -/
def total (A : FVec Ideal S4x2x512x1024 .bf16) (B : FVec Ideal S8x512x1024 .bf16) (i : Fin 512) (k : Fin 1024) : EReal :=
  A (ix4 0 0 i k) + B (ix3 1 i k) + B (ix3 2 i k) + B (ix3 3 i k) + B (ix3 4 i k) + B (ix3 5 i k) + B (ix3 6 i k) + B (ix3 7 i k)

theorem blk0 (c : Dev nD) (t : Fin grid0.N) (y : S1x1x256x1024.Idx) (i : Fin 512) (k : Fin 1024) (hi : i.val = t.val * 256 + (y 2).val)
    (hk : k.val = (y 3).val) : iblk m (ok m) c 0 t y = V m c main_arg0 (ix4 0 0 i k) := by
  unfold iblk
  refine congrArg (V m c main_arg0) (funext fun a => Fin.ext ?_)
  refine (Pipeline.Window.rect_emb_val ((cfgM m (ok m)).win 0) t y a rfl).trans ?_
  rw [show ((cfgM m (ok m)).win 0).index t = ![0, 0, t.val, 0] from (idx m t).1]
  have h0 : (y 0).val < 1 := (y 0).isLt
  have h1 : (y 1).val < 1 := (y 1).isLt
  fin_cases a
  · show 0 * 1 + (y 0).val = 0; omega
  · show 0 * 1 + (y 1).val = 0; omega
  · show t.val * 256 + (y 2).val = i.val; omega
  · show 0 * 1024 + (y 3).val = k.val; omega

theorem out_eq (c : Dev nD) (i : grid0.Coords) (arg2 : Memref sig .tc .vmem S1x1x256x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x256x1024 .bf16) (harg8 : arg8.IsWhole) (arg9 : Memref sig .tc .vmem S1x256x1024 .bf16) (harg9 : arg9.IsWhole) (arg10 : Memref sig .tc .vmem S256x1024 .f32) (harg10 : arg10.IsWhole)
    (x0 : Vec Ideal S1x1x256x1024 .bf16) (x1 : Vec Ideal S1x256x1024 .bf16) (x2 : Vec Ideal S1x256x1024 .bf16) (x3 : Vec Ideal S1x256x1024 .bf16) (x4 : Vec Ideal S1x256x1024 .bf16) (x5 : Vec Ideal S1x256x1024 .bf16) (x6 : Vec Ideal S1x256x1024 .bf16) (x7 : Vec Ideal S1x256x1024 .bf16) (xt0 : TbBuf0 (F := Ideal) c tbM0_0) :
    out0_A_8 (F := Ideal) c i arg2 harg2 arg3 harg3 arg4 harg4 arg5 harg5 arg6 harg6 arg7 harg7 arg8 harg8 arg9 harg9 arg10 harg10 x0 x1 x2 x3 x4 x5 x6 x7 xt0 = k0_pay1 x0 x1 x2 x3 x4 x5 x6 x7 := by
  unfold out0_A_8
  frame_out

theorem pay_at (x0 : Vec Ideal S1x1x256x1024 .bf16) (x1 x2 x3 x4 x5 x6 x7 : Vec Ideal S1x256x1024 .bf16) (i : Fin 256) (k : Fin 1024) :
    k0_pay1 x0 x1 x2 x3 x4 x5 x6 x7 (ix2 i k) = (x0 (ix4 0 0 i k) + x1 (ix3 0 i k) + x2 (ix3 0 i k) + x3 (ix3 0 i k) + x4 (ix3 0 i k)
      + x5 (ix3 0 i k) + x6 (ix3 0 i k) + x7 (ix3 0 i k) : EReal) := by
  pointwise [k0_pay1]

/-- The place of a slot's block in the slots. -/
theorem slot_eq (s : Fin 8) (t : Nat) (v : Fin 3 → Nat) (hv : v = ![s.val, t, 0]) (p : Fin 256) (k : Fin 1024) (i : Fin 512)
    (hi : i.val = t * 256 + p.val) (x : S8x512x1024.Idx) (hx : ∀ a, (x a).val = v a * S1x256x1024.size a + ((ix3 0 p k : S1x256x1024.Idx) a).val) :
    x = ix3 s i k := by
  subst hv
  refine funext fun a => Fin.ext ((hx a).trans ?_)
  fin_cases a
  · show s.val * 1 + 0 = s.val; omega
  · show t * 256 + p.val = i.val; omega
  · show 0 * 1024 + k.val = k.val; omega

theorem add_eq {a b a' b' : EReal} (h : a = a') (h' : b = b') : a + b = a' + b' := by rw [h, h']

theorem point8 (c : Dev nD) (t : Fin grid0.N) (p : Fin 256) (i : Fin 512) (k : Fin 1024) (hi : i.val = t.val * 256 + p.val) :
    outsAt0 m (ok m) c t (ix2 p k) = total (V m c main_arg0) (V m c main_arg1) i k := by
  obtain ⟨_, h1, h2, h3, h4, h5, h6, h7, _⟩ := idx m t
  unfold outsAt0
  refine (congrFun (out_eq ..) _).trans ?_
  refine (pay_at _ _ _ _ _ _ _ _ p k).trans ?_
  have slot (s : Fin 8) (v) (hv) (x) (hx) := congrArg (V m c main_arg1) (slot_eq s t.val v hv p k i hi x hx)
  exact add_eq (add_eq (add_eq (add_eq (add_eq (add_eq (add_eq (blk0 m c t _ i k hi rfl)
    (slot 1 _ h1 _ fun a => Pipeline.Window.rect_emb_val ((cfgM m (ok m)).win 1) t (ix3 0 p k : S1x256x1024.Idx) a rfl))
    (slot 2 _ h2 _ fun a => Pipeline.Window.rect_emb_val ((cfgM m (ok m)).win 2) t (ix3 0 p k : S1x256x1024.Idx) a rfl))
    (slot 3 _ h3 _ fun a => Pipeline.Window.rect_emb_val ((cfgM m (ok m)).win 3) t (ix3 0 p k : S1x256x1024.Idx) a rfl))
    (slot 4 _ h4 _ fun a => Pipeline.Window.rect_emb_val ((cfgM m (ok m)).win 4) t (ix3 0 p k : S1x256x1024.Idx) a rfl))
    (slot 5 _ h5 _ fun a => Pipeline.Window.rect_emb_val ((cfgM m (ok m)).win 5) t (ix3 0 p k : S1x256x1024.Idx) a rfl))
    (slot 6 _ h6 _ fun a => Pipeline.Window.rect_emb_val ((cfgM m (ok m)).win 6) t (ix3 0 p k : S1x256x1024.Idx) a rfl))
    (slot 7 _ h7 _ fun a => Pipeline.Window.rect_emb_val ((cfgM m (ok m)).win 7) t (ix3 0 p k : S1x256x1024.Idx) a rfl)

/-- A row's place in the result, at a whole block's index. -/
theorem flush8 (c : Dev nD) (t : Fin grid0.N) (y : S256x1024.Idx) (x : S512x1024.Idx) (h0 : (x 0).val = t.val * 256 + (y 0).val)
    (h1 : (x 1).val = (y 1).val) : outsAt0 m (ok m) c t y = total (V m c main_arg0) (V m c main_arg1) (x 0) (x 1) := by
  have e : y = ix2 (y 0) (y 1) := by funext a; fin_cases a <;> rfl
  have e1 : x 1 = y 1 := Fin.ext h1
  rw [e, e1]
  exact point8 m c t (y 0) (x 0) (y 1) h0

theorem final8 (c : Dev nD) : (dats m (ok m) 0 c).arrAt 8 (cfgM m (ok m)).N
    = (fun j => total (V m c main_arg0) (V m c main_arg1) (j 0) (j 1) : S512x1024.Idx → EReal) := by
  have h8 : ∀ t : Fin grid0.N, ((cfgM m (ok m)).win 8).index t = ![t.val, 0] := fun t => (idx m t).2.2.2.2.2.2.2.2
  refine (dats m (ok m) 0 c).arrAt_eq_of_covers 8 _ (covers_of _ _ (tbl_eq m)) fun t hf y => ?_
  refine (congrFun (after0_8 m (ok m) c t) _).trans ?_
  refine flush8 m c t _ _ ?_ ?_
  · refine (Pipeline.Window.rect_emb_val ((cfgM m (ok m)).win 8) t y (0 : Fin 2) rfl).trans ?_
    rw [h8]
    rfl
  · refine (Pipeline.Window.rect_emb_val ((cfgM m (ok m)).win 8) t y (1 : Fin 2) rfl).trans ?_
    rw [h8]
    exact (congrArg (· + _) (Nat.zero_mul 1024)).trans (Nat.zero_add _)

open Cert.OwnReferenceIdeal.Read in
theorem ref6 (x0 : FVec Ideal S4x2x512x1024 .bf16) (x1 : FVec Ideal S8x512x1024 .bf16) (i : Fin 512) (k : Fin 1024) :
    val_main_v6 (F := Ideal) x0 x1 (ix2 i k) = (x0 (ix4 0 0 i k) + ∑ s : Fin 7, x1 (ix3 ⟨1 + s.val, by omega⟩ i k) : EReal) := by
  pointwise [val_main_v6, val_main_v5, val_main_v4, val_main_v3, val_main_v2, val_main_v1, val_main_v0, val_main_cst]

theorem value8 (c : Dev nD) : (dats m (ok m) 0 c).arrAt 8 (cfgM m (ok m)).N = Cert.OwnReferenceIdeal.Read.val_main_v6 (F := Ideal)
    (m ((c : Thread nD τ).loc main_arg0)) (m ((c : Thread nD τ).loc main_arg1)) := by
  rw [final8, V_main_arg0, V_main_arg1]
  funext i
  idx_vars i
  refine Eq.trans ?_ (ref6 _ _ i0 i1).symm
  rw [Fin.sum_univ_seven]
  show total _ _ i0 i1 = _
  unfold total
  simp only [add_assoc]
  rfl

/-- The run with the result named and the arguments as they were. -/
theorem run (ρ : Dev nD → PrngReg) : θ_run defs (onTc (τ := τ) (main (F := Ideal))) ⟨m, fun _ => 0, ρ⟩ (fun r => ∀ c : Dev nD,
      r.2.mem ((c.tc : Thread nD τ).loc main_v1) = Cert.OwnReferenceIdeal.Read.val_main_v6 (F := Ideal)
        (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 8).trans (value8 m c), h.2 c⟩)
    (θ_run_and (run_main m ρ (ok m)) (unchanged m ρ (ok m)))

end Cert.OwnKernelIdeal.Value
end
-- ==== Proof.OwnClaim.lean ====
module
public import proofs.«01_k».proof.Defs
public import proofs.«01_k».proof.Proof.Gen.OwnKernel
public import proofs.«01_k».proof.Proof.Gen.OwnKernelIdeal
public import proofs.«01_k».proof.Proof.Gen.OwnReferenceIdeal
public import proofs.«01_k».proof.Proof.Gen.OwnReferenceIdeal.Run
public import proofs.«01_k».proof.Proof.Gen.OwnReferenceIdeal.Read
public import proofs.«01_k».proof.Proof.OwnValue
@[expose] public section
/-! The five claims of the sum of a chip's own part and the other slots. -/
set_option maxRecDepth 16384
noncomputable section
open Idealize.ShloMosaic Idealize.ShloMosaic.TcCoe Idealize.SL.Sem
namespace Cert.Own

theorem frame : Cert.quiescent_OwnKernel := by
  intro m ρ _
  refine cast ?_ (Cert.OwnKernelIdeal.Gen.frame (F := Bits) m ρ (Cert.OwnKernelIdeal.Value.ok m))
  sl_kernel_rfl

theorem frameIdeal : Cert.quiescent_OwnKernelIdeal := fun m ρ _ => Cert.OwnKernelIdeal.Gen.frame m ρ (Cert.OwnKernelIdeal.Value.ok m)

theorem frameRef : Cert.quiescent_OwnReferenceIdeal := by
  intro m g _
  exact (θ_run _ _ _).mono (fun r h => ⟨fun c => (h c).2,
    sem_eq_zero_of_no_sems (sig := Cert.OwnReferenceIdeal.sig) rfl r.2⟩) (Cert.OwnReferenceIdeal.Value.run m g)

theorem algebraic : Cert.algebraic_OwnKernelIdeal_OwnReferenceIdeal := by
  intro m ρ m' ρ' _ hagree
  refine ⟨_, Cert.OwnKernelIdeal.Value.run m ρ, ?_⟩
  refine (θ_run Cert.OwnReferenceIdeal.defs _ _).mono (fun _ h c => ⟨?_, (h c).2⟩) (Cert.OwnReferenceIdeal.Value.run (F := Ideal) m' ρ')
  rw [(h c).1]
  simp only [hagree c]
  exact Cert.OwnReferenceIdeal.Read.val_main_v6_eq _ _

end Cert.Own
end
-- ==== Proof.StepValue.lean ====
module
public import proofs.«01_k».proof.Proof.Gen.StepKernelIdeal
public import proofs.«01_k».proof.Proof.Gen.StepKernelIdeal.Frame
public import proofs.«01_k».proof.Proof.Gen.StepReferenceIdeal.Read
public import Idealize.ShloMosaic.Lib.Pipeline.ValueKit
public import Idealize.ShloMosaic.Lib.Pipeline.ValueKit.Partial
@[expose] public section
/-! The optimiser's step of the second half: the prefetched half index is one, so every window's block is a fixed block. -/
set_option maxRecDepth 16384
noncomputable section
open Idealize.ShloMosaic Idealize.ShloMosaic.TcCoe Idealize.SL.Sem
namespace Cert.StepKernelIdeal.Value
open Cert.StepKernelIdeal Cert.StepKernelIdeal.Gen

variable {F : FTy → Type} [FloatOps F]
variable (m : (ℓ : Loc nD τ sig) → Buf (Elt F) ℓ)

/-- The table of half index one. -/
abbrev ones : pre0.Contents (Elt F) := fun j => match j with | 0 => (fun _ => (1#32 : BitVec 32))

theorem tbl_eq : tbl m = ones := by
  funext j
  obtain rfl : j = 0 := Subsingleton.elim _ _
  rfl

theorem ok_ones : ok0 (ones (F := F)) := (by decide +kernel : ok0 (ones (F := Bits)))

theorem ok : Ok m := by
  show ok0 (tbl m)
  rw [tbl_eq]
  exact ok_ones

end Cert.StepKernelIdeal.Value

namespace Cert.StepKernelIdeal.Value
open Cert.StepKernelIdeal Cert.StepKernelIdeal.Gen
open Idealize.ShloMosaic.Pipeline (Dat)
variable (m : (ℓ : Loc nD τ sig) → Buf (Elt Ideal) ℓ)

/-- The windows' blocks at half index one, at layer `l` and row tile `r`. -/
abbrev At (a : (pcfg0 (F := Ideal)).Adm) (t : Fin grid0.N) : Prop :=
  (win0 a 0).index t = ![t.val / 2, 1, t.val % 2, 0] ∧ (win0 a 1).index t = ![t.val / 2, 1, t.val % 2, 0]
  ∧ (win0 a 2).index t = ![t.val / 2, 1, t.val % 2, 0]
  ∧ (win0 a 3).index t = ![if t.val / 2 = 0 then t.val % 2 else 0, 0] ∧ (win0 a 4).index t = ![if t.val / 2 = 1 then t.val % 2 else 0, 0]
  ∧ (win0 a 5).index t = ![t.val / 2, 1, t.val % 2, 0] ∧ (win0 a 6).index t = ![t.val / 2, 1, t.val % 2, 0]
  ∧ (win0 a 7).index t = ![t.val / 2, 1, t.val % 2, 0] ∧ (win0 a 8).index t = ![t.val / 2, 1, t.val % 2, 0]
  ∧ ((grid0.coords t) 0).val = t.val / 2 ∧ t.val < 4

theorem idx_of (pf : pre0.Contents (Elt Ideal)) (h : ok0 pf) (e : pf = ones) : ∀ t, At ⟨pf, h⟩ t := by
  subst e
  exact (by decide +kernel : ∀ t, At ⟨ones, ok_ones⟩ t)

theorem idx (t : Fin grid0.N) : At (adm m (ok m)) t := idx_of _ _ (tbl_eq m) t

/-- The result windows write the second half and nothing else. -/
theorem covers_of (pf : pre0.Contents (Elt Ideal)) (h : ok0 pf) (e : pf = ones) :
    (win0 (F := Ideal) ⟨pf, h⟩ 5).CoversWhere (fun b => b (1 : Fin 4) = 1) ∧ (win0 (F := Ideal) ⟨pf, h⟩ 6).CoversWhere (fun b => b (1 : Fin 4) = 1)
    ∧ (win0 (F := Ideal) ⟨pf, h⟩ 7).CoversWhere (fun b => b (1 : Fin 4) = 1) ∧ (win0 (F := Ideal) ⟨pf, h⟩ 8).CoversWhere (fun b => b (1 : Fin 4) = 1) := by
  subst e
  exact ⟨(by decide +kernel : (win0 (F := Ideal) ⟨ones, ok_ones⟩ 5).CoversWhere (fun b => b (1 : Fin 4) = 1)),
    (by decide +kernel : (win0 (F := Ideal) ⟨ones, ok_ones⟩ 6).CoversWhere (fun b => b (1 : Fin 4) = 1)),
    (by decide +kernel : (win0 (F := Ideal) ⟨ones, ok_ones⟩ 7).CoversWhere (fun b => b (1 : Fin 4) = 1)),
    (by decide +kernel : (win0 (F := Ideal) ⟨ones, ok_ones⟩ 8).CoversWhere (fun b => b (1 : Fin 4) = 1))⟩

theorem pay4_at (i : grid0.Coords) (v0 v2 : Vec Ideal S256x1024 .f32) (p : Fin 256) (k : Fin 1024) :
    k0_pay4 i v0 v2 (ix2 p k) = if (i 0).val = 1 then v2 (ix2 p k) else v0 (ix2 p k) := by
  have e : ∀ a : Fin 2, (Scalar.cmpi .eq (BitVec.ofNat 32 a.val) 1#32 : BitVec 1) = if a.val = 1 then 1#1 else 0#1 := by decide
  show (Scalar.select (Scalar.cmpi .eq (BitVec.ofNat 32 (i 0).val) 1#32) v2 v0) (ix2 p k) = _
  rw [e (i 0)]
  by_cases h : (i 0).val = 1
  · rw [if_pos h, if_pos h]; rfl
  · rw [if_neg h, if_neg h]; rfl

/-- The gradient of a layer: the first layer's or the second's. -/
def grad (x1 x2 : FVec Ideal S512x1024 .f32) (l : Fin 2) (i : Fin 512) (k : Fin 1024) : EReal :=
  if _h : l.val < 1 then x1 (ix2 i k) else x2 (ix2 i k)
/-- The first moment. -/
def momM (a g : EReal) : EReal := Ideal.ofBits FTy.f32 1063675494#32 * a + Ideal.ofBits FTy.f32 1036831949#32 * g
/-- The second moment. -/
def momV (b g : EReal) : EReal := Ideal.ofBits FTy.f32 1065336439#32 * b + Ideal.ofBits FTy.f32 981668463#32 * (g * g)
/-- The weight's step. -/
def step (w a b g : EReal) : EReal := Ideal.ofBits FTy.f32 3129152111#32 *
  (Ideal.div (Ideal.div (momM a g) (Ideal.ofBits FTy.f32 1059503362#32))
    (Ideal.sqrt (Ideal.div (momV b g) (Ideal.ofBits FTy.f32 1008933580#32)) + Ideal.ofBits FTy.f32 841731191#32)
    + Ideal.ofBits FTy.f32 1008981770#32 * w)

theorem pay5_at (i : grid0.Coords) (v0 v2 : Vec Ideal S256x1024 .f32) (p : Fin 256) (k : Fin 1024) :
    k0_pay5 i v0 v2 (ix4 0 0 p k) = k0_pay4 i v0 v2 (ix2 p k) := by
  pointwise [k0_pay5]
theorem pay6_at (i : grid0.Coords) (v0 v2 : Vec Ideal S256x1024 .f32) (v7 : Vec Ideal S1x1x256x1024 .f32) (p : Fin 256) (k : Fin 1024) :
    k0_pay2 (k0_pay6 i v0 v2 v7) (ix4 0 0 p k) = momM (v7 (ix4 0 0 p k)) (k0_pay4 i v0 v2 (ix2 p k)) := by
  unfold momM
  pointwise [k0_pay6, k0_pay2]
theorem pay7_at (i : grid0.Coords) (v0 v2 : Vec Ideal S256x1024 .f32) (v14 : Vec Ideal S1x1x256x1024 .f32) (p : Fin 256) (k : Fin 1024) :
    k0_pay3 (k0_pay7 i v0 v2 v14) (ix4 0 0 p k) = momV (v14 (ix4 0 0 p k)) (k0_pay4 i v0 v2 (ix2 p k)) := by
  unfold momV
  pointwise [k0_pay7, k0_pay3]
theorem pay1_at (i : grid0.Coords) (v0 v2 : Vec Ideal S256x1024 .f32) (v7 v14 v30 : Vec Ideal S1x1x256x1024 .f32) (p : Fin 256) (k : Fin 1024) :
    k0_pay1 (k0_pay8 i v0 v2 v7 v14) v30 (ix4 0 0 p k)
      = step (v30 (ix4 0 0 p k)) (v7 (ix4 0 0 p k)) (v14 (ix4 0 0 p k)) (k0_pay4 i v0 v2 (ix2 p k)) := by
  unfold step momM momV
  pointwise [k0_pay8, k0_pay1, k0_pay6, k0_pay7]

section
variable (c : Dev nD) (i : grid0.Coords) (arg3 : Memref sig .tc .vmem S1x1x256x1024 .f32) (harg3 : arg3.IsWhole) (arg4 : Memref sig .tc .vmem S1x1x256x1024 .f32) (harg4 : arg4.IsWhole) (arg5 : Memref sig .tc .vmem S1x1x256x1024 .f32) (harg5 : arg5.IsWhole) (arg6 : Memref sig .tc .vmem S256x1024 .f32) (harg6 : arg6.IsWhole) (arg7 : Memref sig .tc .vmem S256x1024 .f32) (harg7 : arg7.IsWhole) (arg12 : Memref sig .tc .vmem S1x1x256x1024 .f32) (harg12 : arg12.IsWhole) (arg13 : Memref sig .tc .vmem S1x1x256x1024 .f32) (harg13 : arg13.IsWhole) (arg14 : Memref sig .tc .vmem S1x1x256x1024 .f32) (harg14 : arg14.IsWhole) (arg15 : Memref sig .tc .vmem S1x1x256x1024 .f32) (harg15 : arg15.IsWhole)
    (x0 : Vec Ideal S1x1x256x1024 .f32) (x1 : Vec Ideal S1x1x256x1024 .f32) (x2 : Vec Ideal S1x1x256x1024 .f32) (x3 : Vec Ideal S256x1024 .f32) (x4 : Vec Ideal S256x1024 .f32) (xt0 : TbBuf0 (F := Ideal) c tbM0_0)

theorem out5 : out0_A_5 (F := Ideal) c i arg3 harg3 arg4 harg4 arg5 harg5 arg6 harg6 arg7 harg7 arg12 harg12 arg13 harg13 arg14 harg14 arg15 harg15 x0 x1 x2 x3 x4 xt0 = k0_pay5 i x3 x4 := by unfold out0_A_5; frame_out
theorem out6 : out0_A_6 (F := Ideal) c i arg3 harg3 arg4 harg4 arg5 harg5 arg6 harg6 arg7 harg7 arg12 harg12 arg13 harg13 arg14 harg14 arg15 harg15 x0 x1 x2 x3 x4 xt0 = k0_pay1 (k0_pay8 i x3 x4 x1 x2) x0 := by unfold out0_A_6; frame_out
theorem out7 : out0_A_7 (F := Ideal) c i arg3 harg3 arg4 harg4 arg5 harg5 arg6 harg6 arg7 harg7 arg12 harg12 arg13 harg13 arg14 harg14 arg15 harg15 x0 x1 x2 x3 x4 xt0 = k0_pay2 (k0_pay6 i x3 x4 x1) := by unfold out0_A_7; frame_out
theorem out8 : out0_A_8 (F := Ideal) c i arg3 harg3 arg4 harg4 arg5 harg5 arg6 harg6 arg7 harg7 arg12 harg12 arg13 harg13 arg14 harg14 arg15 harg15 x0 x1 x2 x3 x4 xt0 = k0_pay3 (k0_pay7 i x3 x4 x2) := by unfold out0_A_8; frame_out
end

/-- A block's place in an array of halves. -/
theorem place (t : Nat) (y : S1x1x256x1024.Idx) (x : S2x2x512x1024.Idx) (v : Fin 4 → Nat) (hv : v = ![t / 2, 1, t % 2, 0])
    (hx : ∀ a, (x a).val = v a * S1x1x256x1024.size a + (y a).val) :
    y = ix4 0 0 (y 2) (y 3) ∧ x = ix4 (x 0) 1 (x 2) (y 3) ∧ (x 0).val = t / 2 ∧ (x 2).val = t % 2 * 256 + (y 2).val := by
  subst hv
  have h0 : (y 0).val < 1 := (y 0).isLt
  have h1 : (y 1).val < 1 := (y 1).isLt
  have e0 : (x 0).val = t / 2 * 1 + (y 0).val := hx 0
  have e1 : (x 1).val = 1 * 1 + (y 1).val := hx 1
  have e2 : (x 2).val = t % 2 * 256 + (y 2).val := hx 2
  have e3 : (x 3).val = 0 * 1024 + (y 3).val := hx 3
  refine ⟨funext fun a => Fin.ext ?_, funext fun a => Fin.ext ?_, by omega, e2⟩
  · fin_cases a
    · show (y 0).val = 0; omega
    · show (y 1).val = 0; omega
    · rfl
    · rfl
  · fin_cases a
    · rfl
    · show (x 1).val = 1; omega
    · rfl
    · show (x 3).val = (y 3).val; omega

/-- The place of a row in an array of halves, from the block's. -/
theorem place_eq (t : Nat) (p : Fin 256) (k : Fin 1024) (l : Fin 2) (i : Fin 512) (hl : l.val = t / 2) (hi : i.val = t % 2 * 256 + p.val)
    (x : S2x2x512x1024.Idx) (v : Fin 4 → Nat) (hv : v = ![t / 2, 1, t % 2, 0])
    (hx : ∀ a, (x a).val = v a * S1x1x256x1024.size a + ((ix4 0 0 p k : S1x1x256x1024.Idx) a).val) : x = ix4 l 1 i k := by
  obtain ⟨_, e, h0, h2⟩ := place t _ x v hv hx
  rw [e, show x 0 = l from Fin.ext (h0.trans hl.symm), show x 2 = i from Fin.ext (h2.trans hi.symm)]
  rfl

theorem row_eq (r : Nat) (v : Fin 2 → Nat) (hv : v = ![r, 0]) (p : Fin 256) (k : Fin 1024) (i : Fin 512) (hi : i.val = r * 256 + p.val)
    (x : S512x1024.Idx) (hx : ∀ a, (x a).val = v a * S256x1024.size a + ((ix2 p k : S256x1024.Idx) a).val) : x = ix2 i k := by
  subst hv
  refine funext fun a => Fin.ext ((hx a).trans ?_)
  fin_cases a
  · show r * 256 + p.val = i.val; omega
  · show 0 * 1024 + k.val = k.val; omega

theorem step_eq {w w' a a' b b' g g' : EReal} (hw : w = w') (ha : a = a') (hb : b = b') (hg : g = g') : step w a b g = step w' a' b' g' := by
  rw [hw, ha, hb, hg]

section
variable (c : Dev nD) (t : Fin grid0.N) (p : Fin 256) (l : Fin 2) (i : Fin 512) (k : Fin 1024) (hl : l.val = t.val / 2)
  (hi : i.val = t.val % 2 * 256 + p.val)
include hl hi

theorem blk0 : iblk m (ok m) c 0 t (ix4 0 0 p k : S1x1x256x1024.Idx) = V m c main_v0 (ix4 l 1 i k) :=
  congrArg (V m c main_v0) (place_eq t.val p k l i hl hi _ _ (idx m t).1
    fun a => Pipeline.Window.rect_emb_val ((cfgM m (ok m)).win 0) t (ix4 0 0 p k : S1x1x256x1024.Idx) a rfl)
theorem blk1 : iblk m (ok m) c 1 t (ix4 0 0 p k : S1x1x256x1024.Idx) = V m c main_v1 (ix4 l 1 i k) :=
  congrArg (V m c main_v1) (place_eq t.val p k l i hl hi _ _ (idx m t).2.1
    fun a => Pipeline.Window.rect_emb_val ((cfgM m (ok m)).win 1) t (ix4 0 0 p k : S1x1x256x1024.Idx) a rfl)
theorem blk2 : iblk m (ok m) c 2 t (ix4 0 0 p k : S1x1x256x1024.Idx) = V m c main_v2 (ix4 l 1 i k) :=
  congrArg (V m c main_v2) (place_eq t.val p k l i hl hi _ _ (idx m t).2.2.1
    fun a => Pipeline.Window.rect_emb_val ((cfgM m (ok m)).win 2) t (ix4 0 0 p k : S1x1x256x1024.Idx) a rfl)

theorem blkG : (k0_pay4 (F := Ideal) (grid0.coords t) (iblk m (ok m) c 3 t) (iblk m (ok m) c 4 t) (ix2 p k) : EReal)
    = grad (V m c main_arg1) (V m c main_arg2) l i k := by
  obtain ⟨_, _, _, h3, h4, _, _, _, _, hc, ht⟩ := idx m t
  refine (pay4_at _ _ _ p k).trans ?_
  rw [hc]
  unfold grad
  by_cases h : l.val < 1
  · have e : t.val / 2 = 0 := by omega
    rw [dif_pos h]
    rw [if_pos e] at h3
    refine (if_neg (by omega : ¬ t.val / 2 = 1)).trans ?_
    exact congrArg (V m c main_arg1) (row_eq _ _ h3 p k i hi _
      fun a => Pipeline.Window.rect_emb_val ((cfgM m (ok m)).win 3) t (ix2 p k : S256x1024.Idx) a rfl)
  · have e : t.val / 2 = 1 := by omega
    rw [dif_neg h]
    rw [if_pos e] at h4
    refine (if_pos e).trans ?_
    exact congrArg (V m c main_arg2) (row_eq _ _ h4 p k i hi _
      fun a => Pipeline.Window.rect_emb_val ((cfgM m (ok m)).win 4) t (ix2 p k : S256x1024.Idx) a rfl)

theorem point5 : (outsAt0 m (ok m) c t).1 (ix4 0 0 p k) = grad (V m c main_arg1) (V m c main_arg2) l i k := by
  unfold outsAt0
  dsimp only
  exact (congrFun (out5 ..) _).trans ((pay5_at _ _ _ p k).trans (blkG m c t p l i k hl hi))

theorem point6 : (outsAt0 m (ok m) c t).2.1 (ix4 0 0 p k) = step (V m c main_v0 (ix4 l 1 i k)) (V m c main_v1 (ix4 l 1 i k))
    (V m c main_v2 (ix4 l 1 i k)) (grad (V m c main_arg1) (V m c main_arg2) l i k) := by
  unfold outsAt0
  dsimp only
  refine (congrFun (out6 ..) _).trans ?_
  refine (pay1_at _ _ _ _ _ _ p k).trans ?_
  exact step_eq (blk0 m c t p l i k hl hi) (blk1 m c t p l i k hl hi) (blk2 m c t p l i k hl hi) (blkG m c t p l i k hl hi)

theorem point7 : (outsAt0 m (ok m) c t).2.2.1 (ix4 0 0 p k) = momM (V m c main_v1 (ix4 l 1 i k)) (grad (V m c main_arg1) (V m c main_arg2) l i k) := by
  unfold outsAt0
  dsimp only
  refine (congrFun (out7 ..) _).trans ?_
  exact (pay6_at _ _ _ _ p k).trans (congrArg₂ momM (blk1 m c t p l i k hl hi) (blkG m c t p l i k hl hi))

theorem point8 : (outsAt0 m (ok m) c t).2.2.2 (ix4 0 0 p k) = momV (V m c main_v2 (ix4 l 1 i k)) (grad (V m c main_arg1) (V m c main_arg2) l i k) := by
  unfold outsAt0
  dsimp only
  refine (congrFun (out8 ..) _).trans ?_
  exact (pay7_at _ _ _ _ p k).trans (congrArg₂ momV (blk2 m c t p l i k hl hi) (blkG m c t p l i k hl hi))
end

section
open Cert.StepReferenceIdeal.Read
variable (x0 : FVec Ideal S2x1024x1024 .f32) (x1 x2 : FVec Ideal S512x1024 .f32) (x3 x4 : FVec Ideal S2x1024x1024 .f32)
  (q : FVec Ideal S2x2x512x1024 .f32) (l h : Fin 2) (i : Fin 512) (k : Fin 1024)

theorem ref34 : val_main_v34 (F := Ideal) x1 x2 q (ix4 l h i k) = if _h : h.val < 1 then q (ix4 l 0 i k) else grad x1 x2 l i k := by
  unfold grad
  pointwise [val_main_v34, val_main_v33, val_main_v32, val_main_v31, val_main_v30, val_main_v2, val_main_v1, val_main_v0]
theorem ref39 : val_main_v39 (F := Ideal) x0 x1 x2 x3 x4 q (ix4 l h i k) = if _h : h.val < 1 then q (ix4 l 0 i k) else
    step (x0 (ix3 l ⟨512 + i.val, by omega⟩ k)) (x3 (ix3 l ⟨512 + i.val, by omega⟩ k)) (x4 (ix3 l ⟨512 + i.val, by omega⟩ k)) (grad x1 x2 l i k) := by
  unfold step momM momV grad
  pointwise [val_main_v39, val_main_v37, val_main_v36, val_main_v35, val_main_v38, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
theorem ref44 : val_main_v44 (F := Ideal) x1 x2 x3 q (ix4 l h i k) = if _h : h.val < 1 then q (ix4 l 0 i k) else
    momM (x3 (ix3 l ⟨512 + i.val, by omega⟩ k)) (grad x1 x2 l i k) := by
  unfold momM grad
  pointwise [val_main_v44, val_main_v43, val_main_v42, val_main_v41, val_main_v40, val_main_v10, val_main_v9, val_main_v8, val_main_v7, val_main_v6, val_main_v4, val_main_v2, val_main_v1, val_main_v0, val_main_cst, val_main_cst_0]
theorem ref49 : val_main_v49 (F := Ideal) x1 x2 x4 q (ix4 l h i k) = if _h : h.val < 1 then q (ix4 l 0 i k) else
    momV (x4 (ix3 l ⟨512 + i.val, by omega⟩ k)) (grad x1 x2 l i k) := by
  unfold momV grad
  pointwise [val_main_v49, val_main_v48, val_main_v47, val_main_v46, val_main_v45, val_main_v16, val_main_v15, val_main_v14, val_main_v13, val_main_v12, val_main_v11, val_main_v5, val_main_v2, val_main_v1, val_main_v0, val_main_cst_1, val_main_cst_2]
end

theorem entry0 (c : Dev nD) (l : Fin 2) (i : Fin 512) (k : Fin 1024) :
    V m c main_v0 (ix4 l 1 i k) = m ((c : Thread nD τ).loc main_arg0) (ix3 l ⟨512 + i.val, by omega⟩ k) := by
  entry_read
  pointwise
theorem entry1 (c : Dev nD) (l : Fin 2) (i : Fin 512) (k : Fin 1024) :
    V m c main_v1 (ix4 l 1 i k) = m ((c : Thread nD τ).loc main_arg3) (ix3 l ⟨512 + i.val, by omega⟩ k) := by
  entry_read
  pointwise
theorem entry2 (c : Dev nD) (l : Fin 2) (i : Fin 512) (k : Fin 1024) :
    V m c main_v2 (ix4 l 1 i k) = m ((c : Thread nD τ).loc main_arg4) (ix3 l ⟨512 + i.val, by omega⟩ k) := by
  entry_read
  pointwise
theorem entry5 (c : Dev nD) : V m c main_v4_0 = m ((c : Thread nD τ).loc main_arg5) := by
  entry_read
  rfl
theorem entry6 (c : Dev nD) : V m c main_v4_1 = m ((c : Thread nD τ).loc main_arg6) := by
  entry_read
  rfl
theorem entry7 (c : Dev nD) : V m c main_v4_2 = m ((c : Thread nD τ).loc main_arg7) := by
  entry_read
  rfl
theorem entry8 (c : Dev nD) : V m c main_v4_3 = m ((c : Thread nD τ).loc main_arg8) := by
  entry_read
  rfl

/-- Outside the written half an index lies in the first half. -/
theorem first (j : S2x2x512x1024.Idx) (hj : ¬ (j 1).val / 1 = 1) : j = ix4 (j 0) 0 (j 2) (j 3) := by
  have h1 : (j 1).val < 2 := (j 1).isLt
  refine funext fun a => ?_
  fin_cases a
  · rfl
  · exact Fin.ext (by show (j 1).val = 0; omega)
  · rfl
  · rfl

/-- A block's values are the array's where they are so row by row. -/
theorem second (f : S1x1x256x1024.Idx → EReal) (G : S2x2x512x1024.Idx → EReal) (t : Nat)
    (hf : ∀ p l i k, l.val = t / 2 → i.val = t % 2 * 256 + p.val → f (ix4 0 0 p k) = G (ix4 l 1 i k)) (y : S1x1x256x1024.Idx)
    (x : S2x2x512x1024.Idx) (v : Fin 4 → Nat) (hv : v = ![t / 2, 1, t % 2, 0]) (hx : ∀ a, (x a).val = v a * S1x1x256x1024.size a + (y a).val) :
    f y = G x := by
  obtain ⟨ey, ex, hl, hi⟩ := place t y x v hv hx
  exact (congrArg f ey).trans ((hf _ _ _ _ hl hi).trans (congrArg G ex).symm)

/-- The first half stays as it was. -/
theorem kept (A q G : S2x2x512x1024.Idx → EReal) (hA : A = q) (hG : ∀ l i k, G (ix4 l 0 i k) = q (ix4 l 0 i k)) (j : S2x2x512x1024.Idx)
    (hj : ¬ (j 1).val / 1 = 1) : A j = G j := by
  have e := first j hj
  subst hA
  exact (congrArg A e).trans ((hG (j 0) (j 2) (j 3)).symm.trans (congrArg G e).symm)

section
open Cert.StepReferenceIdeal.Read
variable (c : Dev nD)

theorem final5 : (dats m (ok m) 0 c).arrAt 5 (cfgM m (ok m)).N = val_main_v34 (F := Ideal) (m ((c : Thread nD τ).loc main_arg1)) (m ((c : Thread nD τ).loc main_arg2)) (m ((c : Thread nD τ).loc main_arg5)) := by
  refine (dats m (ok m) 0 c).arrAt_eq_of_coversWhere_of_agree 5 _ _ (covers_of _ _ (tbl_eq m)).1 (fun t hf y => ?_) (fun j hj => ?_)
  · refine (congrFun (after0_5 m (ok m) c t) _).trans (second _ (G := val_main_v34 (F := Ideal) (m ((c : Thread nD τ).loc main_arg1)) (m ((c : Thread nD τ).loc main_arg2)) (m ((c : Thread nD τ).loc main_arg5))) t.val (fun p l i k hl hi => ?_) y _ _
      (idx m t).2.2.2.2.2.1 fun a => Pipeline.Window.rect_emb_val ((cfgM m (ok m)).win 5) t y a rfl)
    refine (point5 m c t p l i k hl hi).trans (Eq.trans ?_ ((ref34 _ _ _ l 1 i k).trans (dif_neg (by decide))).symm)
    rw [V_main_arg1, V_main_arg2]
  · exact (congrFun (A_eq m (ok m) c 5) _).trans (kept _ _ (val_main_v34 (F := Ideal) (m ((c : Thread nD τ).loc main_arg1)) (m ((c : Thread nD τ).loc main_arg2)) (m ((c : Thread nD τ).loc main_arg5))) (entry5 m c) (fun l i k => (ref34 _ _ _ l 0 i k).trans (dif_pos (by decide))) j hj)

theorem final6 : (dats m (ok m) 0 c).arrAt 6 (cfgM m (ok m)).N = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m (ok m) 0 c).arrAt_eq_of_coversWhere_of_agree 6 _ _ (covers_of _ _ (tbl_eq m)).2.1 (fun t hf y => ?_) (fun j hj => ?_)
  · refine (congrFun (after0_6 m (ok m) c t) _).trans (second _ (G := val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6))) t.val (fun p l i k hl hi => ?_) y _ _
      (idx m t).2.2.2.2.2.2.1 fun a => Pipeline.Window.rect_emb_val ((cfgM m (ok m)).win 6) t y a rfl)
    refine (point6 m c t p l i k hl hi).trans (Eq.trans ?_ ((ref39 _ _ _ _ _ _ l 1 i k).trans (dif_neg (by decide))).symm)
    rw [V_main_arg1, V_main_arg2, entry0, entry1, entry2]
  · exact (congrFun (A_eq m (ok m) c 6) _).trans (kept _ _ (val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6))) (entry6 m c) (fun l i k => (ref39 _ _ _ _ _ _ l 0 i k).trans (dif_pos (by decide))) j hj)

theorem final7 : (dats m (ok m) 0 c).arrAt 7 (cfgM m (ok m)).N = val_main_v44 (F := Ideal) (m ((c : Thread nD τ).loc main_arg1)) (m ((c : Thread nD τ).loc main_arg2)) (m ((c : Thread nD τ).loc main_arg3)) (m ((c : Thread nD τ).loc main_arg7)) := by
  refine (dats m (ok m) 0 c).arrAt_eq_of_coversWhere_of_agree 7 _ _ (covers_of _ _ (tbl_eq m)).2.2.1 (fun t hf y => ?_) (fun j hj => ?_)
  · refine (congrFun (after0_7 m (ok m) c t) _).trans (second _ (G := val_main_v44 (F := Ideal) (m ((c : Thread nD τ).loc main_arg1)) (m ((c : Thread nD τ).loc main_arg2)) (m ((c : Thread nD τ).loc main_arg3)) (m ((c : Thread nD τ).loc main_arg7))) t.val (fun p l i k hl hi => ?_) y _ _
      (idx m t).2.2.2.2.2.2.2.1 fun a => Pipeline.Window.rect_emb_val ((cfgM m (ok m)).win 7) t y a rfl)
    refine (point7 m c t p l i k hl hi).trans (Eq.trans ?_ ((ref44 _ _ _ _ l 1 i k).trans (dif_neg (by decide))).symm)
    rw [V_main_arg1, V_main_arg2, entry1]
  · exact (congrFun (A_eq m (ok m) c 7) _).trans (kept _ _ (val_main_v44 (F := Ideal) (m ((c : Thread nD τ).loc main_arg1)) (m ((c : Thread nD τ).loc main_arg2)) (m ((c : Thread nD τ).loc main_arg3)) (m ((c : Thread nD τ).loc main_arg7))) (entry7 m c) (fun l i k => (ref44 _ _ _ _ l 0 i k).trans (dif_pos (by decide))) j hj)

theorem final8 : (dats m (ok m) 0 c).arrAt 8 (cfgM m (ok m)).N = val_main_v49 (F := Ideal) (m ((c : Thread nD τ).loc main_arg1)) (m ((c : Thread nD τ).loc main_arg2)) (m ((c : Thread nD τ).loc main_arg4)) (m ((c : Thread nD τ).loc main_arg8)) := by
  refine (dats m (ok m) 0 c).arrAt_eq_of_coversWhere_of_agree 8 _ _ (covers_of _ _ (tbl_eq m)).2.2.2 (fun t hf y => ?_) (fun j hj => ?_)
  · refine (congrFun (after0_8 m (ok m) c t) _).trans (second _ (G := val_main_v49 (F := Ideal) (m ((c : Thread nD τ).loc main_arg1)) (m ((c : Thread nD τ).loc main_arg2)) (m ((c : Thread nD τ).loc main_arg4)) (m ((c : Thread nD τ).loc main_arg8))) t.val (fun p l i k hl hi => ?_) y _ _
      (idx m t).2.2.2.2.2.2.2.2.1 fun a => Pipeline.Window.rect_emb_val ((cfgM m (ok m)).win 8) t y a rfl)
    refine (point8 m c t p l i k hl hi).trans (Eq.trans ?_ ((ref49 _ _ _ _ l 1 i k).trans (dif_neg (by decide))).symm)
    rw [V_main_arg1, V_main_arg2, entry2]
  · exact (congrFun (A_eq m (ok m) c 8) _).trans (kept _ _ (val_main_v49 (F := Ideal) (m ((c : Thread nD τ).loc main_arg1)) (m ((c : Thread nD τ).loc main_arg2)) (m ((c : Thread nD τ).loc main_arg4)) (m ((c : Thread nD τ).loc main_arg8))) (entry8 m c) (fun l i k => (ref49 _ _ _ _ l 0 i k).trans (dif_pos (by decide))) j hj)

/-- The run with the results named and the arguments as they were. -/
theorem run (ρ : Dev nD → PrngReg) : θ_run defs (onTc (τ := τ) (main (F := Ideal))) ⟨m, fun _ => 0, ρ⟩ (fun r => ∀ c : Dev nD,
      r.2.mem ((c.tc : Thread nD τ).loc main_v4_0) = val_main_v34 (F := Ideal) (m ((c : Thread nD τ).loc main_arg1)) (m ((c : Thread nD τ).loc main_arg2)) (m ((c : Thread nD τ).loc main_arg5))
      ∧ r.2.mem ((c.tc : Thread nD τ).loc main_v4_1) = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6))
      ∧ r.2.mem ((c.tc : Thread nD τ).loc main_v4_2) = val_main_v44 (F := Ideal) (m ((c : Thread nD τ).loc main_arg1)) (m ((c : Thread nD τ).loc main_arg2)) (m ((c : Thread nD τ).loc main_arg3)) (m ((c : Thread nD τ).loc main_arg7))
      ∧ r.2.mem ((c.tc : Thread nD τ).loc main_v4_3) = val_main_v49 (F := Ideal) (m ((c : Thread nD τ).loc main_arg1)) (m ((c : Thread nD τ).loc main_arg2)) (m ((c : Thread nD τ).loc main_arg4)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h.1 c).1 5).trans (final5 m c), ((h.1 c).1 6).trans (final6 m c), ((h.1 c).1 7).trans (final7 m c),
      ((h.1 c).1 8).trans (final8 m c), h.2 c⟩)
    (θ_run_and (run_main m ρ (ok m)) (unchanged m ρ (ok m)))
end

end Cert.StepKernelIdeal.Value
end
-- ==== Proof.StepClaim.lean ====
module
public import proofs.«01_k».proof.Defs
public import proofs.«01_k».proof.Proof.Gen.StepKernel
public import proofs.«01_k».proof.Proof.Gen.StepKernelIdeal
public import proofs.«01_k».proof.Proof.Gen.StepReferenceIdeal
public import proofs.«01_k».proof.Proof.Gen.StepReferenceIdeal.Run
public import proofs.«01_k».proof.Proof.Gen.StepReferenceIdeal.Read
public import proofs.«01_k».proof.Proof.StepValue
@[expose] public section
/-! The five claims of the optimiser's step of the second half. -/
set_option maxRecDepth 16384
noncomputable section
open Idealize.ShloMosaic Idealize.ShloMosaic.TcCoe Idealize.SL.Sem
namespace Cert.Step

theorem frame : Cert.quiescent_StepKernel := by
  intro m ρ _
  refine cast ?_ (Cert.StepKernelIdeal.Gen.frame (F := Bits) m ρ (Cert.StepKernelIdeal.Value.ok m))
  sl_kernel_rfl

theorem frameIdeal : Cert.quiescent_StepKernelIdeal := fun m ρ _ => Cert.StepKernelIdeal.Gen.frame m ρ (Cert.StepKernelIdeal.Value.ok m)

theorem frameRef : Cert.quiescent_StepReferenceIdeal := by
  intro m g _
  exact (θ_run _ _ _).mono (fun r h => ⟨fun c => (h c).2.2.2.2,
    sem_eq_zero_of_no_sems (sig := Cert.StepReferenceIdeal.sig) rfl r.2⟩) (Cert.StepReferenceIdeal.Value.run m g)

theorem algebraic : Cert.algebraic_StepKernelIdeal_StepReferenceIdeal := by
  intro m ρ m' ρ' _ hagree
  refine ⟨_, _, _, _, Cert.StepKernelIdeal.Value.run m ρ, ?_⟩
  refine (θ_run Cert.StepReferenceIdeal.defs _ _).mono (fun _ h c => ⟨?_, ?_, ?_, ?_, (h c).2.2.2.2⟩) (Cert.StepReferenceIdeal.Value.run (F := Ideal) m' ρ')
  · rw [(h c).1]
    refine (Cert.StepReferenceIdeal.Read.val_main_v34_eq ..).trans ?_
    simp only [hagree c]
  · rw [(h c).2.1]
    refine (Cert.StepReferenceIdeal.Read.val_main_v39_eq ..).trans ?_
    simp only [hagree c]
  · rw [(h c).2.2.1]
    refine (Cert.StepReferenceIdeal.Read.val_main_v44_eq ..).trans ?_
    simp only [hagree c]
  · rw [(h c).2.2.2.1]
    refine (Cert.StepReferenceIdeal.Read.val_main_v49_eq ..).trans ?_
    simp only [hagree c]

end Cert.Step
end
-- ==== Proof.lean ====
module

public import proofs.«01_k».proof.Defs
public import proofs.«01_k».proof.Proof.Gen.CpKernel
public import proofs.«01_k».proof.Proof.Gen.CpKernelIdeal
public import proofs.«01_k».proof.Proof.Gen.CpKernelIdeal.Value
public import proofs.«01_k».proof.Proof.Gen.CpReferenceIdeal
public import proofs.«01_k».proof.Proof.Gen.CpReferenceIdeal.Run
public import proofs.«01_k».proof.Proof.Gen.CpReferenceIdeal.Read
public import proofs.«01_k».proof.Proof.CpClaim
public import proofs.«01_k».proof.Proof.Gen.LossKernel
public import proofs.«01_k».proof.Proof.Gen.LossKernelIdeal
public import proofs.«01_k».proof.Proof.Gen.LossKernelIdeal.Value
public import proofs.«01_k».proof.Proof.Gen.LossReferenceIdeal
public import proofs.«01_k».proof.Proof.Gen.LossReferenceIdeal.Run
public import proofs.«01_k».proof.Proof.Gen.LossReferenceIdeal.Read
public import proofs.«01_k».proof.Proof.LossClaim
public import proofs.«01_k».proof.Proof.Gen.NormKernel
public import proofs.«01_k».proof.Proof.Gen.NormKernelIdeal
public import proofs.«01_k».proof.Proof.Gen.NormKernelIdeal.Value
public import proofs.«01_k».proof.Proof.Gen.NormReferenceIdeal
public import proofs.«01_k».proof.Proof.Gen.NormReferenceIdeal.Run
public import proofs.«01_k».proof.Proof.Gen.NormReferenceIdeal.Read
public import proofs.«01_k».proof.Proof.NormClaim
public import proofs.«01_k».proof.Proof.Gen.FfnKernel
public import proofs.«01_k».proof.Proof.Gen.FfnKernelIdeal
public import proofs.«01_k».proof.Proof.Gen.FfnKernelIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.FfnClaim
public import proofs.«01_k».proof.Proof.Gen.HeadKernel
public import proofs.«01_k».proof.Proof.Gen.HeadKernelIdeal
public import proofs.«01_k».proof.Proof.Gen.HeadKernelIdeal.Value
public import proofs.«01_k».proof.Proof.Gen.HeadReferenceIdeal
public import proofs.«01_k».proof.Proof.Gen.HeadReferenceIdeal.Run
public import proofs.«01_k».proof.Proof.Gen.HeadReferenceIdeal.Read
public import proofs.«01_k».proof.Proof.HeadClaim
public import proofs.«01_k».proof.Proof.Gen.RestKernel
public import proofs.«01_k».proof.Proof.Gen.RestKernelIdeal
public import proofs.«01_k».proof.Proof.Gen.RestKernelIdeal.Value
public import proofs.«01_k».proof.Proof.Gen.RestReferenceIdeal
public import proofs.«01_k».proof.Proof.Gen.RestReferenceIdeal.Run
public import proofs.«01_k».proof.Proof.Gen.RestReferenceIdeal.Read
public import proofs.«01_k».proof.Proof.RestClaim
public import proofs.«01_k».proof.Proof.Gen.WgradKernel
public import proofs.«01_k».proof.Proof.Gen.WgradKernelIdeal
public import proofs.«01_k».proof.Proof.Gen.WgradKernelIdeal.Value
public import proofs.«01_k».proof.Proof.Gen.WgradReferenceIdeal
public import proofs.«01_k».proof.Proof.Gen.WgradReferenceIdeal.Run
public import proofs.«01_k».proof.Proof.Gen.WgradReferenceIdeal.Read
public import proofs.«01_k».proof.Proof.WgradClaim
public import proofs.«01_k».proof.Proof.Gen.GlafKernel
public import proofs.«01_k».proof.Proof.Gen.GlafKernelIdeal
public import proofs.«01_k».proof.Proof.Gen.GlafReferenceIdeal
public import proofs.«01_k».proof.Proof.Gen.GlafReferenceIdeal.Run
public import proofs.«01_k».proof.Proof.GlafClaim
public import proofs.«01_k».proof.Proof.Gen.CpfKernel
public import proofs.«01_k».proof.Proof.Gen.CpfKernelIdeal
public import proofs.«01_k».proof.Proof.Gen.CpfKernelIdeal.Value
public import proofs.«01_k».proof.Proof.Gen.CpfReferenceIdeal
public import proofs.«01_k».proof.Proof.Gen.CpfReferenceIdeal.Run
public import proofs.«01_k».proof.Proof.Gen.CpfReferenceIdeal.Read
public import proofs.«01_k».proof.Proof.CpfClaim
public import proofs.«01_k».proof.Proof.Gen.NmKernel
public import proofs.«01_k».proof.Proof.Gen.NmKernelIdeal
public import proofs.«01_k».proof.Proof.Gen.NmKernelIdeal.Value
public import proofs.«01_k».proof.Proof.Gen.NmReferenceIdeal
public import proofs.«01_k».proof.Proof.Gen.NmReferenceIdeal.Run
public import proofs.«01_k».proof.Proof.Gen.NmReferenceIdeal.Read
public import proofs.«01_k».proof.Proof.NmClaim
public import proofs.«01_k».proof.Proof.Gen.NcKernel
public import proofs.«01_k».proof.Proof.Gen.NcKernelIdeal
public import proofs.«01_k».proof.Proof.Gen.NcKernelIdeal.Value
public import proofs.«01_k».proof.Proof.Gen.NcReferenceIdeal
public import proofs.«01_k».proof.Proof.Gen.NcReferenceIdeal.Run
public import proofs.«01_k».proof.Proof.Gen.NcReferenceIdeal.Read
public import proofs.«01_k».proof.Proof.NcClaim
public import proofs.«01_k».proof.Proof.Gen.FfKernel
public import proofs.«01_k».proof.Proof.Gen.FfKernelIdeal
public import proofs.«01_k».proof.Proof.Gen.FfKernelIdeal.Value
public import proofs.«01_k».proof.Proof.Gen.FfReferenceIdeal
public import proofs.«01_k».proof.Proof.Gen.FfReferenceIdeal.Run
public import proofs.«01_k».proof.Proof.Gen.FfReferenceIdeal.Read
public import proofs.«01_k».proof.Proof.FfClaim
public import proofs.«01_k».proof.Proof.Gen.OutKernel
public import proofs.«01_k».proof.Proof.Gen.OutKernelIdeal
public import proofs.«01_k».proof.Proof.Gen.OutKernelIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.OutClaim
public import proofs.«01_k».proof.Proof.Gen.WplainKernel
public import proofs.«01_k».proof.Proof.Gen.WplainKernelIdeal
public import proofs.«01_k».proof.Proof.Gen.WplainKernelIdeal.Value
public import proofs.«01_k».proof.Proof.Gen.WplainReferenceIdeal
public import proofs.«01_k».proof.Proof.Gen.WplainReferenceIdeal.Run
public import proofs.«01_k».proof.Proof.Gen.WplainReferenceIdeal.Read
public import proofs.«01_k».proof.Proof.WplainClaim
public import proofs.«01_k».proof.Proof.Gen.SlotsKernel
public import proofs.«01_k».proof.Proof.Gen.SlotsKernelIdeal
public import proofs.«01_k».proof.Proof.Gen.SlotsKernelIdeal.Value
public import proofs.«01_k».proof.Proof.Gen.SlotsReferenceIdeal
public import proofs.«01_k».proof.Proof.Gen.SlotsReferenceIdeal.Run
public import proofs.«01_k».proof.Proof.Gen.SlotsReferenceIdeal.Read
public import proofs.«01_k».proof.Proof.SlotsClaim
public import proofs.«01_k».proof.Proof.Gen.TwoKernel
public import proofs.«01_k».proof.Proof.Gen.TwoKernelIdeal
public import proofs.«01_k».proof.Proof.Gen.TwoKernelIdeal.Value
public import proofs.«01_k».proof.Proof.Gen.TwoReferenceIdeal
public import proofs.«01_k».proof.Proof.Gen.TwoReferenceIdeal.Run
public import proofs.«01_k».proof.Proof.Gen.TwoReferenceIdeal.Read
public import proofs.«01_k».proof.Proof.TwoClaim
public import proofs.«01_k».proof.Proof.Gen.SmallKernel
public import proofs.«01_k».proof.Proof.Gen.SmallKernelIdeal
public import proofs.«01_k».proof.Proof.Gen.SmallKernelIdeal.Value
public import proofs.«01_k».proof.Proof.Gen.SmallReferenceIdeal
public import proofs.«01_k».proof.Proof.Gen.SmallReferenceIdeal.Run
public import proofs.«01_k».proof.Proof.Gen.SmallReferenceIdeal.Read
public import proofs.«01_k».proof.Proof.SmallClaim
public import proofs.«01_k».proof.Proof.Gen.OwnKernel
public import proofs.«01_k».proof.Proof.Gen.OwnKernelIdeal
public import proofs.«01_k».proof.Proof.Gen.OwnReferenceIdeal
public import proofs.«01_k».proof.Proof.Gen.OwnReferenceIdeal.Run
public import proofs.«01_k».proof.Proof.Gen.OwnReferenceIdeal.Read
public import proofs.«01_k».proof.Proof.OwnClaim
public import proofs.«01_k».proof.Proof.Gen.StepKernel
public import proofs.«01_k».proof.Proof.Gen.StepKernelIdeal
public import proofs.«01_k».proof.Proof.Gen.StepReferenceIdeal
public import proofs.«01_k».proof.Proof.Gen.StepReferenceIdeal.Run
public import proofs.«01_k».proof.Proof.Gen.StepReferenceIdeal.Read
public import proofs.«01_k».proof.Proof.StepClaim
public import proofs.«01_k».proof.Proof.Gen.Pre_finite_cp
public import proofs.«01_k».proof.Proof.Gen.Pre_finite_cpf
public import Idealize.ShloMosaic.Adequacy
public import Idealize.ShloMosaic.Init

@[expose] public section

noncomputable section

namespace Cert.Proof

open Idealize.ShloMosaic Idealize.SL.Sem

theorem claim : Cert.Claim :=
  ⟨Cert.CpKernel.Gen.facts, Cert.CpKernelIdeal.Gen.facts, Cert.CpReferenceIdeal.Gen.facts,
    Cert.LossKernel.Gen.facts, Cert.LossKernelIdeal.Gen.facts, Cert.LossReferenceIdeal.Gen.facts,
    Cert.NormKernel.Gen.facts, Cert.NormKernelIdeal.Gen.facts, Cert.NormReferenceIdeal.Gen.facts,
    Cert.FfnKernel.Gen.facts, Cert.FfnKernelIdeal.Gen.facts, Cert.FfnReferenceIdeal.Gen.facts,
    Cert.HeadKernel.Gen.facts, Cert.HeadKernelIdeal.Gen.facts, Cert.HeadReferenceIdeal.Gen.facts,
    Cert.RestKernel.Gen.facts, Cert.RestKernelIdeal.Gen.facts, Cert.RestReferenceIdeal.Gen.facts,
    Cert.WgradKernel.Gen.facts, Cert.WgradKernelIdeal.Gen.facts, Cert.WgradReferenceIdeal.Gen.facts,
    Cert.GlafKernel.Gen.facts, Cert.GlafKernelIdeal.Gen.facts, Cert.GlafReferenceIdeal.Gen.facts,
    Cert.CpfKernel.Gen.facts, Cert.CpfKernelIdeal.Gen.facts, Cert.CpfReferenceIdeal.Gen.facts,
    Cert.NmKernel.Gen.facts, Cert.NmKernelIdeal.Gen.facts, Cert.NmReferenceIdeal.Gen.facts,
    Cert.NcKernel.Gen.facts, Cert.NcKernelIdeal.Gen.facts, Cert.NcReferenceIdeal.Gen.facts,
    Cert.FfKernel.Gen.facts, Cert.FfKernelIdeal.Gen.facts, Cert.FfReferenceIdeal.Gen.facts,
    Cert.OutKernel.Gen.facts, Cert.OutKernelIdeal.Gen.facts, Cert.OutReferenceIdeal.Gen.facts,
    Cert.WplainKernel.Gen.facts, Cert.WplainKernelIdeal.Gen.facts, Cert.WplainReferenceIdeal.Gen.facts,
    Cert.SlotsKernel.Gen.facts, Cert.SlotsKernelIdeal.Gen.facts, Cert.SlotsReferenceIdeal.Gen.facts,
    Cert.TwoKernel.Gen.facts, Cert.TwoKernelIdeal.Gen.facts, Cert.TwoReferenceIdeal.Gen.facts,
    Cert.SmallKernel.Gen.facts, Cert.SmallKernelIdeal.Gen.facts, Cert.SmallReferenceIdeal.Gen.facts,
    Cert.OwnKernel.Gen.facts, Cert.OwnKernelIdeal.Gen.facts, Cert.OwnReferenceIdeal.Gen.facts,
    Cert.StepKernel.Gen.facts, Cert.StepKernelIdeal.Gen.facts, Cert.StepReferenceIdeal.Gen.facts,
    Cert.Pre_finite_cp.Gen.facts,
    Cert.Pre_finite_cpf.Gen.facts,
    Cert.Cp.frame, Cert.Cp.frameIdeal, Cert.Cp.frameIdealPre, Cert.Cp.frameRef, Cert.Cp.frameRefPre,
    Cert.Loss.frame, Cert.Loss.frameIdeal, Cert.Loss.frameRef,
    Cert.Norm.frame, Cert.Norm.frameIdeal, Cert.Norm.frameRef,
    Cert.Ffn.frame, Cert.Ffn.frameIdeal, Cert.Ffn.frameRef,
    Cert.Head.frame, Cert.Head.frameIdeal, Cert.Head.frameRef,
    Cert.Rest.frame, Cert.Rest.frameIdeal, Cert.Rest.frameRef,
    Cert.Wgrad.frame, Cert.Wgrad.frameIdeal, Cert.Wgrad.frameRef,
    Cert.Glaf.frame, Cert.Glaf.frameIdeal, Cert.Glaf.frameRef,
    Cert.Cpf.frame, Cert.Cpf.frameIdeal, Cert.Cpf.frameIdealPre, Cert.Cpf.frameRef, Cert.Cpf.frameRefPre,
    Cert.Nm.frame, Cert.Nm.frameIdeal, Cert.Nm.frameRef,
    Cert.Nc.frame, Cert.Nc.frameIdeal, Cert.Nc.frameRef,
    Cert.Ff.frame, Cert.Ff.frameIdeal, Cert.Ff.frameRef,
    Cert.Out.frame, Cert.Out.frameIdeal, Cert.Out.frameRef,
    Cert.Wplain.frame, Cert.Wplain.frameIdeal, Cert.Wplain.frameRef,
    Cert.Slots.frame, Cert.Slots.frameIdeal, Cert.Slots.frameRef,
    Cert.Two.frame, Cert.Two.frameIdeal, Cert.Two.frameRef,
    Cert.Small.frame, Cert.Small.frameIdeal, Cert.Small.frameRef,
    Cert.Own.frame, Cert.Own.frameIdeal, Cert.Own.frameRef,
    Cert.Step.frame, Cert.Step.frameIdeal, Cert.Step.frameRef,
    trivial, Cert.Cp.algebraic,
    trivial, Cert.Loss.algebraic,
    trivial, Cert.Norm.algebraic,
    trivial, Cert.Ffn.algebraic,
    trivial, Cert.Head.algebraic,
    trivial, Cert.Rest.algebraic,
    trivial, Cert.Wgrad.algebraic,
    trivial,
    trivial, Cert.Cpf.algebraic,
    trivial, Cert.Nm.algebraic,
    trivial, Cert.Nc.algebraic,
    trivial, Cert.Ff.algebraic,
    trivial, Cert.Out.algebraic,
    trivial, Cert.Wplain.algebraic,
    trivial, Cert.Slots.algebraic,
    trivial, Cert.Two.algebraic,
    trivial, Cert.Small.algebraic,
    trivial, Cert.Own.algebraic,
    trivial, Cert.Step.algebraic⟩

end Cert.Proof

end
